-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_float32_amax [hPre_float32_amax : Cert.Pre_float32_amax.Facts] (m : (ℓ : Loc Cert.KernelIdeal.nD Cert.KernelIdeal.τ Cert.KernelIdeal.sig) → Buf (Elt Ideal) ℓ) : Prop :=
  ∀ c : Dev Cert.KernelIdeal.nD,
    (Cert.Pre_float32_amax.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_float32_amax [hPre_float32_amax : Cert.Pre_float32_amax.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_float32_amax.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_float32_amax [hKernelIdeal : Cert.KernelIdeal.Facts] [hPre_float32_amax : Cert.Pre_float32_amax.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_float32_amax m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_float32_amax [hReferenceIdeal : Cert.ReferenceIdeal.Facts] [hPre_float32_amax : Cert.Pre_float32_amax.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_float32_amax m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_float32_amax [hKernelIdeal : Cert.KernelIdeal.Facts] [hReferenceIdeal : Cert.ReferenceIdeal.Facts] [hPre_float32_amax : Cert.Pre_float32_amax.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_float32_amax m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47_0) = v0 c
          ∧ r.2.mem ((c.tc : Thread Cert.ReferenceIdeal.nD Cert.ReferenceIdeal.τ).loc Cert.ReferenceIdeal.main_v47_1) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v47_2) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_float32_amax : Cert.Pre_float32_amax.Facts),
    quiescent_Kernel (hKernel := hKernel)
    ∧ quiescent_KernelIdeal (hKernelIdeal := hKernelIdeal)
    ∧ quiescent_KernelIdeal_pre_float32_amax (hKernelIdeal := hKernelIdeal) (hPre_float32_amax := hPre_float32_amax)
    ∧ quiescent_ReferenceIdeal (hReferenceIdeal := hReferenceIdeal)
    ∧ quiescent_ReferenceIdeal_pre_float32_amax (hReferenceIdeal := hReferenceIdeal) (hPre_float32_amax := hPre_float32_amax)
    ∧ preserves_Kernel_KernelIdeal
    ∧ algebraic_KernelIdeal_ReferenceIdeal_pre_float32_amax (hKernelIdeal := hKernelIdeal) (hReferenceIdeal := hReferenceIdeal) (hPre_float32_amax := hPre_float32_amax)
-- ==== Pre_float32_amax.lean ====
abbrev S2x128x18432 : Shape := ⟨3, ![2, 128, 18432]⟩
abbrev S7168x18432 : Shape := ⟨2, ![7168, 18432]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2x128x18432 .bf16) (main_arg1 : FVec F S7168x18432 .bf16) (main_arg2 : FVec F S1 .f32) (main_arg3 : FVec F S1 .f32) : IVec S1 1 :=
  let main_v0 : FVec F S1 .f32 := Host.absf main_arg2
  let main_cst : FVec F S_ .f32 := constant S_ .f32 0x7F7FFFFF#32
  let main_v1 : FVec F S1 .f32 := broadcastInDim S1 ![] bcast_S_S1 main_cst
  let main_v2 : IVec S1 1 := cmpf .ole main_v0 main_v1
  let main_v3 : FVec F S1 .f32 := Host.absf main_arg2
  let main_cst_0 : FVec F S_ .f32 := constant S_ .f32 0x7F800000#32
  let main_v4 : FVec F S1 .f32 := broadcastInDim S1 ![] bcast_S_S1 main_cst_0
  let main_v5 : IVec S1 1 := cmpf .oeq main_v3 main_v4
  let main_v6 : IVec S1 1 := ori main_v2 main_v5
  let main_v7 : FVec F S1 .f32 := Host.absf main_arg3
  let main_cst_1 : FVec F S_ .f32 := constant S_ .f32 0x7F7FFFFF#32
  let main_v8 : FVec F S1 .f32 := broadcastInDim S1 ![] bcast_S_S1 main_cst_1
  let main_v9 : IVec S1 1 := cmpf .ole main_v7 main_v8
  let main_v10 : FVec F S1 .f32 := Host.absf main_arg3
  let main_cst_2 : FVec F S_ .f32 := constant S_ .f32 0x7F800000#32
  let main_v11 : FVec F S1 .f32 := broadcastInDim S1 ![] bcast_S_S1 main_cst_2
  let main_v12 : IVec S1 1 := cmpf .oeq main_v10 main_v11
  let main_v13 : IVec S1 1 := ori main_v9 main_v12
  let main_v14 : IVec S1 1 := andi main_v6 main_v13
  main_v14
-- ==== Kernel.lean ====
abbrev S2x128x18432 : Shape := ⟨3, ![2, 128, 18432]⟩
abbrev S7168x18432 : Shape := ⟨2, ![7168, 18432]⟩
abbrev S1 : Shape := ⟨1, ![1]⟩
abbrev S256x18432 : Shape := ⟨2, ![256, 18432]⟩
abbrev S256x7168 : Shape := ⟨2, ![256, 7168]⟩
abbrev S8x256x4608 : Shape := ⟨3, ![8, 256, 4608]⟩
abbrev S4x256x4608 : Shape := ⟨3, ![4, 256, 4608]⟩
abbrev S256x256 : Shape := ⟨2, ![256, 256]⟩
abbrev S2x256x256 : Shape := ⟨3, ![2, 256, 256]⟩
abbrev S16x512 : Shape := ⟨2, ![16, 512]⟩
abbrev S8 : Shape := ⟨1, ![8]⟩
abbrev S4 : Shape := ⟨1, ![4]⟩
abbrev S2 : Shape := ⟨1, ![2]⟩
abbrev S_ : Shape := ⟨0, ![]⟩
abbrev S1x256x4608 : Shape := ⟨3, ![1, 256, 4608]⟩
abbrev S256x4608 : Shape := ⟨2, ![256, 4608]⟩
abbrev S1x256x512 : Shape := ⟨3, ![1, 256, 512]⟩
abbrev S256x512 : Shape := ⟨2, ![256, 512]⟩
abbrev S1x16x512 : Shape := ⟨3, ![1, 16, 512]⟩
abbrev S1x1x1 : Shape := ⟨3, ![1, 1, 1]⟩
abbrev S1x256x256 : Shape := ⟨3, ![1, 256, 256]⟩

abbrev nBuf : Space → Nat
  | .hbm => 12
  | .vmem => 6
  | .smem => 6
  | _ => 0

abbrev bufTy : (tb : Table) → Fin (tcTables nBuf tb) → BufTy
  | .hbm, ⟨0, _⟩ => ⟨S2x128x18432, .bf16⟩
  | .hbm, ⟨1, _⟩ => ⟨S7168x18432, .bf16⟩
  | .hbm, ⟨2, _⟩ => ⟨S1, .f32⟩
  | .hbm, ⟨3, _⟩ => ⟨S1, .f32⟩
  | .hbm, ⟨4, _⟩ => ⟨S256x18432, .bf16⟩
  | .hbm, ⟨5, _⟩ => ⟨S256x7168, .bf16⟩
  | .hbm, ⟨6, _⟩ => ⟨S256x18432, .fp8e4m3⟩
  | .hbm, ⟨7, _⟩ => ⟨S1, .f32⟩
  | .hbm, ⟨8, _⟩ => ⟨S7168x18432, .fp8e4m3⟩
  | .hbm, ⟨9, _⟩ => ⟨S1, .f32⟩
  | .hbm, ⟨10, _⟩ => ⟨S1, .f32⟩
  | .hbm, ⟨11, _⟩ => ⟨S1, .f32⟩
  | .local _ .vmem, ⟨0, _⟩ => ⟨S8x256x4608, .bf16⟩
  | .local _ .vmem, ⟨1, _⟩ => ⟨S4x256x4608, .fp8e4m3⟩
  | .local _ .vmem, ⟨2, _⟩ => ⟨S4x256x4608, .fp8e4m3⟩
  | .local _ .vmem, ⟨3, _⟩ => ⟨S256x256, .f32⟩
  | .local _ .vmem, ⟨4, _⟩ => ⟨S2x256x256, .bf16⟩
  | .local _ .vmem, ⟨5, _⟩ => ⟨S16x512, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | _, _ => ⟨S2x128x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c1_i32_443 : BitVec 32 := 1#32
  let c28_i32 : BitVec 32 := 28#32
  let v1972 : BitVec 32 := Scalar.addi c1_i32_443 c28_i32
  let c1_i32_444 : BitVec 32 := 1#32
  ⟨c1_i32_443, v1972, c1_i32_444⟩
def k0_off1 (k0_t1 : Fin k0_t1_loop.trips) (c0_i32_515 : BitVec 32) : Fin 1 → Nat :=
  let c1_i32_443 : BitVec 32 := 1#32
  let c1_i32_444 : BitVec 32 := 1#32
  let arg21 : BitVec 32 := Scf.iv c1_i32_443 c1_i32_444 k0_t1
  let c2_i32_508 : BitVec 32 := 2#32
  let c0_i32_509 : BitVec 32 := 0#32
  let v2030 : BitVec 1 := Scalar.cmpi .eq c2_i32_508 c0_i32_509
  let c1_i32_510 : BitVec 32 := 1#32
  let v2031 : BitVec 32 := Scalar.select v2030 c1_i32_510 c2_i32_508
  let v2032 : BitVec 32 := Scalar.remsi arg21 v2031
  let c0_i32_512 : BitVec 32 := 0#32
  let v2034 : BitVec 1 := Scalar.cmpi .slt v2032 c0_i32_512
  let c0_i32_513 : BitVec 32 := 0#32
  let v2035 : BitVec 1 := Scalar.cmpi .slt v2031 c0_i32_513
  let v2036 : BitVec 1 := Scalar.xori v2034 v2035
  let c0_i32_511 : BitVec 32 := 0#32
  let v2033 : BitVec 1 := Scalar.cmpi .ne v2032 c0_i32_511
  let v2037 : BitVec 1 := Scalar.andi v2036 v2033
  let v2038 : BitVec 32 := Scalar.addi v2032 v2031
  let v2039 : BitVec 32 := Scalar.select v2037 v2038 v2032
  let c4_i32_514 : BitVec 32 := 4#32
  let v2040 : BitVec 32 := Scalar.muli v2039 c4_i32_514
  let v2041 : BitVec 32 := Scalar.addi v2040 c0_i32_515
  ![v2041.toNat]
def k0_off2 (k0_t1 : Fin k0_t1_loop.trips) (c0_i32_515 : BitVec 32) : Fin 3 → Nat :=
  let c1_i32_443 : BitVec 32 := 1#32
  let c1_i32_444 : BitVec 32 := 1#32
  let arg21 : BitVec 32 := Scf.iv c1_i32_443 c1_i32_444 k0_t1
  let c2_i32_508 : BitVec 32 := 2#32
  let c0_i32_509 : BitVec 32 := 0#32
  let v2030 : BitVec 1 := Scalar.cmpi .eq c2_i32_508 c0_i32_509
  let c1_i32_510 : BitVec 32 := 1#32
  let v2031 : BitVec 32 := Scalar.select v2030 c1_i32_510 c2_i32_508
  let v2032 : BitVec 32 := Scalar.remsi arg21 v2031
  let c0_i32_512 : BitVec 32 := 0#32
  let v2034 : BitVec 1 := Scalar.cmpi .slt v2032 c0_i32_512
  let c0_i32_513 : BitVec 32 := 0#32
  let v2035 : BitVec 1 := Scalar.cmpi .slt v2031 c0_i32_513
  let v2036 : BitVec 1 := Scalar.xori v2034 v2035
  let c0_i32_511 : BitVec 32 := 0#32
  let v2033 : BitVec 1 := Scalar.cmpi .ne v2032 c0_i32_511
  let v2037 : BitVec 1 := Scalar.andi v2036 v2033
  let v2038 : BitVec 32 := Scalar.addi v2032 v2031
  let v2039 : BitVec 32 := Scalar.select v2037 v2038 v2032
  let c4_i32_514 : BitVec 32 := 4#32
  let v2040 : BitVec 32 := Scalar.muli v2039 c4_i32_514
  let v2041 : BitVec 32 := Scalar.addi v2040 c0_i32_515
  let c0_i32_518 : BitVec 32 := 0#32
  let c0_i32_519 : BitVec 32 := 0#32
  ![v2041.toNat, 0, 0]
def k0_off3 (k0_t1 : Fin k0_t1_loop.trips) : Fin 2 → Nat :=
  let c1_i32_443 : BitVec 32 := 1#32
  let c1_i32_444 : BitVec 32 := 1#32
  let arg21 : BitVec 32 := Scf.iv c1_i32_443 c1_i32_444 k0_t1
  let c1_i32_516 : BitVec 32 := 1#32
  let v2042 : BitVec 32 := Scalar.subi arg21 c1_i32_516
  let c256_i32_517 : BitVec 32 := 256#32
  let v2043 : BitVec 32 := Scalar.muli v2042 c256_i32_517
  let c0_i32_520 : BitVec 32 := 0#32
  ![v2043.toNat, 0]
def k0_cond1 (k0_t1 : Fin k0_t1_loop.trips) : BitVec 1 :=
  let c1_i32_443 : BitVec 32 := 1#32
  let c1_i32_444 : BitVec 32 := 1#32
  let arg21 : BitVec 32 := Scf.iv c1_i32_443 c1_i32_444 k0_t1
  let c1_i32_521 : BitVec 32 := 1#32
  let v2049 : BitVec 1 := Scalar.cmpi .sgt arg21 c1_i32_521
  let v2050 : BitVec 32 := Scalar.extui v2049
  let c0_i32_522 : BitVec 32 := 0#32
  let v2051 : BitVec 1 := Scalar.cmpi .ne v2050 c0_i32_522
  v2051

def k0_off4 (k0_t1 : Fin k0_t1_loop.trips) : Fin 2 → Nat :=
  let c1_i32_443 : BitVec 32 := 1#32
  let c1_i32_444 : BitVec 32 := 1#32
  let arg21 : BitVec 32 := Scf.iv c1_i32_443 c1_i32_444 k0_t1
  let c1_i32_1085 : BitVec 32 := 1#32
  let v4182 : BitVec 32 := Scalar.subi arg21 c1_i32_1085
  let c1_i32_1086 : BitVec 32 := 1#32
  let v4183 : BitVec 32 := Scalar.subi v4182 c1_i32_1086
  let c256_i32_1087 : BitVec 32 := 256#32
  let v4184 : BitVec 32 := Scalar.muli v4183 c256_i32_1087
  let c0_i32_1090 : BitVec 32 := 0#32
  ![v4184.toNat, 0]
def k0_off5 (k0_t1 : Fin k0_t1_loop.trips) (c0_i32_530 : BitVec 32) : Fin 3 → Nat :=
  let c1_i32_443 : BitVec 32 := 1#32
  let c1_i32_444 : BitVec 32 := 1#32
  let arg21 : BitVec 32 := Scf.iv c1_i32_443 c1_i32_444 k0_t1
  let c2_i32_523 : BitVec 32 := 2#32
  let c0_i32_524 : BitVec 32 := 0#32
  let v2052 : BitVec 1 := Scalar.cmpi .eq c2_i32_523 c0_i32_524
  let c1_i32_525 : BitVec 32 := 1#32
  let v2053 : BitVec 32 := Scalar.select v2052 c1_i32_525 c2_i32_523
  let v2054 : BitVec 32 := Scalar.remsi arg21 v2053
  let c0_i32_527 : BitVec 32 := 0#32
  let v2056 : BitVec 1 := Scalar.cmpi .slt v2054 c0_i32_527
  let c0_i32_528 : BitVec 32 := 0#32
  let v2057 : BitVec 1 := Scalar.cmpi .slt v2053 c0_i32_528
  let v2058 : BitVec 1 := Scalar.xori v2056 v2057
  let c0_i32_526 : BitVec 32 := 0#32
  let v2055 : BitVec 1 := Scalar.cmpi .ne v2054 c0_i32_526
  let v2059 : BitVec 1 := Scalar.andi v2058 v2055
  let v2060 : BitVec 32 := Scalar.addi v2054 v2053
  let v2061 : BitVec 32 := Scalar.select v2059 v2060 v2054
  let c4_i32_529 : BitVec 32 := 4#32
  let v2062 : BitVec 32 := Scalar.muli v2061 c4_i32_529
  let v2063 : BitVec 32 := Scalar.addi v2062 c0_i32_530
  let v2065 : Index := Scalar.indexCast v2063
  let c0_533 : Index := 0#32
  let c0_534 : Index := 0#32
  ![v2065.toNat, 0, 0]
def k0_off6 (k0_t1 : Fin k0_t1_loop.trips) (c0_i32_530 : BitVec 32) : Fin 3 → Nat :=
  let c1_i32_443 : BitVec 32 := 1#32
  let c1_i32_444 : BitVec 32 := 1#32
  let arg21 : BitVec 32 := Scf.iv c1_i32_443 c1_i32_444 k0_t1
  let c2_i32_523 : BitVec 32 := 2#32
  let c0_i32_524 : BitVec 32 := 0#32
  let v2052 : BitVec 1 := Scalar.cmpi .eq c2_i32_523 c0_i32_524
  let c1_i32_525 : BitVec 32 := 1#32
  let v2053 : BitVec 32 := Scalar.select v2052 c1_i32_525 c2_i32_523
  let v2054 : BitVec 32 := Scalar.remsi arg21 v2053
  let c0_i32_527 : BitVec 32 := 0#32
  let v2056 : BitVec 1 := Scalar.cmpi .slt v2054 c0_i32_527
  let c0_i32_528 : BitVec 32 := 0#32
  let v2057 : BitVec 1 := Scalar.cmpi .slt v2053 c0_i32_528
  let v2058 : BitVec 1 := Scalar.xori v2056 v2057
  let c0_i32_526 : BitVec 32 := 0#32
  let v2055 : BitVec 1 := Scalar.cmpi .ne v2054 c0_i32_526
  let v2059 : BitVec 1 := Scalar.andi v2058 v2055
  let v2060 : BitVec 32 := Scalar.addi v2054 v2053
  let v2061 : BitVec 32 := Scalar.select v2059 v2060 v2054
  let c4_i32_529 : BitVec 32 := 4#32
  let v2062 : BitVec 32 := Scalar.muli v2061 c4_i32_529
  let v2063 : BitVec 32 := Scalar.addi v2062 c0_i32_530
  let v2117 : Index := Scalar.indexCast v2063
  let c0_544 : Index := 0#32
  let c512_545 : Index := 512#32
  ![v2117.toNat, 0, 512]
def k0_off7 (k0_t1 : Fin k0_t1_loop.trips) (c0_i32_530 : BitVec 32) : Fin 3 → Nat :=
  let c1_i32_443 : BitVec 32 := 1#32
  let c1_i32_444 : BitVec 32 := 1#32
  let arg21 : BitVec 32 := Scf.iv c1_i32_443 c1_i32_444 k0_t1
  let c2_i32_523 : BitVec 32 := 2#32
  let c0_i32_524 : BitVec 32 := 0#32
  let v2052 : BitVec 1 := Scalar.cmpi .eq c2_i32_523 c0_i32_524
  let c1_i32_525 : BitVec 32 := 1#32
  let v2053 : BitVec 32 := Scalar.select v2052 c1_i32_525 c2_i32_523
  let v2054 : BitVec 32 := Scalar.remsi arg21 v2053
  let c0_i32_527 : BitVec 32 := 0#32
  let v2056 : BitVec 1 := Scalar.cmpi .slt v2054 c0_i32_527
  let c0_i32_528 : BitVec 32 := 0#32
  let v2057 : BitVec 1 := Scalar.cmpi .slt v2053 c0_i32_528
  let v2058 : BitVec 1 := Scalar.xori v2056 v2057
  let c0_i32_526 : BitVec 32 := 0#32
  let v2055 : BitVec 1 := Scalar.cmpi .ne v2054 c0_i32_526
  let v2059 : BitVec 1 := Scalar.andi v2058 v2055
  let v2060 : BitVec 32 := Scalar.addi v2054 v2053
  let v2061 : BitVec 32 := Scalar.select v2059 v2060 v2054
  let c4_i32_529 : BitVec 32 := 4#32
  let v2062 : BitVec 32 := Scalar.muli v2061 c4_i32_529
  let v2063 : BitVec 32 := Scalar.addi v2062 c0_i32_530
  let v2170 : Index := Scalar.indexCast v2063
  let c0_555 : Index := 0#32
  let c1024_556 : Index := 1024#32
  ![v2170.toNat, 0, 1024]
def k0_off8 (k0_t1 : Fin k0_t1_loop.trips) (c0_i32_530 : BitVec 32) : Fin 3 → Nat :=
  let c1_i32_443 : BitVec 32 := 1#32
  let c1_i32_444 : BitVec 32 := 1#32
  let arg21 : BitVec 32 := Scf.iv c1_i32_443 c1_i32_444 k0_t1
  let c2_i32_523 : BitVec 32 := 2#32
  let c0_i32_524 : BitVec 32 := 0#32
  let v2052 : BitVec 1 := Scalar.cmpi .eq c2_i32_523 c0_i32_524
  let c1_i32_525 : BitVec 32 := 1#32
  let v2053 : BitVec 32 := Scalar.select v2052 c1_i32_525 c2_i32_523
  let v2054 : BitVec 32 := Scalar.remsi arg21 v2053
  let c0_i32_527 : BitVec 32 := 0#32
  let v2056 : BitVec 1 := Scalar.cmpi .slt v2054 c0_i32_527
  let c0_i32_528 : BitVec 32 := 0#32
  let v2057 : BitVec 1 := Scalar.cmpi .slt v2053 c0_i32_528
  let v2058 : BitVec 1 := Scalar.xori v2056 v2057
  let c0_i32_526 : BitVec 32 := 0#32
  let v2055 : BitVec 1 := Scalar.cmpi .ne v2054 c0_i32_526
  let v2059 : BitVec 1 := Scalar.andi v2058 v2055
  let v2060 : BitVec 32 := Scalar.addi v2054 v2053
  let v2061 : BitVec 32 := Scalar.select v2059 v2060 v2054
  let c4_i32_529 : BitVec 32 := 4#32
  let v2062 : BitVec 32 := Scalar.muli v2061 c4_i32_529
  let v2063 : BitVec 32 := Scalar.addi v2062 c0_i32_530
  let v2223 : Index := Scalar.indexCast v2063
  let c0_566 : Index := 0#32
  let c1536_567 : Index := 1536#32
  ![v2223.toNat, 0, 1536]
def k0_off9 (k0_t1 : Fin k0_t1_loop.trips) (c0_i32_530 : BitVec 32) : Fin 3 → Nat :=
  let c1_i32_443 : BitVec 32 := 1#32
  let c1_i32_444 : BitVec 32 := 1#32
  let arg21 : BitVec 32 := Scf.iv c1_i32_443 c1_i32_444 k0_t1
  let c2_i32_523 : BitVec 32 := 2#32
  let c0_i32_524 : BitVec 32 := 0#32
  let v2052 : BitVec 1 := Scalar.cmpi .eq c2_i32_523 c0_i32_524
  let c1_i32_525 : BitVec 32 := 1#32
  let v2053 : BitVec 32 := Scalar.select v2052 c1_i32_525 c2_i32_523
  let v2054 : BitVec 32 := Scalar.remsi arg21 v2053
  let c0_i32_527 : BitVec 32 := 0#32
  let v2056 : BitVec 1 := Scalar.cmpi .slt v2054 c0_i32_527
  let c0_i32_528 : BitVec 32 := 0#32
  let v2057 : BitVec 1 := Scalar.cmpi .slt v2053 c0_i32_528
  let v2058 : BitVec 1 := Scalar.xori v2056 v2057
  let c0_i32_526 : BitVec 32 := 0#32
  let v2055 : BitVec 1 := Scalar.cmpi .ne v2054 c0_i32_526
  let v2059 : BitVec 1 := Scalar.andi v2058 v2055
  let v2060 : BitVec 32 := Scalar.addi v2054 v2053
  let v2061 : BitVec 32 := Scalar.select v2059 v2060 v2054
  let c4_i32_529 : BitVec 32 := 4#32
  let v2062 : BitVec 32 := Scalar.muli v2061 c4_i32_529
  let v2063 : BitVec 32 := Scalar.addi v2062 c0_i32_530
  let v2276 : Index := Scalar.indexCast v2063
  let c0_577 : Index := 0#32
  let c2048_578 : Index := 2048#32
  ![v2276.toNat, 0, 2048]
def k0_off10 (k0_t1 : Fin k0_t1_loop.trips) (c0_i32_530 : BitVec 32) : Fin 3 → Nat :=
  let c1_i32_443 : BitVec 32 := 1#32
  let c1_i32_444 : BitVec 32 := 1#32
  let arg21 : BitVec 32 := Scf.iv c1_i32_443 c1_i32_444 k0_t1
  let c2_i32_523 : BitVec 32 := 2#32
  let c0_i32_524 : BitVec 32 := 0#32
  let v2052 : BitVec 1 := Scalar.cmpi .eq c2_i32_523 c0_i32_524
  let c1_i32_525 : BitVec 32 := 1#32
  let v2053 : BitVec 32 := Scalar.select v2052 c1_i32_525 c2_i32_523
  let v2054 : BitVec 32 := Scalar.remsi arg21 v2053
  let c0_i32_527 : BitVec 32 := 0#32
  let v2056 : BitVec 1 := Scalar.cmpi .slt v2054 c0_i32_527
  let c0_i32_528 : BitVec 32 := 0#32
  let v2057 : BitVec 1 := Scalar.cmpi .slt v2053 c0_i32_528
  let v2058 : BitVec 1 := Scalar.xori v2056 v2057
  let c0_i32_526 : BitVec 32 := 0#32
  let v2055 : BitVec 1 := Scalar.cmpi .ne v2054 c0_i32_526
  let v2059 : BitVec 1 := Scalar.andi v2058 v2055
  let v2060 : BitVec 32 := Scalar.addi v2054 v2053
  let v2061 : BitVec 32 := Scalar.select v2059 v2060 v2054
  let c4_i32_529 : BitVec 32 := 4#32
  let v2062 : BitVec 32 := Scalar.muli v2061 c4_i32_529
  let v2063 : BitVec 32 := Scalar.addi v2062 c0_i32_530
  let v2329 : Index := Scalar.indexCast v2063
  let c0_588 : Index := 0#32
  let c2560_589 : Index := 2560#32
  ![v2329.toNat, 0, 2560]
def k0_off11 (k0_t1 : Fin k0_t1_loop.trips) (c0_i32_530 : BitVec 32) : Fin 3 → Nat :=
  let c1_i32_443 : BitVec 32 := 1#32
  let c1_i32_444 : BitVec 32 := 1#32
  let arg21 : BitVec 32 := Scf.iv c1_i32_443 c1_i32_444 k0_t1
  let c2_i32_523 : BitVec 32 := 2#32
  let c0_i32_524 : BitVec 32 := 0#32
  let v2052 : BitVec 1 := Scalar.cmpi .eq c2_i32_523 c0_i32_524
  let c1_i32_525 : BitVec 32 := 1#32
  let v2053 : BitVec 32 := Scalar.select v2052 c1_i32_525 c2_i32_523
  let v2054 : BitVec 32 := Scalar.remsi arg21 v2053
  let c0_i32_527 : BitVec 32 := 0#32
  let v2056 : BitVec 1 := Scalar.cmpi .slt v2054 c0_i32_527
  let c0_i32_528 : BitVec 32 := 0#32
  let v2057 : BitVec 1 := Scalar.cmpi .slt v2053 c0_i32_528
  let v2058 : BitVec 1 := Scalar.xori v2056 v2057
  let c0_i32_526 : BitVec 32 := 0#32
  let v2055 : BitVec 1 := Scalar.cmpi .ne v2054 c0_i32_526
  let v2059 : BitVec 1 := Scalar.andi v2058 v2055
  let v2060 : BitVec 32 := Scalar.addi v2054 v2053
  let v2061 : BitVec 32 := Scalar.select v2059 v2060 v2054
  let c4_i32_529 : BitVec 32 := 4#32
  let v2062 : BitVec 32 := Scalar.muli v2061 c4_i32_529
  let v2063 : BitVec 32 := Scalar.addi v2062 c0_i32_530
  let v2382 : Index := Scalar.indexCast v2063
  let c0_599 : Index := 0#32
  let c3072_600 : Index := 3072#32
  ![v2382.toNat, 0, 3072]
def k0_off12 (k0_t1 : Fin k0_t1_loop.trips) (c0_i32_530 : BitVec 32) : Fin 3 → Nat :=
  let c1_i32_443 : BitVec 32 := 1#32
  let c1_i32_444 : BitVec 32 := 1#32
  let arg21 : BitVec 32 := Scf.iv c1_i32_443 c1_i32_444 k0_t1
  let c2_i32_523 : BitVec 32 := 2#32
  let c0_i32_524 : BitVec 32 := 0#32
  let v2052 : BitVec 1 := Scalar.cmpi .eq c2_i32_523 c0_i32_524
  let c1_i32_525 : BitVec 32 := 1#32
  let v2053 : BitVec 32 := Scalar.select v2052 c1_i32_525 c2_i32_523
  let v2054 : BitVec 32 := Scalar.remsi arg21 v2053
  let c0_i32_527 : BitVec 32 := 0#32
  let v2056 : BitVec 1 := Scalar.cmpi .slt v2054 c0_i32_527
  let c0_i32_528 : BitVec 32 := 0#32
  let v2057 : BitVec 1 := Scalar.cmpi .slt v2053 c0_i32_528
  let v2058 : BitVec 1 := Scalar.xori v2056 v2057
  let c0_i32_526 : BitVec 32 := 0#32
  let v2055 : BitVec 1 := Scalar.cmpi .ne v2054 c0_i32_526
  let v2059 : BitVec 1 := Scalar.andi v2058 v2055
  let v2060 : BitVec 32 := Scalar.addi v2054 v2053
  let v2061 : BitVec 32 := Scalar.select v2059 v2060 v2054
  let c4_i32_529 : BitVec 32 := 4#32
  let v2062 : BitVec 32 := Scalar.muli v2061 c4_i32_529
  let v2063 : BitVec 32 := Scalar.addi v2062 c0_i32_530
  let v2435 : Index := Scalar.indexCast v2063
  let c0_610 : Index := 0#32
  let c3584_611 : Index := 3584#32
  ![v2435.toNat, 0, 3584]
def k0_off13 (k0_t1 : Fin k0_t1_loop.trips) (c0_i32_530 : BitVec 32) : Fin 3 → Nat :=
  let c1_i32_443 : BitVec 32 := 1#32
  let c1_i32_444 : BitVec 32 := 1#32
  let arg21 : BitVec 32 := Scf.iv c1_i32_443 c1_i32_444 k0_t1
  let c2_i32_523 : BitVec 32 := 2#32
  let c0_i32_524 : BitVec 32 := 0#32
  let v2052 : BitVec 1 := Scalar.cmpi .eq c2_i32_523 c0_i32_524
  let c1_i32_525 : BitVec 32 := 1#32
  let v2053 : BitVec 32 := Scalar.select v2052 c1_i32_525 c2_i32_523
  let v2054 : BitVec 32 := Scalar.remsi arg21 v2053
  let c0_i32_527 : BitVec 32 := 0#32
  let v2056 : BitVec 1 := Scalar.cmpi .slt v2054 c0_i32_527
  let c0_i32_528 : BitVec 32 := 0#32
  let v2057 : BitVec 1 := Scalar.cmpi .slt v2053 c0_i32_528
  let v2058 : BitVec 1 := Scalar.xori v2056 v2057
  let c0_i32_526 : BitVec 32 := 0#32
  let v2055 : BitVec 1 := Scalar.cmpi .ne v2054 c0_i32_526
  let v2059 : BitVec 1 := Scalar.andi v2058 v2055
  let v2060 : BitVec 32 := Scalar.addi v2054 v2053
  let v2061 : BitVec 32 := Scalar.select v2059 v2060 v2054
  let c4_i32_529 : BitVec 32 := 4#32
  let v2062 : BitVec 32 := Scalar.muli v2061 c4_i32_529
  let v2063 : BitVec 32 := Scalar.addi v2062 c0_i32_530
  let v2488 : Index := Scalar.indexCast v2063
  let c0_621 : Index := 0#32
  let c4096_622 : Index := 4096#32
  ![v2488.toNat, 0, 4096]
def k0_cond2 (k0_t1 : Fin k0_t1_loop.trips) : BitVec 1 :=
  let c1_i32_443 : BitVec 32 := 1#32
  let c1_i32_444 : BitVec 32 := 1#32
  let arg21 : BitVec 32 := Scf.iv c1_i32_443 c1_i32_444 k0_t1
  let c2_i32_636 : BitVec 32 := 2#32
  let v2547 : BitVec 32 := Scalar.addi arg21 c2_i32_636
  let c28_i32_637 : BitVec 32 := 28#32
  let v2548 : BitVec 1 := Scalar.cmpi .sle v2547 c28_i32_637
  let v2549 : BitVec 32 := Scalar.extui v2548
  let c0_i32_638 : BitVec 32 := 0#32
  let v2550 : BitVec 1 := Scalar.cmpi .ne v2549 c0_i32_638
  v2550

def k0_off14 (k0_t1 : Fin k0_t1_loop.trips) : Fin 1 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.addi arg21 c2_i32_1085
  let c2_i32_1086 : BitVec 32 := 2#32
  let c0_i32_1087 : BitVec 32 := 0#32
  let v4183 : BitVec 1 := Scalar.cmpi .eq c2_i32_1086 c0_i32_1087
  let c1_i32_1088 : BitVec 32 := 1#32
  let v4184 : BitVec 32 := Scalar.select v4183 c1_i32_1088 c2_i32_1086
  let v4185 : BitVec 32 := Scalar.remsi v4182 v4184
  let c0_i32_1090 : BitVec 32 := 0#32
  let v4187 : BitVec 1 := Scalar.cmpi .slt v4185 c0_i32_1090
  let c0_i32_1091 : BitVec 32 := 0#32
  let v4188 : BitVec 1 := Scalar.cmpi .slt v4184 c0_i32_1091
  let v4189 : BitVec 1 := Scalar.xori v4187 v4188
  let c0_i32_1089 : BitVec 32 := 0#32
  let v4186 : BitVec 1 := Scalar.cmpi .ne v4185 c0_i32_1089
  let v4190 : BitVec 1 := Scalar.andi v4189 v4186
  let v4191 : BitVec 32 := Scalar.addi v4185 v4184
  let v4192 : BitVec 32 := Scalar.select v4190 v4191 v4185
  let c4_i32_1092 : BitVec 32 := 4#32
  let v4193 : BitVec 32 := Scalar.muli v4192 c4_i32_1092
  let c0_i32_1093 : BitVec 32 := 0#32
  let v4194 : BitVec 32 := Scalar.addi v4193 c0_i32_1093
  ![v4194.toNat]
def k0_off15 (k0_t1 : Fin k0_t1_loop.trips) : Fin 3 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.addi arg21 c2_i32_1085
  let c2_i32_1086 : BitVec 32 := 2#32
  let c0_i32_1087 : BitVec 32 := 0#32
  let v4183 : BitVec 1 := Scalar.cmpi .eq c2_i32_1086 c0_i32_1087
  let c1_i32_1088 : BitVec 32 := 1#32
  let v4184 : BitVec 32 := Scalar.select v4183 c1_i32_1088 c2_i32_1086
  let v4185 : BitVec 32 := Scalar.remsi v4182 v4184
  let c0_i32_1090 : BitVec 32 := 0#32
  let v4187 : BitVec 1 := Scalar.cmpi .slt v4185 c0_i32_1090
  let c0_i32_1091 : BitVec 32 := 0#32
  let v4188 : BitVec 1 := Scalar.cmpi .slt v4184 c0_i32_1091
  let v4189 : BitVec 1 := Scalar.xori v4187 v4188
  let c0_i32_1089 : BitVec 32 := 0#32
  let v4186 : BitVec 1 := Scalar.cmpi .ne v4185 c0_i32_1089
  let v4190 : BitVec 1 := Scalar.andi v4189 v4186
  let v4191 : BitVec 32 := Scalar.addi v4185 v4184
  let v4192 : BitVec 32 := Scalar.select v4190 v4191 v4185
  let c4_i32_1092 : BitVec 32 := 4#32
  let v4193 : BitVec 32 := Scalar.muli v4192 c4_i32_1092
  let c0_i32_1093 : BitVec 32 := 0#32
  let v4194 : BitVec 32 := Scalar.addi v4193 c0_i32_1093
  let c0_i32_1096 : BitVec 32 := 0#32
  let c0_i32_1097 : BitVec 32 := 0#32
  ![v4194.toNat, 0, 0]
def k0_off16 (k0_t1 : Fin k0_t1_loop.trips) : Fin 2 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.addi arg21 c2_i32_1085
  let c1_i32_1094 : BitVec 32 := 1#32
  let v4195 : BitVec 32 := Scalar.subi v4182 c1_i32_1094
  let c256_i32_1095 : BitVec 32 := 256#32
  let v4196 : BitVec 32 := Scalar.muli v4195 c256_i32_1095
  let c0_i32_1098 : BitVec 32 := 0#32
  ![v4196.toNat, 0]
def k0_off17 (k0_t1 : Fin k0_t1_loop.trips) : Fin 2 → Nat :=
  let c1_i32_443 : BitVec 32 := 1#32
  let c1_i32_444 : BitVec 32 := 1#32
  let arg21 : BitVec 32 := Scf.iv c1_i32_443 c1_i32_444 k0_t1
  let c1_i32_654 : BitVec 32 := 1#32
  let v2570 : BitVec 32 := Scalar.subi arg21 c1_i32_654
  let c256_i32_655 : BitVec 32 := 256#32
  let v2571 : BitVec 32 := Scalar.muli v2570 c256_i32_655
  let c4608_i32_658 : BitVec 32 := 4608#32
  ![v2571.toNat, 4608]
def k0_cond3 (k0_t1 : Fin k0_t1_loop.trips) : BitVec 1 :=
  let c1_i32_443 : BitVec 32 := 1#32
  let c1_i32_444 : BitVec 32 := 1#32
  let arg21 : BitVec 32 := Scf.iv c1_i32_443 c1_i32_444 k0_t1
  let c1_i32_659 : BitVec 32 := 1#32
  let v2577 : BitVec 1 := Scalar.cmpi .sgt arg21 c1_i32_659
  let v2578 : BitVec 32 := Scalar.extui v2577
  let c0_i32_660 : BitVec 32 := 0#32
  let v2579 : BitVec 1 := Scalar.cmpi .ne v2578 c0_i32_660
  v2579

def k0_off18 (k0_t1 : Fin k0_t1_loop.trips) : Fin 2 → Nat :=
  let c1_i32_443 : BitVec 32 := 1#32
  let c1_i32_444 : BitVec 32 := 1#32
  let arg21 : BitVec 32 := Scf.iv c1_i32_443 c1_i32_444 k0_t1
  let c1_i32_1085 : BitVec 32 := 1#32
  let v4182 : BitVec 32 := Scalar.subi arg21 c1_i32_1085
  let c1_i32_1086 : BitVec 32 := 1#32
  let v4183 : BitVec 32 := Scalar.subi v4182 c1_i32_1086
  let c256_i32_1087 : BitVec 32 := 256#32
  let v4184 : BitVec 32 := Scalar.muli v4183 c256_i32_1087
  let c4608_i32_1090 : BitVec 32 := 4608#32
  ![v4184.toNat, 4608]
def k0_cond4 (k0_t1 : Fin k0_t1_loop.trips) : BitVec 1 :=
  let c1_i32_443 : BitVec 32 := 1#32
  let c1_i32_444 : BitVec 32 := 1#32
  let arg21 : BitVec 32 := Scf.iv c1_i32_443 c1_i32_444 k0_t1
  let c2_i32_776 : BitVec 32 := 2#32
  let v3077 : BitVec 32 := Scalar.addi arg21 c2_i32_776
  let c28_i32_777 : BitVec 32 := 28#32
  let v3078 : BitVec 1 := Scalar.cmpi .sle v3077 c28_i32_777
  let v3079 : BitVec 32 := Scalar.extui v3078
  let c0_i32_778 : BitVec 32 := 0#32
  let v3080 : BitVec 1 := Scalar.cmpi .ne v3079 c0_i32_778
  v3080

def k0_off19 (k0_t1 : Fin k0_t1_loop.trips) : Fin 1 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.addi arg21 c2_i32_1085
  let c2_i32_1086 : BitVec 32 := 2#32
  let c0_i32_1087 : BitVec 32 := 0#32
  let v4183 : BitVec 1 := Scalar.cmpi .eq c2_i32_1086 c0_i32_1087
  let c1_i32_1088 : BitVec 32 := 1#32
  let v4184 : BitVec 32 := Scalar.select v4183 c1_i32_1088 c2_i32_1086
  let v4185 : BitVec 32 := Scalar.remsi v4182 v4184
  let c0_i32_1090 : BitVec 32 := 0#32
  let v4187 : BitVec 1 := Scalar.cmpi .slt v4185 c0_i32_1090
  let c0_i32_1091 : BitVec 32 := 0#32
  let v4188 : BitVec 1 := Scalar.cmpi .slt v4184 c0_i32_1091
  let v4189 : BitVec 1 := Scalar.xori v4187 v4188
  let c0_i32_1089 : BitVec 32 := 0#32
  let v4186 : BitVec 1 := Scalar.cmpi .ne v4185 c0_i32_1089
  let v4190 : BitVec 1 := Scalar.andi v4189 v4186
  let v4191 : BitVec 32 := Scalar.addi v4185 v4184
  let v4192 : BitVec 32 := Scalar.select v4190 v4191 v4185
  let c4_i32_1092 : BitVec 32 := 4#32
  let v4193 : BitVec 32 := Scalar.muli v4192 c4_i32_1092
  let c1_i32_1093 : BitVec 32 := 1#32
  let v4194 : BitVec 32 := Scalar.addi v4193 c1_i32_1093
  ![v4194.toNat]
def k0_off20 (k0_t1 : Fin k0_t1_loop.trips) : Fin 3 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.addi arg21 c2_i32_1085
  let c2_i32_1086 : BitVec 32 := 2#32
  let c0_i32_1087 : BitVec 32 := 0#32
  let v4183 : BitVec 1 := Scalar.cmpi .eq c2_i32_1086 c0_i32_1087
  let c1_i32_1088 : BitVec 32 := 1#32
  let v4184 : BitVec 32 := Scalar.select v4183 c1_i32_1088 c2_i32_1086
  let v4185 : BitVec 32 := Scalar.remsi v4182 v4184
  let c0_i32_1090 : BitVec 32 := 0#32
  let v4187 : BitVec 1 := Scalar.cmpi .slt v4185 c0_i32_1090
  let c0_i32_1091 : BitVec 32 := 0#32
  let v4188 : BitVec 1 := Scalar.cmpi .slt v4184 c0_i32_1091
  let v4189 : BitVec 1 := Scalar.xori v4187 v4188
  let c0_i32_1089 : BitVec 32 := 0#32
  let v4186 : BitVec 1 := Scalar.cmpi .ne v4185 c0_i32_1089
  let v4190 : BitVec 1 := Scalar.andi v4189 v4186
  let v4191 : BitVec 32 := Scalar.addi v4185 v4184
  let v4192 : BitVec 32 := Scalar.select v4190 v4191 v4185
  let c4_i32_1092 : BitVec 32 := 4#32
  let v4193 : BitVec 32 := Scalar.muli v4192 c4_i32_1092
  let c1_i32_1093 : BitVec 32 := 1#32
  let v4194 : BitVec 32 := Scalar.addi v4193 c1_i32_1093
  let c0_i32_1096 : BitVec 32 := 0#32
  let c0_i32_1097 : BitVec 32 := 0#32
  ![v4194.toNat, 0, 0]
def k0_off21 (k0_t1 : Fin k0_t1_loop.trips) : Fin 2 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.addi arg21 c2_i32_1085
  let c1_i32_1094 : BitVec 32 := 1#32
  let v4195 : BitVec 32 := Scalar.subi v4182 c1_i32_1094
  let c256_i32_1095 : BitVec 32 := 256#32
  let v4196 : BitVec 32 := Scalar.muli v4195 c256_i32_1095
  let c4608_i32_1098 : BitVec 32 := 4608#32
  ![v4196.toNat, 4608]
def k0_off22 (k0_t1 : Fin k0_t1_loop.trips) : Fin 2 → Nat :=
  let c1_i32_443 : BitVec 32 := 1#32
  let c1_i32_444 : BitVec 32 := 1#32
  let arg21 : BitVec 32 := Scf.iv c1_i32_443 c1_i32_444 k0_t1
  let c1_i32_794 : BitVec 32 := 1#32
  let v3100 : BitVec 32 := Scalar.subi arg21 c1_i32_794
  let c256_i32_795 : BitVec 32 := 256#32
  let v3101 : BitVec 32 := Scalar.muli v3100 c256_i32_795
  let c9216_i32_798 : BitVec 32 := 9216#32
  ![v3101.toNat, 9216]
def k0_cond5 (k0_t1 : Fin k0_t1_loop.trips) : BitVec 1 :=
  let c1_i32_443 : BitVec 32 := 1#32
  let c1_i32_444 : BitVec 32 := 1#32
  let arg21 : BitVec 32 := Scf.iv c1_i32_443 c1_i32_444 k0_t1
  let c1_i32_799 : BitVec 32 := 1#32
  let v3107 : BitVec 1 := Scalar.cmpi .sgt arg21 c1_i32_799
  let v3108 : BitVec 32 := Scalar.extui v3107
  let c0_i32_800 : BitVec 32 := 0#32
  let v3109 : BitVec 1 := Scalar.cmpi .ne v3108 c0_i32_800
  v3109

def k0_off23 (k0_t1 : Fin k0_t1_loop.trips) : Fin 2 → Nat :=
  let c1_i32_443 : BitVec 32 := 1#32
  let c1_i32_444 : BitVec 32 := 1#32
  let arg21 : BitVec 32 := Scf.iv c1_i32_443 c1_i32_444 k0_t1
  let c1_i32_1085 : BitVec 32 := 1#32
  let v4182 : BitVec 32 := Scalar.subi arg21 c1_i32_1085
  let c1_i32_1086 : BitVec 32 := 1#32
  let v4183 : BitVec 32 := Scalar.subi v4182 c1_i32_1086
  let c256_i32_1087 : BitVec 32 := 256#32
  let v4184 : BitVec 32 := Scalar.muli v4183 c256_i32_1087
  let c9216_i32_1090 : BitVec 32 := 9216#32
  ![v4184.toNat, 9216]
def k0_cond6 (k0_t1 : Fin k0_t1_loop.trips) : BitVec 1 :=
  let c1_i32_443 : BitVec 32 := 1#32
  let c1_i32_444 : BitVec 32 := 1#32
  let arg21 : BitVec 32 := Scf.iv c1_i32_443 c1_i32_444 k0_t1
  let c2_i32_916 : BitVec 32 := 2#32
  let v3607 : BitVec 32 := Scalar.addi arg21 c2_i32_916
  let c28_i32_917 : BitVec 32 := 28#32
  let v3608 : BitVec 1 := Scalar.cmpi .sle v3607 c28_i32_917
  let v3609 : BitVec 32 := Scalar.extui v3608
  let c0_i32_918 : BitVec 32 := 0#32
  let v3610 : BitVec 1 := Scalar.cmpi .ne v3609 c0_i32_918
  v3610

def k0_off24 (k0_t1 : Fin k0_t1_loop.trips) : Fin 1 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.addi arg21 c2_i32_1085
  let c2_i32_1086 : BitVec 32 := 2#32
  let c0_i32_1087 : BitVec 32 := 0#32
  let v4183 : BitVec 1 := Scalar.cmpi .eq c2_i32_1086 c0_i32_1087
  let c1_i32_1088 : BitVec 32 := 1#32
  let v4184 : BitVec 32 := Scalar.select v4183 c1_i32_1088 c2_i32_1086
  let v4185 : BitVec 32 := Scalar.remsi v4182 v4184
  let c0_i32_1090 : BitVec 32 := 0#32
  let v4187 : BitVec 1 := Scalar.cmpi .slt v4185 c0_i32_1090
  let c0_i32_1091 : BitVec 32 := 0#32
  let v4188 : BitVec 1 := Scalar.cmpi .slt v4184 c0_i32_1091
  let v4189 : BitVec 1 := Scalar.xori v4187 v4188
  let c0_i32_1089 : BitVec 32 := 0#32
  let v4186 : BitVec 1 := Scalar.cmpi .ne v4185 c0_i32_1089
  let v4190 : BitVec 1 := Scalar.andi v4189 v4186
  let v4191 : BitVec 32 := Scalar.addi v4185 v4184
  let v4192 : BitVec 32 := Scalar.select v4190 v4191 v4185
  let c4_i32_1092 : BitVec 32 := 4#32
  let v4193 : BitVec 32 := Scalar.muli v4192 c4_i32_1092
  let c2_i32_1093 : BitVec 32 := 2#32
  let v4194 : BitVec 32 := Scalar.addi v4193 c2_i32_1093
  ![v4194.toNat]
def k0_off25 (k0_t1 : Fin k0_t1_loop.trips) : Fin 3 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.addi arg21 c2_i32_1085
  let c2_i32_1086 : BitVec 32 := 2#32
  let c0_i32_1087 : BitVec 32 := 0#32
  let v4183 : BitVec 1 := Scalar.cmpi .eq c2_i32_1086 c0_i32_1087
  let c1_i32_1088 : BitVec 32 := 1#32
  let v4184 : BitVec 32 := Scalar.select v4183 c1_i32_1088 c2_i32_1086
  let v4185 : BitVec 32 := Scalar.remsi v4182 v4184
  let c0_i32_1090 : BitVec 32 := 0#32
  let v4187 : BitVec 1 := Scalar.cmpi .slt v4185 c0_i32_1090
  let c0_i32_1091 : BitVec 32 := 0#32
  let v4188 : BitVec 1 := Scalar.cmpi .slt v4184 c0_i32_1091
  let v4189 : BitVec 1 := Scalar.xori v4187 v4188
  let c0_i32_1089 : BitVec 32 := 0#32
  let v4186 : BitVec 1 := Scalar.cmpi .ne v4185 c0_i32_1089
  let v4190 : BitVec 1 := Scalar.andi v4189 v4186
  let v4191 : BitVec 32 := Scalar.addi v4185 v4184
  let v4192 : BitVec 32 := Scalar.select v4190 v4191 v4185
  let c4_i32_1092 : BitVec 32 := 4#32
  let v4193 : BitVec 32 := Scalar.muli v4192 c4_i32_1092
  let c2_i32_1093 : BitVec 32 := 2#32
  let v4194 : BitVec 32 := Scalar.addi v4193 c2_i32_1093
  let c0_i32_1096 : BitVec 32 := 0#32
  let c0_i32_1097 : BitVec 32 := 0#32
  ![v4194.toNat, 0, 0]
def k0_off26 (k0_t1 : Fin k0_t1_loop.trips) : Fin 2 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.addi arg21 c2_i32_1085
  let c1_i32_1094 : BitVec 32 := 1#32
  let v4195 : BitVec 32 := Scalar.subi v4182 c1_i32_1094
  let c256_i32_1095 : BitVec 32 := 256#32
  let v4196 : BitVec 32 := Scalar.muli v4195 c256_i32_1095
  let c9216_i32_1098 : BitVec 32 := 9216#32
  ![v4196.toNat, 9216]
def k0_off27 (k0_t1 : Fin k0_t1_loop.trips) : Fin 2 → Nat :=
  let c1_i32_443 : BitVec 32 := 1#32
  let c1_i32_444 : BitVec 32 := 1#32
  let arg21 : BitVec 32 := Scf.iv c1_i32_443 c1_i32_444 k0_t1
  let c1_i32_934 : BitVec 32 := 1#32
  let v3630 : BitVec 32 := Scalar.subi arg21 c1_i32_934
  let c256_i32_935 : BitVec 32 := 256#32
  let v3631 : BitVec 32 := Scalar.muli v3630 c256_i32_935
  let c13824_i32_938 : BitVec 32 := 13824#32
  ![v3631.toNat, 13824]
def k0_cond7 (k0_t1 : Fin k0_t1_loop.trips) : BitVec 1 :=
  let c1_i32_443 : BitVec 32 := 1#32
  let c1_i32_444 : BitVec 32 := 1#32
  let arg21 : BitVec 32 := Scf.iv c1_i32_443 c1_i32_444 k0_t1
  let c1_i32_939 : BitVec 32 := 1#32
  let v3637 : BitVec 1 := Scalar.cmpi .sgt arg21 c1_i32_939
  let v3638 : BitVec 32 := Scalar.extui v3637
  let c0_i32_940 : BitVec 32 := 0#32
  let v3639 : BitVec 1 := Scalar.cmpi .ne v3638 c0_i32_940
  v3639

def k0_off28 (k0_t1 : Fin k0_t1_loop.trips) : Fin 2 → Nat :=
  let c1_i32_443 : BitVec 32 := 1#32
  let c1_i32_444 : BitVec 32 := 1#32
  let arg21 : BitVec 32 := Scf.iv c1_i32_443 c1_i32_444 k0_t1
  let c1_i32_1085 : BitVec 32 := 1#32
  let v4182 : BitVec 32 := Scalar.subi arg21 c1_i32_1085
  let c1_i32_1086 : BitVec 32 := 1#32
  let v4183 : BitVec 32 := Scalar.subi v4182 c1_i32_1086
  let c256_i32_1087 : BitVec 32 := 256#32
  let v4184 : BitVec 32 := Scalar.muli v4183 c256_i32_1087
  let c13824_i32_1090 : BitVec 32 := 13824#32
  ![v4184.toNat, 13824]
def k0_cond8 (k0_t1 : Fin k0_t1_loop.trips) : BitVec 1 :=
  let c1_i32_443 : BitVec 32 := 1#32
  let c1_i32_444 : BitVec 32 := 1#32
  let arg21 : BitVec 32 := Scf.iv c1_i32_443 c1_i32_444 k0_t1
  let c2_i32_1054 : BitVec 32 := 2#32
  let v4134 : BitVec 1 := Scalar.cmpi .sgt arg21 c2_i32_1054
  let v4135 : BitVec 32 := Scalar.extui v4134
  let c0_i32_1055 : BitVec 32 := 0#32
  let v4136 : BitVec 1 := Scalar.cmpi .ne v4135 c0_i32_1055
  v4136

def k0_off29 (k0_t1 : Fin k0_t1_loop.trips) : Fin 1 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.subi arg21 c2_i32_1085
  let c2_i32_1086 : BitVec 32 := 2#32
  let c0_i32_1087 : BitVec 32 := 0#32
  let v4183 : BitVec 1 := Scalar.cmpi .eq c2_i32_1086 c0_i32_1087
  let c1_i32_1088 : BitVec 32 := 1#32
  let v4184 : BitVec 32 := Scalar.select v4183 c1_i32_1088 c2_i32_1086
  let v4185 : BitVec 32 := Scalar.remsi v4182 v4184
  let c0_i32_1090 : BitVec 32 := 0#32
  let v4187 : BitVec 1 := Scalar.cmpi .slt v4185 c0_i32_1090
  let c0_i32_1091 : BitVec 32 := 0#32
  let v4188 : BitVec 1 := Scalar.cmpi .slt v4184 c0_i32_1091
  let v4189 : BitVec 1 := Scalar.xori v4187 v4188
  let c0_i32_1089 : BitVec 32 := 0#32
  let v4186 : BitVec 1 := Scalar.cmpi .ne v4185 c0_i32_1089
  let v4190 : BitVec 1 := Scalar.andi v4189 v4186
  let v4191 : BitVec 32 := Scalar.addi v4185 v4184
  let v4192 : BitVec 32 := Scalar.select v4190 v4191 v4185
  ![v4192.toNat]
def k0_off30 (k0_t1 : Fin k0_t1_loop.trips) : Fin 2 → Nat :=
  let c0_i32_1094 : BitVec 32 := 0#32
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.subi arg21 c2_i32_1085
  let c1_i32_1092 : BitVec 32 := 1#32
  let v4193 : BitVec 32 := Scalar.subi v4182 c1_i32_1092
  let c256_i32_1093 : BitVec 32 := 256#32
  let v4194 : BitVec 32 := Scalar.muli v4193 c256_i32_1093
  ![0, v4194.toNat]
def k0_off31 (k0_t1 : Fin k0_t1_loop.trips) : Fin 3 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.subi arg21 c2_i32_1085
  let c2_i32_1086 : BitVec 32 := 2#32
  let c0_i32_1087 : BitVec 32 := 0#32
  let v4183 : BitVec 1 := Scalar.cmpi .eq c2_i32_1086 c0_i32_1087
  let c1_i32_1088 : BitVec 32 := 1#32
  let v4184 : BitVec 32 := Scalar.select v4183 c1_i32_1088 c2_i32_1086
  let v4185 : BitVec 32 := Scalar.remsi v4182 v4184
  let c0_i32_1090 : BitVec 32 := 0#32
  let v4187 : BitVec 1 := Scalar.cmpi .slt v4185 c0_i32_1090
  let c0_i32_1091 : BitVec 32 := 0#32
  let v4188 : BitVec 1 := Scalar.cmpi .slt v4184 c0_i32_1091
  let v4189 : BitVec 1 := Scalar.xori v4187 v4188
  let c0_i32_1089 : BitVec 32 := 0#32
  let v4186 : BitVec 1 := Scalar.cmpi .ne v4185 c0_i32_1089
  let v4190 : BitVec 1 := Scalar.andi v4189 v4186
  let v4191 : BitVec 32 := Scalar.addi v4185 v4184
  let v4192 : BitVec 32 := Scalar.select v4190 v4191 v4185
  let c0_i32_1095 : BitVec 32 := 0#32
  let c0_i32_1096 : BitVec 32 := 0#32
  ![v4192.toNat, 0, 0]
def k0_off32 (k0_t1 : Fin k0_t1_loop.trips) : Fin 3 → Nat :=
  let c1_i32_443 : BitVec 32 := 1#32
  let c1_i32_444 : BitVec 32 := 1#32
  let arg21 : BitVec 32 := Scf.iv c1_i32_443 c1_i32_444 k0_t1
  let c2_i32_1056 : BitVec 32 := 2#32
  let c0_i32_1057 : BitVec 32 := 0#32
  let v4140 : BitVec 1 := Scalar.cmpi .eq c2_i32_1056 c0_i32_1057
  let c1_i32_1058 : BitVec 32 := 1#32
  let v4141 : BitVec 32 := Scalar.select v4140 c1_i32_1058 c2_i32_1056
  let v4142 : BitVec 32 := Scalar.remsi arg21 v4141
  let c0_i32_1060 : BitVec 32 := 0#32
  let v4144 : BitVec 1 := Scalar.cmpi .slt v4142 c0_i32_1060
  let c0_i32_1061 : BitVec 32 := 0#32
  let v4145 : BitVec 1 := Scalar.cmpi .slt v4141 c0_i32_1061
  let v4146 : BitVec 1 := Scalar.xori v4144 v4145
  let c0_i32_1059 : BitVec 32 := 0#32
  let v4143 : BitVec 1 := Scalar.cmpi .ne v4142 c0_i32_1059
  let v4147 : BitVec 1 := Scalar.andi v4146 v4143
  let v4148 : BitVec 32 := Scalar.addi v4142 v4141
  let v4149 : BitVec 32 := Scalar.select v4147 v4148 v4142
  let v4150 : Index := Scalar.indexCast v4149
  let c0_1062 : Index := 0#32
  let c0_1063 : Index := 0#32
  ![v4150.toNat, 0, 0]
def k0_cond9 (k0_t1 : Fin k0_t1_loop.trips) : BitVec 1 :=
  let c1_i32_443 : BitVec 32 := 1#32
  let c1_i32_444 : BitVec 32 := 1#32
  let arg21 : BitVec 32 := Scf.iv c1_i32_443 c1_i32_444 k0_t1
  let c2_i32_1064 : BitVec 32 := 2#32
  let v4154 : BitVec 32 := Scalar.addi arg21 c2_i32_1064
  let c28_i32_1065 : BitVec 32 := 28#32
  let v4155 : BitVec 1 := Scalar.cmpi .sle v4154 c28_i32_1065
  let v4156 : BitVec 32 := Scalar.extui v4155
  let c0_i32_1066 : BitVec 32 := 0#32
  let v4157 : BitVec 1 := Scalar.cmpi .ne v4156 c0_i32_1066
  v4157

def k0_off33 (k0_t1 : Fin k0_t1_loop.trips) : Fin 1 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.addi arg21 c2_i32_1085
  let c2_i32_1086 : BitVec 32 := 2#32
  let c0_i32_1087 : BitVec 32 := 0#32
  let v4183 : BitVec 1 := Scalar.cmpi .eq c2_i32_1086 c0_i32_1087
  let c1_i32_1088 : BitVec 32 := 1#32
  let v4184 : BitVec 32 := Scalar.select v4183 c1_i32_1088 c2_i32_1086
  let v4185 : BitVec 32 := Scalar.remsi v4182 v4184
  let c0_i32_1090 : BitVec 32 := 0#32
  let v4187 : BitVec 1 := Scalar.cmpi .slt v4185 c0_i32_1090
  let c0_i32_1091 : BitVec 32 := 0#32
  let v4188 : BitVec 1 := Scalar.cmpi .slt v4184 c0_i32_1091
  let v4189 : BitVec 1 := Scalar.xori v4187 v4188
  let c0_i32_1089 : BitVec 32 := 0#32
  let v4186 : BitVec 1 := Scalar.cmpi .ne v4185 c0_i32_1089
  let v4190 : BitVec 1 := Scalar.andi v4189 v4186
  let v4191 : BitVec 32 := Scalar.addi v4185 v4184
  let v4192 : BitVec 32 := Scalar.select v4190 v4191 v4185
  let c4_i32_1092 : BitVec 32 := 4#32
  let v4193 : BitVec 32 := Scalar.muli v4192 c4_i32_1092
  let c3_i32_1093 : BitVec 32 := 3#32
  let v4194 : BitVec 32 := Scalar.addi v4193 c3_i32_1093
  ![v4194.toNat]
def k0_off34 (k0_t1 : Fin k0_t1_loop.trips) : Fin 3 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.addi arg21 c2_i32_1085
  let c2_i32_1086 : BitVec 32 := 2#32
  let c0_i32_1087 : BitVec 32 := 0#32
  let v4183 : BitVec 1 := Scalar.cmpi .eq c2_i32_1086 c0_i32_1087
  let c1_i32_1088 : BitVec 32 := 1#32
  let v4184 : BitVec 32 := Scalar.select v4183 c1_i32_1088 c2_i32_1086
  let v4185 : BitVec 32 := Scalar.remsi v4182 v4184
  let c0_i32_1090 : BitVec 32 := 0#32
  let v4187 : BitVec 1 := Scalar.cmpi .slt v4185 c0_i32_1090
  let c0_i32_1091 : BitVec 32 := 0#32
  let v4188 : BitVec 1 := Scalar.cmpi .slt v4184 c0_i32_1091
  let v4189 : BitVec 1 := Scalar.xori v4187 v4188
  let c0_i32_1089 : BitVec 32 := 0#32
  let v4186 : BitVec 1 := Scalar.cmpi .ne v4185 c0_i32_1089
  let v4190 : BitVec 1 := Scalar.andi v4189 v4186
  let v4191 : BitVec 32 := Scalar.addi v4185 v4184
  let v4192 : BitVec 32 := Scalar.select v4190 v4191 v4185
  let c4_i32_1092 : BitVec 32 := 4#32
  let v4193 : BitVec 32 := Scalar.muli v4192 c4_i32_1092
  let c3_i32_1093 : BitVec 32 := 3#32
  let v4194 : BitVec 32 := Scalar.addi v4193 c3_i32_1093
  let c0_i32_1096 : BitVec 32 := 0#32
  let c0_i32_1097 : BitVec 32 := 0#32
  ![v4194.toNat, 0, 0]
def k0_off35 (k0_t1 : Fin k0_t1_loop.trips) : Fin 2 → Nat :=
  let c1_i32_443 : BitVec 32 := 1#32
  let c1_i32_444 : BitVec 32 := 1#32
  let arg21 : BitVec 32 := Scf.iv c1_i32_443 c1_i32_444 k0_t1
  let c2_i32_1085 : BitVec 32 := 2#32
  let v4182 : BitVec 32 := Scalar.addi arg21 c2_i32_1085
  let c1_i32_1094 : BitVec 32 := 1#32
  let v4195 : BitVec 32 := Scalar.subi v4182 c1_i32_1094
  let c256_i32_1095 : BitVec 32 := 256#32
  let v4196 : BitVec 32 := Scalar.muli v4195 c256_i32_1095
  let c13824_i32_1098 : BitVec 32 := 13824#32
  ![v4196.toNat, 13824]
def k0_off36 (k0_t1 : Fin k0_t1_loop.trips) : Fin 1 → Nat :=
  let c1_i32_443 : BitVec 32 := 1#32
  let c1_i32_444 : BitVec 32 := 1#32
  let arg21 : BitVec 32 := Scf.iv c1_i32_443 c1_i32_444 k0_t1
  let c2_i32_1074 : BitVec 32 := 2#32
  let c0_i32_1075 : BitVec 32 := 0#32
  let v4165 : BitVec 1 := Scalar.cmpi .eq c2_i32_1074 c0_i32_1075
  let c1_i32_1076 : BitVec 32 := 1#32
  let v4166 : BitVec 32 := Scalar.select v4165 c1_i32_1076 c2_i32_1074
  let v4167 : BitVec 32 := Scalar.remsi arg21 v4166
  let c0_i32_1078 : BitVec 32 := 0#32
  let v4169 : BitVec 1 := Scalar.cmpi .slt v4167 c0_i32_1078
  let c0_i32_1079 : BitVec 32 := 0#32
  let v4170 : BitVec 1 := Scalar.cmpi .slt v4166 c0_i32_1079
  let v4171 : BitVec 1 := Scalar.xori v4169 v4170
  let c0_i32_1077 : BitVec 32 := 0#32
  let v4168 : BitVec 1 := Scalar.cmpi .ne v4167 c0_i32_1077
  let v4172 : BitVec 1 := Scalar.andi v4171 v4168
  let v4173 : BitVec 32 := Scalar.addi v4167 v4166
  let v4174 : BitVec 32 := Scalar.select v4172 v4173 v4167
  ![v4174.toNat]
def k0_off37 (k0_t1 : Fin k0_t1_loop.trips) : Fin 2 → Nat :=
  let c0_i32_1082 : BitVec 32 := 0#32
  let c1_i32_443 : BitVec 32 := 1#32
  let c1_i32_444 : BitVec 32 := 1#32
  let arg21 : BitVec 32 := Scf.iv c1_i32_443 c1_i32_444 k0_t1
  let c1_i32_1080 : BitVec 32 := 1#32
  let v4175 : BitVec 32 := Scalar.subi arg21 c1_i32_1080
  let c256_i32_1081 : BitVec 32 := 256#32
  let v4176 : BitVec 32 := Scalar.muli v4175 c256_i32_1081
  ![0, v4176.toNat]
def k0_off38 (k0_t1 : Fin k0_t1_loop.trips) : Fin 3 → Nat :=
  let c1_i32_443 : BitVec 32 := 1#32
  let c1_i32_444 : BitVec 32 := 1#32
  let arg21 : BitVec 32 := Scf.iv c1_i32_443 c1_i32_444 k0_t1
  let c2_i32_1074 : BitVec 32 := 2#32
  let c0_i32_1075 : BitVec 32 := 0#32
  let v4165 : BitVec 1 := Scalar.cmpi .eq c2_i32_1074 c0_i32_1075
  let c1_i32_1076 : BitVec 32 := 1#32
  let v4166 : BitVec 32 := Scalar.select v4165 c1_i32_1076 c2_i32_1074
  let v4167 : BitVec 32 := Scalar.remsi arg21 v4166
  let c0_i32_1078 : BitVec 32 := 0#32
  let v4169 : BitVec 1 := Scalar.cmpi .slt v4167 c0_i32_1078
  let c0_i32_1079 : BitVec 32 := 0#32
  let v4170 : BitVec 1 := Scalar.cmpi .slt v4166 c0_i32_1079
  let v4171 : BitVec 1 := Scalar.xori v4169 v4170
  let c0_i32_1077 : BitVec 32 := 0#32
  let v4168 : BitVec 1 := Scalar.cmpi .ne v4167 c0_i32_1077
  let v4172 : BitVec 1 := Scalar.andi v4171 v4168
  let v4173 : BitVec 32 := Scalar.addi v4167 v4166
  let v4174 : BitVec 32 := Scalar.select v4172 v4173 v4167
  let c0_i32_1083 : BitVec 32 := 0#32
  let c0_i32_1084 : BitVec 32 := 0#32
  ![v4174.toNat, 0, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x18432 : Shape := ⟨3, ![2, 128, 18432]⟩
abbrev S7168x18432 : Shape := ⟨2, ![7168, 18432]⟩
abbrev S1 : Shape := ⟨1, ![1]⟩
abbrev S256x18432 : Shape := ⟨2, ![256, 18432]⟩
abbrev S_ : Shape := ⟨0, ![]⟩
abbrev S253 : Shape := ⟨1, ![253]⟩
abbrev S1x1 : Shape := ⟨2, ![1, 1]⟩
abbrev S256x7168 : Shape := ⟨2, ![256, 7168]⟩

abbrev nBuf : Space → Nat
  | .hbm => 78
  | .vmem => 8
  | .smem => 0
  | _ => 0

abbrev bufTy : (tb : Table) → Fin (tcTables nBuf tb) → BufTy
  | .hbm, ⟨0, _⟩ => ⟨S2x128x18432, .bf16⟩
  | .hbm, ⟨1, _⟩ => ⟨S7168x18432, .bf16⟩
  | .hbm, ⟨2, _⟩ => ⟨S1, .f32⟩
  | .hbm, ⟨3, _⟩ => ⟨S1, .f32⟩
  | .hbm, ⟨4, _⟩ => ⟨S256x18432, .bf16⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S253, .i32⟩
  | .hbm, ⟨10, _⟩ => ⟨S_, .i32⟩
  | .hbm, ⟨11, _⟩ => ⟨S253, .i32⟩
  | .hbm, ⟨12, _⟩ => ⟨S253, .i32⟩
  | .hbm, ⟨13, _⟩ => ⟨S253, .f32⟩
  | .hbm, ⟨14, _⟩ => ⟨S_, .f32⟩
  | .hbm, ⟨15, _⟩ => ⟨S253, .f32⟩
  | .hbm, ⟨16, _⟩ => ⟨S253, .f32⟩
  | .hbm, ⟨17, _⟩ => ⟨S253, .f32⟩
  | .hbm, ⟨18, _⟩ => ⟨S253, .i1⟩
  | .hbm, ⟨19, _⟩ => ⟨S_, .f32⟩
  | .hbm, ⟨20, _⟩ => ⟨S253, .f32⟩
  | .hbm, ⟨21, _⟩ => ⟨S253, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S1, .i1⟩
  | .hbm, ⟨27, _⟩ => ⟨S_, .f32⟩
  | .hbm, ⟨28, _⟩ => ⟨S1, .f32⟩
  | .hbm, ⟨29, _⟩ => ⟨S1, .i1⟩
  | .hbm, ⟨30, _⟩ => ⟨S1, .i1⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S253, .i32⟩
  | .hbm, ⟨40, _⟩ => ⟨S_, .i32⟩
  | .hbm, ⟨41, _⟩ => ⟨S253, .i32⟩
  | .hbm, ⟨42, _⟩ => ⟨S253, .i32⟩
  | .hbm, ⟨43, _⟩ => ⟨S253, .f32⟩
  | .hbm, ⟨44, _⟩ => ⟨S_, .f32⟩
  | .hbm, ⟨45, _⟩ => ⟨S253, .f32⟩
  | .hbm, ⟨46, _⟩ => ⟨S253, .f32⟩
  | .hbm, ⟨47, _⟩ => ⟨S253, .f32⟩
  | .hbm, ⟨48, _⟩ => ⟨S253, .i1⟩
  | .hbm, ⟨49, _⟩ => ⟨S_, .f32⟩
  | .hbm, ⟨50, _⟩ => ⟨S253, .f32⟩
  | .hbm, ⟨51, _⟩ => ⟨S253, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1, .f32⟩
  | .hbm, ⟨56, _⟩ => ⟨S1, .i1⟩
  | .hbm, ⟨57, _⟩ => ⟨S_, .f32⟩
  | .hbm, ⟨58, _⟩ => ⟨S1, .f32⟩
  | .hbm, ⟨59, _⟩ => ⟨S1, .i1⟩
  | .hbm, ⟨60, _⟩ => ⟨S1, .i1⟩
  | .hbm, ⟨61, _⟩ => ⟨S_, .f32⟩
  | .hbm, ⟨62, _⟩ => ⟨S1, .f32⟩
  | .hbm, ⟨63, _⟩ => ⟨S1, .f32⟩
  | .hbm, ⟨64, _⟩ => ⟨S1, .f32⟩
  | .hbm, ⟨65, _⟩ => ⟨S_, .f32⟩
  | .hbm, ⟨66, _⟩ => ⟨S1, .f32⟩
  | .hbm, ⟨67, _⟩ => ⟨S1, .f32⟩
  | .hbm, ⟨68, _⟩ => ⟨S1x1, .f32⟩
  | .hbm, ⟨69, _⟩ => ⟨S_, .f32⟩
  | .hbm, ⟨70, _⟩ => ⟨S1, .f32⟩
  | .hbm, ⟨71, _⟩ => ⟨S1, .f32⟩
  | .hbm, ⟨72, _⟩ => ⟨S1x1, .f32⟩
  | .hbm, ⟨73, _⟩ => ⟨S1, .f32⟩
  | .hbm, ⟨74, _⟩ => ⟨S1x1, .f32⟩
  | .hbm, ⟨75, _⟩ => ⟨S256x7168, .bf16⟩
  | .hbm, ⟨76, _⟩ => ⟨S256x18432, .fp8e4m3⟩
  | .hbm, ⟨77, _⟩ => ⟨S7168x18432, .fp8e4m3⟩
  | .local _ .vmem, ⟨0, _⟩ => ⟨S256x18432, .bf16⟩
  | .local _ .vmem, ⟨1, _⟩ => ⟨S7168x18432, .bf16⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S256x7168, .bf16⟩
  | .local _ .vmem, ⟨6, _⟩ => ⟨S256x18432, .fp8e4m3⟩
  | .local _ .vmem, ⟨7, _⟩ => ⟨S7168x18432, .fp8e4m3⟩
  | _, _ => ⟨S2x128x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_call0_v0 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_call2_v0 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_v34 : Ref sig .tc := ⟨.hbm, 56, rfl⟩
abbrev main_cst_12 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_13 : Ref sig .tc := ⟨.hbm, 61, rfl⟩
abbrev main_call3_v0 : Ref sig .tc := ⟨.hbm, 62, rfl⟩
abbrev main_call3_v1 : Ref sig .tc := ⟨.hbm, 63, rfl⟩
abbrev main_v38 : Ref sig .tc := ⟨.hbm, 64, rfl⟩
abbrev main_cst_14 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_15 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47_0 : Ref sig .tc := ⟨.hbm, 75, rfl⟩
abbrev main_v47_1 : Ref sig .tc := ⟨.hbm, 76, rfl⟩
abbrev main_v47_2 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x18432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x18432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x18432 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x18432 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.K.Names.lean ====
module

public import proofs.«01_k».proof.Defs
public import proofs.«01_k».proof.Proof.Gen.Kernel
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.Tactic

/-! The names of the pieces the kernel slices: a block of an operand, a slot of a buffer, a semaphore of an array; and
    what each offset the loop computes is at trip `k`. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev dyM : Memref sig .tc .hbm S256x18432 .bf16 := Memref.whole main_v0
abbrev wM : Memref sig .tc .hbm S7168x18432 .bf16 := Memref.whole main_arg1
abbrev dxM : Memref sig .tc .hbm S256x7168 .bf16 := Memref.whole main_v1_0
abbrev dycM : Memref sig .tc .hbm S256x18432 .fp8e4m3 := Memref.whole main_v1_1
abbrev wcM : Memref sig .tc .hbm S7168x18432 .fp8e4m3 := Memref.whole main_v1_3
abbrev inM : Memref sig .tc .vmem S8x256x4608 .bf16 := Memref.whole cc0_scratch0
abbrev dybM : Memref sig .tc .vmem S4x256x4608 .fp8e4m3 := Memref.whole cc0_scratch1
abbrev outM : Memref sig .tc .vmem S4x256x4608 .fp8e4m3 := Memref.whole cc0_scratch2
abbrev accM : Memref sig .tc .vmem S256x256 .f32 := Memref.whole cc0_scratch3
abbrev xbM : Memref sig .tc .vmem S2x256x256 .bf16 := Memref.whole cc0_scratch4
abbrev amM : Memref sig .tc .vmem S16x512 .bf16 := Memref.whole cc0_scratch5

/-! ## The offsets -/

/-- The slot parity of trip `k`, which handles the block numbered `k + 1` by the loop. -/
abbrev par (k : ℕ) : Fin 2 := Ring.sl 2 (k + 1)

abbrev off8 (s : Fin 2) (c : Fin 4) : Fin 3 → Nat := ![4 * s.val + c.val, 0, 0]
theorem off8_inb (s : Fin 2) (c : Fin 4) : ∀ a, off8 s c a + S1x256x4608.size a ≤ S8x256x4608.size a := by
  revert s c; decide
abbrev soff8 (s : Fin 2) (c : Fin 4) : Fin 1 → Nat := ![4 * s.val + c.val]
theorem soff8_inb (s : Fin 2) (c : Fin 4) : ∀ a, soff8 s c a + S1.size a ≤ S8.size a := by
  revert s c; decide
abbrev off4 (c : Fin 4) : Fin 3 → Nat := ![c.val, 0, 0]
theorem off4_inb (c : Fin 4) : ∀ a, off4 c a + S1x256x4608.size a ≤ S4x256x4608.size a := by
  revert c; decide
abbrev soff4 (c : Fin 4) : Fin 1 → Nat := ![c.val]
theorem soff4_inb (c : Fin 4) : ∀ a, soff4 c a + S1.size a ≤ S4.size a := by
  revert c; decide
abbrev off2 (s : Fin 2) : Fin 3 → Nat := ![s.val, 0, 0]
theorem off2_inb (s : Fin 2) : ∀ a, off2 s a + S1x256x256.size a ≤ S2x256x256.size a := by
  revert s; decide
abbrev soff2 (s : Fin 2) : Fin 1 → Nat := ![s.val]
theorem soff2_inb (s : Fin 2) : ∀ a, soff2 s a + S1.size a ≤ S2.size a := by
  revert s; decide
abbrev offW (b : Fin 28) (c : Fin 4) : Fin 2 → Nat := ![256 * b.val, 4608 * c.val]
theorem offW_inb (b : Fin 28) (c : Fin 4) : ∀ a, offW b c a + S256x4608.size a ≤ S7168x18432.size a := by
  have := b.isLt; have := c.isLt; intro a; fin_cases a
  · show 256 * b.val + 256 ≤ 7168; omega
  · show 4608 * c.val + 4608 ≤ 18432; omega
abbrev offD (c : Fin 4) : Fin 2 → Nat := ![0, 4608 * c.val]
theorem offD_inb (c : Fin 4) : ∀ a, offD c a + S256x4608.size a ≤ S256x18432.size a := by
  revert c; decide
abbrev offX (b : Fin 28) : Fin 2 → Nat := ![0, 256 * b.val]
theorem offX_inb (b : Fin 28) : ∀ a, offX b a + S256x256.size a ≤ S256x7168.size a := by
  have := b.isLt; intro a; fin_cases a
  · show 0 + 256 ≤ 256; omega
  · show 256 * b.val + 256 ≤ 7168; omega

/-! ## The pieces -/

/-- Slot `(s, c)` of the input buffer. -/
def rslot (s : Fin 2) (c : Fin 4) : Memref sig .tc .vmem S256x4608 .bf16 :=
  (inM.slice (Rect.unit (s := S8x256x4608) (off8 s c) S1x256x4608.size (off8_inb s c)) (fun _ => rfl)).squeeze S256x4608 squeezes_S1x256x4608_S256x4608
/-- Its semaphore. -/
def isem (s : Fin 2) (c : Fin 4) : DmaSems sig S_ :=
  (cc0_scratch6.slice (Rect.unit (s := S8) (soff8 s c) S1.size (soff8_inb s c))).squeeze S_ squeezes_S1_S_
/-- Slot `c` of the first operand's codes. -/
def dslot (c : Fin 4) : Memref sig .tc .vmem S256x4608 .fp8e4m3 :=
  (dybM.slice (Rect.unit (s := S4x256x4608) (off4 c) S1x256x4608.size (off4_inb c)) (fun _ => rfl)).squeeze S256x4608 squeezes_S1x256x4608_S256x4608
def dsem (c : Fin 4) : DmaSems sig S_ :=
  (cc0_scratch7.slice (Rect.unit (s := S4) (soff4 c) S1.size (soff4_inb c))).squeeze S_ squeezes_S1_S_
/-- Slot `c` of the second operand's codes. -/
def oslot (c : Fin 4) : Memref sig .tc .vmem S256x4608 .fp8e4m3 :=
  (outM.slice (Rect.unit (s := S4x256x4608) (off4 c) S1x256x4608.size (off4_inb c)) (fun _ => rfl)).squeeze S256x4608 squeezes_S1x256x4608_S256x4608
def osem (c : Fin 4) : DmaSems sig S_ :=
  (cc0_scratch8.slice (Rect.unit (s := S4) (soff4 c) S1.size (soff4_inb c))).squeeze S_ squeezes_S1_S_
/-- Slot `s` of the product's buffer. -/
def xslot (s : Fin 2) : Memref sig .tc .vmem S256x256 .bf16 :=
  (xbM.slice (Rect.unit (s := S2x256x256) (off2 s) S1x256x256.size (off2_inb s)) (fun _ => rfl)).squeeze S256x256 squeezes_S1x256x256_S256x256
def xsem (s : Fin 2) : DmaSems sig S_ :=
  (cc0_scratch9.slice (Rect.unit (s := S2) (soff2 s) S1.size (soff2_inb s))).squeeze S_ squeezes_S1_S_
/-- Block `(b, c)` of the second operand, and of its codes. -/
def wblk (b : Fin 28) (c : Fin 4) : Memref sig .tc .hbm S256x4608 .bf16 :=
  wM.slice (Rect.unit (s := S7168x18432) (offW b c) S256x4608.size (offW_inb b c)) (fun _ => rfl)
def wcblk (b : Fin 28) (c : Fin 4) : Memref sig .tc .hbm S256x4608 .fp8e4m3 :=
  wcM.slice (Rect.unit (s := S7168x18432) (offW b c) S256x4608.size (offW_inb b c)) (fun _ => rfl)
/-- Block `c` of the first operand, and of its codes. -/
def dyblk (c : Fin 4) : Memref sig .tc .hbm S256x4608 .bf16 :=
  dyM.slice (Rect.unit (s := S256x18432) (offD c) S256x4608.size (offD_inb c)) (fun _ => rfl)
def dycblk (c : Fin 4) : Memref sig .tc .hbm S256x4608 .fp8e4m3 :=
  dycM.slice (Rect.unit (s := S256x18432) (offD c) S256x4608.size (offD_inb c)) (fun _ => rfl)
/-- Block `b` of the product. -/
def dxblk (b : Fin 28) : Memref sig .tc .hbm S256x256 .bf16 :=
  dxM.slice (Rect.unit (s := S256x7168) (offX b) S256x256.size (offX_inb b)) (fun _ => rfl)

instance (s : Fin 2) (c : Fin 4) : ClosedOff (off8 s c) := ⟨off8 s c, rfl⟩
instance (c : Fin 4) : ClosedOff (off4 c) := ⟨off4 c, rfl⟩
instance (s : Fin 2) : ClosedOff (off2 s) := ⟨off2 s, rfl⟩
instance (b : Fin 28) (c : Fin 4) : ClosedOff (offW b c) := ⟨offW b c, rfl⟩
instance (c : Fin 4) : ClosedOff (offD c) := ⟨offD c, rfl⟩
instance (b : Fin 28) : ClosedOff (offX b) := ⟨offX b, rfl⟩

/-! ## The offsets at trip `k` -/

section Chain
variable (k : Fin k0_t1_loop.trips)

theorem trips_eq : k0_t1_loop.trips = 28 := by decide
theorem k_lt : k.val < 28 := Nat.lt_of_lt_of_eq k.isLt trips_eq

theorem k0_off1_eq_0 : k0_off1 k 0#32 = soff8 (par k) 0 := by
  revert k; decide +kernel

theorem k0_off2_eq_0 : k0_off2 k 0#32 = off8 (par k) 0 := by
  revert k; decide +kernel

theorem k0_off1_eq_1 : k0_off1 k 1#32 = soff8 (par k) 1 := by
  revert k; decide +kernel

theorem k0_off2_eq_1 : k0_off2 k 1#32 = off8 (par k) 1 := by
  revert k; decide +kernel

theorem k0_off1_eq_2 : k0_off1 k 2#32 = soff8 (par k) 2 := by
  revert k; decide +kernel

theorem k0_off2_eq_2 : k0_off2 k 2#32 = off8 (par k) 2 := by
  revert k; decide +kernel

theorem k0_off1_eq_3 : k0_off1 k 3#32 = soff8 (par k) 3 := by
  revert k; decide +kernel

theorem k0_off2_eq_3 : k0_off2 k 3#32 = off8 (par k) 3 := by
  revert k; decide +kernel

theorem k0_off14_eq : k0_off14 k = soff8 (par k) 0 := by
  revert k; decide +kernel

theorem k0_off19_eq : k0_off19 k = soff8 (par k) 1 := by
  revert k; decide +kernel

theorem k0_off24_eq : k0_off24 k = soff8 (par k) 2 := by
  revert k; decide +kernel

theorem k0_off33_eq : k0_off33 k = soff8 (par k) 3 := by
  revert k; decide +kernel

theorem k0_off15_eq : k0_off15 k = off8 (par k) 0 := by
  revert k; decide +kernel

theorem k0_off20_eq : k0_off20 k = off8 (par k) 1 := by
  revert k; decide +kernel

theorem k0_off25_eq : k0_off25 k = off8 (par k) 2 := by
  revert k; decide +kernel

theorem k0_off34_eq : k0_off34 k = off8 (par k) 3 := by
  revert k; decide +kernel

theorem k0_off3_eq : k0_off3 k = offW (Ring.bk 28 k) 0 := by
  revert k; decide +kernel

theorem k0_off17_eq : k0_off17 k = offW (Ring.bk 28 k) 1 := by
  revert k; decide +kernel

theorem k0_off22_eq : k0_off22 k = offW (Ring.bk 28 k) 2 := by
  revert k; decide +kernel

theorem k0_off27_eq : k0_off27 k = offW (Ring.bk 28 k) 3 := by
  revert k; decide +kernel

theorem k0_off16_eq (h : k.val + 2 < 28) : k0_off16 k = offW (Ring.bk 28 (k + 2)) 0 := by
  revert h; revert k; decide +kernel

theorem k0_off21_eq (h : k.val + 2 < 28) : k0_off21 k = offW (Ring.bk 28 (k + 2)) 1 := by
  revert h; revert k; decide +kernel

theorem k0_off26_eq (h : k.val + 2 < 28) : k0_off26 k = offW (Ring.bk 28 (k + 2)) 2 := by
  revert h; revert k; decide +kernel

theorem k0_off35_eq (h : k.val + 2 < 28) : k0_off35 k = offW (Ring.bk 28 (k + 2)) 3 := by
  revert h; revert k; decide +kernel

theorem k0_off4_eq (h : 1 ≤ k.val) : k0_off4 k = offW (Ring.bk 28 (k - 1)) 0 := by
  revert h; revert k; decide +kernel

theorem k0_off18_eq (h : 1 ≤ k.val) : k0_off18 k = offW (Ring.bk 28 (k - 1)) 1 := by
  revert h; revert k; decide +kernel

theorem k0_off23_eq (h : 1 ≤ k.val) : k0_off23 k = offW (Ring.bk 28 (k - 1)) 2 := by
  revert h; revert k; decide +kernel

theorem k0_off28_eq (h : 1 ≤ k.val) : k0_off28 k = offW (Ring.bk 28 (k - 1)) 3 := by
  revert h; revert k; decide +kernel

theorem k0_off29_eq (h : 2 ≤ k.val) : k0_off29 k = soff2 (par k) := by
  revert h; revert k; decide +kernel

theorem k0_off30_eq (h : 2 ≤ k.val) : k0_off30 k = offX (Ring.bk 28 (k - 2)) := by
  revert h; revert k; decide +kernel

theorem k0_off31_eq (h : 2 ≤ k.val) : k0_off31 k = off2 (par k) := by
  revert h; revert k; decide +kernel

theorem k0_off32_eq : k0_off32 k = off2 (par k) := by
  revert k; decide +kernel

theorem k0_off36_eq : k0_off36 k = soff2 (par k) := by
  revert k; decide +kernel

theorem k0_off37_eq : k0_off37 k = offX (Ring.bk 28 k) := by
  revert k; decide +kernel

theorem k0_off38_eq : k0_off38 k = off2 (par k) := by
  revert k; decide +kernel

end Chain

/-! ## The slices the kernel writes are the pieces above -/

theorem rslot_congr {off : Fin 3 → Nat} {s : Fin 2} {c : Fin 4} (e : off = off8 s c) (hh hs) :
    (inM.slice (Rect.unit (s := S8x256x4608) off S1x256x4608.size hh) hs).squeeze S256x4608 squeezes_S1x256x4608_S256x4608 = rslot s c :=
  congrArg (fun M : Memref sig .tc .vmem S1x256x4608 .bf16 => M.squeeze S256x4608 squeezes_S1x256x4608_S256x4608) (Memref.slice_unit_congr _ e _ _ _ _)

theorem dslot_congr {off : Fin 3 → Nat} {c : Fin 4} (e : off = off4 c) (hh hs) :
    (dybM.slice (Rect.unit (s := S4x256x4608) off S1x256x4608.size hh) hs).squeeze S256x4608 squeezes_S1x256x4608_S256x4608 = dslot c :=
  congrArg (fun M : Memref sig .tc .vmem S1x256x4608 .fp8e4m3 => M.squeeze S256x4608 squeezes_S1x256x4608_S256x4608) (Memref.slice_unit_congr _ e _ _ _ _)

theorem oslot_congr {off : Fin 3 → Nat} {c : Fin 4} (e : off = off4 c) (hh hs) :
    (outM.slice (Rect.unit (s := S4x256x4608) off S1x256x4608.size hh) hs).squeeze S256x4608 squeezes_S1x256x4608_S256x4608 = oslot c :=
  congrArg (fun M : Memref sig .tc .vmem S1x256x4608 .fp8e4m3 => M.squeeze S256x4608 squeezes_S1x256x4608_S256x4608) (Memref.slice_unit_congr _ e _ _ _ _)

theorem xslot_congr {off : Fin 3 → Nat} {s : Fin 2} (e : off = off2 s) (hh hs) :
    (xbM.slice (Rect.unit (s := S2x256x256) off S1x256x256.size hh) hs).squeeze S256x256 squeezes_S1x256x256_S256x256 = xslot s :=
  congrArg (fun M : Memref sig .tc .vmem S1x256x256 .bf16 => M.squeeze S256x256 squeezes_S1x256x256_S256x256) (Memref.slice_unit_congr _ e _ _ _ _)

theorem isem_congr {off : Fin 1 → Nat} {s : Fin 2} {c : Fin 4} (e : off = soff8 s c) (hh) :
    (cc0_scratch6.slice (Rect.unit (s := S8) off S1.size hh)).squeeze S_ squeezes_S1_S_ = isem s c :=
  congrArg (fun A : DmaSems sig S1 => A.squeeze S_ squeezes_S1_S_) (SemArray.slice_unit_congr _ e _ _)

theorem dsem_congr {off : Fin 1 → Nat} {c : Fin 4} (e : off = soff4 c) (hh) :
    (cc0_scratch7.slice (Rect.unit (s := S4) off S1.size hh)).squeeze S_ squeezes_S1_S_ = dsem c :=
  congrArg (fun A : DmaSems sig S1 => A.squeeze S_ squeezes_S1_S_) (SemArray.slice_unit_congr _ e _ _)

theorem osem_congr {off : Fin 1 → Nat} {c : Fin 4} (e : off = soff4 c) (hh) :
    (cc0_scratch8.slice (Rect.unit (s := S4) off S1.size hh)).squeeze S_ squeezes_S1_S_ = osem c :=
  congrArg (fun A : DmaSems sig S1 => A.squeeze S_ squeezes_S1_S_) (SemArray.slice_unit_congr _ e _ _)

theorem xsem_congr {off : Fin 1 → Nat} {s : Fin 2} (e : off = soff2 s) (hh) :
    (cc0_scratch9.slice (Rect.unit (s := S2) off S1.size hh)).squeeze S_ squeezes_S1_S_ = xsem s :=
  congrArg (fun A : DmaSems sig S1 => A.squeeze S_ squeezes_S1_S_) (SemArray.slice_unit_congr _ e _ _)

theorem wblk_congr {off : Fin 2 → Nat} {b : Fin 28} {c : Fin 4} (e : off = offW b c) (hh hs) :
    wM.slice (Rect.unit (s := S7168x18432) off S256x4608.size hh) hs = wblk b c :=
  Memref.slice_unit_congr _ e hh (offW_inb b c) hs (fun _ => rfl)

theorem wcblk_congr {off : Fin 2 → Nat} {b : Fin 28} {c : Fin 4} (e : off = offW b c) (hh hs) :
    wcM.slice (Rect.unit (s := S7168x18432) off S256x4608.size hh) hs = wcblk b c :=
  Memref.slice_unit_congr _ e hh (offW_inb b c) hs (fun _ => rfl)

theorem dyblk_congr {off : Fin 2 → Nat} {c : Fin 4} (e : off = offD c) (hh hs) :
    dyM.slice (Rect.unit (s := S256x18432) off S256x4608.size hh) hs = dyblk c :=
  Memref.slice_unit_congr _ e hh (offD_inb c) hs (fun _ => rfl)

theorem dycblk_congr {off : Fin 2 → Nat} {c : Fin 4} (e : off = offD c) (hh hs) :
    dycM.slice (Rect.unit (s := S256x18432) off S256x4608.size hh) hs = dycblk c :=
  Memref.slice_unit_congr _ e hh (offD_inb c) hs (fun _ => rfl)

theorem dxblk_congr {off : Fin 2 → Nat} {b : Fin 28} (e : off = offX b) (hh hs) :
    dxM.slice (Rect.unit (s := S256x7168) off S256x256.size hh) hs = dxblk b :=
  Memref.slice_unit_congr _ e hh (offX_inb b) hs (fun _ => rfl)

@[sl_canon] theorem cn1 (hh hs) :
    (inM.slice (Rect.unit (s := S8x256x4608) ![0, 0, 0] S1x256x4608.size hh) hs).squeeze S256x4608 squeezes_S1x256x4608_S256x4608 = rslot 0 0 := rslot_congr (by decide) _ _

@[sl_canon] theorem cn2 (hh) :
    (cc0_scratch6.slice (Rect.unit (s := S8) ![0] S1.size hh)).squeeze S_ squeezes_S1_S_ = isem 0 0 := isem_congr (by decide) _

@[sl_canon] theorem cn3 (hh hs) :
    (inM.slice (Rect.unit (s := S8x256x4608) ![1, 0, 0] S1x256x4608.size hh) hs).squeeze S256x4608 squeezes_S1x256x4608_S256x4608 = rslot 0 1 := rslot_congr (by decide) _ _

@[sl_canon] theorem cn4 (hh) :
    (cc0_scratch6.slice (Rect.unit (s := S8) ![1] S1.size hh)).squeeze S_ squeezes_S1_S_ = isem 0 1 := isem_congr (by decide) _

@[sl_canon] theorem cn5 (hh hs) :
    (inM.slice (Rect.unit (s := S8x256x4608) ![2, 0, 0] S1x256x4608.size hh) hs).squeeze S256x4608 squeezes_S1x256x4608_S256x4608 = rslot 0 2 := rslot_congr (by decide) _ _

@[sl_canon] theorem cn6 (hh) :
    (cc0_scratch6.slice (Rect.unit (s := S8) ![2] S1.size hh)).squeeze S_ squeezes_S1_S_ = isem 0 2 := isem_congr (by decide) _

@[sl_canon] theorem cn7 (hh hs) :
    (inM.slice (Rect.unit (s := S8x256x4608) ![3, 0, 0] S1x256x4608.size hh) hs).squeeze S256x4608 squeezes_S1x256x4608_S256x4608 = rslot 0 3 := rslot_congr (by decide) _ _

@[sl_canon] theorem cn8 (hh) :
    (cc0_scratch6.slice (Rect.unit (s := S8) ![3] S1.size hh)).squeeze S_ squeezes_S1_S_ = isem 0 3 := isem_congr (by decide) _

@[sl_canon] theorem cn9 (hh hs) :
    (inM.slice (Rect.unit (s := S8x256x4608) ![4, 0, 0] S1x256x4608.size hh) hs).squeeze S256x4608 squeezes_S1x256x4608_S256x4608 = rslot 1 0 := rslot_congr (by decide) _ _

@[sl_canon] theorem cn10 (hh) :
    (cc0_scratch6.slice (Rect.unit (s := S8) ![4] S1.size hh)).squeeze S_ squeezes_S1_S_ = isem 1 0 := isem_congr (by decide) _

@[sl_canon] theorem cn11 (hh hs) :
    (inM.slice (Rect.unit (s := S8x256x4608) ![5, 0, 0] S1x256x4608.size hh) hs).squeeze S256x4608 squeezes_S1x256x4608_S256x4608 = rslot 1 1 := rslot_congr (by decide) _ _

@[sl_canon] theorem cn12 (hh) :
    (cc0_scratch6.slice (Rect.unit (s := S8) ![5] S1.size hh)).squeeze S_ squeezes_S1_S_ = isem 1 1 := isem_congr (by decide) _

@[sl_canon] theorem cn13 (hh hs) :
    (inM.slice (Rect.unit (s := S8x256x4608) ![6, 0, 0] S1x256x4608.size hh) hs).squeeze S256x4608 squeezes_S1x256x4608_S256x4608 = rslot 1 2 := rslot_congr (by decide) _ _

@[sl_canon] theorem cn14 (hh) :
    (cc0_scratch6.slice (Rect.unit (s := S8) ![6] S1.size hh)).squeeze S_ squeezes_S1_S_ = isem 1 2 := isem_congr (by decide) _

@[sl_canon] theorem cn15 (hh hs) :
    (inM.slice (Rect.unit (s := S8x256x4608) ![7, 0, 0] S1x256x4608.size hh) hs).squeeze S256x4608 squeezes_S1x256x4608_S256x4608 = rslot 1 3 := rslot_congr (by decide) _ _

@[sl_canon] theorem cn16 (hh) :
    (cc0_scratch6.slice (Rect.unit (s := S8) ![7] S1.size hh)).squeeze S_ squeezes_S1_S_ = isem 1 3 := isem_congr (by decide) _

@[sl_canon] theorem cn17 (hh hs) :
    (dybM.slice (Rect.unit (s := S4x256x4608) ![0, 0, 0] S1x256x4608.size hh) hs).squeeze S256x4608 squeezes_S1x256x4608_S256x4608 = dslot 0 := dslot_congr (by decide) _ _

@[sl_canon] theorem cn18 (hh hs) :
    (outM.slice (Rect.unit (s := S4x256x4608) ![0, 0, 0] S1x256x4608.size hh) hs).squeeze S256x4608 squeezes_S1x256x4608_S256x4608 = oslot 0 := oslot_congr (by decide) _ _

@[sl_canon] theorem cn19 (hh) :
    (cc0_scratch7.slice (Rect.unit (s := S4) ![0] S1.size hh)).squeeze S_ squeezes_S1_S_ = dsem 0 := dsem_congr (by decide) _

@[sl_canon] theorem cn20 (hh) :
    (cc0_scratch8.slice (Rect.unit (s := S4) ![0] S1.size hh)).squeeze S_ squeezes_S1_S_ = osem 0 := osem_congr (by decide) _

@[sl_canon] theorem cn21 (hh hs) :
    dyM.slice (Rect.unit (s := S256x18432) ![0, 0] S256x4608.size hh) hs = dyblk 0 := dyblk_congr (by decide) _ _

@[sl_canon] theorem cn22 (hh hs) :
    dycM.slice (Rect.unit (s := S256x18432) ![0, 0] S256x4608.size hh) hs = dycblk 0 := dycblk_congr (by decide) _ _

@[sl_canon] theorem cn23 (hh hs) :
    wM.slice (Rect.unit (s := S7168x18432) ![0, 0] S256x4608.size hh) hs = wblk 0 0 := wblk_congr (by decide) _ _

@[sl_canon] theorem cn24 (hh hs) :
    wM.slice (Rect.unit (s := S7168x18432) ![256, 0] S256x4608.size hh) hs = wblk 1 0 := wblk_congr (by decide) _ _

@[sl_canon] theorem cn25 (hh hs) :
    wcM.slice (Rect.unit (s := S7168x18432) ![6912, 0] S256x4608.size hh) hs = wcblk 27 0 := wcblk_congr (by decide) _ _

@[sl_canon] theorem cn26 (hh hs) :
    (dybM.slice (Rect.unit (s := S4x256x4608) ![1, 0, 0] S1x256x4608.size hh) hs).squeeze S256x4608 squeezes_S1x256x4608_S256x4608 = dslot 1 := dslot_congr (by decide) _ _

@[sl_canon] theorem cn27 (hh hs) :
    (outM.slice (Rect.unit (s := S4x256x4608) ![1, 0, 0] S1x256x4608.size hh) hs).squeeze S256x4608 squeezes_S1x256x4608_S256x4608 = oslot 1 := oslot_congr (by decide) _ _

@[sl_canon] theorem cn28 (hh) :
    (cc0_scratch7.slice (Rect.unit (s := S4) ![1] S1.size hh)).squeeze S_ squeezes_S1_S_ = dsem 1 := dsem_congr (by decide) _

@[sl_canon] theorem cn29 (hh) :
    (cc0_scratch8.slice (Rect.unit (s := S4) ![1] S1.size hh)).squeeze S_ squeezes_S1_S_ = osem 1 := osem_congr (by decide) _

@[sl_canon] theorem cn30 (hh hs) :
    dyM.slice (Rect.unit (s := S256x18432) ![0, 4608] S256x4608.size hh) hs = dyblk 1 := dyblk_congr (by decide) _ _

@[sl_canon] theorem cn31 (hh hs) :
    dycM.slice (Rect.unit (s := S256x18432) ![0, 4608] S256x4608.size hh) hs = dycblk 1 := dycblk_congr (by decide) _ _

@[sl_canon] theorem cn32 (hh hs) :
    wM.slice (Rect.unit (s := S7168x18432) ![0, 4608] S256x4608.size hh) hs = wblk 0 1 := wblk_congr (by decide) _ _

@[sl_canon] theorem cn33 (hh hs) :
    wM.slice (Rect.unit (s := S7168x18432) ![256, 4608] S256x4608.size hh) hs = wblk 1 1 := wblk_congr (by decide) _ _

@[sl_canon] theorem cn34 (hh hs) :
    wcM.slice (Rect.unit (s := S7168x18432) ![6912, 4608] S256x4608.size hh) hs = wcblk 27 1 := wcblk_congr (by decide) _ _

@[sl_canon] theorem cn35 (hh hs) :
    (dybM.slice (Rect.unit (s := S4x256x4608) ![2, 0, 0] S1x256x4608.size hh) hs).squeeze S256x4608 squeezes_S1x256x4608_S256x4608 = dslot 2 := dslot_congr (by decide) _ _

@[sl_canon] theorem cn36 (hh hs) :
    (outM.slice (Rect.unit (s := S4x256x4608) ![2, 0, 0] S1x256x4608.size hh) hs).squeeze S256x4608 squeezes_S1x256x4608_S256x4608 = oslot 2 := oslot_congr (by decide) _ _

@[sl_canon] theorem cn37 (hh) :
    (cc0_scratch7.slice (Rect.unit (s := S4) ![2] S1.size hh)).squeeze S_ squeezes_S1_S_ = dsem 2 := dsem_congr (by decide) _

@[sl_canon] theorem cn38 (hh) :
    (cc0_scratch8.slice (Rect.unit (s := S4) ![2] S1.size hh)).squeeze S_ squeezes_S1_S_ = osem 2 := osem_congr (by decide) _

@[sl_canon] theorem cn39 (hh hs) :
    dyM.slice (Rect.unit (s := S256x18432) ![0, 9216] S256x4608.size hh) hs = dyblk 2 := dyblk_congr (by decide) _ _

@[sl_canon] theorem cn40 (hh hs) :
    dycM.slice (Rect.unit (s := S256x18432) ![0, 9216] S256x4608.size hh) hs = dycblk 2 := dycblk_congr (by decide) _ _

@[sl_canon] theorem cn41 (hh hs) :
    wM.slice (Rect.unit (s := S7168x18432) ![0, 9216] S256x4608.size hh) hs = wblk 0 2 := wblk_congr (by decide) _ _

@[sl_canon] theorem cn42 (hh hs) :
    wM.slice (Rect.unit (s := S7168x18432) ![256, 9216] S256x4608.size hh) hs = wblk 1 2 := wblk_congr (by decide) _ _

@[sl_canon] theorem cn43 (hh hs) :
    wcM.slice (Rect.unit (s := S7168x18432) ![6912, 9216] S256x4608.size hh) hs = wcblk 27 2 := wcblk_congr (by decide) _ _

@[sl_canon] theorem cn44 (hh hs) :
    (dybM.slice (Rect.unit (s := S4x256x4608) ![3, 0, 0] S1x256x4608.size hh) hs).squeeze S256x4608 squeezes_S1x256x4608_S256x4608 = dslot 3 := dslot_congr (by decide) _ _

@[sl_canon] theorem cn45 (hh hs) :
    (outM.slice (Rect.unit (s := S4x256x4608) ![3, 0, 0] S1x256x4608.size hh) hs).squeeze S256x4608 squeezes_S1x256x4608_S256x4608 = oslot 3 := oslot_congr (by decide) _ _

@[sl_canon] theorem cn46 (hh) :
    (cc0_scratch7.slice (Rect.unit (s := S4) ![3] S1.size hh)).squeeze S_ squeezes_S1_S_ = dsem 3 := dsem_congr (by decide) _

@[sl_canon] theorem cn47 (hh) :
    (cc0_scratch8.slice (Rect.unit (s := S4) ![3] S1.size hh)).squeeze S_ squeezes_S1_S_ = osem 3 := osem_congr (by decide) _

@[sl_canon] theorem cn48 (hh hs) :
    dyM.slice (Rect.unit (s := S256x18432) ![0, 13824] S256x4608.size hh) hs = dyblk 3 := dyblk_congr (by decide) _ _

@[sl_canon] theorem cn49 (hh hs) :
    dycM.slice (Rect.unit (s := S256x18432) ![0, 13824] S256x4608.size hh) hs = dycblk 3 := dycblk_congr (by decide) _ _

@[sl_canon] theorem cn50 (hh hs) :
    wM.slice (Rect.unit (s := S7168x18432) ![0, 13824] S256x4608.size hh) hs = wblk 0 3 := wblk_congr (by decide) _ _

@[sl_canon] theorem cn51 (hh hs) :
    wM.slice (Rect.unit (s := S7168x18432) ![256, 13824] S256x4608.size hh) hs = wblk 1 3 := wblk_congr (by decide) _ _

@[sl_canon] theorem cn52 (hh hs) :
    wcM.slice (Rect.unit (s := S7168x18432) ![6912, 13824] S256x4608.size hh) hs = wcblk 27 3 := wcblk_congr (by decide) _ _

@[sl_canon] theorem cn53 (hh hs) :
    (xbM.slice (Rect.unit (s := S2x256x256) ![0, 0, 0] S1x256x256.size hh) hs).squeeze S256x256 squeezes_S1x256x256_S256x256 = xslot 0 := xslot_congr (by decide) _ _

@[sl_canon] theorem cn54 (hh) :
    (cc0_scratch9.slice (Rect.unit (s := S2) ![0] S1.size hh)).squeeze S_ squeezes_S1_S_ = xsem 0 := xsem_congr (by decide) _

@[sl_canon] theorem cn55 (hh hs) :
    dxM.slice (Rect.unit (s := S256x7168) ![0, 6656] S256x256.size hh) hs = dxblk 26 := dxblk_congr (by decide) _ _

@[sl_canon] theorem cn56 (hh hs) :
    (xbM.slice (Rect.unit (s := S2x256x256) ![1, 0, 0] S1x256x256.size hh) hs).squeeze S256x256 squeezes_S1x256x256_S256x256 = xslot 1 := xslot_congr (by decide) _ _

@[sl_canon] theorem cn57 (hh) :
    (cc0_scratch9.slice (Rect.unit (s := S2) ![1] S1.size hh)).squeeze S_ squeezes_S1_S_ = xsem 1 := xsem_congr (by decide) _

@[sl_canon] theorem cn58 (hh hs) :
    dxM.slice (Rect.unit (s := S256x7168) ![0, 6912] S256x256.size hh) hs = dxblk 27 := dxblk_congr (by decide) _ _

@[sl_canon] theorem cn59 (k : Fin k0_t1_loop.trips) (hh) :
    (cc0_scratch6.slice (Rect.unit (s := S8) (k0_off1 k 0#32) S1.size hh)).squeeze S_ squeezes_S1_S_ = isem (par k) 0 := isem_congr (k0_off1_eq_0 k) _

@[sl_canon] theorem cn60 (k : Fin k0_t1_loop.trips) (hh hs) :
    (inM.slice (Rect.unit (s := S8x256x4608) (k0_off2 k 0#32) S1x256x4608.size hh) hs).squeeze S256x4608 squeezes_S1x256x4608_S256x4608 = rslot (par k) 0 := rslot_congr (k0_off2_eq_0 k) _ _

@[sl_canon] theorem cn61 (k : Fin k0_t1_loop.trips) (hh) :
    (cc0_scratch6.slice (Rect.unit (s := S8) (k0_off1 k 1#32) S1.size hh)).squeeze S_ squeezes_S1_S_ = isem (par k) 1 := isem_congr (k0_off1_eq_1 k) _

@[sl_canon] theorem cn62 (k : Fin k0_t1_loop.trips) (hh hs) :
    (inM.slice (Rect.unit (s := S8x256x4608) (k0_off2 k 1#32) S1x256x4608.size hh) hs).squeeze S256x4608 squeezes_S1x256x4608_S256x4608 = rslot (par k) 1 := rslot_congr (k0_off2_eq_1 k) _ _

@[sl_canon] theorem cn63 (k : Fin k0_t1_loop.trips) (hh) :
    (cc0_scratch6.slice (Rect.unit (s := S8) (k0_off1 k 2#32) S1.size hh)).squeeze S_ squeezes_S1_S_ = isem (par k) 2 := isem_congr (k0_off1_eq_2 k) _

@[sl_canon] theorem cn64 (k : Fin k0_t1_loop.trips) (hh hs) :
    (inM.slice (Rect.unit (s := S8x256x4608) (k0_off2 k 2#32) S1x256x4608.size hh) hs).squeeze S256x4608 squeezes_S1x256x4608_S256x4608 = rslot (par k) 2 := rslot_congr (k0_off2_eq_2 k) _ _

@[sl_canon] theorem cn65 (k : Fin k0_t1_loop.trips) (hh) :
    (cc0_scratch6.slice (Rect.unit (s := S8) (k0_off1 k 3#32) S1.size hh)).squeeze S_ squeezes_S1_S_ = isem (par k) 3 := isem_congr (k0_off1_eq_3 k) _

@[sl_canon] theorem cn66 (k : Fin k0_t1_loop.trips) (hh hs) :
    (inM.slice (Rect.unit (s := S8x256x4608) (k0_off2 k 3#32) S1x256x4608.size hh) hs).squeeze S256x4608 squeezes_S1x256x4608_S256x4608 = rslot (par k) 3 := rslot_congr (k0_off2_eq_3 k) _ _

@[sl_canon] theorem cn67 (k : Fin k0_t1_loop.trips) (hh) :
    (cc0_scratch6.slice (Rect.unit (s := S8) (k0_off14 k) S1.size hh)).squeeze S_ squeezes_S1_S_ = isem (par k) 0 := isem_congr (k0_off14_eq k) _

@[sl_canon] theorem cn68 (k : Fin k0_t1_loop.trips) (hh) :
    (cc0_scratch6.slice (Rect.unit (s := S8) (k0_off19 k) S1.size hh)).squeeze S_ squeezes_S1_S_ = isem (par k) 1 := isem_congr (k0_off19_eq k) _

@[sl_canon] theorem cn69 (k : Fin k0_t1_loop.trips) (hh) :
    (cc0_scratch6.slice (Rect.unit (s := S8) (k0_off24 k) S1.size hh)).squeeze S_ squeezes_S1_S_ = isem (par k) 2 := isem_congr (k0_off24_eq k) _

@[sl_canon] theorem cn70 (k : Fin k0_t1_loop.trips) (hh) :
    (cc0_scratch6.slice (Rect.unit (s := S8) (k0_off33 k) S1.size hh)).squeeze S_ squeezes_S1_S_ = isem (par k) 3 := isem_congr (k0_off33_eq k) _

@[sl_canon] theorem cn71 (k : Fin k0_t1_loop.trips) (hh hs) :
    (inM.slice (Rect.unit (s := S8x256x4608) (k0_off15 k) S1x256x4608.size hh) hs).squeeze S256x4608 squeezes_S1x256x4608_S256x4608 = rslot (par k) 0 := rslot_congr (k0_off15_eq k) _ _

@[sl_canon] theorem cn72 (k : Fin k0_t1_loop.trips) (hh hs) :
    (inM.slice (Rect.unit (s := S8x256x4608) (k0_off20 k) S1x256x4608.size hh) hs).squeeze S256x4608 squeezes_S1x256x4608_S256x4608 = rslot (par k) 1 := rslot_congr (k0_off20_eq k) _ _

@[sl_canon] theorem cn73 (k : Fin k0_t1_loop.trips) (hh hs) :
    (inM.slice (Rect.unit (s := S8x256x4608) (k0_off25 k) S1x256x4608.size hh) hs).squeeze S256x4608 squeezes_S1x256x4608_S256x4608 = rslot (par k) 2 := rslot_congr (k0_off25_eq k) _ _

@[sl_canon] theorem cn74 (k : Fin k0_t1_loop.trips) (hh hs) :
    (inM.slice (Rect.unit (s := S8x256x4608) (k0_off34 k) S1x256x4608.size hh) hs).squeeze S256x4608 squeezes_S1x256x4608_S256x4608 = rslot (par k) 3 := rslot_congr (k0_off34_eq k) _ _

@[sl_canon] theorem cn75 (k : Fin k0_t1_loop.trips) (hh hs) :
    wM.slice (Rect.unit (s := S7168x18432) (k0_off3 k) S256x4608.size hh) hs = wblk (Ring.bk 28 k) 0 := wblk_congr (k0_off3_eq k) _ _

@[sl_canon] theorem cn76 (k : Fin k0_t1_loop.trips) (hh hs) :
    wcM.slice (Rect.unit (s := S7168x18432) (k0_off3 k) S256x4608.size hh) hs = wcblk (Ring.bk 28 k) 0 := wcblk_congr (k0_off3_eq k) _ _

@[sl_canon] theorem cn77 (k : Fin k0_t1_loop.trips) (hh hs) :
    wM.slice (Rect.unit (s := S7168x18432) (k0_off17 k) S256x4608.size hh) hs = wblk (Ring.bk 28 k) 1 := wblk_congr (k0_off17_eq k) _ _

@[sl_canon] theorem cn78 (k : Fin k0_t1_loop.trips) (hh hs) :
    wcM.slice (Rect.unit (s := S7168x18432) (k0_off17 k) S256x4608.size hh) hs = wcblk (Ring.bk 28 k) 1 := wcblk_congr (k0_off17_eq k) _ _

@[sl_canon] theorem cn79 (k : Fin k0_t1_loop.trips) (hh hs) :
    wM.slice (Rect.unit (s := S7168x18432) (k0_off22 k) S256x4608.size hh) hs = wblk (Ring.bk 28 k) 2 := wblk_congr (k0_off22_eq k) _ _

@[sl_canon] theorem cn80 (k : Fin k0_t1_loop.trips) (hh hs) :
    wcM.slice (Rect.unit (s := S7168x18432) (k0_off22 k) S256x4608.size hh) hs = wcblk (Ring.bk 28 k) 2 := wcblk_congr (k0_off22_eq k) _ _

@[sl_canon] theorem cn81 (k : Fin k0_t1_loop.trips) (hh hs) :
    wM.slice (Rect.unit (s := S7168x18432) (k0_off27 k) S256x4608.size hh) hs = wblk (Ring.bk 28 k) 3 := wblk_congr (k0_off27_eq k) _ _

@[sl_canon] theorem cn82 (k : Fin k0_t1_loop.trips) (hh hs) :
    wcM.slice (Rect.unit (s := S7168x18432) (k0_off27 k) S256x4608.size hh) hs = wcblk (Ring.bk 28 k) 3 := wcblk_congr (k0_off27_eq k) _ _

@[sl_canon] theorem cn83 (k : Fin k0_t1_loop.trips) (h : k.val + 2 < 28) (hh hs) :
    wM.slice (Rect.unit (s := S7168x18432) (k0_off16 k) S256x4608.size hh) hs = wblk (Ring.bk 28 (k + 2)) 0 := wblk_congr (k0_off16_eq k h) _ _

@[sl_canon] theorem cn84 (k : Fin k0_t1_loop.trips) (h : k.val + 2 < 28) (hh hs) :
    wM.slice (Rect.unit (s := S7168x18432) (k0_off21 k) S256x4608.size hh) hs = wblk (Ring.bk 28 (k + 2)) 1 := wblk_congr (k0_off21_eq k h) _ _

@[sl_canon] theorem cn85 (k : Fin k0_t1_loop.trips) (h : k.val + 2 < 28) (hh hs) :
    wM.slice (Rect.unit (s := S7168x18432) (k0_off26 k) S256x4608.size hh) hs = wblk (Ring.bk 28 (k + 2)) 2 := wblk_congr (k0_off26_eq k h) _ _

@[sl_canon] theorem cn86 (k : Fin k0_t1_loop.trips) (h : k.val + 2 < 28) (hh hs) :
    wM.slice (Rect.unit (s := S7168x18432) (k0_off35 k) S256x4608.size hh) hs = wblk (Ring.bk 28 (k + 2)) 3 := wblk_congr (k0_off35_eq k h) _ _

@[sl_canon] theorem cn87 (k : Fin k0_t1_loop.trips) (h : 1 ≤ k.val) (hh hs) :
    wcM.slice (Rect.unit (s := S7168x18432) (k0_off4 k) S256x4608.size hh) hs = wcblk (Ring.bk 28 (k - 1)) 0 := wcblk_congr (k0_off4_eq k h) _ _

@[sl_canon] theorem cn88 (k : Fin k0_t1_loop.trips) (h : 1 ≤ k.val) (hh hs) :
    wcM.slice (Rect.unit (s := S7168x18432) (k0_off18 k) S256x4608.size hh) hs = wcblk (Ring.bk 28 (k - 1)) 1 := wcblk_congr (k0_off18_eq k h) _ _

@[sl_canon] theorem cn89 (k : Fin k0_t1_loop.trips) (h : 1 ≤ k.val) (hh hs) :
    wcM.slice (Rect.unit (s := S7168x18432) (k0_off23 k) S256x4608.size hh) hs = wcblk (Ring.bk 28 (k - 1)) 2 := wcblk_congr (k0_off23_eq k h) _ _

@[sl_canon] theorem cn90 (k : Fin k0_t1_loop.trips) (h : 1 ≤ k.val) (hh hs) :
    wcM.slice (Rect.unit (s := S7168x18432) (k0_off28 k) S256x4608.size hh) hs = wcblk (Ring.bk 28 (k - 1)) 3 := wcblk_congr (k0_off28_eq k h) _ _

@[sl_canon] theorem cn91 (k : Fin k0_t1_loop.trips) (h : 2 ≤ k.val) (hh) :
    (cc0_scratch9.slice (Rect.unit (s := S2) (k0_off29 k) S1.size hh)).squeeze S_ squeezes_S1_S_ = xsem (par k) := xsem_congr (k0_off29_eq k h) _

@[sl_canon] theorem cn92 (k : Fin k0_t1_loop.trips) (h : 2 ≤ k.val) (hh hs) :
    dxM.slice (Rect.unit (s := S256x7168) (k0_off30 k) S256x256.size hh) hs = dxblk (Ring.bk 28 (k - 2)) := dxblk_congr (k0_off30_eq k h) _ _

@[sl_canon] theorem cn93 (k : Fin k0_t1_loop.trips) (h : 2 ≤ k.val) (hh hs) :
    (xbM.slice (Rect.unit (s := S2x256x256) (k0_off31 k) S1x256x256.size hh) hs).squeeze S256x256 squeezes_S1x256x256_S256x256 = xslot (par k) := xslot_congr (k0_off31_eq k h) _ _

@[sl_canon] theorem cn94 (k : Fin k0_t1_loop.trips) (hh) :
    (cc0_scratch9.slice (Rect.unit (s := S2) (k0_off36 k) S1.size hh)).squeeze S_ squeezes_S1_S_ = xsem (par k) := xsem_congr (k0_off36_eq k) _

@[sl_canon] theorem cn95 (k : Fin k0_t1_loop.trips) (hh hs) :
    dxM.slice (Rect.unit (s := S256x7168) (k0_off37 k) S256x256.size hh) hs = dxblk (Ring.bk 28 k) := dxblk_congr (k0_off37_eq k) _ _

@[sl_canon] theorem cn96 (k : Fin k0_t1_loop.trips) (hh hs) :
    (xbM.slice (Rect.unit (s := S2x256x256) (k0_off38 k) S1x256x256.size hh) hs).squeeze S256x256 squeezes_S1x256x256_S256x256 = xslot (par k) := xslot_congr (k0_off38_eq k) _ _

/-! ## The windows the loop reads and writes through the whole buffers -/

instance (k : Fin k0_t1_loop.trips) : ClosedOff (k0_off32 k) := ⟨off2 (par k), k0_off32_eq k⟩

section
variable (k : Fin k0_t1_loop.trips)

theorem k0_off5_eq_0 : k0_off5 k 0#32 = ![4 * (par k).val + 0, 0, 0] := by
  revert k; decide +kernel

instance : ClosedOff (k0_off5 k 0#32) := ⟨![4 * (par k).val + 0, 0, 0], k0_off5_eq_0 k⟩

theorem k0_off5_eq_1 : k0_off5 k 1#32 = ![4 * (par k).val + 1, 0, 0] := by
  revert k; decide +kernel

instance : ClosedOff (k0_off5 k 1#32) := ⟨![4 * (par k).val + 1, 0, 0], k0_off5_eq_1 k⟩

theorem k0_off5_eq_2 : k0_off5 k 2#32 = ![4 * (par k).val + 2, 0, 0] := by
  revert k; decide +kernel

instance : ClosedOff (k0_off5 k 2#32) := ⟨![4 * (par k).val + 2, 0, 0], k0_off5_eq_2 k⟩

theorem k0_off5_eq_3 : k0_off5 k 3#32 = ![4 * (par k).val + 3, 0, 0] := by
  revert k; decide +kernel

instance : ClosedOff (k0_off5 k 3#32) := ⟨![4 * (par k).val + 3, 0, 0], k0_off5_eq_3 k⟩

theorem k0_off6_eq_0 : k0_off6 k 0#32 = ![4 * (par k).val + 0, 0, 512] := by
  revert k; decide +kernel

instance : ClosedOff (k0_off6 k 0#32) := ⟨![4 * (par k).val + 0, 0, 512], k0_off6_eq_0 k⟩

theorem k0_off6_eq_1 : k0_off6 k 1#32 = ![4 * (par k).val + 1, 0, 512] := by
  revert k; decide +kernel

instance : ClosedOff (k0_off6 k 1#32) := ⟨![4 * (par k).val + 1, 0, 512], k0_off6_eq_1 k⟩

theorem k0_off6_eq_2 : k0_off6 k 2#32 = ![4 * (par k).val + 2, 0, 512] := by
  revert k; decide +kernel

instance : ClosedOff (k0_off6 k 2#32) := ⟨![4 * (par k).val + 2, 0, 512], k0_off6_eq_2 k⟩

theorem k0_off6_eq_3 : k0_off6 k 3#32 = ![4 * (par k).val + 3, 0, 512] := by
  revert k; decide +kernel

instance : ClosedOff (k0_off6 k 3#32) := ⟨![4 * (par k).val + 3, 0, 512], k0_off6_eq_3 k⟩

theorem k0_off7_eq_0 : k0_off7 k 0#32 = ![4 * (par k).val + 0, 0, 1024] := by
  revert k; decide +kernel

instance : ClosedOff (k0_off7 k 0#32) := ⟨![4 * (par k).val + 0, 0, 1024], k0_off7_eq_0 k⟩

theorem k0_off7_eq_1 : k0_off7 k 1#32 = ![4 * (par k).val + 1, 0, 1024] := by
  revert k; decide +kernel

instance : ClosedOff (k0_off7 k 1#32) := ⟨![4 * (par k).val + 1, 0, 1024], k0_off7_eq_1 k⟩

theorem k0_off7_eq_2 : k0_off7 k 2#32 = ![4 * (par k).val + 2, 0, 1024] := by
  revert k; decide +kernel

instance : ClosedOff (k0_off7 k 2#32) := ⟨![4 * (par k).val + 2, 0, 1024], k0_off7_eq_2 k⟩

theorem k0_off7_eq_3 : k0_off7 k 3#32 = ![4 * (par k).val + 3, 0, 1024] := by
  revert k; decide +kernel

instance : ClosedOff (k0_off7 k 3#32) := ⟨![4 * (par k).val + 3, 0, 1024], k0_off7_eq_3 k⟩

theorem k0_off8_eq_0 : k0_off8 k 0#32 = ![4 * (par k).val + 0, 0, 1536] := by
  revert k; decide +kernel

instance : ClosedOff (k0_off8 k 0#32) := ⟨![4 * (par k).val + 0, 0, 1536], k0_off8_eq_0 k⟩

theorem k0_off8_eq_1 : k0_off8 k 1#32 = ![4 * (par k).val + 1, 0, 1536] := by
  revert k; decide +kernel

instance : ClosedOff (k0_off8 k 1#32) := ⟨![4 * (par k).val + 1, 0, 1536], k0_off8_eq_1 k⟩

theorem k0_off8_eq_2 : k0_off8 k 2#32 = ![4 * (par k).val + 2, 0, 1536] := by
  revert k; decide +kernel

instance : ClosedOff (k0_off8 k 2#32) := ⟨![4 * (par k).val + 2, 0, 1536], k0_off8_eq_2 k⟩

theorem k0_off8_eq_3 : k0_off8 k 3#32 = ![4 * (par k).val + 3, 0, 1536] := by
  revert k; decide +kernel

instance : ClosedOff (k0_off8 k 3#32) := ⟨![4 * (par k).val + 3, 0, 1536], k0_off8_eq_3 k⟩

theorem k0_off9_eq_0 : k0_off9 k 0#32 = ![4 * (par k).val + 0, 0, 2048] := by
  revert k; decide +kernel

instance : ClosedOff (k0_off9 k 0#32) := ⟨![4 * (par k).val + 0, 0, 2048], k0_off9_eq_0 k⟩

theorem k0_off9_eq_1 : k0_off9 k 1#32 = ![4 * (par k).val + 1, 0, 2048] := by
  revert k; decide +kernel

instance : ClosedOff (k0_off9 k 1#32) := ⟨![4 * (par k).val + 1, 0, 2048], k0_off9_eq_1 k⟩

theorem k0_off9_eq_2 : k0_off9 k 2#32 = ![4 * (par k).val + 2, 0, 2048] := by
  revert k; decide +kernel

instance : ClosedOff (k0_off9 k 2#32) := ⟨![4 * (par k).val + 2, 0, 2048], k0_off9_eq_2 k⟩

theorem k0_off9_eq_3 : k0_off9 k 3#32 = ![4 * (par k).val + 3, 0, 2048] := by
  revert k; decide +kernel

instance : ClosedOff (k0_off9 k 3#32) := ⟨![4 * (par k).val + 3, 0, 2048], k0_off9_eq_3 k⟩

theorem k0_off10_eq_0 : k0_off10 k 0#32 = ![4 * (par k).val + 0, 0, 2560] := by
  revert k; decide +kernel

instance : ClosedOff (k0_off10 k 0#32) := ⟨![4 * (par k).val + 0, 0, 2560], k0_off10_eq_0 k⟩

theorem k0_off10_eq_1 : k0_off10 k 1#32 = ![4 * (par k).val + 1, 0, 2560] := by
  revert k; decide +kernel

instance : ClosedOff (k0_off10 k 1#32) := ⟨![4 * (par k).val + 1, 0, 2560], k0_off10_eq_1 k⟩

theorem k0_off10_eq_2 : k0_off10 k 2#32 = ![4 * (par k).val + 2, 0, 2560] := by
  revert k; decide +kernel

instance : ClosedOff (k0_off10 k 2#32) := ⟨![4 * (par k).val + 2, 0, 2560], k0_off10_eq_2 k⟩

theorem k0_off10_eq_3 : k0_off10 k 3#32 = ![4 * (par k).val + 3, 0, 2560] := by
  revert k; decide +kernel

instance : ClosedOff (k0_off10 k 3#32) := ⟨![4 * (par k).val + 3, 0, 2560], k0_off10_eq_3 k⟩

theorem k0_off11_eq_0 : k0_off11 k 0#32 = ![4 * (par k).val + 0, 0, 3072] := by
  revert k; decide +kernel

instance : ClosedOff (k0_off11 k 0#32) := ⟨![4 * (par k).val + 0, 0, 3072], k0_off11_eq_0 k⟩

theorem k0_off11_eq_1 : k0_off11 k 1#32 = ![4 * (par k).val + 1, 0, 3072] := by
  revert k; decide +kernel

instance : ClosedOff (k0_off11 k 1#32) := ⟨![4 * (par k).val + 1, 0, 3072], k0_off11_eq_1 k⟩

theorem k0_off11_eq_2 : k0_off11 k 2#32 = ![4 * (par k).val + 2, 0, 3072] := by
  revert k; decide +kernel

instance : ClosedOff (k0_off11 k 2#32) := ⟨![4 * (par k).val + 2, 0, 3072], k0_off11_eq_2 k⟩

theorem k0_off11_eq_3 : k0_off11 k 3#32 = ![4 * (par k).val + 3, 0, 3072] := by
  revert k; decide +kernel

instance : ClosedOff (k0_off11 k 3#32) := ⟨![4 * (par k).val + 3, 0, 3072], k0_off11_eq_3 k⟩

theorem k0_off12_eq_0 : k0_off12 k 0#32 = ![4 * (par k).val + 0, 0, 3584] := by
  revert k; decide +kernel

instance : ClosedOff (k0_off12 k 0#32) := ⟨![4 * (par k).val + 0, 0, 3584], k0_off12_eq_0 k⟩

theorem k0_off12_eq_1 : k0_off12 k 1#32 = ![4 * (par k).val + 1, 0, 3584] := by
  revert k; decide +kernel

instance : ClosedOff (k0_off12 k 1#32) := ⟨![4 * (par k).val + 1, 0, 3584], k0_off12_eq_1 k⟩

theorem k0_off12_eq_2 : k0_off12 k 2#32 = ![4 * (par k).val + 2, 0, 3584] := by
  revert k; decide +kernel

instance : ClosedOff (k0_off12 k 2#32) := ⟨![4 * (par k).val + 2, 0, 3584], k0_off12_eq_2 k⟩

theorem k0_off12_eq_3 : k0_off12 k 3#32 = ![4 * (par k).val + 3, 0, 3584] := by
  revert k; decide +kernel

instance : ClosedOff (k0_off12 k 3#32) := ⟨![4 * (par k).val + 3, 0, 3584], k0_off12_eq_3 k⟩

theorem k0_off13_eq_0 : k0_off13 k 0#32 = ![4 * (par k).val + 0, 0, 4096] := by
  revert k; decide +kernel

instance : ClosedOff (k0_off13 k 0#32) := ⟨![4 * (par k).val + 0, 0, 4096], k0_off13_eq_0 k⟩

theorem k0_off13_eq_1 : k0_off13 k 1#32 = ![4 * (par k).val + 1, 0, 4096] := by
  revert k; decide +kernel

instance : ClosedOff (k0_off13 k 1#32) := ⟨![4 * (par k).val + 1, 0, 4096], k0_off13_eq_1 k⟩

theorem k0_off13_eq_2 : k0_off13 k 2#32 = ![4 * (par k).val + 2, 0, 4096] := by
  revert k; decide +kernel

instance : ClosedOff (k0_off13 k 2#32) := ⟨![4 * (par k).val + 2, 0, 4096], k0_off13_eq_2 k⟩

theorem k0_off13_eq_3 : k0_off13 k 3#32 = ![4 * (par k).val + 3, 0, 4096] := by
  revert k; decide +kernel

instance : ClosedOff (k0_off13 k 3#32) := ⟨![4 * (par k).val + 3, 0, 4096], k0_off13_eq_3 k⟩

end

/-! ## The conditions at trip `k` -/

section
variable (k : Fin k0_t1_loop.trips)

theorem cond1_pos (h : 1 ≤ k.val) : k0_cond1 k = 1#1 := by revert h; revert k; decide +kernel

theorem cond1_neg (h : ¬ 1 ≤ k.val) : k0_cond1 k = 0#1 := by revert h; revert k; decide +kernel

theorem cond3_pos (h : 1 ≤ k.val) : k0_cond3 k = 1#1 := by revert h; revert k; decide +kernel

theorem cond3_neg (h : ¬ 1 ≤ k.val) : k0_cond3 k = 0#1 := by revert h; revert k; decide +kernel

theorem cond5_pos (h : 1 ≤ k.val) : k0_cond5 k = 1#1 := by revert h; revert k; decide +kernel

theorem cond5_neg (h : ¬ 1 ≤ k.val) : k0_cond5 k = 0#1 := by revert h; revert k; decide +kernel

theorem cond7_pos (h : 1 ≤ k.val) : k0_cond7 k = 1#1 := by revert h; revert k; decide +kernel

theorem cond7_neg (h : ¬ 1 ≤ k.val) : k0_cond7 k = 0#1 := by revert h; revert k; decide +kernel

theorem cond2_pos (h : k.val + 2 < 28) : k0_cond2 k = 1#1 := by revert h; revert k; decide +kernel

theorem cond2_neg (h : ¬ k.val + 2 < 28) : k0_cond2 k = 0#1 := by revert h; revert k; decide +kernel

theorem cond4_pos (h : k.val + 2 < 28) : k0_cond4 k = 1#1 := by revert h; revert k; decide +kernel

theorem cond4_neg (h : ¬ k.val + 2 < 28) : k0_cond4 k = 0#1 := by revert h; revert k; decide +kernel

theorem cond6_pos (h : k.val + 2 < 28) : k0_cond6 k = 1#1 := by revert h; revert k; decide +kernel

theorem cond6_neg (h : ¬ k.val + 2 < 28) : k0_cond6 k = 0#1 := by revert h; revert k; decide +kernel

theorem cond9_pos (h : k.val + 2 < 28) : k0_cond9 k = 1#1 := by revert h; revert k; decide +kernel

theorem cond9_neg (h : ¬ k.val + 2 < 28) : k0_cond9 k = 0#1 := by revert h; revert k; decide +kernel

theorem cond8_pos (h : 2 ≤ k.val) : k0_cond8 k = 1#1 := by revert h; revert k; decide +kernel

theorem cond8_neg (h : ¬ 2 ≤ k.val) : k0_cond8 k = 0#1 := by revert h; revert k; decide +kernel

end

end Cert.Proof.K

end
-- ==== Proof.K.Pieces.lean ====
module

public import proofs.«01_k».proof.Proof.K.Names

/-! The pieces the kernel holds between its steps: a block at home, a slot held, a semaphore at zero, a transfer in
    flight. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

variable (c : Dev nD)

/-- The contents of a memory reference's buffer on device `c`. -/
abbrev BufOf {sp s e} (M : Memref sig .tc sp s e) : Type := Buf (Elt F) (M.view.loc (c : Thread nD τ))
/-- A memory reference held whole at contents `f`. -/
abbrev held {sp s e} (M : Memref sig .tc sp s e) (f : BufOf (F := F) c M) : sProp 𝕄 :=
  M.view.loc (c : Thread nD τ) ↦[M.view.set]{fullShare} f
/-- The same, the half of it that stays readable while the other half is lent to a transfer. -/
abbrev heldL {sp s e} (M : Memref sig .tc sp s e) (f : BufOf (F := F) c M) : sProp 𝕄 :=
  M.view.loc (c : Thread nD τ) ↦[M.view.set]{fullShare.left} f
/-- A semaphore at zero. -/
abbrev zero (s : DmaSems sig S_) : sProp 𝕄 := semVal ((c : Thread nD τ), SemLoc.dma s.sem) 0

/-- What a transfer out of `src` leaves in `dst`. -/
abbrev landed {sp sp' s e} (dst : Memref sig .tc sp s e) (src : Memref sig .tc sp' s e) (X : BufOf (F := F) c src)
    (f : BufOf (F := F) c dst) : BufOf (F := F) c dst :=
  dst.view.writes (Elt F) f [⟨Rect.whole s, ReadAs.same.apply (src.view.read (Elt F) X)⟩]

/-- Block `(b, j)` of the second operand at home. -/
abbrev homeW (XW : BufOf (F := F) c wM) (b : Fin 28) (j : Fin 4) : sProp 𝕄 := held c (wblk b j) XW
/-- A block of the second operand in flight into slot `(s, j)`. -/
abbrev flyW (XW : BufOf (F := F) c wM) (s : Fin 2) (j : Fin 4) (b : Fin 28) (f : BufOf (F := F) c (rslot s j)) : sProp 𝕄 :=
  Transfers.Flight countersEmb (c : Thread nD τ) (SemLoc.dma (isem s j).sem) () 73728
    iprop(held c (rslot s j) (landed c (rslot s j) (wblk b j) XW f) ∗ held c (wblk b j) XW)
/-- Slot `j` of the second operand's codes in flight into block `(b, j)`. -/
abbrev flyO (j : Fin 4) (b : Fin 28) (O : BufOf (F := F) c (oslot j)) (f : BufOf (F := F) c (wcblk b j)) : sProp 𝕄 :=
  Transfers.Flight countersEmb (c : Thread nD τ) (SemLoc.dma (osem j).sem) () 36864
    iprop(held c (wcblk b j) (landed c (wcblk b j) (oslot j) O f) ∗ held c (oslot j) O)
/-- Slot `s` of the product's buffer in flight into block `b`. -/
abbrev flyX (s : Fin 2) (b : Fin 28) (O : BufOf (F := F) c (xslot s)) (f : BufOf (F := F) c (dxblk b)) : sProp 𝕄 :=
  Transfers.Flight countersEmb (c : Thread nD τ) (SemLoc.dma (xsem s).sem) () 4096
    iprop(held c (dxblk b) (landed c (dxblk b) (xslot s) O f) ∗ held c (xslot s) O)

end Cert.Proof.K

end
-- ==== Proof.K.Model.lean ====
module

public import proofs.«01_k».proof.Proof.K.Pieces
public import Idealize.ShloMosaic.Lib.ValueLayout

/-! What the kernel computes, one step at a time: the codes of an element, the product of two pieces, the running
    largest magnitude; and what its reads and writes of the buffers are in those terms. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

/-! ## The steps -/

/-- The codes of a piece: scaled by `v` rounded to the operand's format, clipped, cast. -/
def qvec (v : F .f32) (x : FVec F S256x512 .bf16) : FVec F S256x512 .fp8e4m3 :=
  truncf .fp8e4m3 (minimumf (broadcast S256x512 (Scalar.truncf .bf16 bitsLt_bf16_f32 (Scalar.ofBits .f32 0x43E00000#32)))
    (maximumf (broadcast S256x512 (Scalar.truncf .bf16 bitsLt_bf16_f32 (Scalar.ofBits .f32 0xC3E00000#32)))
      (mulf x (truncf .bf16 (broadcast S256x512 v) bitsLt_bf16_f32)))) bitsLt_fp8e4m3_bf16
/-- The code of one element. -/
def qel (v : F .f32) (x : F .bf16) : F .fp8e4m3 := qvec v (fun _ => x) (ix2 (n0 := 256) (n1 := 512) 0 0)
theorem qvec_apply (v : F .f32) (x : FVec F S256x512 .bf16) (i : S256x512.Idx) : qvec v x i = qel v (x i) := rfl
/-- The codes of a piece with a leading axis of one, as the kernel stores them. -/
def qrow (v : F .f32) (x : Vec F S1x256x512 .bf16) : FVec F S1x256x512 .fp8e4m3 :=
  shapeCast S1x256x512 (qvec v (shapeCast S256x512 x shapeCasts_S1x256x512_S256x512)) shapeCasts_S256x512_S1x256x512
theorem qrow_apply (v : F .f32) (x : Vec F S1x256x512 .bf16) (i : Fin 256) (t : Fin 512) :
    qrow v x (ix3 0 i t) = qel v (x (ix3 0 i t)) := by
  unfold qrow
  rw [shapeCast_ab_1ab_apply, qvec_apply, shapeCast_1ab_ab_apply]

/-- The product of a piece of the first operand's codes with a piece of the second's. -/
def mm (v : F .f32) (d : Vec F S1x256x512 .fp8e4m3) (x : Vec F S1x256x512 .bf16) : FVec F S256x256 .f32 :=
  matmul dot_S256x512_S256x512_S256x256_1_1_0_0_n_n none (shapeCast S256x512 d shapeCasts_S1x256x512_S256x512)
    (qvec v (shapeCast S256x512 x shapeCasts_S1x256x512_S256x512)) (constant S256x256 .f32 0x00000000#32)
/-- The sum of the products of pieces `0` to `n`. -/
def part (v : F .f32) (d : ℕ → Vec F S1x256x512 .fp8e4m3) (x : ℕ → Vec F S1x256x512 .bf16) : ℕ → FVec F S256x256 .f32
  | 0 => mm v (d 0) (x 0)
  | n + 1 => addf (part v d x n) (mm v (d (n + 1)) (x (n + 1)))
/-- The block of the product: scaled and cast. -/
def dxPay (s : F .f32) (p : FVec F S256x256 .f32) : FVec F S256x256 .bf16 :=
  truncf .bf16 (mulf p (broadcast S256x256 s)) bitsLt_bf16_f32

/-- The running largest magnitude after a piece. -/
def amStep (r : FVec F S16x512 .bf16) (x : FVec F S256x512 .bf16) : FVec F S16x512 .bf16 :=
  maximumf (maximumf (maximumf (maximumf (maximumf (maximumf (maximumf (maximumf (maximumf (maximumf (maximumf (maximumf (maximumf (maximumf (maximumf (maximumf (r)
    (extractStridedSlice S16x512 ![0, 0] (absf x) slices_S256x512_o0_0_S16x512))
    (extractStridedSlice S16x512 ![16, 0] (absf x) slices_S256x512_o16_0_S16x512))
    (extractStridedSlice S16x512 ![32, 0] (absf x) slices_S256x512_o32_0_S16x512))
    (extractStridedSlice S16x512 ![48, 0] (absf x) slices_S256x512_o48_0_S16x512))
    (extractStridedSlice S16x512 ![64, 0] (absf x) slices_S256x512_o64_0_S16x512))
    (extractStridedSlice S16x512 ![80, 0] (absf x) slices_S256x512_o80_0_S16x512))
    (extractStridedSlice S16x512 ![96, 0] (absf x) slices_S256x512_o96_0_S16x512))
    (extractStridedSlice S16x512 ![112, 0] (absf x) slices_S256x512_o112_0_S16x512))
    (extractStridedSlice S16x512 ![128, 0] (absf x) slices_S256x512_o128_0_S16x512))
    (extractStridedSlice S16x512 ![144, 0] (absf x) slices_S256x512_o144_0_S16x512))
    (extractStridedSlice S16x512 ![160, 0] (absf x) slices_S256x512_o160_0_S16x512))
    (extractStridedSlice S16x512 ![176, 0] (absf x) slices_S256x512_o176_0_S16x512))
    (extractStridedSlice S16x512 ![192, 0] (absf x) slices_S256x512_o192_0_S16x512))
    (extractStridedSlice S16x512 ![208, 0] (absf x) slices_S256x512_o208_0_S16x512))
    (extractStridedSlice S16x512 ![224, 0] (absf x) slices_S256x512_o224_0_S16x512))
    (extractStridedSlice S16x512 ![240, 0] (absf x) slices_S256x512_o240_0_S16x512)
/-- The same after pieces `0` to `n - 1`. -/
def amN (x : ℕ → Vec F S1x256x512 .bf16) (A : FVec F S16x512 .bf16) : ℕ → FVec F S16x512 .bf16
  | 0 => A
  | n + 1 => amStep (amN x A n) (shapeCast S256x512 (x n) shapeCasts_S1x256x512_S256x512)

/-! ## The operands in pieces -/

/-- Piece `t` of the rows of block `b` of the second operand: 512 columns from column `512 t`. -/
def xsub (XW : S7168x18432.Idx → F .bf16) (b t : ℕ) : Vec F S1x256x512 .bf16 := fun i =>
  XW (ix2 (Fin.ofNat 7168 (256 * b + (i 1).val)) (Fin.ofNat 18432 (512 * t + (i 2).val)))
/-- Piece `t` of the first operand's codes. -/
def dsub (YC : S256x18432.Idx → F .fp8e4m3) (t : ℕ) : Vec F S1x256x512 .fp8e4m3 := fun i =>
  YC (ix2 (i 1) (Fin.ofNat 18432 (512 * t + (i 2).val)))
/-- Piece `t` of the first operand. -/
def ysub (XD : S256x18432.Idx → F .bf16) (t : ℕ) : Vec F S1x256x512 .bf16 := fun i =>
  XD (ix2 (i 1) (Fin.ofNat 18432 (512 * t + (i 2).val)))

/-- The codes of the second operand. -/
def WCf (v : F .f32) (XW : S7168x18432.Idx → F .bf16) : S7168x18432.Idx → F .fp8e4m3 := fun i => qel v (XW i)
/-- The codes of the first operand. -/
def YCf (v : F .f32) (XD : S256x18432.Idx → F .bf16) : S256x18432.Idx → F .fp8e4m3 := fun i => qel v (XD i)
/-- The same as the kernel keeps them, in four slots. -/
def DCf (YC : S256x18432.Idx → F .fp8e4m3) : S4x256x4608.Idx → F .fp8e4m3 := fun i =>
  YC (ix2 (i 1) (Fin.ofNat 18432 (4608 * (i 0).val + (i 2).val)))
/-- Block `b` of the product. -/
def dxv (v s : F .f32) (YC : S256x18432.Idx → F .fp8e4m3) (XW : S7168x18432.Idx → F .bf16) (b : ℕ) : FVec F S256x256 .bf16 :=
  dxPay s (part v (dsub YC) (xsub XW b) 35)
/-- The product. -/
def DXf (v s : F .f32) (YC : S256x18432.Idx → F .fp8e4m3) (XW : S7168x18432.Idx → F .bf16) : S256x7168.Idx → F .bf16 := fun i =>
  dxv v s YC XW ((i 1).val / 256) (ix2 (i 0) (Fin.ofNat 256 (i 1).val))
/-- The running largest magnitude of the second operand before block `b`. -/
def amW (XW : S7168x18432.Idx → F .bf16) (A : FVec F S16x512 .bf16) : ℕ → FVec F S16x512 .bf16
  | 0 => A
  | b + 1 => amN (xsub XW b) (amW XW A b) 36

/-! ## Where the pieces lie -/

section Emb

theorem rslot_emb (s : Fin 2) (j : Fin 4) (a : Fin 256) (b : Fin 4608) :
    (rslot s j).view.emb (ix2 a b) = (ix3 (⟨4 * s.val + j.val, by omega⟩ : Fin 8) a b : S8x256x4608.Idx) := by
  have h := shapeCast_1ab_ab_apply (a := 256) (b := 4608)
    (fun y : S1x256x4608.Idx => (Rect.unit (s := S8x256x4608) (off8 s j) S1x256x4608.size (off8_inb s j)).emb y) (by decide) a b
  refine Eq.trans h ?_
  funext r; refine Fin.ext ?_
  fin_cases r
  · show 4 * s.val + j.val + 1 * 0 = 4 * s.val + j.val; omega
  · show 0 + 1 * a.val = a.val; omega
  · show 0 + 1 * b.val = b.val; omega
theorem oslot_emb (j : Fin 4) (a : Fin 256) (b : Fin 4608) :
    (oslot j).view.emb (ix2 a b) = (ix3 j a b : S4x256x4608.Idx) := by
  have h := shapeCast_1ab_ab_apply (a := 256) (b := 4608)
    (fun y : S1x256x4608.Idx => (Rect.unit (s := S4x256x4608) (off4 j) S1x256x4608.size (off4_inb j)).emb y) (by decide) a b
  refine Eq.trans h ?_
  funext r; refine Fin.ext ?_
  fin_cases r
  · show j.val + 1 * 0 = j.val; omega
  · show 0 + 1 * a.val = a.val; omega
  · show 0 + 1 * b.val = b.val; omega
theorem dslot_emb (j : Fin 4) (a : Fin 256) (b : Fin 4608) :
    (dslot j).view.emb (ix2 a b) = (ix3 j a b : S4x256x4608.Idx) := by
  have h := shapeCast_1ab_ab_apply (a := 256) (b := 4608)
    (fun y : S1x256x4608.Idx => (Rect.unit (s := S4x256x4608) (off4 j) S1x256x4608.size (off4_inb j)).emb y) (by decide) a b
  refine Eq.trans h ?_
  funext r; refine Fin.ext ?_
  fin_cases r
  · show j.val + 1 * 0 = j.val; omega
  · show 0 + 1 * a.val = a.val; omega
  · show 0 + 1 * b.val = b.val; omega
theorem xslot_emb (s : Fin 2) (a : Fin 256) (b : Fin 256) :
    (xslot s).view.emb (ix2 a b) = (ix3 s a b : S2x256x256.Idx) := by
  have h := shapeCast_1ab_ab_apply (a := 256) (b := 256)
    (fun y : S1x256x256.Idx => (Rect.unit (s := S2x256x256) (off2 s) S1x256x256.size (off2_inb s)).emb y) shapeCasts_S1x256x256_S256x256 a b
  refine Eq.trans h ?_
  funext r; refine Fin.ext ?_
  fin_cases r
  · show s.val + 1 * 0 = s.val; omega
  · show 0 + 1 * a.val = a.val; omega
  · show 0 + 1 * b.val = b.val; omega
theorem wblk_emb (n : Fin 28) (j : Fin 4) (a : Fin 256) (b : Fin 4608) :
    (wblk n j).view.emb (ix2 a b) = (ix2 (⟨256 * n.val + a.val, by omega⟩ : Fin 7168) (⟨4608 * j.val + b.val, by omega⟩ : Fin 18432) : S7168x18432.Idx) := by
  funext r; refine Fin.ext ?_
  fin_cases r
  · show 256 * n.val + 1 * a.val = 256 * n.val + a.val; omega
  · show 4608 * j.val + 1 * b.val = 4608 * j.val + b.val; omega
theorem wcblk_emb (n : Fin 28) (j : Fin 4) (a : Fin 256) (b : Fin 4608) :
    (wcblk n j).view.emb (ix2 a b) = (ix2 (⟨256 * n.val + a.val, by omega⟩ : Fin 7168) (⟨4608 * j.val + b.val, by omega⟩ : Fin 18432) : S7168x18432.Idx) := by
  funext r; refine Fin.ext ?_
  fin_cases r
  · show 256 * n.val + 1 * a.val = 256 * n.val + a.val; omega
  · show 4608 * j.val + 1 * b.val = 4608 * j.val + b.val; omega
theorem dyblk_emb (j : Fin 4) (a : Fin 256) (b : Fin 4608) :
    (dyblk j).view.emb (ix2 a b) = (ix2 a (⟨4608 * j.val + b.val, by omega⟩ : Fin 18432) : S256x18432.Idx) := by
  funext r; refine Fin.ext ?_
  fin_cases r
  · show 0 + 1 * a.val = a.val; omega
  · show 4608 * j.val + 1 * b.val = 4608 * j.val + b.val; omega
theorem dycblk_emb (j : Fin 4) (a : Fin 256) (b : Fin 4608) :
    (dycblk j).view.emb (ix2 a b) = (ix2 a (⟨4608 * j.val + b.val, by omega⟩ : Fin 18432) : S256x18432.Idx) := by
  funext r; refine Fin.ext ?_
  fin_cases r
  · show 0 + 1 * a.val = a.val; omega
  · show 4608 * j.val + 1 * b.val = 4608 * j.val + b.val; omega
theorem dxblk_emb (n : Fin 28) (a : Fin 256) (b : Fin 256) :
    (dxblk n).view.emb (ix2 a b) = (ix2 a (⟨256 * n.val + b.val, by omega⟩ : Fin 7168) : S256x7168.Idx) := by
  funext r; refine Fin.ext ?_
  fin_cases r
  · show 0 + 1 * a.val = a.val; omega
  · show 256 * n.val + 1 * b.val = 256 * n.val + b.val; omega

end Emb

end Cert.Proof.K

end
-- ==== Proof.K.Reads.lean ====
module

public import proofs.«01_k».proof.Proof.K.Model

/-! What a trip loads, stores and sends, in terms of the steps of the model. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

variable (c : Dev nD)

/-! ## Loads -/

/-- A load of a piece of slot `(s, j)` after block `(b, j)` landed in it. -/
def rd (off : Fin 3 → Nat) (hh : ∀ a, off a + S1x256x512.size a ≤ S8x256x4608.size a) (s : Fin 2) (b : Fin 28) (j : Fin 4)
    (XW : BufOf (F := F) c wM) : Vec F S1x256x512 .bf16 :=
  View.readAt (Elt F) inM.view (Rect.unit (s := S8x256x4608) off S1x256x512.size hh).toLoadRect
    ((rslot s j).view.writes (Elt F) (rslot s j).view.junk [⟨Rect.whole S256x4608, ReadAs.same.apply ((wblk b j).view.read (Elt F) XW)⟩])

/-- A buffer after the whole of a piece of it is written, at an index of the piece. -/
theorem writes_whole_emb {κ} {sp} {s : Shape} {e} (v : View sig κ sp s e) (f : v.ty.Contents (Elt F)) (p : s.Idx → Elt F e)
    (L : List (View.Piece (Elt F) s e)) (x : s.Idx) :
    v.writes (Elt F) f (⟨Rect.whole s, p⟩ :: L) (v.emb x) = _root_.cast (congrArg (Elt F) v.elt_eq.symm) (p x) := by
  have h := View.write_emb_of_mem (Val := Elt F) (v := v.slice (Rect.whole s)) (v.writes (Elt F) f L) p (Finset.mem_univ x)
  have he : (v.slice (Rect.whole s)).emb x = v.emb x := congrArg v.emb (Rect.emb_whole_apply _ x)
  rw [he] at h
  exact h

theorem readAt_in (r : Rect S8x256x4608) (g : S8x256x4608.Idx → F .bf16) (i : r.shape.Idx) :
    View.readAt (Elt F) inM.view r.toLoadRect g i = g (r.emb i) := rfl
theorem read_wblk (b : Fin 28) (j : Fin 4) (X : S7168x18432.Idx → F .bf16) (x : S256x4608.Idx) :
    (ReadAs.same.apply ((wblk b j).view.read (Elt F) X) : S256x4608.Idx → F .bf16) x = X ((wblk b j).view.emb x) := rfl

theorem rd_eq (off) (hh) (s : Fin 2) (b : Fin 28) (j : Fin 4) (XW : BufOf (F := F) c wM) (t : ℕ) (ht : t < 9)
    (ho : off = ![4 * s.val + j.val, 0, 512 * t]) : rd c off hh s b j XW = xsub XW b.val (9 * j.val + t) := by
  subst ho
  funext i
  obtain ⟨i0, i1, i2, rfl⟩ : ∃ (i0 : Fin 1) (i1 : Fin 256) (i2 : Fin 512), i = ix3 i0 i1 i2 := ⟨i 0, i 1, i 2, eq_ix3 i⟩
  have hE : (Rect.unit (s := S8x256x4608) ![4 * s.val + j.val, 0, 512 * t] S1x256x512.size hh).emb (ix3 i0 i1 i2)
      = (rslot s j).view.emb (ix2 i1 (⟨512 * t + i2.val, by omega⟩ : Fin 4608)) := by
    rw [rslot_emb]
    funext r; refine Fin.ext ?_
    fin_cases r
    · show 4 * s.val + j.val + 1 * i0.val = 4 * s.val + j.val; omega
    · show 0 + 1 * i1.val = i1.val; omega
    · show 512 * t + 1 * i2.val = 512 * t + i2.val; omega
  unfold rd
  generalize hp : (ReadAs.same.apply ((wblk b j).view.read (Elt F) XW) : S256x4608.Idx → F .bf16) = p
  refine (readAt_in _ _ _).trans ?_
  rw [hE]
  refine (writes_whole_emb (F := F) (rslot s j).view (rslot s j).view.junk p [] _).trans ?_
  subst hp
  refine (read_wblk b j XW _).trans ?_
  rw [wblk_emb]
  refine congrArg XW ?_
  funext r; refine Fin.ext ?_
  fin_cases r
  · show 256 * b.val + i1.val = (256 * b.val + i1.val) % 7168
    rw [Nat.mod_eq_of_lt (by omega)]
  · show 4608 * j.val + (512 * t + i2.val) = (512 * (9 * j.val + t) + i2.val) % 18432
    rw [Nat.mod_eq_of_lt (by omega)]; omega

/-- A load of a piece of the first operand's codes. -/
def rdD (off : Fin 3 → Nat) (hh : ∀ a, off a + S1x256x512.size a ≤ S4x256x4608.size a) (YC : S256x18432.Idx → F .fp8e4m3) : Vec F S1x256x512 .fp8e4m3 :=
  View.readAt (Elt F) dybM.view (Rect.unit (s := S4x256x4608) off S1x256x512.size hh).toLoadRect (DCf YC)
theorem rdD_eq (off) (hh) (YC : S256x18432.Idx → F .fp8e4m3) (j : Fin 4) (t : ℕ) (ht : t < 9) (ho : off = ![j.val, 0, 512 * t]) :
    rdD off hh YC = dsub YC (9 * j.val + t) := by
  subst ho
  funext i
  obtain ⟨i0, i1, i2, rfl⟩ : ∃ (i0 : Fin 1) (i1 : Fin 256) (i2 : Fin 512), i = ix3 i0 i1 i2 := ⟨i 0, i 1, i 2, eq_ix3 i⟩
  show YC (ix2 _ _) = YC (ix2 _ _)
  refine congrArg YC ?_
  funext r; refine Fin.ext ?_
  fin_cases r
  · show 0 + 1 * i1.val = i1.val; omega
  · show (4608 * (j.val + 1 * i0.val) + (512 * t + 1 * i2.val)) % 18432 = (512 * (9 * j.val + t) + i2.val) % 18432
    congr 1; omega

/-- What trip `k` loads of the second operand, in order. -/
def xr (k : Fin k0_t1_loop.trips) (XW : BufOf (F := F) c wM) : ℕ → Vec F S1x256x512 .bf16
  | 0 => rd c (k0_off5 k 0#32) (k0_off5_inb k 0) (par k) (Ring.bk 28 k) 0 XW
  | 1 => rd c (k0_off6 k 0#32) (k0_off6_inb k 0) (par k) (Ring.bk 28 k) 0 XW
  | 2 => rd c (k0_off7 k 0#32) (k0_off7_inb k 0) (par k) (Ring.bk 28 k) 0 XW
  | 3 => rd c (k0_off8 k 0#32) (k0_off8_inb k 0) (par k) (Ring.bk 28 k) 0 XW
  | 4 => rd c (k0_off9 k 0#32) (k0_off9_inb k 0) (par k) (Ring.bk 28 k) 0 XW
  | 5 => rd c (k0_off10 k 0#32) (k0_off10_inb k 0) (par k) (Ring.bk 28 k) 0 XW
  | 6 => rd c (k0_off11 k 0#32) (k0_off11_inb k 0) (par k) (Ring.bk 28 k) 0 XW
  | 7 => rd c (k0_off12 k 0#32) (k0_off12_inb k 0) (par k) (Ring.bk 28 k) 0 XW
  | 8 => rd c (k0_off13 k 0#32) (k0_off13_inb k 0) (par k) (Ring.bk 28 k) 0 XW
  | 9 => rd c (k0_off5 k 1#32) (k0_off5_inb k 1) (par k) (Ring.bk 28 k) 1 XW
  | 10 => rd c (k0_off6 k 1#32) (k0_off6_inb k 1) (par k) (Ring.bk 28 k) 1 XW
  | 11 => rd c (k0_off7 k 1#32) (k0_off7_inb k 1) (par k) (Ring.bk 28 k) 1 XW
  | 12 => rd c (k0_off8 k 1#32) (k0_off8_inb k 1) (par k) (Ring.bk 28 k) 1 XW
  | 13 => rd c (k0_off9 k 1#32) (k0_off9_inb k 1) (par k) (Ring.bk 28 k) 1 XW
  | 14 => rd c (k0_off10 k 1#32) (k0_off10_inb k 1) (par k) (Ring.bk 28 k) 1 XW
  | 15 => rd c (k0_off11 k 1#32) (k0_off11_inb k 1) (par k) (Ring.bk 28 k) 1 XW
  | 16 => rd c (k0_off12 k 1#32) (k0_off12_inb k 1) (par k) (Ring.bk 28 k) 1 XW
  | 17 => rd c (k0_off13 k 1#32) (k0_off13_inb k 1) (par k) (Ring.bk 28 k) 1 XW
  | 18 => rd c (k0_off5 k 2#32) (k0_off5_inb k 2) (par k) (Ring.bk 28 k) 2 XW
  | 19 => rd c (k0_off6 k 2#32) (k0_off6_inb k 2) (par k) (Ring.bk 28 k) 2 XW
  | 20 => rd c (k0_off7 k 2#32) (k0_off7_inb k 2) (par k) (Ring.bk 28 k) 2 XW
  | 21 => rd c (k0_off8 k 2#32) (k0_off8_inb k 2) (par k) (Ring.bk 28 k) 2 XW
  | 22 => rd c (k0_off9 k 2#32) (k0_off9_inb k 2) (par k) (Ring.bk 28 k) 2 XW
  | 23 => rd c (k0_off10 k 2#32) (k0_off10_inb k 2) (par k) (Ring.bk 28 k) 2 XW
  | 24 => rd c (k0_off11 k 2#32) (k0_off11_inb k 2) (par k) (Ring.bk 28 k) 2 XW
  | 25 => rd c (k0_off12 k 2#32) (k0_off12_inb k 2) (par k) (Ring.bk 28 k) 2 XW
  | 26 => rd c (k0_off13 k 2#32) (k0_off13_inb k 2) (par k) (Ring.bk 28 k) 2 XW
  | 27 => rd c (k0_off5 k 3#32) (k0_off5_inb k 3) (par k) (Ring.bk 28 k) 3 XW
  | 28 => rd c (k0_off6 k 3#32) (k0_off6_inb k 3) (par k) (Ring.bk 28 k) 3 XW
  | 29 => rd c (k0_off7 k 3#32) (k0_off7_inb k 3) (par k) (Ring.bk 28 k) 3 XW
  | 30 => rd c (k0_off8 k 3#32) (k0_off8_inb k 3) (par k) (Ring.bk 28 k) 3 XW
  | 31 => rd c (k0_off9 k 3#32) (k0_off9_inb k 3) (par k) (Ring.bk 28 k) 3 XW
  | 32 => rd c (k0_off10 k 3#32) (k0_off10_inb k 3) (par k) (Ring.bk 28 k) 3 XW
  | 33 => rd c (k0_off11 k 3#32) (k0_off11_inb k 3) (par k) (Ring.bk 28 k) 3 XW
  | 34 => rd c (k0_off12 k 3#32) (k0_off12_inb k 3) (par k) (Ring.bk 28 k) 3 XW
  | 35 => rd c (k0_off13 k 3#32) (k0_off13_inb k 3) (par k) (Ring.bk 28 k) 3 XW
  | n => xsub XW k.val n
/-- What a trip loads of the first operand's codes, in order. -/
def dr (YC : S256x18432.Idx → F .fp8e4m3) : ℕ → Vec F S1x256x512 .fp8e4m3
  | 0 => rdD ![0, 0, 0] (by decide) YC
  | 1 => rdD ![0, 0, 512] (by decide) YC
  | 2 => rdD ![0, 0, 1024] (by decide) YC
  | 3 => rdD ![0, 0, 1536] (by decide) YC
  | 4 => rdD ![0, 0, 2048] (by decide) YC
  | 5 => rdD ![0, 0, 2560] (by decide) YC
  | 6 => rdD ![0, 0, 3072] (by decide) YC
  | 7 => rdD ![0, 0, 3584] (by decide) YC
  | 8 => rdD ![0, 0, 4096] (by decide) YC
  | 9 => rdD ![1, 0, 0] (by decide) YC
  | 10 => rdD ![1, 0, 512] (by decide) YC
  | 11 => rdD ![1, 0, 1024] (by decide) YC
  | 12 => rdD ![1, 0, 1536] (by decide) YC
  | 13 => rdD ![1, 0, 2048] (by decide) YC
  | 14 => rdD ![1, 0, 2560] (by decide) YC
  | 15 => rdD ![1, 0, 3072] (by decide) YC
  | 16 => rdD ![1, 0, 3584] (by decide) YC
  | 17 => rdD ![1, 0, 4096] (by decide) YC
  | 18 => rdD ![2, 0, 0] (by decide) YC
  | 19 => rdD ![2, 0, 512] (by decide) YC
  | 20 => rdD ![2, 0, 1024] (by decide) YC
  | 21 => rdD ![2, 0, 1536] (by decide) YC
  | 22 => rdD ![2, 0, 2048] (by decide) YC
  | 23 => rdD ![2, 0, 2560] (by decide) YC
  | 24 => rdD ![2, 0, 3072] (by decide) YC
  | 25 => rdD ![2, 0, 3584] (by decide) YC
  | 26 => rdD ![2, 0, 4096] (by decide) YC
  | 27 => rdD ![3, 0, 0] (by decide) YC
  | 28 => rdD ![3, 0, 512] (by decide) YC
  | 29 => rdD ![3, 0, 1024] (by decide) YC
  | 30 => rdD ![3, 0, 1536] (by decide) YC
  | 31 => rdD ![3, 0, 2048] (by decide) YC
  | 32 => rdD ![3, 0, 2560] (by decide) YC
  | 33 => rdD ![3, 0, 3072] (by decide) YC
  | 34 => rdD ![3, 0, 3584] (by decide) YC
  | 35 => rdD ![3, 0, 4096] (by decide) YC
  | n => dsub YC n

theorem xr_eq (k : Fin k0_t1_loop.trips) (XW : BufOf (F := F) c wM) : xr c k XW = xsub XW k.val := by
  have hb : (Ring.bk 28 k.val).val = k.val := Ring.bk_val (k_lt k)
  funext n
  match n with
  | 0 => exact (rd_eq c _ _ (par k) (Ring.bk 28 k) 0 XW 0 (by decide) (k0_off5_eq_0 k)).trans (congrArg (fun b => xsub XW b 0) hb)
  | 1 => exact (rd_eq c _ _ (par k) (Ring.bk 28 k) 0 XW 1 (by decide) (k0_off6_eq_0 k)).trans (congrArg (fun b => xsub XW b 1) hb)
  | 2 => exact (rd_eq c _ _ (par k) (Ring.bk 28 k) 0 XW 2 (by decide) (k0_off7_eq_0 k)).trans (congrArg (fun b => xsub XW b 2) hb)
  | 3 => exact (rd_eq c _ _ (par k) (Ring.bk 28 k) 0 XW 3 (by decide) (k0_off8_eq_0 k)).trans (congrArg (fun b => xsub XW b 3) hb)
  | 4 => exact (rd_eq c _ _ (par k) (Ring.bk 28 k) 0 XW 4 (by decide) (k0_off9_eq_0 k)).trans (congrArg (fun b => xsub XW b 4) hb)
  | 5 => exact (rd_eq c _ _ (par k) (Ring.bk 28 k) 0 XW 5 (by decide) (k0_off10_eq_0 k)).trans (congrArg (fun b => xsub XW b 5) hb)
  | 6 => exact (rd_eq c _ _ (par k) (Ring.bk 28 k) 0 XW 6 (by decide) (k0_off11_eq_0 k)).trans (congrArg (fun b => xsub XW b 6) hb)
  | 7 => exact (rd_eq c _ _ (par k) (Ring.bk 28 k) 0 XW 7 (by decide) (k0_off12_eq_0 k)).trans (congrArg (fun b => xsub XW b 7) hb)
  | 8 => exact (rd_eq c _ _ (par k) (Ring.bk 28 k) 0 XW 8 (by decide) (k0_off13_eq_0 k)).trans (congrArg (fun b => xsub XW b 8) hb)
  | 9 => exact (rd_eq c _ _ (par k) (Ring.bk 28 k) 1 XW 0 (by decide) (k0_off5_eq_1 k)).trans (congrArg (fun b => xsub XW b 9) hb)
  | 10 => exact (rd_eq c _ _ (par k) (Ring.bk 28 k) 1 XW 1 (by decide) (k0_off6_eq_1 k)).trans (congrArg (fun b => xsub XW b 10) hb)
  | 11 => exact (rd_eq c _ _ (par k) (Ring.bk 28 k) 1 XW 2 (by decide) (k0_off7_eq_1 k)).trans (congrArg (fun b => xsub XW b 11) hb)
  | 12 => exact (rd_eq c _ _ (par k) (Ring.bk 28 k) 1 XW 3 (by decide) (k0_off8_eq_1 k)).trans (congrArg (fun b => xsub XW b 12) hb)
  | 13 => exact (rd_eq c _ _ (par k) (Ring.bk 28 k) 1 XW 4 (by decide) (k0_off9_eq_1 k)).trans (congrArg (fun b => xsub XW b 13) hb)
  | 14 => exact (rd_eq c _ _ (par k) (Ring.bk 28 k) 1 XW 5 (by decide) (k0_off10_eq_1 k)).trans (congrArg (fun b => xsub XW b 14) hb)
  | 15 => exact (rd_eq c _ _ (par k) (Ring.bk 28 k) 1 XW 6 (by decide) (k0_off11_eq_1 k)).trans (congrArg (fun b => xsub XW b 15) hb)
  | 16 => exact (rd_eq c _ _ (par k) (Ring.bk 28 k) 1 XW 7 (by decide) (k0_off12_eq_1 k)).trans (congrArg (fun b => xsub XW b 16) hb)
  | 17 => exact (rd_eq c _ _ (par k) (Ring.bk 28 k) 1 XW 8 (by decide) (k0_off13_eq_1 k)).trans (congrArg (fun b => xsub XW b 17) hb)
  | 18 => exact (rd_eq c _ _ (par k) (Ring.bk 28 k) 2 XW 0 (by decide) (k0_off5_eq_2 k)).trans (congrArg (fun b => xsub XW b 18) hb)
  | 19 => exact (rd_eq c _ _ (par k) (Ring.bk 28 k) 2 XW 1 (by decide) (k0_off6_eq_2 k)).trans (congrArg (fun b => xsub XW b 19) hb)
  | 20 => exact (rd_eq c _ _ (par k) (Ring.bk 28 k) 2 XW 2 (by decide) (k0_off7_eq_2 k)).trans (congrArg (fun b => xsub XW b 20) hb)
  | 21 => exact (rd_eq c _ _ (par k) (Ring.bk 28 k) 2 XW 3 (by decide) (k0_off8_eq_2 k)).trans (congrArg (fun b => xsub XW b 21) hb)
  | 22 => exact (rd_eq c _ _ (par k) (Ring.bk 28 k) 2 XW 4 (by decide) (k0_off9_eq_2 k)).trans (congrArg (fun b => xsub XW b 22) hb)
  | 23 => exact (rd_eq c _ _ (par k) (Ring.bk 28 k) 2 XW 5 (by decide) (k0_off10_eq_2 k)).trans (congrArg (fun b => xsub XW b 23) hb)
  | 24 => exact (rd_eq c _ _ (par k) (Ring.bk 28 k) 2 XW 6 (by decide) (k0_off11_eq_2 k)).trans (congrArg (fun b => xsub XW b 24) hb)
  | 25 => exact (rd_eq c _ _ (par k) (Ring.bk 28 k) 2 XW 7 (by decide) (k0_off12_eq_2 k)).trans (congrArg (fun b => xsub XW b 25) hb)
  | 26 => exact (rd_eq c _ _ (par k) (Ring.bk 28 k) 2 XW 8 (by decide) (k0_off13_eq_2 k)).trans (congrArg (fun b => xsub XW b 26) hb)
  | 27 => exact (rd_eq c _ _ (par k) (Ring.bk 28 k) 3 XW 0 (by decide) (k0_off5_eq_3 k)).trans (congrArg (fun b => xsub XW b 27) hb)
  | 28 => exact (rd_eq c _ _ (par k) (Ring.bk 28 k) 3 XW 1 (by decide) (k0_off6_eq_3 k)).trans (congrArg (fun b => xsub XW b 28) hb)
  | 29 => exact (rd_eq c _ _ (par k) (Ring.bk 28 k) 3 XW 2 (by decide) (k0_off7_eq_3 k)).trans (congrArg (fun b => xsub XW b 29) hb)
  | 30 => exact (rd_eq c _ _ (par k) (Ring.bk 28 k) 3 XW 3 (by decide) (k0_off8_eq_3 k)).trans (congrArg (fun b => xsub XW b 30) hb)
  | 31 => exact (rd_eq c _ _ (par k) (Ring.bk 28 k) 3 XW 4 (by decide) (k0_off9_eq_3 k)).trans (congrArg (fun b => xsub XW b 31) hb)
  | 32 => exact (rd_eq c _ _ (par k) (Ring.bk 28 k) 3 XW 5 (by decide) (k0_off10_eq_3 k)).trans (congrArg (fun b => xsub XW b 32) hb)
  | 33 => exact (rd_eq c _ _ (par k) (Ring.bk 28 k) 3 XW 6 (by decide) (k0_off11_eq_3 k)).trans (congrArg (fun b => xsub XW b 33) hb)
  | 34 => exact (rd_eq c _ _ (par k) (Ring.bk 28 k) 3 XW 7 (by decide) (k0_off12_eq_3 k)).trans (congrArg (fun b => xsub XW b 34) hb)
  | 35 => exact (rd_eq c _ _ (par k) (Ring.bk 28 k) 3 XW 8 (by decide) (k0_off13_eq_3 k)).trans (congrArg (fun b => xsub XW b 35) hb)
  | n + 36 => rfl
theorem dr_eq (YC : S256x18432.Idx → F .fp8e4m3) : dr YC = dsub YC := by
  funext n
  match n with
  | 0 => exact rdD_eq _ _ YC 0 0 (by decide) rfl
  | 1 => exact rdD_eq _ _ YC 0 1 (by decide) rfl
  | 2 => exact rdD_eq _ _ YC 0 2 (by decide) rfl
  | 3 => exact rdD_eq _ _ YC 0 3 (by decide) rfl
  | 4 => exact rdD_eq _ _ YC 0 4 (by decide) rfl
  | 5 => exact rdD_eq _ _ YC 0 5 (by decide) rfl
  | 6 => exact rdD_eq _ _ YC 0 6 (by decide) rfl
  | 7 => exact rdD_eq _ _ YC 0 7 (by decide) rfl
  | 8 => exact rdD_eq _ _ YC 0 8 (by decide) rfl
  | 9 => exact rdD_eq _ _ YC 1 0 (by decide) rfl
  | 10 => exact rdD_eq _ _ YC 1 1 (by decide) rfl
  | 11 => exact rdD_eq _ _ YC 1 2 (by decide) rfl
  | 12 => exact rdD_eq _ _ YC 1 3 (by decide) rfl
  | 13 => exact rdD_eq _ _ YC 1 4 (by decide) rfl
  | 14 => exact rdD_eq _ _ YC 1 5 (by decide) rfl
  | 15 => exact rdD_eq _ _ YC 1 6 (by decide) rfl
  | 16 => exact rdD_eq _ _ YC 1 7 (by decide) rfl
  | 17 => exact rdD_eq _ _ YC 1 8 (by decide) rfl
  | 18 => exact rdD_eq _ _ YC 2 0 (by decide) rfl
  | 19 => exact rdD_eq _ _ YC 2 1 (by decide) rfl
  | 20 => exact rdD_eq _ _ YC 2 2 (by decide) rfl
  | 21 => exact rdD_eq _ _ YC 2 3 (by decide) rfl
  | 22 => exact rdD_eq _ _ YC 2 4 (by decide) rfl
  | 23 => exact rdD_eq _ _ YC 2 5 (by decide) rfl
  | 24 => exact rdD_eq _ _ YC 2 6 (by decide) rfl
  | 25 => exact rdD_eq _ _ YC 2 7 (by decide) rfl
  | 26 => exact rdD_eq _ _ YC 2 8 (by decide) rfl
  | 27 => exact rdD_eq _ _ YC 3 0 (by decide) rfl
  | 28 => exact rdD_eq _ _ YC 3 1 (by decide) rfl
  | 29 => exact rdD_eq _ _ YC 3 2 (by decide) rfl
  | 30 => exact rdD_eq _ _ YC 3 3 (by decide) rfl
  | 31 => exact rdD_eq _ _ YC 3 4 (by decide) rfl
  | 32 => exact rdD_eq _ _ YC 3 5 (by decide) rfl
  | 33 => exact rdD_eq _ _ YC 3 6 (by decide) rfl
  | 34 => exact rdD_eq _ _ YC 3 7 (by decide) rfl
  | 35 => exact rdD_eq _ _ YC 3 8 (by decide) rfl
  | n + 36 => rfl

/-! The same, each load as it is written. -/
theorem x_0 (k : Fin k0_t1_loop.trips) (XW : BufOf (F := F) c wM) (hh) :
    View.readAt (Elt F) inM.view (Rect.unit (s := S8x256x4608) (k0_off5 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 0 := (congrFun (xr_eq c k XW) 0 : _)
theorem x_1 (k : Fin k0_t1_loop.trips) (XW : BufOf (F := F) c wM) (hh) :
    View.readAt (Elt F) inM.view (Rect.unit (s := S8x256x4608) (k0_off6 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 1 := (congrFun (xr_eq c k XW) 1 : _)
theorem x_2 (k : Fin k0_t1_loop.trips) (XW : BufOf (F := F) c wM) (hh) :
    View.readAt (Elt F) inM.view (Rect.unit (s := S8x256x4608) (k0_off7 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 2 := (congrFun (xr_eq c k XW) 2 : _)
theorem x_3 (k : Fin k0_t1_loop.trips) (XW : BufOf (F := F) c wM) (hh) :
    View.readAt (Elt F) inM.view (Rect.unit (s := S8x256x4608) (k0_off8 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 3 := (congrFun (xr_eq c k XW) 3 : _)
theorem x_4 (k : Fin k0_t1_loop.trips) (XW : BufOf (F := F) c wM) (hh) :
    View.readAt (Elt F) inM.view (Rect.unit (s := S8x256x4608) (k0_off9 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 4 := (congrFun (xr_eq c k XW) 4 : _)
theorem x_5 (k : Fin k0_t1_loop.trips) (XW : BufOf (F := F) c wM) (hh) :
    View.readAt (Elt F) inM.view (Rect.unit (s := S8x256x4608) (k0_off10 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 5 := (congrFun (xr_eq c k XW) 5 : _)
theorem x_6 (k : Fin k0_t1_loop.trips) (XW : BufOf (F := F) c wM) (hh) :
    View.readAt (Elt F) inM.view (Rect.unit (s := S8x256x4608) (k0_off11 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 6 := (congrFun (xr_eq c k XW) 6 : _)
theorem x_7 (k : Fin k0_t1_loop.trips) (XW : BufOf (F := F) c wM) (hh) :
    View.readAt (Elt F) inM.view (Rect.unit (s := S8x256x4608) (k0_off12 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 7 := (congrFun (xr_eq c k XW) 7 : _)
theorem x_8 (k : Fin k0_t1_loop.trips) (XW : BufOf (F := F) c wM) (hh) :
    View.readAt (Elt F) inM.view (Rect.unit (s := S8x256x4608) (k0_off13 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 8 := (congrFun (xr_eq c k XW) 8 : _)
theorem x_9 (k : Fin k0_t1_loop.trips) (XW : BufOf (F := F) c wM) (hh) :
    View.readAt (Elt F) inM.view (Rect.unit (s := S8x256x4608) (k0_off5 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 9 := (congrFun (xr_eq c k XW) 9 : _)
theorem x_10 (k : Fin k0_t1_loop.trips) (XW : BufOf (F := F) c wM) (hh) :
    View.readAt (Elt F) inM.view (Rect.unit (s := S8x256x4608) (k0_off6 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 10 := (congrFun (xr_eq c k XW) 10 : _)
theorem x_11 (k : Fin k0_t1_loop.trips) (XW : BufOf (F := F) c wM) (hh) :
    View.readAt (Elt F) inM.view (Rect.unit (s := S8x256x4608) (k0_off7 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 11 := (congrFun (xr_eq c k XW) 11 : _)
theorem x_12 (k : Fin k0_t1_loop.trips) (XW : BufOf (F := F) c wM) (hh) :
    View.readAt (Elt F) inM.view (Rect.unit (s := S8x256x4608) (k0_off8 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 12 := (congrFun (xr_eq c k XW) 12 : _)
theorem x_13 (k : Fin k0_t1_loop.trips) (XW : BufOf (F := F) c wM) (hh) :
    View.readAt (Elt F) inM.view (Rect.unit (s := S8x256x4608) (k0_off9 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 13 := (congrFun (xr_eq c k XW) 13 : _)
theorem x_14 (k : Fin k0_t1_loop.trips) (XW : BufOf (F := F) c wM) (hh) :
    View.readAt (Elt F) inM.view (Rect.unit (s := S8x256x4608) (k0_off10 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 14 := (congrFun (xr_eq c k XW) 14 : _)
theorem x_15 (k : Fin k0_t1_loop.trips) (XW : BufOf (F := F) c wM) (hh) :
    View.readAt (Elt F) inM.view (Rect.unit (s := S8x256x4608) (k0_off11 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 15 := (congrFun (xr_eq c k XW) 15 : _)
theorem x_16 (k : Fin k0_t1_loop.trips) (XW : BufOf (F := F) c wM) (hh) :
    View.readAt (Elt F) inM.view (Rect.unit (s := S8x256x4608) (k0_off12 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 16 := (congrFun (xr_eq c k XW) 16 : _)
theorem x_17 (k : Fin k0_t1_loop.trips) (XW : BufOf (F := F) c wM) (hh) :
    View.readAt (Elt F) inM.view (Rect.unit (s := S8x256x4608) (k0_off13 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 17 := (congrFun (xr_eq c k XW) 17 : _)
theorem x_18 (k : Fin k0_t1_loop.trips) (XW : BufOf (F := F) c wM) (hh) :
    View.readAt (Elt F) inM.view (Rect.unit (s := S8x256x4608) (k0_off5 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 18 := (congrFun (xr_eq c k XW) 18 : _)
theorem x_19 (k : Fin k0_t1_loop.trips) (XW : BufOf (F := F) c wM) (hh) :
    View.readAt (Elt F) inM.view (Rect.unit (s := S8x256x4608) (k0_off6 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 19 := (congrFun (xr_eq c k XW) 19 : _)
theorem x_20 (k : Fin k0_t1_loop.trips) (XW : BufOf (F := F) c wM) (hh) :
    View.readAt (Elt F) inM.view (Rect.unit (s := S8x256x4608) (k0_off7 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 20 := (congrFun (xr_eq c k XW) 20 : _)
theorem x_21 (k : Fin k0_t1_loop.trips) (XW : BufOf (F := F) c wM) (hh) :
    View.readAt (Elt F) inM.view (Rect.unit (s := S8x256x4608) (k0_off8 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 21 := (congrFun (xr_eq c k XW) 21 : _)
theorem x_22 (k : Fin k0_t1_loop.trips) (XW : BufOf (F := F) c wM) (hh) :
    View.readAt (Elt F) inM.view (Rect.unit (s := S8x256x4608) (k0_off9 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 22 := (congrFun (xr_eq c k XW) 22 : _)
theorem x_23 (k : Fin k0_t1_loop.trips) (XW : BufOf (F := F) c wM) (hh) :
    View.readAt (Elt F) inM.view (Rect.unit (s := S8x256x4608) (k0_off10 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 23 := (congrFun (xr_eq c k XW) 23 : _)
theorem x_24 (k : Fin k0_t1_loop.trips) (XW : BufOf (F := F) c wM) (hh) :
    View.readAt (Elt F) inM.view (Rect.unit (s := S8x256x4608) (k0_off11 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 24 := (congrFun (xr_eq c k XW) 24 : _)
theorem x_25 (k : Fin k0_t1_loop.trips) (XW : BufOf (F := F) c wM) (hh) :
    View.readAt (Elt F) inM.view (Rect.unit (s := S8x256x4608) (k0_off12 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 25 := (congrFun (xr_eq c k XW) 25 : _)
theorem x_26 (k : Fin k0_t1_loop.trips) (XW : BufOf (F := F) c wM) (hh) :
    View.readAt (Elt F) inM.view (Rect.unit (s := S8x256x4608) (k0_off13 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 26 := (congrFun (xr_eq c k XW) 26 : _)
theorem x_27 (k : Fin k0_t1_loop.trips) (XW : BufOf (F := F) c wM) (hh) :
    View.readAt (Elt F) inM.view (Rect.unit (s := S8x256x4608) (k0_off5 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 27 := (congrFun (xr_eq c k XW) 27 : _)
theorem x_28 (k : Fin k0_t1_loop.trips) (XW : BufOf (F := F) c wM) (hh) :
    View.readAt (Elt F) inM.view (Rect.unit (s := S8x256x4608) (k0_off6 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 28 := (congrFun (xr_eq c k XW) 28 : _)
theorem x_29 (k : Fin k0_t1_loop.trips) (XW : BufOf (F := F) c wM) (hh) :
    View.readAt (Elt F) inM.view (Rect.unit (s := S8x256x4608) (k0_off7 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 29 := (congrFun (xr_eq c k XW) 29 : _)
theorem x_30 (k : Fin k0_t1_loop.trips) (XW : BufOf (F := F) c wM) (hh) :
    View.readAt (Elt F) inM.view (Rect.unit (s := S8x256x4608) (k0_off8 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 30 := (congrFun (xr_eq c k XW) 30 : _)
theorem x_31 (k : Fin k0_t1_loop.trips) (XW : BufOf (F := F) c wM) (hh) :
    View.readAt (Elt F) inM.view (Rect.unit (s := S8x256x4608) (k0_off9 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 31 := (congrFun (xr_eq c k XW) 31 : _)
theorem x_32 (k : Fin k0_t1_loop.trips) (XW : BufOf (F := F) c wM) (hh) :
    View.readAt (Elt F) inM.view (Rect.unit (s := S8x256x4608) (k0_off10 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 32 := (congrFun (xr_eq c k XW) 32 : _)
theorem x_33 (k : Fin k0_t1_loop.trips) (XW : BufOf (F := F) c wM) (hh) :
    View.readAt (Elt F) inM.view (Rect.unit (s := S8x256x4608) (k0_off11 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 33 := (congrFun (xr_eq c k XW) 33 : _)
theorem x_34 (k : Fin k0_t1_loop.trips) (XW : BufOf (F := F) c wM) (hh) :
    View.readAt (Elt F) inM.view (Rect.unit (s := S8x256x4608) (k0_off12 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 34 := (congrFun (xr_eq c k XW) 34 : _)
theorem x_35 (k : Fin k0_t1_loop.trips) (XW : BufOf (F := F) c wM) (hh) :
    View.readAt (Elt F) inM.view (Rect.unit (s := S8x256x4608) (k0_off13 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 35 := (congrFun (xr_eq c k XW) 35 : _)
theorem d_0 (YC : S256x18432.Idx → F .fp8e4m3) (hh) :
    View.readAt (Elt F) dybM.view (Rect.unit (s := S4x256x4608) ![0, 0, 0] S1x256x512.size hh).toLoadRect (DCf YC) = dsub YC 0 := (congrFun (dr_eq YC) 0 : _)
theorem d_1 (YC : S256x18432.Idx → F .fp8e4m3) (hh) :
    View.readAt (Elt F) dybM.view (Rect.unit (s := S4x256x4608) ![0, 0, 512] S1x256x512.size hh).toLoadRect (DCf YC) = dsub YC 1 := (congrFun (dr_eq YC) 1 : _)
theorem d_2 (YC : S256x18432.Idx → F .fp8e4m3) (hh) :
    View.readAt (Elt F) dybM.view (Rect.unit (s := S4x256x4608) ![0, 0, 1024] S1x256x512.size hh).toLoadRect (DCf YC) = dsub YC 2 := (congrFun (dr_eq YC) 2 : _)
theorem d_3 (YC : S256x18432.Idx → F .fp8e4m3) (hh) :
    View.readAt (Elt F) dybM.view (Rect.unit (s := S4x256x4608) ![0, 0, 1536] S1x256x512.size hh).toLoadRect (DCf YC) = dsub YC 3 := (congrFun (dr_eq YC) 3 : _)
theorem d_4 (YC : S256x18432.Idx → F .fp8e4m3) (hh) :
    View.readAt (Elt F) dybM.view (Rect.unit (s := S4x256x4608) ![0, 0, 2048] S1x256x512.size hh).toLoadRect (DCf YC) = dsub YC 4 := (congrFun (dr_eq YC) 4 : _)
theorem d_5 (YC : S256x18432.Idx → F .fp8e4m3) (hh) :
    View.readAt (Elt F) dybM.view (Rect.unit (s := S4x256x4608) ![0, 0, 2560] S1x256x512.size hh).toLoadRect (DCf YC) = dsub YC 5 := (congrFun (dr_eq YC) 5 : _)
theorem d_6 (YC : S256x18432.Idx → F .fp8e4m3) (hh) :
    View.readAt (Elt F) dybM.view (Rect.unit (s := S4x256x4608) ![0, 0, 3072] S1x256x512.size hh).toLoadRect (DCf YC) = dsub YC 6 := (congrFun (dr_eq YC) 6 : _)
theorem d_7 (YC : S256x18432.Idx → F .fp8e4m3) (hh) :
    View.readAt (Elt F) dybM.view (Rect.unit (s := S4x256x4608) ![0, 0, 3584] S1x256x512.size hh).toLoadRect (DCf YC) = dsub YC 7 := (congrFun (dr_eq YC) 7 : _)
theorem d_8 (YC : S256x18432.Idx → F .fp8e4m3) (hh) :
    View.readAt (Elt F) dybM.view (Rect.unit (s := S4x256x4608) ![0, 0, 4096] S1x256x512.size hh).toLoadRect (DCf YC) = dsub YC 8 := (congrFun (dr_eq YC) 8 : _)
theorem d_9 (YC : S256x18432.Idx → F .fp8e4m3) (hh) :
    View.readAt (Elt F) dybM.view (Rect.unit (s := S4x256x4608) ![1, 0, 0] S1x256x512.size hh).toLoadRect (DCf YC) = dsub YC 9 := (congrFun (dr_eq YC) 9 : _)
theorem d_10 (YC : S256x18432.Idx → F .fp8e4m3) (hh) :
    View.readAt (Elt F) dybM.view (Rect.unit (s := S4x256x4608) ![1, 0, 512] S1x256x512.size hh).toLoadRect (DCf YC) = dsub YC 10 := (congrFun (dr_eq YC) 10 : _)
theorem d_11 (YC : S256x18432.Idx → F .fp8e4m3) (hh) :
    View.readAt (Elt F) dybM.view (Rect.unit (s := S4x256x4608) ![1, 0, 1024] S1x256x512.size hh).toLoadRect (DCf YC) = dsub YC 11 := (congrFun (dr_eq YC) 11 : _)
theorem d_12 (YC : S256x18432.Idx → F .fp8e4m3) (hh) :
    View.readAt (Elt F) dybM.view (Rect.unit (s := S4x256x4608) ![1, 0, 1536] S1x256x512.size hh).toLoadRect (DCf YC) = dsub YC 12 := (congrFun (dr_eq YC) 12 : _)
theorem d_13 (YC : S256x18432.Idx → F .fp8e4m3) (hh) :
    View.readAt (Elt F) dybM.view (Rect.unit (s := S4x256x4608) ![1, 0, 2048] S1x256x512.size hh).toLoadRect (DCf YC) = dsub YC 13 := (congrFun (dr_eq YC) 13 : _)
theorem d_14 (YC : S256x18432.Idx → F .fp8e4m3) (hh) :
    View.readAt (Elt F) dybM.view (Rect.unit (s := S4x256x4608) ![1, 0, 2560] S1x256x512.size hh).toLoadRect (DCf YC) = dsub YC 14 := (congrFun (dr_eq YC) 14 : _)
theorem d_15 (YC : S256x18432.Idx → F .fp8e4m3) (hh) :
    View.readAt (Elt F) dybM.view (Rect.unit (s := S4x256x4608) ![1, 0, 3072] S1x256x512.size hh).toLoadRect (DCf YC) = dsub YC 15 := (congrFun (dr_eq YC) 15 : _)
theorem d_16 (YC : S256x18432.Idx → F .fp8e4m3) (hh) :
    View.readAt (Elt F) dybM.view (Rect.unit (s := S4x256x4608) ![1, 0, 3584] S1x256x512.size hh).toLoadRect (DCf YC) = dsub YC 16 := (congrFun (dr_eq YC) 16 : _)
theorem d_17 (YC : S256x18432.Idx → F .fp8e4m3) (hh) :
    View.readAt (Elt F) dybM.view (Rect.unit (s := S4x256x4608) ![1, 0, 4096] S1x256x512.size hh).toLoadRect (DCf YC) = dsub YC 17 := (congrFun (dr_eq YC) 17 : _)
theorem d_18 (YC : S256x18432.Idx → F .fp8e4m3) (hh) :
    View.readAt (Elt F) dybM.view (Rect.unit (s := S4x256x4608) ![2, 0, 0] S1x256x512.size hh).toLoadRect (DCf YC) = dsub YC 18 := (congrFun (dr_eq YC) 18 : _)
theorem d_19 (YC : S256x18432.Idx → F .fp8e4m3) (hh) :
    View.readAt (Elt F) dybM.view (Rect.unit (s := S4x256x4608) ![2, 0, 512] S1x256x512.size hh).toLoadRect (DCf YC) = dsub YC 19 := (congrFun (dr_eq YC) 19 : _)
theorem d_20 (YC : S256x18432.Idx → F .fp8e4m3) (hh) :
    View.readAt (Elt F) dybM.view (Rect.unit (s := S4x256x4608) ![2, 0, 1024] S1x256x512.size hh).toLoadRect (DCf YC) = dsub YC 20 := (congrFun (dr_eq YC) 20 : _)
theorem d_21 (YC : S256x18432.Idx → F .fp8e4m3) (hh) :
    View.readAt (Elt F) dybM.view (Rect.unit (s := S4x256x4608) ![2, 0, 1536] S1x256x512.size hh).toLoadRect (DCf YC) = dsub YC 21 := (congrFun (dr_eq YC) 21 : _)
theorem d_22 (YC : S256x18432.Idx → F .fp8e4m3) (hh) :
    View.readAt (Elt F) dybM.view (Rect.unit (s := S4x256x4608) ![2, 0, 2048] S1x256x512.size hh).toLoadRect (DCf YC) = dsub YC 22 := (congrFun (dr_eq YC) 22 : _)
theorem d_23 (YC : S256x18432.Idx → F .fp8e4m3) (hh) :
    View.readAt (Elt F) dybM.view (Rect.unit (s := S4x256x4608) ![2, 0, 2560] S1x256x512.size hh).toLoadRect (DCf YC) = dsub YC 23 := (congrFun (dr_eq YC) 23 : _)
theorem d_24 (YC : S256x18432.Idx → F .fp8e4m3) (hh) :
    View.readAt (Elt F) dybM.view (Rect.unit (s := S4x256x4608) ![2, 0, 3072] S1x256x512.size hh).toLoadRect (DCf YC) = dsub YC 24 := (congrFun (dr_eq YC) 24 : _)
theorem d_25 (YC : S256x18432.Idx → F .fp8e4m3) (hh) :
    View.readAt (Elt F) dybM.view (Rect.unit (s := S4x256x4608) ![2, 0, 3584] S1x256x512.size hh).toLoadRect (DCf YC) = dsub YC 25 := (congrFun (dr_eq YC) 25 : _)
theorem d_26 (YC : S256x18432.Idx → F .fp8e4m3) (hh) :
    View.readAt (Elt F) dybM.view (Rect.unit (s := S4x256x4608) ![2, 0, 4096] S1x256x512.size hh).toLoadRect (DCf YC) = dsub YC 26 := (congrFun (dr_eq YC) 26 : _)
theorem d_27 (YC : S256x18432.Idx → F .fp8e4m3) (hh) :
    View.readAt (Elt F) dybM.view (Rect.unit (s := S4x256x4608) ![3, 0, 0] S1x256x512.size hh).toLoadRect (DCf YC) = dsub YC 27 := (congrFun (dr_eq YC) 27 : _)
theorem d_28 (YC : S256x18432.Idx → F .fp8e4m3) (hh) :
    View.readAt (Elt F) dybM.view (Rect.unit (s := S4x256x4608) ![3, 0, 512] S1x256x512.size hh).toLoadRect (DCf YC) = dsub YC 28 := (congrFun (dr_eq YC) 28 : _)
theorem d_29 (YC : S256x18432.Idx → F .fp8e4m3) (hh) :
    View.readAt (Elt F) dybM.view (Rect.unit (s := S4x256x4608) ![3, 0, 1024] S1x256x512.size hh).toLoadRect (DCf YC) = dsub YC 29 := (congrFun (dr_eq YC) 29 : _)
theorem d_30 (YC : S256x18432.Idx → F .fp8e4m3) (hh) :
    View.readAt (Elt F) dybM.view (Rect.unit (s := S4x256x4608) ![3, 0, 1536] S1x256x512.size hh).toLoadRect (DCf YC) = dsub YC 30 := (congrFun (dr_eq YC) 30 : _)
theorem d_31 (YC : S256x18432.Idx → F .fp8e4m3) (hh) :
    View.readAt (Elt F) dybM.view (Rect.unit (s := S4x256x4608) ![3, 0, 2048] S1x256x512.size hh).toLoadRect (DCf YC) = dsub YC 31 := (congrFun (dr_eq YC) 31 : _)
theorem d_32 (YC : S256x18432.Idx → F .fp8e4m3) (hh) :
    View.readAt (Elt F) dybM.view (Rect.unit (s := S4x256x4608) ![3, 0, 2560] S1x256x512.size hh).toLoadRect (DCf YC) = dsub YC 32 := (congrFun (dr_eq YC) 32 : _)
theorem d_33 (YC : S256x18432.Idx → F .fp8e4m3) (hh) :
    View.readAt (Elt F) dybM.view (Rect.unit (s := S4x256x4608) ![3, 0, 3072] S1x256x512.size hh).toLoadRect (DCf YC) = dsub YC 33 := (congrFun (dr_eq YC) 33 : _)
theorem d_34 (YC : S256x18432.Idx → F .fp8e4m3) (hh) :
    View.readAt (Elt F) dybM.view (Rect.unit (s := S4x256x4608) ![3, 0, 3584] S1x256x512.size hh).toLoadRect (DCf YC) = dsub YC 34 := (congrFun (dr_eq YC) 34 : _)
theorem d_35 (YC : S256x18432.Idx → F .fp8e4m3) (hh) :
    View.readAt (Elt F) dybM.view (Rect.unit (s := S4x256x4608) ![3, 0, 4096] S1x256x512.size hh).toLoadRect (DCf YC) = dsub YC 35 := (congrFun (dr_eq YC) 35 : _)

end Cert.Proof.K

end
-- ==== Proof.K.Outs.lean ====
module

public import proofs.«01_k».proof.Proof.K.Reads

/-! What a trip stores and sends, in terms of the steps of the model. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

variable (c : Dev nD)

/-! ## The accesses -/

theorem acc_out (r : Rect S4x256x4608) (f : S4x256x4608.Idx → F .fp8e4m3) (w : r.shape.Idx → F .fp8e4m3) (x : r.shape.Idx) :
    View.write (Elt F) (outM.access r) f w Finset.univ (r.emb x) = w x :=
  View.write_emb_of_mem (Val := Elt F) (v := outM.access r) f w (Finset.mem_univ x)
theorem acc_out_off (r : Rect S4x256x4608) (f : S4x256x4608.Idx → F .fp8e4m3) (w : r.shape.Idx → F .fp8e4m3) (y : S4x256x4608.Idx)
    (h : ∀ x, r.emb x ≠ y) : View.write (Elt F) (outM.access r) f w Finset.univ y = f y := by
  refine View.write_of_not_mem (Val := Elt F) (v := outM.access r) f w Finset.univ ?_
  intro hm
  obtain ⟨x, -, hx⟩ := Finset.mem_map.mp hm
  exact h x hx
theorem acc_xb (r : Rect S2x256x256) (f : S2x256x256.Idx → F .bf16) (w : r.shape.Idx → F .bf16) (x : r.shape.Idx) :
    View.write (Elt F) (xbM.access r) f w Finset.univ (r.emb x) = w x :=
  View.write_emb_of_mem (Val := Elt F) (v := xbM.access r) f w (Finset.mem_univ x)
theorem acc_am (r : Rect S16x512) (f : S16x512.Idx → F .bf16) (w : r.shape.Idx → F .bf16) (L : List (View.Piece (Elt F) S16x512 .bf16)) (x : r.shape.Idx) :
    amM.view.writes (Elt F) f (⟨r, w⟩ :: L) (r.emb x) = w x :=
  View.write_emb_of_mem (Val := Elt F) (v := amM.view.slice r) (amM.view.writes (Elt F) f L) w (Finset.mem_univ x)
theorem wcblk_writes (b : Fin 28) (j : Fin 4) (f : S7168x18432.Idx → F .fp8e4m3) (p : S256x4608.Idx → F .fp8e4m3) (x : S256x4608.Idx) :
    (wcblk b j).view.writes (Elt F) f [⟨Rect.whole S256x4608, p⟩] ((wcblk b j).view.emb x) = p x :=
  writes_whole_emb (F := F) (wcblk b j).view f p [] x
theorem dxblk_writes (b : Fin 28) (f : S256x7168.Idx → F .bf16) (p : S256x256.Idx → F .bf16) (x : S256x256.Idx) :
    (dxblk b).view.writes (Elt F) f [⟨Rect.whole S256x256, p⟩] ((dxblk b).view.emb x) = p x :=
  writes_whole_emb (F := F) (dxblk b).view f p [] x
theorem read_oslot (j : Fin 4) (X : S4x256x4608.Idx → F .fp8e4m3) (x : S256x4608.Idx) :
    (ReadAs.same.apply ((oslot j).view.read (Elt F) X) : S256x4608.Idx → F .fp8e4m3) x = X ((oslot j).view.emb x) := rfl
theorem read_xslot (s : Fin 2) (X : S2x256x256.Idx → F .bf16) (x : S256x256.Idx) :
    (ReadAs.same.apply ((xslot s).view.read (Elt F) X) : S256x256.Idx → F .bf16) x = X ((xslot s).view.emb x) := rfl

/-! ## The codes of the second operand -/

theorem ooff_inb (j : Fin 4) (t : ℕ) (ht : t < 9) : ∀ a, (![j.val, 0, 512 * t] : Fin 3 → Nat) a + S1x256x512.size a ≤ S4x256x4608.size a := by
  intro a
  fin_cases a
  · show j.val + 1 ≤ 4; omega
  · show 0 + 256 ≤ 256; omega
  · show 512 * t + 512 ≤ 4608; omega

/-- The buffer of the codes after piece `t` of slot `j` is stored. -/
abbrev ow (j : Fin 4) (off : Fin 3 → Nat) (hh : ∀ a, off a + S1x256x512.size a ≤ S4x256x4608.size a)
    (f : S4x256x4608.Idx → F .fp8e4m3) (w : FVec F S1x256x512 .fp8e4m3) : S4x256x4608.Idx → F .fp8e4m3 :=
  View.write (Elt F) (outM.access (Rect.unit (s := S4x256x4608) off S1x256x512.size hh)) f w Finset.univ

theorem ow_step (j : Fin 4) (t : ℕ) (ht : t < 9) (off) (hh) (ho : off = ![j.val, 0, 512 * t]) (f : S4x256x4608.Idx → F .fp8e4m3) (w : FVec F S1x256x512 .fp8e4m3)
    (G : Fin 256 → ℕ → F .fp8e4m3) (hf : ∀ (i : Fin 256) (s : Fin 4608), s.val < 512 * t → f (ix3 j i s) = G i s.val)
    (hw : ∀ (i : Fin 256) (s : Fin 512), w (ix3 0 i s) = G i (512 * t + s.val)) :
    ∀ (i : Fin 256) (s : Fin 4608), s.val < 512 * (t + 1) → ow j off hh f w (ix3 j i s) = G i s.val := by
  subst ho
  intro i s hs
  have hemb : ∀ (i0 : Fin 1) (i1 : Fin 256) (i2 : Fin 512),
      (Rect.unit (s := S4x256x4608) ![j.val, 0, 512 * t] S1x256x512.size hh).emb (ix3 i0 i1 i2)
        = (ix3 j i1 (⟨512 * t + i2.val, by omega⟩ : Fin 4608) : S4x256x4608.Idx) := by
    intro i0 i1 i2
    funext r; refine Fin.ext ?_
    fin_cases r
    · show j.val + 1 * i0.val = j.val; omega
    · show 0 + 1 * i1.val = i1.val; omega
    · show 512 * t + 1 * i2.val = 512 * t + i2.val; omega
  by_cases h : s.val < 512 * t
  · refine (acc_out_off (Rect.unit (s := S4x256x4608) ![j.val, 0, 512 * t] S1x256x512.size hh) f w (ix3 j i s) ?_).trans (hf i s h)
    intro x hx
    obtain ⟨i0, i1, i2, rfl⟩ : ∃ (i0 : Fin 1) (i1 : Fin 256) (i2 : Fin 512), x = ix3 i0 i1 i2 := ⟨x 0, x 1, x 2, eq_ix3 x⟩
    have h2 := (hemb i0 i1 i2).symm.trans hx
    have h3 : 512 * t + i2.val = s.val := congrArg (fun y : S4x256x4608.Idx => (y 2).val) h2
    omega
  · have h3 := acc_out (Rect.unit (s := S4x256x4608) ![j.val, 0, 512 * t] S1x256x512.size hh) f w
      (ix3 0 i (⟨s.val - 512 * t, by omega⟩ : Fin 512))
    have h5 : (⟨512 * t + (s.val - 512 * t), by omega⟩ : Fin 4608) = s := Fin.ext (by show 512 * t + (s.val - 512 * t) = s.val; omega)
    have h6 := hw i (⟨s.val - 512 * t, by omega⟩ : Fin 512)
    have h7 : 512 * t + (s.val - 512 * t) = s.val := by omega
    rw [hemb, h5] at h3
    refine h3.trans (h6.trans ?_)
    exact congrArg (G i) h7

/-- The buffer of the codes after the nine pieces of slot `j` of a trip are stored. -/
def nest (j : Fin 4) (v : F .f32) (x : ℕ → Vec F S1x256x512 .bf16) (f : S4x256x4608.Idx → F .fp8e4m3) : S4x256x4608.Idx → F .fp8e4m3 :=
  (ow j ![j.val, 0, 4096] (ooff_inb j 8 (by decide)) (ow j ![j.val, 0, 3584] (ooff_inb j 7 (by decide)) (ow j ![j.val, 0, 3072] (ooff_inb j 6 (by decide)) (ow j ![j.val, 0, 2560] (ooff_inb j 5 (by decide)) (ow j ![j.val, 0, 2048] (ooff_inb j 4 (by decide)) (ow j ![j.val, 0, 1536] (ooff_inb j 3 (by decide)) (ow j ![j.val, 0, 1024] (ooff_inb j 2 (by decide)) (ow j ![j.val, 0, 512] (ooff_inb j 1 (by decide)) (ow j ![j.val, 0, 0] (ooff_inb j 0 (by decide)) f
    (qrow v (x (9 * j.val + 0))))
    (qrow v (x (9 * j.val + 1))))
    (qrow v (x (9 * j.val + 2))))
    (qrow v (x (9 * j.val + 3))))
    (qrow v (x (9 * j.val + 4))))
    (qrow v (x (9 * j.val + 5))))
    (qrow v (x (9 * j.val + 6))))
    (qrow v (x (9 * j.val + 7))))
    (qrow v (x (9 * j.val + 8))))

theorem xsub_apply (XW : S7168x18432.Idx → F .bf16) (b t : ℕ) (i0 : Fin 1) (i1 : Fin 256) (i2 : Fin 512) :
    xsub XW b t (ix3 i0 i1 i2) = XW (ix2 (Fin.ofNat 7168 (256 * b + i1.val)) (Fin.ofNat 18432 (512 * t + i2.val))) := rfl
theorem nest_apply (j : Fin 4) (v : F .f32) (XW : S7168x18432.Idx → F .bf16) (b : Fin 28) (f : S4x256x4608.Idx → F .fp8e4m3) (i : Fin 256) (s : Fin 4608) :
    nest j v (xsub XW b.val) f (ix3 j i s) = qel v (XW (ix2 (⟨256 * b.val + i.val, by omega⟩ : Fin 7168) (⟨4608 * j.val + s.val, by omega⟩ : Fin 18432))) := by
  let G : Fin 256 → ℕ → F .fp8e4m3 := fun i s => qel v (XW (ix2 (⟨256 * b.val + i.val, by omega⟩ : Fin 7168) (Fin.ofNat 18432 (4608 * j.val + s))))
  have hG : ∀ t : ℕ, t < 9 → ∀ (i : Fin 256) (s : Fin 512), qrow v (xsub XW b.val (9 * j.val + t)) (ix3 0 i s) = G i (512 * t + s.val) := by
    intro t ht i s
    rw [qrow_apply]
    rw [xsub_apply]
    refine congrArg (fun y => qel v (XW y)) ?_
    funext r; refine Fin.ext ?_
    fin_cases r
    · show (256 * b.val + i.val) % 7168 = 256 * b.val + i.val
      rw [Nat.mod_eq_of_lt (by omega)]
    · show (512 * (9 * j.val + t) + s.val) % 18432 = (4608 * j.val + (512 * t + s.val)) % 18432
      congr 1; omega
  have h0 : ∀ (i : Fin 256) (s : Fin 4608), s.val < 512 * 0 → f (ix3 j i s) = G i s.val := fun i s h => absurd h (by omega)
  have h1 := ow_step j 0 (by decide) ![j.val, 0, 0] (ooff_inb j 0 (by decide)) rfl _ _ G h0 (hG 0 (by decide))
  have h2 := ow_step j 1 (by decide) ![j.val, 0, 512] (ooff_inb j 1 (by decide)) rfl _ _ G h1 (hG 1 (by decide))
  have h3 := ow_step j 2 (by decide) ![j.val, 0, 1024] (ooff_inb j 2 (by decide)) rfl _ _ G h2 (hG 2 (by decide))
  have h4 := ow_step j 3 (by decide) ![j.val, 0, 1536] (ooff_inb j 3 (by decide)) rfl _ _ G h3 (hG 3 (by decide))
  have h5 := ow_step j 4 (by decide) ![j.val, 0, 2048] (ooff_inb j 4 (by decide)) rfl _ _ G h4 (hG 4 (by decide))
  have h6 := ow_step j 5 (by decide) ![j.val, 0, 2560] (ooff_inb j 5 (by decide)) rfl _ _ G h5 (hG 5 (by decide))
  have h7 := ow_step j 6 (by decide) ![j.val, 0, 3072] (ooff_inb j 6 (by decide)) rfl _ _ G h6 (hG 6 (by decide))
  have h8 := ow_step j 7 (by decide) ![j.val, 0, 3584] (ooff_inb j 7 (by decide)) rfl _ _ G h7 (hG 7 (by decide))
  have h9 := ow_step j 8 (by decide) ![j.val, 0, 4096] (ooff_inb j 8 (by decide)) rfl _ _ G h8 (hG 8 (by decide))
  refine (h9 i s (by omega)).trans ?_
  refine congrArg (fun y => qel v (XW y)) ?_
  funext r; refine Fin.ext ?_
  fin_cases r
  · rfl
  · show (4608 * j.val + s.val) % 18432 = 4608 * j.val + s.val
    rw [Nat.mod_eq_of_lt (by omega)]

/-- A slot of the codes in flight to its block, which holds the codes when it lands. -/
abbrev flyOutAt (WC : S7168x18432.Idx → F .fp8e4m3) (j : Fin 4) (b : Fin 28) (O : S4x256x4608.Idx → F .fp8e4m3) : sProp 𝕄 :=
  Transfers.Flight countersEmb (c : Thread nD τ) (SemLoc.dma (osem j).sem) () 36864
    iprop(held c (wcblk b j) WC ∗ held c (oslot j) O)
abbrev flyOut (WC : S7168x18432.Idx → F .fp8e4m3) (j : Fin 4) (b : Fin 28) : sProp 𝕄 :=
  iprop(∃ O, flyOutAt c WC j b O)
/-- A slot of the product in flight to its block, which holds the product when it lands. -/
abbrev flyDxAt (DX : S256x7168.Idx → F .bf16) (s : Fin 2) (b : Fin 28) (O : S2x256x256.Idx → F .bf16) : sProp 𝕄 :=
  Transfers.Flight countersEmb (c : Thread nD τ) (SemLoc.dma (xsem s).sem) () 4096
    iprop(held c (dxblk b) DX ∗ held c (xslot s) O)
abbrev flyDx (DX : S256x7168.Idx → F .bf16) (s : Fin 2) (b : Fin 28) : sProp 𝕄 :=
  iprop(∃ O, flyDxAt c DX s b O)

theorem held_wcblk (b : Fin 28) (j : Fin 4) (f g : S7168x18432.Idx → F .fp8e4m3)
    (h : ∀ (i : Fin 256) (s : Fin 4608), f (ix2 (⟨256 * b.val + i.val, by omega⟩ : Fin 7168) (⟨4608 * j.val + s.val, by omega⟩ : Fin 18432))
      = g (ix2 (⟨256 * b.val + i.val, by omega⟩ : Fin 7168) (⟨4608 * j.val + s.val, by omega⟩ : Fin 18432))) :
    held c (wcblk b j) f = held c (wcblk b j) g := by
  refine pointsTo_congr ?_
  intro y hy
  obtain ⟨x, -, rfl⟩ := Finset.mem_map.mp hy
  obtain ⟨i, s, rfl⟩ : ∃ (i : Fin 256) (s : Fin 4608), x = ix2 i s := ⟨x 0, x 1, eq_ix2 x⟩
  rw [wcblk_emb]
  exact h i s
theorem held_dxblk (b : Fin 28) (f g : S256x7168.Idx → F .bf16)
    (h : ∀ (i : Fin 256) (s : Fin 256), f (ix2 i (⟨256 * b.val + s.val, by omega⟩ : Fin 7168))
      = g (ix2 i (⟨256 * b.val + s.val, by omega⟩ : Fin 7168))) :
    held c (dxblk b) f = held c (dxblk b) g := by
  refine pointsTo_congr ?_
  intro y hy
  obtain ⟨x, -, rfl⟩ := Finset.mem_map.mp hy
  obtain ⟨i, s, rfl⟩ : ∃ (i : Fin 256) (s : Fin 256), x = ix2 i s := ⟨x 0, x 1, eq_ix2 x⟩
  rw [dxblk_emb]
  exact h i s

/-- A trip's slot of the codes, sent. -/
theorem flyOut_of (k : Fin k0_t1_loop.trips) (XW : BufOf (F := F) c wM) (v : F .f32) (j : Fin 4) {f : S4x256x4608.Idx → F .fp8e4m3} {g' : S7168x18432.Idx → F .fp8e4m3}
    {p : S256x4608.Idx → F .fp8e4m3} {O' : S4x256x4608.Idx → F .fp8e4m3}
    (hp : p = ReadAs.same.apply ((oslot j).view.read (Elt F) (nest j v (xsub XW k.val) f))) :
    Transfers.Flight countersEmb (c : Thread nD τ) (SemLoc.dma (osem j).sem) () 36864
      iprop(held c (wcblk (Ring.bk 28 k) j) ((wcblk (Ring.bk 28 k) j).view.writes (Elt F) g' [⟨Rect.whole S256x4608, p⟩]) ∗ held c (oslot j) O')
    ⊢ flyOut c (WCf v XW) j (Ring.bk 28 k) := by
  have hb : (Ring.bk 28 k.val).val = k.val := Ring.bk_val (k_lt k)
  have e : held c (wcblk (Ring.bk 28 k) j) ((wcblk (Ring.bk 28 k) j).view.writes (Elt F) g' [⟨Rect.whole S256x4608, p⟩])
      = held c (wcblk (Ring.bk 28 k) j) (WCf v XW) := by
    refine held_wcblk c (Ring.bk 28 k) j _ _ ?_
    intro i s
    have h1 := wcblk_writes (Ring.bk 28 k) j g' p (ix2 i s)
    rw [wcblk_emb] at h1
    refine h1.trans ?_
    rw [hp, read_oslot, oslot_emb]
    refine (congrArg (fun b => nest j v (xsub XW b) f (ix3 j i s)) hb.symm).trans ?_
    exact nest_apply j v XW (Ring.bk 28 k) f i s
  rw [e]
  iintro H; iexists O'; iexact H

/-- A slot's refill, sent. -/
theorem flyW_of (XW : BufOf (F := F) c wM) (s : Fin 2) (j : Fin 4) (b : Fin 28) {f0 : S8x256x4608.Idx → F .bf16}
    {p : S256x4608.Idx → F .bf16} {q : View.Piece (Elt F) S256x4608 .bf16}
    (hp : p = ReadAs.same.apply ((wblk b j).view.read (Elt F) XW)) :
    Transfers.Flight countersEmb (c : Thread nD τ) (SemLoc.dma (isem s j).sem) () 73728
      iprop(held c (rslot s j) ((rslot s j).view.writes (Elt F) f0 [⟨Rect.whole S256x4608, p⟩, q]) ∗ held c (wblk b j) XW)
    ⊢ iprop(∃ f, flyW c XW s j b f) := by
  have e : (rslot s j).view.writes (Elt F) f0 [⟨Rect.whole S256x4608, p⟩, q]
      = landed c (rslot s j) (wblk b j) XW ((rslot s j).view.writes (Elt F) f0 [q]) := by rw [hp]; rfl
  rw [e]
  iintro H; iexists _; iexact H

/-! ## The running largest magnitude -/

/-- Nine steps of the running largest magnitude from `r`, starting at piece `t`. -/
def amF (x : ℕ → Vec F S1x256x512 .bf16) (t : ℕ) (r : FVec F S16x512 .bf16) : ℕ → FVec F S16x512 .bf16
  | 0 => r
  | n + 1 => amStep (amF x t r n) (shapeCast S256x512 (x (t + n)) shapeCasts_S1x256x512_S256x512)
theorem amF_amN (x : ℕ → Vec F S1x256x512 .bf16) (A : FVec F S16x512 .bf16) (t n : ℕ) : amF x t (amN x A t) n = amN x A (t + n) := by
  induction n with
  | zero => rfl
  | succ n ih => show amStep (amF x t (amN x A t) n) _ = amStep (amN x A (t + n)) (shapeCast S256x512 (x (t + n)) shapeCasts_S1x256x512_S256x512); rw [ih]

abbrev amR : Rect S16x512 := Rect.unit (s := S16x512) ![0, 0] S16x512.size inb_S16x512_S16x512_0_0
abbrev accR : Rect S256x256 := Rect.unit (s := S256x256) ![0, 0] S256x256.size inb_S256x256_S256x256_0_0
theorem amR_emb (i : S16x512.Idx) : amR.emb i = i := by
  funext r; refine Fin.ext ?_
  fin_cases r
  · show 0 + 1 * (i 0).val = (i 0).val; omega
  · show 0 + 1 * (i 1).val = (i 1).val; omega
theorem am_read (A : S16x512.Idx → F .bf16) : View.readAt (Elt F) amM.view amR.toLoadRect A = A := by
  funext i
  exact congrArg A (amR_emb i)
theorem am_write (A : S16x512.Idx → F .bf16) (p : FVec F S16x512 .bf16) (L : List (View.Piece (Elt F) S16x512 .bf16)) :
    amM.view.writes (Elt F) A (⟨amR, p⟩ :: L) = p := by
  funext i
  have h := acc_am amR A p L i
  rw [amR_emb] at h
  exact h

/-- The running largest magnitude after a trip's four slots. -/
theorem am_of (k : Fin k0_t1_loop.trips) (XW : BufOf (F := F) c wM) (A : S16x512.Idx → F .bf16) {p3 : FVec F S16x512 .bf16}
    {H1 H2 H3 : List (View.Piece (Elt F) S16x512 .bf16)}
    (h1 : H1 = ⟨amR, shapeCast S16x512 (amF (xsub XW k.val) 0 (View.readAt (Elt F) amM.view amR.toLoadRect A) 9) shapeCasts_S16x512_S16x512⟩ :: [])
    (h2 : H2 = ⟨amR, shapeCast S16x512 (amF (xsub XW k.val) 9 (amM.view.readCov H1 amR.toLoadRect) 9) shapeCasts_S16x512_S16x512⟩ :: H1)
    (h3 : H3 = ⟨amR, shapeCast S16x512 (amF (xsub XW k.val) 18 (amM.view.readCov H2 amR.toLoadRect) 9) shapeCasts_S16x512_S16x512⟩ :: H2)
    (h4 : p3 = shapeCast S16x512 (amF (xsub XW k.val) 27 (amM.view.readCov H3 amR.toLoadRect) 9) shapeCasts_S16x512_S16x512) :
    held c amM (amM.view.writes (Elt F) A (⟨amR, p3⟩ :: H3)) ⊢ held c amM (amN (xsub XW k.val) A 36) := by
  rw [shapeCast_self] at h1 h2 h3 h4
  have c1 : amM.view.readCov H1 amR.toLoadRect = amN (xsub XW k.val) A 9 := by
    rw [h1, View.readCov_cons_toLoadRect, am_read]; exact amF_amN _ A 0 9
  have c2 : amM.view.readCov H2 amR.toLoadRect = amN (xsub XW k.val) A 18 := by
    rw [h2, View.readCov_cons_toLoadRect, c1]; exact amF_amN _ A 9 9
  have c3 : amM.view.readCov H3 amR.toLoadRect = amN (xsub XW k.val) A 27 := by
    rw [h3, View.readCov_cons_toLoadRect, c2]; exact amF_amN _ A 18 9
  have g3 : p3 = amN (xsub XW k.val) A 36 := by rw [h4, c3]; exact amF_amN _ A 27 9
  rw [am_write, g3]

/-! ## The product -/

/-- Steps of the sum of products from `r`, starting at piece `t`. -/
def partF (v : F .f32) (d : ℕ → Vec F S1x256x512 .fp8e4m3) (x : ℕ → Vec F S1x256x512 .bf16) (t : ℕ) (r : FVec F S256x256 .f32) : ℕ → FVec F S256x256 .f32
  | 0 => r
  | n + 1 => addf (partF v d x t r n) (mm v (d (t + n)) (x (t + n)))
theorem partF_part (v : F .f32) (d : ℕ → Vec F S1x256x512 .fp8e4m3) (x : ℕ → Vec F S1x256x512 .bf16) (t n : ℕ) :
    partF v d x (t + 1) (part v d x t) n = part v d x (t + n) := by
  induction n with
  | zero => rfl
  | succ n ih =>
    show addf (partF v d x (t + 1) (part v d x t) n) (mm v (d (t + 1 + n)) (x (t + 1 + n))) = addf (part v d x (t + n)) (mm v (d (t + n + 1)) (x (t + n + 1)))
    rw [ih, show t + 1 + n = t + n + 1 by omega]

theorem DXf_apply (v s : F .f32) (YC : S256x18432.Idx → F .fp8e4m3) (XW : S7168x18432.Idx → F .bf16) (i : Fin 256) (n : Fin 7168) :
    DXf v s YC XW (ix2 i n) = dxv v s YC XW (n.val / 256) (ix2 i (Fin.ofNat 256 n.val)) := rfl
theorem xw_emb (k : Fin k0_t1_loop.trips) (i0 : Fin 1) (i1 i2 : Fin 256) :
    (Rect.unit (s := S2x256x256) (k0_off32 k) S1x256x256.size (k0_off32_inb k)).emb (ix3 i0 i1 i2)
      = (ix3 (par k) i1 i2 : S2x256x256.Idx) := by
  have h := k0_off32_eq k
  funext r; refine Fin.ext ?_
  fin_cases r
  · show k0_off32 k 0 + 1 * i0.val = (par k).val; rw [h]; show (par k).val + 1 * i0.val = (par k).val; omega
  · show k0_off32 k 1 + 1 * i1.val = i1.val; rw [h]; show 0 + 1 * i1.val = i1.val; omega
  · show k0_off32 k 2 + 1 * i2.val = i2.val; rw [h]; show 0 + 1 * i2.val = i2.val; omega

/-- A trip's block of the product, sent. -/
theorem flyDx_of (k : Fin k0_t1_loop.trips) (XW : BufOf (F := F) c wM) (YC : S256x18432.Idx → F .fp8e4m3) (v s : F .f32)
    {X : S2x256x256.Idx → F .bf16} {x' : S256x7168.Idx → F .bf16}
    {p : S256x256.Idx → F .bf16} {O' : S2x256x256.Idx → F .bf16} {q : FVec F S1x256x256 .bf16}
    {H1 H2 H3 : List (View.Piece (Elt F) S256x256 .f32)}
    (h1 : H1 = ⟨accR, shapeCast S256x256 (part v (dr YC) (xsub XW k.val) 8) shapeCasts_S256x256_S256x256⟩ :: [])
    (h2 : H2 = ⟨accR, shapeCast S256x256 (partF v (dr YC) (xsub XW k.val) 9 (accM.view.readCov H1 accR.toLoadRect) 9) shapeCasts_S256x256_S256x256⟩ :: H1)
    (h3 : H3 = ⟨accR, shapeCast S256x256 (partF v (dr YC) (xsub XW k.val) 18 (accM.view.readCov H2 accR.toLoadRect) 9) shapeCasts_S256x256_S256x256⟩ :: H2)
    (hq : q = shapeCast S1x256x256 (dxPay s (partF v (dr YC) (xsub XW k.val) 27 (accM.view.readCov H3 accR.toLoadRect) 9)) shapeCasts_S256x256_S1x256x256)
    (hp : p = ReadAs.same.apply ((xslot (par k)).view.read (Elt F)
      (View.write (Elt F) (xbM.access (Rect.unit (s := S2x256x256) (k0_off32 k) S1x256x256.size (k0_off32_inb k))) X q Finset.univ))) :
    Transfers.Flight countersEmb (c : Thread nD τ) (SemLoc.dma (xsem (par k)).sem) () 4096
      iprop(held c (dxblk (Ring.bk 28 k)) ((dxblk (Ring.bk 28 k)).view.writes (Elt F) x' [⟨Rect.whole S256x256, p⟩]) ∗ held c (xslot (par k)) O')
    ⊢ flyDx c (DXf v s YC XW) (par k) (Ring.bk 28 k) := by
  have hb : (Ring.bk 28 k.val).val = k.val := Ring.bk_val (k_lt k)
  rw [shapeCast_self] at h1 h2 h3
  have c1 : accM.view.readCov H1 accR.toLoadRect = part v (dr YC) (xsub XW k.val) 8 := by
    rw [h1, View.readCov_cons_toLoadRect]
  have c2 : accM.view.readCov H2 accR.toLoadRect = part v (dr YC) (xsub XW k.val) 17 := by
    rw [h2, View.readCov_cons_toLoadRect, c1]; exact partF_part _ _ _ 8 9
  have c3 : accM.view.readCov H3 accR.toLoadRect = part v (dr YC) (xsub XW k.val) 26 := by
    rw [h3, View.readCov_cons_toLoadRect, c2]; exact partF_part _ _ _ 17 9
  have g3 : q = shapeCast S1x256x256 (dxv v s YC XW k.val) shapeCasts_S256x256_S1x256x256 := by
    rw [hq, c3, partF_part v _ _ 26 9, dr_eq]; rfl
  have e : held c (dxblk (Ring.bk 28 k)) ((dxblk (Ring.bk 28 k)).view.writes (Elt F) x' [⟨Rect.whole S256x256, p⟩])
      = held c (dxblk (Ring.bk 28 k)) (DXf v s YC XW) := by
    refine held_dxblk c (Ring.bk 28 k) _ _ ?_
    intro i r
    have h1 := dxblk_writes (Ring.bk 28 k) x' p (ix2 i r)
    rw [dxblk_emb] at h1
    refine h1.trans ?_
    have h4 := acc_xb (Rect.unit (s := S2x256x256) (k0_off32 k) S1x256x256.size (k0_off32_inb k)) X q (ix3 0 i r)
    rw [xw_emb] at h4
    rw [hp, read_xslot, xslot_emb, h4]
    rw [g3, shapeCast_ab_1ab_apply]
    have h8 : (256 * (Ring.bk 28 k.val).val + r.val) / 256 = k.val := by rw [hb]; omega
    have h9 : (Fin.ofNat 256 (256 * (Ring.bk 28 k.val).val + r.val)) = r :=
      Fin.ext (by show (256 * (Ring.bk 28 k.val).val + r.val) % 256 = r.val; omega)
    rw [DXf_apply, h8, h9]
  rw [e]
  iintro H; iexists O'; iexact H

end Cert.Proof.K

end
-- ==== Proof.K.Trip.lean ====
module

public import proofs.«01_k».proof.Proof.K.Outs
public import Idealize.ShloMosaic.Lib.Tactic

/-! One trip of the loop: what it is run on and what it leaves. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD)
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)
  (v109 v112 : F .f32) (c1 : BitVec 32)

/-- Trip `k` of the loop on the kernel's buffers. -/
abbrev tripG (k : Fin k0_t1_loop.trips) : Prog (TpuEff nD τ sig (Elt F) Λ₀ .tc) Unit :=
  k0_t1_body (F := F) dyM (Memref.isWhole_whole _) wM (Memref.isWhole_whole _) arg2 harg2 arg3 harg3 dxM (Memref.isWhole_whole _) dycM (Memref.isWhole_whole _) arg6 harg6 wcM (Memref.isWhole_whole _) arg8 harg8 arg9 harg9 arg10 harg10
    inM (Memref.isWhole_whole _) dybM (Memref.isWhole_whole _) outM (Memref.isWhole_whole _) accM (Memref.isWhole_whole _) xbM (Memref.isWhole_whole _) amM (Memref.isWhole_whole _)
    cc0_scratch6 cc0_scratch7 cc0_scratch8 cc0_scratch9 v109 v112 c1 k ()

/-- What a trip holds that does not depend on where it stands: the first operand's codes, the running largest
    magnitude, the accumulator. -/
abbrev base (YC : S256x18432.Idx → F .fp8e4m3) (A : S16x512.Idx → F .bf16) (Ac : S256x256.Idx → F .f32) : sProp 𝕄 :=
  iprop(heldL c (dslot 0) (DCf YC) ∗ heldL c (dslot 1) (DCf YC) ∗ heldL c (dslot 2) (DCf YC) ∗ heldL c (dslot 3) (DCf YC)
    ∗ held c amM A ∗ held c accM Ac)
/-- Four of a thing, one for each slot. -/
abbrev four (Φ : Fin 4 → sProp 𝕄) : sProp 𝕄 := iprop(Φ 0 ∗ Φ 1 ∗ Φ 2 ∗ Φ 3)
end

end Cert.Proof.K

end
-- ==== Proof.K.TripA.lean ====
module

public import proofs.«01_k».proof.Proof.K.Trip

/-! Trip `0`. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD)
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)
  (v109 v112 : F .f32) (c1 : BitVec 32)

set_option maxHeartbeats 16000000 in
theorem tripA (k : Fin k0_t1_loop.trips) (h0 : k.val = 0)
    (XW : BufOf (F := F) c wM) (YC : S256x18432.Idx → F .fp8e4m3) (A : S16x512.Idx → F .bf16) (Ac : S256x256.Idx → F .f32)
    (f : ∀ j, BufOf (F := F) c (rslot (par k) j)) (O : Fin 4 → S4x256x4608.Idx → F .fp8e4m3)
    (G : S7168x18432.Idx → F .fp8e4m3) (X : S2x256x256.Idx → F .bf16) (x' : S256x7168.Idx → F .bf16) (W : Waits sig Unit) :
    iprop(base c YC A Ac
      ∗ four (fun j => flyW c XW (par k) j (Ring.bk 28 k) (f j))
      ∗ four (fun j => homeW c XW (Ring.bk 28 (k + 2)) j)
      ∗ four (fun j => iprop(held c (oslot j) (O j) ∗ zero c (osem j)))
      ∗ four (fun j => held c (wcblk (Ring.bk 28 k) j) G)
      ∗ held c (xslot (par k)) X
      ∗ zero c (xsem (par k))
      ∗ held c (dxblk (Ring.bk 28 k)) x'
      ∗ owes (c : Thread nD τ) 0 W)
      ⊢ wp frame (wpE (defs₀ (F := F)) 𝒱₀ (c : Thread nD τ) none) Set.univ (tripG arg2 harg2 arg3 harg3 arg6 harg6 arg8 harg8 arg9 harg9 arg10 harg10 v109 v112 c1 k)
        (fun _ => iprop(iprop(∃ Ac, base c YC (amN (xsub XW k) A 36) Ac)
        ∗ four (fun j => homeW c XW (Ring.bk 28 k) j)
        ∗ four (fun j => flyOut c (WCf v109 XW) j (Ring.bk 28 k))
        ∗ four (fun j => iprop(∃ f, flyW c XW (par k) j (Ring.bk 28 (k + 2)) f))
        ∗ flyDx c (DXf v109 v112 YC XW) (par k) (Ring.bk 28 k)
        ∗ iprop(∃ W, owes (c : Thread nD τ) 0 W))) := by
  have e1 : ¬ (k0_cond1 k = 1#1) := by rw [cond1_neg k (by omega)]; decide
  have e3 : ¬ (k0_cond3 k = 1#1) := by rw [cond3_neg k (by omega)]; decide
  have e5 : ¬ (k0_cond5 k = 1#1) := by rw [cond5_neg k (by omega)]; decide
  have e7 : ¬ (k0_cond7 k = 1#1) := by rw [cond7_neg k (by omega)]; decide
  have e2 := cond2_pos k (by omega)
  have e4 := cond4_pos k (by omega)
  have e6 := cond6_pos k (by omega)
  have e9 := cond9_pos k (by omega)
  have e8 : ¬ (k0_cond8 k = 1#1) := by rw [cond8_neg k (by omega)]; decide
  iintro ⟨⟨HD0, HD1, HD2, HD3, HA, HAc⟩, ⟨HI0, HI1, HI2, HI3⟩, ⟨HW0, HW1, HW2, HW3⟩, ⟨⟨HO0, HOz0⟩, ⟨HO1, HOz1⟩, ⟨HO2, HOz2⟩, ⟨HO3, HOz3⟩⟩, ⟨HC0, HC1, HC2, HC3⟩, HX, HXz, Hx, HW⟩
  dsimp only [tripG]
  sl_unfold [k0_t1_body]
  sl_exec
  rw [wp_ret]
  imodintro
  have hv0 : tripA.sl.v2066 c k XW = xsub XW k.val 0 := congrFun (xr_eq c k XW) 0
  have hv1 : tripA.sl.v2118 c k XW = xsub XW k.val 1 := congrFun (xr_eq c k XW) 1
  have hv2 : tripA.sl.v2171 c k XW = xsub XW k.val 2 := congrFun (xr_eq c k XW) 2
  have hv3 : tripA.sl.v2224 c k XW = xsub XW k.val 3 := congrFun (xr_eq c k XW) 3
  have hv4 : tripA.sl.v2277 c k XW = xsub XW k.val 4 := congrFun (xr_eq c k XW) 4
  have hv5 : tripA.sl.v2330 c k XW = xsub XW k.val 5 := congrFun (xr_eq c k XW) 5
  have hv6 : tripA.sl.v2383 c k XW = xsub XW k.val 6 := congrFun (xr_eq c k XW) 6
  have hv7 : tripA.sl.v2436 c k XW = xsub XW k.val 7 := congrFun (xr_eq c k XW) 7
  have hv8 : tripA.sl.v2489 c k XW = xsub XW k.val 8 := congrFun (xr_eq c k XW) 8
  have hv9 : tripA.sl.v2595 c k XW = xsub XW k.val 9 := congrFun (xr_eq c k XW) 9
  have hv10 : tripA.sl.v2648 c k XW = xsub XW k.val 10 := congrFun (xr_eq c k XW) 10
  have hv11 : tripA.sl.v2701 c k XW = xsub XW k.val 11 := congrFun (xr_eq c k XW) 11
  have hv12 : tripA.sl.v2754 c k XW = xsub XW k.val 12 := congrFun (xr_eq c k XW) 12
  have hv13 : tripA.sl.v2807 c k XW = xsub XW k.val 13 := congrFun (xr_eq c k XW) 13
  have hv14 : tripA.sl.v2860 c k XW = xsub XW k.val 14 := congrFun (xr_eq c k XW) 14
  have hv15 : tripA.sl.v2913 c k XW = xsub XW k.val 15 := congrFun (xr_eq c k XW) 15
  have hv16 : tripA.sl.v2966 c k XW = xsub XW k.val 16 := congrFun (xr_eq c k XW) 16
  have hv17 : tripA.sl.v3019 c k XW = xsub XW k.val 17 := congrFun (xr_eq c k XW) 17
  have hv18 : tripA.sl.v3125 c k XW = xsub XW k.val 18 := congrFun (xr_eq c k XW) 18
  have hv19 : tripA.sl.v3178 c k XW = xsub XW k.val 19 := congrFun (xr_eq c k XW) 19
  have hv20 : tripA.sl.v3231 c k XW = xsub XW k.val 20 := congrFun (xr_eq c k XW) 20
  have hv21 : tripA.sl.v3284 c k XW = xsub XW k.val 21 := congrFun (xr_eq c k XW) 21
  have hv22 : tripA.sl.v3337 c k XW = xsub XW k.val 22 := congrFun (xr_eq c k XW) 22
  have hv23 : tripA.sl.v3390 c k XW = xsub XW k.val 23 := congrFun (xr_eq c k XW) 23
  have hv24 : tripA.sl.v3443 c k XW = xsub XW k.val 24 := congrFun (xr_eq c k XW) 24
  have hv25 : tripA.sl.v3496 c k XW = xsub XW k.val 25 := congrFun (xr_eq c k XW) 25
  have hv26 : tripA.sl.v3549 c k XW = xsub XW k.val 26 := congrFun (xr_eq c k XW) 26
  have hv27 : tripA.sl.v3655 c k XW = xsub XW k.val 27 := congrFun (xr_eq c k XW) 27
  have hv28 : tripA.sl.v3708 c k XW = xsub XW k.val 28 := congrFun (xr_eq c k XW) 28
  have hv29 : tripA.sl.v3761 c k XW = xsub XW k.val 29 := congrFun (xr_eq c k XW) 29
  have hv30 : tripA.sl.v3814 c k XW = xsub XW k.val 30 := congrFun (xr_eq c k XW) 30
  have hv31 : tripA.sl.v3867 c k XW = xsub XW k.val 31 := congrFun (xr_eq c k XW) 31
  have hv32 : tripA.sl.v3920 c k XW = xsub XW k.val 32 := congrFun (xr_eq c k XW) 32
  have hv33 : tripA.sl.v3973 c k XW = xsub XW k.val 33 := congrFun (xr_eq c k XW) 33
  have hv34 : tripA.sl.v4026 c k XW = xsub XW k.val 34 := congrFun (xr_eq c k XW) 34
  have hv35 : tripA.sl.v4079 c k XW = xsub XW k.val 35 := congrFun (xr_eq c k XW) 35
  have hA1 : tripA.sl.HA_1 c k XW A = ⟨amR, shapeCast S16x512 (amF (xsub XW k.val) 0 (View.readAt (Elt F) amM.view amR.toLoadRect A) 9) shapeCasts_S16x512_S16x512⟩ :: [] := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA2 : tripA.sl.HA_2 c k XW A = ⟨amR, shapeCast S16x512 (amF (xsub XW k.val) 9 (tripA.sl.v2592 c k XW A) 9) shapeCasts_S16x512_S16x512⟩ :: tripA.sl.HA_1 c k XW A := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA3 : tripA.sl.HA_3 c k XW A = ⟨amR, shapeCast S16x512 (amF (xsub XW k.val) 18 (tripA.sl.v3122 c k XW A) 9) shapeCasts_S16x512_S16x512⟩ :: tripA.sl.HA_2 c k XW A := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA4 : k0_pay224 (tripA.sl.r_135 c k XW A) = shapeCast S16x512 (amF (xsub XW k.val) 27 (tripA.sl.v3652 c k XW A) 9) shapeCasts_S16x512_S16x512 := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC1 : tripA.sl.HAc_1 c v109 k XW YC = ⟨accR, shapeCast S256x256 (part v109 (dr YC) (xsub XW k.val) 8) shapeCasts_S256x256_S256x256⟩ :: [] := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC2 : tripA.sl.HAc_2 c v109 k XW YC = ⟨accR, shapeCast S256x256 (partF v109 (dr YC) (xsub XW k.val) 9 (tripA.sl.v2593 c v109 k XW YC) 9) shapeCasts_S256x256_S256x256⟩ :: tripA.sl.HAc_1 c v109 k XW YC := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC3 : tripA.sl.HAc_3 c v109 k XW YC = ⟨accR, shapeCast S256x256 (partF v109 (dr YC) (xsub XW k.val) 18 (tripA.sl.v3123 c v109 k XW YC) 9) shapeCasts_S256x256_S256x256⟩ :: tripA.sl.HAc_2 c v109 k XW YC := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hX : tripA.sl.HX_w37 c v109 v112 k XW YC X = View.write (Elt F) (xbM.access (Rect.unit (s := S2x256x256) (k0_off32 k) S1x256x256.size (k0_off32_inb k))) X
      (shapeCast S1x256x256 (dxPay v112 (partF v109 (dr YC) (xsub XW k.val) 27 (tripA.sl.v3653 c v109 k XW YC) 9)) shapeCasts_S256x256_S1x256x256) Finset.univ := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132, tripA.sl.HX_w37]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hO0 : tripA.sl.HO0_w9 c v109 k XW O = nest 0 v109 (xsub XW k.val) (O 0) := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132, tripA.sl.HO0_w1, tripA.sl.HO0_w2, tripA.sl.HO0_w3, tripA.sl.HO0_w4, tripA.sl.HO0_w5, tripA.sl.HO0_w6, tripA.sl.HO0_w7, tripA.sl.HO0_w8, tripA.sl.HO0_w9]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp0 : tripA.sl.dma41_1 c v109 k XW O = ReadAs.same.apply ((oslot 0).view.read (Elt F) (nest 0 v109 (xsub XW k.val) (O 0))) :=
    congrArg (fun g => ReadAs.same.apply ((oslot 0).view.read (Elt F) g)) hO0
  have hO1 : tripA.sl.HO1_w18 c v109 k XW O = nest 1 v109 (xsub XW k.val) (O 1) := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132, tripA.sl.HO1_w10, tripA.sl.HO1_w11, tripA.sl.HO1_w12, tripA.sl.HO1_w13, tripA.sl.HO1_w14, tripA.sl.HO1_w15, tripA.sl.HO1_w16, tripA.sl.HO1_w17, tripA.sl.HO1_w18]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp1 : tripA.sl.dma83_1 c v109 k XW O = ReadAs.same.apply ((oslot 1).view.read (Elt F) (nest 1 v109 (xsub XW k.val) (O 1))) :=
    congrArg (fun g => ReadAs.same.apply ((oslot 1).view.read (Elt F) g)) hO1
  have hO2 : tripA.sl.HO2_w27 c v109 k XW O = nest 2 v109 (xsub XW k.val) (O 2) := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132, tripA.sl.HO2_w19, tripA.sl.HO2_w20, tripA.sl.HO2_w21, tripA.sl.HO2_w22, tripA.sl.HO2_w23, tripA.sl.HO2_w24, tripA.sl.HO2_w25, tripA.sl.HO2_w26, tripA.sl.HO2_w27]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp2 : tripA.sl.dma125_1 c v109 k XW O = ReadAs.same.apply ((oslot 2).view.read (Elt F) (nest 2 v109 (xsub XW k.val) (O 2))) :=
    congrArg (fun g => ReadAs.same.apply ((oslot 2).view.read (Elt F) g)) hO2
  have hO3 : tripA.sl.HO3_w36 c v109 k XW O = nest 3 v109 (xsub XW k.val) (O 3) := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132, tripA.sl.HO3_w28, tripA.sl.HO3_w29, tripA.sl.HO3_w30, tripA.sl.HO3_w31, tripA.sl.HO3_w32, tripA.sl.HO3_w33, tripA.sl.HO3_w34, tripA.sl.HO3_w35, tripA.sl.HO3_w36]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp3 : tripA.sl.dma167_1 c v109 k XW O = ReadAs.same.apply ((oslot 3).view.read (Elt F) (nest 3 v109 (xsub XW k.val) (O 3))) :=
    congrArg (fun g => ReadAs.same.apply ((oslot 3).view.read (Elt F) g)) hO3
  have hpX : tripA.sl.dma167_2 c v109 v112 k XW YC X = ReadAs.same.apply ((xslot (par k)).view.read (Elt F)
      (View.write (Elt F) (xbM.access (Rect.unit (s := S2x256x256) (k0_off32 k) S1x256x256.size (k0_off32_inb k))) X (shapeCast S1x256x256 (dxPay v112 (partF v109 (dr YC) (xsub XW k.val) 27 (tripA.sl.v3653 c v109 k XW YC) 9)) shapeCasts_S256x256_S1x256x256) Finset.univ)) :=
    congrArg (fun g => ReadAs.same.apply ((xslot (par k)).view.read (Elt F) g)) hX
  isplitl [HD0 HD1 HD2 HD3 HA HAc]
  · iexists _
    isplitl [HD0]; · iexact HD0
    isplitl [HD1]; · iexact HD1
    isplitl [HD2]; · iexact HD2
    isplitl [HD3]; · iexact HD3
    isplitl [HA]
    · iapply (am_of c k XW A hA1 hA2 hA3 hA4)
      iexact HA
    · iexact HAc
  isplitl [HI0_src HI1_src HI2_src HI3_src]
  · isplitl [HI0_src]
    · iexact HI0_src
    isplitl [HI1_src]
    · iexact HI1_src
    isplitl [HI2_src]
    · iexact HI2_src
    · iexact HI3_src
  isplitl [HOz0 HOz1 HOz2 HOz3]
  · isplitl [HOz0]
    · iapply (flyOut_of c k XW v109 0 hp0)
      iexact HOz0
    isplitl [HOz1]
    · iapply (flyOut_of c k XW v109 1 hp1)
      iexact HOz1
    isplitl [HOz2]
    · iapply (flyOut_of c k XW v109 2 hp2)
      iexact HOz2
    · iapply (flyOut_of c k XW v109 3 hp3)
      iexact HOz3
  isplitl [HI0 HI1 HI2 HI3]
  · isplitl [HI0]
    · iapply (flyW_of c XW (par k) 0 (Ring.bk 28 (k + 2)) (p := tripA.sl.dma41 c k XW) rfl)
      iexact HI0
    isplitl [HI1]
    · iapply (flyW_of c XW (par k) 1 (Ring.bk 28 (k + 2)) (p := tripA.sl.dma83 c k XW) rfl)
      iexact HI1
    isplitl [HI2]
    · iapply (flyW_of c XW (par k) 2 (Ring.bk 28 (k + 2)) (p := tripA.sl.dma125 c k XW) rfl)
      iexact HI2
    · iapply (flyW_of c XW (par k) 3 (Ring.bk 28 (k + 2)) (p := tripA.sl.dma167 c k XW) rfl)
      iexact HI3
  isplitl [HXz]
  · iapply (flyDx_of c k XW YC v109 v112 hC1 hC2 hC3 rfl hpX)
    iexact HXz
  iexists _
  iexact HW

end

end Cert.Proof.K

end
-- ==== Proof.K.TripB.lean ====
module

public import proofs.«01_k».proof.Proof.K.Trip

/-! Trip `1`. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD)
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)
  (v109 v112 : F .f32) (c1 : BitVec 32)

set_option maxHeartbeats 16000000 in
theorem tripB (k : Fin k0_t1_loop.trips) (h1 : k.val = 1)
    (XW : BufOf (F := F) c wM) (YC : S256x18432.Idx → F .fp8e4m3) (A : S16x512.Idx → F .bf16) (Ac : S256x256.Idx → F .f32)
    (f : ∀ j, BufOf (F := F) c (rslot (par k) j)) (O : Fin 4 → S4x256x4608.Idx → F .fp8e4m3)
    (G : S7168x18432.Idx → F .fp8e4m3) (X : S2x256x256.Idx → F .bf16) (x' : S256x7168.Idx → F .bf16) (W : Waits sig Unit) :
    iprop(base c YC A Ac
      ∗ four (fun j => flyW c XW (par k) j (Ring.bk 28 k) (f j))
      ∗ four (fun j => homeW c XW (Ring.bk 28 (k + 2)) j)
      ∗ four (fun j => flyOutAt c (WCf v109 XW) j (Ring.bk 28 (k - 1)) (O j))
      ∗ four (fun j => held c (wcblk (Ring.bk 28 k) j) G)
      ∗ held c (xslot (par k)) X
      ∗ zero c (xsem (par k))
      ∗ held c (dxblk (Ring.bk 28 k)) x'
      ∗ owes (c : Thread nD τ) 0 W)
      ⊢ wp frame (wpE (defs₀ (F := F)) 𝒱₀ (c : Thread nD τ) none) Set.univ (tripG arg2 harg2 arg3 harg3 arg6 harg6 arg8 harg8 arg9 harg9 arg10 harg10 v109 v112 c1 k)
        (fun _ => iprop(iprop(∃ Ac, base c YC (amN (xsub XW k) A 36) Ac)
        ∗ four (fun j => homeW c XW (Ring.bk 28 k) j)
        ∗ four (fun j => flyOut c (WCf v109 XW) j (Ring.bk 28 k))
        ∗ four (fun j => iprop(∃ f, flyW c XW (par k) j (Ring.bk 28 (k + 2)) f))
        ∗ four (fun j => held c (wcblk (Ring.bk 28 (k - 1)) j) (WCf v109 XW))
        ∗ flyDx c (DXf v109 v112 YC XW) (par k) (Ring.bk 28 k)
        ∗ iprop(∃ W, owes (c : Thread nD τ) 0 W))) := by
  have e1 := cond1_pos k (by omega)
  have e3 := cond3_pos k (by omega)
  have e5 := cond5_pos k (by omega)
  have e7 := cond7_pos k (by omega)
  have e2 := cond2_pos k (by omega)
  have e4 := cond4_pos k (by omega)
  have e6 := cond6_pos k (by omega)
  have e9 := cond9_pos k (by omega)
  have e8 : ¬ (k0_cond8 k = 1#1) := by rw [cond8_neg k (by omega)]; decide
  iintro ⟨⟨HD0, HD1, HD2, HD3, HA, HAc⟩, ⟨HI0, HI1, HI2, HI3⟩, ⟨HW0, HW1, HW2, HW3⟩, ⟨HO0, HO1, HO2, HO3⟩, ⟨HC0, HC1, HC2, HC3⟩, HX, HXz, Hx, HW⟩
  dsimp only [tripG]
  sl_unfold [k0_t1_body]
  sl_exec
  rw [wp_ret]
  imodintro
  have hv0 : tripB.sl.v2066 c k XW = xsub XW k.val 0 := congrFun (xr_eq c k XW) 0
  have hv1 : tripB.sl.v2118 c k XW = xsub XW k.val 1 := congrFun (xr_eq c k XW) 1
  have hv2 : tripB.sl.v2171 c k XW = xsub XW k.val 2 := congrFun (xr_eq c k XW) 2
  have hv3 : tripB.sl.v2224 c k XW = xsub XW k.val 3 := congrFun (xr_eq c k XW) 3
  have hv4 : tripB.sl.v2277 c k XW = xsub XW k.val 4 := congrFun (xr_eq c k XW) 4
  have hv5 : tripB.sl.v2330 c k XW = xsub XW k.val 5 := congrFun (xr_eq c k XW) 5
  have hv6 : tripB.sl.v2383 c k XW = xsub XW k.val 6 := congrFun (xr_eq c k XW) 6
  have hv7 : tripB.sl.v2436 c k XW = xsub XW k.val 7 := congrFun (xr_eq c k XW) 7
  have hv8 : tripB.sl.v2489 c k XW = xsub XW k.val 8 := congrFun (xr_eq c k XW) 8
  have hv9 : tripB.sl.v2595 c k XW = xsub XW k.val 9 := congrFun (xr_eq c k XW) 9
  have hv10 : tripB.sl.v2648 c k XW = xsub XW k.val 10 := congrFun (xr_eq c k XW) 10
  have hv11 : tripB.sl.v2701 c k XW = xsub XW k.val 11 := congrFun (xr_eq c k XW) 11
  have hv12 : tripB.sl.v2754 c k XW = xsub XW k.val 12 := congrFun (xr_eq c k XW) 12
  have hv13 : tripB.sl.v2807 c k XW = xsub XW k.val 13 := congrFun (xr_eq c k XW) 13
  have hv14 : tripB.sl.v2860 c k XW = xsub XW k.val 14 := congrFun (xr_eq c k XW) 14
  have hv15 : tripB.sl.v2913 c k XW = xsub XW k.val 15 := congrFun (xr_eq c k XW) 15
  have hv16 : tripB.sl.v2966 c k XW = xsub XW k.val 16 := congrFun (xr_eq c k XW) 16
  have hv17 : tripB.sl.v3019 c k XW = xsub XW k.val 17 := congrFun (xr_eq c k XW) 17
  have hv18 : tripB.sl.v3125 c k XW = xsub XW k.val 18 := congrFun (xr_eq c k XW) 18
  have hv19 : tripB.sl.v3178 c k XW = xsub XW k.val 19 := congrFun (xr_eq c k XW) 19
  have hv20 : tripB.sl.v3231 c k XW = xsub XW k.val 20 := congrFun (xr_eq c k XW) 20
  have hv21 : tripB.sl.v3284 c k XW = xsub XW k.val 21 := congrFun (xr_eq c k XW) 21
  have hv22 : tripB.sl.v3337 c k XW = xsub XW k.val 22 := congrFun (xr_eq c k XW) 22
  have hv23 : tripB.sl.v3390 c k XW = xsub XW k.val 23 := congrFun (xr_eq c k XW) 23
  have hv24 : tripB.sl.v3443 c k XW = xsub XW k.val 24 := congrFun (xr_eq c k XW) 24
  have hv25 : tripB.sl.v3496 c k XW = xsub XW k.val 25 := congrFun (xr_eq c k XW) 25
  have hv26 : tripB.sl.v3549 c k XW = xsub XW k.val 26 := congrFun (xr_eq c k XW) 26
  have hv27 : tripB.sl.v3655 c k XW = xsub XW k.val 27 := congrFun (xr_eq c k XW) 27
  have hv28 : tripB.sl.v3708 c k XW = xsub XW k.val 28 := congrFun (xr_eq c k XW) 28
  have hv29 : tripB.sl.v3761 c k XW = xsub XW k.val 29 := congrFun (xr_eq c k XW) 29
  have hv30 : tripB.sl.v3814 c k XW = xsub XW k.val 30 := congrFun (xr_eq c k XW) 30
  have hv31 : tripB.sl.v3867 c k XW = xsub XW k.val 31 := congrFun (xr_eq c k XW) 31
  have hv32 : tripB.sl.v3920 c k XW = xsub XW k.val 32 := congrFun (xr_eq c k XW) 32
  have hv33 : tripB.sl.v3973 c k XW = xsub XW k.val 33 := congrFun (xr_eq c k XW) 33
  have hv34 : tripB.sl.v4026 c k XW = xsub XW k.val 34 := congrFun (xr_eq c k XW) 34
  have hv35 : tripB.sl.v4079 c k XW = xsub XW k.val 35 := congrFun (xr_eq c k XW) 35
  have hA1 : tripB.sl.HA_1 c k XW A = ⟨amR, shapeCast S16x512 (amF (xsub XW k.val) 0 (View.readAt (Elt F) amM.view amR.toLoadRect A) 9) shapeCasts_S16x512_S16x512⟩ :: [] := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA2 : tripB.sl.HA_2 c k XW A = ⟨amR, shapeCast S16x512 (amF (xsub XW k.val) 9 (tripB.sl.v2592 c k XW A) 9) shapeCasts_S16x512_S16x512⟩ :: tripB.sl.HA_1 c k XW A := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA3 : tripB.sl.HA_3 c k XW A = ⟨amR, shapeCast S16x512 (amF (xsub XW k.val) 18 (tripB.sl.v3122 c k XW A) 9) shapeCasts_S16x512_S16x512⟩ :: tripB.sl.HA_2 c k XW A := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA4 : k0_pay224 (tripB.sl.r_135 c k XW A) = shapeCast S16x512 (amF (xsub XW k.val) 27 (tripB.sl.v3652 c k XW A) 9) shapeCasts_S16x512_S16x512 := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC1 : tripB.sl.HAc_1 c v109 k XW YC = ⟨accR, shapeCast S256x256 (part v109 (dr YC) (xsub XW k.val) 8) shapeCasts_S256x256_S256x256⟩ :: [] := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC2 : tripB.sl.HAc_2 c v109 k XW YC = ⟨accR, shapeCast S256x256 (partF v109 (dr YC) (xsub XW k.val) 9 (tripB.sl.v2593 c v109 k XW YC) 9) shapeCasts_S256x256_S256x256⟩ :: tripB.sl.HAc_1 c v109 k XW YC := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC3 : tripB.sl.HAc_3 c v109 k XW YC = ⟨accR, shapeCast S256x256 (partF v109 (dr YC) (xsub XW k.val) 18 (tripB.sl.v3123 c v109 k XW YC) 9) shapeCasts_S256x256_S256x256⟩ :: tripB.sl.HAc_2 c v109 k XW YC := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hX : tripB.sl.HX_w37 c v109 v112 k XW YC X = View.write (Elt F) (xbM.access (Rect.unit (s := S2x256x256) (k0_off32 k) S1x256x256.size (k0_off32_inb k))) X
      (shapeCast S1x256x256 (dxPay v112 (partF v109 (dr YC) (xsub XW k.val) 27 (tripB.sl.v3653 c v109 k XW YC) 9)) shapeCasts_S256x256_S1x256x256) Finset.univ := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97, tripB.sl.HX_w37]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hO0 : tripB.sl.HO0_src_w9 c v109 k XW O = nest 0 v109 (xsub XW k.val) (O 0) := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97, tripB.sl.HO0_src_w1, tripB.sl.HO0_src_w2, tripB.sl.HO0_src_w3, tripB.sl.HO0_src_w4, tripB.sl.HO0_src_w5, tripB.sl.HO0_src_w6, tripB.sl.HO0_src_w7, tripB.sl.HO0_src_w8, tripB.sl.HO0_src_w9]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp0 : tripB.sl.dma41_1 c v109 k XW O = ReadAs.same.apply ((oslot 0).view.read (Elt F) (nest 0 v109 (xsub XW k.val) (O 0))) :=
    congrArg (fun g => ReadAs.same.apply ((oslot 0).view.read (Elt F) g)) hO0
  have hO1 : tripB.sl.HO1_src_w18 c v109 k XW O = nest 1 v109 (xsub XW k.val) (O 1) := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97, tripB.sl.HO1_src_w10, tripB.sl.HO1_src_w11, tripB.sl.HO1_src_w12, tripB.sl.HO1_src_w13, tripB.sl.HO1_src_w14, tripB.sl.HO1_src_w15, tripB.sl.HO1_src_w16, tripB.sl.HO1_src_w17, tripB.sl.HO1_src_w18]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp1 : tripB.sl.dma83_1 c v109 k XW O = ReadAs.same.apply ((oslot 1).view.read (Elt F) (nest 1 v109 (xsub XW k.val) (O 1))) :=
    congrArg (fun g => ReadAs.same.apply ((oslot 1).view.read (Elt F) g)) hO1
  have hO2 : tripB.sl.HO2_src_w27 c v109 k XW O = nest 2 v109 (xsub XW k.val) (O 2) := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97, tripB.sl.HO2_src_w19, tripB.sl.HO2_src_w20, tripB.sl.HO2_src_w21, tripB.sl.HO2_src_w22, tripB.sl.HO2_src_w23, tripB.sl.HO2_src_w24, tripB.sl.HO2_src_w25, tripB.sl.HO2_src_w26, tripB.sl.HO2_src_w27]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp2 : tripB.sl.dma125_1 c v109 k XW O = ReadAs.same.apply ((oslot 2).view.read (Elt F) (nest 2 v109 (xsub XW k.val) (O 2))) :=
    congrArg (fun g => ReadAs.same.apply ((oslot 2).view.read (Elt F) g)) hO2
  have hO3 : tripB.sl.HO3_src_w36 c v109 k XW O = nest 3 v109 (xsub XW k.val) (O 3) := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97, tripB.sl.HO3_src_w28, tripB.sl.HO3_src_w29, tripB.sl.HO3_src_w30, tripB.sl.HO3_src_w31, tripB.sl.HO3_src_w32, tripB.sl.HO3_src_w33, tripB.sl.HO3_src_w34, tripB.sl.HO3_src_w35, tripB.sl.HO3_src_w36]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp3 : tripB.sl.dma167_1 c v109 k XW O = ReadAs.same.apply ((oslot 3).view.read (Elt F) (nest 3 v109 (xsub XW k.val) (O 3))) :=
    congrArg (fun g => ReadAs.same.apply ((oslot 3).view.read (Elt F) g)) hO3
  have hpX : tripB.sl.dma167_2 c v109 v112 k XW YC X = ReadAs.same.apply ((xslot (par k)).view.read (Elt F)
      (View.write (Elt F) (xbM.access (Rect.unit (s := S2x256x256) (k0_off32 k) S1x256x256.size (k0_off32_inb k))) X (shapeCast S1x256x256 (dxPay v112 (partF v109 (dr YC) (xsub XW k.val) 27 (tripB.sl.v3653 c v109 k XW YC) 9)) shapeCasts_S256x256_S1x256x256) Finset.univ)) :=
    congrArg (fun g => ReadAs.same.apply ((xslot (par k)).view.read (Elt F) g)) hX
  isplitl [HD0 HD1 HD2 HD3 HA HAc]
  · iexists _
    isplitl [HD0]; · iexact HD0
    isplitl [HD1]; · iexact HD1
    isplitl [HD2]; · iexact HD2
    isplitl [HD3]; · iexact HD3
    isplitl [HA]
    · iapply (am_of c k XW A hA1 hA2 hA3 hA4)
      iexact HA
    · iexact HAc
  isplitl [HI0_src HI1_src HI2_src HI3_src]
  · isplitl [HI0_src]
    · iexact HI0_src
    isplitl [HI1_src]
    · iexact HI1_src
    isplitl [HI2_src]
    · iexact HI2_src
    · iexact HI3_src
  isplitl [HO0 HO1 HO2 HO3]
  · isplitl [HO0]
    · iapply (flyOut_of c k XW v109 0 hp0)
      iexact HO0
    isplitl [HO1]
    · iapply (flyOut_of c k XW v109 1 hp1)
      iexact HO1
    isplitl [HO2]
    · iapply (flyOut_of c k XW v109 2 hp2)
      iexact HO2
    · iapply (flyOut_of c k XW v109 3 hp3)
      iexact HO3
  isplitl [HI0 HI1 HI2 HI3]
  · isplitl [HI0]
    · iapply (flyW_of c XW (par k) 0 (Ring.bk 28 (k + 2)) (p := tripB.sl.dma41 c k XW) rfl)
      iexact HI0
    isplitl [HI1]
    · iapply (flyW_of c XW (par k) 1 (Ring.bk 28 (k + 2)) (p := tripB.sl.dma83 c k XW) rfl)
      iexact HI1
    isplitl [HI2]
    · iapply (flyW_of c XW (par k) 2 (Ring.bk 28 (k + 2)) (p := tripB.sl.dma125 c k XW) rfl)
      iexact HI2
    · iapply (flyW_of c XW (par k) 3 (Ring.bk 28 (k + 2)) (p := tripB.sl.dma167 c k XW) rfl)
      iexact HI3
  isplitl [HO0_dst HO1_dst HO2_dst HO3_dst]
  · isplitl [HO0_dst]
    · iexact HO0_dst
    isplitl [HO1_dst]
    · iexact HO1_dst
    isplitl [HO2_dst]
    · iexact HO2_dst
    · iexact HO3_dst
  isplitl [HXz]
  · iapply (flyDx_of c k XW YC v109 v112 hC1 hC2 hC3 rfl hpX)
    iexact HXz
  iexists _
  iexact HW

end

end Cert.Proof.K

end
-- ==== Proof.K.TripC.lean ====
module

public import proofs.«01_k».proof.Proof.K.Trip

/-! A trip from `2` to `25`. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD)
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)
  (v109 v112 : F .f32) (c1 : BitVec 32)

set_option maxHeartbeats 16000000 in
theorem tripC (k : Fin k0_t1_loop.trips) (h2 : 2 ≤ k.val) (h28 : k.val + 2 < 28)
    (XW : BufOf (F := F) c wM) (YC : S256x18432.Idx → F .fp8e4m3) (A : S16x512.Idx → F .bf16) (Ac : S256x256.Idx → F .f32)
    (f : ∀ j, BufOf (F := F) c (rslot (par k) j)) (O : Fin 4 → S4x256x4608.Idx → F .fp8e4m3)
    (G : S7168x18432.Idx → F .fp8e4m3) (X : S2x256x256.Idx → F .bf16) (x' : S256x7168.Idx → F .bf16) (W : Waits sig Unit) :
    iprop(base c YC A Ac
      ∗ four (fun j => flyW c XW (par k) j (Ring.bk 28 k) (f j))
      ∗ four (fun j => homeW c XW (Ring.bk 28 (k + 2)) j)
      ∗ four (fun j => flyOutAt c (WCf v109 XW) j (Ring.bk 28 (k - 1)) (O j))
      ∗ four (fun j => held c (wcblk (Ring.bk 28 k) j) G)
      ∗ flyDxAt c (DXf v109 v112 YC XW) (par k) (Ring.bk 28 (k - 2)) X
      ∗ held c (dxblk (Ring.bk 28 k)) x'
      ∗ owes (c : Thread nD τ) 0 W)
      ⊢ wp frame (wpE (defs₀ (F := F)) 𝒱₀ (c : Thread nD τ) none) Set.univ (tripG arg2 harg2 arg3 harg3 arg6 harg6 arg8 harg8 arg9 harg9 arg10 harg10 v109 v112 c1 k)
        (fun _ => iprop(iprop(∃ Ac, base c YC (amN (xsub XW k) A 36) Ac)
        ∗ four (fun j => homeW c XW (Ring.bk 28 k) j)
        ∗ four (fun j => flyOut c (WCf v109 XW) j (Ring.bk 28 k))
        ∗ four (fun j => iprop(∃ f, flyW c XW (par k) j (Ring.bk 28 (k + 2)) f))
        ∗ four (fun j => held c (wcblk (Ring.bk 28 (k - 1)) j) (WCf v109 XW))
        ∗ flyDx c (DXf v109 v112 YC XW) (par k) (Ring.bk 28 k)
        ∗ held c (dxblk (Ring.bk 28 (k - 2))) (DXf v109 v112 YC XW)
        ∗ iprop(∃ W, owes (c : Thread nD τ) 0 W))) := by
  have e1 := cond1_pos k (by omega)
  have e3 := cond3_pos k (by omega)
  have e5 := cond5_pos k (by omega)
  have e7 := cond7_pos k (by omega)
  have e2 := cond2_pos k (by omega)
  have e4 := cond4_pos k (by omega)
  have e6 := cond6_pos k (by omega)
  have e9 := cond9_pos k (by omega)
  have e8 := cond8_pos k (by omega)
  iintro ⟨⟨HD0, HD1, HD2, HD3, HA, HAc⟩, ⟨HI0, HI1, HI2, HI3⟩, ⟨HW0, HW1, HW2, HW3⟩, ⟨HO0, HO1, HO2, HO3⟩, ⟨HC0, HC1, HC2, HC3⟩, HX, Hx, HW⟩
  dsimp only [tripG]
  sl_unfold [k0_t1_body]
  sl_exec
  rw [wp_ret]
  imodintro
  have hv0 : tripC.sl.v2066 c k XW = xsub XW k.val 0 := congrFun (xr_eq c k XW) 0
  have hv1 : tripC.sl.v2118 c k XW = xsub XW k.val 1 := congrFun (xr_eq c k XW) 1
  have hv2 : tripC.sl.v2171 c k XW = xsub XW k.val 2 := congrFun (xr_eq c k XW) 2
  have hv3 : tripC.sl.v2224 c k XW = xsub XW k.val 3 := congrFun (xr_eq c k XW) 3
  have hv4 : tripC.sl.v2277 c k XW = xsub XW k.val 4 := congrFun (xr_eq c k XW) 4
  have hv5 : tripC.sl.v2330 c k XW = xsub XW k.val 5 := congrFun (xr_eq c k XW) 5
  have hv6 : tripC.sl.v2383 c k XW = xsub XW k.val 6 := congrFun (xr_eq c k XW) 6
  have hv7 : tripC.sl.v2436 c k XW = xsub XW k.val 7 := congrFun (xr_eq c k XW) 7
  have hv8 : tripC.sl.v2489 c k XW = xsub XW k.val 8 := congrFun (xr_eq c k XW) 8
  have hv9 : tripC.sl.v2595 c k XW = xsub XW k.val 9 := congrFun (xr_eq c k XW) 9
  have hv10 : tripC.sl.v2648 c k XW = xsub XW k.val 10 := congrFun (xr_eq c k XW) 10
  have hv11 : tripC.sl.v2701 c k XW = xsub XW k.val 11 := congrFun (xr_eq c k XW) 11
  have hv12 : tripC.sl.v2754 c k XW = xsub XW k.val 12 := congrFun (xr_eq c k XW) 12
  have hv13 : tripC.sl.v2807 c k XW = xsub XW k.val 13 := congrFun (xr_eq c k XW) 13
  have hv14 : tripC.sl.v2860 c k XW = xsub XW k.val 14 := congrFun (xr_eq c k XW) 14
  have hv15 : tripC.sl.v2913 c k XW = xsub XW k.val 15 := congrFun (xr_eq c k XW) 15
  have hv16 : tripC.sl.v2966 c k XW = xsub XW k.val 16 := congrFun (xr_eq c k XW) 16
  have hv17 : tripC.sl.v3019 c k XW = xsub XW k.val 17 := congrFun (xr_eq c k XW) 17
  have hv18 : tripC.sl.v3125 c k XW = xsub XW k.val 18 := congrFun (xr_eq c k XW) 18
  have hv19 : tripC.sl.v3178 c k XW = xsub XW k.val 19 := congrFun (xr_eq c k XW) 19
  have hv20 : tripC.sl.v3231 c k XW = xsub XW k.val 20 := congrFun (xr_eq c k XW) 20
  have hv21 : tripC.sl.v3284 c k XW = xsub XW k.val 21 := congrFun (xr_eq c k XW) 21
  have hv22 : tripC.sl.v3337 c k XW = xsub XW k.val 22 := congrFun (xr_eq c k XW) 22
  have hv23 : tripC.sl.v3390 c k XW = xsub XW k.val 23 := congrFun (xr_eq c k XW) 23
  have hv24 : tripC.sl.v3443 c k XW = xsub XW k.val 24 := congrFun (xr_eq c k XW) 24
  have hv25 : tripC.sl.v3496 c k XW = xsub XW k.val 25 := congrFun (xr_eq c k XW) 25
  have hv26 : tripC.sl.v3549 c k XW = xsub XW k.val 26 := congrFun (xr_eq c k XW) 26
  have hv27 : tripC.sl.v3655 c k XW = xsub XW k.val 27 := congrFun (xr_eq c k XW) 27
  have hv28 : tripC.sl.v3708 c k XW = xsub XW k.val 28 := congrFun (xr_eq c k XW) 28
  have hv29 : tripC.sl.v3761 c k XW = xsub XW k.val 29 := congrFun (xr_eq c k XW) 29
  have hv30 : tripC.sl.v3814 c k XW = xsub XW k.val 30 := congrFun (xr_eq c k XW) 30
  have hv31 : tripC.sl.v3867 c k XW = xsub XW k.val 31 := congrFun (xr_eq c k XW) 31
  have hv32 : tripC.sl.v3920 c k XW = xsub XW k.val 32 := congrFun (xr_eq c k XW) 32
  have hv33 : tripC.sl.v3973 c k XW = xsub XW k.val 33 := congrFun (xr_eq c k XW) 33
  have hv34 : tripC.sl.v4026 c k XW = xsub XW k.val 34 := congrFun (xr_eq c k XW) 34
  have hv35 : tripC.sl.v4079 c k XW = xsub XW k.val 35 := congrFun (xr_eq c k XW) 35
  have hA1 : tripC.sl.HA_1 c k XW A = ⟨amR, shapeCast S16x512 (amF (xsub XW k.val) 0 (View.readAt (Elt F) amM.view amR.toLoadRect A) 9) shapeCasts_S16x512_S16x512⟩ :: [] := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA2 : tripC.sl.HA_2 c k XW A = ⟨amR, shapeCast S16x512 (amF (xsub XW k.val) 9 (tripC.sl.v2592 c k XW A) 9) shapeCasts_S16x512_S16x512⟩ :: tripC.sl.HA_1 c k XW A := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA3 : tripC.sl.HA_3 c k XW A = ⟨amR, shapeCast S16x512 (amF (xsub XW k.val) 18 (tripC.sl.v3122 c k XW A) 9) shapeCasts_S16x512_S16x512⟩ :: tripC.sl.HA_2 c k XW A := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA4 : k0_pay224 (tripC.sl.r_135 c k XW A) = shapeCast S16x512 (amF (xsub XW k.val) 27 (tripC.sl.v3652 c k XW A) 9) shapeCasts_S16x512_S16x512 := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC1 : tripC.sl.HAc_1 c v109 k XW YC = ⟨accR, shapeCast S256x256 (part v109 (dr YC) (xsub XW k.val) 8) shapeCasts_S256x256_S256x256⟩ :: [] := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC2 : tripC.sl.HAc_2 c v109 k XW YC = ⟨accR, shapeCast S256x256 (partF v109 (dr YC) (xsub XW k.val) 9 (tripC.sl.v2593 c v109 k XW YC) 9) shapeCasts_S256x256_S256x256⟩ :: tripC.sl.HAc_1 c v109 k XW YC := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC3 : tripC.sl.HAc_3 c v109 k XW YC = ⟨accR, shapeCast S256x256 (partF v109 (dr YC) (xsub XW k.val) 18 (tripC.sl.v3123 c v109 k XW YC) 9) shapeCasts_S256x256_S256x256⟩ :: tripC.sl.HAc_2 c v109 k XW YC := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hX : tripC.sl.HX_src_w37 c v109 v112 k XW YC X = View.write (Elt F) (xbM.access (Rect.unit (s := S2x256x256) (k0_off32 k) S1x256x256.size (k0_off32_inb k))) X
      (shapeCast S1x256x256 (dxPay v112 (partF v109 (dr YC) (xsub XW k.val) 27 (tripC.sl.v3653 c v109 k XW YC) 9)) shapeCasts_S256x256_S1x256x256) Finset.univ := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124, tripC.sl.HX_src_w37]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hO0 : tripC.sl.HO0_src_w9 c v109 k XW O = nest 0 v109 (xsub XW k.val) (O 0) := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124, tripC.sl.HO0_src_w1, tripC.sl.HO0_src_w2, tripC.sl.HO0_src_w3, tripC.sl.HO0_src_w4, tripC.sl.HO0_src_w5, tripC.sl.HO0_src_w6, tripC.sl.HO0_src_w7, tripC.sl.HO0_src_w8, tripC.sl.HO0_src_w9]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp0 : tripC.sl.dma41_1 c v109 k XW O = ReadAs.same.apply ((oslot 0).view.read (Elt F) (nest 0 v109 (xsub XW k.val) (O 0))) :=
    congrArg (fun g => ReadAs.same.apply ((oslot 0).view.read (Elt F) g)) hO0
  have hO1 : tripC.sl.HO1_src_w18 c v109 k XW O = nest 1 v109 (xsub XW k.val) (O 1) := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124, tripC.sl.HO1_src_w10, tripC.sl.HO1_src_w11, tripC.sl.HO1_src_w12, tripC.sl.HO1_src_w13, tripC.sl.HO1_src_w14, tripC.sl.HO1_src_w15, tripC.sl.HO1_src_w16, tripC.sl.HO1_src_w17, tripC.sl.HO1_src_w18]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp1 : tripC.sl.dma83_1 c v109 k XW O = ReadAs.same.apply ((oslot 1).view.read (Elt F) (nest 1 v109 (xsub XW k.val) (O 1))) :=
    congrArg (fun g => ReadAs.same.apply ((oslot 1).view.read (Elt F) g)) hO1
  have hO2 : tripC.sl.HO2_src_w27 c v109 k XW O = nest 2 v109 (xsub XW k.val) (O 2) := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124, tripC.sl.HO2_src_w19, tripC.sl.HO2_src_w20, tripC.sl.HO2_src_w21, tripC.sl.HO2_src_w22, tripC.sl.HO2_src_w23, tripC.sl.HO2_src_w24, tripC.sl.HO2_src_w25, tripC.sl.HO2_src_w26, tripC.sl.HO2_src_w27]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp2 : tripC.sl.dma125_1 c v109 k XW O = ReadAs.same.apply ((oslot 2).view.read (Elt F) (nest 2 v109 (xsub XW k.val) (O 2))) :=
    congrArg (fun g => ReadAs.same.apply ((oslot 2).view.read (Elt F) g)) hO2
  have hO3 : tripC.sl.HO3_src_w36 c v109 k XW O = nest 3 v109 (xsub XW k.val) (O 3) := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124, tripC.sl.HO3_src_w28, tripC.sl.HO3_src_w29, tripC.sl.HO3_src_w30, tripC.sl.HO3_src_w31, tripC.sl.HO3_src_w32, tripC.sl.HO3_src_w33, tripC.sl.HO3_src_w34, tripC.sl.HO3_src_w35, tripC.sl.HO3_src_w36]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp3 : tripC.sl.dma167_1 c v109 k XW O = ReadAs.same.apply ((oslot 3).view.read (Elt F) (nest 3 v109 (xsub XW k.val) (O 3))) :=
    congrArg (fun g => ReadAs.same.apply ((oslot 3).view.read (Elt F) g)) hO3
  have hpX : tripC.sl.dma167_2 c v109 v112 k XW YC X = ReadAs.same.apply ((xslot (par k)).view.read (Elt F)
      (View.write (Elt F) (xbM.access (Rect.unit (s := S2x256x256) (k0_off32 k) S1x256x256.size (k0_off32_inb k))) X (shapeCast S1x256x256 (dxPay v112 (partF v109 (dr YC) (xsub XW k.val) 27 (tripC.sl.v3653 c v109 k XW YC) 9)) shapeCasts_S256x256_S1x256x256) Finset.univ)) :=
    congrArg (fun g => ReadAs.same.apply ((xslot (par k)).view.read (Elt F) g)) hX
  isplitl [HD0 HD1 HD2 HD3 HA HAc]
  · iexists _
    isplitl [HD0]; · iexact HD0
    isplitl [HD1]; · iexact HD1
    isplitl [HD2]; · iexact HD2
    isplitl [HD3]; · iexact HD3
    isplitl [HA]
    · iapply (am_of c k XW A hA1 hA2 hA3 hA4)
      iexact HA
    · iexact HAc
  isplitl [HI0_src HI1_src HI2_src HI3_src]
  · isplitl [HI0_src]
    · iexact HI0_src
    isplitl [HI1_src]
    · iexact HI1_src
    isplitl [HI2_src]
    · iexact HI2_src
    · iexact HI3_src
  isplitl [HO0 HO1 HO2 HO3]
  · isplitl [HO0]
    · iapply (flyOut_of c k XW v109 0 hp0)
      iexact HO0
    isplitl [HO1]
    · iapply (flyOut_of c k XW v109 1 hp1)
      iexact HO1
    isplitl [HO2]
    · iapply (flyOut_of c k XW v109 2 hp2)
      iexact HO2
    · iapply (flyOut_of c k XW v109 3 hp3)
      iexact HO3
  isplitl [HI0 HI1 HI2 HI3]
  · isplitl [HI0]
    · iapply (flyW_of c XW (par k) 0 (Ring.bk 28 (k + 2)) (p := tripC.sl.dma41 c k XW) rfl)
      iexact HI0
    isplitl [HI1]
    · iapply (flyW_of c XW (par k) 1 (Ring.bk 28 (k + 2)) (p := tripC.sl.dma83 c k XW) rfl)
      iexact HI1
    isplitl [HI2]
    · iapply (flyW_of c XW (par k) 2 (Ring.bk 28 (k + 2)) (p := tripC.sl.dma125 c k XW) rfl)
      iexact HI2
    · iapply (flyW_of c XW (par k) 3 (Ring.bk 28 (k + 2)) (p := tripC.sl.dma167 c k XW) rfl)
      iexact HI3
  isplitl [HO0_dst HO1_dst HO2_dst HO3_dst]
  · isplitl [HO0_dst]
    · iexact HO0_dst
    isplitl [HO1_dst]
    · iexact HO1_dst
    isplitl [HO2_dst]
    · iexact HO2_dst
    · iexact HO3_dst
  isplitl [HX]
  · iapply (flyDx_of c k XW YC v109 v112 hC1 hC2 hC3 rfl hpX)
    iexact HX
  isplitl [HX_dst]
  · iexact HX_dst
  iexists _
  iexact HW

end

end Cert.Proof.K

end
-- ==== Proof.K.TripD.lean ====
module

public import proofs.«01_k».proof.Proof.K.Trip

/-! Trips `26` and `27`. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD)
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)
  (v109 v112 : F .f32) (c1 : BitVec 32)

set_option maxHeartbeats 16000000 in
theorem tripD (k : Fin k0_t1_loop.trips) (h26 : 26 ≤ k.val)
    (XW : BufOf (F := F) c wM) (YC : S256x18432.Idx → F .fp8e4m3) (A : S16x512.Idx → F .bf16) (Ac : S256x256.Idx → F .f32)
    (f : ∀ j, BufOf (F := F) c (rslot (par k) j)) (O : Fin 4 → S4x256x4608.Idx → F .fp8e4m3)
    (G : S7168x18432.Idx → F .fp8e4m3) (X : S2x256x256.Idx → F .bf16) (x' : S256x7168.Idx → F .bf16) (W : Waits sig Unit) :
    iprop(base c YC A Ac
      ∗ four (fun j => flyW c XW (par k) j (Ring.bk 28 k) (f j))
      ∗ four (fun j => flyOutAt c (WCf v109 XW) j (Ring.bk 28 (k - 1)) (O j))
      ∗ four (fun j => held c (wcblk (Ring.bk 28 k) j) G)
      ∗ flyDxAt c (DXf v109 v112 YC XW) (par k) (Ring.bk 28 (k - 2)) X
      ∗ held c (dxblk (Ring.bk 28 k)) x'
      ∗ owes (c : Thread nD τ) 0 W)
      ⊢ wp frame (wpE (defs₀ (F := F)) 𝒱₀ (c : Thread nD τ) none) Set.univ (tripG arg2 harg2 arg3 harg3 arg6 harg6 arg8 harg8 arg9 harg9 arg10 harg10 v109 v112 c1 k)
        (fun _ => iprop(iprop(∃ Ac, base c YC (amN (xsub XW k) A 36) Ac)
        ∗ four (fun j => homeW c XW (Ring.bk 28 k) j)
        ∗ four (fun j => flyOut c (WCf v109 XW) j (Ring.bk 28 k))
        ∗ four (fun j => iprop(∃ f, held c (rslot (par k) j) f ∗ zero c (isem (par k) j)))
        ∗ four (fun j => held c (wcblk (Ring.bk 28 (k - 1)) j) (WCf v109 XW))
        ∗ flyDx c (DXf v109 v112 YC XW) (par k) (Ring.bk 28 k)
        ∗ held c (dxblk (Ring.bk 28 (k - 2))) (DXf v109 v112 YC XW)
        ∗ iprop(∃ W, owes (c : Thread nD τ) 0 W))) := by
  have e1 := cond1_pos k (by omega)
  have e3 := cond3_pos k (by omega)
  have e5 := cond5_pos k (by omega)
  have e7 := cond7_pos k (by omega)
  have e2 : ¬ (k0_cond2 k = 1#1) := by rw [cond2_neg k (by omega)]; decide
  have e4 : ¬ (k0_cond4 k = 1#1) := by rw [cond4_neg k (by omega)]; decide
  have e6 : ¬ (k0_cond6 k = 1#1) := by rw [cond6_neg k (by omega)]; decide
  have e9 : ¬ (k0_cond9 k = 1#1) := by rw [cond9_neg k (by omega)]; decide
  have e8 := cond8_pos k (by omega)
  iintro ⟨⟨HD0, HD1, HD2, HD3, HA, HAc⟩, ⟨HI0, HI1, HI2, HI3⟩, ⟨HO0, HO1, HO2, HO3⟩, ⟨HC0, HC1, HC2, HC3⟩, HX, Hx, HW⟩
  dsimp only [tripG]
  sl_unfold [k0_t1_body]
  sl_exec
  rw [wp_ret]
  imodintro
  have hv0 : tripD.sl.v2066 c k XW = xsub XW k.val 0 := congrFun (xr_eq c k XW) 0
  have hv1 : tripD.sl.v2118 c k XW = xsub XW k.val 1 := congrFun (xr_eq c k XW) 1
  have hv2 : tripD.sl.v2171 c k XW = xsub XW k.val 2 := congrFun (xr_eq c k XW) 2
  have hv3 : tripD.sl.v2224 c k XW = xsub XW k.val 3 := congrFun (xr_eq c k XW) 3
  have hv4 : tripD.sl.v2277 c k XW = xsub XW k.val 4 := congrFun (xr_eq c k XW) 4
  have hv5 : tripD.sl.v2330 c k XW = xsub XW k.val 5 := congrFun (xr_eq c k XW) 5
  have hv6 : tripD.sl.v2383 c k XW = xsub XW k.val 6 := congrFun (xr_eq c k XW) 6
  have hv7 : tripD.sl.v2436 c k XW = xsub XW k.val 7 := congrFun (xr_eq c k XW) 7
  have hv8 : tripD.sl.v2489 c k XW = xsub XW k.val 8 := congrFun (xr_eq c k XW) 8
  have hv9 : tripD.sl.v2595 c k XW = xsub XW k.val 9 := congrFun (xr_eq c k XW) 9
  have hv10 : tripD.sl.v2648 c k XW = xsub XW k.val 10 := congrFun (xr_eq c k XW) 10
  have hv11 : tripD.sl.v2701 c k XW = xsub XW k.val 11 := congrFun (xr_eq c k XW) 11
  have hv12 : tripD.sl.v2754 c k XW = xsub XW k.val 12 := congrFun (xr_eq c k XW) 12
  have hv13 : tripD.sl.v2807 c k XW = xsub XW k.val 13 := congrFun (xr_eq c k XW) 13
  have hv14 : tripD.sl.v2860 c k XW = xsub XW k.val 14 := congrFun (xr_eq c k XW) 14
  have hv15 : tripD.sl.v2913 c k XW = xsub XW k.val 15 := congrFun (xr_eq c k XW) 15
  have hv16 : tripD.sl.v2966 c k XW = xsub XW k.val 16 := congrFun (xr_eq c k XW) 16
  have hv17 : tripD.sl.v3019 c k XW = xsub XW k.val 17 := congrFun (xr_eq c k XW) 17
  have hv18 : tripD.sl.v3125 c k XW = xsub XW k.val 18 := congrFun (xr_eq c k XW) 18
  have hv19 : tripD.sl.v3178 c k XW = xsub XW k.val 19 := congrFun (xr_eq c k XW) 19
  have hv20 : tripD.sl.v3231 c k XW = xsub XW k.val 20 := congrFun (xr_eq c k XW) 20
  have hv21 : tripD.sl.v3284 c k XW = xsub XW k.val 21 := congrFun (xr_eq c k XW) 21
  have hv22 : tripD.sl.v3337 c k XW = xsub XW k.val 22 := congrFun (xr_eq c k XW) 22
  have hv23 : tripD.sl.v3390 c k XW = xsub XW k.val 23 := congrFun (xr_eq c k XW) 23
  have hv24 : tripD.sl.v3443 c k XW = xsub XW k.val 24 := congrFun (xr_eq c k XW) 24
  have hv25 : tripD.sl.v3496 c k XW = xsub XW k.val 25 := congrFun (xr_eq c k XW) 25
  have hv26 : tripD.sl.v3549 c k XW = xsub XW k.val 26 := congrFun (xr_eq c k XW) 26
  have hv27 : tripD.sl.v3655 c k XW = xsub XW k.val 27 := congrFun (xr_eq c k XW) 27
  have hv28 : tripD.sl.v3708 c k XW = xsub XW k.val 28 := congrFun (xr_eq c k XW) 28
  have hv29 : tripD.sl.v3761 c k XW = xsub XW k.val 29 := congrFun (xr_eq c k XW) 29
  have hv30 : tripD.sl.v3814 c k XW = xsub XW k.val 30 := congrFun (xr_eq c k XW) 30
  have hv31 : tripD.sl.v3867 c k XW = xsub XW k.val 31 := congrFun (xr_eq c k XW) 31
  have hv32 : tripD.sl.v3920 c k XW = xsub XW k.val 32 := congrFun (xr_eq c k XW) 32
  have hv33 : tripD.sl.v3973 c k XW = xsub XW k.val 33 := congrFun (xr_eq c k XW) 33
  have hv34 : tripD.sl.v4026 c k XW = xsub XW k.val 34 := congrFun (xr_eq c k XW) 34
  have hv35 : tripD.sl.v4079 c k XW = xsub XW k.val 35 := congrFun (xr_eq c k XW) 35
  have hA1 : tripD.sl.HA_1 c k XW A = ⟨amR, shapeCast S16x512 (amF (xsub XW k.val) 0 (View.readAt (Elt F) amM.view amR.toLoadRect A) 9) shapeCasts_S16x512_S16x512⟩ :: [] := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA2 : tripD.sl.HA_2 c k XW A = ⟨amR, shapeCast S16x512 (amF (xsub XW k.val) 9 (tripD.sl.v2592 c k XW A) 9) shapeCasts_S16x512_S16x512⟩ :: tripD.sl.HA_1 c k XW A := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA3 : tripD.sl.HA_3 c k XW A = ⟨amR, shapeCast S16x512 (amF (xsub XW k.val) 18 (tripD.sl.v3122 c k XW A) 9) shapeCasts_S16x512_S16x512⟩ :: tripD.sl.HA_2 c k XW A := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA4 : k0_pay224 (tripD.sl.r_135 c k XW A) = shapeCast S16x512 (amF (xsub XW k.val) 27 (tripD.sl.v3652 c k XW A) 9) shapeCasts_S16x512_S16x512 := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC1 : tripD.sl.HAc_1 c v109 k XW YC = ⟨accR, shapeCast S256x256 (part v109 (dr YC) (xsub XW k.val) 8) shapeCasts_S256x256_S256x256⟩ :: [] := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC2 : tripD.sl.HAc_2 c v109 k XW YC = ⟨accR, shapeCast S256x256 (partF v109 (dr YC) (xsub XW k.val) 9 (tripD.sl.v2593 c v109 k XW YC) 9) shapeCasts_S256x256_S256x256⟩ :: tripD.sl.HAc_1 c v109 k XW YC := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC3 : tripD.sl.HAc_3 c v109 k XW YC = ⟨accR, shapeCast S256x256 (partF v109 (dr YC) (xsub XW k.val) 18 (tripD.sl.v3123 c v109 k XW YC) 9) shapeCasts_S256x256_S256x256⟩ :: tripD.sl.HAc_2 c v109 k XW YC := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hX : tripD.sl.HX_src_w37 c v109 v112 k XW YC X = View.write (Elt F) (xbM.access (Rect.unit (s := S2x256x256) (k0_off32 k) S1x256x256.size (k0_off32_inb k))) X
      (shapeCast S1x256x256 (dxPay v112 (partF v109 (dr YC) (xsub XW k.val) 27 (tripD.sl.v3653 c v109 k XW YC) 9)) shapeCasts_S256x256_S1x256x256) Finset.univ := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127, tripD.sl.HX_src_w37]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hO0 : tripD.sl.HO0_src_w9 c v109 k XW O = nest 0 v109 (xsub XW k.val) (O 0) := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127, tripD.sl.HO0_src_w1, tripD.sl.HO0_src_w2, tripD.sl.HO0_src_w3, tripD.sl.HO0_src_w4, tripD.sl.HO0_src_w5, tripD.sl.HO0_src_w6, tripD.sl.HO0_src_w7, tripD.sl.HO0_src_w8, tripD.sl.HO0_src_w9]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp0 : tripD.sl.dma41 c v109 k XW O = ReadAs.same.apply ((oslot 0).view.read (Elt F) (nest 0 v109 (xsub XW k.val) (O 0))) :=
    congrArg (fun g => ReadAs.same.apply ((oslot 0).view.read (Elt F) g)) hO0
  have hO1 : tripD.sl.HO1_src_w18 c v109 k XW O = nest 1 v109 (xsub XW k.val) (O 1) := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127, tripD.sl.HO1_src_w10, tripD.sl.HO1_src_w11, tripD.sl.HO1_src_w12, tripD.sl.HO1_src_w13, tripD.sl.HO1_src_w14, tripD.sl.HO1_src_w15, tripD.sl.HO1_src_w16, tripD.sl.HO1_src_w17, tripD.sl.HO1_src_w18]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp1 : tripD.sl.dma83 c v109 k XW O = ReadAs.same.apply ((oslot 1).view.read (Elt F) (nest 1 v109 (xsub XW k.val) (O 1))) :=
    congrArg (fun g => ReadAs.same.apply ((oslot 1).view.read (Elt F) g)) hO1
  have hO2 : tripD.sl.HO2_src_w27 c v109 k XW O = nest 2 v109 (xsub XW k.val) (O 2) := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127, tripD.sl.HO2_src_w19, tripD.sl.HO2_src_w20, tripD.sl.HO2_src_w21, tripD.sl.HO2_src_w22, tripD.sl.HO2_src_w23, tripD.sl.HO2_src_w24, tripD.sl.HO2_src_w25, tripD.sl.HO2_src_w26, tripD.sl.HO2_src_w27]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp2 : tripD.sl.dma125 c v109 k XW O = ReadAs.same.apply ((oslot 2).view.read (Elt F) (nest 2 v109 (xsub XW k.val) (O 2))) :=
    congrArg (fun g => ReadAs.same.apply ((oslot 2).view.read (Elt F) g)) hO2
  have hO3 : tripD.sl.HO3_src_w36 c v109 k XW O = nest 3 v109 (xsub XW k.val) (O 3) := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127, tripD.sl.HO3_src_w28, tripD.sl.HO3_src_w29, tripD.sl.HO3_src_w30, tripD.sl.HO3_src_w31, tripD.sl.HO3_src_w32, tripD.sl.HO3_src_w33, tripD.sl.HO3_src_w34, tripD.sl.HO3_src_w35, tripD.sl.HO3_src_w36]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp3 : tripD.sl.dma167 c v109 k XW O = ReadAs.same.apply ((oslot 3).view.read (Elt F) (nest 3 v109 (xsub XW k.val) (O 3))) :=
    congrArg (fun g => ReadAs.same.apply ((oslot 3).view.read (Elt F) g)) hO3
  have hpX : tripD.sl.dma167_1 c v109 v112 k XW YC X = ReadAs.same.apply ((xslot (par k)).view.read (Elt F)
      (View.write (Elt F) (xbM.access (Rect.unit (s := S2x256x256) (k0_off32 k) S1x256x256.size (k0_off32_inb k))) X (shapeCast S1x256x256 (dxPay v112 (partF v109 (dr YC) (xsub XW k.val) 27 (tripD.sl.v3653 c v109 k XW YC) 9)) shapeCasts_S256x256_S1x256x256) Finset.univ)) :=
    congrArg (fun g => ReadAs.same.apply ((xslot (par k)).view.read (Elt F) g)) hX
  isplitl [HD0 HD1 HD2 HD3 HA HAc]
  · iexists _
    isplitl [HD0]; · iexact HD0
    isplitl [HD1]; · iexact HD1
    isplitl [HD2]; · iexact HD2
    isplitl [HD3]; · iexact HD3
    isplitl [HA]
    · iapply (am_of c k XW A hA1 hA2 hA3 hA4)
      iexact HA
    · iexact HAc
  isplitl [HI0_src HI1_src HI2_src HI3_src]
  · isplitl [HI0_src]
    · iexact HI0_src
    isplitl [HI1_src]
    · iexact HI1_src
    isplitl [HI2_src]
    · iexact HI2_src
    · iexact HI3_src
  isplitl [HO0 HO1 HO2 HO3]
  · isplitl [HO0]
    · iapply (flyOut_of c k XW v109 0 hp0)
      iexact HO0
    isplitl [HO1]
    · iapply (flyOut_of c k XW v109 1 hp1)
      iexact HO1
    isplitl [HO2]
    · iapply (flyOut_of c k XW v109 2 hp2)
      iexact HO2
    · iapply (flyOut_of c k XW v109 3 hp3)
      iexact HO3
  isplitl [HI0 HI0_dst HI1 HI1_dst HI2 HI2_dst HI3 HI3_dst]
  · isplitl [HI0 HI0_dst]
    · iexists _
      isplitl [HI0_dst]
      · iexact HI0_dst
      · iexact HI0
    isplitl [HI1 HI1_dst]
    · iexists _
      isplitl [HI1_dst]
      · iexact HI1_dst
      · iexact HI1
    isplitl [HI2 HI2_dst]
    · iexists _
      isplitl [HI2_dst]
      · iexact HI2_dst
      · iexact HI2
    · iexists _
      isplitl [HI3_dst]
      · iexact HI3_dst
      · iexact HI3
  isplitl [HO0_dst HO1_dst HO2_dst HO3_dst]
  · isplitl [HO0_dst]
    · iexact HO0_dst
    isplitl [HO1_dst]
    · iexact HO1_dst
    isplitl [HO2_dst]
    · iexact HO2_dst
    · iexact HO3_dst
  isplitl [HX]
  · iapply (flyDx_of c k XW YC v109 v112 hC1 hC2 hC3 rfl hpX)
    iexact HX
  isplitl [HX_dst]
  · iexact HX_dst
  iexists _
  iexact HW

end

end Cert.Proof.K

end
-- ==== Proof.K.Loop.lean ====
module

public import proofs.«01_k».proof.Proof.K.TripA
public import proofs.«01_k».proof.Proof.K.TripB
public import proofs.«01_k».proof.Proof.K.TripC
public import proofs.«01_k».proof.Proof.K.TripD

/-! The loop: what it holds before each trip, and that a trip takes it to the next. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

/-! ## The sets of blocks -/

/-- The blocks of the second operand at home before trip `k`. -/
def homeS (k : ℕ) : Finset (Fin 28) := Finset.univ.filter fun b => b.val < k ∨ k + 2 ≤ b.val
/-- The blocks of a result not yet sent before trip `k`. -/
def freshS (k : ℕ) : Finset (Fin 28) := Finset.univ.filter fun b => k ≤ b.val
/-- The blocks of a result whose transfer, waited for `d` trips later, is over before trip `k`. -/
def doneS (d k : ℕ) : Finset (Fin 28) := Finset.univ.filter fun b => b.val + d < k

theorem freshS_eq (k : ℕ) (h : k < 28) : freshS k = insert (Ring.bk 28 k) (freshS (k + 1)) := by
  ext b; simp only [freshS, Finset.mem_filter, Finset.mem_univ, true_and, Finset.mem_insert, Fin.ext_iff, Ring.bk_val h]; omega
theorem freshS_not (k : ℕ) (h : k < 28) : Ring.bk 28 k ∉ freshS (k + 1) := by
  simp only [freshS, Finset.mem_filter, Finset.mem_univ, true_and, Ring.bk_val h]; omega
theorem doneS_eq (d k : ℕ) (hd : d ≤ k) (h : k < 28) : doneS d (k + 1) = insert (Ring.bk 28 (k - d)) (doneS d k) := by
  ext b; simp only [doneS, Finset.mem_filter, Finset.mem_univ, true_and, Finset.mem_insert, Fin.ext_iff, Ring.bk_val (show k - d < 28 by omega)]; omega
theorem doneS_not (d k : ℕ) (hd : d ≤ k) (h : k < 28) : Ring.bk 28 (k - d) ∉ doneS d k := by
  simp only [doneS, Finset.mem_filter, Finset.mem_univ, true_and, Ring.bk_val (show k - d < 28 by omega)]; omega
theorem doneS_lt (d k : ℕ) (hd : k < d) : doneS d (k + 1) = doneS d k := by
  ext b; simp only [doneS, Finset.mem_filter, Finset.mem_univ, true_and]; omega
/-- The blocks at home throughout trip `k`. -/
def midS (k : ℕ) : Finset (Fin 28) := Finset.univ.filter fun b => b.val < k ∨ k + 3 ≤ b.val
theorem homeS_eq (k : ℕ) (h : k + 2 < 28) : homeS k = insert (Ring.bk 28 (k + 2)) (midS k) := by
  ext b; simp only [homeS, midS, Finset.mem_filter, Finset.mem_univ, true_and, Finset.mem_insert, Fin.ext_iff, Ring.bk_val h]; omega
theorem homeS_not (k : ℕ) (h : k + 2 < 28) : Ring.bk 28 (k + 2) ∉ midS k := by
  simp only [midS, Finset.mem_filter, Finset.mem_univ, true_and, Ring.bk_val h]; omega
theorem homeS_late (k : ℕ) (h : 26 ≤ k) : homeS k = midS k := by
  ext b; simp only [homeS, midS, Finset.mem_filter, Finset.mem_univ, true_and]; omega
theorem homeS_succ (k : ℕ) (h : k < 28) : homeS (k + 1) = insert (Ring.bk 28 k) (midS k) := by
  ext b; simp only [homeS, midS, Finset.mem_filter, Finset.mem_univ, true_and, Finset.mem_insert, Fin.ext_iff, Ring.bk_val h]; omega
theorem homeS_succ_not (k : ℕ) (h : k < 28) : Ring.bk 28 k ∉ midS k := by
  simp only [midS, Finset.mem_filter, Finset.mem_univ, true_and, Ring.bk_val h]; omega

theorem par_add2 (k : ℕ) : par (k + 2) = par k := by
  show Ring.sl 2 (k + 2 + 1) = Ring.sl 2 (k + 1); exact Ring.sl_add 2 (k + 1)

theorem bigSep_ins {s : Finset (Fin 28)} {i : Fin 28} {Φ : Fin 28 → sProp 𝕄} (h : i ∉ s) :
    bigSep (insert i s) Φ = iprop(Φ i ∗ bigSep s Φ) := bigSep_insert h

/-! ## The invariant -/

section
variable (c : Dev nD)

/-- The slots that the block `t` of the second operand goes through. -/
def WS (XW : BufOf (F := F) c wM) (t : ℕ) : sProp 𝕄 :=
  if t < 28 then four (fun j => iprop(∃ f, flyW c XW (par t) j (Ring.bk 28 t) f))
  else four (fun j => iprop(∃ f, held c (rslot (par t) j) f ∗ zero c (isem (par t) j)))
/-- The slots of the codes before trip `k`. -/
def OS (WC : S7168x18432.Idx → F .fp8e4m3) (k : ℕ) : sProp 𝕄 :=
  if 1 ≤ k then four (fun j => flyOut c WC j (Ring.bk 28 (k - 1)))
  else four (fun j => iprop(∃ O, held c (oslot j) O ∗ zero c (osem j)))
/-- The slot that the block `t` of the product goes through, before trip `t`. -/
def XS (DX : S256x7168.Idx → F .bf16) (t : ℕ) : sProp 𝕄 :=
  if 2 ≤ t then flyDx c DX (par t) (Ring.bk 28 (t - 2))
  else iprop(∃ X, held c (xslot (par t)) X ∗ zero c (xsem (par t)))

theorem WS_pos (XW : BufOf (F := F) c wM) (t : ℕ) (h : t < 28) : WS c XW t = four (fun j => iprop(∃ f, flyW c XW (par t) j (Ring.bk 28 t) f)) := if_pos h
theorem WS_neg (XW : BufOf (F := F) c wM) (t : ℕ) (h : ¬ t < 28) : WS c XW t = four (fun j => iprop(∃ f, held c (rslot (par t) j) f ∗ zero c (isem (par t) j))) := if_neg h
theorem OS_pos (WC : S7168x18432.Idx → F .fp8e4m3) (k : ℕ) (h : 1 ≤ k) : OS c WC k = four (fun j => flyOut c WC j (Ring.bk 28 (k - 1))) := if_pos h
theorem OS_neg (WC : S7168x18432.Idx → F .fp8e4m3) (k : ℕ) (h : ¬ 1 ≤ k) : OS c WC k = four (fun j => iprop(∃ O, held c (oslot j) O ∗ zero c (osem j))) := if_neg h
theorem XS_pos (DX : S256x7168.Idx → F .bf16) (t : ℕ) (h : 2 ≤ t) : XS c DX t = flyDx c DX (par t) (Ring.bk 28 (t - 2)) := if_pos h
theorem XS_neg (DX : S256x7168.Idx → F .bf16) (t : ℕ) (h : ¬ 2 ≤ t) : XS c DX t = iprop(∃ X, held c (xslot (par t)) X ∗ zero c (xsem (par t))) := if_neg h

/-- What the loop holds before trip `k`. -/
def Inv (v109 v112 : F .f32) (XW : BufOf (F := F) c wM) (YC : S256x18432.Idx → F .fp8e4m3) (A0 : S16x512.Idx → F .bf16)
    (G : S7168x18432.Idx → F .fp8e4m3) (x' : S256x7168.Idx → F .bf16) (k : ℕ) : sProp 𝕄 :=
  iprop((∃ Ac, base c YC (amW XW A0 k) Ac)
    ∗ WS c XW k ∗ WS c XW (k + 1) ∗ bigSep (homeS k) (fun b => four (fun j => homeW c XW b j))
    ∗ OS c (WCf v109 XW) k
    ∗ bigSep (doneS 1 k) (fun b => four (fun j => held c (wcblk b j) (WCf v109 XW)))
    ∗ bigSep (freshS k) (fun b => four (fun j => held c (wcblk b j) G))
    ∗ XS c (DXf v109 v112 YC XW) k ∗ XS c (DXf v109 v112 YC XW) (k + 1)
    ∗ bigSep (doneS 2 k) (fun b => held c (dxblk b) (DXf v109 v112 YC XW))
    ∗ bigSep (freshS k) (fun b => held c (dxblk b) x')
    ∗ ∃ W, owes (c : Thread nD τ) 0 W)

/-- Four contents, chosen together. -/
theorem four_ex {α : Type} (Φ : Fin 4 → α → sProp 𝕄) : four (fun j => iprop(∃ f, Φ j f)) ⊢ iprop(∃ f : Fin 4 → α, four (fun j => Φ j (f j))) := by
  iintro ⟨⟨%f0, H0⟩, ⟨%f1, H1⟩, ⟨%f2, H2⟩, ⟨%f3, H3⟩⟩
  iexists (fun j => match j with | 0 => f0 | 1 => f1 | 2 => f2 | 3 => f3)
  isplitl [H0]; · iexact H0
  isplitl [H1]; · iexact H1
  isplitl [H2]; · iexact H2
  iexact H3
theorem four_flyW (XW : BufOf (F := F) c wM) (s : Fin 2) (b : Fin 28) :
    four (fun j => iprop(∃ f, flyW c XW s j b f)) ⊢ iprop(∃ f : Fin 4 → S8x256x4608.Idx → F .bf16, four (fun j => flyW c XW s j b (f j))) :=
  four_ex (α := S8x256x4608.Idx → F .bf16) (fun j f => flyW c XW s j b f)
theorem four_flyOut (WC : S7168x18432.Idx → F .fp8e4m3) (b : Fin 28) :
    four (fun j => flyOut c WC j b) ⊢ iprop(∃ O : Fin 4 → S4x256x4608.Idx → F .fp8e4m3, four (fun j => flyOutAt c WC j b (O j))) :=
  four_ex (α := S4x256x4608.Idx → F .fp8e4m3) (fun j O => flyOutAt c WC j b O)
theorem four_free :
    four (fun j => iprop(∃ O, held c (oslot j) O ∗ zero c (osem j))) ⊢ iprop(∃ O : Fin 4 → S4x256x4608.Idx → F .fp8e4m3, four (fun j => iprop(held c (oslot j) (O j) ∗ zero c (osem j)))) :=
  four_ex (α := S4x256x4608.Idx → F .fp8e4m3) (fun j O => iprop(held c (oslot j) O ∗ zero c (osem j)))

variable (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)
  (v109 v112 : F .f32) (c1 : BitVec 32)
  (XW : BufOf (F := F) c wM) (YC : S256x18432.Idx → F .fp8e4m3) (A0 : S16x512.Idx → F .bf16)
  (G : S7168x18432.Idx → F .fp8e4m3) (x' : S256x7168.Idx → F .bf16)

theorem stepA (k : Fin k0_t1_loop.trips) (h0 : k.val = 0) :
    Inv c v109 v112 XW YC A0 G x' k.val ⊢ wp frame (wpE (defs₀ (F := F)) 𝒱₀ (c : Thread nD τ) none) Set.univ
      (tripG arg2 harg2 arg3 harg3 arg6 harg6 arg8 harg8 arg9 harg9 arg10 harg10 v109 v112 c1 k)
      (fun _ => Inv c v109 v112 XW YC A0 G x' (k.val + 1)) := by
  have hk := k_lt k
  unfold Inv
  rw [WS_pos c XW k.val hk, freshS_eq k.val hk, bigSep_ins (freshS_not k.val hk), bigSep_ins (freshS_not k.val hk), homeS_succ k.val hk, bigSep_ins (homeS_succ_not k.val hk)]
  rw [show k.val + 1 + 1 = k.val + 2 from rfl, OS_pos c _ (k.val + 1) (by omega), show k.val + 1 - 1 = k.val from rfl]
  rw [XS_pos c _ (k.val + 2) (by omega), show k.val + 2 - 2 = k.val from rfl, par_add2]
  rw [homeS_eq k.val (by omega), bigSep_ins (homeS_not k.val (by omega)), WS_pos c XW (k.val + 2) (by omega), par_add2]
  rw [OS_neg c _ k.val (by omega), doneS_lt 1 k.val (by omega)]
  rw [XS_neg c _ k.val (by omega), doneS_lt 2 k.val (by omega)]
  iintro ⟨⟨%Ac, Hb⟩, Hw, Hw', ⟨Hn, Hh⟩, Ho, Hd1, ⟨Hc, Hf1⟩, ⟨%X, Hx, Hz⟩, Hx', Hd2, ⟨Hq, Hf2⟩, ⟨%W, HW⟩⟩
  ihave Hw := (four_flyW c XW (par k.val) (Ring.bk 28 k.val)) $$ Hw
  icases Hw with ⟨%f, Hw⟩
  ihave Ho := (four_free c) $$ Ho
  icases Ho with ⟨%O, Ho⟩
  iapply (wp_wand_r Idealize.ShloMosaic.frame (wpE (defs₀ (F := F)) 𝒱₀ (c : Thread nD τ) none) Set.univ)
  isplitl [Hb Hw Hn Ho Hc Hx Hz Hq HW]
  · iapply (tripA c arg2 harg2 arg3 harg3 arg6 harg6 arg8 harg8 arg9 harg9 arg10 harg10 v109 v112 c1 k h0 XW YC (amW XW A0 k.val) Ac f O G X x' W)
    isplitl [Hb]; · iexact Hb
    isplitl [Hw]; · iexact Hw
    isplitl [Hn]; · iexact Hn
    isplitl [Ho]; · iexact Ho
    isplitl [Hc]; · iexact Hc
    isplitl [Hx]; · iexact Hx
    isplitl [Hz]; · iexact Hz
    isplitl [Hq]; · iexact Hq
    iexact HW
  iintro %_ ⟨Hb, Hhome, Hfo, Href, Hfx, HW⟩
  isplitl [Hb]; · iexact Hb
  isplitl [Hw']; · iexact Hw'
  isplitl [Href]; · iexact Href
  isplitl [Hhome Hh]
  · isplitl [Hhome]; · iexact Hhome
    iexact Hh
  isplitl [Hfo]; · iexact Hfo
  isplitl [Hd1]; · iexact Hd1
  isplitl [Hf1]; · iexact Hf1
  isplitl [Hx']; · iexact Hx'
  isplitl [Hfx]; · iexact Hfx
  isplitl [Hd2]; · iexact Hd2
  isplitl [Hf2]; · iexact Hf2
  iexact HW

theorem stepB (k : Fin k0_t1_loop.trips) (h1 : k.val = 1) :
    Inv c v109 v112 XW YC A0 G x' k.val ⊢ wp frame (wpE (defs₀ (F := F)) 𝒱₀ (c : Thread nD τ) none) Set.univ
      (tripG arg2 harg2 arg3 harg3 arg6 harg6 arg8 harg8 arg9 harg9 arg10 harg10 v109 v112 c1 k)
      (fun _ => Inv c v109 v112 XW YC A0 G x' (k.val + 1)) := by
  have hk := k_lt k
  unfold Inv
  rw [WS_pos c XW k.val hk, freshS_eq k.val hk, bigSep_ins (freshS_not k.val hk), bigSep_ins (freshS_not k.val hk), homeS_succ k.val hk, bigSep_ins (homeS_succ_not k.val hk)]
  rw [show k.val + 1 + 1 = k.val + 2 from rfl, OS_pos c _ (k.val + 1) (by omega), show k.val + 1 - 1 = k.val from rfl]
  rw [XS_pos c _ (k.val + 2) (by omega), show k.val + 2 - 2 = k.val from rfl, par_add2]
  rw [homeS_eq k.val (by omega), bigSep_ins (homeS_not k.val (by omega)), WS_pos c XW (k.val + 2) (by omega), par_add2]
  rw [OS_pos c _ k.val (by omega), doneS_eq 1 k.val (by omega) hk, bigSep_ins (doneS_not 1 k.val (by omega) hk)]
  rw [XS_neg c _ k.val (by omega), doneS_lt 2 k.val (by omega)]
  iintro ⟨⟨%Ac, Hb⟩, Hw, Hw', ⟨Hn, Hh⟩, Ho, Hd1, ⟨Hc, Hf1⟩, ⟨%X, Hx, Hz⟩, Hx', Hd2, ⟨Hq, Hf2⟩, ⟨%W, HW⟩⟩
  ihave Hw := (four_flyW c XW (par k.val) (Ring.bk 28 k.val)) $$ Hw
  icases Hw with ⟨%f, Hw⟩
  ihave Ho := (four_flyOut c (WCf v109 XW) (Ring.bk 28 (k.val - 1))) $$ Ho
  icases Ho with ⟨%O, Ho⟩
  iapply (wp_wand_r Idealize.ShloMosaic.frame (wpE (defs₀ (F := F)) 𝒱₀ (c : Thread nD τ) none) Set.univ)
  isplitl [Hb Hw Hn Ho Hc Hx Hz Hq HW]
  · iapply (tripB c arg2 harg2 arg3 harg3 arg6 harg6 arg8 harg8 arg9 harg9 arg10 harg10 v109 v112 c1 k h1 XW YC (amW XW A0 k.val) Ac f O G X x' W)
    isplitl [Hb]; · iexact Hb
    isplitl [Hw]; · iexact Hw
    isplitl [Hn]; · iexact Hn
    isplitl [Ho]; · iexact Ho
    isplitl [Hc]; · iexact Hc
    isplitl [Hx]; · iexact Hx
    isplitl [Hz]; · iexact Hz
    isplitl [Hq]; · iexact Hq
    iexact HW
  iintro %_ ⟨Hb, Hhome, Hfo, Href, Hdn1, Hfx, HW⟩
  isplitl [Hb]; · iexact Hb
  isplitl [Hw']; · iexact Hw'
  isplitl [Href]; · iexact Href
  isplitl [Hhome Hh]
  · isplitl [Hhome]; · iexact Hhome
    iexact Hh
  isplitl [Hfo]; · iexact Hfo
  isplitl [Hdn1 Hd1]
  · isplitl [Hdn1]; · iexact Hdn1
    iexact Hd1
  isplitl [Hf1]; · iexact Hf1
  isplitl [Hx']; · iexact Hx'
  isplitl [Hfx]; · iexact Hfx
  isplitl [Hd2]; · iexact Hd2
  isplitl [Hf2]; · iexact Hf2
  iexact HW

theorem stepC (k : Fin k0_t1_loop.trips) (h2 : 2 ≤ k.val) (h28 : k.val + 2 < 28) :
    Inv c v109 v112 XW YC A0 G x' k.val ⊢ wp frame (wpE (defs₀ (F := F)) 𝒱₀ (c : Thread nD τ) none) Set.univ
      (tripG arg2 harg2 arg3 harg3 arg6 harg6 arg8 harg8 arg9 harg9 arg10 harg10 v109 v112 c1 k)
      (fun _ => Inv c v109 v112 XW YC A0 G x' (k.val + 1)) := by
  have hk := k_lt k
  unfold Inv
  rw [WS_pos c XW k.val hk, freshS_eq k.val hk, bigSep_ins (freshS_not k.val hk), bigSep_ins (freshS_not k.val hk), homeS_succ k.val hk, bigSep_ins (homeS_succ_not k.val hk)]
  rw [show k.val + 1 + 1 = k.val + 2 from rfl, OS_pos c _ (k.val + 1) (by omega), show k.val + 1 - 1 = k.val from rfl]
  rw [XS_pos c _ (k.val + 2) (by omega), show k.val + 2 - 2 = k.val from rfl, par_add2]
  rw [homeS_eq k.val (by omega), bigSep_ins (homeS_not k.val (by omega)), WS_pos c XW (k.val + 2) (by omega), par_add2]
  rw [OS_pos c _ k.val (by omega), doneS_eq 1 k.val (by omega) hk, bigSep_ins (doneS_not 1 k.val (by omega) hk)]
  rw [XS_pos c _ k.val (by omega), doneS_eq 2 k.val (by omega) hk, bigSep_ins (doneS_not 2 k.val (by omega) hk)]
  iintro ⟨⟨%Ac, Hb⟩, Hw, Hw', ⟨Hn, Hh⟩, Ho, Hd1, ⟨Hc, Hf1⟩, ⟨%X, Hx⟩, Hx', Hd2, ⟨Hq, Hf2⟩, ⟨%W, HW⟩⟩
  ihave Hw := (four_flyW c XW (par k.val) (Ring.bk 28 k.val)) $$ Hw
  icases Hw with ⟨%f, Hw⟩
  ihave Ho := (four_flyOut c (WCf v109 XW) (Ring.bk 28 (k.val - 1))) $$ Ho
  icases Ho with ⟨%O, Ho⟩
  iapply (wp_wand_r Idealize.ShloMosaic.frame (wpE (defs₀ (F := F)) 𝒱₀ (c : Thread nD τ) none) Set.univ)
  isplitl [Hb Hw Hn Ho Hc Hx Hq HW]
  · iapply (tripC c arg2 harg2 arg3 harg3 arg6 harg6 arg8 harg8 arg9 harg9 arg10 harg10 v109 v112 c1 k h2 h28 XW YC (amW XW A0 k.val) Ac f O G X x' W)
    isplitl [Hb]; · iexact Hb
    isplitl [Hw]; · iexact Hw
    isplitl [Hn]; · iexact Hn
    isplitl [Ho]; · iexact Ho
    isplitl [Hc]; · iexact Hc
    isplitl [Hx]; · iexact Hx
    isplitl [Hq]; · iexact Hq
    iexact HW
  iintro %_ ⟨Hb, Hhome, Hfo, Href, Hdn1, Hfx, Hdn2, HW⟩
  isplitl [Hb]; · iexact Hb
  isplitl [Hw']; · iexact Hw'
  isplitl [Href]; · iexact Href
  isplitl [Hhome Hh]
  · isplitl [Hhome]; · iexact Hhome
    iexact Hh
  isplitl [Hfo]; · iexact Hfo
  isplitl [Hdn1 Hd1]
  · isplitl [Hdn1]; · iexact Hdn1
    iexact Hd1
  isplitl [Hf1]; · iexact Hf1
  isplitl [Hx']; · iexact Hx'
  isplitl [Hfx]; · iexact Hfx
  isplitl [Hdn2 Hd2]
  · isplitl [Hdn2]; · iexact Hdn2
    iexact Hd2
  isplitl [Hf2]; · iexact Hf2
  iexact HW

theorem stepD (k : Fin k0_t1_loop.trips) (h26 : 26 ≤ k.val) :
    Inv c v109 v112 XW YC A0 G x' k.val ⊢ wp frame (wpE (defs₀ (F := F)) 𝒱₀ (c : Thread nD τ) none) Set.univ
      (tripG arg2 harg2 arg3 harg3 arg6 harg6 arg8 harg8 arg9 harg9 arg10 harg10 v109 v112 c1 k)
      (fun _ => Inv c v109 v112 XW YC A0 G x' (k.val + 1)) := by
  have hk := k_lt k
  unfold Inv
  rw [WS_pos c XW k.val hk, freshS_eq k.val hk, bigSep_ins (freshS_not k.val hk), bigSep_ins (freshS_not k.val hk), homeS_succ k.val hk, bigSep_ins (homeS_succ_not k.val hk)]
  rw [show k.val + 1 + 1 = k.val + 2 from rfl, OS_pos c _ (k.val + 1) (by omega), show k.val + 1 - 1 = k.val from rfl]
  rw [XS_pos c _ (k.val + 2) (by omega), show k.val + 2 - 2 = k.val from rfl, par_add2]
  rw [homeS_late k.val (by omega), WS_neg c XW (k.val + 2) (by omega), par_add2]
  rw [OS_pos c _ k.val (by omega), doneS_eq 1 k.val (by omega) hk, bigSep_ins (doneS_not 1 k.val (by omega) hk)]
  rw [XS_pos c _ k.val (by omega), doneS_eq 2 k.val (by omega) hk, bigSep_ins (doneS_not 2 k.val (by omega) hk)]
  iintro ⟨⟨%Ac, Hb⟩, Hw, Hw', Hh, Ho, Hd1, ⟨Hc, Hf1⟩, ⟨%X, Hx⟩, Hx', Hd2, ⟨Hq, Hf2⟩, ⟨%W, HW⟩⟩
  ihave Hw := (four_flyW c XW (par k.val) (Ring.bk 28 k.val)) $$ Hw
  icases Hw with ⟨%f, Hw⟩
  ihave Ho := (four_flyOut c (WCf v109 XW) (Ring.bk 28 (k.val - 1))) $$ Ho
  icases Ho with ⟨%O, Ho⟩
  iapply (wp_wand_r Idealize.ShloMosaic.frame (wpE (defs₀ (F := F)) 𝒱₀ (c : Thread nD τ) none) Set.univ)
  isplitl [Hb Hw Ho Hc Hx Hq HW]
  · iapply (tripD c arg2 harg2 arg3 harg3 arg6 harg6 arg8 harg8 arg9 harg9 arg10 harg10 v109 v112 c1 k h26 XW YC (amW XW A0 k.val) Ac f O G X x' W)
    isplitl [Hb]; · iexact Hb
    isplitl [Hw]; · iexact Hw
    isplitl [Ho]; · iexact Ho
    isplitl [Hc]; · iexact Hc
    isplitl [Hx]; · iexact Hx
    isplitl [Hq]; · iexact Hq
    iexact HW
  iintro %_ ⟨Hb, Hhome, Hfo, Href, Hdn1, Hfx, Hdn2, HW⟩
  isplitl [Hb]; · iexact Hb
  isplitl [Hw']; · iexact Hw'
  isplitl [Href]; · iexact Href
  isplitl [Hhome Hh]
  · isplitl [Hhome]; · iexact Hhome
    iexact Hh
  isplitl [Hfo]; · iexact Hfo
  isplitl [Hdn1 Hd1]
  · isplitl [Hdn1]; · iexact Hdn1
    iexact Hd1
  isplitl [Hf1]; · iexact Hf1
  isplitl [Hx']; · iexact Hx'
  isplitl [Hfx]; · iexact Hfx
  isplitl [Hdn2 Hd2]
  · isplitl [Hdn2]; · iexact Hdn2
    iexact Hd2
  isplitl [Hf2]; · iexact Hf2
  iexact HW

set_option warn.classDefReducibility false in
/-- The loop, a trip by its place. -/
def loopI :
    LoopInvTy_k0_t1 (F := F) Unit ℕ (UU nD τ) ℕ 𝒱₀ c none Set.univ dyM (Memref.isWhole_whole _) wM (Memref.isWhole_whole _) arg2 harg2 arg3 harg3 dxM (Memref.isWhole_whole _) dycM (Memref.isWhole_whole _) arg6 harg6 wcM (Memref.isWhole_whole _) arg8 harg8 arg9 harg9 arg10 harg10
    inM (Memref.isWhole_whole _) dybM (Memref.isWhole_whole _) outM (Memref.isWhole_whole _) accM (Memref.isWhole_whole _) xbM (Memref.isWhole_whole _) amM (Memref.isWhole_whole _)
    cc0_scratch6 cc0_scratch7 cc0_scratch8 cc0_scratch9 v109 v112 c1 where
  inv k _ := Inv c v109 v112 XW YC A0 G x' k
  step k _ := by
    rcases Nat.lt_or_ge k.val 1 with h | h
    · exact stepA c arg2 harg2 arg3 harg3 arg6 harg6 arg8 harg8 arg9 harg9 arg10 harg10 v109 v112 c1 XW YC A0 G x' k (by omega)
    rcases Nat.lt_or_ge k.val 2 with h' | h'
    · exact stepB c arg2 harg2 arg3 harg3 arg6 harg6 arg8 harg8 arg9 harg9 arg10 harg10 v109 v112 c1 XW YC A0 G x' k (by omega)
    rcases Nat.lt_or_ge k.val 26 with h2 | h2
    · exact stepC c arg2 harg2 arg3 harg3 arg6 harg6 arg8 harg8 arg9 harg9 arg10 harg10 v109 v112 c1 XW YC A0 G x' k h' (by omega)
    · exact stepD c arg2 harg2 arg3 harg3 arg6 harg6 arg8 harg8 arg9 harg9 arg10 harg10 v109 v112 c1 XW YC A0 G x' k h2
end

end Cert.Proof.K

end
-- ==== Proof.K.Scalars.lean ====
module

public import proofs.«01_k».proof.Proof.K.Names

/-! The scales and their inverses, as the kernel finds them. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The word of the power of two after each step of the search for the first factor. -/
def pY0 (x : F .f32) : BitVec 32 := Scalar.select (Scalar.cmpf .oge (k0_pay227 x) (k0_pay228 (F := F))) 1073741824#32 0#32
@[inherit_doc pY0] def pY1 (x : F .f32) : BitVec 32 := Scalar.select (Scalar.cmpf .oge (k0_pay229 x) (k0_pay230 x)) (Scalar.addi (pY0 x) 536870912#32) (pY0 x)
@[inherit_doc pY0] def pY2 (x : F .f32) : BitVec 32 := Scalar.select (Scalar.cmpf .oge (k0_pay231 x) (k0_pay232 x)) (Scalar.addi (pY1 x) 268435456#32) (pY1 x)
@[inherit_doc pY0] def pY3 (x : F .f32) : BitVec 32 := Scalar.select (Scalar.cmpf .oge (k0_pay233 x) (k0_pay234 x)) (Scalar.addi (pY2 x) 134217728#32) (pY2 x)
@[inherit_doc pY0] def pY4 (x : F .f32) : BitVec 32 := Scalar.select (Scalar.cmpf .oge (k0_pay235 x) (k0_pay236 x)) (Scalar.addi (pY3 x) 67108864#32) (pY3 x)
@[inherit_doc pY0] def pY5 (x : F .f32) : BitVec 32 := Scalar.select (Scalar.cmpf .oge (k0_pay237 x) (k0_pay238 x)) (Scalar.addi (pY4 x) 33554432#32) (pY4 x)
@[inherit_doc pY0] def pY6 (x : F .f32) : BitVec 32 := Scalar.select (Scalar.cmpf .oge (k0_pay239 x) (k0_pay240 x)) (Scalar.addi (pY5 x) 16777216#32) (pY5 x)
@[inherit_doc pY0] def pY7 (x : F .f32) : BitVec 32 := Scalar.select (Scalar.cmpf .oge (k0_pay241 x) (k0_pay242 x)) (Scalar.addi (pY6 x) 8388608#32) (pY6 x)
/-- The exponent field it holds. -/
def eY (x : F .f32) : BitVec 32 := Scalar.andi (Scalar.shrui (pY7 x) 23#32) 255#32
/-- The first factor's scale. -/
def scaleY (x : F .f32) : F .f32 := k0_pay243 (eY x) (Scalar.cmpi .sgt (eY x) 0#32)
/-- Its inverse. -/
def invY (x : F .f32) : F .f32 := k0_pay244 (eY x) (Scalar.cmpi .sgt (eY x) 0#32)
/-- The word of the power of two after each step of the search for the second factor. -/
def pW0 (x : F .f32) : BitVec 32 := Scalar.select (Scalar.cmpf .oge (k0_pay246 x) (k0_pay247 (F := F))) 1073741824#32 0#32
@[inherit_doc pW0] def pW1 (x : F .f32) : BitVec 32 := Scalar.select (Scalar.cmpf .oge (k0_pay248 x) (k0_pay249 x)) (Scalar.addi (pW0 x) 536870912#32) (pW0 x)
@[inherit_doc pW0] def pW2 (x : F .f32) : BitVec 32 := Scalar.select (Scalar.cmpf .oge (k0_pay250 x) (k0_pay251 x)) (Scalar.addi (pW1 x) 268435456#32) (pW1 x)
@[inherit_doc pW0] def pW3 (x : F .f32) : BitVec 32 := Scalar.select (Scalar.cmpf .oge (k0_pay252 x) (k0_pay253 x)) (Scalar.addi (pW2 x) 134217728#32) (pW2 x)
@[inherit_doc pW0] def pW4 (x : F .f32) : BitVec 32 := Scalar.select (Scalar.cmpf .oge (k0_pay254 x) (k0_pay255 x)) (Scalar.addi (pW3 x) 67108864#32) (pW3 x)
@[inherit_doc pW0] def pW5 (x : F .f32) : BitVec 32 := Scalar.select (Scalar.cmpf .oge (k0_pay256 x) (k0_pay257 x)) (Scalar.addi (pW4 x) 33554432#32) (pW4 x)
/-- The second factor's scale. -/
def scaleW (x : F .f32) : F .f32 := k0_pay258 (k0_pay245 x) (pW5 x) 16777216#32
/-- Its inverse. -/
def invW (x : F .f32) : F .f32 := k0_pay259 (k0_pay245 x) (pW5 x) 16777216#32
/-- The product's scale. -/
def scaleX (x y : F .f32) : F .f32 := k0_pay260 (scaleY x) (k0_pay245 y) (pW5 y) 16777216#32

end Cert.Proof.K

end
-- ==== Proof.K.Dy.lean ====
module

public import proofs.«01_k».proof.Proof.K.Loop
public import proofs.«01_k».proof.Proof.K.Scalars
public import Idealize.ShloMosaic.Lib.VecWindow

/-! The first operand: what the kernel reads of it, stores as its codes and sends. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

variable (c : Dev nD)

/-- A load of a piece of slot `(0, j)` after piece `j` of the first operand landed in it. -/
def rdY (off : Fin 3 → Nat) (hh : ∀ a, off a + S1x256x512.size a ≤ S8x256x4608.size a) (j : Fin 4)
    (XD : BufOf (F := F) c dyM) : Vec F S1x256x512 .bf16 :=
  View.readAt (Elt F) inM.view (Rect.unit (s := S8x256x4608) off S1x256x512.size hh).toLoadRect
    ((rslot 0 j).view.writes (Elt F) (rslot 0 j).view.junk [⟨Rect.whole S256x4608, ReadAs.same.apply ((dyblk j).view.read (Elt F) XD)⟩])

theorem read_dyblk (j : Fin 4) (X : S256x18432.Idx → F .bf16) (x : S256x4608.Idx) :
    (ReadAs.same.apply ((dyblk j).view.read (Elt F) X) : S256x4608.Idx → F .bf16) x = X ((dyblk j).view.emb x) := rfl

theorem rdY_eq (off) (hh) (j : Fin 4) (XD : BufOf (F := F) c dyM) (t : ℕ) (ht : t < 9)
    (ho : off = ![j.val, 0, 512 * t]) : rdY c off hh j XD = ysub XD (9 * j.val + t) := by
  subst ho
  funext i
  obtain ⟨i0, i1, i2, rfl⟩ : ∃ (i0 : Fin 1) (i1 : Fin 256) (i2 : Fin 512), i = ix3 i0 i1 i2 := ⟨i 0, i 1, i 2, eq_ix3 i⟩
  have hE : (Rect.unit (s := S8x256x4608) ![j.val, 0, 512 * t] S1x256x512.size hh).emb (ix3 i0 i1 i2)
      = (rslot 0 j).view.emb (ix2 i1 (⟨512 * t + i2.val, by omega⟩ : Fin 4608)) := by
    rw [rslot_emb]
    funext r; refine Fin.ext ?_
    fin_cases r
    · show j.val + 1 * i0.val = 4 * 0 + j.val; omega
    · show 0 + 1 * i1.val = i1.val; omega
    · show 512 * t + 1 * i2.val = 512 * t + i2.val; omega
  unfold rdY
  generalize hp : (ReadAs.same.apply ((dyblk j).view.read (Elt F) XD) : S256x4608.Idx → F .bf16) = p
  refine (readAt_in _ _ _).trans ?_
  rw [hE]
  refine (writes_whole_emb (F := F) (rslot 0 j).view (rslot 0 j).view.junk p [] _).trans ?_
  subst hp
  refine (read_dyblk j XD _).trans ?_
  rw [dyblk_emb]
  refine congrArg XD ?_
  funext r; refine Fin.ext ?_
  fin_cases r
  · rfl
  · show 4608 * j.val + (512 * t + i2.val) = (512 * (9 * j.val + t) + i2.val) % 18432
    rw [Nat.mod_eq_of_lt (by omega)]; omega

/-- What the kernel loads of the first operand, in order. -/
def yr (XD : BufOf (F := F) c dyM) : ℕ → Vec F S1x256x512 .bf16
  | 0 => rdY c ![0, 0, 0] (by decide) 0 XD
  | 1 => rdY c ![0, 0, 512] (by decide) 0 XD
  | 2 => rdY c ![0, 0, 1024] (by decide) 0 XD
  | 3 => rdY c ![0, 0, 1536] (by decide) 0 XD
  | 4 => rdY c ![0, 0, 2048] (by decide) 0 XD
  | 5 => rdY c ![0, 0, 2560] (by decide) 0 XD
  | 6 => rdY c ![0, 0, 3072] (by decide) 0 XD
  | 7 => rdY c ![0, 0, 3584] (by decide) 0 XD
  | 8 => rdY c ![0, 0, 4096] (by decide) 0 XD
  | 9 => rdY c ![1, 0, 0] (by decide) 1 XD
  | 10 => rdY c ![1, 0, 512] (by decide) 1 XD
  | 11 => rdY c ![1, 0, 1024] (by decide) 1 XD
  | 12 => rdY c ![1, 0, 1536] (by decide) 1 XD
  | 13 => rdY c ![1, 0, 2048] (by decide) 1 XD
  | 14 => rdY c ![1, 0, 2560] (by decide) 1 XD
  | 15 => rdY c ![1, 0, 3072] (by decide) 1 XD
  | 16 => rdY c ![1, 0, 3584] (by decide) 1 XD
  | 17 => rdY c ![1, 0, 4096] (by decide) 1 XD
  | 18 => rdY c ![2, 0, 0] (by decide) 2 XD
  | 19 => rdY c ![2, 0, 512] (by decide) 2 XD
  | 20 => rdY c ![2, 0, 1024] (by decide) 2 XD
  | 21 => rdY c ![2, 0, 1536] (by decide) 2 XD
  | 22 => rdY c ![2, 0, 2048] (by decide) 2 XD
  | 23 => rdY c ![2, 0, 2560] (by decide) 2 XD
  | 24 => rdY c ![2, 0, 3072] (by decide) 2 XD
  | 25 => rdY c ![2, 0, 3584] (by decide) 2 XD
  | 26 => rdY c ![2, 0, 4096] (by decide) 2 XD
  | 27 => rdY c ![3, 0, 0] (by decide) 3 XD
  | 28 => rdY c ![3, 0, 512] (by decide) 3 XD
  | 29 => rdY c ![3, 0, 1024] (by decide) 3 XD
  | 30 => rdY c ![3, 0, 1536] (by decide) 3 XD
  | 31 => rdY c ![3, 0, 2048] (by decide) 3 XD
  | 32 => rdY c ![3, 0, 2560] (by decide) 3 XD
  | 33 => rdY c ![3, 0, 3072] (by decide) 3 XD
  | 34 => rdY c ![3, 0, 3584] (by decide) 3 XD
  | 35 => rdY c ![3, 0, 4096] (by decide) 3 XD
  | n => ysub XD n
theorem yr_eq (XD : BufOf (F := F) c dyM) : yr c XD = ysub XD := by
  funext n
  match n with
  | 0 => exact rdY_eq c _ _ 0 XD 0 (by decide) rfl
  | 1 => exact rdY_eq c _ _ 0 XD 1 (by decide) rfl
  | 2 => exact rdY_eq c _ _ 0 XD 2 (by decide) rfl
  | 3 => exact rdY_eq c _ _ 0 XD 3 (by decide) rfl
  | 4 => exact rdY_eq c _ _ 0 XD 4 (by decide) rfl
  | 5 => exact rdY_eq c _ _ 0 XD 5 (by decide) rfl
  | 6 => exact rdY_eq c _ _ 0 XD 6 (by decide) rfl
  | 7 => exact rdY_eq c _ _ 0 XD 7 (by decide) rfl
  | 8 => exact rdY_eq c _ _ 0 XD 8 (by decide) rfl
  | 9 => exact rdY_eq c _ _ 1 XD 0 (by decide) rfl
  | 10 => exact rdY_eq c _ _ 1 XD 1 (by decide) rfl
  | 11 => exact rdY_eq c _ _ 1 XD 2 (by decide) rfl
  | 12 => exact rdY_eq c _ _ 1 XD 3 (by decide) rfl
  | 13 => exact rdY_eq c _ _ 1 XD 4 (by decide) rfl
  | 14 => exact rdY_eq c _ _ 1 XD 5 (by decide) rfl
  | 15 => exact rdY_eq c _ _ 1 XD 6 (by decide) rfl
  | 16 => exact rdY_eq c _ _ 1 XD 7 (by decide) rfl
  | 17 => exact rdY_eq c _ _ 1 XD 8 (by decide) rfl
  | 18 => exact rdY_eq c _ _ 2 XD 0 (by decide) rfl
  | 19 => exact rdY_eq c _ _ 2 XD 1 (by decide) rfl
  | 20 => exact rdY_eq c _ _ 2 XD 2 (by decide) rfl
  | 21 => exact rdY_eq c _ _ 2 XD 3 (by decide) rfl
  | 22 => exact rdY_eq c _ _ 2 XD 4 (by decide) rfl
  | 23 => exact rdY_eq c _ _ 2 XD 5 (by decide) rfl
  | 24 => exact rdY_eq c _ _ 2 XD 6 (by decide) rfl
  | 25 => exact rdY_eq c _ _ 2 XD 7 (by decide) rfl
  | 26 => exact rdY_eq c _ _ 2 XD 8 (by decide) rfl
  | 27 => exact rdY_eq c _ _ 3 XD 0 (by decide) rfl
  | 28 => exact rdY_eq c _ _ 3 XD 1 (by decide) rfl
  | 29 => exact rdY_eq c _ _ 3 XD 2 (by decide) rfl
  | 30 => exact rdY_eq c _ _ 3 XD 3 (by decide) rfl
  | 31 => exact rdY_eq c _ _ 3 XD 4 (by decide) rfl
  | 32 => exact rdY_eq c _ _ 3 XD 5 (by decide) rfl
  | 33 => exact rdY_eq c _ _ 3 XD 6 (by decide) rfl
  | 34 => exact rdY_eq c _ _ 3 XD 7 (by decide) rfl
  | 35 => exact rdY_eq c _ _ 3 XD 8 (by decide) rfl
  | n + 36 => rfl

theorem acc_dyb (r : Rect S4x256x4608) (f : S4x256x4608.Idx → F .fp8e4m3) (w : r.shape.Idx → F .fp8e4m3) (x : r.shape.Idx) :
    View.write (Elt F) (dybM.access r) f w Finset.univ (r.emb x) = w x :=
  View.write_emb_of_mem (Val := Elt F) (v := dybM.access r) f w (Finset.mem_univ x)
theorem acc_dyb_off (r : Rect S4x256x4608) (f : S4x256x4608.Idx → F .fp8e4m3) (w : r.shape.Idx → F .fp8e4m3) (y : S4x256x4608.Idx)
    (h : ∀ x, r.emb x ≠ y) : View.write (Elt F) (dybM.access r) f w Finset.univ y = f y := by
  refine View.write_of_not_mem (Val := Elt F) (v := dybM.access r) f w Finset.univ ?_
  intro hm
  obtain ⟨x, -, hx⟩ := Finset.mem_map.mp hm
  exact h x hx

theorem doff_inb (j : Fin 4) (t : ℕ) (ht : t < 9) : ∀ a, (![j.val, 0, 512 * t] : Fin 3 → Nat) a + S1x256x512.size a ≤ S4x256x4608.size a := by
  intro a
  fin_cases a
  · show j.val + 1 ≤ 4; omega
  · show 0 + 256 ≤ 256; omega
  · show 512 * t + 512 ≤ 4608; omega

/-- The buffer of the codes after piece `t` of slot `j` is stored. -/
abbrev dw (j : Fin 4) (off : Fin 3 → Nat) (hh : ∀ a, off a + S1x256x512.size a ≤ S4x256x4608.size a)
    (f : S4x256x4608.Idx → F .fp8e4m3) (w : FVec F S1x256x512 .fp8e4m3) : S4x256x4608.Idx → F .fp8e4m3 :=
  View.write (Elt F) (dybM.access (Rect.unit (s := S4x256x4608) off S1x256x512.size hh)) f w Finset.univ

theorem dw_step (j : Fin 4) (t : ℕ) (ht : t < 9) (off) (hh) (ho : off = ![j.val, 0, 512 * t]) (f : S4x256x4608.Idx → F .fp8e4m3) (w : FVec F S1x256x512 .fp8e4m3)
    (G : Fin 256 → ℕ → F .fp8e4m3) (hf : ∀ (i : Fin 256) (s : Fin 4608), s.val < 512 * t → f (ix3 j i s) = G i s.val)
    (hw : ∀ (i : Fin 256) (s : Fin 512), w (ix3 0 i s) = G i (512 * t + s.val)) :
    ∀ (i : Fin 256) (s : Fin 4608), s.val < 512 * (t + 1) → dw j off hh f w (ix3 j i s) = G i s.val := by
  subst ho
  intro i s hs
  have hemb : ∀ (i0 : Fin 1) (i1 : Fin 256) (i2 : Fin 512),
      (Rect.unit (s := S4x256x4608) ![j.val, 0, 512 * t] S1x256x512.size hh).emb (ix3 i0 i1 i2)
        = (ix3 j i1 (⟨512 * t + i2.val, by omega⟩ : Fin 4608) : S4x256x4608.Idx) := by
    intro i0 i1 i2
    funext r; refine Fin.ext ?_
    fin_cases r
    · show j.val + 1 * i0.val = j.val; omega
    · show 0 + 1 * i1.val = i1.val; omega
    · show 512 * t + 1 * i2.val = 512 * t + i2.val; omega
  by_cases h : s.val < 512 * t
  · refine (acc_dyb_off (Rect.unit (s := S4x256x4608) ![j.val, 0, 512 * t] S1x256x512.size hh) f w (ix3 j i s) ?_).trans (hf i s h)
    intro x hx
    obtain ⟨i0, i1, i2, rfl⟩ : ∃ (i0 : Fin 1) (i1 : Fin 256) (i2 : Fin 512), x = ix3 i0 i1 i2 := ⟨x 0, x 1, x 2, eq_ix3 x⟩
    have h2 := (hemb i0 i1 i2).symm.trans hx
    have h3 : 512 * t + i2.val = s.val := congrArg (fun y : S4x256x4608.Idx => (y 2).val) h2
    omega
  · have h3 := acc_dyb (Rect.unit (s := S4x256x4608) ![j.val, 0, 512 * t] S1x256x512.size hh) f w
      (ix3 0 i (⟨s.val - 512 * t, by omega⟩ : Fin 512))
    have h5 : (⟨512 * t + (s.val - 512 * t), by omega⟩ : Fin 4608) = s := Fin.ext (by show 512 * t + (s.val - 512 * t) = s.val; omega)
    have h6 := hw i (⟨s.val - 512 * t, by omega⟩ : Fin 512)
    have h7 : 512 * t + (s.val - 512 * t) = s.val := by omega
    rw [hemb, h5] at h3
    refine h3.trans (h6.trans ?_)
    exact congrArg (G i) h7

/-- The buffer of the codes after the nine pieces of slot `j` of the first operand are stored. -/
def nestD (j : Fin 4) (v : F .f32) (x : ℕ → Vec F S1x256x512 .bf16) (f : S4x256x4608.Idx → F .fp8e4m3) : S4x256x4608.Idx → F .fp8e4m3 :=
  (dw j ![j.val, 0, 4096] (doff_inb j 8 (by decide)) (dw j ![j.val, 0, 3584] (doff_inb j 7 (by decide)) (dw j ![j.val, 0, 3072] (doff_inb j 6 (by decide)) (dw j ![j.val, 0, 2560] (doff_inb j 5 (by decide)) (dw j ![j.val, 0, 2048] (doff_inb j 4 (by decide)) (dw j ![j.val, 0, 1536] (doff_inb j 3 (by decide)) (dw j ![j.val, 0, 1024] (doff_inb j 2 (by decide)) (dw j ![j.val, 0, 512] (doff_inb j 1 (by decide)) (dw j ![j.val, 0, 0] (doff_inb j 0 (by decide)) f
    (qrow v (x (9 * j.val + 0))))
    (qrow v (x (9 * j.val + 1))))
    (qrow v (x (9 * j.val + 2))))
    (qrow v (x (9 * j.val + 3))))
    (qrow v (x (9 * j.val + 4))))
    (qrow v (x (9 * j.val + 5))))
    (qrow v (x (9 * j.val + 6))))
    (qrow v (x (9 * j.val + 7))))
    (qrow v (x (9 * j.val + 8))))

theorem ysub_apply (XD : S256x18432.Idx → F .bf16) (t : ℕ) (i0 : Fin 1) (i1 : Fin 256) (i2 : Fin 512) :
    ysub XD t (ix3 i0 i1 i2) = XD (ix2 i1 (Fin.ofNat 18432 (512 * t + i2.val))) := rfl
theorem nestD_apply (j : Fin 4) (v : F .f32) (XD : S256x18432.Idx → F .bf16) (f : S4x256x4608.Idx → F .fp8e4m3) (i : Fin 256) (s : Fin 4608) :
    nestD j v (ysub XD) f (ix3 j i s) = qel v (XD (ix2 i (⟨4608 * j.val + s.val, by omega⟩ : Fin 18432))) := by
  let G : Fin 256 → ℕ → F .fp8e4m3 := fun i s => qel v (XD (ix2 i (Fin.ofNat 18432 (4608 * j.val + s))))
  have hG : ∀ t : ℕ, t < 9 → ∀ (i : Fin 256) (s : Fin 512), qrow v (ysub XD (9 * j.val + t)) (ix3 0 i s) = G i (512 * t + s.val) := by
    intro t ht i s
    rw [qrow_apply]
    rw [ysub_apply]
    refine congrArg (fun y => qel v (XD y)) ?_
    funext r; refine Fin.ext ?_
    fin_cases r
    · rfl
    · show (512 * (9 * j.val + t) + s.val) % 18432 = (4608 * j.val + (512 * t + s.val)) % 18432
      congr 1; omega
  have h0 : ∀ (i : Fin 256) (s : Fin 4608), s.val < 512 * 0 → f (ix3 j i s) = G i s.val := fun i s h => absurd h (by omega)
  have h1 := dw_step j 0 (by decide) ![j.val, 0, 0] (doff_inb j 0 (by decide)) rfl _ _ G h0 (hG 0 (by decide))
  have h2 := dw_step j 1 (by decide) ![j.val, 0, 512] (doff_inb j 1 (by decide)) rfl _ _ G h1 (hG 1 (by decide))
  have h3 := dw_step j 2 (by decide) ![j.val, 0, 1024] (doff_inb j 2 (by decide)) rfl _ _ G h2 (hG 2 (by decide))
  have h4 := dw_step j 3 (by decide) ![j.val, 0, 1536] (doff_inb j 3 (by decide)) rfl _ _ G h3 (hG 3 (by decide))
  have h5 := dw_step j 4 (by decide) ![j.val, 0, 2048] (doff_inb j 4 (by decide)) rfl _ _ G h4 (hG 4 (by decide))
  have h6 := dw_step j 5 (by decide) ![j.val, 0, 2560] (doff_inb j 5 (by decide)) rfl _ _ G h5 (hG 5 (by decide))
  have h7 := dw_step j 6 (by decide) ![j.val, 0, 3072] (doff_inb j 6 (by decide)) rfl _ _ G h6 (hG 6 (by decide))
  have h8 := dw_step j 7 (by decide) ![j.val, 0, 3584] (doff_inb j 7 (by decide)) rfl _ _ G h7 (hG 7 (by decide))
  have h9 := dw_step j 8 (by decide) ![j.val, 0, 4096] (doff_inb j 8 (by decide)) rfl _ _ G h8 (hG 8 (by decide))
  refine (h9 i s (by omega)).trans ?_
  refine congrArg (fun y => qel v (XD y)) ?_
  funext r; refine Fin.ext ?_
  fin_cases r
  · rfl
  · show (4608 * j.val + s.val) % 18432 = 4608 * j.val + s.val
    rw [Nat.mod_eq_of_lt (by omega)]
theorem DCf_apply (YC : S256x18432.Idx → F .fp8e4m3) (j : Fin 4) (i : Fin 256) (s : Fin 4608) :
    DCf YC (ix3 j i s) = YC (ix2 i (⟨4608 * j.val + s.val, by omega⟩ : Fin 18432)) := by
  refine congrArg YC ?_
  funext r; refine Fin.ext ?_
  fin_cases r
  · rfl
  · show (4608 * j.val + s.val) % 18432 = 4608 * j.val + s.val
    rw [Nat.mod_eq_of_lt (by omega)]
theorem nestD_DCf (j : Fin 4) (v : F .f32) (XD : S256x18432.Idx → F .bf16) (f : S4x256x4608.Idx → F .fp8e4m3) (i : Fin 256) (s : Fin 4608) :
    nestD j v (ysub XD) f (ix3 j i s) = DCf (YCf v XD) (ix3 j i s) := by
  rw [nestD_apply, DCf_apply]; rfl

/-- A slot's share after the codes are stored in it. -/
theorem dslot_of (q : PosShare TreeShare) (j : Fin 4) (v : F .f32) (XD : S256x18432.Idx → F .bf16) (f : S4x256x4608.Idx → F .fp8e4m3) {O : S4x256x4608.Idx → F .fp8e4m3}
    (hO : O = nestD j v (ysub XD) f) :
    ((dslot j).view.loc (c : Thread nD τ) ↦[(dslot j).view.set]{q} O : sProp 𝕄)
      = (dslot j).view.loc (c : Thread nD τ) ↦[(dslot j).view.set]{q} DCf (YCf v XD) := by
  subst hO
  refine pointsTo_congr ?_
  intro y hy
  obtain ⟨x, -, rfl⟩ := Finset.mem_map.mp hy
  obtain ⟨i, s, rfl⟩ : ∃ (i : Fin 256) (s : Fin 4608), x = ix2 i s := ⟨x 0, x 1, eq_ix2 x⟩
  rw [dslot_emb]
  exact nestD_DCf j v XD f i s

theorem held_dycblk (j : Fin 4) (f g : S256x18432.Idx → F .fp8e4m3)
    (h : ∀ (i : Fin 256) (s : Fin 4608), f (ix2 i (⟨4608 * j.val + s.val, by omega⟩ : Fin 18432))
      = g (ix2 i (⟨4608 * j.val + s.val, by omega⟩ : Fin 18432))) :
    held c (dycblk j) f = held c (dycblk j) g := by
  refine pointsTo_congr ?_
  intro y hy
  obtain ⟨x, -, rfl⟩ := Finset.mem_map.mp hy
  obtain ⟨i, s, rfl⟩ : ∃ (i : Fin 256) (s : Fin 4608), x = ix2 i s := ⟨x 0, x 1, eq_ix2 x⟩
  rw [dycblk_emb]
  exact h i s
theorem dycblk_writes (j : Fin 4) (f : S256x18432.Idx → F .fp8e4m3) (p : S256x4608.Idx → F .fp8e4m3) (x : S256x4608.Idx) :
    (dycblk j).view.writes (Elt F) f [⟨Rect.whole S256x4608, p⟩] ((dycblk j).view.emb x) = p x :=
  writes_whole_emb (F := F) (dycblk j).view f p [] x
theorem read_dslot (j : Fin 4) (X : S4x256x4608.Idx → F .fp8e4m3) (x : S256x4608.Idx) :
    (ReadAs.same.apply ((dslot j).view.read (Elt F) X) : S256x4608.Idx → F .fp8e4m3) x = X ((dslot j).view.emb x) := rfl

/-- A slot of the first operand's codes in flight to its piece, half a share of the slot lent to the transfer. -/
abbrev flyY (YC : S256x18432.Idx → F .fp8e4m3) (j : Fin 4) : sProp 𝕄 :=
  Transfers.Flight countersEmb (c : Thread nD τ) (SemLoc.dma (dsem j).sem) () 36864
    iprop(held c (dycblk j) YC ∗ ((dslot j).view.loc (c : Thread nD τ) ↦[(dslot j).view.set]{fullShare.right} DCf YC))
theorem flyY_of (XD : BufOf (F := F) c dyM) (v : F .f32) (j : Fin 4) {f : S4x256x4608.Idx → F .fp8e4m3} {g' : S256x18432.Idx → F .fp8e4m3}
    {p : S256x4608.Idx → F .fp8e4m3} {O : S4x256x4608.Idx → F .fp8e4m3}
    (hO : O = nestD j v (ysub XD) f) (hp : p = ReadAs.same.apply ((dslot j).view.read (Elt F) O)) :
    Transfers.Flight countersEmb (c : Thread nD τ) (SemLoc.dma (dsem j).sem) () 36864
      iprop(held c (dycblk j) ((dycblk j).view.writes (Elt F) g' [⟨Rect.whole S256x4608, p⟩]) ∗ ((dslot j).view.loc (c : Thread nD τ) ↦[(dslot j).view.set]{fullShare.right} O))
    ⊢ flyY c (YCf v XD) j := by
  have e : held c (dycblk j) ((dycblk j).view.writes (Elt F) g' [⟨Rect.whole S256x4608, p⟩])
      = held c (dycblk j) (YCf v XD) := by
    refine held_dycblk c j _ _ ?_
    intro i s
    have h1 := dycblk_writes j g' p (ix2 i s)
    rw [dycblk_emb] at h1
    refine h1.trans ?_
    rw [hp, hO, read_dslot, dslot_emb]
    exact nestD_apply j v XD f i s
  rw [e, dslot_of c _ j v XD f hO]

theorem of_eq' {P Q : sProp 𝕄} (e : P = Q) : P ⊢ Q := e ▸ .rfl

/-! ## The largest magnitudes -/

/-- The running largest magnitude at the start. -/
def zeroA : FVec F S16x512 .bf16 := broadcast S16x512 (Scalar.ofBits .bf16 0x0000#16)
/-- The largest of the running largest magnitudes. -/
def top (A : FVec F S16x512 .bf16) : F .f32 :=
  extractAt ![0, 0, 0] (shapeCast S1x1x1 (multiReduction .maximumf [1, 2] S1 (shapeCast S1x16x512 (extf .f32 A bitsLt_bf16_f32) shapeCasts_S16x512_S1x16x512) 0xFF800000#32 reduces_S1x16x512_S1 (.inl rfl) rfl) shapeCasts_S1_S1x1x1) inpos_S1x1x1_p0_0_0

theorem amY_of (XD : S256x18432.Idx → F .bf16)
    {H1 H2 H3 H4 H5 : List (View.Piece (Elt F) S16x512 .bf16)}
    (h1 : H1 = ⟨amR, shapeCast S16x512 zeroA shapeCasts_S16x512_S16x512⟩ :: [])
    (h2 : H2 = ⟨amR, shapeCast S16x512 (amF (ysub XD) 0 (amM.view.readCov H1 amR.toLoadRect) 9) shapeCasts_S16x512_S16x512⟩ :: H1)
    (h3 : H3 = ⟨amR, shapeCast S16x512 (amF (ysub XD) 9 (amM.view.readCov H2 amR.toLoadRect) 9) shapeCasts_S16x512_S16x512⟩ :: H2)
    (h4 : H4 = ⟨amR, shapeCast S16x512 (amF (ysub XD) 18 (amM.view.readCov H3 amR.toLoadRect) 9) shapeCasts_S16x512_S16x512⟩ :: H3)
    (h5 : H5 = ⟨amR, shapeCast S16x512 (amF (ysub XD) 27 (amM.view.readCov H4 amR.toLoadRect) 9) shapeCasts_S16x512_S16x512⟩ :: H4) :
    amM.view.readCov H5 amR.toLoadRect = amN (ysub XD) zeroA 36 := by
  rw [shapeCast_self] at h1 h2 h3 h4 h5
  have c1 : amM.view.readCov H1 amR.toLoadRect = amN (ysub XD) zeroA 0 := by
    rw [h1, View.readCov_cons_toLoadRect]; rfl
  have c2 : amM.view.readCov H2 amR.toLoadRect = amN (ysub XD) zeroA 9 := by
    rw [h2, View.readCov_cons_toLoadRect, c1]; exact amF_amN _ zeroA 0 9
  have c3 : amM.view.readCov H3 amR.toLoadRect = amN (ysub XD) zeroA 18 := by
    rw [h3, View.readCov_cons_toLoadRect, c2]; exact amF_amN _ zeroA 9 9
  have c4 : amM.view.readCov H4 amR.toLoadRect = amN (ysub XD) zeroA 27 := by
    rw [h4, View.readCov_cons_toLoadRect, c3]; exact amF_amN _ zeroA 18 9
  rw [h5, View.readCov_cons_toLoadRect, c4]; exact amF_amN _ zeroA 27 9
/-- The running largest magnitude, set back to zero. -/
theorem am_zero {f : S16x512.Idx → F .bf16} {p : FVec F S16x512 .bf16} {L : List (View.Piece (Elt F) S16x512 .bf16)} (hp : p = shapeCast S16x512 zeroA shapeCasts_S16x512_S16x512) :
    held c amM (amM.view.writes (Elt F) f (⟨amR, p⟩ :: L)) ⊢ held c amM zeroA := by
  rw [shapeCast_self] at hp
  rw [am_write, hp]

/-! ## The scalars -/

/-- A memory reference held at contents that read as `w`. -/
abbrev rdback {sp s e} (M : Memref sig .tc sp s e) (w : s.Idx → Elt F e) : sProp 𝕄 :=
  iprop(∃ g : BufOf (F := F) c M, ⌜M.view.read (Elt F) g = w⌝ ∗ held c M g)
/-- The scalar in a cell. -/
abbrev cell (M : Memref sig .tc .smem S1 .f32) (g : BufOf (F := F) c M) : F .f32 :=
  View.readAt (Elt F) M.view (Rect.unit (s := S1) ![0] S1.size inb_S1_S1_0).toLoadRect g (Shape.Idx.first (s := S1) (by decide))
theorem rdback_of (M : Memref sig .tc .smem S1 .f32) {f : BufOf (F := F) c M} {w w' : S1.Idx → F .f32} (h : w = w') :
    held c M (M.view.writes (Elt F) f [⟨Rect.unit (s := S1) ![0] S1.size inb_S1_S1_0, w⟩]) ⊢ rdback c M w' := by
  subst h
  iintro H; iexists _
  isplitr
  · ipureintro; exact View.read_writes_full M.view f inb_S1_S1_0 w []
  iexact H

end Cert.Proof.K

end
-- ==== Proof.K.Body.lean ====
module

public import proofs.«01_k».proof.Proof.K.Dy

/-! The kernel on its buffers, from its start to its end. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD)
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)

/-- The kernel on its buffers. -/
abbrev bodyG : Prog (TpuEff nD τ sig (Elt F) Λ₀ .tc) PUnit :=
  cc0__body (F := F) dyM (Memref.isWhole_whole _) wM (Memref.isWhole_whole _) arg2 harg2 arg3 harg3 dxM (Memref.isWhole_whole _) dycM (Memref.isWhole_whole _) arg6 harg6 wcM (Memref.isWhole_whole _) arg8 harg8 arg9 harg9 arg10 harg10
    inM (Memref.isWhole_whole _) dybM (Memref.isWhole_whole _) outM (Memref.isWhole_whole _) accM (Memref.isWhole_whole _) xbM (Memref.isWhole_whole _) amM (Memref.isWhole_whole _)
    cc0_scratch6 cc0_scratch7 cc0_scratch8 cc0_scratch9

theorem inv_zero (v109 v112 : F .f32) (XW : BufOf (F := F) c wM) (YC : S256x18432.Idx → F .fp8e4m3) (A0 : S16x512.Idx → F .bf16)
    (G : S7168x18432.Idx → F .fp8e4m3) (x' : S256x7168.Idx → F .bf16) (Ac : S256x256.Idx → F .f32) (W : Waits sig Unit) :
    iprop((heldL c (dslot 0) (DCf YC) ∗ heldL c (dslot 1) (DCf YC) ∗ heldL c (dslot 2) (DCf YC) ∗ heldL c (dslot 3) (DCf YC)
      ∗ held c amM A0 ∗ held c accM Ac)
      ∗ four (fun j => iprop(∃ f, flyW c XW 1 j 0 f)) ∗ four (fun j => iprop(∃ f, flyW c XW 0 j 1 f))
      ∗ bigSep (homeS 0) (fun b => four (fun j => homeW c XW b j))
      ∗ four (fun j => iprop(∃ O, held c (oslot j) O ∗ zero c (osem j)))
      ∗ bigSep (freshS 0) (fun b => four (fun j => held c (wcblk b j) G))
      ∗ iprop(∃ X, held c (xslot 1) X ∗ zero c (xsem 1)) ∗ iprop(∃ X, held c (xslot 0) X ∗ zero c (xsem 0))
      ∗ bigSep (freshS 0) (fun b => held c (dxblk b) x')
      ∗ owes (c : Thread nD τ) 0 W)
    ⊢ Inv c v109 v112 XW YC A0 G x' 0 := by
  unfold Inv
  rw [WS_pos c XW 0 (by decide), WS_pos c XW (0 + 1) (by decide), OS_neg c _ 0 (by decide), XS_neg c _ 0 (by decide), XS_neg c _ (0 + 1) (by decide)]
  rw [show doneS 1 0 = ∅ from by decide, show doneS 2 0 = ∅ from by decide, BI.bigSep_empty, BI.bigSep_empty]
  iintro ⟨Hb, HT, HS, HH, HO, HC, HX1, HX0, Hx, HW⟩
  isplitl [Hb]
  · iexists Ac; iexact Hb
  isplitl [HT]; · iexact HT
  isplitl [HS]; · iexact HS
  isplitl [HH]; · iexact HH
  isplitl [HO]; · iexact HO
  isplitr; · iempintro
  isplitl [HC]; · iexact HC
  isplitl [HX1]; · iexact HX1
  isplitl [HX0]; · iexact HX0
  isplitr; · iempintro
  isplitl [Hx]; · iexact Hx
  iexists W; iexact HW

/-- What the loop leaves. -/
theorem inv_end (v109 v112 : F .f32) (XW : BufOf (F := F) c wM) (YC : S256x18432.Idx → F .fp8e4m3) (A0 : S16x512.Idx → F .bf16)
    (G : S7168x18432.Idx → F .fp8e4m3) (x' : S256x7168.Idx → F .bf16) :
    Inv c v109 v112 XW YC A0 G x' 28 ⊢
    iprop((∃ Ac, base c YC (amW XW A0 28) Ac)
      ∗ four (fun j => iprop(∃ f, held c (rslot 1 j) f ∗ zero c (isem 1 j))) ∗ four (fun j => iprop(∃ f, held c (rslot 0 j) f ∗ zero c (isem 0 j)))
      ∗ bigSep Finset.univ (fun b => four (fun j => homeW c XW b j))
      ∗ four (fun j => flyOut c (WCf v109 XW) j 27)
      ∗ bigSep (doneS 1 28) (fun b => four (fun j => held c (wcblk b j) (WCf v109 XW)))
      ∗ flyDx c (DXf v109 v112 YC XW) 1 26 ∗ flyDx c (DXf v109 v112 YC XW) 0 27
      ∗ bigSep (doneS 2 28) (fun b => held c (dxblk b) (DXf v109 v112 YC XW))
      ∗ ∃ W, owes (c : Thread nD τ) 0 W) := by
  unfold Inv
  rw [WS_neg c XW 28 (by decide), WS_neg c XW (28 + 1) (by decide), OS_pos c _ 28 (by decide), XS_pos c _ 28 (by decide), XS_pos c _ (28 + 1) (by decide)]
  rw [show homeS 28 = Finset.univ from by decide]
  iintro ⟨Hb, HT, HS, HH, HO, HC, -, HX1, HX0, Hx, -, HW⟩
  isplitl [Hb]; · iexact Hb
  isplitl [HT]; · iexact HT
  isplitl [HS]; · iexact HS
  isplitl [HH]; · iexact HH
  isplitl [HO]; · iexact HO
  isplitl [HC]; · iexact HC
  isplitl [HX1]; · iexact HX1
  isplitl [HX0]; · iexact HX0
  isplitl [Hx]; · iexact Hx
  iexact HW

theorem done1 : Finset.univ = insert (27 : Fin 28) (doneS 1 28) := by decide
theorem done1_not : (27 : Fin 28) ∉ doneS 1 28 := by decide
theorem done2 : Finset.univ = insert (27 : Fin 28) (insert (26 : Fin 28) (doneS 2 28)) := by decide
theorem done2_not : (27 : Fin 28) ∉ insert (26 : Fin 28) (doneS 2 28) := by decide
theorem done2_not' : (26 : Fin 28) ∉ doneS 2 28 := by decide

/-- What the kernel starts from. -/
abbrev bodyPre (XD : BufOf (F := F) c dyM) (XW : BufOf (F := F) c wM)
    (g2 : BufOf (F := F) c arg2) (g3 : BufOf (F := F) c arg3) (g6 : BufOf (F := F) c arg6) (g8 : BufOf (F := F) c arg8) (g9 : BufOf (F := F) c arg9) (g10 : BufOf (F := F) c arg10)
    (Gy : S256x18432.Idx → F .fp8e4m3) (D : S4x256x4608.Idx → F .fp8e4m3) (I : S8x256x4608.Idx → F .bf16) (A : S16x512.Idx → F .bf16) (W : Waits sig Unit)
    (O : S4x256x4608.Idx → F .fp8e4m3) (X : S2x256x256.Idx → F .bf16) (Ac : S256x256.Idx → F .f32) (G : S7168x18432.Idx → F .fp8e4m3) (x' : S256x7168.Idx → F .bf16) : sProp 𝕄 :=
  iprop(held c arg2 g2 ∗ held c arg3 g3 ∗ held c arg6 g6 ∗ held c arg8 g8 ∗ held c arg9 g9 ∗ held c arg10 g10
      ∗ four (fun j => held c (dyblk j) XD) ∗ four (fun j => homeW c XW 0 j) ∗ four (fun j => homeW c XW 1 j)
      ∗ four (fun j => held c (dycblk j) Gy) ∗ four (fun j => held c (dslot j) D) ∗ four (fun j => held c (rslot 0 j) I) ∗ four (fun j => held c (rslot 1 j) I)
      ∗ four (fun j => zero c (isem 0 j)) ∗ four (fun j => zero c (isem 1 j)) ∗ four (fun j => zero c (dsem j))
      ∗ held c amM A ∗ owes (c : Thread nD τ) 0 W
      ∗ four (fun j => held c (oslot j) O) ∗ four (fun j => zero c (osem j))
      ∗ held c (xslot 0) X ∗ held c (xslot 1) X ∗ zero c (xsem 0) ∗ zero c (xsem 1) ∗ held c accM Ac
      ∗ bigSep (homeS 0) (fun b => four (fun j => homeW c XW b j))
      ∗ bigSep (freshS 0) (fun b => four (fun j => held c (wcblk b j) G))
      ∗ bigSep (freshS 0) (fun b => held c (dxblk b) x'))

/-- What the kernel leaves. -/
abbrev bodyPost (XD : BufOf (F := F) c dyM) (XW : BufOf (F := F) c wM)
    (g2 : BufOf (F := F) c arg2) (g3 : BufOf (F := F) c arg3) : sProp 𝕄 :=
  iprop(held c arg2 g2 ∗ held c arg3 g3
      ∗ rdback c arg6 (fun _ => scaleY (cell c arg2 g2)) ∗ rdback c arg8 (fun _ => scaleW (cell c arg3 g3))
      ∗ rdback c arg9 (fun _ => top (amN (ysub XD) zeroA 36)) ∗ rdback c arg10 (fun _ => top (amW XW zeroA 28))
      ∗ four (fun j => held c (dyblk j) XD)
      ∗ bigSep Finset.univ (fun b => four (fun j => homeW c XW b j))
      ∗ four (fun j => held c (dycblk j) (YCf (invY (cell c arg2 g2)) XD))
      ∗ bigSep Finset.univ (fun b => four (fun j => held c (wcblk b j) (WCf (invW (cell c arg3 g3)) XW)))
      ∗ bigSep Finset.univ (fun b => held c (dxblk b) (DXf (invW (cell c arg3 g3)) (scaleX (cell c arg2 g2) (cell c arg3 g3)) (YCf (invY (cell c arg2 g2)) XD) XW))
      ∗ four (fun j => iprop(∃ D, held c (dslot j) D)) ∗ four (fun j => iprop(∃ f, held c (rslot 0 j) f ∗ zero c (isem 0 j))) ∗ four (fun j => iprop(∃ f, held c (rslot 1 j) f ∗ zero c (isem 1 j)))
      ∗ four (fun j => iprop(∃ O, held c (oslot j) O)) ∗ iprop(∃ X, held c (xslot 0) X) ∗ iprop(∃ X, held c (xslot 1) X)
      ∗ iprop(∃ A, held c amM A) ∗ iprop(∃ Ac, held c accM Ac)
      ∗ four (fun j => zero c (dsem j)) ∗ four (fun j => zero c (osem j)) ∗ zero c (xsem 0) ∗ zero c (xsem 1)
      ∗ iprop(∃ W, owes (c : Thread nD τ) 0 W))

attribute [local irreducible] Inv

set_option maxHeartbeats 32000000 in
set_option sl_exec.lendShare "HD0,HD1,HD2,HD3" in
theorem bodyRun (XD : BufOf (F := F) c dyM) (XW : BufOf (F := F) c wM)
    (g2 : BufOf (F := F) c arg2) (g3 : BufOf (F := F) c arg3) (g6 : BufOf (F := F) c arg6) (g8 : BufOf (F := F) c arg8) (g9 : BufOf (F := F) c arg9) (g10 : BufOf (F := F) c arg10)
    (Gy : S256x18432.Idx → F .fp8e4m3) (D : S4x256x4608.Idx → F .fp8e4m3) (I : S8x256x4608.Idx → F .bf16) (A : S16x512.Idx → F .bf16) (W : Waits sig Unit)
    (O : S4x256x4608.Idx → F .fp8e4m3) (X : S2x256x256.Idx → F .bf16) (Ac : S256x256.Idx → F .f32) (G : S7168x18432.Idx → F .fp8e4m3) (x' : S256x7168.Idx → F .bf16) :
    bodyPre c arg2 arg3 arg6 arg8 arg9 arg10 XD XW g2 g3 g6 g8 g9 g10 Gy D I A W O X Ac G x'
      ⊢ wp frame (wpE (defs₀ (F := F)) 𝒱₀ (c : Thread nD τ) none) Set.univ (bodyG arg2 harg2 arg3 harg3 arg6 harg6 arg8 harg8 arg9 harg9 arg10 harg10)
        (fun _ => bodyPost c arg2 arg3 arg6 arg8 arg9 arg10 XD XW g2 g3) := by
  iintro ⟨H2, H3, H6, H8, H9, H10, ⟨HY0, HY1, HY2, HY3⟩, ⟨HW0, HW1, HW2, HW3⟩, ⟨HV0, HV1, HV2, HV3⟩, ⟨HYc0, HYc1, HYc2, HYc3⟩, ⟨HD0, HD1, HD2, HD3⟩, ⟨HI0, HI1, HI2, HI3⟩, ⟨HJ0, HJ1, HJ2, HJ3⟩, ⟨HS0, HS1, HS2, HS3⟩, ⟨HT0, HT1, HT2, HT3⟩, ⟨HU0, HU1, HU2, HU3⟩, HA, HW, ⟨HO0, HO1, HO2, HO3⟩, ⟨HP0, HP1, HP2, HP3⟩, HX0, HX1, HXz0, HXz1, HAc, Hh, HC, Hx⟩
  sl_exec
  have hv0 : bodyRun.sl.v163 c XD = ysub XD 0 := congrFun (yr_eq c XD) 0
  have hv1 : bodyRun.sl.v211 c XD = ysub XD 1 := congrFun (yr_eq c XD) 1
  have hv2 : bodyRun.sl.v259 c XD = ysub XD 2 := congrFun (yr_eq c XD) 2
  have hv3 : bodyRun.sl.v307 c XD = ysub XD 3 := congrFun (yr_eq c XD) 3
  have hv4 : bodyRun.sl.v355 c XD = ysub XD 4 := congrFun (yr_eq c XD) 4
  have hv5 : bodyRun.sl.v403 c XD = ysub XD 5 := congrFun (yr_eq c XD) 5
  have hv6 : bodyRun.sl.v451 c XD = ysub XD 6 := congrFun (yr_eq c XD) 6
  have hv7 : bodyRun.sl.v499 c XD = ysub XD 7 := congrFun (yr_eq c XD) 7
  have hv8 : bodyRun.sl.v547 c XD = ysub XD 8 := congrFun (yr_eq c XD) 8
  have hv9 : bodyRun.sl.v614 c XD = ysub XD 9 := congrFun (yr_eq c XD) 9
  have hv10 : bodyRun.sl.v662 c XD = ysub XD 10 := congrFun (yr_eq c XD) 10
  have hv11 : bodyRun.sl.v710 c XD = ysub XD 11 := congrFun (yr_eq c XD) 11
  have hv12 : bodyRun.sl.v758 c XD = ysub XD 12 := congrFun (yr_eq c XD) 12
  have hv13 : bodyRun.sl.v806 c XD = ysub XD 13 := congrFun (yr_eq c XD) 13
  have hv14 : bodyRun.sl.v854 c XD = ysub XD 14 := congrFun (yr_eq c XD) 14
  have hv15 : bodyRun.sl.v902 c XD = ysub XD 15 := congrFun (yr_eq c XD) 15
  have hv16 : bodyRun.sl.v950 c XD = ysub XD 16 := congrFun (yr_eq c XD) 16
  have hv17 : bodyRun.sl.v998 c XD = ysub XD 17 := congrFun (yr_eq c XD) 17
  have hv18 : bodyRun.sl.v1065 c XD = ysub XD 18 := congrFun (yr_eq c XD) 18
  have hv19 : bodyRun.sl.v1113 c XD = ysub XD 19 := congrFun (yr_eq c XD) 19
  have hv20 : bodyRun.sl.v1161 c XD = ysub XD 20 := congrFun (yr_eq c XD) 20
  have hv21 : bodyRun.sl.v1209 c XD = ysub XD 21 := congrFun (yr_eq c XD) 21
  have hv22 : bodyRun.sl.v1257 c XD = ysub XD 22 := congrFun (yr_eq c XD) 22
  have hv23 : bodyRun.sl.v1305 c XD = ysub XD 23 := congrFun (yr_eq c XD) 23
  have hv24 : bodyRun.sl.v1353 c XD = ysub XD 24 := congrFun (yr_eq c XD) 24
  have hv25 : bodyRun.sl.v1401 c XD = ysub XD 25 := congrFun (yr_eq c XD) 25
  have hv26 : bodyRun.sl.v1449 c XD = ysub XD 26 := congrFun (yr_eq c XD) 26
  have hv27 : bodyRun.sl.v1516 c XD = ysub XD 27 := congrFun (yr_eq c XD) 27
  have hv28 : bodyRun.sl.v1564 c XD = ysub XD 28 := congrFun (yr_eq c XD) 28
  have hv29 : bodyRun.sl.v1612 c XD = ysub XD 29 := congrFun (yr_eq c XD) 29
  have hv30 : bodyRun.sl.v1660 c XD = ysub XD 30 := congrFun (yr_eq c XD) 30
  have hv31 : bodyRun.sl.v1708 c XD = ysub XD 31 := congrFun (yr_eq c XD) 31
  have hv32 : bodyRun.sl.v1756 c XD = ysub XD 32 := congrFun (yr_eq c XD) 32
  have hv33 : bodyRun.sl.v1804 c XD = ysub XD 33 := congrFun (yr_eq c XD) 33
  have hv34 : bodyRun.sl.v1852 c XD = ysub XD 34 := congrFun (yr_eq c XD) 34
  have hv35 : bodyRun.sl.v1900 c XD = ysub XD 35 := congrFun (yr_eq c XD) 35
  have hO0 : bodyRun.sl.HD0_w9 c arg2 XD g2 D = nestD 0 (bodyRun.sl.r_3 c arg2 g2) (ysub XD) D := by
    dsimp only [bodyRun.sl.HD0_w1, bodyRun.sl.HD0_w2, bodyRun.sl.HD0_w3, bodyRun.sl.HD0_w4, bodyRun.sl.HD0_w5, bodyRun.sl.HD0_w6, bodyRun.sl.HD0_w7, bodyRun.sl.HD0_w8, bodyRun.sl.HD0_w9, bodyRun.sl.HD1_w10, bodyRun.sl.HD1_w11, bodyRun.sl.HD1_w12, bodyRun.sl.HD1_w13, bodyRun.sl.HD1_w14, bodyRun.sl.HD1_w15, bodyRun.sl.HD1_w16, bodyRun.sl.HD1_w17, bodyRun.sl.HD1_w18, bodyRun.sl.HD2_w19, bodyRun.sl.HD2_w20, bodyRun.sl.HD2_w21, bodyRun.sl.HD2_w22, bodyRun.sl.HD2_w23, bodyRun.sl.HD2_w24, bodyRun.sl.HD2_w25, bodyRun.sl.HD2_w26, bodyRun.sl.HD2_w27, bodyRun.sl.HD3_w28, bodyRun.sl.HD3_w29, bodyRun.sl.HD3_w30, bodyRun.sl.HD3_w31, bodyRun.sl.HD3_w32, bodyRun.sl.HD3_w33, bodyRun.sl.HD3_w34, bodyRun.sl.HD3_w35, bodyRun.sl.HD3_w36, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hO1 : bodyRun.sl.HD1_w18 c arg2 XD g2 D = nestD 1 (bodyRun.sl.r_3 c arg2 g2) (ysub XD) D := by
    dsimp only [bodyRun.sl.HD0_w1, bodyRun.sl.HD0_w2, bodyRun.sl.HD0_w3, bodyRun.sl.HD0_w4, bodyRun.sl.HD0_w5, bodyRun.sl.HD0_w6, bodyRun.sl.HD0_w7, bodyRun.sl.HD0_w8, bodyRun.sl.HD0_w9, bodyRun.sl.HD1_w10, bodyRun.sl.HD1_w11, bodyRun.sl.HD1_w12, bodyRun.sl.HD1_w13, bodyRun.sl.HD1_w14, bodyRun.sl.HD1_w15, bodyRun.sl.HD1_w16, bodyRun.sl.HD1_w17, bodyRun.sl.HD1_w18, bodyRun.sl.HD2_w19, bodyRun.sl.HD2_w20, bodyRun.sl.HD2_w21, bodyRun.sl.HD2_w22, bodyRun.sl.HD2_w23, bodyRun.sl.HD2_w24, bodyRun.sl.HD2_w25, bodyRun.sl.HD2_w26, bodyRun.sl.HD2_w27, bodyRun.sl.HD3_w28, bodyRun.sl.HD3_w29, bodyRun.sl.HD3_w30, bodyRun.sl.HD3_w31, bodyRun.sl.HD3_w32, bodyRun.sl.HD3_w33, bodyRun.sl.HD3_w34, bodyRun.sl.HD3_w35, bodyRun.sl.HD3_w36, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hO2 : bodyRun.sl.HD2_w27 c arg2 XD g2 D = nestD 2 (bodyRun.sl.r_3 c arg2 g2) (ysub XD) D := by
    dsimp only [bodyRun.sl.HD0_w1, bodyRun.sl.HD0_w2, bodyRun.sl.HD0_w3, bodyRun.sl.HD0_w4, bodyRun.sl.HD0_w5, bodyRun.sl.HD0_w6, bodyRun.sl.HD0_w7, bodyRun.sl.HD0_w8, bodyRun.sl.HD0_w9, bodyRun.sl.HD1_w10, bodyRun.sl.HD1_w11, bodyRun.sl.HD1_w12, bodyRun.sl.HD1_w13, bodyRun.sl.HD1_w14, bodyRun.sl.HD1_w15, bodyRun.sl.HD1_w16, bodyRun.sl.HD1_w17, bodyRun.sl.HD1_w18, bodyRun.sl.HD2_w19, bodyRun.sl.HD2_w20, bodyRun.sl.HD2_w21, bodyRun.sl.HD2_w22, bodyRun.sl.HD2_w23, bodyRun.sl.HD2_w24, bodyRun.sl.HD2_w25, bodyRun.sl.HD2_w26, bodyRun.sl.HD2_w27, bodyRun.sl.HD3_w28, bodyRun.sl.HD3_w29, bodyRun.sl.HD3_w30, bodyRun.sl.HD3_w31, bodyRun.sl.HD3_w32, bodyRun.sl.HD3_w33, bodyRun.sl.HD3_w34, bodyRun.sl.HD3_w35, bodyRun.sl.HD3_w36, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hO3 : bodyRun.sl.HD3_w36 c arg2 XD g2 D = nestD 3 (bodyRun.sl.r_3 c arg2 g2) (ysub XD) D := by
    dsimp only [bodyRun.sl.HD0_w1, bodyRun.sl.HD0_w2, bodyRun.sl.HD0_w3, bodyRun.sl.HD0_w4, bodyRun.sl.HD0_w5, bodyRun.sl.HD0_w6, bodyRun.sl.HD0_w7, bodyRun.sl.HD0_w8, bodyRun.sl.HD0_w9, bodyRun.sl.HD1_w10, bodyRun.sl.HD1_w11, bodyRun.sl.HD1_w12, bodyRun.sl.HD1_w13, bodyRun.sl.HD1_w14, bodyRun.sl.HD1_w15, bodyRun.sl.HD1_w16, bodyRun.sl.HD1_w17, bodyRun.sl.HD1_w18, bodyRun.sl.HD2_w19, bodyRun.sl.HD2_w20, bodyRun.sl.HD2_w21, bodyRun.sl.HD2_w22, bodyRun.sl.HD2_w23, bodyRun.sl.HD2_w24, bodyRun.sl.HD2_w25, bodyRun.sl.HD2_w26, bodyRun.sl.HD2_w27, bodyRun.sl.HD3_w28, bodyRun.sl.HD3_w29, bodyRun.sl.HD3_w30, bodyRun.sl.HD3_w31, bodyRun.sl.HD3_w32, bodyRun.sl.HD3_w33, bodyRun.sl.HD3_w34, bodyRun.sl.HD3_w35, bodyRun.sl.HD3_w36, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hA1 : (bodyRun.sl.HA_1 (F := F)) = ⟨amR, shapeCast S16x512 zeroA shapeCasts_S16x512_S16x512⟩ :: [] := rfl
  have hA2 : bodyRun.sl.HA_2 c XD = ⟨amR, shapeCast S16x512 (amF (ysub XD) 0 (bodyRun.sl.v162) 9) shapeCasts_S16x512_S16x512⟩ :: bodyRun.sl.HA_1 (F := F) := by
    dsimp only [bodyRun.sl.HA_2, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hA3 : bodyRun.sl.HA_3 c XD = ⟨amR, shapeCast S16x512 (amF (ysub XD) 9 (bodyRun.sl.v613 c XD) 9) shapeCasts_S16x512_S16x512⟩ :: bodyRun.sl.HA_2 c XD := by
    dsimp only [bodyRun.sl.HA_3, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hA4 : bodyRun.sl.HA_4 c XD = ⟨amR, shapeCast S16x512 (amF (ysub XD) 18 (bodyRun.sl.v1064 c XD) 9) shapeCasts_S16x512_S16x512⟩ :: bodyRun.sl.HA_3 c XD := by
    dsimp only [bodyRun.sl.HA_4, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hA5 : bodyRun.sl.HA_5 c XD = ⟨amR, shapeCast S16x512 (amF (ysub XD) 27 (bodyRun.sl.v1515 c XD) 9) shapeCasts_S16x512_S16x512⟩ :: bodyRun.sl.HA_4 c XD := by
    dsimp only [bodyRun.sl.HA_5, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hTop : bodyRun.sl.v1961 c XD = amN (ysub XD) zeroA 36 := amY_of XD hA1 hA2 hA3 hA4 hA5
  have hAz : (k0_pay414 (F := F)) = shapeCast S16x512 zeroA shapeCasts_S16x512_S16x512 := rfl
  ihave HU0' := (flyY_of c XD (bodyRun.sl.r_3 c arg2 g2) 0 (p := bodyRun.sl.dma38_1 c arg2 XD g2 D) hO0 rfl) $$ [HU0]
  · iexact HU0
  ihave HD0' := (of_eq' (dslot_of c fullShare.left 0 (bodyRun.sl.r_3 c arg2 g2) XD D hO0)) $$ [HD0]
  · iexact HD0
  ihave HS0' := (flyW_of c XW 0 0 1 (p := bodyRun.sl.dma38 c XW) rfl) $$ [HS0]
  · iexact HS0
  ihave HU1' := (flyY_of c XD (bodyRun.sl.r_3 c arg2 g2) 1 (p := bodyRun.sl.dma68_1 c arg2 XD g2 D) hO1 rfl) $$ [HU1]
  · iexact HU1
  ihave HD1' := (of_eq' (dslot_of c fullShare.left 1 (bodyRun.sl.r_3 c arg2 g2) XD D hO1)) $$ [HD1]
  · iexact HD1
  ihave HS1' := (flyW_of c XW 0 1 1 (p := bodyRun.sl.dma68 c XW) rfl) $$ [HS1]
  · iexact HS1
  ihave HU2' := (flyY_of c XD (bodyRun.sl.r_3 c arg2 g2) 2 (p := bodyRun.sl.dma98_1 c arg2 XD g2 D) hO2 rfl) $$ [HU2]
  · iexact HU2
  ihave HD2' := (of_eq' (dslot_of c fullShare.left 2 (bodyRun.sl.r_3 c arg2 g2) XD D hO2)) $$ [HD2]
  · iexact HD2
  ihave HS2' := (flyW_of c XW 0 2 1 (p := bodyRun.sl.dma98 c XW) rfl) $$ [HS2]
  · iexact HS2
  ihave HU3' := (flyY_of c XD (bodyRun.sl.r_3 c arg2 g2) 3 (p := bodyRun.sl.dma128_1 c arg2 XD g2 D) hO3 rfl) $$ [HU3]
  · iexact HU3
  ihave HD3' := (of_eq' (dslot_of c fullShare.left 3 (bodyRun.sl.r_3 c arg2 g2) XD D hO3)) $$ [HD3]
  · iexact HD3
  ihave HS3' := (flyW_of c XW 0 3 1 (p := bodyRun.sl.dma128 c XW) rfl) $$ [HS3]
  · iexact HS3
  ihave HA' := (am_zero (F := F) c hAz) $$ [HA]
  · iexact HA
  ihave HI := (inv_zero c (bodyRun.sl.r_7 c arg3 g3) (bodyRun.sl.r_8 c arg2 arg3 g2 g3) XW (YCf (bodyRun.sl.r_3 c arg2 g2) XD) zeroA G x' Ac _) $$ [HD0' HD1' HD2' HD3' HA' HAc HT0 HT1 HT2 HT3 HS0' HS1' HS2' HS3' Hh HO0 HO1 HO2 HO3 HP0 HP1 HP2 HP3 HC HX0 HX1 HXz0 HXz1 Hx HW]
  · isplitl [HD0' HD1' HD2' HD3' HA' HAc]
    · isplitl [HD0']; · iexact HD0'
      isplitl [HD1']; · iexact HD1'
      isplitl [HD2']; · iexact HD2'
      isplitl [HD3']; · iexact HD3'
      isplitl [HA']; · iexact HA'
      iexact HAc
    isplitl [HT0 HT1 HT2 HT3]
    · isplitl [HT0]; · iexists I; iexact HT0
      isplitl [HT1]; · iexists I; iexact HT1
      isplitl [HT2]; · iexists I; iexact HT2
      iexists I; iexact HT3
    isplitl [HS0' HS1' HS2' HS3']
    · isplitl [HS0']; · iexact HS0'
      isplitl [HS1']; · iexact HS1'
      isplitl [HS2']; · iexact HS2'
      iexact HS3'
    isplitl [Hh]; · iexact Hh
    isplitl [HO0 HO1 HO2 HO3 HP0 HP1 HP2 HP3]
    · isplitl [HO0 HP0]
      · iexists O
        isplitl [HO0]; · iexact HO0
        iexact HP0
      isplitl [HO1 HP1]
      · iexists O
        isplitl [HO1]; · iexact HO1
        iexact HP1
      isplitl [HO2 HP2]
      · iexists O
        isplitl [HO2]; · iexact HO2
        iexact HP2
      iexists O
      isplitl [HO3]; · iexact HO3
      iexact HP3
    isplitl [HC]; · iexact HC
    isplitl [HX1 HXz1]
    · iexists X
      isplitl [HX1]; · iexact HX1
      iexact HXz1
    isplitl [HX0 HXz0]
    · iexists X
      isplitl [HX0]; · iexact HX0
      iexact HXz0
    isplitl [Hx]; · iexact Hx
    iexact HW
  let L := loopI c arg2 harg2 arg3 harg3 arg6 harg6 arg8 harg8 arg9 harg9 arg10 harg10 (bodyRun.sl.r_7 c arg3 g3) (bodyRun.sl.r_8 c arg2 arg3 g2 g3) 1#32 XW (YCf (bodyRun.sl.r_3 c arg2 g2) XD) zeroA G x'
  sl_exec
  clear L
  rw [show Scf.trips k0_t1_loop.lb k0_t1_loop.ub k0_t1_loop.st = 28 from trips_eq]
  ihave HE := (inv_end c (bodyRun.sl.r_7 c arg3 g3) (bodyRun.sl.r_8 c arg2 arg3 g2 g3) XW (YCf (bodyRun.sl.r_3 c arg2 g2) XD) zeroA G x') $$ HI
  icases HE with ⟨⟨%Ac', HD0, HD1, HD2, HD3, HA, HAc⟩, HT, HS, Hh, ⟨⟨%O0, HO0⟩, ⟨%O1, HO1⟩, ⟨%O2, HO2⟩, ⟨%O3, HO3⟩⟩, HC, ⟨%X1, HX1⟩, ⟨%X0, HX0⟩, Hx, ⟨%W', HW⟩⟩
  sl_exec
  have y6 : bodyRun.sl.v6 c arg2 g2 = pY0 (cell c arg2 g2) := rfl
  have y11 : bodyRun.sl.v11 c arg2 g2 = pY1 (cell c arg2 g2) := by
    dsimp only [bodyRun.sl.v11, bodyRun.sl.v7]; rw [y6]; rfl
  have y16 : bodyRun.sl.v16 c arg2 g2 = pY2 (cell c arg2 g2) := by
    dsimp only [bodyRun.sl.v16, bodyRun.sl.v12]; rw [y11]; rfl
  have y21 : bodyRun.sl.v21 c arg2 g2 = pY3 (cell c arg2 g2) := by
    dsimp only [bodyRun.sl.v21, bodyRun.sl.v17]; rw [y16]; rfl
  have y26 : bodyRun.sl.v26 c arg2 g2 = pY4 (cell c arg2 g2) := by
    dsimp only [bodyRun.sl.v26, bodyRun.sl.v22]; rw [y21]; rfl
  have y31 : bodyRun.sl.v31 c arg2 g2 = pY5 (cell c arg2 g2) := by
    dsimp only [bodyRun.sl.v31, bodyRun.sl.v27]; rw [y26]; rfl
  have y36 : bodyRun.sl.v36 c arg2 g2 = pY6 (cell c arg2 g2) := by
    dsimp only [bodyRun.sl.v36, bodyRun.sl.v32]; rw [y31]; rfl
  have y41 : bodyRun.sl.v41 c arg2 g2 = pY7 (cell c arg2 g2) := by
    dsimp only [bodyRun.sl.v41, bodyRun.sl.v37]; rw [y36]; rfl
  have y43 : bodyRun.sl.v43 c arg2 g2 = eY (cell c arg2 g2) := by
    dsimp only [bodyRun.sl.v43, bodyRun.sl.v42]; rw [y41]; rfl
  have y61 : bodyRun.sl.v61 c arg3 g3 = pW0 (cell c arg3 g3) := rfl
  have y66 : bodyRun.sl.v66 c arg3 g3 = pW1 (cell c arg3 g3) := by
    dsimp only [bodyRun.sl.v66, bodyRun.sl.v62]; rw [y61]; rfl
  have y71 : bodyRun.sl.v71 c arg3 g3 = pW2 (cell c arg3 g3) := by
    dsimp only [bodyRun.sl.v71, bodyRun.sl.v67]; rw [y66]; rfl
  have y76 : bodyRun.sl.v76 c arg3 g3 = pW3 (cell c arg3 g3) := by
    dsimp only [bodyRun.sl.v76, bodyRun.sl.v72]; rw [y71]; rfl
  have y81 : bodyRun.sl.v81 c arg3 g3 = pW4 (cell c arg3 g3) := by
    dsimp only [bodyRun.sl.v81, bodyRun.sl.v77]; rw [y76]; rfl
  have y86 : bodyRun.sl.v86 c arg3 g3 = pW5 (cell c arg3 g3) := by
    dsimp only [bodyRun.sl.v86, bodyRun.sl.v82]; rw [y81]; rfl
  have e3 : bodyRun.sl.r_3 c arg2 g2 = invY (cell c arg2 g2) := by
    dsimp only [bodyRun.sl.r_3, bodyRun.sl.v44, invY]; rw [y43]
  have e7 : bodyRun.sl.r_7 c arg3 g3 = invW (cell c arg3 g3) := by
    dsimp only [bodyRun.sl.r_7, bodyRun.sl.r_4, invW]; rw [y86]; rfl
  have e8 : bodyRun.sl.r_8 c arg2 arg3 g2 g3 = scaleX (cell c arg2 g2) (cell c arg3 g3) := by
    dsimp only [bodyRun.sl.r_8, bodyRun.sl.r_4, bodyRun.sl.r_2, bodyRun.sl.v44, scaleX, scaleY]; rw [y86, y43]; rfl
  have e6 : (fun _ : S1.Idx => bodyRun.sl.r_2 c arg2 g2) = fun _ => scaleY (cell c arg2 g2) := by
    dsimp only [bodyRun.sl.r_2, bodyRun.sl.v44, scaleY]; rw [y43]
  have e6b : (fun _ : S1.Idx => k0_pay258 (bodyRun.sl.r_4 c arg3 g3) (bodyRun.sl.v86 c arg3 g3) 16777216#32) = fun _ => scaleW (cell c arg3 g3) := by
    dsimp only [bodyRun.sl.r_4, scaleW]; rw [y86]; rfl
  have e9 : (fun _ : S1.Idx => k0_pay413 (bodyRun.sl.v1961 c XD)) = fun _ => top (amN (ysub XD) zeroA 36) := by
    rw [hTop]; rfl
  have e10 : (fun _ : S1.Idx => k0_pay415 (View.readAt (Elt F) amM.view amR.toLoadRect (amW XW zeroA 28))) = fun _ => top (amW XW zeroA 28) := by
    rw [am_read]; rfl
  rw [wp_ret]
  imodintro
  rw [e3, e7, e8]
  isplitl [H2]; · iexact H2
  isplitl [H3]; · iexact H3
  isplitl [H6]
  · iapply (rdback_of c arg6 e6); iexact H6
  isplitl [H8]
  · iapply (rdback_of c arg8 e6b); iexact H8
  isplitl [H9]
  · iapply (rdback_of c arg9 e9); iexact H9
  isplitl [H10]
  · iapply (rdback_of c arg10 e10); iexact H10
  isplitl [HY0 HY1 HY2 HY3]
  · isplitl [HY0]; · iexact HY0
    isplitl [HY1]; · iexact HY1
    isplitl [HY2]; · iexact HY2
    iexact HY3
  isplitl [Hh]; · iexact Hh
  isplitl [HU0'_dst HU1'_dst HU2'_dst HU3'_dst]
  · isplitl [HU0'_dst]; · iexact HU0'_dst
    isplitl [HU1'_dst]; · iexact HU1'_dst
    isplitl [HU2'_dst]; · iexact HU2'_dst
    iexact HU3'_dst
  isplitl [HC HO0_dst HO1_dst HO2_dst HO3_dst]
  · rw [done1, bigSep_ins done1_not]
    isplitl [HO0_dst HO1_dst HO2_dst HO3_dst]
    · isplitl [HO0_dst]; · iexact HO0_dst
      isplitl [HO1_dst]; · iexact HO1_dst
      isplitl [HO2_dst]; · iexact HO2_dst
      iexact HO3_dst
    iexact HC
  isplitl [Hx HX1_dst HX0_dst]
  · rw [done2, bigSep_ins done2_not, bigSep_ins done2_not']
    isplitl [HX0_dst]; · iexact HX0_dst
    isplitl [HX1_dst]; · iexact HX1_dst
    iexact Hx
  isplitl [HD0 HD1 HD2 HD3]
  · isplitl [HD0]; · iexists _; iexact HD0
    isplitl [HD1]; · iexists _; iexact HD1
    isplitl [HD2]; · iexists _; iexact HD2
    iexists _; iexact HD3
  isplitl [HS]; · iexact HS
  isplitl [HT]; · iexact HT
  isplitl [HO0_src HO1_src HO2_src HO3_src]
  · isplitl [HO0_src]; · iexists O0; iexact HO0_src
    isplitl [HO1_src]; · iexists O1; iexact HO1_src
    isplitl [HO2_src]; · iexists O2; iexact HO2_src
    iexists O3; iexact HO3_src
  isplitl [HX0_src]; · iexists X0; iexact HX0_src
  isplitl [HX1_src]; · iexists X1; iexact HX1_src
  isplitl [HA]; · iexists _; iexact HA
  isplitl [HAc]; · iexists Ac'; iexact HAc
  isplitl [HU0' HU1' HU2' HU3']
  · isplitl [HU0']; · iexact HU0'
    isplitl [HU1']; · iexact HU1'
    isplitl [HU2']; · iexact HU2'
    iexact HU3'
  isplitl [HO0 HO1 HO2 HO3]
  · isplitl [HO0]; · iexact HO0
    isplitl [HO1]; · iexact HO1
    isplitl [HO2]; · iexact HO2
    iexact HO3
  isplitl [HX0]; · iexact HX0
  isplitl [HX1]; · iexact HX1
  iexists _; iexact HW

end

end Cert.Proof.K

end
-- ==== Proof.K.Split.lean ====
module

public import proofs.«01_k».proof.Proof.K.Dy

/-! A buffer held whole, and held in the pieces the kernel slices. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section Sets
/-! ## The pieces of a buffer -/

theorem mem_blk (b : Fin 28) (j : Fin 4) (y : S7168x18432.Idx) :
    y ∈ (Rect.unit (s := S7168x18432) (offW b j) S256x4608.size (offW_inb b j)).set ↔ (y 0).val / 256 = b.val ∧ (y 1).val / 4608 = j.val := by
  rw [Rect.mem_set_unit]
  constructor
  · intro H
    have a0 : 256 * b.val ≤ (y 0).val ∧ (y 0).val < 256 * b.val + 256 := H 0
    have a1 : 4608 * j.val ≤ (y 1).val ∧ (y 1).val < 4608 * j.val + 4608 := H 1
    omega
  · rintro ⟨h0, h1⟩ i
    fin_cases i
    · show 256 * b.val ≤ (y 0).val ∧ (y 0).val < 256 * b.val + 256; omega
    · show 4608 * j.val ≤ (y 1).val ∧ (y 1).val < 4608 * j.val + 4608; omega
theorem mem_dblk (j : Fin 4) (y : S256x18432.Idx) :
    y ∈ (Rect.unit (s := S256x18432) (offD j) S256x4608.size (offD_inb j)).set ↔ (y 1).val / 4608 = j.val := by
  rw [Rect.mem_set_unit]
  have h0 : (y 0).val < 256 := (y 0).isLt
  constructor
  · intro H
    have a1 : 4608 * j.val ≤ (y 1).val ∧ (y 1).val < 4608 * j.val + 4608 := H 1
    omega
  · intro h1 i
    fin_cases i
    · show 0 ≤ (y 0).val ∧ (y 0).val < 0 + 256; omega
    · show 4608 * j.val ≤ (y 1).val ∧ (y 1).val < 4608 * j.val + 4608; omega
theorem mem_xblk (b : Fin 28) (y : S256x7168.Idx) :
    y ∈ (Rect.unit (s := S256x7168) (offX b) S256x256.size (offX_inb b)).set ↔ (y 1).val / 256 = b.val := by
  rw [Rect.mem_set_unit]
  have h0 : (y 0).val < 256 := (y 0).isLt
  constructor
  · intro H
    have a1 : 256 * b.val ≤ (y 1).val ∧ (y 1).val < 256 * b.val + 256 := H 1
    omega
  · intro h1 i
    fin_cases i
    · show 0 ≤ (y 0).val ∧ (y 0).val < 0 + 256; omega
    · show 256 * b.val ≤ (y 1).val ∧ (y 1).val < 256 * b.val + 256; omega
theorem mem_slot8 (s : Fin 2) (j : Fin 4) (y : S8x256x4608.Idx) :
    y ∈ (Rect.unit (s := S8x256x4608) (off8 s j) S1x256x4608.size (off8_inb s j)).set ↔ (y 0).val = 4 * s.val + j.val := by
  rw [Rect.mem_set_unit]
  have h1 : (y 1).val < 256 := (y 1).isLt
  have h2 : (y 2).val < 4608 := (y 2).isLt
  constructor
  · intro H; have a0 : 4 * s.val + j.val ≤ (y 0).val ∧ (y 0).val < 4 * s.val + j.val + 1 := H 0; omega
  · intro H i; fin_cases i
    · show 4 * s.val + j.val ≤ (y 0).val ∧ (y 0).val < 4 * s.val + j.val + 1; omega
    · show 0 ≤ (y 1).val ∧ (y 1).val < 0 + 256; omega
    · show 0 ≤ (y 2).val ∧ (y 2).val < 0 + 4608; omega
theorem mem_slot4 (j : Fin 4) (y : S4x256x4608.Idx) :
    y ∈ (Rect.unit (s := S4x256x4608) (off4 j) S1x256x4608.size (off4_inb j)).set ↔ (y 0).val = j.val := by
  rw [Rect.mem_set_unit]
  have h1 : (y 1).val < 256 := (y 1).isLt
  have h2 : (y 2).val < 4608 := (y 2).isLt
  constructor
  · intro H; have a0 : j.val ≤ (y 0).val ∧ (y 0).val < j.val + 1 := H 0; omega
  · intro H i; fin_cases i
    · show j.val ≤ (y 0).val ∧ (y 0).val < j.val + 1; omega
    · show 0 ≤ (y 1).val ∧ (y 1).val < 0 + 256; omega
    · show 0 ≤ (y 2).val ∧ (y 2).val < 0 + 4608; omega
theorem mem_slot2 (j : Fin 2) (y : S2x256x256.Idx) :
    y ∈ (Rect.unit (s := S2x256x256) (off2 j) S1x256x256.size (off2_inb j)).set ↔ (y 0).val = j.val := by
  rw [Rect.mem_set_unit]
  have h1 : (y 1).val < 256 := (y 1).isLt
  have h2 : (y 2).val < 256 := (y 2).isLt
  constructor
  · intro H; have a0 : j.val ≤ (y 0).val ∧ (y 0).val < j.val + 1 := H 0; omega
  · intro H i; fin_cases i
    · show j.val ≤ (y 0).val ∧ (y 0).val < j.val + 1; omega
    · show 0 ≤ (y 1).val ∧ (y 1).val < 0 + 256; omega
    · show 0 ≤ (y 2).val ∧ (y 2).val < 0 + 256; omega

/-- The elements whose key is `b`. -/
abbrev fib {I B : Type} [Fintype I] [DecidableEq B] (key : I → B) (b : B) : Finset I := Finset.univ.filter fun y => key y = b
theorem fib_disj {I B : Type} [Fintype I] [DecidableEq I] [DecidableEq B] (key : I → B) : ∀ b b', b ≠ b' → Disjoint (fib key b) (fib key b') := by
  intro b b' hne; rw [Finset.disjoint_left]; intro y hy hy'
  simp only [fib, Finset.mem_filter, Finset.mem_univ, true_and] at hy hy'
  exact hne (hy.symm.trans hy')
theorem fib_cover {I B : Type} [Fintype I] [DecidableEq I] [Fintype B] [DecidableEq B] (key : I → B) : (Finset.univ : Finset B).biUnion (fib key) = Finset.univ := by
  ext y; simp only [fib, Finset.mem_biUnion, Finset.mem_filter, Finset.mem_univ, true_and, iff_true]; exact ⟨_, rfl⟩

abbrev keyW0 (y : S7168x18432.Idx) : Fin 28 := ⟨(y 0).val / 256, by have h : (y 0).val < 7168 := (y 0).isLt; omega⟩
abbrev keyW1 (y : S7168x18432.Idx) : Fin 4 := ⟨(y 1).val / 4608, by have h : (y 1).val < 18432 := (y 1).isLt; omega⟩
abbrev setW (b : Fin 28) (j : Fin 4) : Finset S7168x18432.Idx := Finset.univ.filter fun y => keyW0 y = b ∧ keyW1 y = j
abbrev keyD (y : S256x18432.Idx) : Fin 4 := ⟨(y 1).val / 4608, by have h : (y 1).val < 18432 := (y 1).isLt; omega⟩
abbrev keyX (y : S256x7168.Idx) : Fin 28 := ⟨(y 1).val / 256, by have h : (y 1).val < 7168 := (y 1).isLt; omega⟩
abbrev key8 (y : S8x256x4608.Idx) : Fin 8 := y 0
abbrev key4 (y : S4x256x4608.Idx) : Fin 4 := y 0
abbrev key2 (y : S2x256x256.Idx) : Fin 2 := y 0

theorem setW_disj (b : Fin 28) : ∀ j j', j ≠ j' → Disjoint (setW b j) (setW b j') := by
  intro j j' hne; rw [Finset.disjoint_left]; intro y hy hy'
  simp only [setW, Finset.mem_filter, Finset.mem_univ, true_and] at hy hy'
  exact hne (hy.2.symm.trans hy'.2)
theorem setW_cover (b : Fin 28) : (Finset.univ : Finset (Fin 4)).biUnion (setW b) = fib keyW0 b := by
  ext y; simp only [fib, setW, Finset.mem_biUnion, Finset.mem_filter, Finset.mem_univ, true_and]
  exact ⟨fun ⟨j, h, _⟩ => h, fun h => ⟨_, h, rfl⟩⟩

theorem wblk_set (b : Fin 28) (j : Fin 4) : (wblk b j).view.set = setW b j := by
  refine (View.set_slice_whole _ _).trans ?_
  ext y; refine (mem_blk b j y).trans ?_
  simp only [setW, Finset.mem_filter, Finset.mem_univ, true_and, Fin.ext_iff]
theorem wcblk_set (b : Fin 28) (j : Fin 4) : (wcblk b j).view.set = setW b j := by
  refine (View.set_slice_whole _ _).trans ?_
  ext y; refine (mem_blk b j y).trans ?_
  simp only [setW, Finset.mem_filter, Finset.mem_univ, true_and, Fin.ext_iff]
theorem dyblk_set (j : Fin 4) : (dyblk j).view.set = fib keyD j := by
  refine (View.set_slice_whole _ _).trans ?_
  ext y; refine (mem_dblk j y).trans ?_
  simp only [fib, Finset.mem_filter, Finset.mem_univ, true_and, Fin.ext_iff]
theorem dycblk_set (j : Fin 4) : (dycblk j).view.set = fib keyD j := by
  refine (View.set_slice_whole _ _).trans ?_
  ext y; refine (mem_dblk j y).trans ?_
  simp only [fib, Finset.mem_filter, Finset.mem_univ, true_and, Fin.ext_iff]
theorem dxblk_set (b : Fin 28) : (dxblk b).view.set = fib keyX b := by
  refine (View.set_slice_whole _ _).trans ?_
  ext y; refine (mem_xblk b y).trans ?_
  simp only [fib, Finset.mem_filter, Finset.mem_univ, true_and, Fin.ext_iff]
theorem rslot_set (s : Fin 2) (j : Fin 4) (b : Fin 8) (hb : b.val = 4 * s.val + j.val) : (rslot s j).view.set = fib key8 b := by
  refine ((View.set_reshape _ _).trans (View.set_slice_whole _ _)).trans ?_
  ext y; refine (mem_slot8 s j y).trans ?_
  simp only [fib, Finset.mem_filter, Finset.mem_univ, true_and, Fin.ext_iff, hb]
theorem dslot_set (j : Fin 4) : (dslot j).view.set = fib key4 j := by
  refine ((View.set_reshape _ _).trans (View.set_slice_whole _ _)).trans ?_
  ext y; refine (mem_slot4 j y).trans ?_
  simp only [fib, Finset.mem_filter, Finset.mem_univ, true_and, Fin.ext_iff]
theorem oslot_set (j : Fin 4) : (oslot j).view.set = fib key4 j := by
  refine ((View.set_reshape _ _).trans (View.set_slice_whole _ _)).trans ?_
  ext y; refine (mem_slot4 j y).trans ?_
  simp only [fib, Finset.mem_filter, Finset.mem_univ, true_and, Fin.ext_iff]
theorem xslot_set (j : Fin 2) : (xslot j).view.set = fib key2 j := by
  refine ((View.set_reshape _ _).trans (View.set_slice_whole _ _)).trans ?_
  ext y; refine (mem_slot2 j y).trans ?_
  simp only [fib, Finset.mem_filter, Finset.mem_univ, true_and, Fin.ext_iff]
end Sets

section Splits
variable (c : Dev nD)

omit [FloatOps F] in
theorem bigSep_f2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_f4 (Φ : Fin 4 → sProp 𝕄) : bigSep Finset.univ Φ = four Φ :=
  bigSep_univ_eq_bigSepL [(0 : Fin 4), (1 : Fin 4), (2 : Fin 4), (3 : Fin 4)] (by decide) (by decide) Φ
omit [FloatOps F] in
theorem bigSep_f8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ

/-- A buffer of device `c` held whole. -/
abbrev all (b : Ref sig .tc) (f : Buf (Elt F) ((c : Thread nD τ).loc b)) : sProp 𝕄 := ((c : Thread nD τ).loc b) ↦{fullShare} f

omit [FloatOps F] in
theorem dy_eq (f : BufOf (F := F) c dyM) : all c main_v0 f = four (fun j => held c (dyblk j) f) := by
  rw [all, Ring.pointsTo_blocks (ℓ := (c : Thread nD τ).loc main_v0) (fib keyD) (fib_disj keyD) (fib_cover keyD), ← bigSep_f4]
  exact bigSep_congr fun j _ => by rw [← dyblk_set]; rfl
omit [FloatOps F] in
theorem dyc_eq (f : BufOf (F := F) c dycM) : all c main_v1_1 f = four (fun j => held c (dycblk j) f) := by
  rw [all, Ring.pointsTo_blocks (ℓ := (c : Thread nD τ).loc main_v1_1) (fib keyD) (fib_disj keyD) (fib_cover keyD), ← bigSep_f4]
  exact bigSep_congr fun j _ => by rw [← dycblk_set]; rfl
omit [FloatOps F] in
theorem dx_eq (f : BufOf (F := F) c dxM) : all c main_v1_0 f = bigSep Finset.univ (fun b => held c (dxblk b) f) := by
  rw [all, Ring.pointsTo_blocks (ℓ := (c : Thread nD τ).loc main_v1_0) (fib keyX) (fib_disj keyX) (fib_cover keyX)]
  exact bigSep_congr fun j _ => by rw [← dxblk_set]; rfl
omit [FloatOps F] in
theorem w_eq (f : BufOf (F := F) c wM) : all c main_arg1 f = bigSep Finset.univ (fun b => four (fun j => homeW c f b j)) := by
  rw [all, Ring.pointsTo_blocks (ℓ := (c : Thread nD τ).loc main_arg1) (fib keyW0) (fib_disj keyW0) (fib_cover keyW0)]
  refine bigSep_congr fun b _ => ?_
  rw [Ring.pointsTo_sub_blocks (ℓ := (c : Thread nD τ).loc main_arg1) (setW b) (setW_disj b) (fib keyW0 b) (setW_cover b), ← bigSep_f4]
  exact bigSep_congr fun j _ => by rw [← wblk_set]; rfl
omit [FloatOps F] in
theorem wc_eq (f : BufOf (F := F) c wcM) : all c main_v1_3 f = bigSep Finset.univ (fun b => four (fun j => held c (wcblk b j) f)) := by
  rw [all, Ring.pointsTo_blocks (ℓ := (c : Thread nD τ).loc main_v1_3) (fib keyW0) (fib_disj keyW0) (fib_cover keyW0)]
  refine bigSep_congr fun b _ => ?_
  rw [Ring.pointsTo_sub_blocks (ℓ := (c : Thread nD τ).loc main_v1_3) (setW b) (setW_disj b) (fib keyW0 b) (setW_cover b), ← bigSep_f4]
  exact bigSep_congr fun j _ => by rw [← wcblk_set]; rfl
omit [FloatOps F] in
theorem rslotP (s : Fin 2) (j : Fin 4) (b : Fin 8) (hb : b.val = 4 * s.val + j.val) (f : BufOf (F := F) c inM) :
    held c (rslot s j) f = (((c : Thread nD τ).loc cc0_scratch0) ↦[fib key8 b]{fullShare} f : sProp 𝕄) :=
  congrArg (fun S => (_ ↦[S]{fullShare} f : sProp 𝕄)) (rslot_set s j b hb)
omit [FloatOps F] in
theorem dslotP (j : Fin 4) (f : BufOf (F := F) c dybM) :
    held c (dslot j) f = (((c : Thread nD τ).loc cc0_scratch1) ↦[fib key4 j]{fullShare} f : sProp 𝕄) :=
  congrArg (fun S => (_ ↦[S]{fullShare} f : sProp 𝕄)) (dslot_set j)
omit [FloatOps F] in
theorem oslotP (j : Fin 4) (f : BufOf (F := F) c outM) :
    held c (oslot j) f = (((c : Thread nD τ).loc cc0_scratch2) ↦[fib key4 j]{fullShare} f : sProp 𝕄) :=
  congrArg (fun S => (_ ↦[S]{fullShare} f : sProp 𝕄)) (oslot_set j)
omit [FloatOps F] in
theorem xslotP (j : Fin 2) (f : BufOf (F := F) c xbM) :
    held c (xslot j) f = (((c : Thread nD τ).loc cc0_scratch4) ↦[fib key2 j]{fullShare} f : sProp 𝕄) :=
  congrArg (fun S => (_ ↦[S]{fullShare} f : sProp 𝕄)) (xslot_set j)
theorem in_split (f : BufOf (F := F) c inM) : all c cc0_scratch0 f ⊢ iprop(held c (rslot 0 0) f ∗ held c (rslot 0 1) f ∗ held c (rslot 0 2) f ∗ held c (rslot 0 3) f ∗ held c (rslot 1 0) f ∗ held c (rslot 1 1) f ∗ held c (rslot 1 2) f ∗ held c (rslot 1 3) f) := by
  iintro H
  ihave H2 := (of_eq' ((Ring.pointsTo_blocks (Ix := Unit) (Name := ℕ) (U := UU nD τ) (Lvl := ℕ) (q := fullShare) (ℓ := (c : Thread nD τ).loc cc0_scratch0) (fib key8) (fib_disj key8) (fib_cover key8) f).trans (bigSep_f8 _))) $$ H
  icases H2 with ⟨H0, H1, H2, H3, H4, H5, H6, H7⟩
  isplitl [H0]
  · iapply (of_eq' (rslotP c 0 0 0 rfl f).symm); iexact H0
  isplitl [H1]
  · iapply (of_eq' (rslotP c 0 1 1 rfl f).symm); iexact H1
  isplitl [H2]
  · iapply (of_eq' (rslotP c 0 2 2 rfl f).symm); iexact H2
  isplitl [H3]
  · iapply (of_eq' (rslotP c 0 3 3 rfl f).symm); iexact H3
  isplitl [H4]
  · iapply (of_eq' (rslotP c 1 0 4 rfl f).symm); iexact H4
  isplitl [H5]
  · iapply (of_eq' (rslotP c 1 1 5 rfl f).symm); iexact H5
  isplitl [H6]
  · iapply (of_eq' (rslotP c 1 2 6 rfl f).symm); iexact H6
  iapply (of_eq' (rslotP c 1 3 7 rfl f).symm); iexact H7
omit [FloatOps F] in
theorem dyb_eq (f : BufOf (F := F) c dybM) : all c cc0_scratch1 f = four (fun j => held c (dslot j) f) := by
  rw [all, Ring.pointsTo_blocks (ℓ := (c : Thread nD τ).loc cc0_scratch1) (fib key4) (fib_disj key4) (fib_cover key4), ← bigSep_f4]
  exact bigSep_congr fun j _ => by rw [← dslot_set]; rfl
omit [FloatOps F] in
theorem out_eq (f : BufOf (F := F) c outM) : all c cc0_scratch2 f = four (fun j => held c (oslot j) f) := by
  rw [all, Ring.pointsTo_blocks (ℓ := (c : Thread nD τ).loc cc0_scratch2) (fib key4) (fib_disj key4) (fib_cover key4), ← bigSep_f4]
  exact bigSep_congr fun j _ => by rw [← oslot_set]; rfl
theorem xb_split (f : BufOf (F := F) c xbM) : all c cc0_scratch4 f ⊢ iprop(held c (xslot 0) f ∗ held c (xslot 1) f) := by
  iintro H
  ihave H2 := (of_eq' ((Ring.pointsTo_blocks (Ix := Unit) (Name := ℕ) (U := UU nD τ) (Lvl := ℕ) (q := fullShare) (ℓ := (c : Thread nD τ).loc cc0_scratch4) (fib key2) (fib_disj key2) (fib_cover key2) f).trans (bigSep_f2 _))) $$ H
  icases H2 with ⟨H0, H1⟩
  isplitl [H0]
  · iapply (of_eq' (xslotP c 0 f).symm); iexact H0
  iapply (of_eq' (xslotP c 1 f).symm); iexact H1
omit [FloatOps F] in
theorem acc_eq (f : BufOf (F := F) c accM) : all c cc0_scratch3 f = held c accM f := by
  unfold all held; rw [show accM.view.set = Finset.univ from View.set_whole _]
omit [FloatOps F] in
theorem am_eq (f : BufOf (F := F) c amM) : all c cc0_scratch5 f = held c amM f := by
  unfold all held; rw [show amM.view.set = Finset.univ from View.set_whole _]

theorem in_join : iprop((∃ f, held c (rslot 0 0) f) ∗ (∃ f, held c (rslot 0 1) f) ∗ (∃ f, held c (rslot 0 2) f) ∗ (∃ f, held c (rslot 0 3) f) ∗ (∃ f, held c (rslot 1 0) f) ∗ (∃ f, held c (rslot 1 1) f) ∗ (∃ f, held c (rslot 1 2) f) ∗ (∃ f, held c (rslot 1 3) f)) ⊢ (iprop(∃ f, all c cc0_scratch0 f) : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iapply (Ring.pointsTo_blocks_join_exists (ℓ := (c : Thread nD τ).loc cc0_scratch0) (fib key8) (fib_disj key8) (fib_cover key8) f0)
  irw [bigSep_f8]
  isplitl [H0]
  · iexists f0; iapply (of_eq' (rslotP c 0 0 0 rfl f0)); iexact H0
  isplitl [H1]
  · iexists f1; iapply (of_eq' (rslotP c 0 1 1 rfl f1)); iexact H1
  isplitl [H2]
  · iexists f2; iapply (of_eq' (rslotP c 0 2 2 rfl f2)); iexact H2
  isplitl [H3]
  · iexists f3; iapply (of_eq' (rslotP c 0 3 3 rfl f3)); iexact H3
  isplitl [H4]
  · iexists f4; iapply (of_eq' (rslotP c 1 0 4 rfl f4)); iexact H4
  isplitl [H5]
  · iexists f5; iapply (of_eq' (rslotP c 1 1 5 rfl f5)); iexact H5
  isplitl [H6]
  · iexists f6; iapply (of_eq' (rslotP c 1 2 6 rfl f6)); iexact H6
  iexists f7; iapply (of_eq' (rslotP c 1 3 7 rfl f7)); iexact H7
theorem dyb_join : four (fun j => iprop(∃ f, held c (dslot j) f)) ⊢ (iprop(∃ f, all c cc0_scratch1 f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) (fib key4) (fib_disj key4) (fib_cover key4) f0)
  irw [bigSep_f4]
  isplitl [H0]
  · iexists f0; iapply (of_eq' (dslotP c 0 f0)); iexact H0
  isplitl [H1]
  · iexists f1; iapply (of_eq' (dslotP c 1 f1)); iexact H1
  isplitl [H2]
  · iexists f2; iapply (of_eq' (dslotP c 2 f2)); iexact H2
  iexists f3; iapply (of_eq' (dslotP c 3 f3)); iexact H3
theorem out_join : four (fun j => iprop(∃ f, held c (oslot j) f)) ⊢ (iprop(∃ f, all c cc0_scratch2 f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch2) (fib key4) (fib_disj key4) (fib_cover key4) f0)
  irw [bigSep_f4]
  isplitl [H0]
  · iexists f0; iapply (of_eq' (oslotP c 0 f0)); iexact H0
  isplitl [H1]
  · iexists f1; iapply (of_eq' (oslotP c 1 f1)); iexact H1
  isplitl [H2]
  · iexists f2; iapply (of_eq' (oslotP c 2 f2)); iexact H2
  iexists f3; iapply (of_eq' (oslotP c 3 f3)); iexact H3
theorem xb_join : iprop((∃ f, held c (xslot 0) f) ∗ (∃ f, held c (xslot 1) f)) ⊢ (iprop(∃ f, all c cc0_scratch4 f) : sProp 𝕄) := by
  iintro ⟨⟨%f0, H0⟩, ⟨%f1, H1⟩⟩
  iapply (Ring.pointsTo_blocks_join_exists (ℓ := (c : Thread nD τ).loc cc0_scratch4) (fib key2) (fib_disj key2) (fib_cover key2) f0)
  irw [bigSep_f2]
  isplitl [H0]
  · iexists f0; iapply (of_eq' (xslotP c 0 f0)); iexact H0
  iexists f1; iapply (of_eq' (xslotP c 1 f1)); iexact H1

/-- The kernel's own semaphores, in the order of their numbers. -/
abbrev ksem : Fin 18 → SemLoc sig := ![.dma (isem 0 0).sem, .dma (isem 0 1).sem, .dma (isem 0 2).sem, .dma (isem 0 3).sem, .dma (isem 1 0).sem, .dma (isem 1 1).sem, .dma (isem 1 2).sem, .dma (isem 1 3).sem,
  .dma (dsem 0).sem, .dma (dsem 1).sem, .dma (dsem 2).sem, .dma (dsem 3).sem, .dma (osem 0).sem, .dma (osem 1).sem, .dma (osem 2).sem, .dma (osem 3).sem, .dma (xsem 0).sem, .dma (xsem 1).sem]
theorem ownSemFacts : Pipeline.OwnSemFacts spec0 ksem := by decide

omit [FloatOps F] in
theorem ownSems0_eq : (Pipeline.ownSems0 (Ix := Unit) (Name := ℕ) (U := UU nD τ) (Lvl := ℕ) (Val := Elt F) (τ := τ) ksem c : sProp 𝕄)
    = iprop(zero c (isem 0 0) ∗ zero c (isem 0 1) ∗ zero c (isem 0 2) ∗ zero c (isem 0 3) ∗ zero c (isem 1 0) ∗ zero c (isem 1 1) ∗ zero c (isem 1 2) ∗ zero c (isem 1 3)
      ∗ zero c (dsem 0) ∗ zero c (dsem 1) ∗ zero c (dsem 2) ∗ zero c (dsem 3) ∗ zero c (osem 0) ∗ zero c (osem 1) ∗ zero c (osem 2) ∗ zero c (osem 3) ∗ zero c (xsem 0) ∗ zero c (xsem 1)) := by
  unfold Pipeline.ownSems0
  rw [bigSep_univ_eq_bigSepL [(0 : Fin 18), 1, 2, 3, 4, 5, 6, 7, 8, 9, 10, 11, 12, 13, 14, 15, 16, 17] (by decide) (by decide)]
  rfl

theorem univ_home : (Finset.univ : Finset (Fin 28)) = insert 0 (insert 1 (homeS 0)) := by decide
theorem home0 : (0 : Fin 28) ∉ insert 1 (homeS 0) := by decide
theorem home1 : (1 : Fin 28) ∉ homeS 0 := by decide
theorem fresh_univ : freshS 0 = Finset.univ := by decide
end Splits

end Cert.Proof.K

end
-- ==== Proof.K.Whole.lean ====
module

public import proofs.«01_k».proof.Proof.K.Body
public import proofs.«01_k».proof.Proof.K.Split

/-! The kernel on whole buffers. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

open Idealize.ShloMosaic.Pipeline (Dat Cfg Window BodyObligation cellOf)

section Whole
variable (c : Dev nD)

/-- The kernel's buffers of its own, at anything. -/
abbrev scr : sProp 𝕄 := iprop((∃ f, all c cc0_scratch0 f) ∗ (∃ f, all c cc0_scratch1 f) ∗ (∃ f, all c cc0_scratch2 f) ∗ (∃ f, all c cc0_scratch3 f) ∗ (∃ f, all c cc0_scratch4 f) ∗ (∃ f, all c cc0_scratch5 f))
/-- Its own semaphores, at zero. -/
abbrev sems : sProp 𝕄 := Pipeline.ownSems0 (Ix := Unit) (Name := ℕ) (U := UU nD τ) (Lvl := ℕ) (Val := Elt F) (τ := τ) ksem c
/-- The arrays the pipeline does not stage. -/
abbrev arrs (XD : BufOf (F := F) c dyM) (XW : BufOf (F := F) c wM) (x : BufOf (F := F) c dxM) (y : BufOf (F := F) c dycM) (w : BufOf (F := F) c wcM) : sProp 𝕄 :=
  iprop(all c main_v0 XD ∗ all c main_arg1 XW ∗ all c main_v1_0 x ∗ all c main_v1_1 y ∗ all c main_v1_3 w)

variable
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)

set_option maxHeartbeats 4000000 in
theorem pre_of (XD : BufOf (F := F) c dyM) (XW : BufOf (F := F) c wM)
    (g2 : BufOf (F := F) c arg2) (g3 : BufOf (F := F) c arg3) (g6 : BufOf (F := F) c arg6) (g8 : BufOf (F := F) c arg8) (g9 : BufOf (F := F) c arg9) (g10 : BufOf (F := F) c arg10)
    (x : BufOf (F := F) c dxM) (y : BufOf (F := F) c dycM) (w : BufOf (F := F) c wcM) (W : Waits sig Unit)
    (f0 : BufOf (F := F) c inM) (f1 : BufOf (F := F) c dybM) (f2 : BufOf (F := F) c outM) (f3 : BufOf (F := F) c accM) (f4 : BufOf (F := F) c xbM) (f5 : BufOf (F := F) c amM) :
    iprop(held c arg2 g2 ∗ held c arg3 g3 ∗ held c arg6 g6 ∗ held c arg8 g8 ∗ held c arg9 g9 ∗ held c arg10 g10 ∗ arrs c XD XW x y w
      ∗ (all c cc0_scratch0 f0 ∗ all c cc0_scratch1 f1 ∗ all c cc0_scratch2 f2 ∗ all c cc0_scratch3 f3 ∗ all c cc0_scratch4 f4 ∗ all c cc0_scratch5 f5)
      ∗ sems c ∗ owes (c : Thread nD τ) 0 W)
    ⊢ bodyPre c arg2 arg3 arg6 arg8 arg9 arg10 XD XW g2 g3 g6 g8 g9 g10 y f1 f0 f5 W f2 f4 f3 w x := by
  rw [sems, ownSems0_eq, arrs, dy_eq, w_eq, dx_eq, dyc_eq, wc_eq, dyb_eq, out_eq, acc_eq, am_eq, univ_home, bigSep_ins home0, bigSep_ins home1, ← univ_home]
  iintro ⟨H2, H3, H6, H8, H9, H10, ⟨HD, ⟨HW0, HW1, HW⟩, HX, HY, HC⟩, ⟨S0, S1, S2, S3, S4, S5⟩, ⟨I0, I1, I2, I3, J0, J1, J2, J3, D0, D1, D2, D3, O0, O1, O2, O3, X0, X1⟩, Ho⟩
  ihave S0' := (in_split c f0) $$ S0
  icases S0' with ⟨A0, A1, A2, A3, B0, B1, B2, B3⟩
  ihave S4' := (xb_split c f4) $$ S4
  icases S4' with ⟨E0, E1⟩
  rw [bodyPre, fresh_univ]
  isplitl [H2]; · iexact H2
  isplitl [H3]; · iexact H3
  isplitl [H6]; · iexact H6
  isplitl [H8]; · iexact H8
  isplitl [H9]; · iexact H9
  isplitl [H10]; · iexact H10
  isplitl [HD]; · iexact HD
  isplitl [HW0]; · iexact HW0
  isplitl [HW1]; · iexact HW1
  isplitl [HY]; · iexact HY
  isplitl [S1]; · iexact S1
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [I0 I1 I2 I3]
  · isplitl [I0]; · iexact I0
    isplitl [I1]; · iexact I1
    isplitl [I2]; · iexact I2
    iexact I3
  isplitl [J0 J1 J2 J3]
  · isplitl [J0]; · iexact J0
    isplitl [J1]; · iexact J1
    isplitl [J2]; · iexact J2
    iexact J3
  isplitl [D0 D1 D2 D3]
  · isplitl [D0]; · iexact D0
    isplitl [D1]; · iexact D1
    isplitl [D2]; · iexact D2
    iexact D3
  isplitl [S5]; · iexact S5
  isplitl [Ho]; · iexact Ho
  isplitl [S2]; · iexact S2
  isplitl [O0 O1 O2 O3]
  · isplitl [O0]; · iexact O0
    isplitl [O1]; · iexact O1
    isplitl [O2]; · iexact O2
    iexact O3
  isplitl [E0]; · iexact E0
  isplitl [E1]; · iexact E1
  isplitl [X0]; · iexact X0
  isplitl [X1]; · iexact X1
  isplitl [S3]; · iexact S3
  isplitl [HW]; · iexact HW
  isplitl [HC]; · iexact HC
  iexact HX

/-- What the kernel leaves, its buffers whole again. -/
abbrev postWhole (XD : BufOf (F := F) c dyM) (XW : BufOf (F := F) c wM)
    (g2 : BufOf (F := F) c arg2) (g3 : BufOf (F := F) c arg3) : sProp 𝕄 :=
  iprop(held c arg2 g2 ∗ held c arg3 g3
      ∗ rdback c arg6 (fun _ => scaleY (cell c arg2 g2)) ∗ rdback c arg8 (fun _ => scaleW (cell c arg3 g3))
      ∗ rdback c arg9 (fun _ => top (amN (ysub XD) zeroA 36)) ∗ rdback c arg10 (fun _ => top (amW XW zeroA 28))
      ∗ arrs c XD XW (DXf (invW (cell c arg3 g3)) (scaleX (cell c arg2 g2) (cell c arg3 g3)) (YCf (invY (cell c arg2 g2)) XD) XW) (YCf (invY (cell c arg2 g2)) XD) (WCf (invW (cell c arg3 g3)) XW)
      ∗ scr c ∗ sems c ∗ iprop(∃ W, owes (c : Thread nD τ) 0 W))

set_option maxHeartbeats 4000000 in
theorem of_post (XD : BufOf (F := F) c dyM) (XW : BufOf (F := F) c wM) (g2 : BufOf (F := F) c arg2) (g3 : BufOf (F := F) c arg3) :
    bodyPost c arg2 arg3 arg6 arg8 arg9 arg10 XD XW g2 g3 ⊢ postWhole c arg2 arg3 arg6 arg8 arg9 arg10 XD XW g2 g3 := by
  rw [postWhole, sems, ownSems0_eq, arrs, dy_eq, w_eq, dx_eq, dyc_eq, wc_eq]
  iintro ⟨H2, H3, H6, H8, H9, H10, HD, HW, HY, HC, HX, S1, ⟨⟨%a0, A0, I0⟩, ⟨%a1, A1, I1⟩, ⟨%a2, A2, I2⟩, ⟨%a3, A3, I3⟩⟩, ⟨⟨%b0, B0, J0⟩, ⟨%b1, B1, J1⟩, ⟨%b2, B2, J2⟩, ⟨%b3, B3, J3⟩⟩, S2, E0, E1, ⟨%f5, S5⟩, ⟨%f3, S3⟩, ⟨D0, D1, D2, D3⟩, ⟨O0, O1, O2, O3⟩, X0, X1, Ho⟩
  ihave S1' := (dyb_join c) $$ S1
  ihave S2' := (out_join c) $$ S2
  ihave S4' := (xb_join c) $$ [E0 E1]
  · isplitl [E0]; · iexact E0
    iexact E1
  ihave S0' := (in_join c) $$ [A0 A1 A2 A3 B0 B1 B2 B3]
  · isplitl [A0]; · iexists a0; iexact A0
    isplitl [A1]; · iexists a1; iexact A1
    isplitl [A2]; · iexists a2; iexact A2
    isplitl [A3]; · iexists a3; iexact A3
    isplitl [B0]; · iexists b0; iexact B0
    isplitl [B1]; · iexists b1; iexact B1
    isplitl [B2]; · iexists b2; iexact B2
    iexists b3; iexact B3
  ihave S5' := (of_eq' (am_eq c f5).symm) $$ S5
  ihave S3' := (of_eq' (acc_eq c f3).symm) $$ S3
  isplitl [H2]; · iexact H2
  isplitl [H3]; · iexact H3
  isplitl [H6]; · iexact H6
  isplitl [H8]; · iexact H8
  isplitl [H9]; · iexact H9
  isplitl [H10]; · iexact H10
  isplitl [HD HW HX HY HC]
  · isplitl [HD]; · iexact HD
    isplitl [HW]; · iexact HW
    isplitl [HX]; · iexact HX
    isplitl [HY]; · iexact HY
    iexact HC
  isplitl [S0' S1' S2' S3' S4' S5']
  · isplitl [S0']; · iexact S0'
    isplitl [S1']; · iexact S1'
    isplitl [S2']; · iexact S2'
    isplitl [S3']; · iexists f3; iexact S3'
    isplitl [S4']; · iexact S4'
    iexists f5; iexact S5'
  isplitr [Ho]
  · isplitl [I0]; · iexact I0
    isplitl [I1]; · iexact I1
    isplitl [I2]; · iexact I2
    isplitl [I3]; · iexact I3
    isplitl [J0]; · iexact J0
    isplitl [J1]; · iexact J1
    isplitl [J2]; · iexact J2
    isplitl [J3]; · iexact J3
    isplitl [D0]; · iexact D0
    isplitl [D1]; · iexact D1
    isplitl [D2]; · iexact D2
    isplitl [D3]; · iexact D3
    isplitl [O0]; · iexact O0
    isplitl [O1]; · iexact O1
    isplitl [O2]; · iexact O2
    isplitl [O3]; · iexact O3
    isplitl [X0]; · iexact X0
    iexact X1
  iexact Ho

set_option maxHeartbeats 4000000 in
/-- The kernel on whole buffers. -/
theorem bodyWhole (XD : BufOf (F := F) c dyM) (XW : BufOf (F := F) c wM)
    (g2 : BufOf (F := F) c arg2) (g3 : BufOf (F := F) c arg3) (g6 : BufOf (F := F) c arg6) (g8 : BufOf (F := F) c arg8) (g9 : BufOf (F := F) c arg9) (g10 : BufOf (F := F) c arg10)
    (x : BufOf (F := F) c dxM) (y : BufOf (F := F) c dycM) (w : BufOf (F := F) c wcM) (W : Waits sig Unit) (Q : PUnit → sProp 𝕄) :
    iprop((held c arg2 g2 ∗ held c arg3 g3 ∗ held c arg6 g6 ∗ held c arg8 g8 ∗ held c arg9 g9 ∗ held c arg10 g10 ∗ arrs c XD XW x y w ∗ scr c ∗ sems c ∗ owes (c : Thread nD τ) 0 W)
      ∗ (postWhole c arg2 arg3 arg6 arg8 arg9 arg10 XD XW g2 g3 -∗ Q ⟨⟩))
    ⊢ wp frame (wpE (defs₀ (F := F)) 𝒱₀ (c : Thread nD τ) none) Set.univ (bodyG arg2 harg2 arg3 harg3 arg6 harg6 arg8 harg8 arg9 harg9 arg10 harg10) Q := by
  iintro ⟨⟨H2, H3, H6, H8, H9, H10, HA, ⟨⟨%f0, S0⟩, ⟨%f1, S1⟩, ⟨%f2, S2⟩, ⟨%f3, S3⟩, ⟨%f4, S4⟩, ⟨%f5, S5⟩⟩, HS, Ho⟩, Hk⟩
  iapply (wp_wand_r Idealize.ShloMosaic.frame (wpE (defs₀ (F := F)) 𝒱₀ (c : Thread nD τ) none) Set.univ (Q := fun _ => bodyPost c arg2 arg3 arg6 arg8 arg9 arg10 XD XW g2 g3))
  isplitr [Hk]
  · iapply (bodyRun c arg2 harg2 arg3 harg3 arg6 harg6 arg8 harg8 arg9 harg9 arg10 harg10 XD XW g2 g3 g6 g8 g9 g10 y f1 f0 f5 W f2 f4 f3 w x)
    iapply (pre_of c arg2 arg3 arg6 arg8 arg9 arg10 XD XW g2 g3 g6 g8 g9 g10 x y w W f0 f1 f2 f3 f4 f5)
    isplitl [H2]; · iexact H2
    isplitl [H3]; · iexact H3
    isplitl [H6]; · iexact H6
    isplitl [H8]; · iexact H8
    isplitl [H9]; · iexact H9
    isplitl [H10]; · iexact H10
    isplitl [HA]; · iexact HA
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [HS]; · iexact HS
    iexact Ho
  · iintro %u HP
    iapply Hk
    iapply (of_post c arg2 arg3 arg6 arg8 arg9 arg10 XD XW g2 g3)
    iexact HP
end Whole

end Cert.Proof.K

end
-- ==== Proof.K.Launch.lean ====
module

public import proofs.«01_k».proof.Proof.K.Whole
public import proofs.«01_k».proof.Proof.Gen.Kernel.Frame

/-! The launch: from the kernel on its buffers to the program. -/

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

open Idealize.ShloMosaic.Pipeline (Dat Cfg Window BodyObligation cellOf)

section Launch
variable (m : (ℓ : Loc nD τ sig) → Buf (Elt F) ℓ) (ρ : Dev nD → PrngReg)

abbrev VV (c : Dev nD) (b : Ref sig .tc) : Buf (Elt F) ((c : Thread nD τ).loc b) := StableHlo.after hostOps0 (fun b => m (c, b)) b
abbrev XD (c : Dev nD) : BufOf (F := F) c dyM := VV m c main_v0
abbrev XW (c : Dev nD) : BufOf (F := F) c wM := VV m c main_arg1

/-- Window `w`'s block at point `t`, read off its array at launch. -/
def iblkK (c : Dev nD) (w : Fin cfg0.W) (t : Fin cfg0.N) : ((cfg0.win w).xblock (cfg0.grid.coords t)).Idx → Elt F (cfg0.win w).elt :=
  ((cfg0.win w).blk t).view.read (Elt F) (VV m c (Pipeline.arrRef spec0 w))
/-- The two largest magnitudes the scales are taken from. -/
def a2 (c : Dev nD) (t : Fin cfg0.N) : F .f32 := cell c (st0_0 t) ((st0_0 t).view.rep (iblkK m c 0 t))
def a3 (c : Dev nD) (t : Fin cfg0.N) : F .f32 := cell c (st0_1 t) ((st0_1 t).view.rep (iblkK m c 1 t))

/-- The three large results. -/
def resY (c : Dev nD) : BufOf (F := F) c dycM := YCf (invY (a2 m c t0_0)) (XD m c)
def resW (c : Dev nD) : BufOf (F := F) c wcM := WCf (invW (a3 m c t0_0)) (XW m c)
def resX (c : Dev nD) : BufOf (F := F) c dxM := DXf (invW (a3 m c t0_0)) (scaleX (a2 m c t0_0) (a3 m c t0_0)) (resY m c) (XW m c)

def Φ0 (c : Dev nD) : sProp 𝕄 :=
  iprop(arrs c (XD m c) (XW m c) (VV m c main_v1_0) (VV m c main_v1_1) (VV m c main_v1_3) ∗ scr c ∗ sems c)
def Φ1 (c : Dev nD) : sProp 𝕄 :=
  iprop(arrs c (XD m c) (XW m c) (resX m c) (resY m c) (resW m c) ∗ scr c ∗ sems c)

def dats (_ : Fin 1) (c : Dev nD) : Dat τ (Elt F) Unit ℕ (UU nD τ) ℕ cfg0 c where
  A w := VV m c (Pipeline.arrRef spec0 w)
  after w t := match w with
    | ⟨0, _⟩ => iblkK m c 0 t
    | ⟨1, _⟩ => iblkK m c 1 t
    | ⟨2, _⟩ => fun _ => scaleY (a2 m c t)
    | ⟨3, _⟩ => fun _ => scaleW (a3 m c t)
    | ⟨4, _⟩ => fun _ => top (amN (ysub (XD m c)) zeroA 36)
    | ⟨5, _⟩ => fun _ => top (amW (XW m c) zeroA 28)
  Φ t := if t.val = 0 then Φ0 m c else Φ1 m c
  q _ := fullShare
  owed _ := 0

theorem before_w0 (c : Dev nD) (t : Fin cfg0.N) (d) : (dats m 0 c).before 0 t d = iblkK m c 0 t := by
  unfold Dat.before; rw [if_pos (fetch0_0 t)]; unfold Dat.fetched Dat.blockOf iblkK; dsimp only [dats]; rfl
theorem before_w1 (c : Dev nD) (t : Fin cfg0.N) (d) : (dats m 0 c).before 1 t d = iblkK m c 1 t := by
  unfold Dat.before; rw [if_pos (fetch0_1 t)]; unfold Dat.fetched Dat.blockOf iblkK; dsimp only [dats]; rfl
theorem after_w0 (c : Dev nD) (t : Fin cfg0.N) : (dats m 0 c).after 0 t = iblkK m c 0 t := by dsimp only [dats]
theorem after_w1 (c : Dev nD) (t : Fin cfg0.N) : (dats m 0 c).after 1 t = iblkK m c 1 t := by dsimp only [dats]
theorem after_w2 (c : Dev nD) (t : Fin cfg0.N) : (dats m 0 c).after 2 t = fun _ => scaleY (a2 m c t) := by dsimp only [dats]
theorem after_w3 (c : Dev nD) (t : Fin cfg0.N) : (dats m 0 c).after 3 t = fun _ => scaleW (a3 m c t) := by dsimp only [dats]
theorem after_w4 (c : Dev nD) (t : Fin cfg0.N) : (dats m 0 c).after 4 t = fun _ => top (amN (ysub (XD m c)) zeroA 36) := by dsimp only [dats]
theorem after_w5 (c : Dev nD) (t : Fin cfg0.N) : (dats m 0 c).after 5 t = fun _ => top (amW (XW m c) zeroA 28) := by dsimp only [dats]
theorem Φ_cast (c : Dev nD) (t : Fin cfg0.N) : (dats m 0 c).Φ t.castSucc = Φ0 m c := by
  have h : t.castSucc.val = 0 := by rw [fin_N0 t]; rfl
  dsimp only [dats]; exact if_pos h
theorem Φ_succ (c : Dev nD) (t : Fin cfg0.N) : (dats m 0 c).Φ t.succ = Φ1 m c := by
  have h : t.succ.val ≠ 0 := by rw [Fin.val_succ]; exact Nat.succ_ne_zero _
  dsimp only [dats]; exact if_neg h
theorem Φ_zero (c : Dev nD) : (dats m 0 c).Φ 0 = Φ0 m c := by
  dsimp only [dats]; exact if_pos rfl
theorem Φ_last (c : Dev nD) : (dats m 0 c).Φ (Fin.last cfg0.N) = Φ1 m c := by
  have h : (Fin.last cfg0.N).val ≠ 0 := by rw [Fin.val_last]; exact (show grid0.N ≠ 0 by rw [N_0]; decide)
  dsimp only [dats]; exact if_neg h

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) (st0_4 t) (hstage0_4 0) (st0_5 t) (hstage0_5 0) :=
  (congrFun defs_tc _).trans rfl

set_option maxHeartbeats 4000000 in
set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1, after_w2, after_w3, after_w4, after_w5]
  rw [Φ_cast, Φ_succ]
  unfold Dat.owesAt Pipeline.owesWithin
  rw [show (dats m 0 c).owed t.castSucc = 0 from rfl, show (dats m 0 c).owed t.succ = 0 from rfl]
  obtain rfl := fin_N0 t
  unfold owns Φ0 Φ1
  iintro ⟨⟨HA, HS, HZ⟩, ⟨%W, -, HW⟩, ⟨%d0, %g0, %hg0, H0⟩, ⟨%d1, %g1, %hg1, H1⟩, ⟨%d2, %g2, -, H2⟩, ⟨%d3, %g3, -, H3⟩, ⟨%d4, %g4, -, H4⟩, ⟨%d5, %g5, -, H5⟩⟩
  ihave H0' := (pointsTo_rep_entails (c : Thread nD τ) (st0_0 t0_0) g0 fullShare) $$ H0
  ihave H1' := (pointsTo_rep_entails (c : Thread nD τ) (st0_1 t0_0) g1 fullShare) $$ H1
  rw [hg0, hg1]
  sl_rw [prog_eq t0_0]
  iapply (bodyWhole c (st0_0 t0_0) (hstage0_0 0) (st0_1 t0_0) (hstage0_1 0) (st0_2 t0_0) (hstage0_2 0) (st0_3 t0_0) (hstage0_3 0) (st0_4 t0_0) (hstage0_4 0) (st0_5 t0_0) (hstage0_5 0)
    (XD m c) (XW m c) _ _ g2 g3 g4 g5 (VV m c main_v1_0) (VV m c main_v1_1) (VV m c main_v1_3) W)
  isplitl [H0' H1' H2 H3 H4 H5 HA HS HZ HW]
  · isplitl [H0']; · iexact H0'
    isplitl [H1']; · iexact H1'
    isplitl [H2]; · iexact H2
    isplitl [H3]; · iexact H3
    isplitl [H4]; · iexact H4
    isplitl [H5]; · iexact H5
    isplitl [HA]; · iexact HA
    isplitl [HS]; · iexact HS
    isplitl [HZ]; · iexact HZ
    iexact HW
  · iintro ⟨H0, H1, ⟨%e2, %he2, H2⟩, ⟨%e3, %he3, H3⟩, ⟨%e4, %he4, H4⟩, ⟨%e5, %he5, H5⟩, HA, HS, HZ, ⟨%W', HW⟩⟩
    isplitl [HA HS HZ]
    · isplitl [HA]; · iexact HA
      isplitl [HS]; · iexact HS
      iexact HZ
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists e2; isplitr; · ipureintro; exact he2
      iexact H2
    isplitl [H3]
    · iexists e3; isplitr; · ipureintro; exact he3
      iexact H3
    isplitl [H4]
    · iexists e4; isplitr; · ipureintro; exact he4
      iexact H4
    iexists e5; isplitr; · ipureintro; exact he5
    iexact H5

/-! ## The run -/

def intoΦ (c : Dev nD) : sProp 𝕄 := iprop(arrs c (XD m c) (XW m c) (VV m c main_v1_0) (VV m c main_v1_1) (VV m c main_v1_3) ∗ sems c)
def outOfΦ (c : Dev nD) : sProp 𝕄 := arrs c (XD m c) (XW m c) (resX m c) (resY m c) (resW m c)
def restΦ (c : Dev nD) : sProp 𝕄 := all c main_arg0 (VV m c main_arg0)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg0) = VV m c main_arg0 ∧ s.mem ((c : Thread nD τ).loc main_arg1) = VV m c main_arg1
  ∧ s.mem ((c : Thread nD τ).loc main_v1_0) = resX m c ∧ s.mem ((c : Thread nD τ).loc main_v1_1) = resY m c ∧ s.mem ((c : Thread nD τ).loc main_v1_3) = resW m c
def QC : PUnit × MemSt nD τ sig (Elt F) → Prop := fun r =>
  ∀ c : Dev nD, (∀ w : Fin cfg0.W, r.2.mem ((cfg0.win w).arr.view.loc (c : Thread nD τ)) = finalA m c w) ∧ QY m c r.2

set_option maxHeartbeats 4000000 in
set_option backward.isDefEq.respectTransparency.types false in
/-- Every weakly fair execution of @main terminates, its results at the computed contents and every semaphore at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := VV m)
    (hmain := Pipeline.hmain_prefix cfgs 0 defs₀ 𝒱₀ m main hostOps0 hostOps0_sub hostOps0_fresh main_chain)
    (hA := fun _ _ => rfl)
    (X := intoΦ m) (Y := outOfΦ m) (Z := restΦ m)
    (hX := fun c => by
      rw [unscopedRest0_eq]
      unfold intoΦ restΦ
      iintro ⟨⟨H0, H1, H2, H3, H4, H5⟩, HS, -, -, -⟩; imodintro
      isplitr [H0]
      · isplitr [HS]
        · isplitl [H2]; · iexact H2
          isplitl [H1]; · iexact H1
          isplitl [H3]; · iexact H3
          isplitl [H4]; · iexact H4
          iexact H5
        iexact HS
      iexact H0)
    (hin := fun c => by
      rw [scopedRest0_eq, Φ_zero]
      unfold intoΦ Φ0
      iintro ⟨⟨HA, HZ⟩, HS⟩
      isplitl [HA]; · iexact HA
      isplitl [HS]; · iexact HS
      iexact HZ)
    (hout := fun c => by
      rw [scopedRest0_eq, Φ_last]
      unfold Φ1 outOfΦ
      iintro ⟨HA, HS, HZ⟩
      isplitl [HA]; · iexact HA
      isplitl [HZ]; · iexact HZ
      iexact HS)
    (QY := QY m)
    (hY := fun c s' => by
      unfold outOfΦ restΦ QY
      iintro ⟨⟨H0, H1, H2, H3, H4⟩, H5, HSI⟩
      icombine HSI H1 gives %h1
      icombine HSI H2 gives %h2
      icombine HSI H3 gives %h3
      icombine HSI H4 gives %h4
      icombine HSI H5 gives %h5
      imodintro
      isplitr
      · ipureintro
        exact ⟨Buf.eq_of_forall_mem_univ h5, Buf.eq_of_forall_mem_univ h1, Buf.eq_of_forall_mem_univ h2, Buf.eq_of_forall_mem_univ h3, Buf.eq_of_forall_mem_univ h4⟩
      iexact HSI)
    (hQ := fun _ hh hz => ⟨hh, hz⟩)

theorem finalA_in (c : Dev nD) (w : Fin cfg0.W) (hw : (cfg0.win w).isOut = false) :
    finalA m c w = VV m c (Pipeline.arrRef spec0 w) :=
  (dats (F := F) m 0 c).arrAt_in w hw _

/-- The run with the arguments back as they were and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hh => ⟨fun c => ⟨((hh.1 c).2.1).trans (V_main_arg0 m c), ((hh.1 c).2.2.1).trans (V_main_arg1 m c),
    (((hh.1 c).1 0).trans (finalA_in m c 0 rfl)).trans (V_main_arg2 m c), (((hh.1 c).1 1).trans (finalA_in m c 1 rfl)).trans (V_main_arg3 m c)⟩, hh.2⟩) (run_main m ρ)
end Launch

end Cert.Proof.K

end
-- ==== Proof.KI.Names.lean ====
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

/-! The names of the pieces the kernel slices: a block of an operand, a slot of a buffer, a semaphore of an array; and
    what each offset the loop computes is at trip `k`. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev dyM : Memref sig .tc .hbm S256x18432 .bf16 := Memref.whole main_v0
abbrev wM : Memref sig .tc .hbm S7168x18432 .bf16 := Memref.whole main_arg1
abbrev dxM : Memref sig .tc .hbm S256x7168 .bf16 := Memref.whole main_v1_0
abbrev dycM : Memref sig .tc .hbm S256x18432 .fp8e4m3 := Memref.whole main_v1_1
abbrev wcM : Memref sig .tc .hbm S7168x18432 .fp8e4m3 := Memref.whole main_v1_3
abbrev inM : Memref sig .tc .vmem S8x256x4608 .bf16 := Memref.whole cc0_scratch0
abbrev dybM : Memref sig .tc .vmem S4x256x4608 .fp8e4m3 := Memref.whole cc0_scratch1
abbrev outM : Memref sig .tc .vmem S4x256x4608 .fp8e4m3 := Memref.whole cc0_scratch2
abbrev accM : Memref sig .tc .vmem S256x256 .f32 := Memref.whole cc0_scratch3
abbrev xbM : Memref sig .tc .vmem S2x256x256 .bf16 := Memref.whole cc0_scratch4
abbrev amM : Memref sig .tc .vmem S16x512 .bf16 := Memref.whole cc0_scratch5

/-! ## The offsets -/

/-- The slot parity of trip `k`, which handles the block numbered `k + 1` by the loop. -/
abbrev par (k : ℕ) : Fin 2 := Ring.sl 2 (k + 1)

abbrev off8 (s : Fin 2) (c : Fin 4) : Fin 3 → Nat := ![4 * s.val + c.val, 0, 0]
theorem off8_inb (s : Fin 2) (c : Fin 4) : ∀ a, off8 s c a + S1x256x4608.size a ≤ S8x256x4608.size a := by
  revert s c; decide
abbrev soff8 (s : Fin 2) (c : Fin 4) : Fin 1 → Nat := ![4 * s.val + c.val]
theorem soff8_inb (s : Fin 2) (c : Fin 4) : ∀ a, soff8 s c a + S1.size a ≤ S8.size a := by
  revert s c; decide
abbrev off4 (c : Fin 4) : Fin 3 → Nat := ![c.val, 0, 0]
theorem off4_inb (c : Fin 4) : ∀ a, off4 c a + S1x256x4608.size a ≤ S4x256x4608.size a := by
  revert c; decide
abbrev soff4 (c : Fin 4) : Fin 1 → Nat := ![c.val]
theorem soff4_inb (c : Fin 4) : ∀ a, soff4 c a + S1.size a ≤ S4.size a := by
  revert c; decide
abbrev off2 (s : Fin 2) : Fin 3 → Nat := ![s.val, 0, 0]
theorem off2_inb (s : Fin 2) : ∀ a, off2 s a + S1x256x256.size a ≤ S2x256x256.size a := by
  revert s; decide
abbrev soff2 (s : Fin 2) : Fin 1 → Nat := ![s.val]
theorem soff2_inb (s : Fin 2) : ∀ a, soff2 s a + S1.size a ≤ S2.size a := by
  revert s; decide
abbrev offW (b : Fin 28) (c : Fin 4) : Fin 2 → Nat := ![256 * b.val, 4608 * c.val]
theorem offW_inb (b : Fin 28) (c : Fin 4) : ∀ a, offW b c a + S256x4608.size a ≤ S7168x18432.size a := by
  have := b.isLt; have := c.isLt; intro a; fin_cases a
  · show 256 * b.val + 256 ≤ 7168; omega
  · show 4608 * c.val + 4608 ≤ 18432; omega
abbrev offD (c : Fin 4) : Fin 2 → Nat := ![0, 4608 * c.val]
theorem offD_inb (c : Fin 4) : ∀ a, offD c a + S256x4608.size a ≤ S256x18432.size a := by
  revert c; decide
abbrev offX (b : Fin 28) : Fin 2 → Nat := ![0, 256 * b.val]
theorem offX_inb (b : Fin 28) : ∀ a, offX b a + S256x256.size a ≤ S256x7168.size a := by
  have := b.isLt; intro a; fin_cases a
  · show 0 + 256 ≤ 256; omega
  · show 256 * b.val + 256 ≤ 7168; omega

/-! ## The pieces -/

/-- Slot `(s, c)` of the input buffer. -/
def rslot (s : Fin 2) (c : Fin 4) : Memref sig .tc .vmem S256x4608 .bf16 :=
  (inM.slice (Rect.unit (s := S8x256x4608) (off8 s c) S1x256x4608.size (off8_inb s c)) (fun _ => rfl)).squeeze S256x4608 squeezes_S1x256x4608_S256x4608
/-- Its semaphore. -/
def isem (s : Fin 2) (c : Fin 4) : DmaSems sig S_ :=
  (cc0_scratch6.slice (Rect.unit (s := S8) (soff8 s c) S1.size (soff8_inb s c))).squeeze S_ squeezes_S1_S_
/-- Slot `c` of the first operand's codes. -/
def dslot (c : Fin 4) : Memref sig .tc .vmem S256x4608 .fp8e4m3 :=
  (dybM.slice (Rect.unit (s := S4x256x4608) (off4 c) S1x256x4608.size (off4_inb c)) (fun _ => rfl)).squeeze S256x4608 squeezes_S1x256x4608_S256x4608
def dsem (c : Fin 4) : DmaSems sig S_ :=
  (cc0_scratch7.slice (Rect.unit (s := S4) (soff4 c) S1.size (soff4_inb c))).squeeze S_ squeezes_S1_S_
/-- Slot `c` of the second operand's codes. -/
def oslot (c : Fin 4) : Memref sig .tc .vmem S256x4608 .fp8e4m3 :=
  (outM.slice (Rect.unit (s := S4x256x4608) (off4 c) S1x256x4608.size (off4_inb c)) (fun _ => rfl)).squeeze S256x4608 squeezes_S1x256x4608_S256x4608
def osem (c : Fin 4) : DmaSems sig S_ :=
  (cc0_scratch8.slice (Rect.unit (s := S4) (soff4 c) S1.size (soff4_inb c))).squeeze S_ squeezes_S1_S_
/-- Slot `s` of the product's buffer. -/
def xslot (s : Fin 2) : Memref sig .tc .vmem S256x256 .bf16 :=
  (xbM.slice (Rect.unit (s := S2x256x256) (off2 s) S1x256x256.size (off2_inb s)) (fun _ => rfl)).squeeze S256x256 squeezes_S1x256x256_S256x256
def xsem (s : Fin 2) : DmaSems sig S_ :=
  (cc0_scratch9.slice (Rect.unit (s := S2) (soff2 s) S1.size (soff2_inb s))).squeeze S_ squeezes_S1_S_
/-- Block `(b, c)` of the second operand, and of its codes. -/
def wblk (b : Fin 28) (c : Fin 4) : Memref sig .tc .hbm S256x4608 .bf16 :=
  wM.slice (Rect.unit (s := S7168x18432) (offW b c) S256x4608.size (offW_inb b c)) (fun _ => rfl)
def wcblk (b : Fin 28) (c : Fin 4) : Memref sig .tc .hbm S256x4608 .fp8e4m3 :=
  wcM.slice (Rect.unit (s := S7168x18432) (offW b c) S256x4608.size (offW_inb b c)) (fun _ => rfl)
/-- Block `c` of the first operand, and of its codes. -/
def dyblk (c : Fin 4) : Memref sig .tc .hbm S256x4608 .bf16 :=
  dyM.slice (Rect.unit (s := S256x18432) (offD c) S256x4608.size (offD_inb c)) (fun _ => rfl)
def dycblk (c : Fin 4) : Memref sig .tc .hbm S256x4608 .fp8e4m3 :=
  dycM.slice (Rect.unit (s := S256x18432) (offD c) S256x4608.size (offD_inb c)) (fun _ => rfl)
/-- Block `b` of the product. -/
def dxblk (b : Fin 28) : Memref sig .tc .hbm S256x256 .bf16 :=
  dxM.slice (Rect.unit (s := S256x7168) (offX b) S256x256.size (offX_inb b)) (fun _ => rfl)

instance (s : Fin 2) (c : Fin 4) : ClosedOff (off8 s c) := ⟨off8 s c, rfl⟩
instance (c : Fin 4) : ClosedOff (off4 c) := ⟨off4 c, rfl⟩
instance (s : Fin 2) : ClosedOff (off2 s) := ⟨off2 s, rfl⟩
instance (b : Fin 28) (c : Fin 4) : ClosedOff (offW b c) := ⟨offW b c, rfl⟩
instance (c : Fin 4) : ClosedOff (offD c) := ⟨offD c, rfl⟩
instance (b : Fin 28) : ClosedOff (offX b) := ⟨offX b, rfl⟩

/-! ## The offsets at trip `k` -/

section Chain
variable (k : Fin k0_t1_loop.trips)

theorem trips_eq : k0_t1_loop.trips = 28 := by decide
theorem k_lt : k.val < 28 := Nat.lt_of_lt_of_eq k.isLt trips_eq

theorem k0_off1_eq_0 : k0_off1 k 0#32 = soff8 (par k) 0 := by
  revert k; decide +kernel

theorem k0_off2_eq_0 : k0_off2 k 0#32 = off8 (par k) 0 := by
  revert k; decide +kernel

theorem k0_off1_eq_1 : k0_off1 k 1#32 = soff8 (par k) 1 := by
  revert k; decide +kernel

theorem k0_off2_eq_1 : k0_off2 k 1#32 = off8 (par k) 1 := by
  revert k; decide +kernel

theorem k0_off1_eq_2 : k0_off1 k 2#32 = soff8 (par k) 2 := by
  revert k; decide +kernel

theorem k0_off2_eq_2 : k0_off2 k 2#32 = off8 (par k) 2 := by
  revert k; decide +kernel

theorem k0_off1_eq_3 : k0_off1 k 3#32 = soff8 (par k) 3 := by
  revert k; decide +kernel

theorem k0_off2_eq_3 : k0_off2 k 3#32 = off8 (par k) 3 := by
  revert k; decide +kernel

theorem k0_off14_eq : k0_off14 k = soff8 (par k) 0 := by
  revert k; decide +kernel

theorem k0_off19_eq : k0_off19 k = soff8 (par k) 1 := by
  revert k; decide +kernel

theorem k0_off24_eq : k0_off24 k = soff8 (par k) 2 := by
  revert k; decide +kernel

theorem k0_off33_eq : k0_off33 k = soff8 (par k) 3 := by
  revert k; decide +kernel

theorem k0_off15_eq : k0_off15 k = off8 (par k) 0 := by
  revert k; decide +kernel

theorem k0_off20_eq : k0_off20 k = off8 (par k) 1 := by
  revert k; decide +kernel

theorem k0_off25_eq : k0_off25 k = off8 (par k) 2 := by
  revert k; decide +kernel

theorem k0_off34_eq : k0_off34 k = off8 (par k) 3 := by
  revert k; decide +kernel

theorem k0_off3_eq : k0_off3 k = offW (Ring.bk 28 k) 0 := by
  revert k; decide +kernel

theorem k0_off17_eq : k0_off17 k = offW (Ring.bk 28 k) 1 := by
  revert k; decide +kernel

theorem k0_off22_eq : k0_off22 k = offW (Ring.bk 28 k) 2 := by
  revert k; decide +kernel

theorem k0_off27_eq : k0_off27 k = offW (Ring.bk 28 k) 3 := by
  revert k; decide +kernel

theorem k0_off16_eq (h : k.val + 2 < 28) : k0_off16 k = offW (Ring.bk 28 (k + 2)) 0 := by
  revert h; revert k; decide +kernel

theorem k0_off21_eq (h : k.val + 2 < 28) : k0_off21 k = offW (Ring.bk 28 (k + 2)) 1 := by
  revert h; revert k; decide +kernel

theorem k0_off26_eq (h : k.val + 2 < 28) : k0_off26 k = offW (Ring.bk 28 (k + 2)) 2 := by
  revert h; revert k; decide +kernel

theorem k0_off35_eq (h : k.val + 2 < 28) : k0_off35 k = offW (Ring.bk 28 (k + 2)) 3 := by
  revert h; revert k; decide +kernel

theorem k0_off4_eq (h : 1 ≤ k.val) : k0_off4 k = offW (Ring.bk 28 (k - 1)) 0 := by
  revert h; revert k; decide +kernel

theorem k0_off18_eq (h : 1 ≤ k.val) : k0_off18 k = offW (Ring.bk 28 (k - 1)) 1 := by
  revert h; revert k; decide +kernel

theorem k0_off23_eq (h : 1 ≤ k.val) : k0_off23 k = offW (Ring.bk 28 (k - 1)) 2 := by
  revert h; revert k; decide +kernel

theorem k0_off28_eq (h : 1 ≤ k.val) : k0_off28 k = offW (Ring.bk 28 (k - 1)) 3 := by
  revert h; revert k; decide +kernel

theorem k0_off29_eq (h : 2 ≤ k.val) : k0_off29 k = soff2 (par k) := by
  revert h; revert k; decide +kernel

theorem k0_off30_eq (h : 2 ≤ k.val) : k0_off30 k = offX (Ring.bk 28 (k - 2)) := by
  revert h; revert k; decide +kernel

theorem k0_off31_eq (h : 2 ≤ k.val) : k0_off31 k = off2 (par k) := by
  revert h; revert k; decide +kernel

theorem k0_off32_eq : k0_off32 k = off2 (par k) := by
  revert k; decide +kernel

theorem k0_off36_eq : k0_off36 k = soff2 (par k) := by
  revert k; decide +kernel

theorem k0_off37_eq : k0_off37 k = offX (Ring.bk 28 k) := by
  revert k; decide +kernel

theorem k0_off38_eq : k0_off38 k = off2 (par k) := by
  revert k; decide +kernel

end Chain

/-! ## The slices the kernel writes are the pieces above -/

theorem rslot_congr {off : Fin 3 → Nat} {s : Fin 2} {c : Fin 4} (e : off = off8 s c) (hh hs) :
    (inM.slice (Rect.unit (s := S8x256x4608) off S1x256x4608.size hh) hs).squeeze S256x4608 squeezes_S1x256x4608_S256x4608 = rslot s c :=
  congrArg (fun M : Memref sig .tc .vmem S1x256x4608 .bf16 => M.squeeze S256x4608 squeezes_S1x256x4608_S256x4608) (Memref.slice_unit_congr _ e _ _ _ _)

theorem dslot_congr {off : Fin 3 → Nat} {c : Fin 4} (e : off = off4 c) (hh hs) :
    (dybM.slice (Rect.unit (s := S4x256x4608) off S1x256x4608.size hh) hs).squeeze S256x4608 squeezes_S1x256x4608_S256x4608 = dslot c :=
  congrArg (fun M : Memref sig .tc .vmem S1x256x4608 .fp8e4m3 => M.squeeze S256x4608 squeezes_S1x256x4608_S256x4608) (Memref.slice_unit_congr _ e _ _ _ _)

theorem oslot_congr {off : Fin 3 → Nat} {c : Fin 4} (e : off = off4 c) (hh hs) :
    (outM.slice (Rect.unit (s := S4x256x4608) off S1x256x4608.size hh) hs).squeeze S256x4608 squeezes_S1x256x4608_S256x4608 = oslot c :=
  congrArg (fun M : Memref sig .tc .vmem S1x256x4608 .fp8e4m3 => M.squeeze S256x4608 squeezes_S1x256x4608_S256x4608) (Memref.slice_unit_congr _ e _ _ _ _)

theorem xslot_congr {off : Fin 3 → Nat} {s : Fin 2} (e : off = off2 s) (hh hs) :
    (xbM.slice (Rect.unit (s := S2x256x256) off S1x256x256.size hh) hs).squeeze S256x256 squeezes_S1x256x256_S256x256 = xslot s :=
  congrArg (fun M : Memref sig .tc .vmem S1x256x256 .bf16 => M.squeeze S256x256 squeezes_S1x256x256_S256x256) (Memref.slice_unit_congr _ e _ _ _ _)

theorem isem_congr {off : Fin 1 → Nat} {s : Fin 2} {c : Fin 4} (e : off = soff8 s c) (hh) :
    (cc0_scratch6.slice (Rect.unit (s := S8) off S1.size hh)).squeeze S_ squeezes_S1_S_ = isem s c :=
  congrArg (fun A : DmaSems sig S1 => A.squeeze S_ squeezes_S1_S_) (SemArray.slice_unit_congr _ e _ _)

theorem dsem_congr {off : Fin 1 → Nat} {c : Fin 4} (e : off = soff4 c) (hh) :
    (cc0_scratch7.slice (Rect.unit (s := S4) off S1.size hh)).squeeze S_ squeezes_S1_S_ = dsem c :=
  congrArg (fun A : DmaSems sig S1 => A.squeeze S_ squeezes_S1_S_) (SemArray.slice_unit_congr _ e _ _)

theorem osem_congr {off : Fin 1 → Nat} {c : Fin 4} (e : off = soff4 c) (hh) :
    (cc0_scratch8.slice (Rect.unit (s := S4) off S1.size hh)).squeeze S_ squeezes_S1_S_ = osem c :=
  congrArg (fun A : DmaSems sig S1 => A.squeeze S_ squeezes_S1_S_) (SemArray.slice_unit_congr _ e _ _)

theorem xsem_congr {off : Fin 1 → Nat} {s : Fin 2} (e : off = soff2 s) (hh) :
    (cc0_scratch9.slice (Rect.unit (s := S2) off S1.size hh)).squeeze S_ squeezes_S1_S_ = xsem s :=
  congrArg (fun A : DmaSems sig S1 => A.squeeze S_ squeezes_S1_S_) (SemArray.slice_unit_congr _ e _ _)

theorem wblk_congr {off : Fin 2 → Nat} {b : Fin 28} {c : Fin 4} (e : off = offW b c) (hh hs) :
    wM.slice (Rect.unit (s := S7168x18432) off S256x4608.size hh) hs = wblk b c :=
  Memref.slice_unit_congr _ e hh (offW_inb b c) hs (fun _ => rfl)

theorem wcblk_congr {off : Fin 2 → Nat} {b : Fin 28} {c : Fin 4} (e : off = offW b c) (hh hs) :
    wcM.slice (Rect.unit (s := S7168x18432) off S256x4608.size hh) hs = wcblk b c :=
  Memref.slice_unit_congr _ e hh (offW_inb b c) hs (fun _ => rfl)

theorem dyblk_congr {off : Fin 2 → Nat} {c : Fin 4} (e : off = offD c) (hh hs) :
    dyM.slice (Rect.unit (s := S256x18432) off S256x4608.size hh) hs = dyblk c :=
  Memref.slice_unit_congr _ e hh (offD_inb c) hs (fun _ => rfl)

theorem dycblk_congr {off : Fin 2 → Nat} {c : Fin 4} (e : off = offD c) (hh hs) :
    dycM.slice (Rect.unit (s := S256x18432) off S256x4608.size hh) hs = dycblk c :=
  Memref.slice_unit_congr _ e hh (offD_inb c) hs (fun _ => rfl)

theorem dxblk_congr {off : Fin 2 → Nat} {b : Fin 28} (e : off = offX b) (hh hs) :
    dxM.slice (Rect.unit (s := S256x7168) off S256x256.size hh) hs = dxblk b :=
  Memref.slice_unit_congr _ e hh (offX_inb b) hs (fun _ => rfl)

@[sl_canon] theorem cn1 (hh hs) :
    (inM.slice (Rect.unit (s := S8x256x4608) ![0, 0, 0] S1x256x4608.size hh) hs).squeeze S256x4608 squeezes_S1x256x4608_S256x4608 = rslot 0 0 := rslot_congr (by decide) _ _

@[sl_canon] theorem cn2 (hh) :
    (cc0_scratch6.slice (Rect.unit (s := S8) ![0] S1.size hh)).squeeze S_ squeezes_S1_S_ = isem 0 0 := isem_congr (by decide) _

@[sl_canon] theorem cn3 (hh hs) :
    (inM.slice (Rect.unit (s := S8x256x4608) ![1, 0, 0] S1x256x4608.size hh) hs).squeeze S256x4608 squeezes_S1x256x4608_S256x4608 = rslot 0 1 := rslot_congr (by decide) _ _

@[sl_canon] theorem cn4 (hh) :
    (cc0_scratch6.slice (Rect.unit (s := S8) ![1] S1.size hh)).squeeze S_ squeezes_S1_S_ = isem 0 1 := isem_congr (by decide) _

@[sl_canon] theorem cn5 (hh hs) :
    (inM.slice (Rect.unit (s := S8x256x4608) ![2, 0, 0] S1x256x4608.size hh) hs).squeeze S256x4608 squeezes_S1x256x4608_S256x4608 = rslot 0 2 := rslot_congr (by decide) _ _

@[sl_canon] theorem cn6 (hh) :
    (cc0_scratch6.slice (Rect.unit (s := S8) ![2] S1.size hh)).squeeze S_ squeezes_S1_S_ = isem 0 2 := isem_congr (by decide) _

@[sl_canon] theorem cn7 (hh hs) :
    (inM.slice (Rect.unit (s := S8x256x4608) ![3, 0, 0] S1x256x4608.size hh) hs).squeeze S256x4608 squeezes_S1x256x4608_S256x4608 = rslot 0 3 := rslot_congr (by decide) _ _

@[sl_canon] theorem cn8 (hh) :
    (cc0_scratch6.slice (Rect.unit (s := S8) ![3] S1.size hh)).squeeze S_ squeezes_S1_S_ = isem 0 3 := isem_congr (by decide) _

@[sl_canon] theorem cn9 (hh hs) :
    (inM.slice (Rect.unit (s := S8x256x4608) ![4, 0, 0] S1x256x4608.size hh) hs).squeeze S256x4608 squeezes_S1x256x4608_S256x4608 = rslot 1 0 := rslot_congr (by decide) _ _

@[sl_canon] theorem cn10 (hh) :
    (cc0_scratch6.slice (Rect.unit (s := S8) ![4] S1.size hh)).squeeze S_ squeezes_S1_S_ = isem 1 0 := isem_congr (by decide) _

@[sl_canon] theorem cn11 (hh hs) :
    (inM.slice (Rect.unit (s := S8x256x4608) ![5, 0, 0] S1x256x4608.size hh) hs).squeeze S256x4608 squeezes_S1x256x4608_S256x4608 = rslot 1 1 := rslot_congr (by decide) _ _

@[sl_canon] theorem cn12 (hh) :
    (cc0_scratch6.slice (Rect.unit (s := S8) ![5] S1.size hh)).squeeze S_ squeezes_S1_S_ = isem 1 1 := isem_congr (by decide) _

@[sl_canon] theorem cn13 (hh hs) :
    (inM.slice (Rect.unit (s := S8x256x4608) ![6, 0, 0] S1x256x4608.size hh) hs).squeeze S256x4608 squeezes_S1x256x4608_S256x4608 = rslot 1 2 := rslot_congr (by decide) _ _

@[sl_canon] theorem cn14 (hh) :
    (cc0_scratch6.slice (Rect.unit (s := S8) ![6] S1.size hh)).squeeze S_ squeezes_S1_S_ = isem 1 2 := isem_congr (by decide) _

@[sl_canon] theorem cn15 (hh hs) :
    (inM.slice (Rect.unit (s := S8x256x4608) ![7, 0, 0] S1x256x4608.size hh) hs).squeeze S256x4608 squeezes_S1x256x4608_S256x4608 = rslot 1 3 := rslot_congr (by decide) _ _

@[sl_canon] theorem cn16 (hh) :
    (cc0_scratch6.slice (Rect.unit (s := S8) ![7] S1.size hh)).squeeze S_ squeezes_S1_S_ = isem 1 3 := isem_congr (by decide) _

@[sl_canon] theorem cn17 (hh hs) :
    (dybM.slice (Rect.unit (s := S4x256x4608) ![0, 0, 0] S1x256x4608.size hh) hs).squeeze S256x4608 squeezes_S1x256x4608_S256x4608 = dslot 0 := dslot_congr (by decide) _ _

@[sl_canon] theorem cn18 (hh hs) :
    (outM.slice (Rect.unit (s := S4x256x4608) ![0, 0, 0] S1x256x4608.size hh) hs).squeeze S256x4608 squeezes_S1x256x4608_S256x4608 = oslot 0 := oslot_congr (by decide) _ _

@[sl_canon] theorem cn19 (hh) :
    (cc0_scratch7.slice (Rect.unit (s := S4) ![0] S1.size hh)).squeeze S_ squeezes_S1_S_ = dsem 0 := dsem_congr (by decide) _

@[sl_canon] theorem cn20 (hh) :
    (cc0_scratch8.slice (Rect.unit (s := S4) ![0] S1.size hh)).squeeze S_ squeezes_S1_S_ = osem 0 := osem_congr (by decide) _

@[sl_canon] theorem cn21 (hh hs) :
    dyM.slice (Rect.unit (s := S256x18432) ![0, 0] S256x4608.size hh) hs = dyblk 0 := dyblk_congr (by decide) _ _

@[sl_canon] theorem cn22 (hh hs) :
    dycM.slice (Rect.unit (s := S256x18432) ![0, 0] S256x4608.size hh) hs = dycblk 0 := dycblk_congr (by decide) _ _

@[sl_canon] theorem cn23 (hh hs) :
    wM.slice (Rect.unit (s := S7168x18432) ![0, 0] S256x4608.size hh) hs = wblk 0 0 := wblk_congr (by decide) _ _

@[sl_canon] theorem cn24 (hh hs) :
    wM.slice (Rect.unit (s := S7168x18432) ![256, 0] S256x4608.size hh) hs = wblk 1 0 := wblk_congr (by decide) _ _

@[sl_canon] theorem cn25 (hh hs) :
    wcM.slice (Rect.unit (s := S7168x18432) ![6912, 0] S256x4608.size hh) hs = wcblk 27 0 := wcblk_congr (by decide) _ _

@[sl_canon] theorem cn26 (hh hs) :
    (dybM.slice (Rect.unit (s := S4x256x4608) ![1, 0, 0] S1x256x4608.size hh) hs).squeeze S256x4608 squeezes_S1x256x4608_S256x4608 = dslot 1 := dslot_congr (by decide) _ _

@[sl_canon] theorem cn27 (hh hs) :
    (outM.slice (Rect.unit (s := S4x256x4608) ![1, 0, 0] S1x256x4608.size hh) hs).squeeze S256x4608 squeezes_S1x256x4608_S256x4608 = oslot 1 := oslot_congr (by decide) _ _

@[sl_canon] theorem cn28 (hh) :
    (cc0_scratch7.slice (Rect.unit (s := S4) ![1] S1.size hh)).squeeze S_ squeezes_S1_S_ = dsem 1 := dsem_congr (by decide) _

@[sl_canon] theorem cn29 (hh) :
    (cc0_scratch8.slice (Rect.unit (s := S4) ![1] S1.size hh)).squeeze S_ squeezes_S1_S_ = osem 1 := osem_congr (by decide) _

@[sl_canon] theorem cn30 (hh hs) :
    dyM.slice (Rect.unit (s := S256x18432) ![0, 4608] S256x4608.size hh) hs = dyblk 1 := dyblk_congr (by decide) _ _

@[sl_canon] theorem cn31 (hh hs) :
    dycM.slice (Rect.unit (s := S256x18432) ![0, 4608] S256x4608.size hh) hs = dycblk 1 := dycblk_congr (by decide) _ _

@[sl_canon] theorem cn32 (hh hs) :
    wM.slice (Rect.unit (s := S7168x18432) ![0, 4608] S256x4608.size hh) hs = wblk 0 1 := wblk_congr (by decide) _ _

@[sl_canon] theorem cn33 (hh hs) :
    wM.slice (Rect.unit (s := S7168x18432) ![256, 4608] S256x4608.size hh) hs = wblk 1 1 := wblk_congr (by decide) _ _

@[sl_canon] theorem cn34 (hh hs) :
    wcM.slice (Rect.unit (s := S7168x18432) ![6912, 4608] S256x4608.size hh) hs = wcblk 27 1 := wcblk_congr (by decide) _ _

@[sl_canon] theorem cn35 (hh hs) :
    (dybM.slice (Rect.unit (s := S4x256x4608) ![2, 0, 0] S1x256x4608.size hh) hs).squeeze S256x4608 squeezes_S1x256x4608_S256x4608 = dslot 2 := dslot_congr (by decide) _ _

@[sl_canon] theorem cn36 (hh hs) :
    (outM.slice (Rect.unit (s := S4x256x4608) ![2, 0, 0] S1x256x4608.size hh) hs).squeeze S256x4608 squeezes_S1x256x4608_S256x4608 = oslot 2 := oslot_congr (by decide) _ _

@[sl_canon] theorem cn37 (hh) :
    (cc0_scratch7.slice (Rect.unit (s := S4) ![2] S1.size hh)).squeeze S_ squeezes_S1_S_ = dsem 2 := dsem_congr (by decide) _

@[sl_canon] theorem cn38 (hh) :
    (cc0_scratch8.slice (Rect.unit (s := S4) ![2] S1.size hh)).squeeze S_ squeezes_S1_S_ = osem 2 := osem_congr (by decide) _

@[sl_canon] theorem cn39 (hh hs) :
    dyM.slice (Rect.unit (s := S256x18432) ![0, 9216] S256x4608.size hh) hs = dyblk 2 := dyblk_congr (by decide) _ _

@[sl_canon] theorem cn40 (hh hs) :
    dycM.slice (Rect.unit (s := S256x18432) ![0, 9216] S256x4608.size hh) hs = dycblk 2 := dycblk_congr (by decide) _ _

@[sl_canon] theorem cn41 (hh hs) :
    wM.slice (Rect.unit (s := S7168x18432) ![0, 9216] S256x4608.size hh) hs = wblk 0 2 := wblk_congr (by decide) _ _

@[sl_canon] theorem cn42 (hh hs) :
    wM.slice (Rect.unit (s := S7168x18432) ![256, 9216] S256x4608.size hh) hs = wblk 1 2 := wblk_congr (by decide) _ _

@[sl_canon] theorem cn43 (hh hs) :
    wcM.slice (Rect.unit (s := S7168x18432) ![6912, 9216] S256x4608.size hh) hs = wcblk 27 2 := wcblk_congr (by decide) _ _

@[sl_canon] theorem cn44 (hh hs) :
    (dybM.slice (Rect.unit (s := S4x256x4608) ![3, 0, 0] S1x256x4608.size hh) hs).squeeze S256x4608 squeezes_S1x256x4608_S256x4608 = dslot 3 := dslot_congr (by decide) _ _

@[sl_canon] theorem cn45 (hh hs) :
    (outM.slice (Rect.unit (s := S4x256x4608) ![3, 0, 0] S1x256x4608.size hh) hs).squeeze S256x4608 squeezes_S1x256x4608_S256x4608 = oslot 3 := oslot_congr (by decide) _ _

@[sl_canon] theorem cn46 (hh) :
    (cc0_scratch7.slice (Rect.unit (s := S4) ![3] S1.size hh)).squeeze S_ squeezes_S1_S_ = dsem 3 := dsem_congr (by decide) _

@[sl_canon] theorem cn47 (hh) :
    (cc0_scratch8.slice (Rect.unit (s := S4) ![3] S1.size hh)).squeeze S_ squeezes_S1_S_ = osem 3 := osem_congr (by decide) _

@[sl_canon] theorem cn48 (hh hs) :
    dyM.slice (Rect.unit (s := S256x18432) ![0, 13824] S256x4608.size hh) hs = dyblk 3 := dyblk_congr (by decide) _ _

@[sl_canon] theorem cn49 (hh hs) :
    dycM.slice (Rect.unit (s := S256x18432) ![0, 13824] S256x4608.size hh) hs = dycblk 3 := dycblk_congr (by decide) _ _

@[sl_canon] theorem cn50 (hh hs) :
    wM.slice (Rect.unit (s := S7168x18432) ![0, 13824] S256x4608.size hh) hs = wblk 0 3 := wblk_congr (by decide) _ _

@[sl_canon] theorem cn51 (hh hs) :
    wM.slice (Rect.unit (s := S7168x18432) ![256, 13824] S256x4608.size hh) hs = wblk 1 3 := wblk_congr (by decide) _ _

@[sl_canon] theorem cn52 (hh hs) :
    wcM.slice (Rect.unit (s := S7168x18432) ![6912, 13824] S256x4608.size hh) hs = wcblk 27 3 := wcblk_congr (by decide) _ _

@[sl_canon] theorem cn53 (hh hs) :
    (xbM.slice (Rect.unit (s := S2x256x256) ![0, 0, 0] S1x256x256.size hh) hs).squeeze S256x256 squeezes_S1x256x256_S256x256 = xslot 0 := xslot_congr (by decide) _ _

@[sl_canon] theorem cn54 (hh) :
    (cc0_scratch9.slice (Rect.unit (s := S2) ![0] S1.size hh)).squeeze S_ squeezes_S1_S_ = xsem 0 := xsem_congr (by decide) _

@[sl_canon] theorem cn55 (hh hs) :
    dxM.slice (Rect.unit (s := S256x7168) ![0, 6656] S256x256.size hh) hs = dxblk 26 := dxblk_congr (by decide) _ _

@[sl_canon] theorem cn56 (hh hs) :
    (xbM.slice (Rect.unit (s := S2x256x256) ![1, 0, 0] S1x256x256.size hh) hs).squeeze S256x256 squeezes_S1x256x256_S256x256 = xslot 1 := xslot_congr (by decide) _ _

@[sl_canon] theorem cn57 (hh) :
    (cc0_scratch9.slice (Rect.unit (s := S2) ![1] S1.size hh)).squeeze S_ squeezes_S1_S_ = xsem 1 := xsem_congr (by decide) _

@[sl_canon] theorem cn58 (hh hs) :
    dxM.slice (Rect.unit (s := S256x7168) ![0, 6912] S256x256.size hh) hs = dxblk 27 := dxblk_congr (by decide) _ _

@[sl_canon] theorem cn59 (k : Fin k0_t1_loop.trips) (hh) :
    (cc0_scratch6.slice (Rect.unit (s := S8) (k0_off1 k 0#32) S1.size hh)).squeeze S_ squeezes_S1_S_ = isem (par k) 0 := isem_congr (k0_off1_eq_0 k) _

@[sl_canon] theorem cn60 (k : Fin k0_t1_loop.trips) (hh hs) :
    (inM.slice (Rect.unit (s := S8x256x4608) (k0_off2 k 0#32) S1x256x4608.size hh) hs).squeeze S256x4608 squeezes_S1x256x4608_S256x4608 = rslot (par k) 0 := rslot_congr (k0_off2_eq_0 k) _ _

@[sl_canon] theorem cn61 (k : Fin k0_t1_loop.trips) (hh) :
    (cc0_scratch6.slice (Rect.unit (s := S8) (k0_off1 k 1#32) S1.size hh)).squeeze S_ squeezes_S1_S_ = isem (par k) 1 := isem_congr (k0_off1_eq_1 k) _

@[sl_canon] theorem cn62 (k : Fin k0_t1_loop.trips) (hh hs) :
    (inM.slice (Rect.unit (s := S8x256x4608) (k0_off2 k 1#32) S1x256x4608.size hh) hs).squeeze S256x4608 squeezes_S1x256x4608_S256x4608 = rslot (par k) 1 := rslot_congr (k0_off2_eq_1 k) _ _

@[sl_canon] theorem cn63 (k : Fin k0_t1_loop.trips) (hh) :
    (cc0_scratch6.slice (Rect.unit (s := S8) (k0_off1 k 2#32) S1.size hh)).squeeze S_ squeezes_S1_S_ = isem (par k) 2 := isem_congr (k0_off1_eq_2 k) _

@[sl_canon] theorem cn64 (k : Fin k0_t1_loop.trips) (hh hs) :
    (inM.slice (Rect.unit (s := S8x256x4608) (k0_off2 k 2#32) S1x256x4608.size hh) hs).squeeze S256x4608 squeezes_S1x256x4608_S256x4608 = rslot (par k) 2 := rslot_congr (k0_off2_eq_2 k) _ _

@[sl_canon] theorem cn65 (k : Fin k0_t1_loop.trips) (hh) :
    (cc0_scratch6.slice (Rect.unit (s := S8) (k0_off1 k 3#32) S1.size hh)).squeeze S_ squeezes_S1_S_ = isem (par k) 3 := isem_congr (k0_off1_eq_3 k) _

@[sl_canon] theorem cn66 (k : Fin k0_t1_loop.trips) (hh hs) :
    (inM.slice (Rect.unit (s := S8x256x4608) (k0_off2 k 3#32) S1x256x4608.size hh) hs).squeeze S256x4608 squeezes_S1x256x4608_S256x4608 = rslot (par k) 3 := rslot_congr (k0_off2_eq_3 k) _ _

@[sl_canon] theorem cn67 (k : Fin k0_t1_loop.trips) (hh) :
    (cc0_scratch6.slice (Rect.unit (s := S8) (k0_off14 k) S1.size hh)).squeeze S_ squeezes_S1_S_ = isem (par k) 0 := isem_congr (k0_off14_eq k) _

@[sl_canon] theorem cn68 (k : Fin k0_t1_loop.trips) (hh) :
    (cc0_scratch6.slice (Rect.unit (s := S8) (k0_off19 k) S1.size hh)).squeeze S_ squeezes_S1_S_ = isem (par k) 1 := isem_congr (k0_off19_eq k) _

@[sl_canon] theorem cn69 (k : Fin k0_t1_loop.trips) (hh) :
    (cc0_scratch6.slice (Rect.unit (s := S8) (k0_off24 k) S1.size hh)).squeeze S_ squeezes_S1_S_ = isem (par k) 2 := isem_congr (k0_off24_eq k) _

@[sl_canon] theorem cn70 (k : Fin k0_t1_loop.trips) (hh) :
    (cc0_scratch6.slice (Rect.unit (s := S8) (k0_off33 k) S1.size hh)).squeeze S_ squeezes_S1_S_ = isem (par k) 3 := isem_congr (k0_off33_eq k) _

@[sl_canon] theorem cn71 (k : Fin k0_t1_loop.trips) (hh hs) :
    (inM.slice (Rect.unit (s := S8x256x4608) (k0_off15 k) S1x256x4608.size hh) hs).squeeze S256x4608 squeezes_S1x256x4608_S256x4608 = rslot (par k) 0 := rslot_congr (k0_off15_eq k) _ _

@[sl_canon] theorem cn72 (k : Fin k0_t1_loop.trips) (hh hs) :
    (inM.slice (Rect.unit (s := S8x256x4608) (k0_off20 k) S1x256x4608.size hh) hs).squeeze S256x4608 squeezes_S1x256x4608_S256x4608 = rslot (par k) 1 := rslot_congr (k0_off20_eq k) _ _

@[sl_canon] theorem cn73 (k : Fin k0_t1_loop.trips) (hh hs) :
    (inM.slice (Rect.unit (s := S8x256x4608) (k0_off25 k) S1x256x4608.size hh) hs).squeeze S256x4608 squeezes_S1x256x4608_S256x4608 = rslot (par k) 2 := rslot_congr (k0_off25_eq k) _ _

@[sl_canon] theorem cn74 (k : Fin k0_t1_loop.trips) (hh hs) :
    (inM.slice (Rect.unit (s := S8x256x4608) (k0_off34 k) S1x256x4608.size hh) hs).squeeze S256x4608 squeezes_S1x256x4608_S256x4608 = rslot (par k) 3 := rslot_congr (k0_off34_eq k) _ _

@[sl_canon] theorem cn75 (k : Fin k0_t1_loop.trips) (hh hs) :
    wM.slice (Rect.unit (s := S7168x18432) (k0_off3 k) S256x4608.size hh) hs = wblk (Ring.bk 28 k) 0 := wblk_congr (k0_off3_eq k) _ _

@[sl_canon] theorem cn76 (k : Fin k0_t1_loop.trips) (hh hs) :
    wcM.slice (Rect.unit (s := S7168x18432) (k0_off3 k) S256x4608.size hh) hs = wcblk (Ring.bk 28 k) 0 := wcblk_congr (k0_off3_eq k) _ _

@[sl_canon] theorem cn77 (k : Fin k0_t1_loop.trips) (hh hs) :
    wM.slice (Rect.unit (s := S7168x18432) (k0_off17 k) S256x4608.size hh) hs = wblk (Ring.bk 28 k) 1 := wblk_congr (k0_off17_eq k) _ _

@[sl_canon] theorem cn78 (k : Fin k0_t1_loop.trips) (hh hs) :
    wcM.slice (Rect.unit (s := S7168x18432) (k0_off17 k) S256x4608.size hh) hs = wcblk (Ring.bk 28 k) 1 := wcblk_congr (k0_off17_eq k) _ _

@[sl_canon] theorem cn79 (k : Fin k0_t1_loop.trips) (hh hs) :
    wM.slice (Rect.unit (s := S7168x18432) (k0_off22 k) S256x4608.size hh) hs = wblk (Ring.bk 28 k) 2 := wblk_congr (k0_off22_eq k) _ _

@[sl_canon] theorem cn80 (k : Fin k0_t1_loop.trips) (hh hs) :
    wcM.slice (Rect.unit (s := S7168x18432) (k0_off22 k) S256x4608.size hh) hs = wcblk (Ring.bk 28 k) 2 := wcblk_congr (k0_off22_eq k) _ _

@[sl_canon] theorem cn81 (k : Fin k0_t1_loop.trips) (hh hs) :
    wM.slice (Rect.unit (s := S7168x18432) (k0_off27 k) S256x4608.size hh) hs = wblk (Ring.bk 28 k) 3 := wblk_congr (k0_off27_eq k) _ _

@[sl_canon] theorem cn82 (k : Fin k0_t1_loop.trips) (hh hs) :
    wcM.slice (Rect.unit (s := S7168x18432) (k0_off27 k) S256x4608.size hh) hs = wcblk (Ring.bk 28 k) 3 := wcblk_congr (k0_off27_eq k) _ _

@[sl_canon] theorem cn83 (k : Fin k0_t1_loop.trips) (h : k.val + 2 < 28) (hh hs) :
    wM.slice (Rect.unit (s := S7168x18432) (k0_off16 k) S256x4608.size hh) hs = wblk (Ring.bk 28 (k + 2)) 0 := wblk_congr (k0_off16_eq k h) _ _

@[sl_canon] theorem cn84 (k : Fin k0_t1_loop.trips) (h : k.val + 2 < 28) (hh hs) :
    wM.slice (Rect.unit (s := S7168x18432) (k0_off21 k) S256x4608.size hh) hs = wblk (Ring.bk 28 (k + 2)) 1 := wblk_congr (k0_off21_eq k h) _ _

@[sl_canon] theorem cn85 (k : Fin k0_t1_loop.trips) (h : k.val + 2 < 28) (hh hs) :
    wM.slice (Rect.unit (s := S7168x18432) (k0_off26 k) S256x4608.size hh) hs = wblk (Ring.bk 28 (k + 2)) 2 := wblk_congr (k0_off26_eq k h) _ _

@[sl_canon] theorem cn86 (k : Fin k0_t1_loop.trips) (h : k.val + 2 < 28) (hh hs) :
    wM.slice (Rect.unit (s := S7168x18432) (k0_off35 k) S256x4608.size hh) hs = wblk (Ring.bk 28 (k + 2)) 3 := wblk_congr (k0_off35_eq k h) _ _

@[sl_canon] theorem cn87 (k : Fin k0_t1_loop.trips) (h : 1 ≤ k.val) (hh hs) :
    wcM.slice (Rect.unit (s := S7168x18432) (k0_off4 k) S256x4608.size hh) hs = wcblk (Ring.bk 28 (k - 1)) 0 := wcblk_congr (k0_off4_eq k h) _ _

@[sl_canon] theorem cn88 (k : Fin k0_t1_loop.trips) (h : 1 ≤ k.val) (hh hs) :
    wcM.slice (Rect.unit (s := S7168x18432) (k0_off18 k) S256x4608.size hh) hs = wcblk (Ring.bk 28 (k - 1)) 1 := wcblk_congr (k0_off18_eq k h) _ _

@[sl_canon] theorem cn89 (k : Fin k0_t1_loop.trips) (h : 1 ≤ k.val) (hh hs) :
    wcM.slice (Rect.unit (s := S7168x18432) (k0_off23 k) S256x4608.size hh) hs = wcblk (Ring.bk 28 (k - 1)) 2 := wcblk_congr (k0_off23_eq k h) _ _

@[sl_canon] theorem cn90 (k : Fin k0_t1_loop.trips) (h : 1 ≤ k.val) (hh hs) :
    wcM.slice (Rect.unit (s := S7168x18432) (k0_off28 k) S256x4608.size hh) hs = wcblk (Ring.bk 28 (k - 1)) 3 := wcblk_congr (k0_off28_eq k h) _ _

@[sl_canon] theorem cn91 (k : Fin k0_t1_loop.trips) (h : 2 ≤ k.val) (hh) :
    (cc0_scratch9.slice (Rect.unit (s := S2) (k0_off29 k) S1.size hh)).squeeze S_ squeezes_S1_S_ = xsem (par k) := xsem_congr (k0_off29_eq k h) _

@[sl_canon] theorem cn92 (k : Fin k0_t1_loop.trips) (h : 2 ≤ k.val) (hh hs) :
    dxM.slice (Rect.unit (s := S256x7168) (k0_off30 k) S256x256.size hh) hs = dxblk (Ring.bk 28 (k - 2)) := dxblk_congr (k0_off30_eq k h) _ _

@[sl_canon] theorem cn93 (k : Fin k0_t1_loop.trips) (h : 2 ≤ k.val) (hh hs) :
    (xbM.slice (Rect.unit (s := S2x256x256) (k0_off31 k) S1x256x256.size hh) hs).squeeze S256x256 squeezes_S1x256x256_S256x256 = xslot (par k) := xslot_congr (k0_off31_eq k h) _ _

@[sl_canon] theorem cn94 (k : Fin k0_t1_loop.trips) (hh) :
    (cc0_scratch9.slice (Rect.unit (s := S2) (k0_off36 k) S1.size hh)).squeeze S_ squeezes_S1_S_ = xsem (par k) := xsem_congr (k0_off36_eq k) _

@[sl_canon] theorem cn95 (k : Fin k0_t1_loop.trips) (hh hs) :
    dxM.slice (Rect.unit (s := S256x7168) (k0_off37 k) S256x256.size hh) hs = dxblk (Ring.bk 28 k) := dxblk_congr (k0_off37_eq k) _ _

@[sl_canon] theorem cn96 (k : Fin k0_t1_loop.trips) (hh hs) :
    (xbM.slice (Rect.unit (s := S2x256x256) (k0_off38 k) S1x256x256.size hh) hs).squeeze S256x256 squeezes_S1x256x256_S256x256 = xslot (par k) := xslot_congr (k0_off38_eq k) _ _

/-! ## The windows the loop reads and writes through the whole buffers -/

instance (k : Fin k0_t1_loop.trips) : ClosedOff (k0_off32 k) := ⟨off2 (par k), k0_off32_eq k⟩

section
variable (k : Fin k0_t1_loop.trips)

theorem k0_off5_eq_0 : k0_off5 k 0#32 = ![4 * (par k).val + 0, 0, 0] := by
  revert k; decide +kernel

instance : ClosedOff (k0_off5 k 0#32) := ⟨![4 * (par k).val + 0, 0, 0], k0_off5_eq_0 k⟩

theorem k0_off5_eq_1 : k0_off5 k 1#32 = ![4 * (par k).val + 1, 0, 0] := by
  revert k; decide +kernel

instance : ClosedOff (k0_off5 k 1#32) := ⟨![4 * (par k).val + 1, 0, 0], k0_off5_eq_1 k⟩

theorem k0_off5_eq_2 : k0_off5 k 2#32 = ![4 * (par k).val + 2, 0, 0] := by
  revert k; decide +kernel

instance : ClosedOff (k0_off5 k 2#32) := ⟨![4 * (par k).val + 2, 0, 0], k0_off5_eq_2 k⟩

theorem k0_off5_eq_3 : k0_off5 k 3#32 = ![4 * (par k).val + 3, 0, 0] := by
  revert k; decide +kernel

instance : ClosedOff (k0_off5 k 3#32) := ⟨![4 * (par k).val + 3, 0, 0], k0_off5_eq_3 k⟩

theorem k0_off6_eq_0 : k0_off6 k 0#32 = ![4 * (par k).val + 0, 0, 512] := by
  revert k; decide +kernel

instance : ClosedOff (k0_off6 k 0#32) := ⟨![4 * (par k).val + 0, 0, 512], k0_off6_eq_0 k⟩

theorem k0_off6_eq_1 : k0_off6 k 1#32 = ![4 * (par k).val + 1, 0, 512] := by
  revert k; decide +kernel

instance : ClosedOff (k0_off6 k 1#32) := ⟨![4 * (par k).val + 1, 0, 512], k0_off6_eq_1 k⟩

theorem k0_off6_eq_2 : k0_off6 k 2#32 = ![4 * (par k).val + 2, 0, 512] := by
  revert k; decide +kernel

instance : ClosedOff (k0_off6 k 2#32) := ⟨![4 * (par k).val + 2, 0, 512], k0_off6_eq_2 k⟩

theorem k0_off6_eq_3 : k0_off6 k 3#32 = ![4 * (par k).val + 3, 0, 512] := by
  revert k; decide +kernel

instance : ClosedOff (k0_off6 k 3#32) := ⟨![4 * (par k).val + 3, 0, 512], k0_off6_eq_3 k⟩

theorem k0_off7_eq_0 : k0_off7 k 0#32 = ![4 * (par k).val + 0, 0, 1024] := by
  revert k; decide +kernel

instance : ClosedOff (k0_off7 k 0#32) := ⟨![4 * (par k).val + 0, 0, 1024], k0_off7_eq_0 k⟩

theorem k0_off7_eq_1 : k0_off7 k 1#32 = ![4 * (par k).val + 1, 0, 1024] := by
  revert k; decide +kernel

instance : ClosedOff (k0_off7 k 1#32) := ⟨![4 * (par k).val + 1, 0, 1024], k0_off7_eq_1 k⟩

theorem k0_off7_eq_2 : k0_off7 k 2#32 = ![4 * (par k).val + 2, 0, 1024] := by
  revert k; decide +kernel

instance : ClosedOff (k0_off7 k 2#32) := ⟨![4 * (par k).val + 2, 0, 1024], k0_off7_eq_2 k⟩

theorem k0_off7_eq_3 : k0_off7 k 3#32 = ![4 * (par k).val + 3, 0, 1024] := by
  revert k; decide +kernel

instance : ClosedOff (k0_off7 k 3#32) := ⟨![4 * (par k).val + 3, 0, 1024], k0_off7_eq_3 k⟩

theorem k0_off8_eq_0 : k0_off8 k 0#32 = ![4 * (par k).val + 0, 0, 1536] := by
  revert k; decide +kernel

instance : ClosedOff (k0_off8 k 0#32) := ⟨![4 * (par k).val + 0, 0, 1536], k0_off8_eq_0 k⟩

theorem k0_off8_eq_1 : k0_off8 k 1#32 = ![4 * (par k).val + 1, 0, 1536] := by
  revert k; decide +kernel

instance : ClosedOff (k0_off8 k 1#32) := ⟨![4 * (par k).val + 1, 0, 1536], k0_off8_eq_1 k⟩

theorem k0_off8_eq_2 : k0_off8 k 2#32 = ![4 * (par k).val + 2, 0, 1536] := by
  revert k; decide +kernel

instance : ClosedOff (k0_off8 k 2#32) := ⟨![4 * (par k).val + 2, 0, 1536], k0_off8_eq_2 k⟩

theorem k0_off8_eq_3 : k0_off8 k 3#32 = ![4 * (par k).val + 3, 0, 1536] := by
  revert k; decide +kernel

instance : ClosedOff (k0_off8 k 3#32) := ⟨![4 * (par k).val + 3, 0, 1536], k0_off8_eq_3 k⟩

theorem k0_off9_eq_0 : k0_off9 k 0#32 = ![4 * (par k).val + 0, 0, 2048] := by
  revert k; decide +kernel

instance : ClosedOff (k0_off9 k 0#32) := ⟨![4 * (par k).val + 0, 0, 2048], k0_off9_eq_0 k⟩

theorem k0_off9_eq_1 : k0_off9 k 1#32 = ![4 * (par k).val + 1, 0, 2048] := by
  revert k; decide +kernel

instance : ClosedOff (k0_off9 k 1#32) := ⟨![4 * (par k).val + 1, 0, 2048], k0_off9_eq_1 k⟩

theorem k0_off9_eq_2 : k0_off9 k 2#32 = ![4 * (par k).val + 2, 0, 2048] := by
  revert k; decide +kernel

instance : ClosedOff (k0_off9 k 2#32) := ⟨![4 * (par k).val + 2, 0, 2048], k0_off9_eq_2 k⟩

theorem k0_off9_eq_3 : k0_off9 k 3#32 = ![4 * (par k).val + 3, 0, 2048] := by
  revert k; decide +kernel

instance : ClosedOff (k0_off9 k 3#32) := ⟨![4 * (par k).val + 3, 0, 2048], k0_off9_eq_3 k⟩

theorem k0_off10_eq_0 : k0_off10 k 0#32 = ![4 * (par k).val + 0, 0, 2560] := by
  revert k; decide +kernel

instance : ClosedOff (k0_off10 k 0#32) := ⟨![4 * (par k).val + 0, 0, 2560], k0_off10_eq_0 k⟩

theorem k0_off10_eq_1 : k0_off10 k 1#32 = ![4 * (par k).val + 1, 0, 2560] := by
  revert k; decide +kernel

instance : ClosedOff (k0_off10 k 1#32) := ⟨![4 * (par k).val + 1, 0, 2560], k0_off10_eq_1 k⟩

theorem k0_off10_eq_2 : k0_off10 k 2#32 = ![4 * (par k).val + 2, 0, 2560] := by
  revert k; decide +kernel

instance : ClosedOff (k0_off10 k 2#32) := ⟨![4 * (par k).val + 2, 0, 2560], k0_off10_eq_2 k⟩

theorem k0_off10_eq_3 : k0_off10 k 3#32 = ![4 * (par k).val + 3, 0, 2560] := by
  revert k; decide +kernel

instance : ClosedOff (k0_off10 k 3#32) := ⟨![4 * (par k).val + 3, 0, 2560], k0_off10_eq_3 k⟩

theorem k0_off11_eq_0 : k0_off11 k 0#32 = ![4 * (par k).val + 0, 0, 3072] := by
  revert k; decide +kernel

instance : ClosedOff (k0_off11 k 0#32) := ⟨![4 * (par k).val + 0, 0, 3072], k0_off11_eq_0 k⟩

theorem k0_off11_eq_1 : k0_off11 k 1#32 = ![4 * (par k).val + 1, 0, 3072] := by
  revert k; decide +kernel

instance : ClosedOff (k0_off11 k 1#32) := ⟨![4 * (par k).val + 1, 0, 3072], k0_off11_eq_1 k⟩

theorem k0_off11_eq_2 : k0_off11 k 2#32 = ![4 * (par k).val + 2, 0, 3072] := by
  revert k; decide +kernel

instance : ClosedOff (k0_off11 k 2#32) := ⟨![4 * (par k).val + 2, 0, 3072], k0_off11_eq_2 k⟩

theorem k0_off11_eq_3 : k0_off11 k 3#32 = ![4 * (par k).val + 3, 0, 3072] := by
  revert k; decide +kernel

instance : ClosedOff (k0_off11 k 3#32) := ⟨![4 * (par k).val + 3, 0, 3072], k0_off11_eq_3 k⟩

theorem k0_off12_eq_0 : k0_off12 k 0#32 = ![4 * (par k).val + 0, 0, 3584] := by
  revert k; decide +kernel

instance : ClosedOff (k0_off12 k 0#32) := ⟨![4 * (par k).val + 0, 0, 3584], k0_off12_eq_0 k⟩

theorem k0_off12_eq_1 : k0_off12 k 1#32 = ![4 * (par k).val + 1, 0, 3584] := by
  revert k; decide +kernel

instance : ClosedOff (k0_off12 k 1#32) := ⟨![4 * (par k).val + 1, 0, 3584], k0_off12_eq_1 k⟩

theorem k0_off12_eq_2 : k0_off12 k 2#32 = ![4 * (par k).val + 2, 0, 3584] := by
  revert k; decide +kernel

instance : ClosedOff (k0_off12 k 2#32) := ⟨![4 * (par k).val + 2, 0, 3584], k0_off12_eq_2 k⟩

theorem k0_off12_eq_3 : k0_off12 k 3#32 = ![4 * (par k).val + 3, 0, 3584] := by
  revert k; decide +kernel

instance : ClosedOff (k0_off12 k 3#32) := ⟨![4 * (par k).val + 3, 0, 3584], k0_off12_eq_3 k⟩

theorem k0_off13_eq_0 : k0_off13 k 0#32 = ![4 * (par k).val + 0, 0, 4096] := by
  revert k; decide +kernel

instance : ClosedOff (k0_off13 k 0#32) := ⟨![4 * (par k).val + 0, 0, 4096], k0_off13_eq_0 k⟩

theorem k0_off13_eq_1 : k0_off13 k 1#32 = ![4 * (par k).val + 1, 0, 4096] := by
  revert k; decide +kernel

instance : ClosedOff (k0_off13 k 1#32) := ⟨![4 * (par k).val + 1, 0, 4096], k0_off13_eq_1 k⟩

theorem k0_off13_eq_2 : k0_off13 k 2#32 = ![4 * (par k).val + 2, 0, 4096] := by
  revert k; decide +kernel

instance : ClosedOff (k0_off13 k 2#32) := ⟨![4 * (par k).val + 2, 0, 4096], k0_off13_eq_2 k⟩

theorem k0_off13_eq_3 : k0_off13 k 3#32 = ![4 * (par k).val + 3, 0, 4096] := by
  revert k; decide +kernel

instance : ClosedOff (k0_off13 k 3#32) := ⟨![4 * (par k).val + 3, 0, 4096], k0_off13_eq_3 k⟩

end

/-! ## The conditions at trip `k` -/

section
variable (k : Fin k0_t1_loop.trips)

theorem cond1_pos (h : 1 ≤ k.val) : k0_cond1 k = 1#1 := by revert h; revert k; decide +kernel

theorem cond1_neg (h : ¬ 1 ≤ k.val) : k0_cond1 k = 0#1 := by revert h; revert k; decide +kernel

theorem cond3_pos (h : 1 ≤ k.val) : k0_cond3 k = 1#1 := by revert h; revert k; decide +kernel

theorem cond3_neg (h : ¬ 1 ≤ k.val) : k0_cond3 k = 0#1 := by revert h; revert k; decide +kernel

theorem cond5_pos (h : 1 ≤ k.val) : k0_cond5 k = 1#1 := by revert h; revert k; decide +kernel

theorem cond5_neg (h : ¬ 1 ≤ k.val) : k0_cond5 k = 0#1 := by revert h; revert k; decide +kernel

theorem cond7_pos (h : 1 ≤ k.val) : k0_cond7 k = 1#1 := by revert h; revert k; decide +kernel

theorem cond7_neg (h : ¬ 1 ≤ k.val) : k0_cond7 k = 0#1 := by revert h; revert k; decide +kernel

theorem cond2_pos (h : k.val + 2 < 28) : k0_cond2 k = 1#1 := by revert h; revert k; decide +kernel

theorem cond2_neg (h : ¬ k.val + 2 < 28) : k0_cond2 k = 0#1 := by revert h; revert k; decide +kernel

theorem cond4_pos (h : k.val + 2 < 28) : k0_cond4 k = 1#1 := by revert h; revert k; decide +kernel

theorem cond4_neg (h : ¬ k.val + 2 < 28) : k0_cond4 k = 0#1 := by revert h; revert k; decide +kernel

theorem cond6_pos (h : k.val + 2 < 28) : k0_cond6 k = 1#1 := by revert h; revert k; decide +kernel

theorem cond6_neg (h : ¬ k.val + 2 < 28) : k0_cond6 k = 0#1 := by revert h; revert k; decide +kernel

theorem cond9_pos (h : k.val + 2 < 28) : k0_cond9 k = 1#1 := by revert h; revert k; decide +kernel

theorem cond9_neg (h : ¬ k.val + 2 < 28) : k0_cond9 k = 0#1 := by revert h; revert k; decide +kernel

theorem cond8_pos (h : 2 ≤ k.val) : k0_cond8 k = 1#1 := by revert h; revert k; decide +kernel

theorem cond8_neg (h : ¬ 2 ≤ k.val) : k0_cond8 k = 0#1 := by revert h; revert k; decide +kernel

end

end Cert.Proof.KI

end
-- ==== Proof.KI.Pieces.lean ====
module

public import proofs.«01_k».proof.Proof.KI.Names

/-! The pieces the kernel holds between its steps: a block at home, a slot held, a semaphore at zero, a transfer in
    flight. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

variable (c : Dev nD)

/-- The contents of a memory reference's buffer on device `c`. -/
abbrev BufOf {sp s e} (M : Memref sig .tc sp s e) : Type := Buf (Elt F) (M.view.loc (c : Thread nD τ))
/-- A memory reference held whole at contents `f`. -/
abbrev held {sp s e} (M : Memref sig .tc sp s e) (f : BufOf (F := F) c M) : sProp 𝕄 :=
  M.view.loc (c : Thread nD τ) ↦[M.view.set]{fullShare} f
/-- The same, the half of it that stays readable while the other half is lent to a transfer. -/
abbrev heldL {sp s e} (M : Memref sig .tc sp s e) (f : BufOf (F := F) c M) : sProp 𝕄 :=
  M.view.loc (c : Thread nD τ) ↦[M.view.set]{fullShare.left} f
/-- A semaphore at zero. -/
abbrev zero (s : DmaSems sig S_) : sProp 𝕄 := semVal ((c : Thread nD τ), SemLoc.dma s.sem) 0

/-- What a transfer out of `src` leaves in `dst`. -/
abbrev landed {sp sp' s e} (dst : Memref sig .tc sp s e) (src : Memref sig .tc sp' s e) (X : BufOf (F := F) c src)
    (f : BufOf (F := F) c dst) : BufOf (F := F) c dst :=
  dst.view.writes (Elt F) f [⟨Rect.whole s, ReadAs.same.apply (src.view.read (Elt F) X)⟩]

/-- Block `(b, j)` of the second operand at home. -/
abbrev homeW (XW : BufOf (F := F) c wM) (b : Fin 28) (j : Fin 4) : sProp 𝕄 := held c (wblk b j) XW
/-- A block of the second operand in flight into slot `(s, j)`. -/
abbrev flyW (XW : BufOf (F := F) c wM) (s : Fin 2) (j : Fin 4) (b : Fin 28) (f : BufOf (F := F) c (rslot s j)) : sProp 𝕄 :=
  Transfers.Flight countersEmb (c : Thread nD τ) (SemLoc.dma (isem s j).sem) () 73728
    iprop(held c (rslot s j) (landed c (rslot s j) (wblk b j) XW f) ∗ held c (wblk b j) XW)
/-- Slot `j` of the second operand's codes in flight into block `(b, j)`. -/
abbrev flyO (j : Fin 4) (b : Fin 28) (O : BufOf (F := F) c (oslot j)) (f : BufOf (F := F) c (wcblk b j)) : sProp 𝕄 :=
  Transfers.Flight countersEmb (c : Thread nD τ) (SemLoc.dma (osem j).sem) () 36864
    iprop(held c (wcblk b j) (landed c (wcblk b j) (oslot j) O f) ∗ held c (oslot j) O)
/-- Slot `s` of the product's buffer in flight into block `b`. -/
abbrev flyX (s : Fin 2) (b : Fin 28) (O : BufOf (F := F) c (xslot s)) (f : BufOf (F := F) c (dxblk b)) : sProp 𝕄 :=
  Transfers.Flight countersEmb (c : Thread nD τ) (SemLoc.dma (xsem s).sem) () 4096
    iprop(held c (dxblk b) (landed c (dxblk b) (xslot s) O f) ∗ held c (xslot s) O)

end Cert.Proof.KI

end
-- ==== Proof.KI.Model.lean ====
module

public import proofs.«01_k».proof.Proof.KI.Pieces
public import Idealize.ShloMosaic.Lib.ValueLayout

/-! What the kernel computes, one step at a time: the codes of an element, the product of two pieces, the running
    largest magnitude; and what its reads and writes of the buffers are in those terms. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

/-! ## The steps -/

/-- The codes of a piece: scaled by `v` rounded to the operand's format, clipped, cast. -/
def qvec (v : F .f32) (x : FVec F S256x512 .bf16) : FVec F S256x512 .fp8e4m3 :=
  truncf .fp8e4m3 (minimumf (broadcast S256x512 (Scalar.truncf .bf16 bitsLt_bf16_f32 (Scalar.ofBits .f32 0x43E00000#32)))
    (maximumf (broadcast S256x512 (Scalar.truncf .bf16 bitsLt_bf16_f32 (Scalar.ofBits .f32 0xC3E00000#32)))
      (mulf x (truncf .bf16 (broadcast S256x512 v) bitsLt_bf16_f32)))) bitsLt_fp8e4m3_bf16
/-- The code of one element. -/
def qel (v : F .f32) (x : F .bf16) : F .fp8e4m3 := qvec v (fun _ => x) (ix2 (n0 := 256) (n1 := 512) 0 0)
theorem qvec_apply (v : F .f32) (x : FVec F S256x512 .bf16) (i : S256x512.Idx) : qvec v x i = qel v (x i) := rfl
/-- The codes of a piece with a leading axis of one, as the kernel stores them. -/
def qrow (v : F .f32) (x : Vec F S1x256x512 .bf16) : FVec F S1x256x512 .fp8e4m3 :=
  shapeCast S1x256x512 (qvec v (shapeCast S256x512 x shapeCasts_S1x256x512_S256x512)) shapeCasts_S256x512_S1x256x512
theorem qrow_apply (v : F .f32) (x : Vec F S1x256x512 .bf16) (i : Fin 256) (t : Fin 512) :
    qrow v x (ix3 0 i t) = qel v (x (ix3 0 i t)) := by
  unfold qrow
  rw [shapeCast_ab_1ab_apply, qvec_apply, shapeCast_1ab_ab_apply]

/-- The product of a piece of the first operand's codes with a piece of the second's. -/
def mm (v : F .f32) (d : Vec F S1x256x512 .fp8e4m3) (x : Vec F S1x256x512 .bf16) : FVec F S256x256 .f32 :=
  matmul dot_S256x512_S256x512_S256x256_1_1_0_0_n_n none (shapeCast S256x512 d shapeCasts_S1x256x512_S256x512)
    (qvec v (shapeCast S256x512 x shapeCasts_S1x256x512_S256x512)) (constant S256x256 .f32 0x00000000#32)
/-- The sum of the products of pieces `0` to `n`. -/
def part (v : F .f32) (d : ℕ → Vec F S1x256x512 .fp8e4m3) (x : ℕ → Vec F S1x256x512 .bf16) : ℕ → FVec F S256x256 .f32
  | 0 => mm v (d 0) (x 0)
  | n + 1 => addf (part v d x n) (mm v (d (n + 1)) (x (n + 1)))
/-- The block of the product: scaled and cast. -/
def dxPay (s : F .f32) (p : FVec F S256x256 .f32) : FVec F S256x256 .bf16 :=
  truncf .bf16 (mulf p (broadcast S256x256 s)) bitsLt_bf16_f32

/-- The running largest magnitude after a piece. -/
def amStep (r : FVec F S16x512 .bf16) (x : FVec F S256x512 .bf16) : FVec F S16x512 .bf16 :=
  maximumf (maximumf (maximumf (maximumf (maximumf (maximumf (maximumf (maximumf (maximumf (maximumf (maximumf (maximumf (maximumf (maximumf (maximumf (maximumf (r)
    (extractStridedSlice S16x512 ![0, 0] (absf x) slices_S256x512_o0_0_S16x512))
    (extractStridedSlice S16x512 ![16, 0] (absf x) slices_S256x512_o16_0_S16x512))
    (extractStridedSlice S16x512 ![32, 0] (absf x) slices_S256x512_o32_0_S16x512))
    (extractStridedSlice S16x512 ![48, 0] (absf x) slices_S256x512_o48_0_S16x512))
    (extractStridedSlice S16x512 ![64, 0] (absf x) slices_S256x512_o64_0_S16x512))
    (extractStridedSlice S16x512 ![80, 0] (absf x) slices_S256x512_o80_0_S16x512))
    (extractStridedSlice S16x512 ![96, 0] (absf x) slices_S256x512_o96_0_S16x512))
    (extractStridedSlice S16x512 ![112, 0] (absf x) slices_S256x512_o112_0_S16x512))
    (extractStridedSlice S16x512 ![128, 0] (absf x) slices_S256x512_o128_0_S16x512))
    (extractStridedSlice S16x512 ![144, 0] (absf x) slices_S256x512_o144_0_S16x512))
    (extractStridedSlice S16x512 ![160, 0] (absf x) slices_S256x512_o160_0_S16x512))
    (extractStridedSlice S16x512 ![176, 0] (absf x) slices_S256x512_o176_0_S16x512))
    (extractStridedSlice S16x512 ![192, 0] (absf x) slices_S256x512_o192_0_S16x512))
    (extractStridedSlice S16x512 ![208, 0] (absf x) slices_S256x512_o208_0_S16x512))
    (extractStridedSlice S16x512 ![224, 0] (absf x) slices_S256x512_o224_0_S16x512))
    (extractStridedSlice S16x512 ![240, 0] (absf x) slices_S256x512_o240_0_S16x512)
/-- The same after pieces `0` to `n - 1`. -/
def amN (x : ℕ → Vec F S1x256x512 .bf16) (A : FVec F S16x512 .bf16) : ℕ → FVec F S16x512 .bf16
  | 0 => A
  | n + 1 => amStep (amN x A n) (shapeCast S256x512 (x n) shapeCasts_S1x256x512_S256x512)

/-! ## The operands in pieces -/

/-- Piece `t` of the rows of block `b` of the second operand: 512 columns from column `512 t`. -/
def xsub (XW : S7168x18432.Idx → F .bf16) (b t : ℕ) : Vec F S1x256x512 .bf16 := fun i =>
  XW (ix2 (Fin.ofNat 7168 (256 * b + (i 1).val)) (Fin.ofNat 18432 (512 * t + (i 2).val)))
/-- Piece `t` of the first operand's codes. -/
def dsub (YC : S256x18432.Idx → F .fp8e4m3) (t : ℕ) : Vec F S1x256x512 .fp8e4m3 := fun i =>
  YC (ix2 (i 1) (Fin.ofNat 18432 (512 * t + (i 2).val)))
/-- Piece `t` of the first operand. -/
def ysub (XD : S256x18432.Idx → F .bf16) (t : ℕ) : Vec F S1x256x512 .bf16 := fun i =>
  XD (ix2 (i 1) (Fin.ofNat 18432 (512 * t + (i 2).val)))

/-- The codes of the second operand. -/
def WCf (v : F .f32) (XW : S7168x18432.Idx → F .bf16) : S7168x18432.Idx → F .fp8e4m3 := fun i => qel v (XW i)
/-- The codes of the first operand. -/
def YCf (v : F .f32) (XD : S256x18432.Idx → F .bf16) : S256x18432.Idx → F .fp8e4m3 := fun i => qel v (XD i)
/-- The same as the kernel keeps them, in four slots. -/
def DCf (YC : S256x18432.Idx → F .fp8e4m3) : S4x256x4608.Idx → F .fp8e4m3 := fun i =>
  YC (ix2 (i 1) (Fin.ofNat 18432 (4608 * (i 0).val + (i 2).val)))
/-- Block `b` of the product. -/
def dxv (v s : F .f32) (YC : S256x18432.Idx → F .fp8e4m3) (XW : S7168x18432.Idx → F .bf16) (b : ℕ) : FVec F S256x256 .bf16 :=
  dxPay s (part v (dsub YC) (xsub XW b) 35)
/-- The product. -/
def DXf (v s : F .f32) (YC : S256x18432.Idx → F .fp8e4m3) (XW : S7168x18432.Idx → F .bf16) : S256x7168.Idx → F .bf16 := fun i =>
  dxv v s YC XW ((i 1).val / 256) (ix2 (i 0) (Fin.ofNat 256 (i 1).val))
/-- The running largest magnitude of the second operand before block `b`. -/
def amW (XW : S7168x18432.Idx → F .bf16) (A : FVec F S16x512 .bf16) : ℕ → FVec F S16x512 .bf16
  | 0 => A
  | b + 1 => amN (xsub XW b) (amW XW A b) 36

/-! ## Where the pieces lie -/

section Emb

theorem rslot_emb (s : Fin 2) (j : Fin 4) (a : Fin 256) (b : Fin 4608) :
    (rslot s j).view.emb (ix2 a b) = (ix3 (⟨4 * s.val + j.val, by omega⟩ : Fin 8) a b : S8x256x4608.Idx) := by
  have h := shapeCast_1ab_ab_apply (a := 256) (b := 4608)
    (fun y : S1x256x4608.Idx => (Rect.unit (s := S8x256x4608) (off8 s j) S1x256x4608.size (off8_inb s j)).emb y) (by decide) a b
  refine Eq.trans h ?_
  funext r; refine Fin.ext ?_
  fin_cases r
  · show 4 * s.val + j.val + 1 * 0 = 4 * s.val + j.val; omega
  · show 0 + 1 * a.val = a.val; omega
  · show 0 + 1 * b.val = b.val; omega
theorem oslot_emb (j : Fin 4) (a : Fin 256) (b : Fin 4608) :
    (oslot j).view.emb (ix2 a b) = (ix3 j a b : S4x256x4608.Idx) := by
  have h := shapeCast_1ab_ab_apply (a := 256) (b := 4608)
    (fun y : S1x256x4608.Idx => (Rect.unit (s := S4x256x4608) (off4 j) S1x256x4608.size (off4_inb j)).emb y) (by decide) a b
  refine Eq.trans h ?_
  funext r; refine Fin.ext ?_
  fin_cases r
  · show j.val + 1 * 0 = j.val; omega
  · show 0 + 1 * a.val = a.val; omega
  · show 0 + 1 * b.val = b.val; omega
theorem dslot_emb (j : Fin 4) (a : Fin 256) (b : Fin 4608) :
    (dslot j).view.emb (ix2 a b) = (ix3 j a b : S4x256x4608.Idx) := by
  have h := shapeCast_1ab_ab_apply (a := 256) (b := 4608)
    (fun y : S1x256x4608.Idx => (Rect.unit (s := S4x256x4608) (off4 j) S1x256x4608.size (off4_inb j)).emb y) (by decide) a b
  refine Eq.trans h ?_
  funext r; refine Fin.ext ?_
  fin_cases r
  · show j.val + 1 * 0 = j.val; omega
  · show 0 + 1 * a.val = a.val; omega
  · show 0 + 1 * b.val = b.val; omega
theorem xslot_emb (s : Fin 2) (a : Fin 256) (b : Fin 256) :
    (xslot s).view.emb (ix2 a b) = (ix3 s a b : S2x256x256.Idx) := by
  have h := shapeCast_1ab_ab_apply (a := 256) (b := 256)
    (fun y : S1x256x256.Idx => (Rect.unit (s := S2x256x256) (off2 s) S1x256x256.size (off2_inb s)).emb y) shapeCasts_S1x256x256_S256x256 a b
  refine Eq.trans h ?_
  funext r; refine Fin.ext ?_
  fin_cases r
  · show s.val + 1 * 0 = s.val; omega
  · show 0 + 1 * a.val = a.val; omega
  · show 0 + 1 * b.val = b.val; omega
theorem wblk_emb (n : Fin 28) (j : Fin 4) (a : Fin 256) (b : Fin 4608) :
    (wblk n j).view.emb (ix2 a b) = (ix2 (⟨256 * n.val + a.val, by omega⟩ : Fin 7168) (⟨4608 * j.val + b.val, by omega⟩ : Fin 18432) : S7168x18432.Idx) := by
  funext r; refine Fin.ext ?_
  fin_cases r
  · show 256 * n.val + 1 * a.val = 256 * n.val + a.val; omega
  · show 4608 * j.val + 1 * b.val = 4608 * j.val + b.val; omega
theorem wcblk_emb (n : Fin 28) (j : Fin 4) (a : Fin 256) (b : Fin 4608) :
    (wcblk n j).view.emb (ix2 a b) = (ix2 (⟨256 * n.val + a.val, by omega⟩ : Fin 7168) (⟨4608 * j.val + b.val, by omega⟩ : Fin 18432) : S7168x18432.Idx) := by
  funext r; refine Fin.ext ?_
  fin_cases r
  · show 256 * n.val + 1 * a.val = 256 * n.val + a.val; omega
  · show 4608 * j.val + 1 * b.val = 4608 * j.val + b.val; omega
theorem dyblk_emb (j : Fin 4) (a : Fin 256) (b : Fin 4608) :
    (dyblk j).view.emb (ix2 a b) = (ix2 a (⟨4608 * j.val + b.val, by omega⟩ : Fin 18432) : S256x18432.Idx) := by
  funext r; refine Fin.ext ?_
  fin_cases r
  · show 0 + 1 * a.val = a.val; omega
  · show 4608 * j.val + 1 * b.val = 4608 * j.val + b.val; omega
theorem dycblk_emb (j : Fin 4) (a : Fin 256) (b : Fin 4608) :
    (dycblk j).view.emb (ix2 a b) = (ix2 a (⟨4608 * j.val + b.val, by omega⟩ : Fin 18432) : S256x18432.Idx) := by
  funext r; refine Fin.ext ?_
  fin_cases r
  · show 0 + 1 * a.val = a.val; omega
  · show 4608 * j.val + 1 * b.val = 4608 * j.val + b.val; omega
theorem dxblk_emb (n : Fin 28) (a : Fin 256) (b : Fin 256) :
    (dxblk n).view.emb (ix2 a b) = (ix2 a (⟨256 * n.val + b.val, by omega⟩ : Fin 7168) : S256x7168.Idx) := by
  funext r; refine Fin.ext ?_
  fin_cases r
  · show 0 + 1 * a.val = a.val; omega
  · show 256 * n.val + 1 * b.val = 256 * n.val + b.val; omega

end Emb

end Cert.Proof.KI

end
-- ==== Proof.KI.Reads.lean ====
module

public import proofs.«01_k».proof.Proof.KI.Model

/-! What a trip loads, stores and sends, in terms of the steps of the model. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

variable (c : Dev nD)

/-! ## Loads -/

/-- A load of a piece of slot `(s, j)` after block `(b, j)` landed in it. -/
def rd (off : Fin 3 → Nat) (hh : ∀ a, off a + S1x256x512.size a ≤ S8x256x4608.size a) (s : Fin 2) (b : Fin 28) (j : Fin 4)
    (XW : BufOf (F := F) c wM) : Vec F S1x256x512 .bf16 :=
  View.readAt (Elt F) inM.view (Rect.unit (s := S8x256x4608) off S1x256x512.size hh).toLoadRect
    ((rslot s j).view.writes (Elt F) (rslot s j).view.junk [⟨Rect.whole S256x4608, ReadAs.same.apply ((wblk b j).view.read (Elt F) XW)⟩])

/-- A buffer after the whole of a piece of it is written, at an index of the piece. -/
theorem writes_whole_emb {κ} {sp} {s : Shape} {e} (v : View sig κ sp s e) (f : v.ty.Contents (Elt F)) (p : s.Idx → Elt F e)
    (L : List (View.Piece (Elt F) s e)) (x : s.Idx) :
    v.writes (Elt F) f (⟨Rect.whole s, p⟩ :: L) (v.emb x) = _root_.cast (congrArg (Elt F) v.elt_eq.symm) (p x) := by
  have h := View.write_emb_of_mem (Val := Elt F) (v := v.slice (Rect.whole s)) (v.writes (Elt F) f L) p (Finset.mem_univ x)
  have he : (v.slice (Rect.whole s)).emb x = v.emb x := congrArg v.emb (Rect.emb_whole_apply _ x)
  rw [he] at h
  exact h

theorem readAt_in (r : Rect S8x256x4608) (g : S8x256x4608.Idx → F .bf16) (i : r.shape.Idx) :
    View.readAt (Elt F) inM.view r.toLoadRect g i = g (r.emb i) := rfl
theorem read_wblk (b : Fin 28) (j : Fin 4) (X : S7168x18432.Idx → F .bf16) (x : S256x4608.Idx) :
    (ReadAs.same.apply ((wblk b j).view.read (Elt F) X) : S256x4608.Idx → F .bf16) x = X ((wblk b j).view.emb x) := rfl

theorem rd_eq (off) (hh) (s : Fin 2) (b : Fin 28) (j : Fin 4) (XW : BufOf (F := F) c wM) (t : ℕ) (ht : t < 9)
    (ho : off = ![4 * s.val + j.val, 0, 512 * t]) : rd c off hh s b j XW = xsub XW b.val (9 * j.val + t) := by
  subst ho
  funext i
  obtain ⟨i0, i1, i2, rfl⟩ : ∃ (i0 : Fin 1) (i1 : Fin 256) (i2 : Fin 512), i = ix3 i0 i1 i2 := ⟨i 0, i 1, i 2, eq_ix3 i⟩
  have hE : (Rect.unit (s := S8x256x4608) ![4 * s.val + j.val, 0, 512 * t] S1x256x512.size hh).emb (ix3 i0 i1 i2)
      = (rslot s j).view.emb (ix2 i1 (⟨512 * t + i2.val, by omega⟩ : Fin 4608)) := by
    rw [rslot_emb]
    funext r; refine Fin.ext ?_
    fin_cases r
    · show 4 * s.val + j.val + 1 * i0.val = 4 * s.val + j.val; omega
    · show 0 + 1 * i1.val = i1.val; omega
    · show 512 * t + 1 * i2.val = 512 * t + i2.val; omega
  unfold rd
  generalize hp : (ReadAs.same.apply ((wblk b j).view.read (Elt F) XW) : S256x4608.Idx → F .bf16) = p
  refine (readAt_in _ _ _).trans ?_
  rw [hE]
  refine (writes_whole_emb (F := F) (rslot s j).view (rslot s j).view.junk p [] _).trans ?_
  subst hp
  refine (read_wblk b j XW _).trans ?_
  rw [wblk_emb]
  refine congrArg XW ?_
  funext r; refine Fin.ext ?_
  fin_cases r
  · show 256 * b.val + i1.val = (256 * b.val + i1.val) % 7168
    rw [Nat.mod_eq_of_lt (by omega)]
  · show 4608 * j.val + (512 * t + i2.val) = (512 * (9 * j.val + t) + i2.val) % 18432
    rw [Nat.mod_eq_of_lt (by omega)]; omega

/-- A load of a piece of the first operand's codes. -/
def rdD (off : Fin 3 → Nat) (hh : ∀ a, off a + S1x256x512.size a ≤ S4x256x4608.size a) (YC : S256x18432.Idx → F .fp8e4m3) : Vec F S1x256x512 .fp8e4m3 :=
  View.readAt (Elt F) dybM.view (Rect.unit (s := S4x256x4608) off S1x256x512.size hh).toLoadRect (DCf YC)
theorem rdD_eq (off) (hh) (YC : S256x18432.Idx → F .fp8e4m3) (j : Fin 4) (t : ℕ) (ht : t < 9) (ho : off = ![j.val, 0, 512 * t]) :
    rdD off hh YC = dsub YC (9 * j.val + t) := by
  subst ho
  funext i
  obtain ⟨i0, i1, i2, rfl⟩ : ∃ (i0 : Fin 1) (i1 : Fin 256) (i2 : Fin 512), i = ix3 i0 i1 i2 := ⟨i 0, i 1, i 2, eq_ix3 i⟩
  show YC (ix2 _ _) = YC (ix2 _ _)
  refine congrArg YC ?_
  funext r; refine Fin.ext ?_
  fin_cases r
  · show 0 + 1 * i1.val = i1.val; omega
  · show (4608 * (j.val + 1 * i0.val) + (512 * t + 1 * i2.val)) % 18432 = (512 * (9 * j.val + t) + i2.val) % 18432
    congr 1; omega

/-- What trip `k` loads of the second operand, in order. -/
def xr (k : Fin k0_t1_loop.trips) (XW : BufOf (F := F) c wM) : ℕ → Vec F S1x256x512 .bf16
  | 0 => rd c (k0_off5 k 0#32) (k0_off5_inb k 0) (par k) (Ring.bk 28 k) 0 XW
  | 1 => rd c (k0_off6 k 0#32) (k0_off6_inb k 0) (par k) (Ring.bk 28 k) 0 XW
  | 2 => rd c (k0_off7 k 0#32) (k0_off7_inb k 0) (par k) (Ring.bk 28 k) 0 XW
  | 3 => rd c (k0_off8 k 0#32) (k0_off8_inb k 0) (par k) (Ring.bk 28 k) 0 XW
  | 4 => rd c (k0_off9 k 0#32) (k0_off9_inb k 0) (par k) (Ring.bk 28 k) 0 XW
  | 5 => rd c (k0_off10 k 0#32) (k0_off10_inb k 0) (par k) (Ring.bk 28 k) 0 XW
  | 6 => rd c (k0_off11 k 0#32) (k0_off11_inb k 0) (par k) (Ring.bk 28 k) 0 XW
  | 7 => rd c (k0_off12 k 0#32) (k0_off12_inb k 0) (par k) (Ring.bk 28 k) 0 XW
  | 8 => rd c (k0_off13 k 0#32) (k0_off13_inb k 0) (par k) (Ring.bk 28 k) 0 XW
  | 9 => rd c (k0_off5 k 1#32) (k0_off5_inb k 1) (par k) (Ring.bk 28 k) 1 XW
  | 10 => rd c (k0_off6 k 1#32) (k0_off6_inb k 1) (par k) (Ring.bk 28 k) 1 XW
  | 11 => rd c (k0_off7 k 1#32) (k0_off7_inb k 1) (par k) (Ring.bk 28 k) 1 XW
  | 12 => rd c (k0_off8 k 1#32) (k0_off8_inb k 1) (par k) (Ring.bk 28 k) 1 XW
  | 13 => rd c (k0_off9 k 1#32) (k0_off9_inb k 1) (par k) (Ring.bk 28 k) 1 XW
  | 14 => rd c (k0_off10 k 1#32) (k0_off10_inb k 1) (par k) (Ring.bk 28 k) 1 XW
  | 15 => rd c (k0_off11 k 1#32) (k0_off11_inb k 1) (par k) (Ring.bk 28 k) 1 XW
  | 16 => rd c (k0_off12 k 1#32) (k0_off12_inb k 1) (par k) (Ring.bk 28 k) 1 XW
  | 17 => rd c (k0_off13 k 1#32) (k0_off13_inb k 1) (par k) (Ring.bk 28 k) 1 XW
  | 18 => rd c (k0_off5 k 2#32) (k0_off5_inb k 2) (par k) (Ring.bk 28 k) 2 XW
  | 19 => rd c (k0_off6 k 2#32) (k0_off6_inb k 2) (par k) (Ring.bk 28 k) 2 XW
  | 20 => rd c (k0_off7 k 2#32) (k0_off7_inb k 2) (par k) (Ring.bk 28 k) 2 XW
  | 21 => rd c (k0_off8 k 2#32) (k0_off8_inb k 2) (par k) (Ring.bk 28 k) 2 XW
  | 22 => rd c (k0_off9 k 2#32) (k0_off9_inb k 2) (par k) (Ring.bk 28 k) 2 XW
  | 23 => rd c (k0_off10 k 2#32) (k0_off10_inb k 2) (par k) (Ring.bk 28 k) 2 XW
  | 24 => rd c (k0_off11 k 2#32) (k0_off11_inb k 2) (par k) (Ring.bk 28 k) 2 XW
  | 25 => rd c (k0_off12 k 2#32) (k0_off12_inb k 2) (par k) (Ring.bk 28 k) 2 XW
  | 26 => rd c (k0_off13 k 2#32) (k0_off13_inb k 2) (par k) (Ring.bk 28 k) 2 XW
  | 27 => rd c (k0_off5 k 3#32) (k0_off5_inb k 3) (par k) (Ring.bk 28 k) 3 XW
  | 28 => rd c (k0_off6 k 3#32) (k0_off6_inb k 3) (par k) (Ring.bk 28 k) 3 XW
  | 29 => rd c (k0_off7 k 3#32) (k0_off7_inb k 3) (par k) (Ring.bk 28 k) 3 XW
  | 30 => rd c (k0_off8 k 3#32) (k0_off8_inb k 3) (par k) (Ring.bk 28 k) 3 XW
  | 31 => rd c (k0_off9 k 3#32) (k0_off9_inb k 3) (par k) (Ring.bk 28 k) 3 XW
  | 32 => rd c (k0_off10 k 3#32) (k0_off10_inb k 3) (par k) (Ring.bk 28 k) 3 XW
  | 33 => rd c (k0_off11 k 3#32) (k0_off11_inb k 3) (par k) (Ring.bk 28 k) 3 XW
  | 34 => rd c (k0_off12 k 3#32) (k0_off12_inb k 3) (par k) (Ring.bk 28 k) 3 XW
  | 35 => rd c (k0_off13 k 3#32) (k0_off13_inb k 3) (par k) (Ring.bk 28 k) 3 XW
  | n => xsub XW k.val n
/-- What a trip loads of the first operand's codes, in order. -/
def dr (YC : S256x18432.Idx → F .fp8e4m3) : ℕ → Vec F S1x256x512 .fp8e4m3
  | 0 => rdD ![0, 0, 0] (by decide) YC
  | 1 => rdD ![0, 0, 512] (by decide) YC
  | 2 => rdD ![0, 0, 1024] (by decide) YC
  | 3 => rdD ![0, 0, 1536] (by decide) YC
  | 4 => rdD ![0, 0, 2048] (by decide) YC
  | 5 => rdD ![0, 0, 2560] (by decide) YC
  | 6 => rdD ![0, 0, 3072] (by decide) YC
  | 7 => rdD ![0, 0, 3584] (by decide) YC
  | 8 => rdD ![0, 0, 4096] (by decide) YC
  | 9 => rdD ![1, 0, 0] (by decide) YC
  | 10 => rdD ![1, 0, 512] (by decide) YC
  | 11 => rdD ![1, 0, 1024] (by decide) YC
  | 12 => rdD ![1, 0, 1536] (by decide) YC
  | 13 => rdD ![1, 0, 2048] (by decide) YC
  | 14 => rdD ![1, 0, 2560] (by decide) YC
  | 15 => rdD ![1, 0, 3072] (by decide) YC
  | 16 => rdD ![1, 0, 3584] (by decide) YC
  | 17 => rdD ![1, 0, 4096] (by decide) YC
  | 18 => rdD ![2, 0, 0] (by decide) YC
  | 19 => rdD ![2, 0, 512] (by decide) YC
  | 20 => rdD ![2, 0, 1024] (by decide) YC
  | 21 => rdD ![2, 0, 1536] (by decide) YC
  | 22 => rdD ![2, 0, 2048] (by decide) YC
  | 23 => rdD ![2, 0, 2560] (by decide) YC
  | 24 => rdD ![2, 0, 3072] (by decide) YC
  | 25 => rdD ![2, 0, 3584] (by decide) YC
  | 26 => rdD ![2, 0, 4096] (by decide) YC
  | 27 => rdD ![3, 0, 0] (by decide) YC
  | 28 => rdD ![3, 0, 512] (by decide) YC
  | 29 => rdD ![3, 0, 1024] (by decide) YC
  | 30 => rdD ![3, 0, 1536] (by decide) YC
  | 31 => rdD ![3, 0, 2048] (by decide) YC
  | 32 => rdD ![3, 0, 2560] (by decide) YC
  | 33 => rdD ![3, 0, 3072] (by decide) YC
  | 34 => rdD ![3, 0, 3584] (by decide) YC
  | 35 => rdD ![3, 0, 4096] (by decide) YC
  | n => dsub YC n

theorem xr_eq (k : Fin k0_t1_loop.trips) (XW : BufOf (F := F) c wM) : xr c k XW = xsub XW k.val := by
  have hb : (Ring.bk 28 k.val).val = k.val := Ring.bk_val (k_lt k)
  funext n
  match n with
  | 0 => exact (rd_eq c _ _ (par k) (Ring.bk 28 k) 0 XW 0 (by decide) (k0_off5_eq_0 k)).trans (congrArg (fun b => xsub XW b 0) hb)
  | 1 => exact (rd_eq c _ _ (par k) (Ring.bk 28 k) 0 XW 1 (by decide) (k0_off6_eq_0 k)).trans (congrArg (fun b => xsub XW b 1) hb)
  | 2 => exact (rd_eq c _ _ (par k) (Ring.bk 28 k) 0 XW 2 (by decide) (k0_off7_eq_0 k)).trans (congrArg (fun b => xsub XW b 2) hb)
  | 3 => exact (rd_eq c _ _ (par k) (Ring.bk 28 k) 0 XW 3 (by decide) (k0_off8_eq_0 k)).trans (congrArg (fun b => xsub XW b 3) hb)
  | 4 => exact (rd_eq c _ _ (par k) (Ring.bk 28 k) 0 XW 4 (by decide) (k0_off9_eq_0 k)).trans (congrArg (fun b => xsub XW b 4) hb)
  | 5 => exact (rd_eq c _ _ (par k) (Ring.bk 28 k) 0 XW 5 (by decide) (k0_off10_eq_0 k)).trans (congrArg (fun b => xsub XW b 5) hb)
  | 6 => exact (rd_eq c _ _ (par k) (Ring.bk 28 k) 0 XW 6 (by decide) (k0_off11_eq_0 k)).trans (congrArg (fun b => xsub XW b 6) hb)
  | 7 => exact (rd_eq c _ _ (par k) (Ring.bk 28 k) 0 XW 7 (by decide) (k0_off12_eq_0 k)).trans (congrArg (fun b => xsub XW b 7) hb)
  | 8 => exact (rd_eq c _ _ (par k) (Ring.bk 28 k) 0 XW 8 (by decide) (k0_off13_eq_0 k)).trans (congrArg (fun b => xsub XW b 8) hb)
  | 9 => exact (rd_eq c _ _ (par k) (Ring.bk 28 k) 1 XW 0 (by decide) (k0_off5_eq_1 k)).trans (congrArg (fun b => xsub XW b 9) hb)
  | 10 => exact (rd_eq c _ _ (par k) (Ring.bk 28 k) 1 XW 1 (by decide) (k0_off6_eq_1 k)).trans (congrArg (fun b => xsub XW b 10) hb)
  | 11 => exact (rd_eq c _ _ (par k) (Ring.bk 28 k) 1 XW 2 (by decide) (k0_off7_eq_1 k)).trans (congrArg (fun b => xsub XW b 11) hb)
  | 12 => exact (rd_eq c _ _ (par k) (Ring.bk 28 k) 1 XW 3 (by decide) (k0_off8_eq_1 k)).trans (congrArg (fun b => xsub XW b 12) hb)
  | 13 => exact (rd_eq c _ _ (par k) (Ring.bk 28 k) 1 XW 4 (by decide) (k0_off9_eq_1 k)).trans (congrArg (fun b => xsub XW b 13) hb)
  | 14 => exact (rd_eq c _ _ (par k) (Ring.bk 28 k) 1 XW 5 (by decide) (k0_off10_eq_1 k)).trans (congrArg (fun b => xsub XW b 14) hb)
  | 15 => exact (rd_eq c _ _ (par k) (Ring.bk 28 k) 1 XW 6 (by decide) (k0_off11_eq_1 k)).trans (congrArg (fun b => xsub XW b 15) hb)
  | 16 => exact (rd_eq c _ _ (par k) (Ring.bk 28 k) 1 XW 7 (by decide) (k0_off12_eq_1 k)).trans (congrArg (fun b => xsub XW b 16) hb)
  | 17 => exact (rd_eq c _ _ (par k) (Ring.bk 28 k) 1 XW 8 (by decide) (k0_off13_eq_1 k)).trans (congrArg (fun b => xsub XW b 17) hb)
  | 18 => exact (rd_eq c _ _ (par k) (Ring.bk 28 k) 2 XW 0 (by decide) (k0_off5_eq_2 k)).trans (congrArg (fun b => xsub XW b 18) hb)
  | 19 => exact (rd_eq c _ _ (par k) (Ring.bk 28 k) 2 XW 1 (by decide) (k0_off6_eq_2 k)).trans (congrArg (fun b => xsub XW b 19) hb)
  | 20 => exact (rd_eq c _ _ (par k) (Ring.bk 28 k) 2 XW 2 (by decide) (k0_off7_eq_2 k)).trans (congrArg (fun b => xsub XW b 20) hb)
  | 21 => exact (rd_eq c _ _ (par k) (Ring.bk 28 k) 2 XW 3 (by decide) (k0_off8_eq_2 k)).trans (congrArg (fun b => xsub XW b 21) hb)
  | 22 => exact (rd_eq c _ _ (par k) (Ring.bk 28 k) 2 XW 4 (by decide) (k0_off9_eq_2 k)).trans (congrArg (fun b => xsub XW b 22) hb)
  | 23 => exact (rd_eq c _ _ (par k) (Ring.bk 28 k) 2 XW 5 (by decide) (k0_off10_eq_2 k)).trans (congrArg (fun b => xsub XW b 23) hb)
  | 24 => exact (rd_eq c _ _ (par k) (Ring.bk 28 k) 2 XW 6 (by decide) (k0_off11_eq_2 k)).trans (congrArg (fun b => xsub XW b 24) hb)
  | 25 => exact (rd_eq c _ _ (par k) (Ring.bk 28 k) 2 XW 7 (by decide) (k0_off12_eq_2 k)).trans (congrArg (fun b => xsub XW b 25) hb)
  | 26 => exact (rd_eq c _ _ (par k) (Ring.bk 28 k) 2 XW 8 (by decide) (k0_off13_eq_2 k)).trans (congrArg (fun b => xsub XW b 26) hb)
  | 27 => exact (rd_eq c _ _ (par k) (Ring.bk 28 k) 3 XW 0 (by decide) (k0_off5_eq_3 k)).trans (congrArg (fun b => xsub XW b 27) hb)
  | 28 => exact (rd_eq c _ _ (par k) (Ring.bk 28 k) 3 XW 1 (by decide) (k0_off6_eq_3 k)).trans (congrArg (fun b => xsub XW b 28) hb)
  | 29 => exact (rd_eq c _ _ (par k) (Ring.bk 28 k) 3 XW 2 (by decide) (k0_off7_eq_3 k)).trans (congrArg (fun b => xsub XW b 29) hb)
  | 30 => exact (rd_eq c _ _ (par k) (Ring.bk 28 k) 3 XW 3 (by decide) (k0_off8_eq_3 k)).trans (congrArg (fun b => xsub XW b 30) hb)
  | 31 => exact (rd_eq c _ _ (par k) (Ring.bk 28 k) 3 XW 4 (by decide) (k0_off9_eq_3 k)).trans (congrArg (fun b => xsub XW b 31) hb)
  | 32 => exact (rd_eq c _ _ (par k) (Ring.bk 28 k) 3 XW 5 (by decide) (k0_off10_eq_3 k)).trans (congrArg (fun b => xsub XW b 32) hb)
  | 33 => exact (rd_eq c _ _ (par k) (Ring.bk 28 k) 3 XW 6 (by decide) (k0_off11_eq_3 k)).trans (congrArg (fun b => xsub XW b 33) hb)
  | 34 => exact (rd_eq c _ _ (par k) (Ring.bk 28 k) 3 XW 7 (by decide) (k0_off12_eq_3 k)).trans (congrArg (fun b => xsub XW b 34) hb)
  | 35 => exact (rd_eq c _ _ (par k) (Ring.bk 28 k) 3 XW 8 (by decide) (k0_off13_eq_3 k)).trans (congrArg (fun b => xsub XW b 35) hb)
  | n + 36 => rfl
theorem dr_eq (YC : S256x18432.Idx → F .fp8e4m3) : dr YC = dsub YC := by
  funext n
  match n with
  | 0 => exact rdD_eq _ _ YC 0 0 (by decide) rfl
  | 1 => exact rdD_eq _ _ YC 0 1 (by decide) rfl
  | 2 => exact rdD_eq _ _ YC 0 2 (by decide) rfl
  | 3 => exact rdD_eq _ _ YC 0 3 (by decide) rfl
  | 4 => exact rdD_eq _ _ YC 0 4 (by decide) rfl
  | 5 => exact rdD_eq _ _ YC 0 5 (by decide) rfl
  | 6 => exact rdD_eq _ _ YC 0 6 (by decide) rfl
  | 7 => exact rdD_eq _ _ YC 0 7 (by decide) rfl
  | 8 => exact rdD_eq _ _ YC 0 8 (by decide) rfl
  | 9 => exact rdD_eq _ _ YC 1 0 (by decide) rfl
  | 10 => exact rdD_eq _ _ YC 1 1 (by decide) rfl
  | 11 => exact rdD_eq _ _ YC 1 2 (by decide) rfl
  | 12 => exact rdD_eq _ _ YC 1 3 (by decide) rfl
  | 13 => exact rdD_eq _ _ YC 1 4 (by decide) rfl
  | 14 => exact rdD_eq _ _ YC 1 5 (by decide) rfl
  | 15 => exact rdD_eq _ _ YC 1 6 (by decide) rfl
  | 16 => exact rdD_eq _ _ YC 1 7 (by decide) rfl
  | 17 => exact rdD_eq _ _ YC 1 8 (by decide) rfl
  | 18 => exact rdD_eq _ _ YC 2 0 (by decide) rfl
  | 19 => exact rdD_eq _ _ YC 2 1 (by decide) rfl
  | 20 => exact rdD_eq _ _ YC 2 2 (by decide) rfl
  | 21 => exact rdD_eq _ _ YC 2 3 (by decide) rfl
  | 22 => exact rdD_eq _ _ YC 2 4 (by decide) rfl
  | 23 => exact rdD_eq _ _ YC 2 5 (by decide) rfl
  | 24 => exact rdD_eq _ _ YC 2 6 (by decide) rfl
  | 25 => exact rdD_eq _ _ YC 2 7 (by decide) rfl
  | 26 => exact rdD_eq _ _ YC 2 8 (by decide) rfl
  | 27 => exact rdD_eq _ _ YC 3 0 (by decide) rfl
  | 28 => exact rdD_eq _ _ YC 3 1 (by decide) rfl
  | 29 => exact rdD_eq _ _ YC 3 2 (by decide) rfl
  | 30 => exact rdD_eq _ _ YC 3 3 (by decide) rfl
  | 31 => exact rdD_eq _ _ YC 3 4 (by decide) rfl
  | 32 => exact rdD_eq _ _ YC 3 5 (by decide) rfl
  | 33 => exact rdD_eq _ _ YC 3 6 (by decide) rfl
  | 34 => exact rdD_eq _ _ YC 3 7 (by decide) rfl
  | 35 => exact rdD_eq _ _ YC 3 8 (by decide) rfl
  | n + 36 => rfl

/-! The same, each load as it is written. -/
theorem x_0 (k : Fin k0_t1_loop.trips) (XW : BufOf (F := F) c wM) (hh) :
    View.readAt (Elt F) inM.view (Rect.unit (s := S8x256x4608) (k0_off5 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 0 := (congrFun (xr_eq c k XW) 0 : _)
theorem x_1 (k : Fin k0_t1_loop.trips) (XW : BufOf (F := F) c wM) (hh) :
    View.readAt (Elt F) inM.view (Rect.unit (s := S8x256x4608) (k0_off6 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 1 := (congrFun (xr_eq c k XW) 1 : _)
theorem x_2 (k : Fin k0_t1_loop.trips) (XW : BufOf (F := F) c wM) (hh) :
    View.readAt (Elt F) inM.view (Rect.unit (s := S8x256x4608) (k0_off7 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 2 := (congrFun (xr_eq c k XW) 2 : _)
theorem x_3 (k : Fin k0_t1_loop.trips) (XW : BufOf (F := F) c wM) (hh) :
    View.readAt (Elt F) inM.view (Rect.unit (s := S8x256x4608) (k0_off8 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 3 := (congrFun (xr_eq c k XW) 3 : _)
theorem x_4 (k : Fin k0_t1_loop.trips) (XW : BufOf (F := F) c wM) (hh) :
    View.readAt (Elt F) inM.view (Rect.unit (s := S8x256x4608) (k0_off9 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 4 := (congrFun (xr_eq c k XW) 4 : _)
theorem x_5 (k : Fin k0_t1_loop.trips) (XW : BufOf (F := F) c wM) (hh) :
    View.readAt (Elt F) inM.view (Rect.unit (s := S8x256x4608) (k0_off10 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 5 := (congrFun (xr_eq c k XW) 5 : _)
theorem x_6 (k : Fin k0_t1_loop.trips) (XW : BufOf (F := F) c wM) (hh) :
    View.readAt (Elt F) inM.view (Rect.unit (s := S8x256x4608) (k0_off11 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 6 := (congrFun (xr_eq c k XW) 6 : _)
theorem x_7 (k : Fin k0_t1_loop.trips) (XW : BufOf (F := F) c wM) (hh) :
    View.readAt (Elt F) inM.view (Rect.unit (s := S8x256x4608) (k0_off12 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 7 := (congrFun (xr_eq c k XW) 7 : _)
theorem x_8 (k : Fin k0_t1_loop.trips) (XW : BufOf (F := F) c wM) (hh) :
    View.readAt (Elt F) inM.view (Rect.unit (s := S8x256x4608) (k0_off13 k 0#32) S1x256x512.size hh).toLoadRect
      ((rslot (par k) 0).view.writes (Elt F) (rslot (par k) 0).view.junk [⟨Rect.whole S256x4608, ReadAs.same.apply ((wblk (Ring.bk 28 k) 0).view.read (Elt F) XW)⟩])
    = xsub XW k.val 8 := (congrFun (xr_eq c k XW) 8 : _)
theorem x_9 (k : Fin k0_t1_loop.trips) (XW : BufOf (F := F) c wM) (hh) :
    View.readAt (Elt F) inM.view (Rect.unit (s := S8x256x4608) (k0_off5 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 9 := (congrFun (xr_eq c k XW) 9 : _)
theorem x_10 (k : Fin k0_t1_loop.trips) (XW : BufOf (F := F) c wM) (hh) :
    View.readAt (Elt F) inM.view (Rect.unit (s := S8x256x4608) (k0_off6 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 10 := (congrFun (xr_eq c k XW) 10 : _)
theorem x_11 (k : Fin k0_t1_loop.trips) (XW : BufOf (F := F) c wM) (hh) :
    View.readAt (Elt F) inM.view (Rect.unit (s := S8x256x4608) (k0_off7 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 11 := (congrFun (xr_eq c k XW) 11 : _)
theorem x_12 (k : Fin k0_t1_loop.trips) (XW : BufOf (F := F) c wM) (hh) :
    View.readAt (Elt F) inM.view (Rect.unit (s := S8x256x4608) (k0_off8 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 12 := (congrFun (xr_eq c k XW) 12 : _)
theorem x_13 (k : Fin k0_t1_loop.trips) (XW : BufOf (F := F) c wM) (hh) :
    View.readAt (Elt F) inM.view (Rect.unit (s := S8x256x4608) (k0_off9 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 13 := (congrFun (xr_eq c k XW) 13 : _)
theorem x_14 (k : Fin k0_t1_loop.trips) (XW : BufOf (F := F) c wM) (hh) :
    View.readAt (Elt F) inM.view (Rect.unit (s := S8x256x4608) (k0_off10 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 14 := (congrFun (xr_eq c k XW) 14 : _)
theorem x_15 (k : Fin k0_t1_loop.trips) (XW : BufOf (F := F) c wM) (hh) :
    View.readAt (Elt F) inM.view (Rect.unit (s := S8x256x4608) (k0_off11 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 15 := (congrFun (xr_eq c k XW) 15 : _)
theorem x_16 (k : Fin k0_t1_loop.trips) (XW : BufOf (F := F) c wM) (hh) :
    View.readAt (Elt F) inM.view (Rect.unit (s := S8x256x4608) (k0_off12 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 16 := (congrFun (xr_eq c k XW) 16 : _)
theorem x_17 (k : Fin k0_t1_loop.trips) (XW : BufOf (F := F) c wM) (hh) :
    View.readAt (Elt F) inM.view (Rect.unit (s := S8x256x4608) (k0_off13 k 1#32) S1x256x512.size hh).toLoadRect
      ((rslot (par k) 1).view.writes (Elt F) (rslot (par k) 1).view.junk [⟨Rect.whole S256x4608, ReadAs.same.apply ((wblk (Ring.bk 28 k) 1).view.read (Elt F) XW)⟩])
    = xsub XW k.val 17 := (congrFun (xr_eq c k XW) 17 : _)
theorem x_18 (k : Fin k0_t1_loop.trips) (XW : BufOf (F := F) c wM) (hh) :
    View.readAt (Elt F) inM.view (Rect.unit (s := S8x256x4608) (k0_off5 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 18 := (congrFun (xr_eq c k XW) 18 : _)
theorem x_19 (k : Fin k0_t1_loop.trips) (XW : BufOf (F := F) c wM) (hh) :
    View.readAt (Elt F) inM.view (Rect.unit (s := S8x256x4608) (k0_off6 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 19 := (congrFun (xr_eq c k XW) 19 : _)
theorem x_20 (k : Fin k0_t1_loop.trips) (XW : BufOf (F := F) c wM) (hh) :
    View.readAt (Elt F) inM.view (Rect.unit (s := S8x256x4608) (k0_off7 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 20 := (congrFun (xr_eq c k XW) 20 : _)
theorem x_21 (k : Fin k0_t1_loop.trips) (XW : BufOf (F := F) c wM) (hh) :
    View.readAt (Elt F) inM.view (Rect.unit (s := S8x256x4608) (k0_off8 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 21 := (congrFun (xr_eq c k XW) 21 : _)
theorem x_22 (k : Fin k0_t1_loop.trips) (XW : BufOf (F := F) c wM) (hh) :
    View.readAt (Elt F) inM.view (Rect.unit (s := S8x256x4608) (k0_off9 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 22 := (congrFun (xr_eq c k XW) 22 : _)
theorem x_23 (k : Fin k0_t1_loop.trips) (XW : BufOf (F := F) c wM) (hh) :
    View.readAt (Elt F) inM.view (Rect.unit (s := S8x256x4608) (k0_off10 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 23 := (congrFun (xr_eq c k XW) 23 : _)
theorem x_24 (k : Fin k0_t1_loop.trips) (XW : BufOf (F := F) c wM) (hh) :
    View.readAt (Elt F) inM.view (Rect.unit (s := S8x256x4608) (k0_off11 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 24 := (congrFun (xr_eq c k XW) 24 : _)
theorem x_25 (k : Fin k0_t1_loop.trips) (XW : BufOf (F := F) c wM) (hh) :
    View.readAt (Elt F) inM.view (Rect.unit (s := S8x256x4608) (k0_off12 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 25 := (congrFun (xr_eq c k XW) 25 : _)
theorem x_26 (k : Fin k0_t1_loop.trips) (XW : BufOf (F := F) c wM) (hh) :
    View.readAt (Elt F) inM.view (Rect.unit (s := S8x256x4608) (k0_off13 k 2#32) S1x256x512.size hh).toLoadRect
      ((rslot (par k) 2).view.writes (Elt F) (rslot (par k) 2).view.junk [⟨Rect.whole S256x4608, ReadAs.same.apply ((wblk (Ring.bk 28 k) 2).view.read (Elt F) XW)⟩])
    = xsub XW k.val 26 := (congrFun (xr_eq c k XW) 26 : _)
theorem x_27 (k : Fin k0_t1_loop.trips) (XW : BufOf (F := F) c wM) (hh) :
    View.readAt (Elt F) inM.view (Rect.unit (s := S8x256x4608) (k0_off5 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 27 := (congrFun (xr_eq c k XW) 27 : _)
theorem x_28 (k : Fin k0_t1_loop.trips) (XW : BufOf (F := F) c wM) (hh) :
    View.readAt (Elt F) inM.view (Rect.unit (s := S8x256x4608) (k0_off6 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 28 := (congrFun (xr_eq c k XW) 28 : _)
theorem x_29 (k : Fin k0_t1_loop.trips) (XW : BufOf (F := F) c wM) (hh) :
    View.readAt (Elt F) inM.view (Rect.unit (s := S8x256x4608) (k0_off7 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 29 := (congrFun (xr_eq c k XW) 29 : _)
theorem x_30 (k : Fin k0_t1_loop.trips) (XW : BufOf (F := F) c wM) (hh) :
    View.readAt (Elt F) inM.view (Rect.unit (s := S8x256x4608) (k0_off8 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 30 := (congrFun (xr_eq c k XW) 30 : _)
theorem x_31 (k : Fin k0_t1_loop.trips) (XW : BufOf (F := F) c wM) (hh) :
    View.readAt (Elt F) inM.view (Rect.unit (s := S8x256x4608) (k0_off9 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 31 := (congrFun (xr_eq c k XW) 31 : _)
theorem x_32 (k : Fin k0_t1_loop.trips) (XW : BufOf (F := F) c wM) (hh) :
    View.readAt (Elt F) inM.view (Rect.unit (s := S8x256x4608) (k0_off10 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 32 := (congrFun (xr_eq c k XW) 32 : _)
theorem x_33 (k : Fin k0_t1_loop.trips) (XW : BufOf (F := F) c wM) (hh) :
    View.readAt (Elt F) inM.view (Rect.unit (s := S8x256x4608) (k0_off11 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 33 := (congrFun (xr_eq c k XW) 33 : _)
theorem x_34 (k : Fin k0_t1_loop.trips) (XW : BufOf (F := F) c wM) (hh) :
    View.readAt (Elt F) inM.view (Rect.unit (s := S8x256x4608) (k0_off12 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 34 := (congrFun (xr_eq c k XW) 34 : _)
theorem x_35 (k : Fin k0_t1_loop.trips) (XW : BufOf (F := F) c wM) (hh) :
    View.readAt (Elt F) inM.view (Rect.unit (s := S8x256x4608) (k0_off13 k 3#32) S1x256x512.size hh).toLoadRect
      ((rslot (par k) 3).view.writes (Elt F) (rslot (par k) 3).view.junk [⟨Rect.whole S256x4608, ReadAs.same.apply ((wblk (Ring.bk 28 k) 3).view.read (Elt F) XW)⟩])
    = xsub XW k.val 35 := (congrFun (xr_eq c k XW) 35 : _)
theorem d_0 (YC : S256x18432.Idx → F .fp8e4m3) (hh) :
    View.readAt (Elt F) dybM.view (Rect.unit (s := S4x256x4608) ![0, 0, 0] S1x256x512.size hh).toLoadRect (DCf YC) = dsub YC 0 := (congrFun (dr_eq YC) 0 : _)
theorem d_1 (YC : S256x18432.Idx → F .fp8e4m3) (hh) :
    View.readAt (Elt F) dybM.view (Rect.unit (s := S4x256x4608) ![0, 0, 512] S1x256x512.size hh).toLoadRect (DCf YC) = dsub YC 1 := (congrFun (dr_eq YC) 1 : _)
theorem d_2 (YC : S256x18432.Idx → F .fp8e4m3) (hh) :
    View.readAt (Elt F) dybM.view (Rect.unit (s := S4x256x4608) ![0, 0, 1024] S1x256x512.size hh).toLoadRect (DCf YC) = dsub YC 2 := (congrFun (dr_eq YC) 2 : _)
theorem d_3 (YC : S256x18432.Idx → F .fp8e4m3) (hh) :
    View.readAt (Elt F) dybM.view (Rect.unit (s := S4x256x4608) ![0, 0, 1536] S1x256x512.size hh).toLoadRect (DCf YC) = dsub YC 3 := (congrFun (dr_eq YC) 3 : _)
theorem d_4 (YC : S256x18432.Idx → F .fp8e4m3) (hh) :
    View.readAt (Elt F) dybM.view (Rect.unit (s := S4x256x4608) ![0, 0, 2048] S1x256x512.size hh).toLoadRect (DCf YC) = dsub YC 4 := (congrFun (dr_eq YC) 4 : _)
theorem d_5 (YC : S256x18432.Idx → F .fp8e4m3) (hh) :
    View.readAt (Elt F) dybM.view (Rect.unit (s := S4x256x4608) ![0, 0, 2560] S1x256x512.size hh).toLoadRect (DCf YC) = dsub YC 5 := (congrFun (dr_eq YC) 5 : _)
theorem d_6 (YC : S256x18432.Idx → F .fp8e4m3) (hh) :
    View.readAt (Elt F) dybM.view (Rect.unit (s := S4x256x4608) ![0, 0, 3072] S1x256x512.size hh).toLoadRect (DCf YC) = dsub YC 6 := (congrFun (dr_eq YC) 6 : _)
theorem d_7 (YC : S256x18432.Idx → F .fp8e4m3) (hh) :
    View.readAt (Elt F) dybM.view (Rect.unit (s := S4x256x4608) ![0, 0, 3584] S1x256x512.size hh).toLoadRect (DCf YC) = dsub YC 7 := (congrFun (dr_eq YC) 7 : _)
theorem d_8 (YC : S256x18432.Idx → F .fp8e4m3) (hh) :
    View.readAt (Elt F) dybM.view (Rect.unit (s := S4x256x4608) ![0, 0, 4096] S1x256x512.size hh).toLoadRect (DCf YC) = dsub YC 8 := (congrFun (dr_eq YC) 8 : _)
theorem d_9 (YC : S256x18432.Idx → F .fp8e4m3) (hh) :
    View.readAt (Elt F) dybM.view (Rect.unit (s := S4x256x4608) ![1, 0, 0] S1x256x512.size hh).toLoadRect (DCf YC) = dsub YC 9 := (congrFun (dr_eq YC) 9 : _)
theorem d_10 (YC : S256x18432.Idx → F .fp8e4m3) (hh) :
    View.readAt (Elt F) dybM.view (Rect.unit (s := S4x256x4608) ![1, 0, 512] S1x256x512.size hh).toLoadRect (DCf YC) = dsub YC 10 := (congrFun (dr_eq YC) 10 : _)
theorem d_11 (YC : S256x18432.Idx → F .fp8e4m3) (hh) :
    View.readAt (Elt F) dybM.view (Rect.unit (s := S4x256x4608) ![1, 0, 1024] S1x256x512.size hh).toLoadRect (DCf YC) = dsub YC 11 := (congrFun (dr_eq YC) 11 : _)
theorem d_12 (YC : S256x18432.Idx → F .fp8e4m3) (hh) :
    View.readAt (Elt F) dybM.view (Rect.unit (s := S4x256x4608) ![1, 0, 1536] S1x256x512.size hh).toLoadRect (DCf YC) = dsub YC 12 := (congrFun (dr_eq YC) 12 : _)
theorem d_13 (YC : S256x18432.Idx → F .fp8e4m3) (hh) :
    View.readAt (Elt F) dybM.view (Rect.unit (s := S4x256x4608) ![1, 0, 2048] S1x256x512.size hh).toLoadRect (DCf YC) = dsub YC 13 := (congrFun (dr_eq YC) 13 : _)
theorem d_14 (YC : S256x18432.Idx → F .fp8e4m3) (hh) :
    View.readAt (Elt F) dybM.view (Rect.unit (s := S4x256x4608) ![1, 0, 2560] S1x256x512.size hh).toLoadRect (DCf YC) = dsub YC 14 := (congrFun (dr_eq YC) 14 : _)
theorem d_15 (YC : S256x18432.Idx → F .fp8e4m3) (hh) :
    View.readAt (Elt F) dybM.view (Rect.unit (s := S4x256x4608) ![1, 0, 3072] S1x256x512.size hh).toLoadRect (DCf YC) = dsub YC 15 := (congrFun (dr_eq YC) 15 : _)
theorem d_16 (YC : S256x18432.Idx → F .fp8e4m3) (hh) :
    View.readAt (Elt F) dybM.view (Rect.unit (s := S4x256x4608) ![1, 0, 3584] S1x256x512.size hh).toLoadRect (DCf YC) = dsub YC 16 := (congrFun (dr_eq YC) 16 : _)
theorem d_17 (YC : S256x18432.Idx → F .fp8e4m3) (hh) :
    View.readAt (Elt F) dybM.view (Rect.unit (s := S4x256x4608) ![1, 0, 4096] S1x256x512.size hh).toLoadRect (DCf YC) = dsub YC 17 := (congrFun (dr_eq YC) 17 : _)
theorem d_18 (YC : S256x18432.Idx → F .fp8e4m3) (hh) :
    View.readAt (Elt F) dybM.view (Rect.unit (s := S4x256x4608) ![2, 0, 0] S1x256x512.size hh).toLoadRect (DCf YC) = dsub YC 18 := (congrFun (dr_eq YC) 18 : _)
theorem d_19 (YC : S256x18432.Idx → F .fp8e4m3) (hh) :
    View.readAt (Elt F) dybM.view (Rect.unit (s := S4x256x4608) ![2, 0, 512] S1x256x512.size hh).toLoadRect (DCf YC) = dsub YC 19 := (congrFun (dr_eq YC) 19 : _)
theorem d_20 (YC : S256x18432.Idx → F .fp8e4m3) (hh) :
    View.readAt (Elt F) dybM.view (Rect.unit (s := S4x256x4608) ![2, 0, 1024] S1x256x512.size hh).toLoadRect (DCf YC) = dsub YC 20 := (congrFun (dr_eq YC) 20 : _)
theorem d_21 (YC : S256x18432.Idx → F .fp8e4m3) (hh) :
    View.readAt (Elt F) dybM.view (Rect.unit (s := S4x256x4608) ![2, 0, 1536] S1x256x512.size hh).toLoadRect (DCf YC) = dsub YC 21 := (congrFun (dr_eq YC) 21 : _)
theorem d_22 (YC : S256x18432.Idx → F .fp8e4m3) (hh) :
    View.readAt (Elt F) dybM.view (Rect.unit (s := S4x256x4608) ![2, 0, 2048] S1x256x512.size hh).toLoadRect (DCf YC) = dsub YC 22 := (congrFun (dr_eq YC) 22 : _)
theorem d_23 (YC : S256x18432.Idx → F .fp8e4m3) (hh) :
    View.readAt (Elt F) dybM.view (Rect.unit (s := S4x256x4608) ![2, 0, 2560] S1x256x512.size hh).toLoadRect (DCf YC) = dsub YC 23 := (congrFun (dr_eq YC) 23 : _)
theorem d_24 (YC : S256x18432.Idx → F .fp8e4m3) (hh) :
    View.readAt (Elt F) dybM.view (Rect.unit (s := S4x256x4608) ![2, 0, 3072] S1x256x512.size hh).toLoadRect (DCf YC) = dsub YC 24 := (congrFun (dr_eq YC) 24 : _)
theorem d_25 (YC : S256x18432.Idx → F .fp8e4m3) (hh) :
    View.readAt (Elt F) dybM.view (Rect.unit (s := S4x256x4608) ![2, 0, 3584] S1x256x512.size hh).toLoadRect (DCf YC) = dsub YC 25 := (congrFun (dr_eq YC) 25 : _)
theorem d_26 (YC : S256x18432.Idx → F .fp8e4m3) (hh) :
    View.readAt (Elt F) dybM.view (Rect.unit (s := S4x256x4608) ![2, 0, 4096] S1x256x512.size hh).toLoadRect (DCf YC) = dsub YC 26 := (congrFun (dr_eq YC) 26 : _)
theorem d_27 (YC : S256x18432.Idx → F .fp8e4m3) (hh) :
    View.readAt (Elt F) dybM.view (Rect.unit (s := S4x256x4608) ![3, 0, 0] S1x256x512.size hh).toLoadRect (DCf YC) = dsub YC 27 := (congrFun (dr_eq YC) 27 : _)
theorem d_28 (YC : S256x18432.Idx → F .fp8e4m3) (hh) :
    View.readAt (Elt F) dybM.view (Rect.unit (s := S4x256x4608) ![3, 0, 512] S1x256x512.size hh).toLoadRect (DCf YC) = dsub YC 28 := (congrFun (dr_eq YC) 28 : _)
theorem d_29 (YC : S256x18432.Idx → F .fp8e4m3) (hh) :
    View.readAt (Elt F) dybM.view (Rect.unit (s := S4x256x4608) ![3, 0, 1024] S1x256x512.size hh).toLoadRect (DCf YC) = dsub YC 29 := (congrFun (dr_eq YC) 29 : _)
theorem d_30 (YC : S256x18432.Idx → F .fp8e4m3) (hh) :
    View.readAt (Elt F) dybM.view (Rect.unit (s := S4x256x4608) ![3, 0, 1536] S1x256x512.size hh).toLoadRect (DCf YC) = dsub YC 30 := (congrFun (dr_eq YC) 30 : _)
theorem d_31 (YC : S256x18432.Idx → F .fp8e4m3) (hh) :
    View.readAt (Elt F) dybM.view (Rect.unit (s := S4x256x4608) ![3, 0, 2048] S1x256x512.size hh).toLoadRect (DCf YC) = dsub YC 31 := (congrFun (dr_eq YC) 31 : _)
theorem d_32 (YC : S256x18432.Idx → F .fp8e4m3) (hh) :
    View.readAt (Elt F) dybM.view (Rect.unit (s := S4x256x4608) ![3, 0, 2560] S1x256x512.size hh).toLoadRect (DCf YC) = dsub YC 32 := (congrFun (dr_eq YC) 32 : _)
theorem d_33 (YC : S256x18432.Idx → F .fp8e4m3) (hh) :
    View.readAt (Elt F) dybM.view (Rect.unit (s := S4x256x4608) ![3, 0, 3072] S1x256x512.size hh).toLoadRect (DCf YC) = dsub YC 33 := (congrFun (dr_eq YC) 33 : _)
theorem d_34 (YC : S256x18432.Idx → F .fp8e4m3) (hh) :
    View.readAt (Elt F) dybM.view (Rect.unit (s := S4x256x4608) ![3, 0, 3584] S1x256x512.size hh).toLoadRect (DCf YC) = dsub YC 34 := (congrFun (dr_eq YC) 34 : _)
theorem d_35 (YC : S256x18432.Idx → F .fp8e4m3) (hh) :
    View.readAt (Elt F) dybM.view (Rect.unit (s := S4x256x4608) ![3, 0, 4096] S1x256x512.size hh).toLoadRect (DCf YC) = dsub YC 35 := (congrFun (dr_eq YC) 35 : _)

end Cert.Proof.KI

end
-- ==== Proof.KI.Outs.lean ====
module

public import proofs.«01_k».proof.Proof.KI.Reads

/-! What a trip stores and sends, in terms of the steps of the model. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

variable (c : Dev nD)

/-! ## The accesses -/

theorem acc_out (r : Rect S4x256x4608) (f : S4x256x4608.Idx → F .fp8e4m3) (w : r.shape.Idx → F .fp8e4m3) (x : r.shape.Idx) :
    View.write (Elt F) (outM.access r) f w Finset.univ (r.emb x) = w x :=
  View.write_emb_of_mem (Val := Elt F) (v := outM.access r) f w (Finset.mem_univ x)
theorem acc_out_off (r : Rect S4x256x4608) (f : S4x256x4608.Idx → F .fp8e4m3) (w : r.shape.Idx → F .fp8e4m3) (y : S4x256x4608.Idx)
    (h : ∀ x, r.emb x ≠ y) : View.write (Elt F) (outM.access r) f w Finset.univ y = f y := by
  refine View.write_of_not_mem (Val := Elt F) (v := outM.access r) f w Finset.univ ?_
  intro hm
  obtain ⟨x, -, hx⟩ := Finset.mem_map.mp hm
  exact h x hx
theorem acc_xb (r : Rect S2x256x256) (f : S2x256x256.Idx → F .bf16) (w : r.shape.Idx → F .bf16) (x : r.shape.Idx) :
    View.write (Elt F) (xbM.access r) f w Finset.univ (r.emb x) = w x :=
  View.write_emb_of_mem (Val := Elt F) (v := xbM.access r) f w (Finset.mem_univ x)
theorem acc_am (r : Rect S16x512) (f : S16x512.Idx → F .bf16) (w : r.shape.Idx → F .bf16) (L : List (View.Piece (Elt F) S16x512 .bf16)) (x : r.shape.Idx) :
    amM.view.writes (Elt F) f (⟨r, w⟩ :: L) (r.emb x) = w x :=
  View.write_emb_of_mem (Val := Elt F) (v := amM.view.slice r) (amM.view.writes (Elt F) f L) w (Finset.mem_univ x)
theorem wcblk_writes (b : Fin 28) (j : Fin 4) (f : S7168x18432.Idx → F .fp8e4m3) (p : S256x4608.Idx → F .fp8e4m3) (x : S256x4608.Idx) :
    (wcblk b j).view.writes (Elt F) f [⟨Rect.whole S256x4608, p⟩] ((wcblk b j).view.emb x) = p x :=
  writes_whole_emb (F := F) (wcblk b j).view f p [] x
theorem dxblk_writes (b : Fin 28) (f : S256x7168.Idx → F .bf16) (p : S256x256.Idx → F .bf16) (x : S256x256.Idx) :
    (dxblk b).view.writes (Elt F) f [⟨Rect.whole S256x256, p⟩] ((dxblk b).view.emb x) = p x :=
  writes_whole_emb (F := F) (dxblk b).view f p [] x
theorem read_oslot (j : Fin 4) (X : S4x256x4608.Idx → F .fp8e4m3) (x : S256x4608.Idx) :
    (ReadAs.same.apply ((oslot j).view.read (Elt F) X) : S256x4608.Idx → F .fp8e4m3) x = X ((oslot j).view.emb x) := rfl
theorem read_xslot (s : Fin 2) (X : S2x256x256.Idx → F .bf16) (x : S256x256.Idx) :
    (ReadAs.same.apply ((xslot s).view.read (Elt F) X) : S256x256.Idx → F .bf16) x = X ((xslot s).view.emb x) := rfl

/-! ## The codes of the second operand -/

theorem ooff_inb (j : Fin 4) (t : ℕ) (ht : t < 9) : ∀ a, (![j.val, 0, 512 * t] : Fin 3 → Nat) a + S1x256x512.size a ≤ S4x256x4608.size a := by
  intro a
  fin_cases a
  · show j.val + 1 ≤ 4; omega
  · show 0 + 256 ≤ 256; omega
  · show 512 * t + 512 ≤ 4608; omega

/-- The buffer of the codes after piece `t` of slot `j` is stored. -/
abbrev ow (j : Fin 4) (off : Fin 3 → Nat) (hh : ∀ a, off a + S1x256x512.size a ≤ S4x256x4608.size a)
    (f : S4x256x4608.Idx → F .fp8e4m3) (w : FVec F S1x256x512 .fp8e4m3) : S4x256x4608.Idx → F .fp8e4m3 :=
  View.write (Elt F) (outM.access (Rect.unit (s := S4x256x4608) off S1x256x512.size hh)) f w Finset.univ

theorem ow_step (j : Fin 4) (t : ℕ) (ht : t < 9) (off) (hh) (ho : off = ![j.val, 0, 512 * t]) (f : S4x256x4608.Idx → F .fp8e4m3) (w : FVec F S1x256x512 .fp8e4m3)
    (G : Fin 256 → ℕ → F .fp8e4m3) (hf : ∀ (i : Fin 256) (s : Fin 4608), s.val < 512 * t → f (ix3 j i s) = G i s.val)
    (hw : ∀ (i : Fin 256) (s : Fin 512), w (ix3 0 i s) = G i (512 * t + s.val)) :
    ∀ (i : Fin 256) (s : Fin 4608), s.val < 512 * (t + 1) → ow j off hh f w (ix3 j i s) = G i s.val := by
  subst ho
  intro i s hs
  have hemb : ∀ (i0 : Fin 1) (i1 : Fin 256) (i2 : Fin 512),
      (Rect.unit (s := S4x256x4608) ![j.val, 0, 512 * t] S1x256x512.size hh).emb (ix3 i0 i1 i2)
        = (ix3 j i1 (⟨512 * t + i2.val, by omega⟩ : Fin 4608) : S4x256x4608.Idx) := by
    intro i0 i1 i2
    funext r; refine Fin.ext ?_
    fin_cases r
    · show j.val + 1 * i0.val = j.val; omega
    · show 0 + 1 * i1.val = i1.val; omega
    · show 512 * t + 1 * i2.val = 512 * t + i2.val; omega
  by_cases h : s.val < 512 * t
  · refine (acc_out_off (Rect.unit (s := S4x256x4608) ![j.val, 0, 512 * t] S1x256x512.size hh) f w (ix3 j i s) ?_).trans (hf i s h)
    intro x hx
    obtain ⟨i0, i1, i2, rfl⟩ : ∃ (i0 : Fin 1) (i1 : Fin 256) (i2 : Fin 512), x = ix3 i0 i1 i2 := ⟨x 0, x 1, x 2, eq_ix3 x⟩
    have h2 := (hemb i0 i1 i2).symm.trans hx
    have h3 : 512 * t + i2.val = s.val := congrArg (fun y : S4x256x4608.Idx => (y 2).val) h2
    omega
  · have h3 := acc_out (Rect.unit (s := S4x256x4608) ![j.val, 0, 512 * t] S1x256x512.size hh) f w
      (ix3 0 i (⟨s.val - 512 * t, by omega⟩ : Fin 512))
    have h5 : (⟨512 * t + (s.val - 512 * t), by omega⟩ : Fin 4608) = s := Fin.ext (by show 512 * t + (s.val - 512 * t) = s.val; omega)
    have h6 := hw i (⟨s.val - 512 * t, by omega⟩ : Fin 512)
    have h7 : 512 * t + (s.val - 512 * t) = s.val := by omega
    rw [hemb, h5] at h3
    refine h3.trans (h6.trans ?_)
    exact congrArg (G i) h7

/-- The buffer of the codes after the nine pieces of slot `j` of a trip are stored. -/
def nest (j : Fin 4) (v : F .f32) (x : ℕ → Vec F S1x256x512 .bf16) (f : S4x256x4608.Idx → F .fp8e4m3) : S4x256x4608.Idx → F .fp8e4m3 :=
  (ow j ![j.val, 0, 4096] (ooff_inb j 8 (by decide)) (ow j ![j.val, 0, 3584] (ooff_inb j 7 (by decide)) (ow j ![j.val, 0, 3072] (ooff_inb j 6 (by decide)) (ow j ![j.val, 0, 2560] (ooff_inb j 5 (by decide)) (ow j ![j.val, 0, 2048] (ooff_inb j 4 (by decide)) (ow j ![j.val, 0, 1536] (ooff_inb j 3 (by decide)) (ow j ![j.val, 0, 1024] (ooff_inb j 2 (by decide)) (ow j ![j.val, 0, 512] (ooff_inb j 1 (by decide)) (ow j ![j.val, 0, 0] (ooff_inb j 0 (by decide)) f
    (qrow v (x (9 * j.val + 0))))
    (qrow v (x (9 * j.val + 1))))
    (qrow v (x (9 * j.val + 2))))
    (qrow v (x (9 * j.val + 3))))
    (qrow v (x (9 * j.val + 4))))
    (qrow v (x (9 * j.val + 5))))
    (qrow v (x (9 * j.val + 6))))
    (qrow v (x (9 * j.val + 7))))
    (qrow v (x (9 * j.val + 8))))

theorem xsub_apply (XW : S7168x18432.Idx → F .bf16) (b t : ℕ) (i0 : Fin 1) (i1 : Fin 256) (i2 : Fin 512) :
    xsub XW b t (ix3 i0 i1 i2) = XW (ix2 (Fin.ofNat 7168 (256 * b + i1.val)) (Fin.ofNat 18432 (512 * t + i2.val))) := rfl
theorem nest_apply (j : Fin 4) (v : F .f32) (XW : S7168x18432.Idx → F .bf16) (b : Fin 28) (f : S4x256x4608.Idx → F .fp8e4m3) (i : Fin 256) (s : Fin 4608) :
    nest j v (xsub XW b.val) f (ix3 j i s) = qel v (XW (ix2 (⟨256 * b.val + i.val, by omega⟩ : Fin 7168) (⟨4608 * j.val + s.val, by omega⟩ : Fin 18432))) := by
  let G : Fin 256 → ℕ → F .fp8e4m3 := fun i s => qel v (XW (ix2 (⟨256 * b.val + i.val, by omega⟩ : Fin 7168) (Fin.ofNat 18432 (4608 * j.val + s))))
  have hG : ∀ t : ℕ, t < 9 → ∀ (i : Fin 256) (s : Fin 512), qrow v (xsub XW b.val (9 * j.val + t)) (ix3 0 i s) = G i (512 * t + s.val) := by
    intro t ht i s
    rw [qrow_apply]
    rw [xsub_apply]
    refine congrArg (fun y => qel v (XW y)) ?_
    funext r; refine Fin.ext ?_
    fin_cases r
    · show (256 * b.val + i.val) % 7168 = 256 * b.val + i.val
      rw [Nat.mod_eq_of_lt (by omega)]
    · show (512 * (9 * j.val + t) + s.val) % 18432 = (4608 * j.val + (512 * t + s.val)) % 18432
      congr 1; omega
  have h0 : ∀ (i : Fin 256) (s : Fin 4608), s.val < 512 * 0 → f (ix3 j i s) = G i s.val := fun i s h => absurd h (by omega)
  have h1 := ow_step j 0 (by decide) ![j.val, 0, 0] (ooff_inb j 0 (by decide)) rfl _ _ G h0 (hG 0 (by decide))
  have h2 := ow_step j 1 (by decide) ![j.val, 0, 512] (ooff_inb j 1 (by decide)) rfl _ _ G h1 (hG 1 (by decide))
  have h3 := ow_step j 2 (by decide) ![j.val, 0, 1024] (ooff_inb j 2 (by decide)) rfl _ _ G h2 (hG 2 (by decide))
  have h4 := ow_step j 3 (by decide) ![j.val, 0, 1536] (ooff_inb j 3 (by decide)) rfl _ _ G h3 (hG 3 (by decide))
  have h5 := ow_step j 4 (by decide) ![j.val, 0, 2048] (ooff_inb j 4 (by decide)) rfl _ _ G h4 (hG 4 (by decide))
  have h6 := ow_step j 5 (by decide) ![j.val, 0, 2560] (ooff_inb j 5 (by decide)) rfl _ _ G h5 (hG 5 (by decide))
  have h7 := ow_step j 6 (by decide) ![j.val, 0, 3072] (ooff_inb j 6 (by decide)) rfl _ _ G h6 (hG 6 (by decide))
  have h8 := ow_step j 7 (by decide) ![j.val, 0, 3584] (ooff_inb j 7 (by decide)) rfl _ _ G h7 (hG 7 (by decide))
  have h9 := ow_step j 8 (by decide) ![j.val, 0, 4096] (ooff_inb j 8 (by decide)) rfl _ _ G h8 (hG 8 (by decide))
  refine (h9 i s (by omega)).trans ?_
  refine congrArg (fun y => qel v (XW y)) ?_
  funext r; refine Fin.ext ?_
  fin_cases r
  · rfl
  · show (4608 * j.val + s.val) % 18432 = 4608 * j.val + s.val
    rw [Nat.mod_eq_of_lt (by omega)]

/-- A slot of the codes in flight to its block, which holds the codes when it lands. -/
abbrev flyOutAt (WC : S7168x18432.Idx → F .fp8e4m3) (j : Fin 4) (b : Fin 28) (O : S4x256x4608.Idx → F .fp8e4m3) : sProp 𝕄 :=
  Transfers.Flight countersEmb (c : Thread nD τ) (SemLoc.dma (osem j).sem) () 36864
    iprop(held c (wcblk b j) WC ∗ held c (oslot j) O)
abbrev flyOut (WC : S7168x18432.Idx → F .fp8e4m3) (j : Fin 4) (b : Fin 28) : sProp 𝕄 :=
  iprop(∃ O, flyOutAt c WC j b O)
/-- A slot of the product in flight to its block, which holds the product when it lands. -/
abbrev flyDxAt (DX : S256x7168.Idx → F .bf16) (s : Fin 2) (b : Fin 28) (O : S2x256x256.Idx → F .bf16) : sProp 𝕄 :=
  Transfers.Flight countersEmb (c : Thread nD τ) (SemLoc.dma (xsem s).sem) () 4096
    iprop(held c (dxblk b) DX ∗ held c (xslot s) O)
abbrev flyDx (DX : S256x7168.Idx → F .bf16) (s : Fin 2) (b : Fin 28) : sProp 𝕄 :=
  iprop(∃ O, flyDxAt c DX s b O)

theorem held_wcblk (b : Fin 28) (j : Fin 4) (f g : S7168x18432.Idx → F .fp8e4m3)
    (h : ∀ (i : Fin 256) (s : Fin 4608), f (ix2 (⟨256 * b.val + i.val, by omega⟩ : Fin 7168) (⟨4608 * j.val + s.val, by omega⟩ : Fin 18432))
      = g (ix2 (⟨256 * b.val + i.val, by omega⟩ : Fin 7168) (⟨4608 * j.val + s.val, by omega⟩ : Fin 18432))) :
    held c (wcblk b j) f = held c (wcblk b j) g := by
  refine pointsTo_congr ?_
  intro y hy
  obtain ⟨x, -, rfl⟩ := Finset.mem_map.mp hy
  obtain ⟨i, s, rfl⟩ : ∃ (i : Fin 256) (s : Fin 4608), x = ix2 i s := ⟨x 0, x 1, eq_ix2 x⟩
  rw [wcblk_emb]
  exact h i s
theorem held_dxblk (b : Fin 28) (f g : S256x7168.Idx → F .bf16)
    (h : ∀ (i : Fin 256) (s : Fin 256), f (ix2 i (⟨256 * b.val + s.val, by omega⟩ : Fin 7168))
      = g (ix2 i (⟨256 * b.val + s.val, by omega⟩ : Fin 7168))) :
    held c (dxblk b) f = held c (dxblk b) g := by
  refine pointsTo_congr ?_
  intro y hy
  obtain ⟨x, -, rfl⟩ := Finset.mem_map.mp hy
  obtain ⟨i, s, rfl⟩ : ∃ (i : Fin 256) (s : Fin 256), x = ix2 i s := ⟨x 0, x 1, eq_ix2 x⟩
  rw [dxblk_emb]
  exact h i s

/-- A trip's slot of the codes, sent. -/
theorem flyOut_of (k : Fin k0_t1_loop.trips) (XW : BufOf (F := F) c wM) (v : F .f32) (j : Fin 4) {f : S4x256x4608.Idx → F .fp8e4m3} {g' : S7168x18432.Idx → F .fp8e4m3}
    {p : S256x4608.Idx → F .fp8e4m3} {O' : S4x256x4608.Idx → F .fp8e4m3}
    (hp : p = ReadAs.same.apply ((oslot j).view.read (Elt F) (nest j v (xsub XW k.val) f))) :
    Transfers.Flight countersEmb (c : Thread nD τ) (SemLoc.dma (osem j).sem) () 36864
      iprop(held c (wcblk (Ring.bk 28 k) j) ((wcblk (Ring.bk 28 k) j).view.writes (Elt F) g' [⟨Rect.whole S256x4608, p⟩]) ∗ held c (oslot j) O')
    ⊢ flyOut c (WCf v XW) j (Ring.bk 28 k) := by
  have hb : (Ring.bk 28 k.val).val = k.val := Ring.bk_val (k_lt k)
  have e : held c (wcblk (Ring.bk 28 k) j) ((wcblk (Ring.bk 28 k) j).view.writes (Elt F) g' [⟨Rect.whole S256x4608, p⟩])
      = held c (wcblk (Ring.bk 28 k) j) (WCf v XW) := by
    refine held_wcblk c (Ring.bk 28 k) j _ _ ?_
    intro i s
    have h1 := wcblk_writes (Ring.bk 28 k) j g' p (ix2 i s)
    rw [wcblk_emb] at h1
    refine h1.trans ?_
    rw [hp, read_oslot, oslot_emb]
    refine (congrArg (fun b => nest j v (xsub XW b) f (ix3 j i s)) hb.symm).trans ?_
    exact nest_apply j v XW (Ring.bk 28 k) f i s
  rw [e]
  iintro H; iexists O'; iexact H

/-- A slot's refill, sent. -/
theorem flyW_of (XW : BufOf (F := F) c wM) (s : Fin 2) (j : Fin 4) (b : Fin 28) {f0 : S8x256x4608.Idx → F .bf16}
    {p : S256x4608.Idx → F .bf16} {q : View.Piece (Elt F) S256x4608 .bf16}
    (hp : p = ReadAs.same.apply ((wblk b j).view.read (Elt F) XW)) :
    Transfers.Flight countersEmb (c : Thread nD τ) (SemLoc.dma (isem s j).sem) () 73728
      iprop(held c (rslot s j) ((rslot s j).view.writes (Elt F) f0 [⟨Rect.whole S256x4608, p⟩, q]) ∗ held c (wblk b j) XW)
    ⊢ iprop(∃ f, flyW c XW s j b f) := by
  have e : (rslot s j).view.writes (Elt F) f0 [⟨Rect.whole S256x4608, p⟩, q]
      = landed c (rslot s j) (wblk b j) XW ((rslot s j).view.writes (Elt F) f0 [q]) := by rw [hp]; rfl
  rw [e]
  iintro H; iexists _; iexact H

/-! ## The running largest magnitude -/

/-- Nine steps of the running largest magnitude from `r`, starting at piece `t`. -/
def amF (x : ℕ → Vec F S1x256x512 .bf16) (t : ℕ) (r : FVec F S16x512 .bf16) : ℕ → FVec F S16x512 .bf16
  | 0 => r
  | n + 1 => amStep (amF x t r n) (shapeCast S256x512 (x (t + n)) shapeCasts_S1x256x512_S256x512)
theorem amF_amN (x : ℕ → Vec F S1x256x512 .bf16) (A : FVec F S16x512 .bf16) (t n : ℕ) : amF x t (amN x A t) n = amN x A (t + n) := by
  induction n with
  | zero => rfl
  | succ n ih => show amStep (amF x t (amN x A t) n) _ = amStep (amN x A (t + n)) (shapeCast S256x512 (x (t + n)) shapeCasts_S1x256x512_S256x512); rw [ih]

abbrev amR : Rect S16x512 := Rect.unit (s := S16x512) ![0, 0] S16x512.size inb_S16x512_S16x512_0_0
abbrev accR : Rect S256x256 := Rect.unit (s := S256x256) ![0, 0] S256x256.size inb_S256x256_S256x256_0_0
theorem amR_emb (i : S16x512.Idx) : amR.emb i = i := by
  funext r; refine Fin.ext ?_
  fin_cases r
  · show 0 + 1 * (i 0).val = (i 0).val; omega
  · show 0 + 1 * (i 1).val = (i 1).val; omega
theorem am_read (A : S16x512.Idx → F .bf16) : View.readAt (Elt F) amM.view amR.toLoadRect A = A := by
  funext i
  exact congrArg A (amR_emb i)
theorem am_write (A : S16x512.Idx → F .bf16) (p : FVec F S16x512 .bf16) (L : List (View.Piece (Elt F) S16x512 .bf16)) :
    amM.view.writes (Elt F) A (⟨amR, p⟩ :: L) = p := by
  funext i
  have h := acc_am amR A p L i
  rw [amR_emb] at h
  exact h

/-- The running largest magnitude after a trip's four slots. -/
theorem am_of (k : Fin k0_t1_loop.trips) (XW : BufOf (F := F) c wM) (A : S16x512.Idx → F .bf16) {p3 : FVec F S16x512 .bf16}
    {H1 H2 H3 : List (View.Piece (Elt F) S16x512 .bf16)}
    (h1 : H1 = ⟨amR, shapeCast S16x512 (amF (xsub XW k.val) 0 (View.readAt (Elt F) amM.view amR.toLoadRect A) 9) shapeCasts_S16x512_S16x512⟩ :: [])
    (h2 : H2 = ⟨amR, shapeCast S16x512 (amF (xsub XW k.val) 9 (amM.view.readCov H1 amR.toLoadRect) 9) shapeCasts_S16x512_S16x512⟩ :: H1)
    (h3 : H3 = ⟨amR, shapeCast S16x512 (amF (xsub XW k.val) 18 (amM.view.readCov H2 amR.toLoadRect) 9) shapeCasts_S16x512_S16x512⟩ :: H2)
    (h4 : p3 = shapeCast S16x512 (amF (xsub XW k.val) 27 (amM.view.readCov H3 amR.toLoadRect) 9) shapeCasts_S16x512_S16x512) :
    held c amM (amM.view.writes (Elt F) A (⟨amR, p3⟩ :: H3)) ⊢ held c amM (amN (xsub XW k.val) A 36) := by
  rw [shapeCast_self] at h1 h2 h3 h4
  have c1 : amM.view.readCov H1 amR.toLoadRect = amN (xsub XW k.val) A 9 := by
    rw [h1, View.readCov_cons_toLoadRect, am_read]; exact amF_amN _ A 0 9
  have c2 : amM.view.readCov H2 amR.toLoadRect = amN (xsub XW k.val) A 18 := by
    rw [h2, View.readCov_cons_toLoadRect, c1]; exact amF_amN _ A 9 9
  have c3 : amM.view.readCov H3 amR.toLoadRect = amN (xsub XW k.val) A 27 := by
    rw [h3, View.readCov_cons_toLoadRect, c2]; exact amF_amN _ A 18 9
  have g3 : p3 = amN (xsub XW k.val) A 36 := by rw [h4, c3]; exact amF_amN _ A 27 9
  rw [am_write, g3]

/-! ## The product -/

/-- Steps of the sum of products from `r`, starting at piece `t`. -/
def partF (v : F .f32) (d : ℕ → Vec F S1x256x512 .fp8e4m3) (x : ℕ → Vec F S1x256x512 .bf16) (t : ℕ) (r : FVec F S256x256 .f32) : ℕ → FVec F S256x256 .f32
  | 0 => r
  | n + 1 => addf (partF v d x t r n) (mm v (d (t + n)) (x (t + n)))
theorem partF_part (v : F .f32) (d : ℕ → Vec F S1x256x512 .fp8e4m3) (x : ℕ → Vec F S1x256x512 .bf16) (t n : ℕ) :
    partF v d x (t + 1) (part v d x t) n = part v d x (t + n) := by
  induction n with
  | zero => rfl
  | succ n ih =>
    show addf (partF v d x (t + 1) (part v d x t) n) (mm v (d (t + 1 + n)) (x (t + 1 + n))) = addf (part v d x (t + n)) (mm v (d (t + n + 1)) (x (t + n + 1)))
    rw [ih, show t + 1 + n = t + n + 1 by omega]

theorem DXf_apply (v s : F .f32) (YC : S256x18432.Idx → F .fp8e4m3) (XW : S7168x18432.Idx → F .bf16) (i : Fin 256) (n : Fin 7168) :
    DXf v s YC XW (ix2 i n) = dxv v s YC XW (n.val / 256) (ix2 i (Fin.ofNat 256 n.val)) := rfl
theorem xw_emb (k : Fin k0_t1_loop.trips) (i0 : Fin 1) (i1 i2 : Fin 256) :
    (Rect.unit (s := S2x256x256) (k0_off32 k) S1x256x256.size (k0_off32_inb k)).emb (ix3 i0 i1 i2)
      = (ix3 (par k) i1 i2 : S2x256x256.Idx) := by
  have h := k0_off32_eq k
  funext r; refine Fin.ext ?_
  fin_cases r
  · show k0_off32 k 0 + 1 * i0.val = (par k).val; rw [h]; show (par k).val + 1 * i0.val = (par k).val; omega
  · show k0_off32 k 1 + 1 * i1.val = i1.val; rw [h]; show 0 + 1 * i1.val = i1.val; omega
  · show k0_off32 k 2 + 1 * i2.val = i2.val; rw [h]; show 0 + 1 * i2.val = i2.val; omega

/-- A trip's block of the product, sent. -/
theorem flyDx_of (k : Fin k0_t1_loop.trips) (XW : BufOf (F := F) c wM) (YC : S256x18432.Idx → F .fp8e4m3) (v s : F .f32)
    {X : S2x256x256.Idx → F .bf16} {x' : S256x7168.Idx → F .bf16}
    {p : S256x256.Idx → F .bf16} {O' : S2x256x256.Idx → F .bf16} {q : FVec F S1x256x256 .bf16}
    {H1 H2 H3 : List (View.Piece (Elt F) S256x256 .f32)}
    (h1 : H1 = ⟨accR, shapeCast S256x256 (part v (dr YC) (xsub XW k.val) 8) shapeCasts_S256x256_S256x256⟩ :: [])
    (h2 : H2 = ⟨accR, shapeCast S256x256 (partF v (dr YC) (xsub XW k.val) 9 (accM.view.readCov H1 accR.toLoadRect) 9) shapeCasts_S256x256_S256x256⟩ :: H1)
    (h3 : H3 = ⟨accR, shapeCast S256x256 (partF v (dr YC) (xsub XW k.val) 18 (accM.view.readCov H2 accR.toLoadRect) 9) shapeCasts_S256x256_S256x256⟩ :: H2)
    (hq : q = shapeCast S1x256x256 (dxPay s (partF v (dr YC) (xsub XW k.val) 27 (accM.view.readCov H3 accR.toLoadRect) 9)) shapeCasts_S256x256_S1x256x256)
    (hp : p = ReadAs.same.apply ((xslot (par k)).view.read (Elt F)
      (View.write (Elt F) (xbM.access (Rect.unit (s := S2x256x256) (k0_off32 k) S1x256x256.size (k0_off32_inb k))) X q Finset.univ))) :
    Transfers.Flight countersEmb (c : Thread nD τ) (SemLoc.dma (xsem (par k)).sem) () 4096
      iprop(held c (dxblk (Ring.bk 28 k)) ((dxblk (Ring.bk 28 k)).view.writes (Elt F) x' [⟨Rect.whole S256x256, p⟩]) ∗ held c (xslot (par k)) O')
    ⊢ flyDx c (DXf v s YC XW) (par k) (Ring.bk 28 k) := by
  have hb : (Ring.bk 28 k.val).val = k.val := Ring.bk_val (k_lt k)
  rw [shapeCast_self] at h1 h2 h3
  have c1 : accM.view.readCov H1 accR.toLoadRect = part v (dr YC) (xsub XW k.val) 8 := by
    rw [h1, View.readCov_cons_toLoadRect]
  have c2 : accM.view.readCov H2 accR.toLoadRect = part v (dr YC) (xsub XW k.val) 17 := by
    rw [h2, View.readCov_cons_toLoadRect, c1]; exact partF_part _ _ _ 8 9
  have c3 : accM.view.readCov H3 accR.toLoadRect = part v (dr YC) (xsub XW k.val) 26 := by
    rw [h3, View.readCov_cons_toLoadRect, c2]; exact partF_part _ _ _ 17 9
  have g3 : q = shapeCast S1x256x256 (dxv v s YC XW k.val) shapeCasts_S256x256_S1x256x256 := by
    rw [hq, c3, partF_part v _ _ 26 9, dr_eq]; rfl
  have e : held c (dxblk (Ring.bk 28 k)) ((dxblk (Ring.bk 28 k)).view.writes (Elt F) x' [⟨Rect.whole S256x256, p⟩])
      = held c (dxblk (Ring.bk 28 k)) (DXf v s YC XW) := by
    refine held_dxblk c (Ring.bk 28 k) _ _ ?_
    intro i r
    have h1 := dxblk_writes (Ring.bk 28 k) x' p (ix2 i r)
    rw [dxblk_emb] at h1
    refine h1.trans ?_
    have h4 := acc_xb (Rect.unit (s := S2x256x256) (k0_off32 k) S1x256x256.size (k0_off32_inb k)) X q (ix3 0 i r)
    rw [xw_emb] at h4
    rw [hp, read_xslot, xslot_emb, h4]
    rw [g3, shapeCast_ab_1ab_apply]
    have h8 : (256 * (Ring.bk 28 k.val).val + r.val) / 256 = k.val := by rw [hb]; omega
    have h9 : (Fin.ofNat 256 (256 * (Ring.bk 28 k.val).val + r.val)) = r :=
      Fin.ext (by show (256 * (Ring.bk 28 k.val).val + r.val) % 256 = r.val; omega)
    rw [DXf_apply, h8, h9]
  rw [e]
  iintro H; iexists O'; iexact H

end Cert.Proof.KI

end
-- ==== Proof.KI.Trip.lean ====
module

public import proofs.«01_k».proof.Proof.KI.Outs
public import Idealize.ShloMosaic.Lib.Tactic

/-! One trip of the loop: what it is run on and what it leaves. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD)
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)
  (v109 v112 : F .f32) (c1 : BitVec 32)

/-- Trip `k` of the loop on the kernel's buffers. -/
abbrev tripG (k : Fin k0_t1_loop.trips) : Prog (TpuEff nD τ sig (Elt F) Λ₀ .tc) Unit :=
  k0_t1_body (F := F) dyM (Memref.isWhole_whole _) wM (Memref.isWhole_whole _) arg2 harg2 arg3 harg3 dxM (Memref.isWhole_whole _) dycM (Memref.isWhole_whole _) arg6 harg6 wcM (Memref.isWhole_whole _) arg8 harg8 arg9 harg9 arg10 harg10
    inM (Memref.isWhole_whole _) dybM (Memref.isWhole_whole _) outM (Memref.isWhole_whole _) accM (Memref.isWhole_whole _) xbM (Memref.isWhole_whole _) amM (Memref.isWhole_whole _)
    cc0_scratch6 cc0_scratch7 cc0_scratch8 cc0_scratch9 v109 v112 c1 k ()

/-- What a trip holds that does not depend on where it stands: the first operand's codes, the running largest
    magnitude, the accumulator. -/
abbrev base (YC : S256x18432.Idx → F .fp8e4m3) (A : S16x512.Idx → F .bf16) (Ac : S256x256.Idx → F .f32) : sProp 𝕄 :=
  iprop(heldL c (dslot 0) (DCf YC) ∗ heldL c (dslot 1) (DCf YC) ∗ heldL c (dslot 2) (DCf YC) ∗ heldL c (dslot 3) (DCf YC)
    ∗ held c amM A ∗ held c accM Ac)
/-- Four of a thing, one for each slot. -/
abbrev four (Φ : Fin 4 → sProp 𝕄) : sProp 𝕄 := iprop(Φ 0 ∗ Φ 1 ∗ Φ 2 ∗ Φ 3)
end

end Cert.Proof.KI

end
-- ==== Proof.KI.TripA.lean ====
module

public import proofs.«01_k».proof.Proof.KI.Trip

/-! Trip `0`. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD)
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)
  (v109 v112 : F .f32) (c1 : BitVec 32)

set_option maxHeartbeats 16000000 in
theorem tripA (k : Fin k0_t1_loop.trips) (h0 : k.val = 0)
    (XW : BufOf (F := F) c wM) (YC : S256x18432.Idx → F .fp8e4m3) (A : S16x512.Idx → F .bf16) (Ac : S256x256.Idx → F .f32)
    (f : ∀ j, BufOf (F := F) c (rslot (par k) j)) (O : Fin 4 → S4x256x4608.Idx → F .fp8e4m3)
    (G : S7168x18432.Idx → F .fp8e4m3) (X : S2x256x256.Idx → F .bf16) (x' : S256x7168.Idx → F .bf16) (W : Waits sig Unit) :
    iprop(base c YC A Ac
      ∗ four (fun j => flyW c XW (par k) j (Ring.bk 28 k) (f j))
      ∗ four (fun j => homeW c XW (Ring.bk 28 (k + 2)) j)
      ∗ four (fun j => iprop(held c (oslot j) (O j) ∗ zero c (osem j)))
      ∗ four (fun j => held c (wcblk (Ring.bk 28 k) j) G)
      ∗ held c (xslot (par k)) X
      ∗ zero c (xsem (par k))
      ∗ held c (dxblk (Ring.bk 28 k)) x'
      ∗ owes (c : Thread nD τ) 0 W)
      ⊢ wp frame (wpE (defs₀ (F := F)) 𝒱₀ (c : Thread nD τ) none) Set.univ (tripG arg2 harg2 arg3 harg3 arg6 harg6 arg8 harg8 arg9 harg9 arg10 harg10 v109 v112 c1 k)
        (fun _ => iprop(iprop(∃ Ac, base c YC (amN (xsub XW k) A 36) Ac)
        ∗ four (fun j => homeW c XW (Ring.bk 28 k) j)
        ∗ four (fun j => flyOut c (WCf v109 XW) j (Ring.bk 28 k))
        ∗ four (fun j => iprop(∃ f, flyW c XW (par k) j (Ring.bk 28 (k + 2)) f))
        ∗ flyDx c (DXf v109 v112 YC XW) (par k) (Ring.bk 28 k)
        ∗ iprop(∃ W, owes (c : Thread nD τ) 0 W))) := by
  have e1 : ¬ (k0_cond1 k = 1#1) := by rw [cond1_neg k (by omega)]; decide
  have e3 : ¬ (k0_cond3 k = 1#1) := by rw [cond3_neg k (by omega)]; decide
  have e5 : ¬ (k0_cond5 k = 1#1) := by rw [cond5_neg k (by omega)]; decide
  have e7 : ¬ (k0_cond7 k = 1#1) := by rw [cond7_neg k (by omega)]; decide
  have e2 := cond2_pos k (by omega)
  have e4 := cond4_pos k (by omega)
  have e6 := cond6_pos k (by omega)
  have e9 := cond9_pos k (by omega)
  have e8 : ¬ (k0_cond8 k = 1#1) := by rw [cond8_neg k (by omega)]; decide
  iintro ⟨⟨HD0, HD1, HD2, HD3, HA, HAc⟩, ⟨HI0, HI1, HI2, HI3⟩, ⟨HW0, HW1, HW2, HW3⟩, ⟨⟨HO0, HOz0⟩, ⟨HO1, HOz1⟩, ⟨HO2, HOz2⟩, ⟨HO3, HOz3⟩⟩, ⟨HC0, HC1, HC2, HC3⟩, HX, HXz, Hx, HW⟩
  dsimp only [tripG]
  sl_unfold [k0_t1_body]
  sl_exec
  rw [wp_ret]
  imodintro
  have hv0 : tripA.sl.v2066 c k XW = xsub XW k.val 0 := congrFun (xr_eq c k XW) 0
  have hv1 : tripA.sl.v2118 c k XW = xsub XW k.val 1 := congrFun (xr_eq c k XW) 1
  have hv2 : tripA.sl.v2171 c k XW = xsub XW k.val 2 := congrFun (xr_eq c k XW) 2
  have hv3 : tripA.sl.v2224 c k XW = xsub XW k.val 3 := congrFun (xr_eq c k XW) 3
  have hv4 : tripA.sl.v2277 c k XW = xsub XW k.val 4 := congrFun (xr_eq c k XW) 4
  have hv5 : tripA.sl.v2330 c k XW = xsub XW k.val 5 := congrFun (xr_eq c k XW) 5
  have hv6 : tripA.sl.v2383 c k XW = xsub XW k.val 6 := congrFun (xr_eq c k XW) 6
  have hv7 : tripA.sl.v2436 c k XW = xsub XW k.val 7 := congrFun (xr_eq c k XW) 7
  have hv8 : tripA.sl.v2489 c k XW = xsub XW k.val 8 := congrFun (xr_eq c k XW) 8
  have hv9 : tripA.sl.v2595 c k XW = xsub XW k.val 9 := congrFun (xr_eq c k XW) 9
  have hv10 : tripA.sl.v2648 c k XW = xsub XW k.val 10 := congrFun (xr_eq c k XW) 10
  have hv11 : tripA.sl.v2701 c k XW = xsub XW k.val 11 := congrFun (xr_eq c k XW) 11
  have hv12 : tripA.sl.v2754 c k XW = xsub XW k.val 12 := congrFun (xr_eq c k XW) 12
  have hv13 : tripA.sl.v2807 c k XW = xsub XW k.val 13 := congrFun (xr_eq c k XW) 13
  have hv14 : tripA.sl.v2860 c k XW = xsub XW k.val 14 := congrFun (xr_eq c k XW) 14
  have hv15 : tripA.sl.v2913 c k XW = xsub XW k.val 15 := congrFun (xr_eq c k XW) 15
  have hv16 : tripA.sl.v2966 c k XW = xsub XW k.val 16 := congrFun (xr_eq c k XW) 16
  have hv17 : tripA.sl.v3019 c k XW = xsub XW k.val 17 := congrFun (xr_eq c k XW) 17
  have hv18 : tripA.sl.v3125 c k XW = xsub XW k.val 18 := congrFun (xr_eq c k XW) 18
  have hv19 : tripA.sl.v3178 c k XW = xsub XW k.val 19 := congrFun (xr_eq c k XW) 19
  have hv20 : tripA.sl.v3231 c k XW = xsub XW k.val 20 := congrFun (xr_eq c k XW) 20
  have hv21 : tripA.sl.v3284 c k XW = xsub XW k.val 21 := congrFun (xr_eq c k XW) 21
  have hv22 : tripA.sl.v3337 c k XW = xsub XW k.val 22 := congrFun (xr_eq c k XW) 22
  have hv23 : tripA.sl.v3390 c k XW = xsub XW k.val 23 := congrFun (xr_eq c k XW) 23
  have hv24 : tripA.sl.v3443 c k XW = xsub XW k.val 24 := congrFun (xr_eq c k XW) 24
  have hv25 : tripA.sl.v3496 c k XW = xsub XW k.val 25 := congrFun (xr_eq c k XW) 25
  have hv26 : tripA.sl.v3549 c k XW = xsub XW k.val 26 := congrFun (xr_eq c k XW) 26
  have hv27 : tripA.sl.v3655 c k XW = xsub XW k.val 27 := congrFun (xr_eq c k XW) 27
  have hv28 : tripA.sl.v3708 c k XW = xsub XW k.val 28 := congrFun (xr_eq c k XW) 28
  have hv29 : tripA.sl.v3761 c k XW = xsub XW k.val 29 := congrFun (xr_eq c k XW) 29
  have hv30 : tripA.sl.v3814 c k XW = xsub XW k.val 30 := congrFun (xr_eq c k XW) 30
  have hv31 : tripA.sl.v3867 c k XW = xsub XW k.val 31 := congrFun (xr_eq c k XW) 31
  have hv32 : tripA.sl.v3920 c k XW = xsub XW k.val 32 := congrFun (xr_eq c k XW) 32
  have hv33 : tripA.sl.v3973 c k XW = xsub XW k.val 33 := congrFun (xr_eq c k XW) 33
  have hv34 : tripA.sl.v4026 c k XW = xsub XW k.val 34 := congrFun (xr_eq c k XW) 34
  have hv35 : tripA.sl.v4079 c k XW = xsub XW k.val 35 := congrFun (xr_eq c k XW) 35
  have hA1 : tripA.sl.HA_1 c k XW A = ⟨amR, shapeCast S16x512 (amF (xsub XW k.val) 0 (View.readAt (Elt F) amM.view amR.toLoadRect A) 9) shapeCasts_S16x512_S16x512⟩ :: [] := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA2 : tripA.sl.HA_2 c k XW A = ⟨amR, shapeCast S16x512 (amF (xsub XW k.val) 9 (tripA.sl.v2592 c k XW A) 9) shapeCasts_S16x512_S16x512⟩ :: tripA.sl.HA_1 c k XW A := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA3 : tripA.sl.HA_3 c k XW A = ⟨amR, shapeCast S16x512 (amF (xsub XW k.val) 18 (tripA.sl.v3122 c k XW A) 9) shapeCasts_S16x512_S16x512⟩ :: tripA.sl.HA_2 c k XW A := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA4 : k0_pay224 (tripA.sl.r_135 c k XW A) = shapeCast S16x512 (amF (xsub XW k.val) 27 (tripA.sl.v3652 c k XW A) 9) shapeCasts_S16x512_S16x512 := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC1 : tripA.sl.HAc_1 c v109 k XW YC = ⟨accR, shapeCast S256x256 (part v109 (dr YC) (xsub XW k.val) 8) shapeCasts_S256x256_S256x256⟩ :: [] := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC2 : tripA.sl.HAc_2 c v109 k XW YC = ⟨accR, shapeCast S256x256 (partF v109 (dr YC) (xsub XW k.val) 9 (tripA.sl.v2593 c v109 k XW YC) 9) shapeCasts_S256x256_S256x256⟩ :: tripA.sl.HAc_1 c v109 k XW YC := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC3 : tripA.sl.HAc_3 c v109 k XW YC = ⟨accR, shapeCast S256x256 (partF v109 (dr YC) (xsub XW k.val) 18 (tripA.sl.v3123 c v109 k XW YC) 9) shapeCasts_S256x256_S256x256⟩ :: tripA.sl.HAc_2 c v109 k XW YC := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hX : tripA.sl.HX_w37 c v109 v112 k XW YC X = View.write (Elt F) (xbM.access (Rect.unit (s := S2x256x256) (k0_off32 k) S1x256x256.size (k0_off32_inb k))) X
      (shapeCast S1x256x256 (dxPay v112 (partF v109 (dr YC) (xsub XW k.val) 27 (tripA.sl.v3653 c v109 k XW YC) 9)) shapeCasts_S256x256_S1x256x256) Finset.univ := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132, tripA.sl.HX_w37]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hO0 : tripA.sl.HO0_w9 c v109 k XW O = nest 0 v109 (xsub XW k.val) (O 0) := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132, tripA.sl.HO0_w1, tripA.sl.HO0_w2, tripA.sl.HO0_w3, tripA.sl.HO0_w4, tripA.sl.HO0_w5, tripA.sl.HO0_w6, tripA.sl.HO0_w7, tripA.sl.HO0_w8, tripA.sl.HO0_w9]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp0 : tripA.sl.dma41_1 c v109 k XW O = ReadAs.same.apply ((oslot 0).view.read (Elt F) (nest 0 v109 (xsub XW k.val) (O 0))) :=
    congrArg (fun g => ReadAs.same.apply ((oslot 0).view.read (Elt F) g)) hO0
  have hO1 : tripA.sl.HO1_w18 c v109 k XW O = nest 1 v109 (xsub XW k.val) (O 1) := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132, tripA.sl.HO1_w10, tripA.sl.HO1_w11, tripA.sl.HO1_w12, tripA.sl.HO1_w13, tripA.sl.HO1_w14, tripA.sl.HO1_w15, tripA.sl.HO1_w16, tripA.sl.HO1_w17, tripA.sl.HO1_w18]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp1 : tripA.sl.dma83_1 c v109 k XW O = ReadAs.same.apply ((oslot 1).view.read (Elt F) (nest 1 v109 (xsub XW k.val) (O 1))) :=
    congrArg (fun g => ReadAs.same.apply ((oslot 1).view.read (Elt F) g)) hO1
  have hO2 : tripA.sl.HO2_w27 c v109 k XW O = nest 2 v109 (xsub XW k.val) (O 2) := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132, tripA.sl.HO2_w19, tripA.sl.HO2_w20, tripA.sl.HO2_w21, tripA.sl.HO2_w22, tripA.sl.HO2_w23, tripA.sl.HO2_w24, tripA.sl.HO2_w25, tripA.sl.HO2_w26, tripA.sl.HO2_w27]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp2 : tripA.sl.dma125_1 c v109 k XW O = ReadAs.same.apply ((oslot 2).view.read (Elt F) (nest 2 v109 (xsub XW k.val) (O 2))) :=
    congrArg (fun g => ReadAs.same.apply ((oslot 2).view.read (Elt F) g)) hO2
  have hO3 : tripA.sl.HO3_w36 c v109 k XW O = nest 3 v109 (xsub XW k.val) (O 3) := by
    dsimp only [tripA.sl.r_40, tripA.sl.r_75, tripA.sl.r_28, tripA.sl.r_3, tripA.sl.r_19, tripA.sl.r_117, tripA.sl.r_84, tripA.sl.HAc_2, tripA.sl.HA_2, tripA.sl.r_108, tripA.sl.r_37, tripA.sl.r_8, tripA.sl.r_125, tripA.sl.r_121, tripA.sl.r_39, tripA.sl.r_100, tripA.sl.r_36, tripA.sl.r_7, tripA.sl.r_57, tripA.sl.r_106, tripA.sl.HA_3, tripA.sl.HAc_1, tripA.sl.r_113, tripA.sl.r_23, tripA.sl.HA_1, tripA.sl.r_60, tripA.sl.r_72, tripA.sl.r_136, tripA.sl.r_59, tripA.sl.r_58, tripA.sl.r_1, tripA.sl.r_62, tripA.sl.r_51, tripA.sl.r_49, tripA.sl.r_21, tripA.sl.r_53, tripA.sl.r_4, tripA.sl.r_123, tripA.sl.r_11, tripA.sl.r_94, tripA.sl.r_24, tripA.sl.r_101, tripA.sl.r_73, tripA.sl.r_120, tripA.sl.r_14, tripA.sl.r_38, tripA.sl.r_68, tripA.sl.r_27, tripA.sl.r_31, tripA.sl.r_96, tripA.sl.r_79, tripA.sl.HAc_3, tripA.sl.r_128, tripA.sl.r_26, tripA.sl.r_64, tripA.sl.r_111, tripA.sl.r_18, tripA.sl.r_29, tripA.sl.r_89, tripA.sl.r_126, tripA.sl.r_119, tripA.sl.r_82, tripA.sl.r_22, tripA.sl.r_87, tripA.sl.r_109, tripA.sl.r_69, tripA.sl.r_76, tripA.sl.r_30, tripA.sl.r_135, tripA.sl.r_86, tripA.sl.r_92, tripA.sl.r_103, tripA.sl.r_98, tripA.sl.r_33, tripA.sl.r_32, tripA.sl.cst_568, tripA.sl.r_20, tripA.sl.r_66, tripA.sl.r_80, tripA.sl.r_12, tripA.sl.r_93, tripA.sl.r_13, tripA.sl.r_71, tripA.sl.r_134, tripA.sl.r_131, tripA.sl.r_41, tripA.sl.r_124, tripA.sl.r_118, tripA.sl.r_54, tripA.sl.r_91, tripA.sl.r, tripA.sl.r_115, tripA.sl.r_50, tripA.sl.r_42, tripA.sl.r_122, tripA.sl.r_137, tripA.sl.r_83, tripA.sl.r_43, tripA.sl.r_16, tripA.sl.r_81, tripA.sl.r_85, tripA.sl.r_99, tripA.sl.r_48, tripA.sl.r_44, tripA.sl.cst_749, tripA.sl.r_77, tripA.sl.r_52, tripA.sl.r_102, tripA.sl.r_110, tripA.sl.r_70, tripA.sl.r_129, tripA.sl.r_10, tripA.sl.r_95, tripA.sl.r_47, tripA.sl.r_56, tripA.sl.r_61, tripA.sl.r_5, tripA.sl.r_15, tripA.sl.r_130, tripA.sl.r_74, tripA.sl.r_104, tripA.sl.r_46, tripA.sl.r_17, tripA.sl.r_107, tripA.sl.r_67, tripA.sl.r_112, tripA.sl.r_88, tripA.sl.r_133, tripA.sl.r_127, tripA.sl.r_45, tripA.sl.r_114, tripA.sl.r_9, tripA.sl.r_55, tripA.sl.r_6, tripA.sl.r_105, tripA.sl.r_25, tripA.sl.r_2, tripA.sl.r_78, tripA.sl.r_65, tripA.sl.r_90, tripA.sl.cst_569, tripA.sl.r_63, tripA.sl.r_34, tripA.sl.r_116, tripA.sl.r_97, tripA.sl.r_35, tripA.sl.r_132, tripA.sl.HO3_w28, tripA.sl.HO3_w29, tripA.sl.HO3_w30, tripA.sl.HO3_w31, tripA.sl.HO3_w32, tripA.sl.HO3_w33, tripA.sl.HO3_w34, tripA.sl.HO3_w35, tripA.sl.HO3_w36]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp3 : tripA.sl.dma167_1 c v109 k XW O = ReadAs.same.apply ((oslot 3).view.read (Elt F) (nest 3 v109 (xsub XW k.val) (O 3))) :=
    congrArg (fun g => ReadAs.same.apply ((oslot 3).view.read (Elt F) g)) hO3
  have hpX : tripA.sl.dma167_2 c v109 v112 k XW YC X = ReadAs.same.apply ((xslot (par k)).view.read (Elt F)
      (View.write (Elt F) (xbM.access (Rect.unit (s := S2x256x256) (k0_off32 k) S1x256x256.size (k0_off32_inb k))) X (shapeCast S1x256x256 (dxPay v112 (partF v109 (dr YC) (xsub XW k.val) 27 (tripA.sl.v3653 c v109 k XW YC) 9)) shapeCasts_S256x256_S1x256x256) Finset.univ)) :=
    congrArg (fun g => ReadAs.same.apply ((xslot (par k)).view.read (Elt F) g)) hX
  isplitl [HD0 HD1 HD2 HD3 HA HAc]
  · iexists _
    isplitl [HD0]; · iexact HD0
    isplitl [HD1]; · iexact HD1
    isplitl [HD2]; · iexact HD2
    isplitl [HD3]; · iexact HD3
    isplitl [HA]
    · iapply (am_of c k XW A hA1 hA2 hA3 hA4)
      iexact HA
    · iexact HAc
  isplitl [HI0_src HI1_src HI2_src HI3_src]
  · isplitl [HI0_src]
    · iexact HI0_src
    isplitl [HI1_src]
    · iexact HI1_src
    isplitl [HI2_src]
    · iexact HI2_src
    · iexact HI3_src
  isplitl [HOz0 HOz1 HOz2 HOz3]
  · isplitl [HOz0]
    · iapply (flyOut_of c k XW v109 0 hp0)
      iexact HOz0
    isplitl [HOz1]
    · iapply (flyOut_of c k XW v109 1 hp1)
      iexact HOz1
    isplitl [HOz2]
    · iapply (flyOut_of c k XW v109 2 hp2)
      iexact HOz2
    · iapply (flyOut_of c k XW v109 3 hp3)
      iexact HOz3
  isplitl [HI0 HI1 HI2 HI3]
  · isplitl [HI0]
    · iapply (flyW_of c XW (par k) 0 (Ring.bk 28 (k + 2)) (p := tripA.sl.dma41 c k XW) rfl)
      iexact HI0
    isplitl [HI1]
    · iapply (flyW_of c XW (par k) 1 (Ring.bk 28 (k + 2)) (p := tripA.sl.dma83 c k XW) rfl)
      iexact HI1
    isplitl [HI2]
    · iapply (flyW_of c XW (par k) 2 (Ring.bk 28 (k + 2)) (p := tripA.sl.dma125 c k XW) rfl)
      iexact HI2
    · iapply (flyW_of c XW (par k) 3 (Ring.bk 28 (k + 2)) (p := tripA.sl.dma167 c k XW) rfl)
      iexact HI3
  isplitl [HXz]
  · iapply (flyDx_of c k XW YC v109 v112 hC1 hC2 hC3 rfl hpX)
    iexact HXz
  iexists _
  iexact HW

end

end Cert.Proof.KI

end
-- ==== Proof.KI.TripB.lean ====
module

public import proofs.«01_k».proof.Proof.KI.Trip

/-! Trip `1`. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD)
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)
  (v109 v112 : F .f32) (c1 : BitVec 32)

set_option maxHeartbeats 16000000 in
theorem tripB (k : Fin k0_t1_loop.trips) (h1 : k.val = 1)
    (XW : BufOf (F := F) c wM) (YC : S256x18432.Idx → F .fp8e4m3) (A : S16x512.Idx → F .bf16) (Ac : S256x256.Idx → F .f32)
    (f : ∀ j, BufOf (F := F) c (rslot (par k) j)) (O : Fin 4 → S4x256x4608.Idx → F .fp8e4m3)
    (G : S7168x18432.Idx → F .fp8e4m3) (X : S2x256x256.Idx → F .bf16) (x' : S256x7168.Idx → F .bf16) (W : Waits sig Unit) :
    iprop(base c YC A Ac
      ∗ four (fun j => flyW c XW (par k) j (Ring.bk 28 k) (f j))
      ∗ four (fun j => homeW c XW (Ring.bk 28 (k + 2)) j)
      ∗ four (fun j => flyOutAt c (WCf v109 XW) j (Ring.bk 28 (k - 1)) (O j))
      ∗ four (fun j => held c (wcblk (Ring.bk 28 k) j) G)
      ∗ held c (xslot (par k)) X
      ∗ zero c (xsem (par k))
      ∗ held c (dxblk (Ring.bk 28 k)) x'
      ∗ owes (c : Thread nD τ) 0 W)
      ⊢ wp frame (wpE (defs₀ (F := F)) 𝒱₀ (c : Thread nD τ) none) Set.univ (tripG arg2 harg2 arg3 harg3 arg6 harg6 arg8 harg8 arg9 harg9 arg10 harg10 v109 v112 c1 k)
        (fun _ => iprop(iprop(∃ Ac, base c YC (amN (xsub XW k) A 36) Ac)
        ∗ four (fun j => homeW c XW (Ring.bk 28 k) j)
        ∗ four (fun j => flyOut c (WCf v109 XW) j (Ring.bk 28 k))
        ∗ four (fun j => iprop(∃ f, flyW c XW (par k) j (Ring.bk 28 (k + 2)) f))
        ∗ four (fun j => held c (wcblk (Ring.bk 28 (k - 1)) j) (WCf v109 XW))
        ∗ flyDx c (DXf v109 v112 YC XW) (par k) (Ring.bk 28 k)
        ∗ iprop(∃ W, owes (c : Thread nD τ) 0 W))) := by
  have e1 := cond1_pos k (by omega)
  have e3 := cond3_pos k (by omega)
  have e5 := cond5_pos k (by omega)
  have e7 := cond7_pos k (by omega)
  have e2 := cond2_pos k (by omega)
  have e4 := cond4_pos k (by omega)
  have e6 := cond6_pos k (by omega)
  have e9 := cond9_pos k (by omega)
  have e8 : ¬ (k0_cond8 k = 1#1) := by rw [cond8_neg k (by omega)]; decide
  iintro ⟨⟨HD0, HD1, HD2, HD3, HA, HAc⟩, ⟨HI0, HI1, HI2, HI3⟩, ⟨HW0, HW1, HW2, HW3⟩, ⟨HO0, HO1, HO2, HO3⟩, ⟨HC0, HC1, HC2, HC3⟩, HX, HXz, Hx, HW⟩
  dsimp only [tripG]
  sl_unfold [k0_t1_body]
  sl_exec
  rw [wp_ret]
  imodintro
  have hv0 : tripB.sl.v2066 c k XW = xsub XW k.val 0 := congrFun (xr_eq c k XW) 0
  have hv1 : tripB.sl.v2118 c k XW = xsub XW k.val 1 := congrFun (xr_eq c k XW) 1
  have hv2 : tripB.sl.v2171 c k XW = xsub XW k.val 2 := congrFun (xr_eq c k XW) 2
  have hv3 : tripB.sl.v2224 c k XW = xsub XW k.val 3 := congrFun (xr_eq c k XW) 3
  have hv4 : tripB.sl.v2277 c k XW = xsub XW k.val 4 := congrFun (xr_eq c k XW) 4
  have hv5 : tripB.sl.v2330 c k XW = xsub XW k.val 5 := congrFun (xr_eq c k XW) 5
  have hv6 : tripB.sl.v2383 c k XW = xsub XW k.val 6 := congrFun (xr_eq c k XW) 6
  have hv7 : tripB.sl.v2436 c k XW = xsub XW k.val 7 := congrFun (xr_eq c k XW) 7
  have hv8 : tripB.sl.v2489 c k XW = xsub XW k.val 8 := congrFun (xr_eq c k XW) 8
  have hv9 : tripB.sl.v2595 c k XW = xsub XW k.val 9 := congrFun (xr_eq c k XW) 9
  have hv10 : tripB.sl.v2648 c k XW = xsub XW k.val 10 := congrFun (xr_eq c k XW) 10
  have hv11 : tripB.sl.v2701 c k XW = xsub XW k.val 11 := congrFun (xr_eq c k XW) 11
  have hv12 : tripB.sl.v2754 c k XW = xsub XW k.val 12 := congrFun (xr_eq c k XW) 12
  have hv13 : tripB.sl.v2807 c k XW = xsub XW k.val 13 := congrFun (xr_eq c k XW) 13
  have hv14 : tripB.sl.v2860 c k XW = xsub XW k.val 14 := congrFun (xr_eq c k XW) 14
  have hv15 : tripB.sl.v2913 c k XW = xsub XW k.val 15 := congrFun (xr_eq c k XW) 15
  have hv16 : tripB.sl.v2966 c k XW = xsub XW k.val 16 := congrFun (xr_eq c k XW) 16
  have hv17 : tripB.sl.v3019 c k XW = xsub XW k.val 17 := congrFun (xr_eq c k XW) 17
  have hv18 : tripB.sl.v3125 c k XW = xsub XW k.val 18 := congrFun (xr_eq c k XW) 18
  have hv19 : tripB.sl.v3178 c k XW = xsub XW k.val 19 := congrFun (xr_eq c k XW) 19
  have hv20 : tripB.sl.v3231 c k XW = xsub XW k.val 20 := congrFun (xr_eq c k XW) 20
  have hv21 : tripB.sl.v3284 c k XW = xsub XW k.val 21 := congrFun (xr_eq c k XW) 21
  have hv22 : tripB.sl.v3337 c k XW = xsub XW k.val 22 := congrFun (xr_eq c k XW) 22
  have hv23 : tripB.sl.v3390 c k XW = xsub XW k.val 23 := congrFun (xr_eq c k XW) 23
  have hv24 : tripB.sl.v3443 c k XW = xsub XW k.val 24 := congrFun (xr_eq c k XW) 24
  have hv25 : tripB.sl.v3496 c k XW = xsub XW k.val 25 := congrFun (xr_eq c k XW) 25
  have hv26 : tripB.sl.v3549 c k XW = xsub XW k.val 26 := congrFun (xr_eq c k XW) 26
  have hv27 : tripB.sl.v3655 c k XW = xsub XW k.val 27 := congrFun (xr_eq c k XW) 27
  have hv28 : tripB.sl.v3708 c k XW = xsub XW k.val 28 := congrFun (xr_eq c k XW) 28
  have hv29 : tripB.sl.v3761 c k XW = xsub XW k.val 29 := congrFun (xr_eq c k XW) 29
  have hv30 : tripB.sl.v3814 c k XW = xsub XW k.val 30 := congrFun (xr_eq c k XW) 30
  have hv31 : tripB.sl.v3867 c k XW = xsub XW k.val 31 := congrFun (xr_eq c k XW) 31
  have hv32 : tripB.sl.v3920 c k XW = xsub XW k.val 32 := congrFun (xr_eq c k XW) 32
  have hv33 : tripB.sl.v3973 c k XW = xsub XW k.val 33 := congrFun (xr_eq c k XW) 33
  have hv34 : tripB.sl.v4026 c k XW = xsub XW k.val 34 := congrFun (xr_eq c k XW) 34
  have hv35 : tripB.sl.v4079 c k XW = xsub XW k.val 35 := congrFun (xr_eq c k XW) 35
  have hA1 : tripB.sl.HA_1 c k XW A = ⟨amR, shapeCast S16x512 (amF (xsub XW k.val) 0 (View.readAt (Elt F) amM.view amR.toLoadRect A) 9) shapeCasts_S16x512_S16x512⟩ :: [] := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA2 : tripB.sl.HA_2 c k XW A = ⟨amR, shapeCast S16x512 (amF (xsub XW k.val) 9 (tripB.sl.v2592 c k XW A) 9) shapeCasts_S16x512_S16x512⟩ :: tripB.sl.HA_1 c k XW A := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA3 : tripB.sl.HA_3 c k XW A = ⟨amR, shapeCast S16x512 (amF (xsub XW k.val) 18 (tripB.sl.v3122 c k XW A) 9) shapeCasts_S16x512_S16x512⟩ :: tripB.sl.HA_2 c k XW A := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA4 : k0_pay224 (tripB.sl.r_135 c k XW A) = shapeCast S16x512 (amF (xsub XW k.val) 27 (tripB.sl.v3652 c k XW A) 9) shapeCasts_S16x512_S16x512 := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC1 : tripB.sl.HAc_1 c v109 k XW YC = ⟨accR, shapeCast S256x256 (part v109 (dr YC) (xsub XW k.val) 8) shapeCasts_S256x256_S256x256⟩ :: [] := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC2 : tripB.sl.HAc_2 c v109 k XW YC = ⟨accR, shapeCast S256x256 (partF v109 (dr YC) (xsub XW k.val) 9 (tripB.sl.v2593 c v109 k XW YC) 9) shapeCasts_S256x256_S256x256⟩ :: tripB.sl.HAc_1 c v109 k XW YC := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC3 : tripB.sl.HAc_3 c v109 k XW YC = ⟨accR, shapeCast S256x256 (partF v109 (dr YC) (xsub XW k.val) 18 (tripB.sl.v3123 c v109 k XW YC) 9) shapeCasts_S256x256_S256x256⟩ :: tripB.sl.HAc_2 c v109 k XW YC := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hX : tripB.sl.HX_w37 c v109 v112 k XW YC X = View.write (Elt F) (xbM.access (Rect.unit (s := S2x256x256) (k0_off32 k) S1x256x256.size (k0_off32_inb k))) X
      (shapeCast S1x256x256 (dxPay v112 (partF v109 (dr YC) (xsub XW k.val) 27 (tripB.sl.v3653 c v109 k XW YC) 9)) shapeCasts_S256x256_S1x256x256) Finset.univ := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97, tripB.sl.HX_w37]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hO0 : tripB.sl.HO0_src_w9 c v109 k XW O = nest 0 v109 (xsub XW k.val) (O 0) := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97, tripB.sl.HO0_src_w1, tripB.sl.HO0_src_w2, tripB.sl.HO0_src_w3, tripB.sl.HO0_src_w4, tripB.sl.HO0_src_w5, tripB.sl.HO0_src_w6, tripB.sl.HO0_src_w7, tripB.sl.HO0_src_w8, tripB.sl.HO0_src_w9]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp0 : tripB.sl.dma41_1 c v109 k XW O = ReadAs.same.apply ((oslot 0).view.read (Elt F) (nest 0 v109 (xsub XW k.val) (O 0))) :=
    congrArg (fun g => ReadAs.same.apply ((oslot 0).view.read (Elt F) g)) hO0
  have hO1 : tripB.sl.HO1_src_w18 c v109 k XW O = nest 1 v109 (xsub XW k.val) (O 1) := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97, tripB.sl.HO1_src_w10, tripB.sl.HO1_src_w11, tripB.sl.HO1_src_w12, tripB.sl.HO1_src_w13, tripB.sl.HO1_src_w14, tripB.sl.HO1_src_w15, tripB.sl.HO1_src_w16, tripB.sl.HO1_src_w17, tripB.sl.HO1_src_w18]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp1 : tripB.sl.dma83_1 c v109 k XW O = ReadAs.same.apply ((oslot 1).view.read (Elt F) (nest 1 v109 (xsub XW k.val) (O 1))) :=
    congrArg (fun g => ReadAs.same.apply ((oslot 1).view.read (Elt F) g)) hO1
  have hO2 : tripB.sl.HO2_src_w27 c v109 k XW O = nest 2 v109 (xsub XW k.val) (O 2) := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97, tripB.sl.HO2_src_w19, tripB.sl.HO2_src_w20, tripB.sl.HO2_src_w21, tripB.sl.HO2_src_w22, tripB.sl.HO2_src_w23, tripB.sl.HO2_src_w24, tripB.sl.HO2_src_w25, tripB.sl.HO2_src_w26, tripB.sl.HO2_src_w27]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp2 : tripB.sl.dma125_1 c v109 k XW O = ReadAs.same.apply ((oslot 2).view.read (Elt F) (nest 2 v109 (xsub XW k.val) (O 2))) :=
    congrArg (fun g => ReadAs.same.apply ((oslot 2).view.read (Elt F) g)) hO2
  have hO3 : tripB.sl.HO3_src_w36 c v109 k XW O = nest 3 v109 (xsub XW k.val) (O 3) := by
    dsimp only [tripB.sl.r_20, tripB.sl.r_94, tripB.sl.r_6, tripB.sl.r_37, tripB.sl.r_73, tripB.sl.r_16, tripB.sl.HA_3, tripB.sl.cst_749, tripB.sl.r_134, tripB.sl.r_107, tripB.sl.r_66, tripB.sl.r_33, tripB.sl.r_22, tripB.sl.r_84, tripB.sl.r_12, tripB.sl.r_13, tripB.sl.r_91, tripB.sl.r_62, tripB.sl.r_78, tripB.sl.r_124, tripB.sl.r_76, tripB.sl.r_92, tripB.sl.r_104, tripB.sl.r_102, tripB.sl.r_46, tripB.sl.r_89, tripB.sl.r_99, tripB.sl.r_87, tripB.sl.r_54, tripB.sl.r_120, tripB.sl.r_32, tripB.sl.cst_569, tripB.sl.r_39, tripB.sl.r_115, tripB.sl.r_34, tripB.sl.r_3, tripB.sl.r_109, tripB.sl.r_56, tripB.sl.r_18, tripB.sl.r_27, tripB.sl.r_88, tripB.sl.r_9, tripB.sl.HA_1, tripB.sl.r_86, tripB.sl.r_48, tripB.sl.r_31, tripB.sl.r_131, tripB.sl.r_8, tripB.sl.r_55, tripB.sl.r_93, tripB.sl.r_103, tripB.sl.r_30, tripB.sl.r_21, tripB.sl.r_44, tripB.sl.r_4, tripB.sl.r_72, tripB.sl.r_10, tripB.sl.r_42, tripB.sl.r_74, tripB.sl.r_51, tripB.sl.r_106, tripB.sl.r_67, tripB.sl.r_101, tripB.sl.r_105, tripB.sl.r_24, tripB.sl.HAc_3, tripB.sl.r_53, tripB.sl.HAc_1, tripB.sl.r_64, tripB.sl.r_57, tripB.sl.r_95, tripB.sl.r_129, tripB.sl.r_85, tripB.sl.r_128, tripB.sl.r_100, tripB.sl.r_121, tripB.sl.r_59, tripB.sl.r_65, tripB.sl.r_58, tripB.sl.r_14, tripB.sl.r_126, tripB.sl.r_29, tripB.sl.r_112, tripB.sl.r_136, tripB.sl.r_133, tripB.sl.r_77, tripB.sl.r_40, tripB.sl.r_111, tripB.sl.r_122, tripB.sl.r_71, tripB.sl.r_63, tripB.sl.r_45, tripB.sl.r_60, tripB.sl.r_135, tripB.sl.r_68, tripB.sl.r_38, tripB.sl.r_2, tripB.sl.r_47, tripB.sl.r_114, tripB.sl.r_35, tripB.sl.r_80, tripB.sl.r_52, tripB.sl.r_36, tripB.sl.r_15, tripB.sl.r_11, tripB.sl.r_17, tripB.sl.r_90, tripB.sl.r_1, tripB.sl.r_69, tripB.sl.r_127, tripB.sl.r_43, tripB.sl.r_19, tripB.sl.r_50, tripB.sl.r_79, tripB.sl.r_25, tripB.sl.r_5, tripB.sl.r_130, tripB.sl.r_113, tripB.sl.r_119, tripB.sl.r_82, tripB.sl.cst_568, tripB.sl.r_132, tripB.sl.r_96, tripB.sl.r_117, tripB.sl.r_125, tripB.sl.r_81, tripB.sl.r_26, tripB.sl.r_41, tripB.sl.r_116, tripB.sl.r_70, tripB.sl.r_108, tripB.sl.HAc_2, tripB.sl.r_110, tripB.sl.r_7, tripB.sl.r_137, tripB.sl.r, tripB.sl.r_123, tripB.sl.r_23, tripB.sl.r_98, tripB.sl.r_28, tripB.sl.r_49, tripB.sl.r_75, tripB.sl.r_118, tripB.sl.HA_2, tripB.sl.r_61, tripB.sl.r_83, tripB.sl.r_97, tripB.sl.HO3_src_w28, tripB.sl.HO3_src_w29, tripB.sl.HO3_src_w30, tripB.sl.HO3_src_w31, tripB.sl.HO3_src_w32, tripB.sl.HO3_src_w33, tripB.sl.HO3_src_w34, tripB.sl.HO3_src_w35, tripB.sl.HO3_src_w36]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp3 : tripB.sl.dma167_1 c v109 k XW O = ReadAs.same.apply ((oslot 3).view.read (Elt F) (nest 3 v109 (xsub XW k.val) (O 3))) :=
    congrArg (fun g => ReadAs.same.apply ((oslot 3).view.read (Elt F) g)) hO3
  have hpX : tripB.sl.dma167_2 c v109 v112 k XW YC X = ReadAs.same.apply ((xslot (par k)).view.read (Elt F)
      (View.write (Elt F) (xbM.access (Rect.unit (s := S2x256x256) (k0_off32 k) S1x256x256.size (k0_off32_inb k))) X (shapeCast S1x256x256 (dxPay v112 (partF v109 (dr YC) (xsub XW k.val) 27 (tripB.sl.v3653 c v109 k XW YC) 9)) shapeCasts_S256x256_S1x256x256) Finset.univ)) :=
    congrArg (fun g => ReadAs.same.apply ((xslot (par k)).view.read (Elt F) g)) hX
  isplitl [HD0 HD1 HD2 HD3 HA HAc]
  · iexists _
    isplitl [HD0]; · iexact HD0
    isplitl [HD1]; · iexact HD1
    isplitl [HD2]; · iexact HD2
    isplitl [HD3]; · iexact HD3
    isplitl [HA]
    · iapply (am_of c k XW A hA1 hA2 hA3 hA4)
      iexact HA
    · iexact HAc
  isplitl [HI0_src HI1_src HI2_src HI3_src]
  · isplitl [HI0_src]
    · iexact HI0_src
    isplitl [HI1_src]
    · iexact HI1_src
    isplitl [HI2_src]
    · iexact HI2_src
    · iexact HI3_src
  isplitl [HO0 HO1 HO2 HO3]
  · isplitl [HO0]
    · iapply (flyOut_of c k XW v109 0 hp0)
      iexact HO0
    isplitl [HO1]
    · iapply (flyOut_of c k XW v109 1 hp1)
      iexact HO1
    isplitl [HO2]
    · iapply (flyOut_of c k XW v109 2 hp2)
      iexact HO2
    · iapply (flyOut_of c k XW v109 3 hp3)
      iexact HO3
  isplitl [HI0 HI1 HI2 HI3]
  · isplitl [HI0]
    · iapply (flyW_of c XW (par k) 0 (Ring.bk 28 (k + 2)) (p := tripB.sl.dma41 c k XW) rfl)
      iexact HI0
    isplitl [HI1]
    · iapply (flyW_of c XW (par k) 1 (Ring.bk 28 (k + 2)) (p := tripB.sl.dma83 c k XW) rfl)
      iexact HI1
    isplitl [HI2]
    · iapply (flyW_of c XW (par k) 2 (Ring.bk 28 (k + 2)) (p := tripB.sl.dma125 c k XW) rfl)
      iexact HI2
    · iapply (flyW_of c XW (par k) 3 (Ring.bk 28 (k + 2)) (p := tripB.sl.dma167 c k XW) rfl)
      iexact HI3
  isplitl [HO0_dst HO1_dst HO2_dst HO3_dst]
  · isplitl [HO0_dst]
    · iexact HO0_dst
    isplitl [HO1_dst]
    · iexact HO1_dst
    isplitl [HO2_dst]
    · iexact HO2_dst
    · iexact HO3_dst
  isplitl [HXz]
  · iapply (flyDx_of c k XW YC v109 v112 hC1 hC2 hC3 rfl hpX)
    iexact HXz
  iexists _
  iexact HW

end

end Cert.Proof.KI

end
-- ==== Proof.KI.TripC.lean ====
module

public import proofs.«01_k».proof.Proof.KI.Trip

/-! A trip from `2` to `25`. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD)
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)
  (v109 v112 : F .f32) (c1 : BitVec 32)

set_option maxHeartbeats 16000000 in
theorem tripC (k : Fin k0_t1_loop.trips) (h2 : 2 ≤ k.val) (h28 : k.val + 2 < 28)
    (XW : BufOf (F := F) c wM) (YC : S256x18432.Idx → F .fp8e4m3) (A : S16x512.Idx → F .bf16) (Ac : S256x256.Idx → F .f32)
    (f : ∀ j, BufOf (F := F) c (rslot (par k) j)) (O : Fin 4 → S4x256x4608.Idx → F .fp8e4m3)
    (G : S7168x18432.Idx → F .fp8e4m3) (X : S2x256x256.Idx → F .bf16) (x' : S256x7168.Idx → F .bf16) (W : Waits sig Unit) :
    iprop(base c YC A Ac
      ∗ four (fun j => flyW c XW (par k) j (Ring.bk 28 k) (f j))
      ∗ four (fun j => homeW c XW (Ring.bk 28 (k + 2)) j)
      ∗ four (fun j => flyOutAt c (WCf v109 XW) j (Ring.bk 28 (k - 1)) (O j))
      ∗ four (fun j => held c (wcblk (Ring.bk 28 k) j) G)
      ∗ flyDxAt c (DXf v109 v112 YC XW) (par k) (Ring.bk 28 (k - 2)) X
      ∗ held c (dxblk (Ring.bk 28 k)) x'
      ∗ owes (c : Thread nD τ) 0 W)
      ⊢ wp frame (wpE (defs₀ (F := F)) 𝒱₀ (c : Thread nD τ) none) Set.univ (tripG arg2 harg2 arg3 harg3 arg6 harg6 arg8 harg8 arg9 harg9 arg10 harg10 v109 v112 c1 k)
        (fun _ => iprop(iprop(∃ Ac, base c YC (amN (xsub XW k) A 36) Ac)
        ∗ four (fun j => homeW c XW (Ring.bk 28 k) j)
        ∗ four (fun j => flyOut c (WCf v109 XW) j (Ring.bk 28 k))
        ∗ four (fun j => iprop(∃ f, flyW c XW (par k) j (Ring.bk 28 (k + 2)) f))
        ∗ four (fun j => held c (wcblk (Ring.bk 28 (k - 1)) j) (WCf v109 XW))
        ∗ flyDx c (DXf v109 v112 YC XW) (par k) (Ring.bk 28 k)
        ∗ held c (dxblk (Ring.bk 28 (k - 2))) (DXf v109 v112 YC XW)
        ∗ iprop(∃ W, owes (c : Thread nD τ) 0 W))) := by
  have e1 := cond1_pos k (by omega)
  have e3 := cond3_pos k (by omega)
  have e5 := cond5_pos k (by omega)
  have e7 := cond7_pos k (by omega)
  have e2 := cond2_pos k (by omega)
  have e4 := cond4_pos k (by omega)
  have e6 := cond6_pos k (by omega)
  have e9 := cond9_pos k (by omega)
  have e8 := cond8_pos k (by omega)
  iintro ⟨⟨HD0, HD1, HD2, HD3, HA, HAc⟩, ⟨HI0, HI1, HI2, HI3⟩, ⟨HW0, HW1, HW2, HW3⟩, ⟨HO0, HO1, HO2, HO3⟩, ⟨HC0, HC1, HC2, HC3⟩, HX, Hx, HW⟩
  dsimp only [tripG]
  sl_unfold [k0_t1_body]
  sl_exec
  rw [wp_ret]
  imodintro
  have hv0 : tripC.sl.v2066 c k XW = xsub XW k.val 0 := congrFun (xr_eq c k XW) 0
  have hv1 : tripC.sl.v2118 c k XW = xsub XW k.val 1 := congrFun (xr_eq c k XW) 1
  have hv2 : tripC.sl.v2171 c k XW = xsub XW k.val 2 := congrFun (xr_eq c k XW) 2
  have hv3 : tripC.sl.v2224 c k XW = xsub XW k.val 3 := congrFun (xr_eq c k XW) 3
  have hv4 : tripC.sl.v2277 c k XW = xsub XW k.val 4 := congrFun (xr_eq c k XW) 4
  have hv5 : tripC.sl.v2330 c k XW = xsub XW k.val 5 := congrFun (xr_eq c k XW) 5
  have hv6 : tripC.sl.v2383 c k XW = xsub XW k.val 6 := congrFun (xr_eq c k XW) 6
  have hv7 : tripC.sl.v2436 c k XW = xsub XW k.val 7 := congrFun (xr_eq c k XW) 7
  have hv8 : tripC.sl.v2489 c k XW = xsub XW k.val 8 := congrFun (xr_eq c k XW) 8
  have hv9 : tripC.sl.v2595 c k XW = xsub XW k.val 9 := congrFun (xr_eq c k XW) 9
  have hv10 : tripC.sl.v2648 c k XW = xsub XW k.val 10 := congrFun (xr_eq c k XW) 10
  have hv11 : tripC.sl.v2701 c k XW = xsub XW k.val 11 := congrFun (xr_eq c k XW) 11
  have hv12 : tripC.sl.v2754 c k XW = xsub XW k.val 12 := congrFun (xr_eq c k XW) 12
  have hv13 : tripC.sl.v2807 c k XW = xsub XW k.val 13 := congrFun (xr_eq c k XW) 13
  have hv14 : tripC.sl.v2860 c k XW = xsub XW k.val 14 := congrFun (xr_eq c k XW) 14
  have hv15 : tripC.sl.v2913 c k XW = xsub XW k.val 15 := congrFun (xr_eq c k XW) 15
  have hv16 : tripC.sl.v2966 c k XW = xsub XW k.val 16 := congrFun (xr_eq c k XW) 16
  have hv17 : tripC.sl.v3019 c k XW = xsub XW k.val 17 := congrFun (xr_eq c k XW) 17
  have hv18 : tripC.sl.v3125 c k XW = xsub XW k.val 18 := congrFun (xr_eq c k XW) 18
  have hv19 : tripC.sl.v3178 c k XW = xsub XW k.val 19 := congrFun (xr_eq c k XW) 19
  have hv20 : tripC.sl.v3231 c k XW = xsub XW k.val 20 := congrFun (xr_eq c k XW) 20
  have hv21 : tripC.sl.v3284 c k XW = xsub XW k.val 21 := congrFun (xr_eq c k XW) 21
  have hv22 : tripC.sl.v3337 c k XW = xsub XW k.val 22 := congrFun (xr_eq c k XW) 22
  have hv23 : tripC.sl.v3390 c k XW = xsub XW k.val 23 := congrFun (xr_eq c k XW) 23
  have hv24 : tripC.sl.v3443 c k XW = xsub XW k.val 24 := congrFun (xr_eq c k XW) 24
  have hv25 : tripC.sl.v3496 c k XW = xsub XW k.val 25 := congrFun (xr_eq c k XW) 25
  have hv26 : tripC.sl.v3549 c k XW = xsub XW k.val 26 := congrFun (xr_eq c k XW) 26
  have hv27 : tripC.sl.v3655 c k XW = xsub XW k.val 27 := congrFun (xr_eq c k XW) 27
  have hv28 : tripC.sl.v3708 c k XW = xsub XW k.val 28 := congrFun (xr_eq c k XW) 28
  have hv29 : tripC.sl.v3761 c k XW = xsub XW k.val 29 := congrFun (xr_eq c k XW) 29
  have hv30 : tripC.sl.v3814 c k XW = xsub XW k.val 30 := congrFun (xr_eq c k XW) 30
  have hv31 : tripC.sl.v3867 c k XW = xsub XW k.val 31 := congrFun (xr_eq c k XW) 31
  have hv32 : tripC.sl.v3920 c k XW = xsub XW k.val 32 := congrFun (xr_eq c k XW) 32
  have hv33 : tripC.sl.v3973 c k XW = xsub XW k.val 33 := congrFun (xr_eq c k XW) 33
  have hv34 : tripC.sl.v4026 c k XW = xsub XW k.val 34 := congrFun (xr_eq c k XW) 34
  have hv35 : tripC.sl.v4079 c k XW = xsub XW k.val 35 := congrFun (xr_eq c k XW) 35
  have hA1 : tripC.sl.HA_1 c k XW A = ⟨amR, shapeCast S16x512 (amF (xsub XW k.val) 0 (View.readAt (Elt F) amM.view amR.toLoadRect A) 9) shapeCasts_S16x512_S16x512⟩ :: [] := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA2 : tripC.sl.HA_2 c k XW A = ⟨amR, shapeCast S16x512 (amF (xsub XW k.val) 9 (tripC.sl.v2592 c k XW A) 9) shapeCasts_S16x512_S16x512⟩ :: tripC.sl.HA_1 c k XW A := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA3 : tripC.sl.HA_3 c k XW A = ⟨amR, shapeCast S16x512 (amF (xsub XW k.val) 18 (tripC.sl.v3122 c k XW A) 9) shapeCasts_S16x512_S16x512⟩ :: tripC.sl.HA_2 c k XW A := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA4 : k0_pay224 (tripC.sl.r_135 c k XW A) = shapeCast S16x512 (amF (xsub XW k.val) 27 (tripC.sl.v3652 c k XW A) 9) shapeCasts_S16x512_S16x512 := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC1 : tripC.sl.HAc_1 c v109 k XW YC = ⟨accR, shapeCast S256x256 (part v109 (dr YC) (xsub XW k.val) 8) shapeCasts_S256x256_S256x256⟩ :: [] := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC2 : tripC.sl.HAc_2 c v109 k XW YC = ⟨accR, shapeCast S256x256 (partF v109 (dr YC) (xsub XW k.val) 9 (tripC.sl.v2593 c v109 k XW YC) 9) shapeCasts_S256x256_S256x256⟩ :: tripC.sl.HAc_1 c v109 k XW YC := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC3 : tripC.sl.HAc_3 c v109 k XW YC = ⟨accR, shapeCast S256x256 (partF v109 (dr YC) (xsub XW k.val) 18 (tripC.sl.v3123 c v109 k XW YC) 9) shapeCasts_S256x256_S256x256⟩ :: tripC.sl.HAc_2 c v109 k XW YC := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hX : tripC.sl.HX_src_w37 c v109 v112 k XW YC X = View.write (Elt F) (xbM.access (Rect.unit (s := S2x256x256) (k0_off32 k) S1x256x256.size (k0_off32_inb k))) X
      (shapeCast S1x256x256 (dxPay v112 (partF v109 (dr YC) (xsub XW k.val) 27 (tripC.sl.v3653 c v109 k XW YC) 9)) shapeCasts_S256x256_S1x256x256) Finset.univ := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124, tripC.sl.HX_src_w37]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hO0 : tripC.sl.HO0_src_w9 c v109 k XW O = nest 0 v109 (xsub XW k.val) (O 0) := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124, tripC.sl.HO0_src_w1, tripC.sl.HO0_src_w2, tripC.sl.HO0_src_w3, tripC.sl.HO0_src_w4, tripC.sl.HO0_src_w5, tripC.sl.HO0_src_w6, tripC.sl.HO0_src_w7, tripC.sl.HO0_src_w8, tripC.sl.HO0_src_w9]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp0 : tripC.sl.dma41_1 c v109 k XW O = ReadAs.same.apply ((oslot 0).view.read (Elt F) (nest 0 v109 (xsub XW k.val) (O 0))) :=
    congrArg (fun g => ReadAs.same.apply ((oslot 0).view.read (Elt F) g)) hO0
  have hO1 : tripC.sl.HO1_src_w18 c v109 k XW O = nest 1 v109 (xsub XW k.val) (O 1) := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124, tripC.sl.HO1_src_w10, tripC.sl.HO1_src_w11, tripC.sl.HO1_src_w12, tripC.sl.HO1_src_w13, tripC.sl.HO1_src_w14, tripC.sl.HO1_src_w15, tripC.sl.HO1_src_w16, tripC.sl.HO1_src_w17, tripC.sl.HO1_src_w18]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp1 : tripC.sl.dma83_1 c v109 k XW O = ReadAs.same.apply ((oslot 1).view.read (Elt F) (nest 1 v109 (xsub XW k.val) (O 1))) :=
    congrArg (fun g => ReadAs.same.apply ((oslot 1).view.read (Elt F) g)) hO1
  have hO2 : tripC.sl.HO2_src_w27 c v109 k XW O = nest 2 v109 (xsub XW k.val) (O 2) := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124, tripC.sl.HO2_src_w19, tripC.sl.HO2_src_w20, tripC.sl.HO2_src_w21, tripC.sl.HO2_src_w22, tripC.sl.HO2_src_w23, tripC.sl.HO2_src_w24, tripC.sl.HO2_src_w25, tripC.sl.HO2_src_w26, tripC.sl.HO2_src_w27]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp2 : tripC.sl.dma125_1 c v109 k XW O = ReadAs.same.apply ((oslot 2).view.read (Elt F) (nest 2 v109 (xsub XW k.val) (O 2))) :=
    congrArg (fun g => ReadAs.same.apply ((oslot 2).view.read (Elt F) g)) hO2
  have hO3 : tripC.sl.HO3_src_w36 c v109 k XW O = nest 3 v109 (xsub XW k.val) (O 3) := by
    dsimp only [tripC.sl.r_51, tripC.sl.r_115, tripC.sl.r_53, tripC.sl.r_23, tripC.sl.r_91, tripC.sl.HA_3, tripC.sl.r_20, tripC.sl.HAc_3, tripC.sl.r_105, tripC.sl.r_15, tripC.sl.r_114, tripC.sl.HA_1, tripC.sl.r_90, tripC.sl.r_31, tripC.sl.r, tripC.sl.r_17, tripC.sl.r_94, tripC.sl.r_117, tripC.sl.r_96, tripC.sl.r_85, tripC.sl.r_40, tripC.sl.r_108, tripC.sl.r_72, tripC.sl.r_103, tripC.sl.r_104, tripC.sl.r_109, tripC.sl.r_12, tripC.sl.r_58, tripC.sl.r_64, tripC.sl.r_9, tripC.sl.r_60, tripC.sl.r_48, tripC.sl.r_122, tripC.sl.r_34, tripC.sl.r_67, tripC.sl.r_132, tripC.sl.r_14, tripC.sl.cst_568, tripC.sl.r_5, tripC.sl.r_1, tripC.sl.r_16, tripC.sl.r_106, tripC.sl.r_32, tripC.sl.r_121, tripC.sl.r_86, tripC.sl.r_52, tripC.sl.r_130, tripC.sl.r_21, tripC.sl.r_120, tripC.sl.r_123, tripC.sl.r_43, tripC.sl.r_82, tripC.sl.r_92, tripC.sl.r_95, tripC.sl.r_128, tripC.sl.r_110, tripC.sl.r_98, tripC.sl.r_131, tripC.sl.r_102, tripC.sl.r_39, tripC.sl.r_25, tripC.sl.r_101, tripC.sl.r_69, tripC.sl.r_74, tripC.sl.r_7, tripC.sl.r_133, tripC.sl.r_26, tripC.sl.r_62, tripC.sl.r_127, tripC.sl.r_44, tripC.sl.r_13, tripC.sl.r_10, tripC.sl.r_41, tripC.sl.r_42, tripC.sl.r_135, tripC.sl.r_111, tripC.sl.r_125, tripC.sl.r_28, tripC.sl.r_129, tripC.sl.r_75, tripC.sl.r_93, tripC.sl.r_11, tripC.sl.r_100, tripC.sl.r_63, tripC.sl.r_57, tripC.sl.r_49, tripC.sl.r_136, tripC.sl.r_78, tripC.sl.r_50, tripC.sl.r_113, tripC.sl.r_47, tripC.sl.r_83, tripC.sl.cst_749, tripC.sl.r_71, tripC.sl.r_22, tripC.sl.r_24, tripC.sl.r_33, tripC.sl.r_87, tripC.sl.r_27, tripC.sl.r_116, tripC.sl.r_3, tripC.sl.cst_569, tripC.sl.r_80, tripC.sl.r_119, tripC.sl.r_70, tripC.sl.r_36, tripC.sl.r_68, tripC.sl.r_19, tripC.sl.r_76, tripC.sl.r_81, tripC.sl.r_2, tripC.sl.r_59, tripC.sl.r_112, tripC.sl.r_4, tripC.sl.r_30, tripC.sl.r_38, tripC.sl.r_73, tripC.sl.r_88, tripC.sl.r_134, tripC.sl.r_126, tripC.sl.r_6, tripC.sl.r_66, tripC.sl.r_29, tripC.sl.r_46, tripC.sl.r_107, tripC.sl.HA_2, tripC.sl.r_61, tripC.sl.r_45, tripC.sl.r_84, tripC.sl.r_37, tripC.sl.r_137, tripC.sl.r_35, tripC.sl.r_54, tripC.sl.r_99, tripC.sl.HAc_2, tripC.sl.r_56, tripC.sl.r_118, tripC.sl.r_8, tripC.sl.r_97, tripC.sl.r_79, tripC.sl.r_89, tripC.sl.r_77, tripC.sl.r_18, tripC.sl.HAc_1, tripC.sl.r_55, tripC.sl.r_65, tripC.sl.r_124, tripC.sl.HO3_src_w28, tripC.sl.HO3_src_w29, tripC.sl.HO3_src_w30, tripC.sl.HO3_src_w31, tripC.sl.HO3_src_w32, tripC.sl.HO3_src_w33, tripC.sl.HO3_src_w34, tripC.sl.HO3_src_w35, tripC.sl.HO3_src_w36]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp3 : tripC.sl.dma167_1 c v109 k XW O = ReadAs.same.apply ((oslot 3).view.read (Elt F) (nest 3 v109 (xsub XW k.val) (O 3))) :=
    congrArg (fun g => ReadAs.same.apply ((oslot 3).view.read (Elt F) g)) hO3
  have hpX : tripC.sl.dma167_2 c v109 v112 k XW YC X = ReadAs.same.apply ((xslot (par k)).view.read (Elt F)
      (View.write (Elt F) (xbM.access (Rect.unit (s := S2x256x256) (k0_off32 k) S1x256x256.size (k0_off32_inb k))) X (shapeCast S1x256x256 (dxPay v112 (partF v109 (dr YC) (xsub XW k.val) 27 (tripC.sl.v3653 c v109 k XW YC) 9)) shapeCasts_S256x256_S1x256x256) Finset.univ)) :=
    congrArg (fun g => ReadAs.same.apply ((xslot (par k)).view.read (Elt F) g)) hX
  isplitl [HD0 HD1 HD2 HD3 HA HAc]
  · iexists _
    isplitl [HD0]; · iexact HD0
    isplitl [HD1]; · iexact HD1
    isplitl [HD2]; · iexact HD2
    isplitl [HD3]; · iexact HD3
    isplitl [HA]
    · iapply (am_of c k XW A hA1 hA2 hA3 hA4)
      iexact HA
    · iexact HAc
  isplitl [HI0_src HI1_src HI2_src HI3_src]
  · isplitl [HI0_src]
    · iexact HI0_src
    isplitl [HI1_src]
    · iexact HI1_src
    isplitl [HI2_src]
    · iexact HI2_src
    · iexact HI3_src
  isplitl [HO0 HO1 HO2 HO3]
  · isplitl [HO0]
    · iapply (flyOut_of c k XW v109 0 hp0)
      iexact HO0
    isplitl [HO1]
    · iapply (flyOut_of c k XW v109 1 hp1)
      iexact HO1
    isplitl [HO2]
    · iapply (flyOut_of c k XW v109 2 hp2)
      iexact HO2
    · iapply (flyOut_of c k XW v109 3 hp3)
      iexact HO3
  isplitl [HI0 HI1 HI2 HI3]
  · isplitl [HI0]
    · iapply (flyW_of c XW (par k) 0 (Ring.bk 28 (k + 2)) (p := tripC.sl.dma41 c k XW) rfl)
      iexact HI0
    isplitl [HI1]
    · iapply (flyW_of c XW (par k) 1 (Ring.bk 28 (k + 2)) (p := tripC.sl.dma83 c k XW) rfl)
      iexact HI1
    isplitl [HI2]
    · iapply (flyW_of c XW (par k) 2 (Ring.bk 28 (k + 2)) (p := tripC.sl.dma125 c k XW) rfl)
      iexact HI2
    · iapply (flyW_of c XW (par k) 3 (Ring.bk 28 (k + 2)) (p := tripC.sl.dma167 c k XW) rfl)
      iexact HI3
  isplitl [HO0_dst HO1_dst HO2_dst HO3_dst]
  · isplitl [HO0_dst]
    · iexact HO0_dst
    isplitl [HO1_dst]
    · iexact HO1_dst
    isplitl [HO2_dst]
    · iexact HO2_dst
    · iexact HO3_dst
  isplitl [HX]
  · iapply (flyDx_of c k XW YC v109 v112 hC1 hC2 hC3 rfl hpX)
    iexact HX
  isplitl [HX_dst]
  · iexact HX_dst
  iexists _
  iexact HW

end

end Cert.Proof.KI

end
-- ==== Proof.KI.TripD.lean ====
module

public import proofs.«01_k».proof.Proof.KI.Trip

/-! Trips `26` and `27`. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD)
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)
  (v109 v112 : F .f32) (c1 : BitVec 32)

set_option maxHeartbeats 16000000 in
theorem tripD (k : Fin k0_t1_loop.trips) (h26 : 26 ≤ k.val)
    (XW : BufOf (F := F) c wM) (YC : S256x18432.Idx → F .fp8e4m3) (A : S16x512.Idx → F .bf16) (Ac : S256x256.Idx → F .f32)
    (f : ∀ j, BufOf (F := F) c (rslot (par k) j)) (O : Fin 4 → S4x256x4608.Idx → F .fp8e4m3)
    (G : S7168x18432.Idx → F .fp8e4m3) (X : S2x256x256.Idx → F .bf16) (x' : S256x7168.Idx → F .bf16) (W : Waits sig Unit) :
    iprop(base c YC A Ac
      ∗ four (fun j => flyW c XW (par k) j (Ring.bk 28 k) (f j))
      ∗ four (fun j => flyOutAt c (WCf v109 XW) j (Ring.bk 28 (k - 1)) (O j))
      ∗ four (fun j => held c (wcblk (Ring.bk 28 k) j) G)
      ∗ flyDxAt c (DXf v109 v112 YC XW) (par k) (Ring.bk 28 (k - 2)) X
      ∗ held c (dxblk (Ring.bk 28 k)) x'
      ∗ owes (c : Thread nD τ) 0 W)
      ⊢ wp frame (wpE (defs₀ (F := F)) 𝒱₀ (c : Thread nD τ) none) Set.univ (tripG arg2 harg2 arg3 harg3 arg6 harg6 arg8 harg8 arg9 harg9 arg10 harg10 v109 v112 c1 k)
        (fun _ => iprop(iprop(∃ Ac, base c YC (amN (xsub XW k) A 36) Ac)
        ∗ four (fun j => homeW c XW (Ring.bk 28 k) j)
        ∗ four (fun j => flyOut c (WCf v109 XW) j (Ring.bk 28 k))
        ∗ four (fun j => iprop(∃ f, held c (rslot (par k) j) f ∗ zero c (isem (par k) j)))
        ∗ four (fun j => held c (wcblk (Ring.bk 28 (k - 1)) j) (WCf v109 XW))
        ∗ flyDx c (DXf v109 v112 YC XW) (par k) (Ring.bk 28 k)
        ∗ held c (dxblk (Ring.bk 28 (k - 2))) (DXf v109 v112 YC XW)
        ∗ iprop(∃ W, owes (c : Thread nD τ) 0 W))) := by
  have e1 := cond1_pos k (by omega)
  have e3 := cond3_pos k (by omega)
  have e5 := cond5_pos k (by omega)
  have e7 := cond7_pos k (by omega)
  have e2 : ¬ (k0_cond2 k = 1#1) := by rw [cond2_neg k (by omega)]; decide
  have e4 : ¬ (k0_cond4 k = 1#1) := by rw [cond4_neg k (by omega)]; decide
  have e6 : ¬ (k0_cond6 k = 1#1) := by rw [cond6_neg k (by omega)]; decide
  have e9 : ¬ (k0_cond9 k = 1#1) := by rw [cond9_neg k (by omega)]; decide
  have e8 := cond8_pos k (by omega)
  iintro ⟨⟨HD0, HD1, HD2, HD3, HA, HAc⟩, ⟨HI0, HI1, HI2, HI3⟩, ⟨HO0, HO1, HO2, HO3⟩, ⟨HC0, HC1, HC2, HC3⟩, HX, Hx, HW⟩
  dsimp only [tripG]
  sl_unfold [k0_t1_body]
  sl_exec
  rw [wp_ret]
  imodintro
  have hv0 : tripD.sl.v2066 c k XW = xsub XW k.val 0 := congrFun (xr_eq c k XW) 0
  have hv1 : tripD.sl.v2118 c k XW = xsub XW k.val 1 := congrFun (xr_eq c k XW) 1
  have hv2 : tripD.sl.v2171 c k XW = xsub XW k.val 2 := congrFun (xr_eq c k XW) 2
  have hv3 : tripD.sl.v2224 c k XW = xsub XW k.val 3 := congrFun (xr_eq c k XW) 3
  have hv4 : tripD.sl.v2277 c k XW = xsub XW k.val 4 := congrFun (xr_eq c k XW) 4
  have hv5 : tripD.sl.v2330 c k XW = xsub XW k.val 5 := congrFun (xr_eq c k XW) 5
  have hv6 : tripD.sl.v2383 c k XW = xsub XW k.val 6 := congrFun (xr_eq c k XW) 6
  have hv7 : tripD.sl.v2436 c k XW = xsub XW k.val 7 := congrFun (xr_eq c k XW) 7
  have hv8 : tripD.sl.v2489 c k XW = xsub XW k.val 8 := congrFun (xr_eq c k XW) 8
  have hv9 : tripD.sl.v2595 c k XW = xsub XW k.val 9 := congrFun (xr_eq c k XW) 9
  have hv10 : tripD.sl.v2648 c k XW = xsub XW k.val 10 := congrFun (xr_eq c k XW) 10
  have hv11 : tripD.sl.v2701 c k XW = xsub XW k.val 11 := congrFun (xr_eq c k XW) 11
  have hv12 : tripD.sl.v2754 c k XW = xsub XW k.val 12 := congrFun (xr_eq c k XW) 12
  have hv13 : tripD.sl.v2807 c k XW = xsub XW k.val 13 := congrFun (xr_eq c k XW) 13
  have hv14 : tripD.sl.v2860 c k XW = xsub XW k.val 14 := congrFun (xr_eq c k XW) 14
  have hv15 : tripD.sl.v2913 c k XW = xsub XW k.val 15 := congrFun (xr_eq c k XW) 15
  have hv16 : tripD.sl.v2966 c k XW = xsub XW k.val 16 := congrFun (xr_eq c k XW) 16
  have hv17 : tripD.sl.v3019 c k XW = xsub XW k.val 17 := congrFun (xr_eq c k XW) 17
  have hv18 : tripD.sl.v3125 c k XW = xsub XW k.val 18 := congrFun (xr_eq c k XW) 18
  have hv19 : tripD.sl.v3178 c k XW = xsub XW k.val 19 := congrFun (xr_eq c k XW) 19
  have hv20 : tripD.sl.v3231 c k XW = xsub XW k.val 20 := congrFun (xr_eq c k XW) 20
  have hv21 : tripD.sl.v3284 c k XW = xsub XW k.val 21 := congrFun (xr_eq c k XW) 21
  have hv22 : tripD.sl.v3337 c k XW = xsub XW k.val 22 := congrFun (xr_eq c k XW) 22
  have hv23 : tripD.sl.v3390 c k XW = xsub XW k.val 23 := congrFun (xr_eq c k XW) 23
  have hv24 : tripD.sl.v3443 c k XW = xsub XW k.val 24 := congrFun (xr_eq c k XW) 24
  have hv25 : tripD.sl.v3496 c k XW = xsub XW k.val 25 := congrFun (xr_eq c k XW) 25
  have hv26 : tripD.sl.v3549 c k XW = xsub XW k.val 26 := congrFun (xr_eq c k XW) 26
  have hv27 : tripD.sl.v3655 c k XW = xsub XW k.val 27 := congrFun (xr_eq c k XW) 27
  have hv28 : tripD.sl.v3708 c k XW = xsub XW k.val 28 := congrFun (xr_eq c k XW) 28
  have hv29 : tripD.sl.v3761 c k XW = xsub XW k.val 29 := congrFun (xr_eq c k XW) 29
  have hv30 : tripD.sl.v3814 c k XW = xsub XW k.val 30 := congrFun (xr_eq c k XW) 30
  have hv31 : tripD.sl.v3867 c k XW = xsub XW k.val 31 := congrFun (xr_eq c k XW) 31
  have hv32 : tripD.sl.v3920 c k XW = xsub XW k.val 32 := congrFun (xr_eq c k XW) 32
  have hv33 : tripD.sl.v3973 c k XW = xsub XW k.val 33 := congrFun (xr_eq c k XW) 33
  have hv34 : tripD.sl.v4026 c k XW = xsub XW k.val 34 := congrFun (xr_eq c k XW) 34
  have hv35 : tripD.sl.v4079 c k XW = xsub XW k.val 35 := congrFun (xr_eq c k XW) 35
  have hA1 : tripD.sl.HA_1 c k XW A = ⟨amR, shapeCast S16x512 (amF (xsub XW k.val) 0 (View.readAt (Elt F) amM.view amR.toLoadRect A) 9) shapeCasts_S16x512_S16x512⟩ :: [] := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA2 : tripD.sl.HA_2 c k XW A = ⟨amR, shapeCast S16x512 (amF (xsub XW k.val) 9 (tripD.sl.v2592 c k XW A) 9) shapeCasts_S16x512_S16x512⟩ :: tripD.sl.HA_1 c k XW A := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA3 : tripD.sl.HA_3 c k XW A = ⟨amR, shapeCast S16x512 (amF (xsub XW k.val) 18 (tripD.sl.v3122 c k XW A) 9) shapeCasts_S16x512_S16x512⟩ :: tripD.sl.HA_2 c k XW A := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hA4 : k0_pay224 (tripD.sl.r_135 c k XW A) = shapeCast S16x512 (amF (xsub XW k.val) 27 (tripD.sl.v3652 c k XW A) 9) shapeCasts_S16x512_S16x512 := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC1 : tripD.sl.HAc_1 c v109 k XW YC = ⟨accR, shapeCast S256x256 (part v109 (dr YC) (xsub XW k.val) 8) shapeCasts_S256x256_S256x256⟩ :: [] := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC2 : tripD.sl.HAc_2 c v109 k XW YC = ⟨accR, shapeCast S256x256 (partF v109 (dr YC) (xsub XW k.val) 9 (tripD.sl.v2593 c v109 k XW YC) 9) shapeCasts_S256x256_S256x256⟩ :: tripD.sl.HAc_1 c v109 k XW YC := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hC3 : tripD.sl.HAc_3 c v109 k XW YC = ⟨accR, shapeCast S256x256 (partF v109 (dr YC) (xsub XW k.val) 18 (tripD.sl.v3123 c v109 k XW YC) 9) shapeCasts_S256x256_S256x256⟩ :: tripD.sl.HAc_2 c v109 k XW YC := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hX : tripD.sl.HX_src_w37 c v109 v112 k XW YC X = View.write (Elt F) (xbM.access (Rect.unit (s := S2x256x256) (k0_off32 k) S1x256x256.size (k0_off32_inb k))) X
      (shapeCast S1x256x256 (dxPay v112 (partF v109 (dr YC) (xsub XW k.val) 27 (tripD.sl.v3653 c v109 k XW YC) 9)) shapeCasts_S256x256_S1x256x256) Finset.univ := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127, tripD.sl.HX_src_w37]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hO0 : tripD.sl.HO0_src_w9 c v109 k XW O = nest 0 v109 (xsub XW k.val) (O 0) := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127, tripD.sl.HO0_src_w1, tripD.sl.HO0_src_w2, tripD.sl.HO0_src_w3, tripD.sl.HO0_src_w4, tripD.sl.HO0_src_w5, tripD.sl.HO0_src_w6, tripD.sl.HO0_src_w7, tripD.sl.HO0_src_w8, tripD.sl.HO0_src_w9]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp0 : tripD.sl.dma41 c v109 k XW O = ReadAs.same.apply ((oslot 0).view.read (Elt F) (nest 0 v109 (xsub XW k.val) (O 0))) :=
    congrArg (fun g => ReadAs.same.apply ((oslot 0).view.read (Elt F) g)) hO0
  have hO1 : tripD.sl.HO1_src_w18 c v109 k XW O = nest 1 v109 (xsub XW k.val) (O 1) := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127, tripD.sl.HO1_src_w10, tripD.sl.HO1_src_w11, tripD.sl.HO1_src_w12, tripD.sl.HO1_src_w13, tripD.sl.HO1_src_w14, tripD.sl.HO1_src_w15, tripD.sl.HO1_src_w16, tripD.sl.HO1_src_w17, tripD.sl.HO1_src_w18]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp1 : tripD.sl.dma83 c v109 k XW O = ReadAs.same.apply ((oslot 1).view.read (Elt F) (nest 1 v109 (xsub XW k.val) (O 1))) :=
    congrArg (fun g => ReadAs.same.apply ((oslot 1).view.read (Elt F) g)) hO1
  have hO2 : tripD.sl.HO2_src_w27 c v109 k XW O = nest 2 v109 (xsub XW k.val) (O 2) := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127, tripD.sl.HO2_src_w19, tripD.sl.HO2_src_w20, tripD.sl.HO2_src_w21, tripD.sl.HO2_src_w22, tripD.sl.HO2_src_w23, tripD.sl.HO2_src_w24, tripD.sl.HO2_src_w25, tripD.sl.HO2_src_w26, tripD.sl.HO2_src_w27]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp2 : tripD.sl.dma125 c v109 k XW O = ReadAs.same.apply ((oslot 2).view.read (Elt F) (nest 2 v109 (xsub XW k.val) (O 2))) :=
    congrArg (fun g => ReadAs.same.apply ((oslot 2).view.read (Elt F) g)) hO2
  have hO3 : tripD.sl.HO3_src_w36 c v109 k XW O = nest 3 v109 (xsub XW k.val) (O 3) := by
    dsimp only [tripD.sl.r_57, tripD.sl.r_116, tripD.sl.r_117, tripD.sl.r_118, tripD.sl.r_80, tripD.sl.r_41, tripD.sl.r_6, tripD.sl.HA_2, tripD.sl.r_1, tripD.sl.r_113, tripD.sl.cst_568, tripD.sl.r_42, tripD.sl.r_130, tripD.sl.r_14, tripD.sl.r_126, tripD.sl.r_123, tripD.sl.r_119, tripD.sl.r_55, tripD.sl.HAc_1, tripD.sl.r_15, tripD.sl.r_9, tripD.sl.r_19, tripD.sl.r_61, tripD.sl.r_86, tripD.sl.r_12, tripD.sl.r_103, tripD.sl.r_34, tripD.sl.r_88, tripD.sl.r_31, tripD.sl.r_89, tripD.sl.r_91, tripD.sl.r_106, tripD.sl.r_137, tripD.sl.r_7, tripD.sl.r_110, tripD.sl.HA_3, tripD.sl.r_17, tripD.sl.r_90, tripD.sl.r_72, tripD.sl.r_4, tripD.sl.r_75, tripD.sl.r_101, tripD.sl.r_44, tripD.sl.r_128, tripD.sl.r_82, tripD.sl.r_63, tripD.sl.r_99, tripD.sl.r_102, tripD.sl.r_121, tripD.sl.r_35, tripD.sl.r_32, tripD.sl.r_83, tripD.sl.r_96, tripD.sl.r_66, tripD.sl.r_46, tripD.sl.r_71, tripD.sl.r_64, tripD.sl.r_74, tripD.sl.r_49, tripD.sl.r_104, tripD.sl.r_129, tripD.sl.r_93, tripD.sl.r_11, tripD.sl.r, tripD.sl.r_133, tripD.sl.r_47, tripD.sl.r_2, tripD.sl.r_98, tripD.sl.r_125, tripD.sl.HA_1, tripD.sl.r_112, tripD.sl.r_111, tripD.sl.r_65, tripD.sl.r_33, tripD.sl.r_59, tripD.sl.r_136, tripD.sl.r_109, tripD.sl.r_78, tripD.sl.r_68, tripD.sl.r_85, tripD.sl.r_22, tripD.sl.r_51, tripD.sl.r_122, tripD.sl.r_28, tripD.sl.cst_749, tripD.sl.r_38, tripD.sl.r_97, tripD.sl.r_25, tripD.sl.r_100, tripD.sl.r_27, tripD.sl.r_70, tripD.sl.HAc_3, tripD.sl.r_36, tripD.sl.r_92, tripD.sl.r_8, tripD.sl.r_29, tripD.sl.r_124, tripD.sl.r_43, tripD.sl.r_10, tripD.sl.r_48, tripD.sl.r_67, tripD.sl.r_30, tripD.sl.r_23, tripD.sl.r_81, tripD.sl.r_3, tripD.sl.r_54, tripD.sl.r_79, tripD.sl.r_69, tripD.sl.r_114, tripD.sl.r_56, tripD.sl.r_76, tripD.sl.r_84, tripD.sl.r_73, tripD.sl.r_37, tripD.sl.r_77, tripD.sl.r_115, tripD.sl.r_40, tripD.sl.r_60, tripD.sl.HAc_2, tripD.sl.r_108, tripD.sl.r_95, tripD.sl.r_62, tripD.sl.r_120, tripD.sl.r_52, tripD.sl.r_39, tripD.sl.cst_569, tripD.sl.r_26, tripD.sl.r_134, tripD.sl.r_87, tripD.sl.r_135, tripD.sl.r_132, tripD.sl.r_24, tripD.sl.r_21, tripD.sl.r_18, tripD.sl.r_50, tripD.sl.r_58, tripD.sl.r_107, tripD.sl.r_45, tripD.sl.r_5, tripD.sl.r_131, tripD.sl.r_13, tripD.sl.r_105, tripD.sl.r_94, tripD.sl.r_53, tripD.sl.r_16, tripD.sl.r_20, tripD.sl.r_127, tripD.sl.HO3_src_w28, tripD.sl.HO3_src_w29, tripD.sl.HO3_src_w30, tripD.sl.HO3_src_w31, tripD.sl.HO3_src_w32, tripD.sl.HO3_src_w33, tripD.sl.HO3_src_w34, tripD.sl.HO3_src_w35, tripD.sl.HO3_src_w36]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225]
    rfl
  have hp3 : tripD.sl.dma167 c v109 k XW O = ReadAs.same.apply ((oslot 3).view.read (Elt F) (nest 3 v109 (xsub XW k.val) (O 3))) :=
    congrArg (fun g => ReadAs.same.apply ((oslot 3).view.read (Elt F) g)) hO3
  have hpX : tripD.sl.dma167_1 c v109 v112 k XW YC X = ReadAs.same.apply ((xslot (par k)).view.read (Elt F)
      (View.write (Elt F) (xbM.access (Rect.unit (s := S2x256x256) (k0_off32 k) S1x256x256.size (k0_off32_inb k))) X (shapeCast S1x256x256 (dxPay v112 (partF v109 (dr YC) (xsub XW k.val) 27 (tripD.sl.v3653 c v109 k XW YC) 9)) shapeCasts_S256x256_S1x256x256) Finset.univ)) :=
    congrArg (fun g => ReadAs.same.apply ((xslot (par k)).view.read (Elt F) g)) hX
  isplitl [HD0 HD1 HD2 HD3 HA HAc]
  · iexists _
    isplitl [HD0]; · iexact HD0
    isplitl [HD1]; · iexact HD1
    isplitl [HD2]; · iexact HD2
    isplitl [HD3]; · iexact HD3
    isplitl [HA]
    · iapply (am_of c k XW A hA1 hA2 hA3 hA4)
      iexact HA
    · iexact HAc
  isplitl [HI0_src HI1_src HI2_src HI3_src]
  · isplitl [HI0_src]
    · iexact HI0_src
    isplitl [HI1_src]
    · iexact HI1_src
    isplitl [HI2_src]
    · iexact HI2_src
    · iexact HI3_src
  isplitl [HO0 HO1 HO2 HO3]
  · isplitl [HO0]
    · iapply (flyOut_of c k XW v109 0 hp0)
      iexact HO0
    isplitl [HO1]
    · iapply (flyOut_of c k XW v109 1 hp1)
      iexact HO1
    isplitl [HO2]
    · iapply (flyOut_of c k XW v109 2 hp2)
      iexact HO2
    · iapply (flyOut_of c k XW v109 3 hp3)
      iexact HO3
  isplitl [HI0 HI0_dst HI1 HI1_dst HI2 HI2_dst HI3 HI3_dst]
  · isplitl [HI0 HI0_dst]
    · iexists _
      isplitl [HI0_dst]
      · iexact HI0_dst
      · iexact HI0
    isplitl [HI1 HI1_dst]
    · iexists _
      isplitl [HI1_dst]
      · iexact HI1_dst
      · iexact HI1
    isplitl [HI2 HI2_dst]
    · iexists _
      isplitl [HI2_dst]
      · iexact HI2_dst
      · iexact HI2
    · iexists _
      isplitl [HI3_dst]
      · iexact HI3_dst
      · iexact HI3
  isplitl [HO0_dst HO1_dst HO2_dst HO3_dst]
  · isplitl [HO0_dst]
    · iexact HO0_dst
    isplitl [HO1_dst]
    · iexact HO1_dst
    isplitl [HO2_dst]
    · iexact HO2_dst
    · iexact HO3_dst
  isplitl [HX]
  · iapply (flyDx_of c k XW YC v109 v112 hC1 hC2 hC3 rfl hpX)
    iexact HX
  isplitl [HX_dst]
  · iexact HX_dst
  iexists _
  iexact HW

end

end Cert.Proof.KI

end
-- ==== Proof.KI.Loop.lean ====
module

public import proofs.«01_k».proof.Proof.KI.TripA
public import proofs.«01_k».proof.Proof.KI.TripB
public import proofs.«01_k».proof.Proof.KI.TripC
public import proofs.«01_k».proof.Proof.KI.TripD

/-! The loop: what it holds before each trip, and that a trip takes it to the next. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

/-! ## The sets of blocks -/

/-- The blocks of the second operand at home before trip `k`. -/
def homeS (k : ℕ) : Finset (Fin 28) := Finset.univ.filter fun b => b.val < k ∨ k + 2 ≤ b.val
/-- The blocks of a result not yet sent before trip `k`. -/
def freshS (k : ℕ) : Finset (Fin 28) := Finset.univ.filter fun b => k ≤ b.val
/-- The blocks of a result whose transfer, waited for `d` trips later, is over before trip `k`. -/
def doneS (d k : ℕ) : Finset (Fin 28) := Finset.univ.filter fun b => b.val + d < k

theorem freshS_eq (k : ℕ) (h : k < 28) : freshS k = insert (Ring.bk 28 k) (freshS (k + 1)) := by
  ext b; simp only [freshS, Finset.mem_filter, Finset.mem_univ, true_and, Finset.mem_insert, Fin.ext_iff, Ring.bk_val h]; omega
theorem freshS_not (k : ℕ) (h : k < 28) : Ring.bk 28 k ∉ freshS (k + 1) := by
  simp only [freshS, Finset.mem_filter, Finset.mem_univ, true_and, Ring.bk_val h]; omega
theorem doneS_eq (d k : ℕ) (hd : d ≤ k) (h : k < 28) : doneS d (k + 1) = insert (Ring.bk 28 (k - d)) (doneS d k) := by
  ext b; simp only [doneS, Finset.mem_filter, Finset.mem_univ, true_and, Finset.mem_insert, Fin.ext_iff, Ring.bk_val (show k - d < 28 by omega)]; omega
theorem doneS_not (d k : ℕ) (hd : d ≤ k) (h : k < 28) : Ring.bk 28 (k - d) ∉ doneS d k := by
  simp only [doneS, Finset.mem_filter, Finset.mem_univ, true_and, Ring.bk_val (show k - d < 28 by omega)]; omega
theorem doneS_lt (d k : ℕ) (hd : k < d) : doneS d (k + 1) = doneS d k := by
  ext b; simp only [doneS, Finset.mem_filter, Finset.mem_univ, true_and]; omega
/-- The blocks at home throughout trip `k`. -/
def midS (k : ℕ) : Finset (Fin 28) := Finset.univ.filter fun b => b.val < k ∨ k + 3 ≤ b.val
theorem homeS_eq (k : ℕ) (h : k + 2 < 28) : homeS k = insert (Ring.bk 28 (k + 2)) (midS k) := by
  ext b; simp only [homeS, midS, Finset.mem_filter, Finset.mem_univ, true_and, Finset.mem_insert, Fin.ext_iff, Ring.bk_val h]; omega
theorem homeS_not (k : ℕ) (h : k + 2 < 28) : Ring.bk 28 (k + 2) ∉ midS k := by
  simp only [midS, Finset.mem_filter, Finset.mem_univ, true_and, Ring.bk_val h]; omega
theorem homeS_late (k : ℕ) (h : 26 ≤ k) : homeS k = midS k := by
  ext b; simp only [homeS, midS, Finset.mem_filter, Finset.mem_univ, true_and]; omega
theorem homeS_succ (k : ℕ) (h : k < 28) : homeS (k + 1) = insert (Ring.bk 28 k) (midS k) := by
  ext b; simp only [homeS, midS, Finset.mem_filter, Finset.mem_univ, true_and, Finset.mem_insert, Fin.ext_iff, Ring.bk_val h]; omega
theorem homeS_succ_not (k : ℕ) (h : k < 28) : Ring.bk 28 k ∉ midS k := by
  simp only [midS, Finset.mem_filter, Finset.mem_univ, true_and, Ring.bk_val h]; omega

theorem par_add2 (k : ℕ) : par (k + 2) = par k := by
  show Ring.sl 2 (k + 2 + 1) = Ring.sl 2 (k + 1); exact Ring.sl_add 2 (k + 1)

theorem bigSep_ins {s : Finset (Fin 28)} {i : Fin 28} {Φ : Fin 28 → sProp 𝕄} (h : i ∉ s) :
    bigSep (insert i s) Φ = iprop(Φ i ∗ bigSep s Φ) := bigSep_insert h

/-! ## The invariant -/

section
variable (c : Dev nD)

/-- The slots that the block `t` of the second operand goes through. -/
def WS (XW : BufOf (F := F) c wM) (t : ℕ) : sProp 𝕄 :=
  if t < 28 then four (fun j => iprop(∃ f, flyW c XW (par t) j (Ring.bk 28 t) f))
  else four (fun j => iprop(∃ f, held c (rslot (par t) j) f ∗ zero c (isem (par t) j)))
/-- The slots of the codes before trip `k`. -/
def OS (WC : S7168x18432.Idx → F .fp8e4m3) (k : ℕ) : sProp 𝕄 :=
  if 1 ≤ k then four (fun j => flyOut c WC j (Ring.bk 28 (k - 1)))
  else four (fun j => iprop(∃ O, held c (oslot j) O ∗ zero c (osem j)))
/-- The slot that the block `t` of the product goes through, before trip `t`. -/
def XS (DX : S256x7168.Idx → F .bf16) (t : ℕ) : sProp 𝕄 :=
  if 2 ≤ t then flyDx c DX (par t) (Ring.bk 28 (t - 2))
  else iprop(∃ X, held c (xslot (par t)) X ∗ zero c (xsem (par t)))

theorem WS_pos (XW : BufOf (F := F) c wM) (t : ℕ) (h : t < 28) : WS c XW t = four (fun j => iprop(∃ f, flyW c XW (par t) j (Ring.bk 28 t) f)) := if_pos h
theorem WS_neg (XW : BufOf (F := F) c wM) (t : ℕ) (h : ¬ t < 28) : WS c XW t = four (fun j => iprop(∃ f, held c (rslot (par t) j) f ∗ zero c (isem (par t) j))) := if_neg h
theorem OS_pos (WC : S7168x18432.Idx → F .fp8e4m3) (k : ℕ) (h : 1 ≤ k) : OS c WC k = four (fun j => flyOut c WC j (Ring.bk 28 (k - 1))) := if_pos h
theorem OS_neg (WC : S7168x18432.Idx → F .fp8e4m3) (k : ℕ) (h : ¬ 1 ≤ k) : OS c WC k = four (fun j => iprop(∃ O, held c (oslot j) O ∗ zero c (osem j))) := if_neg h
theorem XS_pos (DX : S256x7168.Idx → F .bf16) (t : ℕ) (h : 2 ≤ t) : XS c DX t = flyDx c DX (par t) (Ring.bk 28 (t - 2)) := if_pos h
theorem XS_neg (DX : S256x7168.Idx → F .bf16) (t : ℕ) (h : ¬ 2 ≤ t) : XS c DX t = iprop(∃ X, held c (xslot (par t)) X ∗ zero c (xsem (par t))) := if_neg h

/-- What the loop holds before trip `k`. -/
def Inv (v109 v112 : F .f32) (XW : BufOf (F := F) c wM) (YC : S256x18432.Idx → F .fp8e4m3) (A0 : S16x512.Idx → F .bf16)
    (G : S7168x18432.Idx → F .fp8e4m3) (x' : S256x7168.Idx → F .bf16) (k : ℕ) : sProp 𝕄 :=
  iprop((∃ Ac, base c YC (amW XW A0 k) Ac)
    ∗ WS c XW k ∗ WS c XW (k + 1) ∗ bigSep (homeS k) (fun b => four (fun j => homeW c XW b j))
    ∗ OS c (WCf v109 XW) k
    ∗ bigSep (doneS 1 k) (fun b => four (fun j => held c (wcblk b j) (WCf v109 XW)))
    ∗ bigSep (freshS k) (fun b => four (fun j => held c (wcblk b j) G))
    ∗ XS c (DXf v109 v112 YC XW) k ∗ XS c (DXf v109 v112 YC XW) (k + 1)
    ∗ bigSep (doneS 2 k) (fun b => held c (dxblk b) (DXf v109 v112 YC XW))
    ∗ bigSep (freshS k) (fun b => held c (dxblk b) x')
    ∗ ∃ W, owes (c : Thread nD τ) 0 W)

/-- Four contents, chosen together. -/
theorem four_ex {α : Type} (Φ : Fin 4 → α → sProp 𝕄) : four (fun j => iprop(∃ f, Φ j f)) ⊢ iprop(∃ f : Fin 4 → α, four (fun j => Φ j (f j))) := by
  iintro ⟨⟨%f0, H0⟩, ⟨%f1, H1⟩, ⟨%f2, H2⟩, ⟨%f3, H3⟩⟩
  iexists (fun j => match j with | 0 => f0 | 1 => f1 | 2 => f2 | 3 => f3)
  isplitl [H0]; · iexact H0
  isplitl [H1]; · iexact H1
  isplitl [H2]; · iexact H2
  iexact H3
theorem four_flyW (XW : BufOf (F := F) c wM) (s : Fin 2) (b : Fin 28) :
    four (fun j => iprop(∃ f, flyW c XW s j b f)) ⊢ iprop(∃ f : Fin 4 → S8x256x4608.Idx → F .bf16, four (fun j => flyW c XW s j b (f j))) :=
  four_ex (α := S8x256x4608.Idx → F .bf16) (fun j f => flyW c XW s j b f)
theorem four_flyOut (WC : S7168x18432.Idx → F .fp8e4m3) (b : Fin 28) :
    four (fun j => flyOut c WC j b) ⊢ iprop(∃ O : Fin 4 → S4x256x4608.Idx → F .fp8e4m3, four (fun j => flyOutAt c WC j b (O j))) :=
  four_ex (α := S4x256x4608.Idx → F .fp8e4m3) (fun j O => flyOutAt c WC j b O)
theorem four_free :
    four (fun j => iprop(∃ O, held c (oslot j) O ∗ zero c (osem j))) ⊢ iprop(∃ O : Fin 4 → S4x256x4608.Idx → F .fp8e4m3, four (fun j => iprop(held c (oslot j) (O j) ∗ zero c (osem j)))) :=
  four_ex (α := S4x256x4608.Idx → F .fp8e4m3) (fun j O => iprop(held c (oslot j) O ∗ zero c (osem j)))

variable (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)
  (v109 v112 : F .f32) (c1 : BitVec 32)
  (XW : BufOf (F := F) c wM) (YC : S256x18432.Idx → F .fp8e4m3) (A0 : S16x512.Idx → F .bf16)
  (G : S7168x18432.Idx → F .fp8e4m3) (x' : S256x7168.Idx → F .bf16)

theorem stepA (k : Fin k0_t1_loop.trips) (h0 : k.val = 0) :
    Inv c v109 v112 XW YC A0 G x' k.val ⊢ wp frame (wpE (defs₀ (F := F)) 𝒱₀ (c : Thread nD τ) none) Set.univ
      (tripG arg2 harg2 arg3 harg3 arg6 harg6 arg8 harg8 arg9 harg9 arg10 harg10 v109 v112 c1 k)
      (fun _ => Inv c v109 v112 XW YC A0 G x' (k.val + 1)) := by
  have hk := k_lt k
  unfold Inv
  rw [WS_pos c XW k.val hk, freshS_eq k.val hk, bigSep_ins (freshS_not k.val hk), bigSep_ins (freshS_not k.val hk), homeS_succ k.val hk, bigSep_ins (homeS_succ_not k.val hk)]
  rw [show k.val + 1 + 1 = k.val + 2 from rfl, OS_pos c _ (k.val + 1) (by omega), show k.val + 1 - 1 = k.val from rfl]
  rw [XS_pos c _ (k.val + 2) (by omega), show k.val + 2 - 2 = k.val from rfl, par_add2]
  rw [homeS_eq k.val (by omega), bigSep_ins (homeS_not k.val (by omega)), WS_pos c XW (k.val + 2) (by omega), par_add2]
  rw [OS_neg c _ k.val (by omega), doneS_lt 1 k.val (by omega)]
  rw [XS_neg c _ k.val (by omega), doneS_lt 2 k.val (by omega)]
  iintro ⟨⟨%Ac, Hb⟩, Hw, Hw', ⟨Hn, Hh⟩, Ho, Hd1, ⟨Hc, Hf1⟩, ⟨%X, Hx, Hz⟩, Hx', Hd2, ⟨Hq, Hf2⟩, ⟨%W, HW⟩⟩
  ihave Hw := (four_flyW c XW (par k.val) (Ring.bk 28 k.val)) $$ Hw
  icases Hw with ⟨%f, Hw⟩
  ihave Ho := (four_free c) $$ Ho
  icases Ho with ⟨%O, Ho⟩
  iapply (wp_wand_r Idealize.ShloMosaic.frame (wpE (defs₀ (F := F)) 𝒱₀ (c : Thread nD τ) none) Set.univ)
  isplitl [Hb Hw Hn Ho Hc Hx Hz Hq HW]
  · iapply (tripA c arg2 harg2 arg3 harg3 arg6 harg6 arg8 harg8 arg9 harg9 arg10 harg10 v109 v112 c1 k h0 XW YC (amW XW A0 k.val) Ac f O G X x' W)
    isplitl [Hb]; · iexact Hb
    isplitl [Hw]; · iexact Hw
    isplitl [Hn]; · iexact Hn
    isplitl [Ho]; · iexact Ho
    isplitl [Hc]; · iexact Hc
    isplitl [Hx]; · iexact Hx
    isplitl [Hz]; · iexact Hz
    isplitl [Hq]; · iexact Hq
    iexact HW
  iintro %_ ⟨Hb, Hhome, Hfo, Href, Hfx, HW⟩
  isplitl [Hb]; · iexact Hb
  isplitl [Hw']; · iexact Hw'
  isplitl [Href]; · iexact Href
  isplitl [Hhome Hh]
  · isplitl [Hhome]; · iexact Hhome
    iexact Hh
  isplitl [Hfo]; · iexact Hfo
  isplitl [Hd1]; · iexact Hd1
  isplitl [Hf1]; · iexact Hf1
  isplitl [Hx']; · iexact Hx'
  isplitl [Hfx]; · iexact Hfx
  isplitl [Hd2]; · iexact Hd2
  isplitl [Hf2]; · iexact Hf2
  iexact HW

theorem stepB (k : Fin k0_t1_loop.trips) (h1 : k.val = 1) :
    Inv c v109 v112 XW YC A0 G x' k.val ⊢ wp frame (wpE (defs₀ (F := F)) 𝒱₀ (c : Thread nD τ) none) Set.univ
      (tripG arg2 harg2 arg3 harg3 arg6 harg6 arg8 harg8 arg9 harg9 arg10 harg10 v109 v112 c1 k)
      (fun _ => Inv c v109 v112 XW YC A0 G x' (k.val + 1)) := by
  have hk := k_lt k
  unfold Inv
  rw [WS_pos c XW k.val hk, freshS_eq k.val hk, bigSep_ins (freshS_not k.val hk), bigSep_ins (freshS_not k.val hk), homeS_succ k.val hk, bigSep_ins (homeS_succ_not k.val hk)]
  rw [show k.val + 1 + 1 = k.val + 2 from rfl, OS_pos c _ (k.val + 1) (by omega), show k.val + 1 - 1 = k.val from rfl]
  rw [XS_pos c _ (k.val + 2) (by omega), show k.val + 2 - 2 = k.val from rfl, par_add2]
  rw [homeS_eq k.val (by omega), bigSep_ins (homeS_not k.val (by omega)), WS_pos c XW (k.val + 2) (by omega), par_add2]
  rw [OS_pos c _ k.val (by omega), doneS_eq 1 k.val (by omega) hk, bigSep_ins (doneS_not 1 k.val (by omega) hk)]
  rw [XS_neg c _ k.val (by omega), doneS_lt 2 k.val (by omega)]
  iintro ⟨⟨%Ac, Hb⟩, Hw, Hw', ⟨Hn, Hh⟩, Ho, Hd1, ⟨Hc, Hf1⟩, ⟨%X, Hx, Hz⟩, Hx', Hd2, ⟨Hq, Hf2⟩, ⟨%W, HW⟩⟩
  ihave Hw := (four_flyW c XW (par k.val) (Ring.bk 28 k.val)) $$ Hw
  icases Hw with ⟨%f, Hw⟩
  ihave Ho := (four_flyOut c (WCf v109 XW) (Ring.bk 28 (k.val - 1))) $$ Ho
  icases Ho with ⟨%O, Ho⟩
  iapply (wp_wand_r Idealize.ShloMosaic.frame (wpE (defs₀ (F := F)) 𝒱₀ (c : Thread nD τ) none) Set.univ)
  isplitl [Hb Hw Hn Ho Hc Hx Hz Hq HW]
  · iapply (tripB c arg2 harg2 arg3 harg3 arg6 harg6 arg8 harg8 arg9 harg9 arg10 harg10 v109 v112 c1 k h1 XW YC (amW XW A0 k.val) Ac f O G X x' W)
    isplitl [Hb]; · iexact Hb
    isplitl [Hw]; · iexact Hw
    isplitl [Hn]; · iexact Hn
    isplitl [Ho]; · iexact Ho
    isplitl [Hc]; · iexact Hc
    isplitl [Hx]; · iexact Hx
    isplitl [Hz]; · iexact Hz
    isplitl [Hq]; · iexact Hq
    iexact HW
  iintro %_ ⟨Hb, Hhome, Hfo, Href, Hdn1, Hfx, HW⟩
  isplitl [Hb]; · iexact Hb
  isplitl [Hw']; · iexact Hw'
  isplitl [Href]; · iexact Href
  isplitl [Hhome Hh]
  · isplitl [Hhome]; · iexact Hhome
    iexact Hh
  isplitl [Hfo]; · iexact Hfo
  isplitl [Hdn1 Hd1]
  · isplitl [Hdn1]; · iexact Hdn1
    iexact Hd1
  isplitl [Hf1]; · iexact Hf1
  isplitl [Hx']; · iexact Hx'
  isplitl [Hfx]; · iexact Hfx
  isplitl [Hd2]; · iexact Hd2
  isplitl [Hf2]; · iexact Hf2
  iexact HW

theorem stepC (k : Fin k0_t1_loop.trips) (h2 : 2 ≤ k.val) (h28 : k.val + 2 < 28) :
    Inv c v109 v112 XW YC A0 G x' k.val ⊢ wp frame (wpE (defs₀ (F := F)) 𝒱₀ (c : Thread nD τ) none) Set.univ
      (tripG arg2 harg2 arg3 harg3 arg6 harg6 arg8 harg8 arg9 harg9 arg10 harg10 v109 v112 c1 k)
      (fun _ => Inv c v109 v112 XW YC A0 G x' (k.val + 1)) := by
  have hk := k_lt k
  unfold Inv
  rw [WS_pos c XW k.val hk, freshS_eq k.val hk, bigSep_ins (freshS_not k.val hk), bigSep_ins (freshS_not k.val hk), homeS_succ k.val hk, bigSep_ins (homeS_succ_not k.val hk)]
  rw [show k.val + 1 + 1 = k.val + 2 from rfl, OS_pos c _ (k.val + 1) (by omega), show k.val + 1 - 1 = k.val from rfl]
  rw [XS_pos c _ (k.val + 2) (by omega), show k.val + 2 - 2 = k.val from rfl, par_add2]
  rw [homeS_eq k.val (by omega), bigSep_ins (homeS_not k.val (by omega)), WS_pos c XW (k.val + 2) (by omega), par_add2]
  rw [OS_pos c _ k.val (by omega), doneS_eq 1 k.val (by omega) hk, bigSep_ins (doneS_not 1 k.val (by omega) hk)]
  rw [XS_pos c _ k.val (by omega), doneS_eq 2 k.val (by omega) hk, bigSep_ins (doneS_not 2 k.val (by omega) hk)]
  iintro ⟨⟨%Ac, Hb⟩, Hw, Hw', ⟨Hn, Hh⟩, Ho, Hd1, ⟨Hc, Hf1⟩, ⟨%X, Hx⟩, Hx', Hd2, ⟨Hq, Hf2⟩, ⟨%W, HW⟩⟩
  ihave Hw := (four_flyW c XW (par k.val) (Ring.bk 28 k.val)) $$ Hw
  icases Hw with ⟨%f, Hw⟩
  ihave Ho := (four_flyOut c (WCf v109 XW) (Ring.bk 28 (k.val - 1))) $$ Ho
  icases Ho with ⟨%O, Ho⟩
  iapply (wp_wand_r Idealize.ShloMosaic.frame (wpE (defs₀ (F := F)) 𝒱₀ (c : Thread nD τ) none) Set.univ)
  isplitl [Hb Hw Hn Ho Hc Hx Hq HW]
  · iapply (tripC c arg2 harg2 arg3 harg3 arg6 harg6 arg8 harg8 arg9 harg9 arg10 harg10 v109 v112 c1 k h2 h28 XW YC (amW XW A0 k.val) Ac f O G X x' W)
    isplitl [Hb]; · iexact Hb
    isplitl [Hw]; · iexact Hw
    isplitl [Hn]; · iexact Hn
    isplitl [Ho]; · iexact Ho
    isplitl [Hc]; · iexact Hc
    isplitl [Hx]; · iexact Hx
    isplitl [Hq]; · iexact Hq
    iexact HW
  iintro %_ ⟨Hb, Hhome, Hfo, Href, Hdn1, Hfx, Hdn2, HW⟩
  isplitl [Hb]; · iexact Hb
  isplitl [Hw']; · iexact Hw'
  isplitl [Href]; · iexact Href
  isplitl [Hhome Hh]
  · isplitl [Hhome]; · iexact Hhome
    iexact Hh
  isplitl [Hfo]; · iexact Hfo
  isplitl [Hdn1 Hd1]
  · isplitl [Hdn1]; · iexact Hdn1
    iexact Hd1
  isplitl [Hf1]; · iexact Hf1
  isplitl [Hx']; · iexact Hx'
  isplitl [Hfx]; · iexact Hfx
  isplitl [Hdn2 Hd2]
  · isplitl [Hdn2]; · iexact Hdn2
    iexact Hd2
  isplitl [Hf2]; · iexact Hf2
  iexact HW

theorem stepD (k : Fin k0_t1_loop.trips) (h26 : 26 ≤ k.val) :
    Inv c v109 v112 XW YC A0 G x' k.val ⊢ wp frame (wpE (defs₀ (F := F)) 𝒱₀ (c : Thread nD τ) none) Set.univ
      (tripG arg2 harg2 arg3 harg3 arg6 harg6 arg8 harg8 arg9 harg9 arg10 harg10 v109 v112 c1 k)
      (fun _ => Inv c v109 v112 XW YC A0 G x' (k.val + 1)) := by
  have hk := k_lt k
  unfold Inv
  rw [WS_pos c XW k.val hk, freshS_eq k.val hk, bigSep_ins (freshS_not k.val hk), bigSep_ins (freshS_not k.val hk), homeS_succ k.val hk, bigSep_ins (homeS_succ_not k.val hk)]
  rw [show k.val + 1 + 1 = k.val + 2 from rfl, OS_pos c _ (k.val + 1) (by omega), show k.val + 1 - 1 = k.val from rfl]
  rw [XS_pos c _ (k.val + 2) (by omega), show k.val + 2 - 2 = k.val from rfl, par_add2]
  rw [homeS_late k.val (by omega), WS_neg c XW (k.val + 2) (by omega), par_add2]
  rw [OS_pos c _ k.val (by omega), doneS_eq 1 k.val (by omega) hk, bigSep_ins (doneS_not 1 k.val (by omega) hk)]
  rw [XS_pos c _ k.val (by omega), doneS_eq 2 k.val (by omega) hk, bigSep_ins (doneS_not 2 k.val (by omega) hk)]
  iintro ⟨⟨%Ac, Hb⟩, Hw, Hw', Hh, Ho, Hd1, ⟨Hc, Hf1⟩, ⟨%X, Hx⟩, Hx', Hd2, ⟨Hq, Hf2⟩, ⟨%W, HW⟩⟩
  ihave Hw := (four_flyW c XW (par k.val) (Ring.bk 28 k.val)) $$ Hw
  icases Hw with ⟨%f, Hw⟩
  ihave Ho := (four_flyOut c (WCf v109 XW) (Ring.bk 28 (k.val - 1))) $$ Ho
  icases Ho with ⟨%O, Ho⟩
  iapply (wp_wand_r Idealize.ShloMosaic.frame (wpE (defs₀ (F := F)) 𝒱₀ (c : Thread nD τ) none) Set.univ)
  isplitl [Hb Hw Ho Hc Hx Hq HW]
  · iapply (tripD c arg2 harg2 arg3 harg3 arg6 harg6 arg8 harg8 arg9 harg9 arg10 harg10 v109 v112 c1 k h26 XW YC (amW XW A0 k.val) Ac f O G X x' W)
    isplitl [Hb]; · iexact Hb
    isplitl [Hw]; · iexact Hw
    isplitl [Ho]; · iexact Ho
    isplitl [Hc]; · iexact Hc
    isplitl [Hx]; · iexact Hx
    isplitl [Hq]; · iexact Hq
    iexact HW
  iintro %_ ⟨Hb, Hhome, Hfo, Href, Hdn1, Hfx, Hdn2, HW⟩
  isplitl [Hb]; · iexact Hb
  isplitl [Hw']; · iexact Hw'
  isplitl [Href]; · iexact Href
  isplitl [Hhome Hh]
  · isplitl [Hhome]; · iexact Hhome
    iexact Hh
  isplitl [Hfo]; · iexact Hfo
  isplitl [Hdn1 Hd1]
  · isplitl [Hdn1]; · iexact Hdn1
    iexact Hd1
  isplitl [Hf1]; · iexact Hf1
  isplitl [Hx']; · iexact Hx'
  isplitl [Hfx]; · iexact Hfx
  isplitl [Hdn2 Hd2]
  · isplitl [Hdn2]; · iexact Hdn2
    iexact Hd2
  isplitl [Hf2]; · iexact Hf2
  iexact HW

set_option warn.classDefReducibility false in
/-- The loop, a trip by its place. -/
def loopI :
    LoopInvTy_k0_t1 (F := F) Unit ℕ (UU nD τ) ℕ 𝒱₀ c none Set.univ dyM (Memref.isWhole_whole _) wM (Memref.isWhole_whole _) arg2 harg2 arg3 harg3 dxM (Memref.isWhole_whole _) dycM (Memref.isWhole_whole _) arg6 harg6 wcM (Memref.isWhole_whole _) arg8 harg8 arg9 harg9 arg10 harg10
    inM (Memref.isWhole_whole _) dybM (Memref.isWhole_whole _) outM (Memref.isWhole_whole _) accM (Memref.isWhole_whole _) xbM (Memref.isWhole_whole _) amM (Memref.isWhole_whole _)
    cc0_scratch6 cc0_scratch7 cc0_scratch8 cc0_scratch9 v109 v112 c1 where
  inv k _ := Inv c v109 v112 XW YC A0 G x' k
  step k _ := by
    rcases Nat.lt_or_ge k.val 1 with h | h
    · exact stepA c arg2 harg2 arg3 harg3 arg6 harg6 arg8 harg8 arg9 harg9 arg10 harg10 v109 v112 c1 XW YC A0 G x' k (by omega)
    rcases Nat.lt_or_ge k.val 2 with h' | h'
    · exact stepB c arg2 harg2 arg3 harg3 arg6 harg6 arg8 harg8 arg9 harg9 arg10 harg10 v109 v112 c1 XW YC A0 G x' k (by omega)
    rcases Nat.lt_or_ge k.val 26 with h2 | h2
    · exact stepC c arg2 harg2 arg3 harg3 arg6 harg6 arg8 harg8 arg9 harg9 arg10 harg10 v109 v112 c1 XW YC A0 G x' k h' (by omega)
    · exact stepD c arg2 harg2 arg3 harg3 arg6 harg6 arg8 harg8 arg9 harg9 arg10 harg10 v109 v112 c1 XW YC A0 G x' k h2
end

end Cert.Proof.KI

end
-- ==== Proof.KI.Scalars.lean ====
module

public import proofs.«01_k».proof.Proof.KI.Names

/-! The scales and their inverses, as the kernel finds them. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The word of the power of two after each step of the search for the first factor. -/
def pY0 (x : F .f32) : BitVec 32 := Scalar.select (Scalar.cmpf .oge (k0_pay227 x) (k0_pay228 (F := F))) 1073741824#32 0#32
@[inherit_doc pY0] def pY1 (x : F .f32) : BitVec 32 := Scalar.select (Scalar.cmpf .oge (k0_pay229 x) (k0_pay230 x)) (Scalar.addi (pY0 x) 536870912#32) (pY0 x)
@[inherit_doc pY0] def pY2 (x : F .f32) : BitVec 32 := Scalar.select (Scalar.cmpf .oge (k0_pay231 x) (k0_pay232 x)) (Scalar.addi (pY1 x) 268435456#32) (pY1 x)
@[inherit_doc pY0] def pY3 (x : F .f32) : BitVec 32 := Scalar.select (Scalar.cmpf .oge (k0_pay233 x) (k0_pay234 x)) (Scalar.addi (pY2 x) 134217728#32) (pY2 x)
@[inherit_doc pY0] def pY4 (x : F .f32) : BitVec 32 := Scalar.select (Scalar.cmpf .oge (k0_pay235 x) (k0_pay236 x)) (Scalar.addi (pY3 x) 67108864#32) (pY3 x)
@[inherit_doc pY0] def pY5 (x : F .f32) : BitVec 32 := Scalar.select (Scalar.cmpf .oge (k0_pay237 x) (k0_pay238 x)) (Scalar.addi (pY4 x) 33554432#32) (pY4 x)
@[inherit_doc pY0] def pY6 (x : F .f32) : BitVec 32 := Scalar.select (Scalar.cmpf .oge (k0_pay239 x) (k0_pay240 x)) (Scalar.addi (pY5 x) 16777216#32) (pY5 x)
@[inherit_doc pY0] def pY7 (x : F .f32) : BitVec 32 := Scalar.select (Scalar.cmpf .oge (k0_pay241 x) (k0_pay242 x)) (Scalar.addi (pY6 x) 8388608#32) (pY6 x)
/-- The exponent field it holds. -/
def eY (x : F .f32) : BitVec 32 := Scalar.andi (Scalar.shrui (pY7 x) 23#32) 255#32
/-- The first factor's scale. -/
def scaleY (x : F .f32) : F .f32 := k0_pay243 (eY x) (Scalar.cmpi .sgt (eY x) 0#32)
/-- Its inverse. -/
def invY (x : F .f32) : F .f32 := k0_pay244 (eY x) (Scalar.cmpi .sgt (eY x) 0#32)
/-- The word of the power of two after each step of the search for the second factor. -/
def pW0 (x : F .f32) : BitVec 32 := Scalar.select (Scalar.cmpf .oge (k0_pay246 x) (k0_pay247 (F := F))) 1073741824#32 0#32
@[inherit_doc pW0] def pW1 (x : F .f32) : BitVec 32 := Scalar.select (Scalar.cmpf .oge (k0_pay248 x) (k0_pay249 x)) (Scalar.addi (pW0 x) 536870912#32) (pW0 x)
@[inherit_doc pW0] def pW2 (x : F .f32) : BitVec 32 := Scalar.select (Scalar.cmpf .oge (k0_pay250 x) (k0_pay251 x)) (Scalar.addi (pW1 x) 268435456#32) (pW1 x)
@[inherit_doc pW0] def pW3 (x : F .f32) : BitVec 32 := Scalar.select (Scalar.cmpf .oge (k0_pay252 x) (k0_pay253 x)) (Scalar.addi (pW2 x) 134217728#32) (pW2 x)
@[inherit_doc pW0] def pW4 (x : F .f32) : BitVec 32 := Scalar.select (Scalar.cmpf .oge (k0_pay254 x) (k0_pay255 x)) (Scalar.addi (pW3 x) 67108864#32) (pW3 x)
@[inherit_doc pW0] def pW5 (x : F .f32) : BitVec 32 := Scalar.select (Scalar.cmpf .oge (k0_pay256 x) (k0_pay257 x)) (Scalar.addi (pW4 x) 33554432#32) (pW4 x)
/-- The second factor's scale. -/
def scaleW (x : F .f32) : F .f32 := k0_pay258 (k0_pay245 x) (pW5 x) 16777216#32
/-- Its inverse. -/
def invW (x : F .f32) : F .f32 := k0_pay259 (k0_pay245 x) (pW5 x) 16777216#32
/-- The product's scale. -/
def scaleX (x y : F .f32) : F .f32 := k0_pay260 (scaleY x) (k0_pay245 y) (pW5 y) 16777216#32

end Cert.Proof.KI

end
-- ==== Proof.KI.Dy.lean ====
module

public import proofs.«01_k».proof.Proof.KI.Loop
public import proofs.«01_k».proof.Proof.KI.Scalars
public import Idealize.ShloMosaic.Lib.VecWindow

/-! The first operand: what the kernel reads of it, stores as its codes and sends. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

variable (c : Dev nD)

/-- A load of a piece of slot `(0, j)` after piece `j` of the first operand landed in it. -/
def rdY (off : Fin 3 → Nat) (hh : ∀ a, off a + S1x256x512.size a ≤ S8x256x4608.size a) (j : Fin 4)
    (XD : BufOf (F := F) c dyM) : Vec F S1x256x512 .bf16 :=
  View.readAt (Elt F) inM.view (Rect.unit (s := S8x256x4608) off S1x256x512.size hh).toLoadRect
    ((rslot 0 j).view.writes (Elt F) (rslot 0 j).view.junk [⟨Rect.whole S256x4608, ReadAs.same.apply ((dyblk j).view.read (Elt F) XD)⟩])

theorem read_dyblk (j : Fin 4) (X : S256x18432.Idx → F .bf16) (x : S256x4608.Idx) :
    (ReadAs.same.apply ((dyblk j).view.read (Elt F) X) : S256x4608.Idx → F .bf16) x = X ((dyblk j).view.emb x) := rfl

theorem rdY_eq (off) (hh) (j : Fin 4) (XD : BufOf (F := F) c dyM) (t : ℕ) (ht : t < 9)
    (ho : off = ![j.val, 0, 512 * t]) : rdY c off hh j XD = ysub XD (9 * j.val + t) := by
  subst ho
  funext i
  obtain ⟨i0, i1, i2, rfl⟩ : ∃ (i0 : Fin 1) (i1 : Fin 256) (i2 : Fin 512), i = ix3 i0 i1 i2 := ⟨i 0, i 1, i 2, eq_ix3 i⟩
  have hE : (Rect.unit (s := S8x256x4608) ![j.val, 0, 512 * t] S1x256x512.size hh).emb (ix3 i0 i1 i2)
      = (rslot 0 j).view.emb (ix2 i1 (⟨512 * t + i2.val, by omega⟩ : Fin 4608)) := by
    rw [rslot_emb]
    funext r; refine Fin.ext ?_
    fin_cases r
    · show j.val + 1 * i0.val = 4 * 0 + j.val; omega
    · show 0 + 1 * i1.val = i1.val; omega
    · show 512 * t + 1 * i2.val = 512 * t + i2.val; omega
  unfold rdY
  generalize hp : (ReadAs.same.apply ((dyblk j).view.read (Elt F) XD) : S256x4608.Idx → F .bf16) = p
  refine (readAt_in _ _ _).trans ?_
  rw [hE]
  refine (writes_whole_emb (F := F) (rslot 0 j).view (rslot 0 j).view.junk p [] _).trans ?_
  subst hp
  refine (read_dyblk j XD _).trans ?_
  rw [dyblk_emb]
  refine congrArg XD ?_
  funext r; refine Fin.ext ?_
  fin_cases r
  · rfl
  · show 4608 * j.val + (512 * t + i2.val) = (512 * (9 * j.val + t) + i2.val) % 18432
    rw [Nat.mod_eq_of_lt (by omega)]; omega

/-- What the kernel loads of the first operand, in order. -/
def yr (XD : BufOf (F := F) c dyM) : ℕ → Vec F S1x256x512 .bf16
  | 0 => rdY c ![0, 0, 0] (by decide) 0 XD
  | 1 => rdY c ![0, 0, 512] (by decide) 0 XD
  | 2 => rdY c ![0, 0, 1024] (by decide) 0 XD
  | 3 => rdY c ![0, 0, 1536] (by decide) 0 XD
  | 4 => rdY c ![0, 0, 2048] (by decide) 0 XD
  | 5 => rdY c ![0, 0, 2560] (by decide) 0 XD
  | 6 => rdY c ![0, 0, 3072] (by decide) 0 XD
  | 7 => rdY c ![0, 0, 3584] (by decide) 0 XD
  | 8 => rdY c ![0, 0, 4096] (by decide) 0 XD
  | 9 => rdY c ![1, 0, 0] (by decide) 1 XD
  | 10 => rdY c ![1, 0, 512] (by decide) 1 XD
  | 11 => rdY c ![1, 0, 1024] (by decide) 1 XD
  | 12 => rdY c ![1, 0, 1536] (by decide) 1 XD
  | 13 => rdY c ![1, 0, 2048] (by decide) 1 XD
  | 14 => rdY c ![1, 0, 2560] (by decide) 1 XD
  | 15 => rdY c ![1, 0, 3072] (by decide) 1 XD
  | 16 => rdY c ![1, 0, 3584] (by decide) 1 XD
  | 17 => rdY c ![1, 0, 4096] (by decide) 1 XD
  | 18 => rdY c ![2, 0, 0] (by decide) 2 XD
  | 19 => rdY c ![2, 0, 512] (by decide) 2 XD
  | 20 => rdY c ![2, 0, 1024] (by decide) 2 XD
  | 21 => rdY c ![2, 0, 1536] (by decide) 2 XD
  | 22 => rdY c ![2, 0, 2048] (by decide) 2 XD
  | 23 => rdY c ![2, 0, 2560] (by decide) 2 XD
  | 24 => rdY c ![2, 0, 3072] (by decide) 2 XD
  | 25 => rdY c ![2, 0, 3584] (by decide) 2 XD
  | 26 => rdY c ![2, 0, 4096] (by decide) 2 XD
  | 27 => rdY c ![3, 0, 0] (by decide) 3 XD
  | 28 => rdY c ![3, 0, 512] (by decide) 3 XD
  | 29 => rdY c ![3, 0, 1024] (by decide) 3 XD
  | 30 => rdY c ![3, 0, 1536] (by decide) 3 XD
  | 31 => rdY c ![3, 0, 2048] (by decide) 3 XD
  | 32 => rdY c ![3, 0, 2560] (by decide) 3 XD
  | 33 => rdY c ![3, 0, 3072] (by decide) 3 XD
  | 34 => rdY c ![3, 0, 3584] (by decide) 3 XD
  | 35 => rdY c ![3, 0, 4096] (by decide) 3 XD
  | n => ysub XD n
theorem yr_eq (XD : BufOf (F := F) c dyM) : yr c XD = ysub XD := by
  funext n
  match n with
  | 0 => exact rdY_eq c _ _ 0 XD 0 (by decide) rfl
  | 1 => exact rdY_eq c _ _ 0 XD 1 (by decide) rfl
  | 2 => exact rdY_eq c _ _ 0 XD 2 (by decide) rfl
  | 3 => exact rdY_eq c _ _ 0 XD 3 (by decide) rfl
  | 4 => exact rdY_eq c _ _ 0 XD 4 (by decide) rfl
  | 5 => exact rdY_eq c _ _ 0 XD 5 (by decide) rfl
  | 6 => exact rdY_eq c _ _ 0 XD 6 (by decide) rfl
  | 7 => exact rdY_eq c _ _ 0 XD 7 (by decide) rfl
  | 8 => exact rdY_eq c _ _ 0 XD 8 (by decide) rfl
  | 9 => exact rdY_eq c _ _ 1 XD 0 (by decide) rfl
  | 10 => exact rdY_eq c _ _ 1 XD 1 (by decide) rfl
  | 11 => exact rdY_eq c _ _ 1 XD 2 (by decide) rfl
  | 12 => exact rdY_eq c _ _ 1 XD 3 (by decide) rfl
  | 13 => exact rdY_eq c _ _ 1 XD 4 (by decide) rfl
  | 14 => exact rdY_eq c _ _ 1 XD 5 (by decide) rfl
  | 15 => exact rdY_eq c _ _ 1 XD 6 (by decide) rfl
  | 16 => exact rdY_eq c _ _ 1 XD 7 (by decide) rfl
  | 17 => exact rdY_eq c _ _ 1 XD 8 (by decide) rfl
  | 18 => exact rdY_eq c _ _ 2 XD 0 (by decide) rfl
  | 19 => exact rdY_eq c _ _ 2 XD 1 (by decide) rfl
  | 20 => exact rdY_eq c _ _ 2 XD 2 (by decide) rfl
  | 21 => exact rdY_eq c _ _ 2 XD 3 (by decide) rfl
  | 22 => exact rdY_eq c _ _ 2 XD 4 (by decide) rfl
  | 23 => exact rdY_eq c _ _ 2 XD 5 (by decide) rfl
  | 24 => exact rdY_eq c _ _ 2 XD 6 (by decide) rfl
  | 25 => exact rdY_eq c _ _ 2 XD 7 (by decide) rfl
  | 26 => exact rdY_eq c _ _ 2 XD 8 (by decide) rfl
  | 27 => exact rdY_eq c _ _ 3 XD 0 (by decide) rfl
  | 28 => exact rdY_eq c _ _ 3 XD 1 (by decide) rfl
  | 29 => exact rdY_eq c _ _ 3 XD 2 (by decide) rfl
  | 30 => exact rdY_eq c _ _ 3 XD 3 (by decide) rfl
  | 31 => exact rdY_eq c _ _ 3 XD 4 (by decide) rfl
  | 32 => exact rdY_eq c _ _ 3 XD 5 (by decide) rfl
  | 33 => exact rdY_eq c _ _ 3 XD 6 (by decide) rfl
  | 34 => exact rdY_eq c _ _ 3 XD 7 (by decide) rfl
  | 35 => exact rdY_eq c _ _ 3 XD 8 (by decide) rfl
  | n + 36 => rfl

theorem acc_dyb (r : Rect S4x256x4608) (f : S4x256x4608.Idx → F .fp8e4m3) (w : r.shape.Idx → F .fp8e4m3) (x : r.shape.Idx) :
    View.write (Elt F) (dybM.access r) f w Finset.univ (r.emb x) = w x :=
  View.write_emb_of_mem (Val := Elt F) (v := dybM.access r) f w (Finset.mem_univ x)
theorem acc_dyb_off (r : Rect S4x256x4608) (f : S4x256x4608.Idx → F .fp8e4m3) (w : r.shape.Idx → F .fp8e4m3) (y : S4x256x4608.Idx)
    (h : ∀ x, r.emb x ≠ y) : View.write (Elt F) (dybM.access r) f w Finset.univ y = f y := by
  refine View.write_of_not_mem (Val := Elt F) (v := dybM.access r) f w Finset.univ ?_
  intro hm
  obtain ⟨x, -, hx⟩ := Finset.mem_map.mp hm
  exact h x hx

theorem doff_inb (j : Fin 4) (t : ℕ) (ht : t < 9) : ∀ a, (![j.val, 0, 512 * t] : Fin 3 → Nat) a + S1x256x512.size a ≤ S4x256x4608.size a := by
  intro a
  fin_cases a
  · show j.val + 1 ≤ 4; omega
  · show 0 + 256 ≤ 256; omega
  · show 512 * t + 512 ≤ 4608; omega

/-- The buffer of the codes after piece `t` of slot `j` is stored. -/
abbrev dw (j : Fin 4) (off : Fin 3 → Nat) (hh : ∀ a, off a + S1x256x512.size a ≤ S4x256x4608.size a)
    (f : S4x256x4608.Idx → F .fp8e4m3) (w : FVec F S1x256x512 .fp8e4m3) : S4x256x4608.Idx → F .fp8e4m3 :=
  View.write (Elt F) (dybM.access (Rect.unit (s := S4x256x4608) off S1x256x512.size hh)) f w Finset.univ

theorem dw_step (j : Fin 4) (t : ℕ) (ht : t < 9) (off) (hh) (ho : off = ![j.val, 0, 512 * t]) (f : S4x256x4608.Idx → F .fp8e4m3) (w : FVec F S1x256x512 .fp8e4m3)
    (G : Fin 256 → ℕ → F .fp8e4m3) (hf : ∀ (i : Fin 256) (s : Fin 4608), s.val < 512 * t → f (ix3 j i s) = G i s.val)
    (hw : ∀ (i : Fin 256) (s : Fin 512), w (ix3 0 i s) = G i (512 * t + s.val)) :
    ∀ (i : Fin 256) (s : Fin 4608), s.val < 512 * (t + 1) → dw j off hh f w (ix3 j i s) = G i s.val := by
  subst ho
  intro i s hs
  have hemb : ∀ (i0 : Fin 1) (i1 : Fin 256) (i2 : Fin 512),
      (Rect.unit (s := S4x256x4608) ![j.val, 0, 512 * t] S1x256x512.size hh).emb (ix3 i0 i1 i2)
        = (ix3 j i1 (⟨512 * t + i2.val, by omega⟩ : Fin 4608) : S4x256x4608.Idx) := by
    intro i0 i1 i2
    funext r; refine Fin.ext ?_
    fin_cases r
    · show j.val + 1 * i0.val = j.val; omega
    · show 0 + 1 * i1.val = i1.val; omega
    · show 512 * t + 1 * i2.val = 512 * t + i2.val; omega
  by_cases h : s.val < 512 * t
  · refine (acc_dyb_off (Rect.unit (s := S4x256x4608) ![j.val, 0, 512 * t] S1x256x512.size hh) f w (ix3 j i s) ?_).trans (hf i s h)
    intro x hx
    obtain ⟨i0, i1, i2, rfl⟩ : ∃ (i0 : Fin 1) (i1 : Fin 256) (i2 : Fin 512), x = ix3 i0 i1 i2 := ⟨x 0, x 1, x 2, eq_ix3 x⟩
    have h2 := (hemb i0 i1 i2).symm.trans hx
    have h3 : 512 * t + i2.val = s.val := congrArg (fun y : S4x256x4608.Idx => (y 2).val) h2
    omega
  · have h3 := acc_dyb (Rect.unit (s := S4x256x4608) ![j.val, 0, 512 * t] S1x256x512.size hh) f w
      (ix3 0 i (⟨s.val - 512 * t, by omega⟩ : Fin 512))
    have h5 : (⟨512 * t + (s.val - 512 * t), by omega⟩ : Fin 4608) = s := Fin.ext (by show 512 * t + (s.val - 512 * t) = s.val; omega)
    have h6 := hw i (⟨s.val - 512 * t, by omega⟩ : Fin 512)
    have h7 : 512 * t + (s.val - 512 * t) = s.val := by omega
    rw [hemb, h5] at h3
    refine h3.trans (h6.trans ?_)
    exact congrArg (G i) h7

/-- The buffer of the codes after the nine pieces of slot `j` of the first operand are stored. -/
def nestD (j : Fin 4) (v : F .f32) (x : ℕ → Vec F S1x256x512 .bf16) (f : S4x256x4608.Idx → F .fp8e4m3) : S4x256x4608.Idx → F .fp8e4m3 :=
  (dw j ![j.val, 0, 4096] (doff_inb j 8 (by decide)) (dw j ![j.val, 0, 3584] (doff_inb j 7 (by decide)) (dw j ![j.val, 0, 3072] (doff_inb j 6 (by decide)) (dw j ![j.val, 0, 2560] (doff_inb j 5 (by decide)) (dw j ![j.val, 0, 2048] (doff_inb j 4 (by decide)) (dw j ![j.val, 0, 1536] (doff_inb j 3 (by decide)) (dw j ![j.val, 0, 1024] (doff_inb j 2 (by decide)) (dw j ![j.val, 0, 512] (doff_inb j 1 (by decide)) (dw j ![j.val, 0, 0] (doff_inb j 0 (by decide)) f
    (qrow v (x (9 * j.val + 0))))
    (qrow v (x (9 * j.val + 1))))
    (qrow v (x (9 * j.val + 2))))
    (qrow v (x (9 * j.val + 3))))
    (qrow v (x (9 * j.val + 4))))
    (qrow v (x (9 * j.val + 5))))
    (qrow v (x (9 * j.val + 6))))
    (qrow v (x (9 * j.val + 7))))
    (qrow v (x (9 * j.val + 8))))

theorem ysub_apply (XD : S256x18432.Idx → F .bf16) (t : ℕ) (i0 : Fin 1) (i1 : Fin 256) (i2 : Fin 512) :
    ysub XD t (ix3 i0 i1 i2) = XD (ix2 i1 (Fin.ofNat 18432 (512 * t + i2.val))) := rfl
theorem nestD_apply (j : Fin 4) (v : F .f32) (XD : S256x18432.Idx → F .bf16) (f : S4x256x4608.Idx → F .fp8e4m3) (i : Fin 256) (s : Fin 4608) :
    nestD j v (ysub XD) f (ix3 j i s) = qel v (XD (ix2 i (⟨4608 * j.val + s.val, by omega⟩ : Fin 18432))) := by
  let G : Fin 256 → ℕ → F .fp8e4m3 := fun i s => qel v (XD (ix2 i (Fin.ofNat 18432 (4608 * j.val + s))))
  have hG : ∀ t : ℕ, t < 9 → ∀ (i : Fin 256) (s : Fin 512), qrow v (ysub XD (9 * j.val + t)) (ix3 0 i s) = G i (512 * t + s.val) := by
    intro t ht i s
    rw [qrow_apply]
    rw [ysub_apply]
    refine congrArg (fun y => qel v (XD y)) ?_
    funext r; refine Fin.ext ?_
    fin_cases r
    · rfl
    · show (512 * (9 * j.val + t) + s.val) % 18432 = (4608 * j.val + (512 * t + s.val)) % 18432
      congr 1; omega
  have h0 : ∀ (i : Fin 256) (s : Fin 4608), s.val < 512 * 0 → f (ix3 j i s) = G i s.val := fun i s h => absurd h (by omega)
  have h1 := dw_step j 0 (by decide) ![j.val, 0, 0] (doff_inb j 0 (by decide)) rfl _ _ G h0 (hG 0 (by decide))
  have h2 := dw_step j 1 (by decide) ![j.val, 0, 512] (doff_inb j 1 (by decide)) rfl _ _ G h1 (hG 1 (by decide))
  have h3 := dw_step j 2 (by decide) ![j.val, 0, 1024] (doff_inb j 2 (by decide)) rfl _ _ G h2 (hG 2 (by decide))
  have h4 := dw_step j 3 (by decide) ![j.val, 0, 1536] (doff_inb j 3 (by decide)) rfl _ _ G h3 (hG 3 (by decide))
  have h5 := dw_step j 4 (by decide) ![j.val, 0, 2048] (doff_inb j 4 (by decide)) rfl _ _ G h4 (hG 4 (by decide))
  have h6 := dw_step j 5 (by decide) ![j.val, 0, 2560] (doff_inb j 5 (by decide)) rfl _ _ G h5 (hG 5 (by decide))
  have h7 := dw_step j 6 (by decide) ![j.val, 0, 3072] (doff_inb j 6 (by decide)) rfl _ _ G h6 (hG 6 (by decide))
  have h8 := dw_step j 7 (by decide) ![j.val, 0, 3584] (doff_inb j 7 (by decide)) rfl _ _ G h7 (hG 7 (by decide))
  have h9 := dw_step j 8 (by decide) ![j.val, 0, 4096] (doff_inb j 8 (by decide)) rfl _ _ G h8 (hG 8 (by decide))
  refine (h9 i s (by omega)).trans ?_
  refine congrArg (fun y => qel v (XD y)) ?_
  funext r; refine Fin.ext ?_
  fin_cases r
  · rfl
  · show (4608 * j.val + s.val) % 18432 = 4608 * j.val + s.val
    rw [Nat.mod_eq_of_lt (by omega)]
theorem DCf_apply (YC : S256x18432.Idx → F .fp8e4m3) (j : Fin 4) (i : Fin 256) (s : Fin 4608) :
    DCf YC (ix3 j i s) = YC (ix2 i (⟨4608 * j.val + s.val, by omega⟩ : Fin 18432)) := by
  refine congrArg YC ?_
  funext r; refine Fin.ext ?_
  fin_cases r
  · rfl
  · show (4608 * j.val + s.val) % 18432 = 4608 * j.val + s.val
    rw [Nat.mod_eq_of_lt (by omega)]
theorem nestD_DCf (j : Fin 4) (v : F .f32) (XD : S256x18432.Idx → F .bf16) (f : S4x256x4608.Idx → F .fp8e4m3) (i : Fin 256) (s : Fin 4608) :
    nestD j v (ysub XD) f (ix3 j i s) = DCf (YCf v XD) (ix3 j i s) := by
  rw [nestD_apply, DCf_apply]; rfl

/-- A slot's share after the codes are stored in it. -/
theorem dslot_of (q : PosShare TreeShare) (j : Fin 4) (v : F .f32) (XD : S256x18432.Idx → F .bf16) (f : S4x256x4608.Idx → F .fp8e4m3) {O : S4x256x4608.Idx → F .fp8e4m3}
    (hO : O = nestD j v (ysub XD) f) :
    ((dslot j).view.loc (c : Thread nD τ) ↦[(dslot j).view.set]{q} O : sProp 𝕄)
      = (dslot j).view.loc (c : Thread nD τ) ↦[(dslot j).view.set]{q} DCf (YCf v XD) := by
  subst hO
  refine pointsTo_congr ?_
  intro y hy
  obtain ⟨x, -, rfl⟩ := Finset.mem_map.mp hy
  obtain ⟨i, s, rfl⟩ : ∃ (i : Fin 256) (s : Fin 4608), x = ix2 i s := ⟨x 0, x 1, eq_ix2 x⟩
  rw [dslot_emb]
  exact nestD_DCf j v XD f i s

theorem held_dycblk (j : Fin 4) (f g : S256x18432.Idx → F .fp8e4m3)
    (h : ∀ (i : Fin 256) (s : Fin 4608), f (ix2 i (⟨4608 * j.val + s.val, by omega⟩ : Fin 18432))
      = g (ix2 i (⟨4608 * j.val + s.val, by omega⟩ : Fin 18432))) :
    held c (dycblk j) f = held c (dycblk j) g := by
  refine pointsTo_congr ?_
  intro y hy
  obtain ⟨x, -, rfl⟩ := Finset.mem_map.mp hy
  obtain ⟨i, s, rfl⟩ : ∃ (i : Fin 256) (s : Fin 4608), x = ix2 i s := ⟨x 0, x 1, eq_ix2 x⟩
  rw [dycblk_emb]
  exact h i s
theorem dycblk_writes (j : Fin 4) (f : S256x18432.Idx → F .fp8e4m3) (p : S256x4608.Idx → F .fp8e4m3) (x : S256x4608.Idx) :
    (dycblk j).view.writes (Elt F) f [⟨Rect.whole S256x4608, p⟩] ((dycblk j).view.emb x) = p x :=
  writes_whole_emb (F := F) (dycblk j).view f p [] x
theorem read_dslot (j : Fin 4) (X : S4x256x4608.Idx → F .fp8e4m3) (x : S256x4608.Idx) :
    (ReadAs.same.apply ((dslot j).view.read (Elt F) X) : S256x4608.Idx → F .fp8e4m3) x = X ((dslot j).view.emb x) := rfl

/-- A slot of the first operand's codes in flight to its piece, half a share of the slot lent to the transfer. -/
abbrev flyY (YC : S256x18432.Idx → F .fp8e4m3) (j : Fin 4) : sProp 𝕄 :=
  Transfers.Flight countersEmb (c : Thread nD τ) (SemLoc.dma (dsem j).sem) () 36864
    iprop(held c (dycblk j) YC ∗ ((dslot j).view.loc (c : Thread nD τ) ↦[(dslot j).view.set]{fullShare.right} DCf YC))
theorem flyY_of (XD : BufOf (F := F) c dyM) (v : F .f32) (j : Fin 4) {f : S4x256x4608.Idx → F .fp8e4m3} {g' : S256x18432.Idx → F .fp8e4m3}
    {p : S256x4608.Idx → F .fp8e4m3} {O : S4x256x4608.Idx → F .fp8e4m3}
    (hO : O = nestD j v (ysub XD) f) (hp : p = ReadAs.same.apply ((dslot j).view.read (Elt F) O)) :
    Transfers.Flight countersEmb (c : Thread nD τ) (SemLoc.dma (dsem j).sem) () 36864
      iprop(held c (dycblk j) ((dycblk j).view.writes (Elt F) g' [⟨Rect.whole S256x4608, p⟩]) ∗ ((dslot j).view.loc (c : Thread nD τ) ↦[(dslot j).view.set]{fullShare.right} O))
    ⊢ flyY c (YCf v XD) j := by
  have e : held c (dycblk j) ((dycblk j).view.writes (Elt F) g' [⟨Rect.whole S256x4608, p⟩])
      = held c (dycblk j) (YCf v XD) := by
    refine held_dycblk c j _ _ ?_
    intro i s
    have h1 := dycblk_writes j g' p (ix2 i s)
    rw [dycblk_emb] at h1
    refine h1.trans ?_
    rw [hp, hO, read_dslot, dslot_emb]
    exact nestD_apply j v XD f i s
  rw [e, dslot_of c _ j v XD f hO]

theorem of_eq' {P Q : sProp 𝕄} (e : P = Q) : P ⊢ Q := e ▸ .rfl

/-! ## The largest magnitudes -/

/-- The running largest magnitude at the start. -/
def zeroA : FVec F S16x512 .bf16 := broadcast S16x512 (Scalar.ofBits .bf16 0x0000#16)
/-- The largest of the running largest magnitudes. -/
def top (A : FVec F S16x512 .bf16) : F .f32 :=
  extractAt ![0, 0, 0] (shapeCast S1x1x1 (multiReduction .maximumf [1, 2] S1 (shapeCast S1x16x512 (extf .f32 A bitsLt_bf16_f32) shapeCasts_S16x512_S1x16x512) 0xFF800000#32 reduces_S1x16x512_S1 (.inl rfl) rfl) shapeCasts_S1_S1x1x1) inpos_S1x1x1_p0_0_0

theorem amY_of (XD : S256x18432.Idx → F .bf16)
    {H1 H2 H3 H4 H5 : List (View.Piece (Elt F) S16x512 .bf16)}
    (h1 : H1 = ⟨amR, shapeCast S16x512 zeroA shapeCasts_S16x512_S16x512⟩ :: [])
    (h2 : H2 = ⟨amR, shapeCast S16x512 (amF (ysub XD) 0 (amM.view.readCov H1 amR.toLoadRect) 9) shapeCasts_S16x512_S16x512⟩ :: H1)
    (h3 : H3 = ⟨amR, shapeCast S16x512 (amF (ysub XD) 9 (amM.view.readCov H2 amR.toLoadRect) 9) shapeCasts_S16x512_S16x512⟩ :: H2)
    (h4 : H4 = ⟨amR, shapeCast S16x512 (amF (ysub XD) 18 (amM.view.readCov H3 amR.toLoadRect) 9) shapeCasts_S16x512_S16x512⟩ :: H3)
    (h5 : H5 = ⟨amR, shapeCast S16x512 (amF (ysub XD) 27 (amM.view.readCov H4 amR.toLoadRect) 9) shapeCasts_S16x512_S16x512⟩ :: H4) :
    amM.view.readCov H5 amR.toLoadRect = amN (ysub XD) zeroA 36 := by
  rw [shapeCast_self] at h1 h2 h3 h4 h5
  have c1 : amM.view.readCov H1 amR.toLoadRect = amN (ysub XD) zeroA 0 := by
    rw [h1, View.readCov_cons_toLoadRect]; rfl
  have c2 : amM.view.readCov H2 amR.toLoadRect = amN (ysub XD) zeroA 9 := by
    rw [h2, View.readCov_cons_toLoadRect, c1]; exact amF_amN _ zeroA 0 9
  have c3 : amM.view.readCov H3 amR.toLoadRect = amN (ysub XD) zeroA 18 := by
    rw [h3, View.readCov_cons_toLoadRect, c2]; exact amF_amN _ zeroA 9 9
  have c4 : amM.view.readCov H4 amR.toLoadRect = amN (ysub XD) zeroA 27 := by
    rw [h4, View.readCov_cons_toLoadRect, c3]; exact amF_amN _ zeroA 18 9
  rw [h5, View.readCov_cons_toLoadRect, c4]; exact amF_amN _ zeroA 27 9
/-- The running largest magnitude, set back to zero. -/
theorem am_zero {f : S16x512.Idx → F .bf16} {p : FVec F S16x512 .bf16} {L : List (View.Piece (Elt F) S16x512 .bf16)} (hp : p = shapeCast S16x512 zeroA shapeCasts_S16x512_S16x512) :
    held c amM (amM.view.writes (Elt F) f (⟨amR, p⟩ :: L)) ⊢ held c amM zeroA := by
  rw [shapeCast_self] at hp
  rw [am_write, hp]

/-! ## The scalars -/

/-- A memory reference held at contents that read as `w`. -/
abbrev rdback {sp s e} (M : Memref sig .tc sp s e) (w : s.Idx → Elt F e) : sProp 𝕄 :=
  iprop(∃ g : BufOf (F := F) c M, ⌜M.view.read (Elt F) g = w⌝ ∗ held c M g)
/-- The scalar in a cell. -/
abbrev cell (M : Memref sig .tc .smem S1 .f32) (g : BufOf (F := F) c M) : F .f32 :=
  View.readAt (Elt F) M.view (Rect.unit (s := S1) ![0] S1.size inb_S1_S1_0).toLoadRect g (Shape.Idx.first (s := S1) (by decide))
theorem rdback_of (M : Memref sig .tc .smem S1 .f32) {f : BufOf (F := F) c M} {w w' : S1.Idx → F .f32} (h : w = w') :
    held c M (M.view.writes (Elt F) f [⟨Rect.unit (s := S1) ![0] S1.size inb_S1_S1_0, w⟩]) ⊢ rdback c M w' := by
  subst h
  iintro H; iexists _
  isplitr
  · ipureintro; exact View.read_writes_full M.view f inb_S1_S1_0 w []
  iexact H

end Cert.Proof.KI

end
-- ==== Proof.KI.Body.lean ====
module

public import proofs.«01_k».proof.Proof.KI.Dy

/-! The kernel on its buffers, from its start to its end. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section
variable (c : Dev nD)
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)

/-- The kernel on its buffers. -/
abbrev bodyG : Prog (TpuEff nD τ sig (Elt F) Λ₀ .tc) PUnit :=
  cc0__body (F := F) dyM (Memref.isWhole_whole _) wM (Memref.isWhole_whole _) arg2 harg2 arg3 harg3 dxM (Memref.isWhole_whole _) dycM (Memref.isWhole_whole _) arg6 harg6 wcM (Memref.isWhole_whole _) arg8 harg8 arg9 harg9 arg10 harg10
    inM (Memref.isWhole_whole _) dybM (Memref.isWhole_whole _) outM (Memref.isWhole_whole _) accM (Memref.isWhole_whole _) xbM (Memref.isWhole_whole _) amM (Memref.isWhole_whole _)
    cc0_scratch6 cc0_scratch7 cc0_scratch8 cc0_scratch9

theorem inv_zero (v109 v112 : F .f32) (XW : BufOf (F := F) c wM) (YC : S256x18432.Idx → F .fp8e4m3) (A0 : S16x512.Idx → F .bf16)
    (G : S7168x18432.Idx → F .fp8e4m3) (x' : S256x7168.Idx → F .bf16) (Ac : S256x256.Idx → F .f32) (W : Waits sig Unit) :
    iprop((heldL c (dslot 0) (DCf YC) ∗ heldL c (dslot 1) (DCf YC) ∗ heldL c (dslot 2) (DCf YC) ∗ heldL c (dslot 3) (DCf YC)
      ∗ held c amM A0 ∗ held c accM Ac)
      ∗ four (fun j => iprop(∃ f, flyW c XW 1 j 0 f)) ∗ four (fun j => iprop(∃ f, flyW c XW 0 j 1 f))
      ∗ bigSep (homeS 0) (fun b => four (fun j => homeW c XW b j))
      ∗ four (fun j => iprop(∃ O, held c (oslot j) O ∗ zero c (osem j)))
      ∗ bigSep (freshS 0) (fun b => four (fun j => held c (wcblk b j) G))
      ∗ iprop(∃ X, held c (xslot 1) X ∗ zero c (xsem 1)) ∗ iprop(∃ X, held c (xslot 0) X ∗ zero c (xsem 0))
      ∗ bigSep (freshS 0) (fun b => held c (dxblk b) x')
      ∗ owes (c : Thread nD τ) 0 W)
    ⊢ Inv c v109 v112 XW YC A0 G x' 0 := by
  unfold Inv
  rw [WS_pos c XW 0 (by decide), WS_pos c XW (0 + 1) (by decide), OS_neg c _ 0 (by decide), XS_neg c _ 0 (by decide), XS_neg c _ (0 + 1) (by decide)]
  rw [show doneS 1 0 = ∅ from by decide, show doneS 2 0 = ∅ from by decide, BI.bigSep_empty, BI.bigSep_empty]
  iintro ⟨Hb, HT, HS, HH, HO, HC, HX1, HX0, Hx, HW⟩
  isplitl [Hb]
  · iexists Ac; iexact Hb
  isplitl [HT]; · iexact HT
  isplitl [HS]; · iexact HS
  isplitl [HH]; · iexact HH
  isplitl [HO]; · iexact HO
  isplitr; · iempintro
  isplitl [HC]; · iexact HC
  isplitl [HX1]; · iexact HX1
  isplitl [HX0]; · iexact HX0
  isplitr; · iempintro
  isplitl [Hx]; · iexact Hx
  iexists W; iexact HW

/-- What the loop leaves. -/
theorem inv_end (v109 v112 : F .f32) (XW : BufOf (F := F) c wM) (YC : S256x18432.Idx → F .fp8e4m3) (A0 : S16x512.Idx → F .bf16)
    (G : S7168x18432.Idx → F .fp8e4m3) (x' : S256x7168.Idx → F .bf16) :
    Inv c v109 v112 XW YC A0 G x' 28 ⊢
    iprop((∃ Ac, base c YC (amW XW A0 28) Ac)
      ∗ four (fun j => iprop(∃ f, held c (rslot 1 j) f ∗ zero c (isem 1 j))) ∗ four (fun j => iprop(∃ f, held c (rslot 0 j) f ∗ zero c (isem 0 j)))
      ∗ bigSep Finset.univ (fun b => four (fun j => homeW c XW b j))
      ∗ four (fun j => flyOut c (WCf v109 XW) j 27)
      ∗ bigSep (doneS 1 28) (fun b => four (fun j => held c (wcblk b j) (WCf v109 XW)))
      ∗ flyDx c (DXf v109 v112 YC XW) 1 26 ∗ flyDx c (DXf v109 v112 YC XW) 0 27
      ∗ bigSep (doneS 2 28) (fun b => held c (dxblk b) (DXf v109 v112 YC XW))
      ∗ ∃ W, owes (c : Thread nD τ) 0 W) := by
  unfold Inv
  rw [WS_neg c XW 28 (by decide), WS_neg c XW (28 + 1) (by decide), OS_pos c _ 28 (by decide), XS_pos c _ 28 (by decide), XS_pos c _ (28 + 1) (by decide)]
  rw [show homeS 28 = Finset.univ from by decide]
  iintro ⟨Hb, HT, HS, HH, HO, HC, -, HX1, HX0, Hx, -, HW⟩
  isplitl [Hb]; · iexact Hb
  isplitl [HT]; · iexact HT
  isplitl [HS]; · iexact HS
  isplitl [HH]; · iexact HH
  isplitl [HO]; · iexact HO
  isplitl [HC]; · iexact HC
  isplitl [HX1]; · iexact HX1
  isplitl [HX0]; · iexact HX0
  isplitl [Hx]; · iexact Hx
  iexact HW

theorem done1 : Finset.univ = insert (27 : Fin 28) (doneS 1 28) := by decide
theorem done1_not : (27 : Fin 28) ∉ doneS 1 28 := by decide
theorem done2 : Finset.univ = insert (27 : Fin 28) (insert (26 : Fin 28) (doneS 2 28)) := by decide
theorem done2_not : (27 : Fin 28) ∉ insert (26 : Fin 28) (doneS 2 28) := by decide
theorem done2_not' : (26 : Fin 28) ∉ doneS 2 28 := by decide

/-- What the kernel starts from. -/
abbrev bodyPre (XD : BufOf (F := F) c dyM) (XW : BufOf (F := F) c wM)
    (g2 : BufOf (F := F) c arg2) (g3 : BufOf (F := F) c arg3) (g6 : BufOf (F := F) c arg6) (g8 : BufOf (F := F) c arg8) (g9 : BufOf (F := F) c arg9) (g10 : BufOf (F := F) c arg10)
    (Gy : S256x18432.Idx → F .fp8e4m3) (D : S4x256x4608.Idx → F .fp8e4m3) (I : S8x256x4608.Idx → F .bf16) (A : S16x512.Idx → F .bf16) (W : Waits sig Unit)
    (O : S4x256x4608.Idx → F .fp8e4m3) (X : S2x256x256.Idx → F .bf16) (Ac : S256x256.Idx → F .f32) (G : S7168x18432.Idx → F .fp8e4m3) (x' : S256x7168.Idx → F .bf16) : sProp 𝕄 :=
  iprop(held c arg2 g2 ∗ held c arg3 g3 ∗ held c arg6 g6 ∗ held c arg8 g8 ∗ held c arg9 g9 ∗ held c arg10 g10
      ∗ four (fun j => held c (dyblk j) XD) ∗ four (fun j => homeW c XW 0 j) ∗ four (fun j => homeW c XW 1 j)
      ∗ four (fun j => held c (dycblk j) Gy) ∗ four (fun j => held c (dslot j) D) ∗ four (fun j => held c (rslot 0 j) I) ∗ four (fun j => held c (rslot 1 j) I)
      ∗ four (fun j => zero c (isem 0 j)) ∗ four (fun j => zero c (isem 1 j)) ∗ four (fun j => zero c (dsem j))
      ∗ held c amM A ∗ owes (c : Thread nD τ) 0 W
      ∗ four (fun j => held c (oslot j) O) ∗ four (fun j => zero c (osem j))
      ∗ held c (xslot 0) X ∗ held c (xslot 1) X ∗ zero c (xsem 0) ∗ zero c (xsem 1) ∗ held c accM Ac
      ∗ bigSep (homeS 0) (fun b => four (fun j => homeW c XW b j))
      ∗ bigSep (freshS 0) (fun b => four (fun j => held c (wcblk b j) G))
      ∗ bigSep (freshS 0) (fun b => held c (dxblk b) x'))

/-- What the kernel leaves. -/
abbrev bodyPost (XD : BufOf (F := F) c dyM) (XW : BufOf (F := F) c wM)
    (g2 : BufOf (F := F) c arg2) (g3 : BufOf (F := F) c arg3) : sProp 𝕄 :=
  iprop(held c arg2 g2 ∗ held c arg3 g3
      ∗ rdback c arg6 (fun _ => scaleY (cell c arg2 g2)) ∗ rdback c arg8 (fun _ => scaleW (cell c arg3 g3))
      ∗ rdback c arg9 (fun _ => top (amN (ysub XD) zeroA 36)) ∗ rdback c arg10 (fun _ => top (amW XW zeroA 28))
      ∗ four (fun j => held c (dyblk j) XD)
      ∗ bigSep Finset.univ (fun b => four (fun j => homeW c XW b j))
      ∗ four (fun j => held c (dycblk j) (YCf (invY (cell c arg2 g2)) XD))
      ∗ bigSep Finset.univ (fun b => four (fun j => held c (wcblk b j) (WCf (invW (cell c arg3 g3)) XW)))
      ∗ bigSep Finset.univ (fun b => held c (dxblk b) (DXf (invW (cell c arg3 g3)) (scaleX (cell c arg2 g2) (cell c arg3 g3)) (YCf (invY (cell c arg2 g2)) XD) XW))
      ∗ four (fun j => iprop(∃ D, held c (dslot j) D)) ∗ four (fun j => iprop(∃ f, held c (rslot 0 j) f ∗ zero c (isem 0 j))) ∗ four (fun j => iprop(∃ f, held c (rslot 1 j) f ∗ zero c (isem 1 j)))
      ∗ four (fun j => iprop(∃ O, held c (oslot j) O)) ∗ iprop(∃ X, held c (xslot 0) X) ∗ iprop(∃ X, held c (xslot 1) X)
      ∗ iprop(∃ A, held c amM A) ∗ iprop(∃ Ac, held c accM Ac)
      ∗ four (fun j => zero c (dsem j)) ∗ four (fun j => zero c (osem j)) ∗ zero c (xsem 0) ∗ zero c (xsem 1)
      ∗ iprop(∃ W, owes (c : Thread nD τ) 0 W))

attribute [local irreducible] Inv

set_option maxHeartbeats 32000000 in
set_option sl_exec.lendShare "HD0,HD1,HD2,HD3" in
theorem bodyRun (XD : BufOf (F := F) c dyM) (XW : BufOf (F := F) c wM)
    (g2 : BufOf (F := F) c arg2) (g3 : BufOf (F := F) c arg3) (g6 : BufOf (F := F) c arg6) (g8 : BufOf (F := F) c arg8) (g9 : BufOf (F := F) c arg9) (g10 : BufOf (F := F) c arg10)
    (Gy : S256x18432.Idx → F .fp8e4m3) (D : S4x256x4608.Idx → F .fp8e4m3) (I : S8x256x4608.Idx → F .bf16) (A : S16x512.Idx → F .bf16) (W : Waits sig Unit)
    (O : S4x256x4608.Idx → F .fp8e4m3) (X : S2x256x256.Idx → F .bf16) (Ac : S256x256.Idx → F .f32) (G : S7168x18432.Idx → F .fp8e4m3) (x' : S256x7168.Idx → F .bf16) :
    bodyPre c arg2 arg3 arg6 arg8 arg9 arg10 XD XW g2 g3 g6 g8 g9 g10 Gy D I A W O X Ac G x'
      ⊢ wp frame (wpE (defs₀ (F := F)) 𝒱₀ (c : Thread nD τ) none) Set.univ (bodyG arg2 harg2 arg3 harg3 arg6 harg6 arg8 harg8 arg9 harg9 arg10 harg10)
        (fun _ => bodyPost c arg2 arg3 arg6 arg8 arg9 arg10 XD XW g2 g3) := by
  iintro ⟨H2, H3, H6, H8, H9, H10, ⟨HY0, HY1, HY2, HY3⟩, ⟨HW0, HW1, HW2, HW3⟩, ⟨HV0, HV1, HV2, HV3⟩, ⟨HYc0, HYc1, HYc2, HYc3⟩, ⟨HD0, HD1, HD2, HD3⟩, ⟨HI0, HI1, HI2, HI3⟩, ⟨HJ0, HJ1, HJ2, HJ3⟩, ⟨HS0, HS1, HS2, HS3⟩, ⟨HT0, HT1, HT2, HT3⟩, ⟨HU0, HU1, HU2, HU3⟩, HA, HW, ⟨HO0, HO1, HO2, HO3⟩, ⟨HP0, HP1, HP2, HP3⟩, HX0, HX1, HXz0, HXz1, HAc, Hh, HC, Hx⟩
  sl_exec
  have hv0 : bodyRun.sl.v163 c XD = ysub XD 0 := congrFun (yr_eq c XD) 0
  have hv1 : bodyRun.sl.v211 c XD = ysub XD 1 := congrFun (yr_eq c XD) 1
  have hv2 : bodyRun.sl.v259 c XD = ysub XD 2 := congrFun (yr_eq c XD) 2
  have hv3 : bodyRun.sl.v307 c XD = ysub XD 3 := congrFun (yr_eq c XD) 3
  have hv4 : bodyRun.sl.v355 c XD = ysub XD 4 := congrFun (yr_eq c XD) 4
  have hv5 : bodyRun.sl.v403 c XD = ysub XD 5 := congrFun (yr_eq c XD) 5
  have hv6 : bodyRun.sl.v451 c XD = ysub XD 6 := congrFun (yr_eq c XD) 6
  have hv7 : bodyRun.sl.v499 c XD = ysub XD 7 := congrFun (yr_eq c XD) 7
  have hv8 : bodyRun.sl.v547 c XD = ysub XD 8 := congrFun (yr_eq c XD) 8
  have hv9 : bodyRun.sl.v614 c XD = ysub XD 9 := congrFun (yr_eq c XD) 9
  have hv10 : bodyRun.sl.v662 c XD = ysub XD 10 := congrFun (yr_eq c XD) 10
  have hv11 : bodyRun.sl.v710 c XD = ysub XD 11 := congrFun (yr_eq c XD) 11
  have hv12 : bodyRun.sl.v758 c XD = ysub XD 12 := congrFun (yr_eq c XD) 12
  have hv13 : bodyRun.sl.v806 c XD = ysub XD 13 := congrFun (yr_eq c XD) 13
  have hv14 : bodyRun.sl.v854 c XD = ysub XD 14 := congrFun (yr_eq c XD) 14
  have hv15 : bodyRun.sl.v902 c XD = ysub XD 15 := congrFun (yr_eq c XD) 15
  have hv16 : bodyRun.sl.v950 c XD = ysub XD 16 := congrFun (yr_eq c XD) 16
  have hv17 : bodyRun.sl.v998 c XD = ysub XD 17 := congrFun (yr_eq c XD) 17
  have hv18 : bodyRun.sl.v1065 c XD = ysub XD 18 := congrFun (yr_eq c XD) 18
  have hv19 : bodyRun.sl.v1113 c XD = ysub XD 19 := congrFun (yr_eq c XD) 19
  have hv20 : bodyRun.sl.v1161 c XD = ysub XD 20 := congrFun (yr_eq c XD) 20
  have hv21 : bodyRun.sl.v1209 c XD = ysub XD 21 := congrFun (yr_eq c XD) 21
  have hv22 : bodyRun.sl.v1257 c XD = ysub XD 22 := congrFun (yr_eq c XD) 22
  have hv23 : bodyRun.sl.v1305 c XD = ysub XD 23 := congrFun (yr_eq c XD) 23
  have hv24 : bodyRun.sl.v1353 c XD = ysub XD 24 := congrFun (yr_eq c XD) 24
  have hv25 : bodyRun.sl.v1401 c XD = ysub XD 25 := congrFun (yr_eq c XD) 25
  have hv26 : bodyRun.sl.v1449 c XD = ysub XD 26 := congrFun (yr_eq c XD) 26
  have hv27 : bodyRun.sl.v1516 c XD = ysub XD 27 := congrFun (yr_eq c XD) 27
  have hv28 : bodyRun.sl.v1564 c XD = ysub XD 28 := congrFun (yr_eq c XD) 28
  have hv29 : bodyRun.sl.v1612 c XD = ysub XD 29 := congrFun (yr_eq c XD) 29
  have hv30 : bodyRun.sl.v1660 c XD = ysub XD 30 := congrFun (yr_eq c XD) 30
  have hv31 : bodyRun.sl.v1708 c XD = ysub XD 31 := congrFun (yr_eq c XD) 31
  have hv32 : bodyRun.sl.v1756 c XD = ysub XD 32 := congrFun (yr_eq c XD) 32
  have hv33 : bodyRun.sl.v1804 c XD = ysub XD 33 := congrFun (yr_eq c XD) 33
  have hv34 : bodyRun.sl.v1852 c XD = ysub XD 34 := congrFun (yr_eq c XD) 34
  have hv35 : bodyRun.sl.v1900 c XD = ysub XD 35 := congrFun (yr_eq c XD) 35
  have hO0 : bodyRun.sl.HD0_w9 c arg2 XD g2 D = nestD 0 (bodyRun.sl.r_3 c arg2 g2) (ysub XD) D := by
    dsimp only [bodyRun.sl.HD0_w1, bodyRun.sl.HD0_w2, bodyRun.sl.HD0_w3, bodyRun.sl.HD0_w4, bodyRun.sl.HD0_w5, bodyRun.sl.HD0_w6, bodyRun.sl.HD0_w7, bodyRun.sl.HD0_w8, bodyRun.sl.HD0_w9, bodyRun.sl.HD1_w10, bodyRun.sl.HD1_w11, bodyRun.sl.HD1_w12, bodyRun.sl.HD1_w13, bodyRun.sl.HD1_w14, bodyRun.sl.HD1_w15, bodyRun.sl.HD1_w16, bodyRun.sl.HD1_w17, bodyRun.sl.HD1_w18, bodyRun.sl.HD2_w19, bodyRun.sl.HD2_w20, bodyRun.sl.HD2_w21, bodyRun.sl.HD2_w22, bodyRun.sl.HD2_w23, bodyRun.sl.HD2_w24, bodyRun.sl.HD2_w25, bodyRun.sl.HD2_w26, bodyRun.sl.HD2_w27, bodyRun.sl.HD3_w28, bodyRun.sl.HD3_w29, bodyRun.sl.HD3_w30, bodyRun.sl.HD3_w31, bodyRun.sl.HD3_w32, bodyRun.sl.HD3_w33, bodyRun.sl.HD3_w34, bodyRun.sl.HD3_w35, bodyRun.sl.HD3_w36, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hO1 : bodyRun.sl.HD1_w18 c arg2 XD g2 D = nestD 1 (bodyRun.sl.r_3 c arg2 g2) (ysub XD) D := by
    dsimp only [bodyRun.sl.HD0_w1, bodyRun.sl.HD0_w2, bodyRun.sl.HD0_w3, bodyRun.sl.HD0_w4, bodyRun.sl.HD0_w5, bodyRun.sl.HD0_w6, bodyRun.sl.HD0_w7, bodyRun.sl.HD0_w8, bodyRun.sl.HD0_w9, bodyRun.sl.HD1_w10, bodyRun.sl.HD1_w11, bodyRun.sl.HD1_w12, bodyRun.sl.HD1_w13, bodyRun.sl.HD1_w14, bodyRun.sl.HD1_w15, bodyRun.sl.HD1_w16, bodyRun.sl.HD1_w17, bodyRun.sl.HD1_w18, bodyRun.sl.HD2_w19, bodyRun.sl.HD2_w20, bodyRun.sl.HD2_w21, bodyRun.sl.HD2_w22, bodyRun.sl.HD2_w23, bodyRun.sl.HD2_w24, bodyRun.sl.HD2_w25, bodyRun.sl.HD2_w26, bodyRun.sl.HD2_w27, bodyRun.sl.HD3_w28, bodyRun.sl.HD3_w29, bodyRun.sl.HD3_w30, bodyRun.sl.HD3_w31, bodyRun.sl.HD3_w32, bodyRun.sl.HD3_w33, bodyRun.sl.HD3_w34, bodyRun.sl.HD3_w35, bodyRun.sl.HD3_w36, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hO2 : bodyRun.sl.HD2_w27 c arg2 XD g2 D = nestD 2 (bodyRun.sl.r_3 c arg2 g2) (ysub XD) D := by
    dsimp only [bodyRun.sl.HD0_w1, bodyRun.sl.HD0_w2, bodyRun.sl.HD0_w3, bodyRun.sl.HD0_w4, bodyRun.sl.HD0_w5, bodyRun.sl.HD0_w6, bodyRun.sl.HD0_w7, bodyRun.sl.HD0_w8, bodyRun.sl.HD0_w9, bodyRun.sl.HD1_w10, bodyRun.sl.HD1_w11, bodyRun.sl.HD1_w12, bodyRun.sl.HD1_w13, bodyRun.sl.HD1_w14, bodyRun.sl.HD1_w15, bodyRun.sl.HD1_w16, bodyRun.sl.HD1_w17, bodyRun.sl.HD1_w18, bodyRun.sl.HD2_w19, bodyRun.sl.HD2_w20, bodyRun.sl.HD2_w21, bodyRun.sl.HD2_w22, bodyRun.sl.HD2_w23, bodyRun.sl.HD2_w24, bodyRun.sl.HD2_w25, bodyRun.sl.HD2_w26, bodyRun.sl.HD2_w27, bodyRun.sl.HD3_w28, bodyRun.sl.HD3_w29, bodyRun.sl.HD3_w30, bodyRun.sl.HD3_w31, bodyRun.sl.HD3_w32, bodyRun.sl.HD3_w33, bodyRun.sl.HD3_w34, bodyRun.sl.HD3_w35, bodyRun.sl.HD3_w36, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hO3 : bodyRun.sl.HD3_w36 c arg2 XD g2 D = nestD 3 (bodyRun.sl.r_3 c arg2 g2) (ysub XD) D := by
    dsimp only [bodyRun.sl.HD0_w1, bodyRun.sl.HD0_w2, bodyRun.sl.HD0_w3, bodyRun.sl.HD0_w4, bodyRun.sl.HD0_w5, bodyRun.sl.HD0_w6, bodyRun.sl.HD0_w7, bodyRun.sl.HD0_w8, bodyRun.sl.HD0_w9, bodyRun.sl.HD1_w10, bodyRun.sl.HD1_w11, bodyRun.sl.HD1_w12, bodyRun.sl.HD1_w13, bodyRun.sl.HD1_w14, bodyRun.sl.HD1_w15, bodyRun.sl.HD1_w16, bodyRun.sl.HD1_w17, bodyRun.sl.HD1_w18, bodyRun.sl.HD2_w19, bodyRun.sl.HD2_w20, bodyRun.sl.HD2_w21, bodyRun.sl.HD2_w22, bodyRun.sl.HD2_w23, bodyRun.sl.HD2_w24, bodyRun.sl.HD2_w25, bodyRun.sl.HD2_w26, bodyRun.sl.HD2_w27, bodyRun.sl.HD3_w28, bodyRun.sl.HD3_w29, bodyRun.sl.HD3_w30, bodyRun.sl.HD3_w31, bodyRun.sl.HD3_w32, bodyRun.sl.HD3_w33, bodyRun.sl.HD3_w34, bodyRun.sl.HD3_w35, bodyRun.sl.HD3_w36, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hA1 : (bodyRun.sl.HA_1 (F := F)) = ⟨amR, shapeCast S16x512 zeroA shapeCasts_S16x512_S16x512⟩ :: [] := rfl
  have hA2 : bodyRun.sl.HA_2 c XD = ⟨amR, shapeCast S16x512 (amF (ysub XD) 0 (bodyRun.sl.v162) 9) shapeCasts_S16x512_S16x512⟩ :: bodyRun.sl.HA_1 (F := F) := by
    dsimp only [bodyRun.sl.HA_2, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hA3 : bodyRun.sl.HA_3 c XD = ⟨amR, shapeCast S16x512 (amF (ysub XD) 9 (bodyRun.sl.v613 c XD) 9) shapeCasts_S16x512_S16x512⟩ :: bodyRun.sl.HA_2 c XD := by
    dsimp only [bodyRun.sl.HA_3, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hA4 : bodyRun.sl.HA_4 c XD = ⟨amR, shapeCast S16x512 (amF (ysub XD) 18 (bodyRun.sl.v1064 c XD) 9) shapeCasts_S16x512_S16x512⟩ :: bodyRun.sl.HA_3 c XD := by
    dsimp only [bodyRun.sl.HA_4, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hA5 : bodyRun.sl.HA_5 c XD = ⟨amR, shapeCast S16x512 (amF (ysub XD) 27 (bodyRun.sl.v1515 c XD) 9) shapeCasts_S16x512_S16x512⟩ :: bodyRun.sl.HA_4 c XD := by
    dsimp only [bodyRun.sl.HA_5, bodyRun.sl.cst_140, bodyRun.sl.r, bodyRun.sl.r_1, bodyRun.sl.r_2, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.v5, bodyRun.sl.v6, bodyRun.sl.v7, bodyRun.sl.v10, bodyRun.sl.v11, bodyRun.sl.v12, bodyRun.sl.v15, bodyRun.sl.v16, bodyRun.sl.v17, bodyRun.sl.v20, bodyRun.sl.v21, bodyRun.sl.v22, bodyRun.sl.v25, bodyRun.sl.v26, bodyRun.sl.v27, bodyRun.sl.v30, bodyRun.sl.v31, bodyRun.sl.v32, bodyRun.sl.v35, bodyRun.sl.v36, bodyRun.sl.v37, bodyRun.sl.v40, bodyRun.sl.v41, bodyRun.sl.v42, bodyRun.sl.v43, bodyRun.sl.v44, bodyRun.sl.v60, bodyRun.sl.v61, bodyRun.sl.v62, bodyRun.sl.v65, bodyRun.sl.v66, bodyRun.sl.v67, bodyRun.sl.v70, bodyRun.sl.v71, bodyRun.sl.v72, bodyRun.sl.v75, bodyRun.sl.v76, bodyRun.sl.v77, bodyRun.sl.v80, bodyRun.sl.v81, bodyRun.sl.v82, bodyRun.sl.v85, bodyRun.sl.v86]
    simp only [hv0, hv1, hv2, hv3, hv4, hv5, hv6, hv7, hv8, hv9, hv10, hv11, hv12, hv13, hv14, hv15, hv16, hv17, hv18, hv19, hv20, hv21, hv22, hv23, hv24, hv25, hv26, hv27, hv28, hv29, hv30, hv31, hv32, hv33, hv34, hv35]
    dsimp only [k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414]
    rfl
  have hTop : bodyRun.sl.v1961 c XD = amN (ysub XD) zeroA 36 := amY_of XD hA1 hA2 hA3 hA4 hA5
  have hAz : (k0_pay414 (F := F)) = shapeCast S16x512 zeroA shapeCasts_S16x512_S16x512 := rfl
  ihave HU0' := (flyY_of c XD (bodyRun.sl.r_3 c arg2 g2) 0 (p := bodyRun.sl.dma38_1 c arg2 XD g2 D) hO0 rfl) $$ [HU0]
  · iexact HU0
  ihave HD0' := (of_eq' (dslot_of c fullShare.left 0 (bodyRun.sl.r_3 c arg2 g2) XD D hO0)) $$ [HD0]
  · iexact HD0
  ihave HS0' := (flyW_of c XW 0 0 1 (p := bodyRun.sl.dma38 c XW) rfl) $$ [HS0]
  · iexact HS0
  ihave HU1' := (flyY_of c XD (bodyRun.sl.r_3 c arg2 g2) 1 (p := bodyRun.sl.dma68_1 c arg2 XD g2 D) hO1 rfl) $$ [HU1]
  · iexact HU1
  ihave HD1' := (of_eq' (dslot_of c fullShare.left 1 (bodyRun.sl.r_3 c arg2 g2) XD D hO1)) $$ [HD1]
  · iexact HD1
  ihave HS1' := (flyW_of c XW 0 1 1 (p := bodyRun.sl.dma68 c XW) rfl) $$ [HS1]
  · iexact HS1
  ihave HU2' := (flyY_of c XD (bodyRun.sl.r_3 c arg2 g2) 2 (p := bodyRun.sl.dma98_1 c arg2 XD g2 D) hO2 rfl) $$ [HU2]
  · iexact HU2
  ihave HD2' := (of_eq' (dslot_of c fullShare.left 2 (bodyRun.sl.r_3 c arg2 g2) XD D hO2)) $$ [HD2]
  · iexact HD2
  ihave HS2' := (flyW_of c XW 0 2 1 (p := bodyRun.sl.dma98 c XW) rfl) $$ [HS2]
  · iexact HS2
  ihave HU3' := (flyY_of c XD (bodyRun.sl.r_3 c arg2 g2) 3 (p := bodyRun.sl.dma128_1 c arg2 XD g2 D) hO3 rfl) $$ [HU3]
  · iexact HU3
  ihave HD3' := (of_eq' (dslot_of c fullShare.left 3 (bodyRun.sl.r_3 c arg2 g2) XD D hO3)) $$ [HD3]
  · iexact HD3
  ihave HS3' := (flyW_of c XW 0 3 1 (p := bodyRun.sl.dma128 c XW) rfl) $$ [HS3]
  · iexact HS3
  ihave HA' := (am_zero (F := F) c hAz) $$ [HA]
  · iexact HA
  ihave HI := (inv_zero c (bodyRun.sl.r_7 c arg3 g3) (bodyRun.sl.r_8 c arg2 arg3 g2 g3) XW (YCf (bodyRun.sl.r_3 c arg2 g2) XD) zeroA G x' Ac _) $$ [HD0' HD1' HD2' HD3' HA' HAc HT0 HT1 HT2 HT3 HS0' HS1' HS2' HS3' Hh HO0 HO1 HO2 HO3 HP0 HP1 HP2 HP3 HC HX0 HX1 HXz0 HXz1 Hx HW]
  · isplitl [HD0' HD1' HD2' HD3' HA' HAc]
    · isplitl [HD0']; · iexact HD0'
      isplitl [HD1']; · iexact HD1'
      isplitl [HD2']; · iexact HD2'
      isplitl [HD3']; · iexact HD3'
      isplitl [HA']; · iexact HA'
      iexact HAc
    isplitl [HT0 HT1 HT2 HT3]
    · isplitl [HT0]; · iexists I; iexact HT0
      isplitl [HT1]; · iexists I; iexact HT1
      isplitl [HT2]; · iexists I; iexact HT2
      iexists I; iexact HT3
    isplitl [HS0' HS1' HS2' HS3']
    · isplitl [HS0']; · iexact HS0'
      isplitl [HS1']; · iexact HS1'
      isplitl [HS2']; · iexact HS2'
      iexact HS3'
    isplitl [Hh]; · iexact Hh
    isplitl [HO0 HO1 HO2 HO3 HP0 HP1 HP2 HP3]
    · isplitl [HO0 HP0]
      · iexists O
        isplitl [HO0]; · iexact HO0
        iexact HP0
      isplitl [HO1 HP1]
      · iexists O
        isplitl [HO1]; · iexact HO1
        iexact HP1
      isplitl [HO2 HP2]
      · iexists O
        isplitl [HO2]; · iexact HO2
        iexact HP2
      iexists O
      isplitl [HO3]; · iexact HO3
      iexact HP3
    isplitl [HC]; · iexact HC
    isplitl [HX1 HXz1]
    · iexists X
      isplitl [HX1]; · iexact HX1
      iexact HXz1
    isplitl [HX0 HXz0]
    · iexists X
      isplitl [HX0]; · iexact HX0
      iexact HXz0
    isplitl [Hx]; · iexact Hx
    iexact HW
  let L := loopI c arg2 harg2 arg3 harg3 arg6 harg6 arg8 harg8 arg9 harg9 arg10 harg10 (bodyRun.sl.r_7 c arg3 g3) (bodyRun.sl.r_8 c arg2 arg3 g2 g3) 1#32 XW (YCf (bodyRun.sl.r_3 c arg2 g2) XD) zeroA G x'
  sl_exec
  clear L
  rw [show Scf.trips k0_t1_loop.lb k0_t1_loop.ub k0_t1_loop.st = 28 from trips_eq]
  ihave HE := (inv_end c (bodyRun.sl.r_7 c arg3 g3) (bodyRun.sl.r_8 c arg2 arg3 g2 g3) XW (YCf (bodyRun.sl.r_3 c arg2 g2) XD) zeroA G x') $$ HI
  icases HE with ⟨⟨%Ac', HD0, HD1, HD2, HD3, HA, HAc⟩, HT, HS, Hh, ⟨⟨%O0, HO0⟩, ⟨%O1, HO1⟩, ⟨%O2, HO2⟩, ⟨%O3, HO3⟩⟩, HC, ⟨%X1, HX1⟩, ⟨%X0, HX0⟩, Hx, ⟨%W', HW⟩⟩
  sl_exec
  have y6 : bodyRun.sl.v6 c arg2 g2 = pY0 (cell c arg2 g2) := rfl
  have y11 : bodyRun.sl.v11 c arg2 g2 = pY1 (cell c arg2 g2) := by
    dsimp only [bodyRun.sl.v11, bodyRun.sl.v7]; rw [y6]; rfl
  have y16 : bodyRun.sl.v16 c arg2 g2 = pY2 (cell c arg2 g2) := by
    dsimp only [bodyRun.sl.v16, bodyRun.sl.v12]; rw [y11]; rfl
  have y21 : bodyRun.sl.v21 c arg2 g2 = pY3 (cell c arg2 g2) := by
    dsimp only [bodyRun.sl.v21, bodyRun.sl.v17]; rw [y16]; rfl
  have y26 : bodyRun.sl.v26 c arg2 g2 = pY4 (cell c arg2 g2) := by
    dsimp only [bodyRun.sl.v26, bodyRun.sl.v22]; rw [y21]; rfl
  have y31 : bodyRun.sl.v31 c arg2 g2 = pY5 (cell c arg2 g2) := by
    dsimp only [bodyRun.sl.v31, bodyRun.sl.v27]; rw [y26]; rfl
  have y36 : bodyRun.sl.v36 c arg2 g2 = pY6 (cell c arg2 g2) := by
    dsimp only [bodyRun.sl.v36, bodyRun.sl.v32]; rw [y31]; rfl
  have y41 : bodyRun.sl.v41 c arg2 g2 = pY7 (cell c arg2 g2) := by
    dsimp only [bodyRun.sl.v41, bodyRun.sl.v37]; rw [y36]; rfl
  have y43 : bodyRun.sl.v43 c arg2 g2 = eY (cell c arg2 g2) := by
    dsimp only [bodyRun.sl.v43, bodyRun.sl.v42]; rw [y41]; rfl
  have y61 : bodyRun.sl.v61 c arg3 g3 = pW0 (cell c arg3 g3) := rfl
  have y66 : bodyRun.sl.v66 c arg3 g3 = pW1 (cell c arg3 g3) := by
    dsimp only [bodyRun.sl.v66, bodyRun.sl.v62]; rw [y61]; rfl
  have y71 : bodyRun.sl.v71 c arg3 g3 = pW2 (cell c arg3 g3) := by
    dsimp only [bodyRun.sl.v71, bodyRun.sl.v67]; rw [y66]; rfl
  have y76 : bodyRun.sl.v76 c arg3 g3 = pW3 (cell c arg3 g3) := by
    dsimp only [bodyRun.sl.v76, bodyRun.sl.v72]; rw [y71]; rfl
  have y81 : bodyRun.sl.v81 c arg3 g3 = pW4 (cell c arg3 g3) := by
    dsimp only [bodyRun.sl.v81, bodyRun.sl.v77]; rw [y76]; rfl
  have y86 : bodyRun.sl.v86 c arg3 g3 = pW5 (cell c arg3 g3) := by
    dsimp only [bodyRun.sl.v86, bodyRun.sl.v82]; rw [y81]; rfl
  have e3 : bodyRun.sl.r_3 c arg2 g2 = invY (cell c arg2 g2) := by
    dsimp only [bodyRun.sl.r_3, bodyRun.sl.v44, invY]; rw [y43]
  have e7 : bodyRun.sl.r_7 c arg3 g3 = invW (cell c arg3 g3) := by
    dsimp only [bodyRun.sl.r_7, bodyRun.sl.r_4, invW]; rw [y86]; rfl
  have e8 : bodyRun.sl.r_8 c arg2 arg3 g2 g3 = scaleX (cell c arg2 g2) (cell c arg3 g3) := by
    dsimp only [bodyRun.sl.r_8, bodyRun.sl.r_4, bodyRun.sl.r_2, bodyRun.sl.v44, scaleX, scaleY]; rw [y86, y43]; rfl
  have e6 : (fun _ : S1.Idx => bodyRun.sl.r_2 c arg2 g2) = fun _ => scaleY (cell c arg2 g2) := by
    dsimp only [bodyRun.sl.r_2, bodyRun.sl.v44, scaleY]; rw [y43]
  have e6b : (fun _ : S1.Idx => k0_pay258 (bodyRun.sl.r_4 c arg3 g3) (bodyRun.sl.v86 c arg3 g3) 16777216#32) = fun _ => scaleW (cell c arg3 g3) := by
    dsimp only [bodyRun.sl.r_4, scaleW]; rw [y86]; rfl
  have e9 : (fun _ : S1.Idx => k0_pay413 (bodyRun.sl.v1961 c XD)) = fun _ => top (amN (ysub XD) zeroA 36) := by
    rw [hTop]; rfl
  have e10 : (fun _ : S1.Idx => k0_pay415 (View.readAt (Elt F) amM.view amR.toLoadRect (amW XW zeroA 28))) = fun _ => top (amW XW zeroA 28) := by
    rw [am_read]; rfl
  rw [wp_ret]
  imodintro
  rw [e3, e7, e8]
  isplitl [H2]; · iexact H2
  isplitl [H3]; · iexact H3
  isplitl [H6]
  · iapply (rdback_of c arg6 e6); iexact H6
  isplitl [H8]
  · iapply (rdback_of c arg8 e6b); iexact H8
  isplitl [H9]
  · iapply (rdback_of c arg9 e9); iexact H9
  isplitl [H10]
  · iapply (rdback_of c arg10 e10); iexact H10
  isplitl [HY0 HY1 HY2 HY3]
  · isplitl [HY0]; · iexact HY0
    isplitl [HY1]; · iexact HY1
    isplitl [HY2]; · iexact HY2
    iexact HY3
  isplitl [Hh]; · iexact Hh
  isplitl [HU0'_dst HU1'_dst HU2'_dst HU3'_dst]
  · isplitl [HU0'_dst]; · iexact HU0'_dst
    isplitl [HU1'_dst]; · iexact HU1'_dst
    isplitl [HU2'_dst]; · iexact HU2'_dst
    iexact HU3'_dst
  isplitl [HC HO0_dst HO1_dst HO2_dst HO3_dst]
  · rw [done1, bigSep_ins done1_not]
    isplitl [HO0_dst HO1_dst HO2_dst HO3_dst]
    · isplitl [HO0_dst]; · iexact HO0_dst
      isplitl [HO1_dst]; · iexact HO1_dst
      isplitl [HO2_dst]; · iexact HO2_dst
      iexact HO3_dst
    iexact HC
  isplitl [Hx HX1_dst HX0_dst]
  · rw [done2, bigSep_ins done2_not, bigSep_ins done2_not']
    isplitl [HX0_dst]; · iexact HX0_dst
    isplitl [HX1_dst]; · iexact HX1_dst
    iexact Hx
  isplitl [HD0 HD1 HD2 HD3]
  · isplitl [HD0]; · iexists _; iexact HD0
    isplitl [HD1]; · iexists _; iexact HD1
    isplitl [HD2]; · iexists _; iexact HD2
    iexists _; iexact HD3
  isplitl [HS]; · iexact HS
  isplitl [HT]; · iexact HT
  isplitl [HO0_src HO1_src HO2_src HO3_src]
  · isplitl [HO0_src]; · iexists O0; iexact HO0_src
    isplitl [HO1_src]; · iexists O1; iexact HO1_src
    isplitl [HO2_src]; · iexists O2; iexact HO2_src
    iexists O3; iexact HO3_src
  isplitl [HX0_src]; · iexists X0; iexact HX0_src
  isplitl [HX1_src]; · iexists X1; iexact HX1_src
  isplitl [HA]; · iexists _; iexact HA
  isplitl [HAc]; · iexists Ac'; iexact HAc
  isplitl [HU0' HU1' HU2' HU3']
  · isplitl [HU0']; · iexact HU0'
    isplitl [HU1']; · iexact HU1'
    isplitl [HU2']; · iexact HU2'
    iexact HU3'
  isplitl [HO0 HO1 HO2 HO3]
  · isplitl [HO0]; · iexact HO0
    isplitl [HO1]; · iexact HO1
    isplitl [HO2]; · iexact HO2
    iexact HO3
  isplitl [HX0]; · iexact HX0
  isplitl [HX1]; · iexact HX1
  iexists _; iexact HW

end

end Cert.Proof.KI

end
-- ==== Proof.KI.Split.lean ====
module

public import proofs.«01_k».proof.Proof.KI.Dy

/-! A buffer held whole, and held in the pieces the kernel slices. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

section Sets
/-! ## The pieces of a buffer -/

theorem mem_blk (b : Fin 28) (j : Fin 4) (y : S7168x18432.Idx) :
    y ∈ (Rect.unit (s := S7168x18432) (offW b j) S256x4608.size (offW_inb b j)).set ↔ (y 0).val / 256 = b.val ∧ (y 1).val / 4608 = j.val := by
  rw [Rect.mem_set_unit]
  constructor
  · intro H
    have a0 : 256 * b.val ≤ (y 0).val ∧ (y 0).val < 256 * b.val + 256 := H 0
    have a1 : 4608 * j.val ≤ (y 1).val ∧ (y 1).val < 4608 * j.val + 4608 := H 1
    omega
  · rintro ⟨h0, h1⟩ i
    fin_cases i
    · show 256 * b.val ≤ (y 0).val ∧ (y 0).val < 256 * b.val + 256; omega
    · show 4608 * j.val ≤ (y 1).val ∧ (y 1).val < 4608 * j.val + 4608; omega
theorem mem_dblk (j : Fin 4) (y : S256x18432.Idx) :
    y ∈ (Rect.unit (s := S256x18432) (offD j) S256x4608.size (offD_inb j)).set ↔ (y 1).val / 4608 = j.val := by
  rw [Rect.mem_set_unit]
  have h0 : (y 0).val < 256 := (y 0).isLt
  constructor
  · intro H
    have a1 : 4608 * j.val ≤ (y 1).val ∧ (y 1).val < 4608 * j.val + 4608 := H 1
    omega
  · intro h1 i
    fin_cases i
    · show 0 ≤ (y 0).val ∧ (y 0).val < 0 + 256; omega
    · show 4608 * j.val ≤ (y 1).val ∧ (y 1).val < 4608 * j.val + 4608; omega
theorem mem_xblk (b : Fin 28) (y : S256x7168.Idx) :
    y ∈ (Rect.unit (s := S256x7168) (offX b) S256x256.size (offX_inb b)).set ↔ (y 1).val / 256 = b.val := by
  rw [Rect.mem_set_unit]
  have h0 : (y 0).val < 256 := (y 0).isLt
  constructor
  · intro H
    have a1 : 256 * b.val ≤ (y 1).val ∧ (y 1).val < 256 * b.val + 256 := H 1
    omega
  · intro h1 i
    fin_cases i
    · show 0 ≤ (y 0).val ∧ (y 0).val < 0 + 256; omega
    · show 256 * b.val ≤ (y 1).val ∧ (y 1).val < 256 * b.val + 256; omega
theorem mem_slot8 (s : Fin 2) (j : Fin 4) (y : S8x256x4608.Idx) :
    y ∈ (Rect.unit (s := S8x256x4608) (off8 s j) S1x256x4608.size (off8_inb s j)).set ↔ (y 0).val = 4 * s.val + j.val := by
  rw [Rect.mem_set_unit]
  have h1 : (y 1).val < 256 := (y 1).isLt
  have h2 : (y 2).val < 4608 := (y 2).isLt
  constructor
  · intro H; have a0 : 4 * s.val + j.val ≤ (y 0).val ∧ (y 0).val < 4 * s.val + j.val + 1 := H 0; omega
  · intro H i; fin_cases i
    · show 4 * s.val + j.val ≤ (y 0).val ∧ (y 0).val < 4 * s.val + j.val + 1; omega
    · show 0 ≤ (y 1).val ∧ (y 1).val < 0 + 256; omega
    · show 0 ≤ (y 2).val ∧ (y 2).val < 0 + 4608; omega
theorem mem_slot4 (j : Fin 4) (y : S4x256x4608.Idx) :
    y ∈ (Rect.unit (s := S4x256x4608) (off4 j) S1x256x4608.size (off4_inb j)).set ↔ (y 0).val = j.val := by
  rw [Rect.mem_set_unit]
  have h1 : (y 1).val < 256 := (y 1).isLt
  have h2 : (y 2).val < 4608 := (y 2).isLt
  constructor
  · intro H; have a0 : j.val ≤ (y 0).val ∧ (y 0).val < j.val + 1 := H 0; omega
  · intro H i; fin_cases i
    · show j.val ≤ (y 0).val ∧ (y 0).val < j.val + 1; omega
    · show 0 ≤ (y 1).val ∧ (y 1).val < 0 + 256; omega
    · show 0 ≤ (y 2).val ∧ (y 2).val < 0 + 4608; omega
theorem mem_slot2 (j : Fin 2) (y : S2x256x256.Idx) :
    y ∈ (Rect.unit (s := S2x256x256) (off2 j) S1x256x256.size (off2_inb j)).set ↔ (y 0).val = j.val := by
  rw [Rect.mem_set_unit]
  have h1 : (y 1).val < 256 := (y 1).isLt
  have h2 : (y 2).val < 256 := (y 2).isLt
  constructor
  · intro H; have a0 : j.val ≤ (y 0).val ∧ (y 0).val < j.val + 1 := H 0; omega
  · intro H i; fin_cases i
    · show j.val ≤ (y 0).val ∧ (y 0).val < j.val + 1; omega
    · show 0 ≤ (y 1).val ∧ (y 1).val < 0 + 256; omega
    · show 0 ≤ (y 2).val ∧ (y 2).val < 0 + 256; omega

/-- The elements whose key is `b`. -/
abbrev fib {I B : Type} [Fintype I] [DecidableEq B] (key : I → B) (b : B) : Finset I := Finset.univ.filter fun y => key y = b
theorem fib_disj {I B : Type} [Fintype I] [DecidableEq I] [DecidableEq B] (key : I → B) : ∀ b b', b ≠ b' → Disjoint (fib key b) (fib key b') := by
  intro b b' hne; rw [Finset.disjoint_left]; intro y hy hy'
  simp only [fib, Finset.mem_filter, Finset.mem_univ, true_and] at hy hy'
  exact hne (hy.symm.trans hy')
theorem fib_cover {I B : Type} [Fintype I] [DecidableEq I] [Fintype B] [DecidableEq B] (key : I → B) : (Finset.univ : Finset B).biUnion (fib key) = Finset.univ := by
  ext y; simp only [fib, Finset.mem_biUnion, Finset.mem_filter, Finset.mem_univ, true_and, iff_true]; exact ⟨_, rfl⟩

abbrev keyW0 (y : S7168x18432.Idx) : Fin 28 := ⟨(y 0).val / 256, by have h : (y 0).val < 7168 := (y 0).isLt; omega⟩
abbrev keyW1 (y : S7168x18432.Idx) : Fin 4 := ⟨(y 1).val / 4608, by have h : (y 1).val < 18432 := (y 1).isLt; omega⟩
abbrev setW (b : Fin 28) (j : Fin 4) : Finset S7168x18432.Idx := Finset.univ.filter fun y => keyW0 y = b ∧ keyW1 y = j
abbrev keyD (y : S256x18432.Idx) : Fin 4 := ⟨(y 1).val / 4608, by have h : (y 1).val < 18432 := (y 1).isLt; omega⟩
abbrev keyX (y : S256x7168.Idx) : Fin 28 := ⟨(y 1).val / 256, by have h : (y 1).val < 7168 := (y 1).isLt; omega⟩
abbrev key8 (y : S8x256x4608.Idx) : Fin 8 := y 0
abbrev key4 (y : S4x256x4608.Idx) : Fin 4 := y 0
abbrev key2 (y : S2x256x256.Idx) : Fin 2 := y 0

theorem setW_disj (b : Fin 28) : ∀ j j', j ≠ j' → Disjoint (setW b j) (setW b j') := by
  intro j j' hne; rw [Finset.disjoint_left]; intro y hy hy'
  simp only [setW, Finset.mem_filter, Finset.mem_univ, true_and] at hy hy'
  exact hne (hy.2.symm.trans hy'.2)
theorem setW_cover (b : Fin 28) : (Finset.univ : Finset (Fin 4)).biUnion (setW b) = fib keyW0 b := by
  ext y; simp only [fib, setW, Finset.mem_biUnion, Finset.mem_filter, Finset.mem_univ, true_and]
  exact ⟨fun ⟨j, h, _⟩ => h, fun h => ⟨_, h, rfl⟩⟩

theorem wblk_set (b : Fin 28) (j : Fin 4) : (wblk b j).view.set = setW b j := by
  refine (View.set_slice_whole _ _).trans ?_
  ext y; refine (mem_blk b j y).trans ?_
  simp only [setW, Finset.mem_filter, Finset.mem_univ, true_and, Fin.ext_iff]
theorem wcblk_set (b : Fin 28) (j : Fin 4) : (wcblk b j).view.set = setW b j := by
  refine (View.set_slice_whole _ _).trans ?_
  ext y; refine (mem_blk b j y).trans ?_
  simp only [setW, Finset.mem_filter, Finset.mem_univ, true_and, Fin.ext_iff]
theorem dyblk_set (j : Fin 4) : (dyblk j).view.set = fib keyD j := by
  refine (View.set_slice_whole _ _).trans ?_
  ext y; refine (mem_dblk j y).trans ?_
  simp only [fib, Finset.mem_filter, Finset.mem_univ, true_and, Fin.ext_iff]
theorem dycblk_set (j : Fin 4) : (dycblk j).view.set = fib keyD j := by
  refine (View.set_slice_whole _ _).trans ?_
  ext y; refine (mem_dblk j y).trans ?_
  simp only [fib, Finset.mem_filter, Finset.mem_univ, true_and, Fin.ext_iff]
theorem dxblk_set (b : Fin 28) : (dxblk b).view.set = fib keyX b := by
  refine (View.set_slice_whole _ _).trans ?_
  ext y; refine (mem_xblk b y).trans ?_
  simp only [fib, Finset.mem_filter, Finset.mem_univ, true_and, Fin.ext_iff]
theorem rslot_set (s : Fin 2) (j : Fin 4) (b : Fin 8) (hb : b.val = 4 * s.val + j.val) : (rslot s j).view.set = fib key8 b := by
  refine ((View.set_reshape _ _).trans (View.set_slice_whole _ _)).trans ?_
  ext y; refine (mem_slot8 s j y).trans ?_
  simp only [fib, Finset.mem_filter, Finset.mem_univ, true_and, Fin.ext_iff, hb]
theorem dslot_set (j : Fin 4) : (dslot j).view.set = fib key4 j := by
  refine ((View.set_reshape _ _).trans (View.set_slice_whole _ _)).trans ?_
  ext y; refine (mem_slot4 j y).trans ?_
  simp only [fib, Finset.mem_filter, Finset.mem_univ, true_and, Fin.ext_iff]
theorem oslot_set (j : Fin 4) : (oslot j).view.set = fib key4 j := by
  refine ((View.set_reshape _ _).trans (View.set_slice_whole _ _)).trans ?_
  ext y; refine (mem_slot4 j y).trans ?_
  simp only [fib, Finset.mem_filter, Finset.mem_univ, true_and, Fin.ext_iff]
theorem xslot_set (j : Fin 2) : (xslot j).view.set = fib key2 j := by
  refine ((View.set_reshape _ _).trans (View.set_slice_whole _ _)).trans ?_
  ext y; refine (mem_slot2 j y).trans ?_
  simp only [fib, Finset.mem_filter, Finset.mem_univ, true_and, Fin.ext_iff]
end Sets

section Splits
variable (c : Dev nD)

omit [FloatOps F] in
theorem bigSep_f2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_f4 (Φ : Fin 4 → sProp 𝕄) : bigSep Finset.univ Φ = four Φ :=
  bigSep_univ_eq_bigSepL [(0 : Fin 4), (1 : Fin 4), (2 : Fin 4), (3 : Fin 4)] (by decide) (by decide) Φ
omit [FloatOps F] in
theorem bigSep_f8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ

/-- A buffer of device `c` held whole. -/
abbrev all (b : Ref sig .tc) (f : Buf (Elt F) ((c : Thread nD τ).loc b)) : sProp 𝕄 := ((c : Thread nD τ).loc b) ↦{fullShare} f

omit [FloatOps F] in
theorem dy_eq (f : BufOf (F := F) c dyM) : all c main_v0 f = four (fun j => held c (dyblk j) f) := by
  rw [all, Ring.pointsTo_blocks (ℓ := (c : Thread nD τ).loc main_v0) (fib keyD) (fib_disj keyD) (fib_cover keyD), ← bigSep_f4]
  exact bigSep_congr fun j _ => by rw [← dyblk_set]; rfl
omit [FloatOps F] in
theorem dyc_eq (f : BufOf (F := F) c dycM) : all c main_v1_1 f = four (fun j => held c (dycblk j) f) := by
  rw [all, Ring.pointsTo_blocks (ℓ := (c : Thread nD τ).loc main_v1_1) (fib keyD) (fib_disj keyD) (fib_cover keyD), ← bigSep_f4]
  exact bigSep_congr fun j _ => by rw [← dycblk_set]; rfl
omit [FloatOps F] in
theorem dx_eq (f : BufOf (F := F) c dxM) : all c main_v1_0 f = bigSep Finset.univ (fun b => held c (dxblk b) f) := by
  rw [all, Ring.pointsTo_blocks (ℓ := (c : Thread nD τ).loc main_v1_0) (fib keyX) (fib_disj keyX) (fib_cover keyX)]
  exact bigSep_congr fun j _ => by rw [← dxblk_set]; rfl
omit [FloatOps F] in
theorem w_eq (f : BufOf (F := F) c wM) : all c main_arg1 f = bigSep Finset.univ (fun b => four (fun j => homeW c f b j)) := by
  rw [all, Ring.pointsTo_blocks (ℓ := (c : Thread nD τ).loc main_arg1) (fib keyW0) (fib_disj keyW0) (fib_cover keyW0)]
  refine bigSep_congr fun b _ => ?_
  rw [Ring.pointsTo_sub_blocks (ℓ := (c : Thread nD τ).loc main_arg1) (setW b) (setW_disj b) (fib keyW0 b) (setW_cover b), ← bigSep_f4]
  exact bigSep_congr fun j _ => by rw [← wblk_set]; rfl
omit [FloatOps F] in
theorem wc_eq (f : BufOf (F := F) c wcM) : all c main_v1_3 f = bigSep Finset.univ (fun b => four (fun j => held c (wcblk b j) f)) := by
  rw [all, Ring.pointsTo_blocks (ℓ := (c : Thread nD τ).loc main_v1_3) (fib keyW0) (fib_disj keyW0) (fib_cover keyW0)]
  refine bigSep_congr fun b _ => ?_
  rw [Ring.pointsTo_sub_blocks (ℓ := (c : Thread nD τ).loc main_v1_3) (setW b) (setW_disj b) (fib keyW0 b) (setW_cover b), ← bigSep_f4]
  exact bigSep_congr fun j _ => by rw [← wcblk_set]; rfl
omit [FloatOps F] in
theorem rslotP (s : Fin 2) (j : Fin 4) (b : Fin 8) (hb : b.val = 4 * s.val + j.val) (f : BufOf (F := F) c inM) :
    held c (rslot s j) f = (((c : Thread nD τ).loc cc0_scratch0) ↦[fib key8 b]{fullShare} f : sProp 𝕄) :=
  congrArg (fun S => (_ ↦[S]{fullShare} f : sProp 𝕄)) (rslot_set s j b hb)
omit [FloatOps F] in
theorem dslotP (j : Fin 4) (f : BufOf (F := F) c dybM) :
    held c (dslot j) f = (((c : Thread nD τ).loc cc0_scratch1) ↦[fib key4 j]{fullShare} f : sProp 𝕄) :=
  congrArg (fun S => (_ ↦[S]{fullShare} f : sProp 𝕄)) (dslot_set j)
omit [FloatOps F] in
theorem oslotP (j : Fin 4) (f : BufOf (F := F) c outM) :
    held c (oslot j) f = (((c : Thread nD τ).loc cc0_scratch2) ↦[fib key4 j]{fullShare} f : sProp 𝕄) :=
  congrArg (fun S => (_ ↦[S]{fullShare} f : sProp 𝕄)) (oslot_set j)
omit [FloatOps F] in
theorem xslotP (j : Fin 2) (f : BufOf (F := F) c xbM) :
    held c (xslot j) f = (((c : Thread nD τ).loc cc0_scratch4) ↦[fib key2 j]{fullShare} f : sProp 𝕄) :=
  congrArg (fun S => (_ ↦[S]{fullShare} f : sProp 𝕄)) (xslot_set j)
theorem in_split (f : BufOf (F := F) c inM) : all c cc0_scratch0 f ⊢ iprop(held c (rslot 0 0) f ∗ held c (rslot 0 1) f ∗ held c (rslot 0 2) f ∗ held c (rslot 0 3) f ∗ held c (rslot 1 0) f ∗ held c (rslot 1 1) f ∗ held c (rslot 1 2) f ∗ held c (rslot 1 3) f) := by
  iintro H
  ihave H2 := (of_eq' ((Ring.pointsTo_blocks (Ix := Unit) (Name := ℕ) (U := UU nD τ) (Lvl := ℕ) (q := fullShare) (ℓ := (c : Thread nD τ).loc cc0_scratch0) (fib key8) (fib_disj key8) (fib_cover key8) f).trans (bigSep_f8 _))) $$ H
  icases H2 with ⟨H0, H1, H2, H3, H4, H5, H6, H7⟩
  isplitl [H0]
  · iapply (of_eq' (rslotP c 0 0 0 rfl f).symm); iexact H0
  isplitl [H1]
  · iapply (of_eq' (rslotP c 0 1 1 rfl f).symm); iexact H1
  isplitl [H2]
  · iapply (of_eq' (rslotP c 0 2 2 rfl f).symm); iexact H2
  isplitl [H3]
  · iapply (of_eq' (rslotP c 0 3 3 rfl f).symm); iexact H3
  isplitl [H4]
  · iapply (of_eq' (rslotP c 1 0 4 rfl f).symm); iexact H4
  isplitl [H5]
  · iapply (of_eq' (rslotP c 1 1 5 rfl f).symm); iexact H5
  isplitl [H6]
  · iapply (of_eq' (rslotP c 1 2 6 rfl f).symm); iexact H6
  iapply (of_eq' (rslotP c 1 3 7 rfl f).symm); iexact H7
omit [FloatOps F] in
theorem dyb_eq (f : BufOf (F := F) c dybM) : all c cc0_scratch1 f = four (fun j => held c (dslot j) f) := by
  rw [all, Ring.pointsTo_blocks (ℓ := (c : Thread nD τ).loc cc0_scratch1) (fib key4) (fib_disj key4) (fib_cover key4), ← bigSep_f4]
  exact bigSep_congr fun j _ => by rw [← dslot_set]; rfl
omit [FloatOps F] in
theorem out_eq (f : BufOf (F := F) c outM) : all c cc0_scratch2 f = four (fun j => held c (oslot j) f) := by
  rw [all, Ring.pointsTo_blocks (ℓ := (c : Thread nD τ).loc cc0_scratch2) (fib key4) (fib_disj key4) (fib_cover key4), ← bigSep_f4]
  exact bigSep_congr fun j _ => by rw [← oslot_set]; rfl
theorem xb_split (f : BufOf (F := F) c xbM) : all c cc0_scratch4 f ⊢ iprop(held c (xslot 0) f ∗ held c (xslot 1) f) := by
  iintro H
  ihave H2 := (of_eq' ((Ring.pointsTo_blocks (Ix := Unit) (Name := ℕ) (U := UU nD τ) (Lvl := ℕ) (q := fullShare) (ℓ := (c : Thread nD τ).loc cc0_scratch4) (fib key2) (fib_disj key2) (fib_cover key2) f).trans (bigSep_f2 _))) $$ H
  icases H2 with ⟨H0, H1⟩
  isplitl [H0]
  · iapply (of_eq' (xslotP c 0 f).symm); iexact H0
  iapply (of_eq' (xslotP c 1 f).symm); iexact H1
omit [FloatOps F] in
theorem acc_eq (f : BufOf (F := F) c accM) : all c cc0_scratch3 f = held c accM f := by
  unfold all held; rw [show accM.view.set = Finset.univ from View.set_whole _]
omit [FloatOps F] in
theorem am_eq (f : BufOf (F := F) c amM) : all c cc0_scratch5 f = held c amM f := by
  unfold all held; rw [show amM.view.set = Finset.univ from View.set_whole _]

theorem in_join : iprop((∃ f, held c (rslot 0 0) f) ∗ (∃ f, held c (rslot 0 1) f) ∗ (∃ f, held c (rslot 0 2) f) ∗ (∃ f, held c (rslot 0 3) f) ∗ (∃ f, held c (rslot 1 0) f) ∗ (∃ f, held c (rslot 1 1) f) ∗ (∃ f, held c (rslot 1 2) f) ∗ (∃ f, held c (rslot 1 3) f)) ⊢ (iprop(∃ f, all c cc0_scratch0 f) : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iapply (Ring.pointsTo_blocks_join_exists (ℓ := (c : Thread nD τ).loc cc0_scratch0) (fib key8) (fib_disj key8) (fib_cover key8) f0)
  irw [bigSep_f8]
  isplitl [H0]
  · iexists f0; iapply (of_eq' (rslotP c 0 0 0 rfl f0)); iexact H0
  isplitl [H1]
  · iexists f1; iapply (of_eq' (rslotP c 0 1 1 rfl f1)); iexact H1
  isplitl [H2]
  · iexists f2; iapply (of_eq' (rslotP c 0 2 2 rfl f2)); iexact H2
  isplitl [H3]
  · iexists f3; iapply (of_eq' (rslotP c 0 3 3 rfl f3)); iexact H3
  isplitl [H4]
  · iexists f4; iapply (of_eq' (rslotP c 1 0 4 rfl f4)); iexact H4
  isplitl [H5]
  · iexists f5; iapply (of_eq' (rslotP c 1 1 5 rfl f5)); iexact H5
  isplitl [H6]
  · iexists f6; iapply (of_eq' (rslotP c 1 2 6 rfl f6)); iexact H6
  iexists f7; iapply (of_eq' (rslotP c 1 3 7 rfl f7)); iexact H7
theorem dyb_join : four (fun j => iprop(∃ f, held c (dslot j) f)) ⊢ (iprop(∃ f, all c cc0_scratch1 f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) (fib key4) (fib_disj key4) (fib_cover key4) f0)
  irw [bigSep_f4]
  isplitl [H0]
  · iexists f0; iapply (of_eq' (dslotP c 0 f0)); iexact H0
  isplitl [H1]
  · iexists f1; iapply (of_eq' (dslotP c 1 f1)); iexact H1
  isplitl [H2]
  · iexists f2; iapply (of_eq' (dslotP c 2 f2)); iexact H2
  iexists f3; iapply (of_eq' (dslotP c 3 f3)); iexact H3
theorem out_join : four (fun j => iprop(∃ f, held c (oslot j) f)) ⊢ (iprop(∃ f, all c cc0_scratch2 f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch2) (fib key4) (fib_disj key4) (fib_cover key4) f0)
  irw [bigSep_f4]
  isplitl [H0]
  · iexists f0; iapply (of_eq' (oslotP c 0 f0)); iexact H0
  isplitl [H1]
  · iexists f1; iapply (of_eq' (oslotP c 1 f1)); iexact H1
  isplitl [H2]
  · iexists f2; iapply (of_eq' (oslotP c 2 f2)); iexact H2
  iexists f3; iapply (of_eq' (oslotP c 3 f3)); iexact H3
theorem xb_join : iprop((∃ f, held c (xslot 0) f) ∗ (∃ f, held c (xslot 1) f)) ⊢ (iprop(∃ f, all c cc0_scratch4 f) : sProp 𝕄) := by
  iintro ⟨⟨%f0, H0⟩, ⟨%f1, H1⟩⟩
  iapply (Ring.pointsTo_blocks_join_exists (ℓ := (c : Thread nD τ).loc cc0_scratch4) (fib key2) (fib_disj key2) (fib_cover key2) f0)
  irw [bigSep_f2]
  isplitl [H0]
  · iexists f0; iapply (of_eq' (xslotP c 0 f0)); iexact H0
  iexists f1; iapply (of_eq' (xslotP c 1 f1)); iexact H1

/-- The kernel's own semaphores, in the order of their numbers. -/
abbrev ksem : Fin 18 → SemLoc sig := ![.dma (isem 0 0).sem, .dma (isem 0 1).sem, .dma (isem 0 2).sem, .dma (isem 0 3).sem, .dma (isem 1 0).sem, .dma (isem 1 1).sem, .dma (isem 1 2).sem, .dma (isem 1 3).sem,
  .dma (dsem 0).sem, .dma (dsem 1).sem, .dma (dsem 2).sem, .dma (dsem 3).sem, .dma (osem 0).sem, .dma (osem 1).sem, .dma (osem 2).sem, .dma (osem 3).sem, .dma (xsem 0).sem, .dma (xsem 1).sem]
theorem ownSemFacts : Pipeline.OwnSemFacts spec0 ksem := by decide

omit [FloatOps F] in
theorem ownSems0_eq : (Pipeline.ownSems0 (Ix := Unit) (Name := ℕ) (U := UU nD τ) (Lvl := ℕ) (Val := Elt F) (τ := τ) ksem c : sProp 𝕄)
    = iprop(zero c (isem 0 0) ∗ zero c (isem 0 1) ∗ zero c (isem 0 2) ∗ zero c (isem 0 3) ∗ zero c (isem 1 0) ∗ zero c (isem 1 1) ∗ zero c (isem 1 2) ∗ zero c (isem 1 3)
      ∗ zero c (dsem 0) ∗ zero c (dsem 1) ∗ zero c (dsem 2) ∗ zero c (dsem 3) ∗ zero c (osem 0) ∗ zero c (osem 1) ∗ zero c (osem 2) ∗ zero c (osem 3) ∗ zero c (xsem 0) ∗ zero c (xsem 1)) := by
  unfold Pipeline.ownSems0
  rw [bigSep_univ_eq_bigSepL [(0 : Fin 18), 1, 2, 3, 4, 5, 6, 7, 8, 9, 10, 11, 12, 13, 14, 15, 16, 17] (by decide) (by decide)]
  rfl

theorem univ_home : (Finset.univ : Finset (Fin 28)) = insert 0 (insert 1 (homeS 0)) := by decide
theorem home0 : (0 : Fin 28) ∉ insert 1 (homeS 0) := by decide
theorem home1 : (1 : Fin 28) ∉ homeS 0 := by decide
theorem fresh_univ : freshS 0 = Finset.univ := by decide
end Splits

end Cert.Proof.KI

end
-- ==== Proof.KI.Whole.lean ====
module

public import proofs.«01_k».proof.Proof.KI.Body
public import proofs.«01_k».proof.Proof.KI.Split

/-! The kernel on whole buffers. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

open Idealize.ShloMosaic.Pipeline (Dat Cfg Window BodyObligation cellOf)

section Whole
variable (c : Dev nD)

/-- The kernel's buffers of its own, at anything. -/
abbrev scr : sProp 𝕄 := iprop((∃ f, all c cc0_scratch0 f) ∗ (∃ f, all c cc0_scratch1 f) ∗ (∃ f, all c cc0_scratch2 f) ∗ (∃ f, all c cc0_scratch3 f) ∗ (∃ f, all c cc0_scratch4 f) ∗ (∃ f, all c cc0_scratch5 f))
/-- Its own semaphores, at zero. -/
abbrev sems : sProp 𝕄 := Pipeline.ownSems0 (Ix := Unit) (Name := ℕ) (U := UU nD τ) (Lvl := ℕ) (Val := Elt F) (τ := τ) ksem c
/-- The arrays the pipeline does not stage. -/
abbrev arrs (XD : BufOf (F := F) c dyM) (XW : BufOf (F := F) c wM) (x : BufOf (F := F) c dxM) (y : BufOf (F := F) c dycM) (w : BufOf (F := F) c wcM) : sProp 𝕄 :=
  iprop(all c main_v0 XD ∗ all c main_arg1 XW ∗ all c main_v1_0 x ∗ all c main_v1_1 y ∗ all c main_v1_3 w)

variable
  (arg2 : Memref sig .tc .smem S1 .f32) (harg2 : arg2.IsWhole) (arg3 : Memref sig .tc .smem S1 .f32) (harg3 : arg3.IsWhole)
  (arg6 : Memref sig .tc .smem S1 .f32) (harg6 : arg6.IsWhole) (arg8 : Memref sig .tc .smem S1 .f32) (harg8 : arg8.IsWhole)
  (arg9 : Memref sig .tc .smem S1 .f32) (harg9 : arg9.IsWhole) (arg10 : Memref sig .tc .smem S1 .f32) (harg10 : arg10.IsWhole)

set_option maxHeartbeats 4000000 in
theorem pre_of (XD : BufOf (F := F) c dyM) (XW : BufOf (F := F) c wM)
    (g2 : BufOf (F := F) c arg2) (g3 : BufOf (F := F) c arg3) (g6 : BufOf (F := F) c arg6) (g8 : BufOf (F := F) c arg8) (g9 : BufOf (F := F) c arg9) (g10 : BufOf (F := F) c arg10)
    (x : BufOf (F := F) c dxM) (y : BufOf (F := F) c dycM) (w : BufOf (F := F) c wcM) (W : Waits sig Unit)
    (f0 : BufOf (F := F) c inM) (f1 : BufOf (F := F) c dybM) (f2 : BufOf (F := F) c outM) (f3 : BufOf (F := F) c accM) (f4 : BufOf (F := F) c xbM) (f5 : BufOf (F := F) c amM) :
    iprop(held c arg2 g2 ∗ held c arg3 g3 ∗ held c arg6 g6 ∗ held c arg8 g8 ∗ held c arg9 g9 ∗ held c arg10 g10 ∗ arrs c XD XW x y w
      ∗ (all c cc0_scratch0 f0 ∗ all c cc0_scratch1 f1 ∗ all c cc0_scratch2 f2 ∗ all c cc0_scratch3 f3 ∗ all c cc0_scratch4 f4 ∗ all c cc0_scratch5 f5)
      ∗ sems c ∗ owes (c : Thread nD τ) 0 W)
    ⊢ bodyPre c arg2 arg3 arg6 arg8 arg9 arg10 XD XW g2 g3 g6 g8 g9 g10 y f1 f0 f5 W f2 f4 f3 w x := by
  rw [sems, ownSems0_eq, arrs, dy_eq, w_eq, dx_eq, dyc_eq, wc_eq, dyb_eq, out_eq, acc_eq, am_eq, univ_home, bigSep_ins home0, bigSep_ins home1, ← univ_home]
  iintro ⟨H2, H3, H6, H8, H9, H10, ⟨HD, ⟨HW0, HW1, HW⟩, HX, HY, HC⟩, ⟨S0, S1, S2, S3, S4, S5⟩, ⟨I0, I1, I2, I3, J0, J1, J2, J3, D0, D1, D2, D3, O0, O1, O2, O3, X0, X1⟩, Ho⟩
  ihave S0' := (in_split c f0) $$ S0
  icases S0' with ⟨A0, A1, A2, A3, B0, B1, B2, B3⟩
  ihave S4' := (xb_split c f4) $$ S4
  icases S4' with ⟨E0, E1⟩
  rw [bodyPre, fresh_univ]
  isplitl [H2]; · iexact H2
  isplitl [H3]; · iexact H3
  isplitl [H6]; · iexact H6
  isplitl [H8]; · iexact H8
  isplitl [H9]; · iexact H9
  isplitl [H10]; · iexact H10
  isplitl [HD]; · iexact HD
  isplitl [HW0]; · iexact HW0
  isplitl [HW1]; · iexact HW1
  isplitl [HY]; · iexact HY
  isplitl [S1]; · iexact S1
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [I0 I1 I2 I3]
  · isplitl [I0]; · iexact I0
    isplitl [I1]; · iexact I1
    isplitl [I2]; · iexact I2
    iexact I3
  isplitl [J0 J1 J2 J3]
  · isplitl [J0]; · iexact J0
    isplitl [J1]; · iexact J1
    isplitl [J2]; · iexact J2
    iexact J3
  isplitl [D0 D1 D2 D3]
  · isplitl [D0]; · iexact D0
    isplitl [D1]; · iexact D1
    isplitl [D2]; · iexact D2
    iexact D3
  isplitl [S5]; · iexact S5
  isplitl [Ho]; · iexact Ho
  isplitl [S2]; · iexact S2
  isplitl [O0 O1 O2 O3]
  · isplitl [O0]; · iexact O0
    isplitl [O1]; · iexact O1
    isplitl [O2]; · iexact O2
    iexact O3
  isplitl [E0]; · iexact E0
  isplitl [E1]; · iexact E1
  isplitl [X0]; · iexact X0
  isplitl [X1]; · iexact X1
  isplitl [S3]; · iexact S3
  isplitl [HW]; · iexact HW
  isplitl [HC]; · iexact HC
  iexact HX

/-- What the kernel leaves, its buffers whole again. -/
abbrev postWhole (XD : BufOf (F := F) c dyM) (XW : BufOf (F := F) c wM)
    (g2 : BufOf (F := F) c arg2) (g3 : BufOf (F := F) c arg3) : sProp 𝕄 :=
  iprop(held c arg2 g2 ∗ held c arg3 g3
      ∗ rdback c arg6 (fun _ => scaleY (cell c arg2 g2)) ∗ rdback c arg8 (fun _ => scaleW (cell c arg3 g3))
      ∗ rdback c arg9 (fun _ => top (amN (ysub XD) zeroA 36)) ∗ rdback c arg10 (fun _ => top (amW XW zeroA 28))
      ∗ arrs c XD XW (DXf (invW (cell c arg3 g3)) (scaleX (cell c arg2 g2) (cell c arg3 g3)) (YCf (invY (cell c arg2 g2)) XD) XW) (YCf (invY (cell c arg2 g2)) XD) (WCf (invW (cell c arg3 g3)) XW)
      ∗ scr c ∗ sems c ∗ iprop(∃ W, owes (c : Thread nD τ) 0 W))

set_option maxHeartbeats 4000000 in
theorem of_post (XD : BufOf (F := F) c dyM) (XW : BufOf (F := F) c wM) (g2 : BufOf (F := F) c arg2) (g3 : BufOf (F := F) c arg3) :
    bodyPost c arg2 arg3 arg6 arg8 arg9 arg10 XD XW g2 g3 ⊢ postWhole c arg2 arg3 arg6 arg8 arg9 arg10 XD XW g2 g3 := by
  rw [postWhole, sems, ownSems0_eq, arrs, dy_eq, w_eq, dx_eq, dyc_eq, wc_eq]
  iintro ⟨H2, H3, H6, H8, H9, H10, HD, HW, HY, HC, HX, S1, ⟨⟨%a0, A0, I0⟩, ⟨%a1, A1, I1⟩, ⟨%a2, A2, I2⟩, ⟨%a3, A3, I3⟩⟩, ⟨⟨%b0, B0, J0⟩, ⟨%b1, B1, J1⟩, ⟨%b2, B2, J2⟩, ⟨%b3, B3, J3⟩⟩, S2, E0, E1, ⟨%f5, S5⟩, ⟨%f3, S3⟩, ⟨D0, D1, D2, D3⟩, ⟨O0, O1, O2, O3⟩, X0, X1, Ho⟩
  ihave S1' := (dyb_join c) $$ S1
  ihave S2' := (out_join c) $$ S2
  ihave S4' := (xb_join c) $$ [E0 E1]
  · isplitl [E0]; · iexact E0
    iexact E1
  ihave S0' := (in_join c) $$ [A0 A1 A2 A3 B0 B1 B2 B3]
  · isplitl [A0]; · iexists a0; iexact A0
    isplitl [A1]; · iexists a1; iexact A1
    isplitl [A2]; · iexists a2; iexact A2
    isplitl [A3]; · iexists a3; iexact A3
    isplitl [B0]; · iexists b0; iexact B0
    isplitl [B1]; · iexists b1; iexact B1
    isplitl [B2]; · iexists b2; iexact B2
    iexists b3; iexact B3
  ihave S5' := (of_eq' (am_eq c f5).symm) $$ S5
  ihave S3' := (of_eq' (acc_eq c f3).symm) $$ S3
  isplitl [H2]; · iexact H2
  isplitl [H3]; · iexact H3
  isplitl [H6]; · iexact H6
  isplitl [H8]; · iexact H8
  isplitl [H9]; · iexact H9
  isplitl [H10]; · iexact H10
  isplitl [HD HW HX HY HC]
  · isplitl [HD]; · iexact HD
    isplitl [HW]; · iexact HW
    isplitl [HX]; · iexact HX
    isplitl [HY]; · iexact HY
    iexact HC
  isplitl [S0' S1' S2' S3' S4' S5']
  · isplitl [S0']; · iexact S0'
    isplitl [S1']; · iexact S1'
    isplitl [S2']; · iexact S2'
    isplitl [S3']; · iexists f3; iexact S3'
    isplitl [S4']; · iexact S4'
    iexists f5; iexact S5'
  isplitr [Ho]
  · isplitl [I0]; · iexact I0
    isplitl [I1]; · iexact I1
    isplitl [I2]; · iexact I2
    isplitl [I3]; · iexact I3
    isplitl [J0]; · iexact J0
    isplitl [J1]; · iexact J1
    isplitl [J2]; · iexact J2
    isplitl [J3]; · iexact J3
    isplitl [D0]; · iexact D0
    isplitl [D1]; · iexact D1
    isplitl [D2]; · iexact D2
    isplitl [D3]; · iexact D3
    isplitl [O0]; · iexact O0
    isplitl [O1]; · iexact O1
    isplitl [O2]; · iexact O2
    isplitl [O3]; · iexact O3
    isplitl [X0]; · iexact X0
    iexact X1
  iexact Ho

set_option maxHeartbeats 4000000 in
/-- The kernel on whole buffers. -/
theorem bodyWhole (XD : BufOf (F := F) c dyM) (XW : BufOf (F := F) c wM)
    (g2 : BufOf (F := F) c arg2) (g3 : BufOf (F := F) c arg3) (g6 : BufOf (F := F) c arg6) (g8 : BufOf (F := F) c arg8) (g9 : BufOf (F := F) c arg9) (g10 : BufOf (F := F) c arg10)
    (x : BufOf (F := F) c dxM) (y : BufOf (F := F) c dycM) (w : BufOf (F := F) c wcM) (W : Waits sig Unit) (Q : PUnit → sProp 𝕄) :
    iprop((held c arg2 g2 ∗ held c arg3 g3 ∗ held c arg6 g6 ∗ held c arg8 g8 ∗ held c arg9 g9 ∗ held c arg10 g10 ∗ arrs c XD XW x y w ∗ scr c ∗ sems c ∗ owes (c : Thread nD τ) 0 W)
      ∗ (postWhole c arg2 arg3 arg6 arg8 arg9 arg10 XD XW g2 g3 -∗ Q ⟨⟩))
    ⊢ wp frame (wpE (defs₀ (F := F)) 𝒱₀ (c : Thread nD τ) none) Set.univ (bodyG arg2 harg2 arg3 harg3 arg6 harg6 arg8 harg8 arg9 harg9 arg10 harg10) Q := by
  iintro ⟨⟨H2, H3, H6, H8, H9, H10, HA, ⟨⟨%f0, S0⟩, ⟨%f1, S1⟩, ⟨%f2, S2⟩, ⟨%f3, S3⟩, ⟨%f4, S4⟩, ⟨%f5, S5⟩⟩, HS, Ho⟩, Hk⟩
  iapply (wp_wand_r Idealize.ShloMosaic.frame (wpE (defs₀ (F := F)) 𝒱₀ (c : Thread nD τ) none) Set.univ (Q := fun _ => bodyPost c arg2 arg3 arg6 arg8 arg9 arg10 XD XW g2 g3))
  isplitr [Hk]
  · iapply (bodyRun c arg2 harg2 arg3 harg3 arg6 harg6 arg8 harg8 arg9 harg9 arg10 harg10 XD XW g2 g3 g6 g8 g9 g10 y f1 f0 f5 W f2 f4 f3 w x)
    iapply (pre_of c arg2 arg3 arg6 arg8 arg9 arg10 XD XW g2 g3 g6 g8 g9 g10 x y w W f0 f1 f2 f3 f4 f5)
    isplitl [H2]; · iexact H2
    isplitl [H3]; · iexact H3
    isplitl [H6]; · iexact H6
    isplitl [H8]; · iexact H8
    isplitl [H9]; · iexact H9
    isplitl [H10]; · iexact H10
    isplitl [HA]; · iexact HA
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [HS]; · iexact HS
    iexact Ho
  · iintro %u HP
    iapply Hk
    iapply (of_post c arg2 arg3 arg6 arg8 arg9 arg10 XD XW g2 g3)
    iexact HP
end Whole

end Cert.Proof.KI

end
-- ==== Proof.KI.Launch.lean ====
module

public import proofs.«01_k».proof.Proof.KI.Whole
public import proofs.«01_k».proof.Proof.Gen.KernelIdeal.Frame

/-! The launch: from the kernel on its buffers to the program. -/

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

open Idealize.ShloMosaic.Pipeline (Dat Cfg Window BodyObligation cellOf)

section Launch
variable (m : (ℓ : Loc nD τ sig) → Buf (Elt F) ℓ) (ρ : Dev nD → PrngReg)

abbrev VV (c : Dev nD) (b : Ref sig .tc) : Buf (Elt F) ((c : Thread nD τ).loc b) := StableHlo.after hostOps0 (fun b => m (c, b)) b
abbrev XD (c : Dev nD) : BufOf (F := F) c dyM := VV m c main_v0
abbrev XW (c : Dev nD) : BufOf (F := F) c wM := VV m c main_arg1

/-- Window `w`'s block at point `t`, read off its array at launch. -/
def iblkK (c : Dev nD) (w : Fin cfg0.W) (t : Fin cfg0.N) : ((cfg0.win w).xblock (cfg0.grid.coords t)).Idx → Elt F (cfg0.win w).elt :=
  ((cfg0.win w).blk t).view.read (Elt F) (VV m c (Pipeline.arrRef spec0 w))
/-- The two largest magnitudes the scales are taken from. -/
def a2 (c : Dev nD) (t : Fin cfg0.N) : F .f32 := cell c (st0_0 t) ((st0_0 t).view.rep (iblkK m c 0 t))
def a3 (c : Dev nD) (t : Fin cfg0.N) : F .f32 := cell c (st0_1 t) ((st0_1 t).view.rep (iblkK m c 1 t))

/-- The three large results. -/
def resY (c : Dev nD) : BufOf (F := F) c dycM := YCf (invY (a2 m c t0_0)) (XD m c)
def resW (c : Dev nD) : BufOf (F := F) c wcM := WCf (invW (a3 m c t0_0)) (XW m c)
def resX (c : Dev nD) : BufOf (F := F) c dxM := DXf (invW (a3 m c t0_0)) (scaleX (a2 m c t0_0) (a3 m c t0_0)) (resY m c) (XW m c)

def Φ0 (c : Dev nD) : sProp 𝕄 :=
  iprop(arrs c (XD m c) (XW m c) (VV m c main_v1_0) (VV m c main_v1_1) (VV m c main_v1_3) ∗ scr c ∗ sems c)
def Φ1 (c : Dev nD) : sProp 𝕄 :=
  iprop(arrs c (XD m c) (XW m c) (resX m c) (resY m c) (resW m c) ∗ scr c ∗ sems c)

def dats (_ : Fin 1) (c : Dev nD) : Dat τ (Elt F) Unit ℕ (UU nD τ) ℕ cfg0 c where
  A w := VV m c (Pipeline.arrRef spec0 w)
  after w t := match w with
    | ⟨0, _⟩ => iblkK m c 0 t
    | ⟨1, _⟩ => iblkK m c 1 t
    | ⟨2, _⟩ => fun _ => scaleY (a2 m c t)
    | ⟨3, _⟩ => fun _ => scaleW (a3 m c t)
    | ⟨4, _⟩ => fun _ => top (amN (ysub (XD m c)) zeroA 36)
    | ⟨5, _⟩ => fun _ => top (amW (XW m c) zeroA 28)
  Φ t := if t.val = 0 then Φ0 m c else Φ1 m c
  q _ := fullShare
  owed _ := 0

theorem before_w0 (c : Dev nD) (t : Fin cfg0.N) (d) : (dats m 0 c).before 0 t d = iblkK m c 0 t := by
  unfold Dat.before; rw [if_pos (fetch0_0 t)]; unfold Dat.fetched Dat.blockOf iblkK; dsimp only [dats]; rfl
theorem before_w1 (c : Dev nD) (t : Fin cfg0.N) (d) : (dats m 0 c).before 1 t d = iblkK m c 1 t := by
  unfold Dat.before; rw [if_pos (fetch0_1 t)]; unfold Dat.fetched Dat.blockOf iblkK; dsimp only [dats]; rfl
theorem after_w0 (c : Dev nD) (t : Fin cfg0.N) : (dats m 0 c).after 0 t = iblkK m c 0 t := by dsimp only [dats]
theorem after_w1 (c : Dev nD) (t : Fin cfg0.N) : (dats m 0 c).after 1 t = iblkK m c 1 t := by dsimp only [dats]
theorem after_w2 (c : Dev nD) (t : Fin cfg0.N) : (dats m 0 c).after 2 t = fun _ => scaleY (a2 m c t) := by dsimp only [dats]
theorem after_w3 (c : Dev nD) (t : Fin cfg0.N) : (dats m 0 c).after 3 t = fun _ => scaleW (a3 m c t) := by dsimp only [dats]
theorem after_w4 (c : Dev nD) (t : Fin cfg0.N) : (dats m 0 c).after 4 t = fun _ => top (amN (ysub (XD m c)) zeroA 36) := by dsimp only [dats]
theorem after_w5 (c : Dev nD) (t : Fin cfg0.N) : (dats m 0 c).after 5 t = fun _ => top (amW (XW m c) zeroA 28) := by dsimp only [dats]
theorem Φ_cast (c : Dev nD) (t : Fin cfg0.N) : (dats m 0 c).Φ t.castSucc = Φ0 m c := by
  have h : t.castSucc.val = 0 := by rw [fin_N0 t]; rfl
  dsimp only [dats]; exact if_pos h
theorem Φ_succ (c : Dev nD) (t : Fin cfg0.N) : (dats m 0 c).Φ t.succ = Φ1 m c := by
  have h : t.succ.val ≠ 0 := by rw [Fin.val_succ]; exact Nat.succ_ne_zero _
  dsimp only [dats]; exact if_neg h
theorem Φ_zero (c : Dev nD) : (dats m 0 c).Φ 0 = Φ0 m c := by
  dsimp only [dats]; exact if_pos rfl
theorem Φ_last (c : Dev nD) : (dats m 0 c).Φ (Fin.last cfg0.N) = Φ1 m c := by
  have h : (Fin.last cfg0.N).val ≠ 0 := by rw [Fin.val_last]; exact (show grid0.N ≠ 0 by rw [N_0]; decide)
  dsimp only [dats]; exact if_neg h

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) (st0_4 t) (hstage0_4 0) (st0_5 t) (hstage0_5 0) :=
  (congrFun defs_tc _).trans rfl

set_option maxHeartbeats 4000000 in
set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1, after_w2, after_w3, after_w4, after_w5]
  rw [Φ_cast, Φ_succ]
  unfold Dat.owesAt Pipeline.owesWithin
  rw [show (dats m 0 c).owed t.castSucc = 0 from rfl, show (dats m 0 c).owed t.succ = 0 from rfl]
  obtain rfl := fin_N0 t
  unfold owns Φ0 Φ1
  iintro ⟨⟨HA, HS, HZ⟩, ⟨%W, -, HW⟩, ⟨%d0, %g0, %hg0, H0⟩, ⟨%d1, %g1, %hg1, H1⟩, ⟨%d2, %g2, -, H2⟩, ⟨%d3, %g3, -, H3⟩, ⟨%d4, %g4, -, H4⟩, ⟨%d5, %g5, -, H5⟩⟩
  ihave H0' := (pointsTo_rep_entails (c : Thread nD τ) (st0_0 t0_0) g0 fullShare) $$ H0
  ihave H1' := (pointsTo_rep_entails (c : Thread nD τ) (st0_1 t0_0) g1 fullShare) $$ H1
  rw [hg0, hg1]
  sl_rw [prog_eq t0_0]
  iapply (bodyWhole c (st0_0 t0_0) (hstage0_0 0) (st0_1 t0_0) (hstage0_1 0) (st0_2 t0_0) (hstage0_2 0) (st0_3 t0_0) (hstage0_3 0) (st0_4 t0_0) (hstage0_4 0) (st0_5 t0_0) (hstage0_5 0)
    (XD m c) (XW m c) _ _ g2 g3 g4 g5 (VV m c main_v1_0) (VV m c main_v1_1) (VV m c main_v1_3) W)
  isplitl [H0' H1' H2 H3 H4 H5 HA HS HZ HW]
  · isplitl [H0']; · iexact H0'
    isplitl [H1']; · iexact H1'
    isplitl [H2]; · iexact H2
    isplitl [H3]; · iexact H3
    isplitl [H4]; · iexact H4
    isplitl [H5]; · iexact H5
    isplitl [HA]; · iexact HA
    isplitl [HS]; · iexact HS
    isplitl [HZ]; · iexact HZ
    iexact HW
  · iintro ⟨H0, H1, ⟨%e2, %he2, H2⟩, ⟨%e3, %he3, H3⟩, ⟨%e4, %he4, H4⟩, ⟨%e5, %he5, H5⟩, HA, HS, HZ, ⟨%W', HW⟩⟩
    isplitl [HA HS HZ]
    · isplitl [HA]; · iexact HA
      isplitl [HS]; · iexact HS
      iexact HZ
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists e2; isplitr; · ipureintro; exact he2
      iexact H2
    isplitl [H3]
    · iexists e3; isplitr; · ipureintro; exact he3
      iexact H3
    isplitl [H4]
    · iexists e4; isplitr; · ipureintro; exact he4
      iexact H4
    iexists e5; isplitr; · ipureintro; exact he5
    iexact H5

/-! ## The run -/

def intoΦ (c : Dev nD) : sProp 𝕄 := iprop(arrs c (XD m c) (XW m c) (VV m c main_v1_0) (VV m c main_v1_1) (VV m c main_v1_3) ∗ sems c)
def outOfΦ (c : Dev nD) : sProp 𝕄 := arrs c (XD m c) (XW m c) (resX m c) (resY m c) (resW m c)
def restΦ (c : Dev nD) : sProp 𝕄 := all c main_arg0 (VV m c main_arg0)
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg0) = VV m c main_arg0 ∧ s.mem ((c : Thread nD τ).loc main_arg1) = VV m c main_arg1
  ∧ s.mem ((c : Thread nD τ).loc main_v1_0) = resX m c ∧ s.mem ((c : Thread nD τ).loc main_v1_1) = resY m c ∧ s.mem ((c : Thread nD τ).loc main_v1_3) = resW m c
def QC : PUnit × MemSt nD τ sig (Elt F) → Prop := fun r =>
  ∀ c : Dev nD, (∀ w : Fin cfg0.W, r.2.mem ((cfg0.win w).arr.view.loc (c : Thread nD τ)) = finalA m c w) ∧ QY m c r.2

set_option maxHeartbeats 4000000 in
set_option backward.isDefEq.respectTransparency.types false in
/-- Every weakly fair execution of @main terminates, its results at the computed contents and every semaphore at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := VV m)
    (hmain := Pipeline.hmain_prefix cfgs 0 defs₀ 𝒱₀ m main hostOps0 hostOps0_sub hostOps0_fresh main_chain)
    (hA := fun _ _ => rfl)
    (X := intoΦ m) (Y := outOfΦ m) (Z := restΦ m)
    (hX := fun c => by
      rw [unscopedRest0_eq]
      unfold intoΦ restΦ
      iintro ⟨⟨H0, H1, H2, H3, H4, H5⟩, HS, -, -, -⟩; imodintro
      isplitr [H0]
      · isplitr [HS]
        · isplitl [H2]; · iexact H2
          isplitl [H1]; · iexact H1
          isplitl [H3]; · iexact H3
          isplitl [H4]; · iexact H4
          iexact H5
        iexact HS
      iexact H0)
    (hin := fun c => by
      rw [scopedRest0_eq, Φ_zero]
      unfold intoΦ Φ0
      iintro ⟨⟨HA, HZ⟩, HS⟩
      isplitl [HA]; · iexact HA
      isplitl [HS]; · iexact HS
      iexact HZ)
    (hout := fun c => by
      rw [scopedRest0_eq, Φ_last]
      unfold Φ1 outOfΦ
      iintro ⟨HA, HS, HZ⟩
      isplitl [HA]; · iexact HA
      isplitl [HZ]; · iexact HZ
      iexact HS)
    (QY := QY m)
    (hY := fun c s' => by
      unfold outOfΦ restΦ QY
      iintro ⟨⟨H0, H1, H2, H3, H4⟩, H5, HSI⟩
      icombine HSI H1 gives %h1
      icombine HSI H2 gives %h2
      icombine HSI H3 gives %h3
      icombine HSI H4 gives %h4
      icombine HSI H5 gives %h5
      imodintro
      isplitr
      · ipureintro
        exact ⟨Buf.eq_of_forall_mem_univ h5, Buf.eq_of_forall_mem_univ h1, Buf.eq_of_forall_mem_univ h2, Buf.eq_of_forall_mem_univ h3, Buf.eq_of_forall_mem_univ h4⟩
      iexact HSI)
    (hQ := fun _ hh hz => ⟨hh, hz⟩)

theorem finalA_in (c : Dev nD) (w : Fin cfg0.W) (hw : (cfg0.win w).isOut = false) :
    finalA m c w = VV m c (Pipeline.arrRef spec0 w) :=
  (dats (F := F) m 0 c).arrAt_in w hw _

/-- The run with the arguments back as they were and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ hh => ⟨fun c => ⟨((hh.1 c).2.1).trans (V_main_arg0 m c), ((hh.1 c).2.2.1).trans (V_main_arg1 m c),
    (((hh.1 c).1 0).trans (finalA_in m c 0 rfl)).trans (V_main_arg2 m c), (((hh.1 c).1 1).trans (finalA_in m c 1 rfl)).trans (V_main_arg3 m c)⟩, hh.2⟩) (run_main m ρ)
end Launch

end Cert.Proof.KI

end
-- ==== Proof.V.Search.lean ====
module

public import proofs.«01_k».proof.Proof.KI.Scalars
public import Idealize.ShloMosaic.PureOps.Ideal.Laws

/-! What the search for the exponent field finds, over the extended reals. -/

@[expose] public section

set_option maxRecDepth 16384

noncomputable section

namespace Cert.Proof.V

open Cert.KernelIdeal.Gen Cert.Proof.KI
open Idealize.ShloMosaic

/-- The number whose word has exponent field `f` and nothing else set. -/
def pw (f : ℕ) : EReal := Ideal.ofBits .f32 (BitVec.ofNat 32 (f * 8388608))

theorem pw_fields : ∀ f : Fin 256, ((BitVec.ofNat 32 (f.val * 8388608)).extractLsb' 23 8).toNat = f.val
    ∧ ((BitVec.ofNat 32 (f.val * 8388608)).extractLsb' 0 23).toNat = 0
    ∧ ((BitVec.ofNat 32 (f.val * 8388608)).extractLsb' 31 1 == 1#1) = false := by decide +kernel

theorem pw_zero : pw 0 = 0 := by simp [pw, Ideal.ofBits, Ideal.ieee]
theorem pw_top : pw 255 = ⊤ := by simp [pw, Ideal.ofBits, Ideal.ieee]

theorem pw_mid (f : ℕ) (h0 : 0 < f) (h1 : f < 255) : pw f = (((2 : ℝ) ^ ((f : ℤ) - 127) : ℝ) : EReal) := by
  obtain ⟨he, hf, hs⟩ := pw_fields ⟨f, by omega⟩
  simp only [pw, Ideal.ofBits, Ideal.ieee]
  rw [he, hf, hs]
  dsimp only
  rw [if_neg (by norm_num; omega), if_neg (by omega)]
  congr 1
  rw [show ((f : ℤ) - (2 ^ (8 - 1) - 1) - ((23 : ℕ) : ℤ)) = ((f : ℤ) - 127) - 23 by norm_num, zpow_sub₀ (by norm_num)]
  norm_num
  exact mul_div_cancel₀ _ (by norm_num)

/-- One step of the search: the bit is kept if the word with it is still at most `x`. -/
def stp (x : EReal) (b d : BitVec 32) : BitVec 32 :=
  Scalar.select (Scalar.cmpf (F := Ideal) (φ := .f32) .oge x (Scalar.ofBits .f32 (Scalar.addi b d))) (Scalar.addi b d) b

/-- The word `b` has the field of a power at most `x`, and `n` fields on is above `x`. -/
def Inv (x : EReal) (b : BitVec 32) (n : ℕ) : Prop :=
  ∃ f, b = BitVec.ofNat 32 (f * 8388608) ∧ f + n ≤ 256 ∧ pw f ≤ x ∧ (f + n = 256 ∨ x < pw (f + n))

theorem addi_eq (a b : BitVec 32) : Scalar.addi a b = a + b := rfl
theorem oge_eq (x : EReal) (b : BitVec 32) : Scalar.cmpf (F := Ideal) (φ := .f32) .oge x (Scalar.ofBits .f32 b)
    = BitVec.ofBool (decide (Ideal.ofBits .f32 b ≤ x)) := rfl
theorem sel_pos {p : Prop} [Decidable p] (h : p) (a b : BitVec 32) : Scalar.select (BitVec.ofBool (decide p)) a b = a := by
  rw [decide_eq_true h]; rfl
theorem sel_neg {p : Prop} [Decidable p] (h : ¬ p) (a b : BitVec 32) : Scalar.select (BitVec.ofBool (decide p)) a b = b := by
  rw [decide_eq_false h]; rfl

theorem Inv.step {x : EReal} {b : BitVec 32} {n : ℕ} (h : Inv x b (n + n)) (d : BitVec 32)
    (hd : d = BitVec.ofNat 32 (n * 8388608)) : Inv x (stp x b d) n := by
  obtain ⟨f, rfl, h1, h2, h3⟩ := h
  have ha : Scalar.addi (BitVec.ofNat 32 (f * 8388608)) d = BitVec.ofNat 32 ((f + n) * 8388608) := by
    rw [hd, addi_eq, ← BitVec.ofNat_add, Nat.add_mul]
  unfold stp
  rw [ha, oge_eq]
  change Inv x (Scalar.select (BitVec.ofBool (decide (pw (f + n) ≤ x))) _ _) n
  by_cases hx : pw (f + n) ≤ x
  · rw [sel_pos hx]
    refine ⟨f + n, rfl, by omega, hx, ?_⟩
    · rcases h3 with h3 | h3
      · exact .inl (by omega)
      · exact .inr (by rwa [Nat.add_assoc])
  · rw [sel_neg hx]
    exact ⟨f, rfl, by omega, h2, .inr (not_le.mp hx)⟩

/-- The whole search. -/
def srch (x : EReal) : BitVec 32 :=
  stp x (stp x (stp x (stp x (stp x (stp x (stp x (stp x 0#32 1073741824#32) 536870912#32) 268435456#32) 134217728#32)
    67108864#32) 33554432#32) 16777216#32) 8388608#32

theorem srch_inv {x : EReal} (h : 0 ≤ x) : Inv x (srch x) 1 := by
  have h0 : Inv x 0#32 (128 + 128) := ⟨0, rfl, by omega, by rw [pw_zero]; exact h, .inl rfl⟩
  exact (((((((h0.step _ rfl : Inv x _ (64 + 64)).step _ rfl : Inv x _ (32 + 32)).step _ rfl : Inv x _ (16 + 16)).step _ rfl :
    Inv x _ (8 + 8)).step _ rfl : Inv x _ (4 + 4)).step _ rfl : Inv x _ (2 + 2)).step _ rfl : Inv x _ (1 + 1)).step _ rfl

/-- The field of a word. -/
def fld (b : BitVec 32) : BitVec 32 := Scalar.andi (Scalar.shrui b 23#32) 255#32
/-- The scale of a field, and its inverse. -/
def sclOf (e : BitVec 32) : EReal := k0_pay243 (F := Ideal) e (Scalar.cmpi .sgt e 0#32)
@[inherit_doc sclOf] def invOf (e : BitVec 32) : EReal := k0_pay244 (F := Ideal) e (Scalar.cmpi .sgt e 0#32)

theorem fld_word : ∀ f : Fin 256, fld (BitVec.ofNat 32 (f.val * 8388608)) = BitVec.ofNat 32 f.val := by decide +kernel

/-- The word of the scale of a field. -/
def sclW (e : BitVec 32) : BitVec 32 :=
  Scalar.shli (Scalar.addi 127#32 (Scalar.select (Scalar.andi (Scalar.cmpi .sgt e 0#32) (Scalar.cmpi .slt e 255#32)) (Scalar.subi e 126#32) 0#32)) 23#32
@[inherit_doc sclW] def invWd (e : BitVec 32) : BitVec 32 :=
  Scalar.shli (Scalar.subi 127#32 (Scalar.select (Scalar.andi (Scalar.cmpi .sgt e 0#32) (Scalar.cmpi .slt e 255#32)) (Scalar.subi e 126#32) 0#32)) 23#32

theorem sclOf_eq (e : BitVec 32) : sclOf e = Ideal.ofBits .f32 (sclW e) := rfl
theorem invOf_eq (e : BitVec 32) : invOf e = Ideal.ofBits .f32 (invWd e) := rfl

theorem sclW_eq : ∀ f : Fin 256, sclW (BitVec.ofNat 32 f.val)
    = BitVec.ofNat 32 ((if 0 < f.val ∧ f.val < 255 then f.val + 1 else 127) * 8388608) := by decide +kernel
theorem invWd_eq : ∀ f : Fin 254, invWd (BitVec.ofNat 32 f.val)
    = BitVec.ofNat 32 ((if 0 < f.val then 253 - f.val else 127) * 8388608) := by decide +kernel
theorem invWd_top : invWd 255#32 = BitVec.ofNat 32 (127 * 8388608) := by decide +kernel

/-- The scale of `x`: the power of two above it, and one where `x` is below every normal number or infinite. -/
def scl (x : EReal) : EReal := sclOf (fld (srch x))
@[inherit_doc scl] def inv (x : EReal) : EReal := invOf (fld (srch x))

theorem pw_one : pw 127 = 1 := by rw [pw_mid _ (by omega) (by omega)]; norm_num

/-- What the scale is. -/
theorem scl_cases {x : EReal} (h : 0 ≤ x) (hb : x = ⊤ ∨ x < pw 253) :
    (scl x = 1 ∧ inv x = 1 ∧ (x < pw 1 ∨ x = ⊤)) ∨
    (∃ f : ℕ, 0 < f ∧ f < 253 ∧ pw f ≤ x ∧ x < pw (f + 1) ∧ scl x = pw (f + 1) ∧ inv x = pw (253 - f)) := by
  obtain ⟨f, hf, h1, h2, h3⟩ := srch_inv h
  have e1 : fld (srch x) = BitVec.ofNat 32 f := by rw [hf]; exact fld_word ⟨f, by omega⟩
  have s1 : scl x = pw (if 0 < f ∧ f < 255 then f + 1 else 127) := by
    unfold scl; rw [e1]
    rw [sclOf_eq, sclW_eq ⟨f, by omega⟩]; rfl
  by_cases h255 : f = 255
  · subst h255
    left
    refine ⟨by rw [s1]; exact pw_one, ?_, .inr ?_⟩
    · unfold inv; rw [e1, ← pw_one, invOf_eq, invWd_top]; rfl
    · rw [pw_top] at h2; exact top_le_iff.mp h2
  have h4 : x < pw (f + 1) := h3.resolve_left (by omega)
  have hxt : x < pw 253 := hb.resolve_left (fun e => by rw [e] at h4; exact absurd h4 not_top_lt)
  have hf2 : f < 253 := by
    by_contra hc
    have : pw f ≤ pw 253 := h2.trans hxt.le
    have h5 := lt_of_le_of_lt h2 hxt
    rw [pw_mid _ (by omega) (by omega), pw_mid _ (by omega) (by omega), EReal.coe_lt_coe_iff] at h5
    have := (zpow_lt_zpow_iff_right₀ (by norm_num : (1 : ℝ) < 2)).mp h5
    omega
  have s2 : inv x = pw (if 0 < f then 253 - f else 127) := by
    unfold inv; rw [e1]
    rw [invOf_eq, invWd_eq ⟨f, by omega⟩]; rfl
  by_cases h0 : f = 0
  · subst h0
    left
    exact ⟨by rw [s1]; exact pw_one, by rw [s2]; exact pw_one, .inl h4⟩
  · right
    refine ⟨f, by omega, hf2, h2, h4, ?_, ?_⟩
    · rw [s1, if_pos ⟨by omega, by omega⟩]
    · rw [s2, if_pos (by omega)]

/-- The number a scale is found from. -/
def mag (a : EReal) : EReal := max (a * Ideal.ofBits .f32 0x3B124925#32) (-(a * Ideal.ofBits .f32 0x3B124925#32))

theorem mag_nonneg (a : EReal) : 0 ≤ mag a := by
  unfold mag
  rcases le_total 0 (a * Ideal.ofBits .f32 0x3B124925#32) with h | h
  · exact le_max_of_le_left h
  · exact le_max_of_le_right (EReal.neg_nonneg.mpr h)

end Cert.Proof.V

end
-- ==== Proof.V.Scales.lean ====
module

public import proofs.«01_k».proof.Proof.V.Search

/-! The kernel's scales are what the search finds. -/

@[expose] public section

set_option maxRecDepth 16384

noncomputable section

namespace Cert.Proof.V

open Cert.KernelIdeal.Gen Cert.Proof.KI
open Idealize.ShloMosaic

/-- The first factor's search, step by step. -/
theorem pY0_eq (a : EReal) : pY0 (F := Ideal) a = stp (mag a) 0#32 1073741824#32 := rfl
theorem pY1_eq (a : EReal) : pY1 (F := Ideal) a = stp (mag a) (pY0 (F := Ideal) a) 536870912#32 := by
  have h : k0_pay230 (F := Ideal) a = Scalar.ofBits .f32 (Scalar.addi (pY0 (F := Ideal) a) 536870912#32) := rfl
  unfold pY1; rw [h]; rfl
theorem pY2_eq (a : EReal) : pY2 (F := Ideal) a = stp (mag a) (pY1 (F := Ideal) a) 268435456#32 := by
  have h : k0_pay232 (F := Ideal) a = Scalar.ofBits .f32 (Scalar.addi (pY1 (F := Ideal) a) 268435456#32) := rfl
  unfold pY2; rw [h]; rfl
theorem pY3_eq (a : EReal) : pY3 (F := Ideal) a = stp (mag a) (pY2 (F := Ideal) a) 134217728#32 := by
  have h : k0_pay234 (F := Ideal) a = Scalar.ofBits .f32 (Scalar.addi (pY2 (F := Ideal) a) 134217728#32) := rfl
  unfold pY3; rw [h]; rfl
theorem pY4_eq (a : EReal) : pY4 (F := Ideal) a = stp (mag a) (pY3 (F := Ideal) a) 67108864#32 := by
  have h : k0_pay236 (F := Ideal) a = Scalar.ofBits .f32 (Scalar.addi (pY3 (F := Ideal) a) 67108864#32) := rfl
  unfold pY4; rw [h]; rfl
theorem pY5_eq (a : EReal) : pY5 (F := Ideal) a = stp (mag a) (pY4 (F := Ideal) a) 33554432#32 := by
  have h : k0_pay238 (F := Ideal) a = Scalar.ofBits .f32 (Scalar.addi (pY4 (F := Ideal) a) 33554432#32) := rfl
  unfold pY5; rw [h]; rfl
theorem pY6_eq (a : EReal) : pY6 (F := Ideal) a = stp (mag a) (pY5 (F := Ideal) a) 16777216#32 := by
  have h : k0_pay240 (F := Ideal) a = Scalar.ofBits .f32 (Scalar.addi (pY5 (F := Ideal) a) 16777216#32) := rfl
  unfold pY6; rw [h]; rfl
theorem pY7_eq (a : EReal) : pY7 (F := Ideal) a = stp (mag a) (pY6 (F := Ideal) a) 8388608#32 := by
  have h : k0_pay242 (F := Ideal) a = Scalar.ofBits .f32 (Scalar.addi (pY6 (F := Ideal) a) 8388608#32) := rfl
  unfold pY7; rw [h]; rfl
theorem scaleY_eq (a : EReal) : scaleY (F := Ideal) a = scl (mag a) := by
  show sclOf (fld (pY7 (F := Ideal) a)) = _
  rw [pY7_eq, pY6_eq, pY5_eq, pY4_eq, pY3_eq, pY2_eq, pY1_eq, pY0_eq]; rfl
theorem invY_eq (a : EReal) : invY (F := Ideal) a = inv (mag a) := by
  show invOf (fld (pY7 (F := Ideal) a)) = _
  rw [pY7_eq, pY6_eq, pY5_eq, pY4_eq, pY3_eq, pY2_eq, pY1_eq, pY0_eq]; rfl

/-- The second factor's search, step by step. -/
theorem pW0_eq (a : EReal) : pW0 (F := Ideal) a = stp (mag a) 0#32 1073741824#32 := rfl
theorem pW1_eq (a : EReal) : pW1 (F := Ideal) a = stp (mag a) (pW0 (F := Ideal) a) 536870912#32 := by
  have h : k0_pay249 (F := Ideal) a = Scalar.ofBits .f32 (Scalar.addi (pW0 (F := Ideal) a) 536870912#32) := rfl
  unfold pW1; rw [h]; rfl
theorem pW2_eq (a : EReal) : pW2 (F := Ideal) a = stp (mag a) (pW1 (F := Ideal) a) 268435456#32 := by
  have h : k0_pay251 (F := Ideal) a = Scalar.ofBits .f32 (Scalar.addi (pW1 (F := Ideal) a) 268435456#32) := rfl
  unfold pW2; rw [h]; rfl
theorem pW3_eq (a : EReal) : pW3 (F := Ideal) a = stp (mag a) (pW2 (F := Ideal) a) 134217728#32 := by
  have h : k0_pay253 (F := Ideal) a = Scalar.ofBits .f32 (Scalar.addi (pW2 (F := Ideal) a) 134217728#32) := rfl
  unfold pW3; rw [h]; rfl
theorem pW4_eq (a : EReal) : pW4 (F := Ideal) a = stp (mag a) (pW3 (F := Ideal) a) 67108864#32 := by
  have h : k0_pay255 (F := Ideal) a = Scalar.ofBits .f32 (Scalar.addi (pW3 (F := Ideal) a) 67108864#32) := rfl
  unfold pW4; rw [h]; rfl
theorem pW5_eq (a : EReal) : pW5 (F := Ideal) a = stp (mag a) (pW4 (F := Ideal) a) 33554432#32 := by
  have h : k0_pay257 (F := Ideal) a = Scalar.ofBits .f32 (Scalar.addi (pW4 (F := Ideal) a) 33554432#32) := rfl
  unfold pW5; rw [h]; rfl
/-- The last two steps and the scale of what they find. -/
theorem pay258_eq (y : EReal) (b : BitVec 32) : k0_pay258 (F := Ideal) y b 16777216#32
    = sclOf (fld (stp (max y (-y)) (stp (max y (-y)) b 16777216#32) 8388608#32)) := rfl
theorem pay259_eq (y : EReal) (b : BitVec 32) : k0_pay259 (F := Ideal) y b 16777216#32
    = invOf (fld (stp (max y (-y)) (stp (max y (-y)) b 16777216#32) 8388608#32)) := rfl
theorem pay260_eq (v y : EReal) (b : BitVec 32) : k0_pay260 (F := Ideal) v y b 16777216#32
    = v * k0_pay258 (F := Ideal) y b 16777216#32 := rfl
theorem srchW_eq (a : EReal) : stp (mag a) (stp (mag a) (pW5 (F := Ideal) a) 16777216#32) 8388608#32 = srch (mag a) := by
  rw [pW5_eq, pW4_eq, pW3_eq, pW2_eq, pW1_eq, pW0_eq]; rfl
theorem scaleW_eq (a : EReal) : scaleW (F := Ideal) a = scl (mag a) := by
  unfold scaleW; rw [pay258_eq]
  exact congrArg (fun b => sclOf (fld b)) (srchW_eq a)
theorem invW_eq (a : EReal) : invW (F := Ideal) a = inv (mag a) := by
  unfold invW; rw [pay259_eq]
  exact congrArg (fun b => invOf (fld b)) (srchW_eq a)
theorem scaleX_eq (a b : EReal) : scaleX (F := Ideal) a b = scl (mag a) * scl (mag b) := by
  rw [← scaleY_eq, ← scaleW_eq]
  unfold scaleX scaleW
  exact pay260_eq _ _ _

end Cert.Proof.V

end
-- ==== Proof.V.Args.lean ====
module

public import proofs.«01_k».proof.Proof.KI.Launch
public import proofs.«01_k».proof.Proof.V.Scales
public import Idealize.ShloMosaic.Lib.Pipeline.ValueKit
public import Idealize.ShloMosaic.Lib.StableHlo.RunRead

/-! What the kernel's run computes from its arguments. -/

@[expose] public section

set_option maxRecDepth 16384

noncomputable section

namespace Cert.Proof.V

open Cert.KernelIdeal Cert.KernelIdeal.Gen Cert.Proof.KI
open Idealize.ShloMosaic
open Idealize.ShloMosaic.TcCoe

variable (m : (ℓ : Loc nD τ sig) → Buf (Elt Ideal) ℓ) (c : Dev nD)

/-- The windows' blocks lie at the origin. -/
theorem kx0 : ∀ a, win0_0.index t0_0 a = 0 := by decide +kernel
theorem kx1 : ∀ a, win0_1.index t0_0 a = 0 := by decide +kernel

theorem one_idx (i j : S1.Idx) : i = j := by
  funext a; fin_cases a; exact Subsingleton.elim (α := Fin 1) _ _

/-- The two largest magnitudes are the arguments' entries. -/
theorem a2_eq (i : S1.Idx) : a2 m c t0_0 = (m ((c : Thread nD τ).loc main_arg2) : S1.Idx → EReal) i := by
  unfold a2 cell
  rw [View.readAt_eq_ld, View.read_rep]
  have h : ∀ j, iblkK m c 0 t0_0 j = VV m c main_arg2 i := fun j => congrArg (VV m c main_arg2) (one_idx _ i)
  exact (h _).trans (congrFun (V_main_arg2 m c) i)
theorem a3_eq (i : S1.Idx) : a3 m c t0_0 = (m ((c : Thread nD τ).loc main_arg3) : S1.Idx → EReal) i := by
  unfold a3 cell
  rw [View.readAt_eq_ld, View.read_rep]
  have h : ∀ j, iblkK m c 1 t0_0 j = VV m c main_arg3 i := fun j => congrArg (VV m c main_arg3) (one_idx _ i)
  exact (h _).trans (congrFun (V_main_arg3 m c) i)

/-- The first factor as the kernel's loops read it. -/
theorem XD_eq : XD m c = shapeCast S256x18432 (m ((c : Thread nD τ).loc main_arg0)) shapeCasts_S2x128x18432_S256x18432 := by
  unfold XD VV; after_reads_simp; rfl

/-- The scales the run leaves. -/
theorem fin2 (z : Ideal .f32) (h : scaleY (F := Ideal) (a2 m c t0_0) = z) : finalA m c 2 = fun _ => z := by
  refine (KI.dats m 0 c).arrAt_eq_of_after_last 2 t0_0 (by decide +kernel) _ fun j => ?_
  rw [after_w2, h]; rfl
theorem fin3 (z : Ideal .f32) (h : scaleW (F := Ideal) (a3 m c t0_0) = z) : finalA m c 3 = fun _ => z := by
  refine (KI.dats m 0 c).arrAt_eq_of_after_last 3 t0_0 (by decide +kernel) _ fun j => ?_
  rw [after_w3, h]; rfl

end Cert.Proof.V

end
-- ==== Proof.V.Prod.lean ====
module

public import proofs.«01_k».proof.Proof.KI.Model
public import proofs.«01_k».proof.Proof.Gen.ReferenceIdeal.Skeleton
public import Idealize.ShloMosaic.Lib.Pipeline.ValueKit
public import Idealize.ShloMosaic.Lib.Pointwise
public import Idealize.ShloMosaic.PureOps.Ideal.Laws

/-! The codes and the product: the kernel's, in pieces, and the reference's, whole, are the same over the extended reals. -/

@[expose] public section

set_option maxRecDepth 16384

noncomputable section

namespace Cert.Proof.V

open Cert.ReferenceIdeal Cert.Proof.KI
open Idealize.ShloMosaic hiding ix1 ix2 ix3 eq_ix2
open Idealize.ShloMosaic.ValueIdx

/-- The code of an element. -/
theorem qel_eq (v x : EReal) : qel (F := Ideal) v x = min (Ideal.ofBits .f32 0x43E00000#32) (max (Ideal.ofBits .f32 0xC3E00000#32) (x * v)) := rfl

theorem codesY (X : FVec Ideal S256x18432 .bf16) (u : FVec Ideal S1x1 .f32) (v : EReal) (hu : ∀ j, u j = v) :
    Cert.ReferenceIdeal.Gen.k0_pay1 (F := Ideal) X u = YCf (F := Ideal) v X := by
  funext i
  have h : ∃ j k, Cert.ReferenceIdeal.Gen.k0_pay1 (F := Ideal) X u i = min (Ideal.ofBits .f32 0x43E00000#32)
      (max (Ideal.ofBits .f32 0xC3E00000#32) (shapeCast S256x18432 X Cert.ReferenceIdeal.Gen.shapeCasts_S256x18432_S256x18432 j * shapeCast S1x1 u Cert.ReferenceIdeal.Gen.shapeCasts_S1x1_S1x1 k)) ∧ j = i := ⟨_, _, rfl, rfl⟩
  obtain ⟨j, k, h, rfl⟩ := h
  rw [h, shapeCast_self, shapeCast_self, hu]
  rfl

theorem codesW (X : FVec Ideal S7168x18432 .bf16) (u : FVec Ideal S1x1 .f32) (v : EReal) (hu : ∀ j, u j = v) :
    Cert.ReferenceIdeal.Gen.k0_pay2 (F := Ideal) X u = WCf (F := Ideal) v X := by
  funext i
  have h : ∃ j k, Cert.ReferenceIdeal.Gen.k0_pay2 (F := Ideal) X u i = min (Ideal.ofBits .f32 0x43E00000#32)
      (max (Ideal.ofBits .f32 0xC3E00000#32) (X j * shapeCast S1x1 u Cert.ReferenceIdeal.Gen.shapeCasts_S1x1_S1x1 k)) ∧ j = i := ⟨_, _, rfl, rfl⟩
  obtain ⟨j, k, h, rfl⟩ := h
  rw [h, shapeCast_self, hu]
  rfl

/-- The product of two pieces at an index. -/
theorem mm_apply (v : EReal) (d : Vec Ideal Cert.KernelIdeal.S1x256x512 .fp8e4m3) (x : Vec Ideal Cert.KernelIdeal.S1x256x512 .bf16) (a b : Fin 256) :
    mm (F := Ideal) v d x (ix2 a b) = ∑ k : Fin 512, d (ix3 0 a k) * qel (F := Ideal) v (x (ix3 0 b k)) := by
  refine (Ideal.matmul_apply₁ Cert.KernelIdeal.dot_S256x512_S256x512_S256x256_1_1_0_0_n_n rfl rfl _ _ _ _).trans ?_
  rw [constant_apply, Ideal.ofBits_zero_f32, zero_add]
  refine Finset.sum_congr rfl fun k _ => ?_
  rw [qvec_apply]
  congr 1
  · exact shapeCast_1ab_ab_apply (a := 256) (b := 512) d _ a k
  · exact congrArg (qel (F := Ideal) v) (shapeCast_1ab_ab_apply (a := 256) (b := 512) x _ b k)

theorem part_apply (v : EReal) (d : ℕ → Vec Ideal Cert.KernelIdeal.S1x256x512 .fp8e4m3) (x : ℕ → Vec Ideal Cert.KernelIdeal.S1x256x512 .bf16)
    (n : ℕ) (j : Cert.KernelIdeal.S256x256.Idx) :
    part (F := Ideal) v d x n j = ∑ t ∈ Finset.range (n + 1), mm (F := Ideal) v (d t) (x t) j := by
  induction n with
  | zero => simp [part]
  | succ n ih => rw [Finset.sum_range_succ, ← ih]; rfl

/-- The product. -/
theorem prod_eq (v s : EReal) (YC : FVec Ideal S256x18432 .fp8e4m3) (X : FVec Ideal S7168x18432 .bf16) (u : FVec Ideal S1x1 .f32)
    (hu : ∀ j, u j = s) :
    Cert.ReferenceIdeal.Gen.k0_pay3 (F := Ideal) YC (WCf (F := Ideal) v X) u = DXf (F := Ideal) v s YC X := by
  funext i
  obtain ⟨p, q, rfl⟩ : ∃ (p : Fin 256) (q : Fin 7168), i = ix2 p q := ⟨i 0, i 1, eq_ix2 i⟩
  have h1 : DXf (F := Ideal) v s YC X (ix2 p q)
      = part (F := Ideal) v (dsub (F := Ideal) YC) (xsub (F := Ideal) X (q.val / 256)) 35 (ix2 p (Fin.ofNat 256 q.val)) * s := rfl
  have h2 : ∃ k, Cert.ReferenceIdeal.Gen.k0_pay3 (F := Ideal) YC (WCf (F := Ideal) v X) u (ix2 p q)
      = FloatOps.matmul (F := Ideal) dot_S256x18432_S7168x18432_S256x7168_1_1_0_0_n_n none
          (shapeCast S256x18432 YC Cert.ReferenceIdeal.Gen.shapeCasts_S256x18432_S256x18432)
          (shapeCast S7168x18432 (WCf (F := Ideal) v X) Cert.ReferenceIdeal.Gen.shapeCasts_S7168x18432_S7168x18432)
          (constant S256x7168 .f32 0x00000000#32) (ix2 p q) * shapeCast S1x1 u Cert.ReferenceIdeal.Gen.shapeCasts_S1x1_S1x1 k := ⟨_, rfl⟩
  obtain ⟨k, h2⟩ := h2
  rw [h1, h2, shapeCast_self, shapeCast_self, shapeCast_self, hu, part_apply]
  refine congrArg (· * s) ?_
  refine (Ideal.matmul_apply₁_of dot_S256x18432_S7168x18432_S256x7168_1_1_0_0_n_n (a := 1) (K := 18432) rfl rfl _ _ _ _
    (fun k => ix2 p k) (fun k => ix2 q k) (fun k => ?_) (fun k => ?_)).trans ?_
  · funext a; fin_cases a <;> rfl
  · funext a; fin_cases a <;> rfl
  rw [constant_apply, Ideal.ofBits_zero_f32, zero_add, Finset.sum_range]
  symm
  simp only [mm_apply]
  refine Fin.sum_mul_add_congr fun t k hl => ?_
  have hq := q.isLt
  have hk := k.isLt
  have ht := t.isLt
  have e1 : (Fin.ofNat 18432 (512 * t.val + k.val) : Fin 18432) = ⟨t.val * 512 + k.val, hl⟩ := by
    refine Fin.ext ?_
    show (512 * t.val + k.val) % 18432 = t.val * 512 + k.val
    rw [Nat.mod_eq_of_lt (by omega)]; omega
  have e2 : (Fin.ofNat 7168 (256 * (q.val / 256) + (Fin.ofNat 256 q.val).val) : Fin 7168) = q := by
    refine Fin.ext ?_
    show (256 * (q.val / 256) + q.val % 256) % 7168 = q.val
    rw [Nat.div_add_mod, Nat.mod_eq_of_lt hq]
  have a1 : dsub (F := Ideal) YC t.val (ix3 0 p k) = YC (ix2 p (Fin.ofNat 18432 (512 * t.val + k.val))) := rfl
  have a2 : xsub (F := Ideal) X (q.val / 256) t.val (ix3 0 (Fin.ofNat 256 q.val) k)
      = X (ix2 (Fin.ofNat 7168 (256 * (q.val / 256) + (Fin.ofNat 256 q.val).val)) (Fin.ofNat 18432 (512 * t.val + k.val))) := rfl
  rw [a1, a2, e1, e2]
  rfl

end Cert.Proof.V

end
-- ==== Proof.V.RefScale.lean ====
module

public import proofs.«01_k».proof.Proof.Gen.ReferenceIdeal.Frame.Runs
public import Idealize.ShloMosaic.Lib.StableHlo.RunRead
public import Idealize.ShloMosaic.PureOps.Ideal.Laws

/-! The reference's scales, as terms over its arguments. -/

@[expose] public section

set_option maxRecDepth 16384

noncomputable section

namespace Cert.Proof.V

open Cert.ReferenceIdeal Cert.ReferenceIdeal.Gen
open Idealize.ShloMosaic
open Idealize.ShloMosaic.TcCoe

variable (m : (ℓ : Loc nD τ sig) → Buf (Elt Ideal) ℓ) (c : Dev nD)

/-- The magnitude the reference finds its scale from. -/
def rmag (a : FVec Ideal S1 .f32) : FVec Ideal S1 .f32 :=
  Host.absf (mulf a (broadcastInDim S1 ![] bcast_S_S1 (constant S_ .f32 0x3B124925#32)))

/-- The powers of two the reference looks among. -/
def rpow : FVec Ideal S253 .f32 :=
  Host.powf (broadcastInDim S253 ![] bcast_S_S253 (constant S_ .f32 0x40000000#32))
    (sitofp .f32 (addi (broadcastInDim S253 ![] bcast_S_S253 (constantI S_ 32 4294967171#32)) (iotaInDim S253 32 0)))

/-- The least of them above the magnitude. -/
def rmin (x : FVec Ideal S1 .f32) : FVec Ideal S_ .f32 :=
  Host.reduce FloatOps.minimumf
    (select (cmpf .ogt rpow (broadcastInDim S253 ![0] bcast_S1_S253_0 x)) rpow
      (broadcastInDim S253 ![] bcast_S_S253 (constant S_ .f32 0x7F800000#32)))
    (constant S_ .f32 0x7F800000#32) reducesTo_S253_S_d0 h_S_

/-- The reference's scale. -/
def rscale (a : FVec Ideal S1 .f32) : FVec Ideal S1 .f32 :=
  select (andi (cmpf .oge (rmag a) (broadcastInDim S1 ![] bcast_S_S1 (constant S_ .f32 0x00800000#32)))
      (cmpf .olt (rmag a) (broadcastInDim S1 ![] bcast_S_S1 (constant S_ .f32 0x7F800000#32))))
    (broadcastInDim S1 ![] bcast_S_S1 (rmin (rmag a)))
    (broadcastInDim S1 ![] bcast_S_S1 (constant S_ .f32 0x3F800000#32))

theorem V_v0 : (V m c main_v0 : S256x18432.Idx → Ideal .bf16)
    = shapeCast S256x18432 (m ((c : Thread nD τ).loc main_arg0)) shapeCasts_S2x128x18432_S256x18432 := by
  unfold V; after_reads_simp; rfl

theorem V_v19 : (V m c main_v19 : S1.Idx → Ideal .f32) = rscale (m ((c : Thread nD τ).loc main_arg2)) := by
  unfold V; after_reads_simp; simp only [StableHlo.TRef.ofBuf, StableHlo.TRef.toBuf, cast_cast, cast_eq]; rfl

theorem V_v38 : (V m c main_v38 : S1.Idx → Ideal .f32) = rscale (m ((c : Thread nD τ).loc main_arg3)) := by
  unfold V; after_reads_simp; simp only [StableHlo.TRef.ofBuf, StableHlo.TRef.toBuf, cast_cast, cast_eq]; rfl

/-- One over a scale. -/
def rinv (s : FVec Ideal S1 .f32) : FVec Ideal S1x1 .f32 :=
  shapeCast S1x1 (Host.divf (broadcastInDim S1 ![] bcast_S_S1 (constant S_ .f32 0x3F800000#32)) s) shapeCasts_S1_S1x1

theorem V_v41 : (V m c main_v41 : S1x1.Idx → Ideal .f32) = rinv (rscale (m ((c : Thread nD τ).loc main_arg2))) := by
  unfold V; after_reads_simp; simp only [StableHlo.TRef.ofBuf, StableHlo.TRef.toBuf, cast_cast, cast_eq]; rfl

theorem V_v44 : (V m c main_v44 : S1x1.Idx → Ideal .f32) = rinv (rscale (m ((c : Thread nD τ).loc main_arg3))) := by
  unfold V; after_reads_simp; simp only [StableHlo.TRef.ofBuf, StableHlo.TRef.toBuf, cast_cast, cast_eq]; rfl

theorem V_v46 : (V m c main_v46 : S1x1.Idx → Ideal .f32)
    = shapeCast S1x1 (mulf (rscale (m ((c : Thread nD τ).loc main_arg2))) (rscale (m ((c : Thread nD τ).loc main_arg3)))) shapeCasts_S1_S1x1 := by
  unfold V; after_reads_simp; simp only [StableHlo.TRef.ofBuf, StableHlo.TRef.toBuf, cast_cast, cast_eq]; rfl

end Cert.Proof.V

end
-- ==== Proof.V.ScaleEq.lean ====
module

public import proofs.«01_k».proof.Proof.V.Search
public import proofs.«01_k».proof.Proof.V.RefScale
public import Idealize.ShloMosaic.Lib.ValueIdx
public import Idealize.ShloMosaic.PureOps.Reduce

/-! The reference's scale is the one the search finds. -/

@[expose] public section

set_option maxRecDepth 16384

noncomputable section

namespace Cert.Proof.V

open Cert.ReferenceIdeal Cert.ReferenceIdeal.Gen
open Idealize.ShloMosaic
open Idealize.ShloMosaic.ValueIdx

/-- The one index of a one-element vector. -/
abbrev o1 : S1.Idx := ix1 (0 : Fin 1)

theorem eq_o1 (i : S1.Idx) : i = o1 := by
  funext a; fin_cases a; exact Subsingleton.elim (α := Fin 1) _ _

theorem rmag_eq (a : FVec Ideal S1 .f32) (i : S1.Idx) : rmag a i = mag (a o1) := by
  rw [eq_o1 i]; rfl

theorem iota_word : ∀ k : Fin 253, (IntOp.addi 4294967171#32 (BitVec.ofNat 32 k.val)).toInt = (k.val : ℤ) - 125 := by
  decide +kernel

theorem rpow_eq (i : S253.Idx) : rpow i = pw ((i 0).val + 2) := by
  have hk : (i 0).val < 253 := (i 0).isLt
  have h2 : Ideal.ofBits .f32 0x40000000#32 = ((2 : ℝ) : EReal) := by
    simp [Ideal.ofBits, Ideal.ieee, -EReal.coe_mul]; norm_num
  have h : rpow i = Ideal.pow (Ideal.ofBits .f32 0x40000000#32)
      (((IntOp.addi 4294967171#32 (BitVec.ofNat 32 (i 0).val)).toInt : ℝ) : EReal) := rfl
  rw [h, iota_word ⟨_, hk⟩, h2, pw_mid _ (by omega) (by omega)]
  show ((Real.rpow 2 _ : ℝ) : EReal) = _
  rw [Real.rpow_eq_pow, Real.rpow_intCast]
  congr 2
  push_cast; ring

theorem sel_gt (p q t : FVec Ideal S253 .f32) (i : S253.Idx) :
    (select (cmpf .ogt p q) p t : FVec Ideal S253 .f32) i = if q i < p i then p i else t i := by
  have h : (select (cmpf .ogt p q) p t : FVec Ideal S253 .f32) i
      = if BitVec.ofBool (decide (q i < p i)) = 1 then p i else t i := rfl
  rw [h]
  by_cases hc : q i < p i
  · rw [if_pos hc, decide_eq_true hc]; rfl
  · rw [if_neg hc, decide_eq_false hc]; rfl
theorem bc_one (x : FVec Ideal S1 .f32) (i : S253.Idx) : (broadcastInDim S253 ![0] bcast_S1_S253_0 x : FVec Ideal S253 .f32) i = x o1 := by
  have h : ∃ j, (broadcastInDim S253 ![0] bcast_S1_S253_0 x : FVec Ideal S253 .f32) i = x j := ⟨_, rfl⟩
  obtain ⟨j, h⟩ := h
  rw [h, eq_o1 j]
theorem bc_top (i : S253.Idx) : (broadcastInDim S253 ![] bcast_S_S253 (constant S_ .f32 0x7F800000#32) : FVec Ideal S253 .f32) i = ⊤ := by
  have h : (broadcastInDim S253 ![] bcast_S_S253 (constant S_ .f32 0x7F800000#32) : FVec Ideal S253 .f32) i = Ideal.ofBits .f32 0x7F800000#32 := rfl
  rw [h]; simp [Ideal.ofBits, Ideal.ieee]

/-- The least entry, where one is known to be it. -/
theorem reduce_min (g : S253.Idx → EReal) (z : S_.Idx → EReal) (v : EReal) (j : S_.Idx) (hz : v ≤ z (Shape.Idx.first h_S_))
    (hall : ∀ i, v ≤ g i) (i : S253.Idx) (hi : g i ≤ v) :
    Host.reduce (FloatOps.minimumf (F := Ideal) (φ := .f32)) g z reducesTo_S253_S_d0 h_S_ j = v := by
  refine (Host.reduce_eq_fold (min : EReal → EReal → EReal) g z reducesTo_S253_S_d0 h_S_ j).trans ?_
  refine le_antisymm (Finset.fold_min_le _ |>.mpr (.inr ⟨i, ?_, hi⟩)) (Finset.le_fold_min _ |>.mpr ⟨hz, fun i _ => hall i⟩)
  refine Finset.mem_filter.mpr ⟨Finset.mem_univ _, ?_⟩
  funext a; exact a.elim0

theorem rmin_eq (x : FVec Ideal S1 .f32) (f : ℕ) (h0 : 0 < f) (h1 : f < 253) (hle : pw f ≤ x o1) (hlt : x o1 < pw (f + 1))
    (j : S_.Idx) : rmin x j = pw (f + 1) := by
  have htop : Ideal.ofBits .f32 0x7F800000#32 = ⊤ := by simp [Ideal.ofBits, Ideal.ieee]
  have e : ∀ i : S253.Idx, (select (cmpf .ogt rpow (broadcastInDim S253 ![0] bcast_S1_S253_0 x)) rpow
      (broadcastInDim S253 ![] bcast_S_S253 (constant S_ .f32 0x7F800000#32)) : FVec Ideal S253 .f32) i
      = if x o1 < pw ((i 0).val + 2) then pw ((i 0).val + 2) else ⊤ := by
    intro i
    rw [sel_gt, bc_one, bc_top, rpow_eq]
  unfold rmin
  refine reduce_min _ _ _ _ ?_ (fun i => ?_) (ix1 (⟨f - 1, by omega⟩ : Fin 253)) ?_
  · exact le_of_le_of_eq le_top htop.symm
  · have hk : (i 0).val < 253 := (i 0).isLt
    refine le_of_le_of_eq ?_ (e i).symm
    split_ifs with hc
    · have h5 := lt_of_le_of_lt hle hc
      rw [pw_mid _ (by omega) (by omega), pw_mid _ (by omega) (by omega), EReal.coe_lt_coe_iff] at h5
      have h6 := (zpow_lt_zpow_iff_right₀ (by norm_num : (1 : ℝ) < 2)).mp h5
      rw [pw_mid _ (by omega) (by omega), pw_mid _ (by omega) (by omega), EReal.coe_le_coe_iff]
      exact zpow_le_zpow_right₀ (by norm_num) (by omega)
    · exact le_top
  · refine le_of_eq_of_le (e _) ?_
    have hv : ((ix1 (⟨f - 1, by omega⟩ : Fin 253) : S253.Idx) 0).val + 2 = f + 1 := by
      show f - 1 + 2 = f + 1
      omega
    rw [hv, if_pos hlt]

theorem pw_mono {f g : ℕ} (h0 : 0 < f) (h : f ≤ g) (h1 : g < 255) : pw f ≤ pw g := by
  rw [pw_mid _ (by omega) (by omega), pw_mid _ (by omega) (by omega), EReal.coe_le_coe_iff]
  exact zpow_le_zpow_right₀ (by norm_num) (by omega)

theorem pw_lt_top {f : ℕ} (h0 : 0 < f) (h1 : f < 255) : pw f < ⊤ := by
  rw [pw_mid _ h0 h1]; exact EReal.coe_lt_top _

theorem rscale_eq (a : FVec Ideal S1 .f32) (hb : mag (a o1) = ⊤ ∨ mag (a o1) < pw 253) (i : S1.Idx) :
    rscale a i = scl (mag (a o1)) := by
  have h : ∃ j, rscale a i = if IntOp.andi (BitVec.ofBool (decide (pw 1 ≤ rmag a i))) (BitVec.ofBool (decide (rmag a i < pw 255))) = 1
      then rmin (rmag a) j else pw 127 := ⟨_, rfl⟩
  obtain ⟨j, h⟩ := h
  rw [h, rmag_eq, pw_top, pw_one]
  rcases scl_cases (mag_nonneg (a o1)) hb with ⟨hs, -, hx⟩ | ⟨f, h0, h1, h2, h3, hs, -⟩
  · rw [hs]
    rcases hx with hx | hx
    · rw [decide_eq_false (not_le.mpr hx), if_neg]
      generalize BitVec.ofBool (decide (mag (a o1) < ⊤)) = w
      revert w; decide
    · rw [hx, decide_eq_false (lt_irrefl _), if_neg]
      generalize BitVec.ofBool (decide (pw 1 ≤ (⊤ : EReal))) = w
      revert w; decide
  · rw [decide_eq_true ((pw_mono (by omega) (by omega) (by omega)).trans h2), decide_eq_true (h3.trans (pw_lt_top (by omega) (by omega))),
      if_pos (by decide), hs]
    exact rmin_eq _ f h0 h1 (by rw [rmag_eq]; exact h2) (by rw [rmag_eq]; exact h3) _

theorem rinv_eq (a : FVec Ideal S1 .f32) (hb : mag (a o1) = ⊤ ∨ mag (a o1) < pw 253) (j : S1x1.Idx) :
    rinv (rscale a) j = inv (mag (a o1)) := by
  have h : ∃ i, rinv (rscale a) j = Ideal.div (pw 127) (rscale a i) := ⟨_, rfl⟩
  obtain ⟨i, h⟩ := h
  rw [h, rscale_eq a hb, pw_one]
  rcases scl_cases (mag_nonneg (a o1)) hb with ⟨hs, hi, -⟩ | ⟨f, h0, h1, -, -, hs, hi⟩
  · rw [hs, hi, Ideal.div, if_neg (by norm_num), one_mul, ← EReal.coe_one, ← EReal.coe_inv, inv_one]
  · rw [hs, hi, pw_mid _ (by omega) (by omega), pw_mid _ (by omega) (by omega), Ideal.div, if_neg, one_mul, ← EReal.coe_inv, ← zpow_neg]
    · congr 2; omega
    · rw [← EReal.coe_zero, EReal.coe_eq_coe_iff]; positivity

theorem coe_max' (a b : ℝ) : ((max a b : ℝ) : EReal) = max (a : EReal) (b : EReal) := EReal.coe_strictMono.monotone.map_max

/-- A number of the format is not near the end of the exponents once scaled down. -/
theorem mag_bound (x : EReal) (h : max x (-x) ≤ Ideal.ofBits .f32 0x7F7FFFFF#32 ∨ max x (-x) = ⊤) :
    mag x = ⊤ ∨ mag x < pw 253 := by
  have hc : Ideal.ofBits .f32 0x3B124925#32 = ((9586981 * (2 : ℝ) ^ (-32 : ℤ) : ℝ) : EReal) := by
    simp [Ideal.ofBits, Ideal.ieee, -EReal.coe_mul]
  have hM : Ideal.ofBits .f32 0x7F7FFFFF#32 = ((16777215 * (2 : ℝ) ^ (104 : ℤ) : ℝ) : EReal) := by
    simp [Ideal.ofBits, Ideal.ieee, -EReal.coe_mul]
  have hp : (0 : ℝ) < 9586981 * (2 : ℝ) ^ (-32 : ℤ) := by positivity
  unfold mag
  rw [hc]
  induction x with
  | bot => left; rw [EReal.bot_mul_coe_of_pos hp]; simp
  | top => left; rw [EReal.top_mul_coe_of_pos hp]; simp
  | coe r =>
    right
    have h1 : max r (-r) ≤ 16777215 * (2 : ℝ) ^ (104 : ℤ) := by
      rcases h with h | h
      · rw [hM, ← EReal.coe_neg, ← coe_max', EReal.coe_le_coe_iff] at h; exact h
      · rw [← EReal.coe_neg, ← coe_max'] at h; exact absurd h (EReal.coe_ne_top _)
    rw [pw_mid _ (by omega) (by omega), ← EReal.coe_mul, ← EReal.coe_neg, ← coe_max', EReal.coe_lt_coe_iff, ← abs_eq_max_neg, abs_mul, abs_of_pos hp,
      abs_eq_max_neg]
    refine lt_of_le_of_lt (mul_le_mul_of_nonneg_right h1 hp.le) ?_
    norm_num

end Cert.Proof.V

end
-- ==== Proof.V.Outs.lean ====
module

public import proofs.«01_k».proof.Proof.V.Args
public import proofs.«01_k».proof.Proof.V.Prod
public import proofs.«01_k».proof.Proof.V.ScaleEq

/-! The results as functions of the arguments, and that the kernel's run leaves them. -/

@[expose] public section

set_option maxRecDepth 16384

noncomputable section

namespace Cert.Proof.V

open Cert.KernelIdeal Cert.KernelIdeal.Gen Cert.Proof.KI
open Idealize.ShloMosaic
open Idealize.ShloMosaic.TcCoe

attribute [local irreducible] scl inv mag invY invW scaleY scaleW scaleX

/-- The codes of the two factors, their scaled product and a scale. -/
def outY (A0 : FVec Ideal S2x128x18432 .bf16) (A2 : FVec Ideal S1 .f32) : FVec Ideal S256x18432 .fp8e4m3 :=
  YCf (F := Ideal) (inv (mag (A2 o1))) (shapeCast S256x18432 A0 shapeCasts_S2x128x18432_S256x18432)
@[inherit_doc outY] def outW (A1 : FVec Ideal S7168x18432 .bf16) (A3 : FVec Ideal S1 .f32) : FVec Ideal S7168x18432 .fp8e4m3 :=
  WCf (F := Ideal) (inv (mag (A3 o1))) A1
@[inherit_doc outY] def outX (A0 : FVec Ideal S2x128x18432 .bf16) (A1 : FVec Ideal S7168x18432 .bf16) (A2 A3 : FVec Ideal S1 .f32) :
    FVec Ideal S256x7168 .bf16 :=
  DXf (F := Ideal) (inv (mag (A3 o1))) (scl (mag (A2 o1)) * scl (mag (A3 o1))) (outY A0 A2) A1
@[inherit_doc outY] def outS (A : FVec Ideal S1 .f32) : FVec Ideal S1 .f32 := fun _ => scl (mag (A o1))

variable (m : (ℓ : Loc nD τ sig) → Buf (Elt Ideal) ℓ) (c : Dev nD)

theorem kY : resY m c = outY (m ((c : Thread nD τ).loc main_arg0)) (m ((c : Thread nD τ).loc main_arg2)) := by
  unfold resY outY
  rw [a2_eq m c o1, invY_eq, XD_eq]
theorem kW : resW m c = outW (m ((c : Thread nD τ).loc main_arg1)) (m ((c : Thread nD τ).loc main_arg3)) := by
  unfold resW outW
  rw [a3_eq m c o1, invW_eq]
  exact congrArg (WCf (F := Ideal) _) (V_main_arg1 m c)
theorem kX : resX m c = outX (m ((c : Thread nD τ).loc main_arg0)) (m ((c : Thread nD τ).loc main_arg1))
    (m ((c : Thread nD τ).loc main_arg2)) (m ((c : Thread nD τ).loc main_arg3)) := by
  unfold resX outX
  rw [a2_eq m c o1, a3_eq m c o1, invW_eq, scaleX_eq, kY]
  exact congrArg (DXf (F := Ideal) _ _ _) (V_main_arg1 m c)
theorem kS2 : finalA m c 2 = outS (m ((c : Thread nD τ).loc main_arg2)) :=
  fin2 m c (scl (mag ((m ((c : Thread nD τ).loc main_arg2) : S1.Idx → EReal) o1))) (by rw [a2_eq m c o1, scaleY_eq])
theorem kS3 : finalA m c 3 = outS (m ((c : Thread nD τ).loc main_arg3)) :=
  fin3 m c (scl (mag ((m ((c : Thread nD τ).loc main_arg3) : S1.Idx → EReal) o1))) (by rw [a3_eq m c o1, scaleW_eq])

/-- The kernel's run leaves them. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v1_0) = outX (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v1_1) = outY (m ((c.tc : Thread nD τ).loc main_arg0)) (m ((c.tc : Thread nD τ).loc main_arg2))
      ∧ r.2.mem ((c.tc : Thread nD τ).loc main_v1_2) = outS (m ((c.tc : Thread nD τ).loc main_arg2))
      ∧ r.2.mem ((c.tc : Thread nD τ).loc main_v1_3) = outW (m ((c.tc : Thread nD τ).loc main_arg1)) (m ((c.tc : Thread nD τ).loc main_arg3))
      ∧ r.2.mem ((c.tc : Thread nD τ).loc main_v1_4) = outS (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hh c => by
    obtain ⟨hw, h0, h1, hx, hy, hv⟩ := hh.1 c
    exact ⟨hx.trans (kX m c), hy.trans (kY m c), (hw 2).trans (kS2 m c), hv.trans (kW m c), (hw 3).trans (kS3 m c),
      h0.trans (V_main_arg0 m c), h1.trans (V_main_arg1 m c), ((hw 0).trans (finalA_in m c 0 rfl)).trans (V_main_arg2 m c),
      ((hw 1).trans (finalA_in m c 1 rfl)).trans (V_main_arg3 m c)⟩) (KI.run_main m ρ)

end Cert.Proof.V

end
-- ==== Proof.V.RefRun.lean ====
module

public import proofs.«01_k».proof.Proof.Gen.ReferenceIdeal.Value
public import Idealize.ShloMosaic.Lib.Pipeline.ValueKit
public import Idealize.ShloMosaic.Lib.Pipeline.ReadBack
public import Idealize.ShloMosaic.PureOps.Ideal.Laws

/-! What the reference's run leaves in its three large results. -/

@[expose] public section

set_option maxRecDepth 16384

noncomputable section

namespace Cert.Proof.V

open Cert.ReferenceIdeal Cert.ReferenceIdeal.Gen
open Idealize.ShloMosaic
open Idealize.ShloMosaic.TcCoe

variable (m : (ℓ : Loc nD τ sig) → Buf (Elt Ideal) ℓ) (c : Dev nD)

/-- The windows' blocks lie at the origin. -/
theorem ix0_0 : ∀ a, win0_0.index t0_0 a = 0 := by decide +kernel
theorem ix0_1 : ∀ a, win0_1.index t0_0 a = 0 := by decide +kernel
theorem ix0_2 : ∀ a, win0_2.index t0_0 a = 0 := by decide +kernel
theorem ix0_3 : ∀ a, win0_3.index t0_0 a = 0 := by decide +kernel
theorem ix0_4 : ∀ a, win0_4.index t0_0 a = 0 := by decide +kernel

/-- A window over its whole array reads the array. -/
theorem ib0 : (iblk m c 0 t0_0 : S256x18432.Idx → Ideal .bf16) = V m c main_v0 := by
  funext j; blk_simp [iblk]
  refine congrArg (V m c _) (funext fun a => Fin.ext ?_)
  fin_cases a <;> blk_simp <;> simp only [ix0_0, Nat.zero_mul, Nat.zero_add]
theorem ib1 : (iblk m c 1 t0_0 : S7168x18432.Idx → Ideal .bf16) = V m c main_arg1 := by
  funext j; blk_simp [iblk]
  refine congrArg (V m c _) (funext fun a => Fin.ext ?_)
  fin_cases a <;> blk_simp <;> simp only [ix0_1, Nat.zero_mul, Nat.zero_add]
theorem ib2 : (iblk m c 2 t0_0 : S1x1.Idx → Ideal .f32) = V m c main_v41 := by
  funext j; blk_simp [iblk]
  refine congrArg (V m c _) (funext fun a => Fin.ext ?_)
  fin_cases a <;> blk_simp <;> simp only [ix0_2, Nat.zero_mul, Nat.zero_add]
theorem ib3 : (iblk m c 3 t0_0 : S1x1.Idx → Ideal .f32) = V m c main_v44 := by
  funext j; blk_simp [iblk]
  refine congrArg (V m c _) (funext fun a => Fin.ext ?_)
  fin_cases a <;> blk_simp <;> simp only [ix0_3, Nat.zero_mul, Nat.zero_add]
theorem ib4 : (iblk m c 4 t0_0 : S1x1.Idx → Ideal .f32) = V m c main_v46 := by
  funext j; blk_simp [iblk]
  refine congrArg (V m c _) (funext fun a => Fin.ext ?_)
  fin_cases a <;> blk_simp <;> simp only [ix0_4, Nat.zero_mul, Nat.zero_add]

theorem arr6 : (dats m 0 c).arrAt 6 cfg0.N = (k0_pay1 (F := Ideal) (V m c main_v0) (V m c main_v41) : S256x18432.Idx → Ideal .fp8e4m3) := by
  refine (dats m 0 c).arrAt_eq_of_after_last 6 t0_0 (by decide +kernel) _ fun j => ?_
  rw [after0_6, outsAt0]
  frame_out
  simp only [read_unread_whole]
  rw [ib0, ib2]
  generalize k0_pay1 (F := Ideal) (V m c main_v0) (V m c main_v41) = Z
  rfl

theorem arr7 : (dats m 0 c).arrAt 7 cfg0.N = (k0_pay2 (F := Ideal) (V m c main_arg1) (V m c main_v44) : S7168x18432.Idx → Ideal .fp8e4m3) := by
  refine (dats m 0 c).arrAt_eq_of_after_last 7 t0_0 (by decide +kernel) _ fun j => ?_
  rw [after0_7, outsAt0]
  frame_out
  simp only [read_unread_whole]
  rw [ib1, ib3]
  generalize k0_pay2 (F := Ideal) (V m c main_arg1) (V m c main_v44) = Z
  rfl

theorem arr5 : (dats m 0 c).arrAt 5 cfg0.N = (k0_pay3 (F := Ideal) (k0_pay1 (V m c main_v0) (V m c main_v41))
    (k0_pay2 (V m c main_arg1) (V m c main_v44)) (V m c main_v46) : S256x7168.Idx → Ideal .bf16) := by
  refine (dats m 0 c).arrAt_eq_of_after_last 5 t0_0 (by decide +kernel) _ fun j => ?_
  rw [after0_5, outsAt0]
  frame_out
  simp only [read_unread_whole]
  rw [ib0, ib1, ib2, ib3, ib4]
  generalize k0_pay3 (F := Ideal) (k0_pay1 (V m c main_v0) (V m c main_v41)) (k0_pay2 (V m c main_arg1) (V m c main_v44)) (V m c main_v46) = Z
  rfl

end Cert.Proof.V

end
-- ==== Proof.V.RefOuts.lean ====
module

public import proofs.«01_k».proof.Proof.V.Outs
public import proofs.«01_k».proof.Proof.V.RefRun

/-! The reference's run leaves the same results. -/

@[expose] public section

set_option maxRecDepth 16384

noncomputable section

namespace Cert.Proof.V

open Cert.ReferenceIdeal Cert.ReferenceIdeal.Gen
open Idealize.ShloMosaic
open Idealize.ShloMosaic.TcCoe

attribute [local irreducible] scl inv mag pw rscale rinv

/-- The largest magnitude is one the format holds, or infinite. -/
abbrev Bd (A : FVec Ideal S1 .f32) : Prop := mag (A o1) = ⊤ ∨ mag (A o1) < pw 253

variable (m : (ℓ : Loc nD τ sig) → Buf (Elt Ideal) ℓ) (c : Dev nD)
variable (A0 : FVec Ideal S2x128x18432 .bf16) (A1 : FVec Ideal S7168x18432 .bf16) (A2 A3 : FVec Ideal S1 .f32)

theorem rY (h0 : m ((c : Thread nD τ).loc main_arg0) = A0) (h2 : m ((c : Thread nD τ).loc main_arg2) = A2) (b2 : Bd A2) :
    k0_pay1 (F := Ideal) (V m c main_v0) (V m c main_v41) = outY A0 A2 := by
  refine (codesY _ _ (inv (mag (A2 o1))) fun j => ?_).trans ?_
  · refine (congrFun (V_v41 m c) j).trans ?_
    rw [h2]; exact rinv_eq A2 b2 j
  · rw [V_v0, h0]; rfl

theorem rW (h1 : m ((c : Thread nD τ).loc main_arg1) = A1) (h3 : m ((c : Thread nD τ).loc main_arg3) = A3) (b3 : Bd A3) :
    k0_pay2 (F := Ideal) (V m c main_arg1) (V m c main_v44) = outW A1 A3 := by
  refine (codesW _ _ (inv (mag (A3 o1))) fun j => ?_).trans ?_
  · refine (congrFun (V_v44 m c) j).trans ?_
    rw [h3]; exact rinv_eq A3 b3 j
  · rw [V_main_arg1, h1]; rfl

theorem rS (j : S1x1.Idx) (b2 : Bd A2) (b3 : Bd A3) :
    (shapeCast S1x1 (mulf (rscale A2) (rscale A3)) shapeCasts_S1_S1x1 : FVec Ideal S1x1 .f32) j = scl (mag (A2 o1)) * scl (mag (A3 o1)) := by
  have h : ∃ i, (shapeCast S1x1 (mulf (rscale A2) (rscale A3)) shapeCasts_S1_S1x1 : FVec Ideal S1x1 .f32) j = rscale A2 i * rscale A3 i := ⟨_, rfl⟩
  obtain ⟨i, h⟩ := h
  rw [h, rscale_eq A2 b2, rscale_eq A3 b3]

theorem rX (h0 : m ((c : Thread nD τ).loc main_arg0) = A0) (h1 : m ((c : Thread nD τ).loc main_arg1) = A1)
    (h2 : m ((c : Thread nD τ).loc main_arg2) = A2) (h3 : m ((c : Thread nD τ).loc main_arg3) = A3) (b2 : Bd A2) (b3 : Bd A3) :
    k0_pay3 (F := Ideal) (k0_pay1 (V m c main_v0) (V m c main_v41)) (k0_pay2 (V m c main_arg1) (V m c main_v44)) (V m c main_v46)
      = outX A0 A1 A2 A3 := by
  rw [rY m c A0 A2 h0 h2 b2, rW m c A1 A3 h1 h3 b3]
  exact prod_eq (inv (mag (A3 o1))) (scl (mag (A2 o1)) * scl (mag (A3 o1))) (outY A0 A2) A1 _ fun j => by
    refine (congrFun (V_v46 m c) j).trans ?_
    rw [h2, h3]; exact rS A2 A3 j b2 b3

theorem rS2 (h2 : m ((c : Thread nD τ).loc main_arg2) = A2) (b2 : Bd A2) : V m c main_v19 = outS A2 := by
  refine (V_v19 m c).trans ?_
  rw [h2]; exact funext fun i => rscale_eq A2 b2 i
theorem rS3 (h3 : m ((c : Thread nD τ).loc main_arg3) = A3) (b3 : Bd A3) : V m c main_v38 = outS A3 := by
  refine (V_v38 m c).trans ?_
  rw [h3]; exact funext fun i => rscale_eq A3 b3 i

/-- The reference's run leaves them. -/
theorem reference_run (ρ : Dev nD → PrngReg) (B0 : Dev nD → FVec Ideal S2x128x18432 .bf16) (B1 : Dev nD → FVec Ideal S7168x18432 .bf16)
    (B2 B3 : Dev nD → FVec Ideal S1 .f32) (hm : ∀ c : Dev nD, m ((c : Thread nD τ).loc main_arg0) = B0 c
      ∧ m ((c : Thread nD τ).loc main_arg1) = B1 c ∧ m ((c : Thread nD τ).loc main_arg2) = B2 c ∧ m ((c : Thread nD τ).loc main_arg3) = B3 c)
    (hb : ∀ c, Bd (B2 c) ∧ Bd (B3 c)) :
    θ_run defs (onTc (τ := τ) (main (F := Ideal))) ⟨m, fun _ => 0, ρ⟩ (fun r => ∀ c : Dev nD,
      r.2.mem ((c.tc : Thread nD τ).loc main_v47_0) = outX (B0 c) (B1 c) (B2 c) (B3 c)
      ∧ r.2.mem ((c.tc : Thread nD τ).loc main_v47_1) = outY (B0 c) (B2 c)
      ∧ r.2.mem ((c.tc : Thread nD τ).loc main_v19) = outS (B2 c)
      ∧ r.2.mem ((c.tc : Thread nD τ).loc main_v47_2) = outW (B1 c) (B3 c)
      ∧ r.2.mem ((c.tc : Thread nD τ).loc main_v38) = outS (B3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨h0, h1, h2, h3⟩ := hm c
    obtain ⟨b2, b3⟩ := hb c
    exact ⟨((Value.post5 m r h c).trans (arr5 m c)).trans (rX m c _ _ _ _ h0 h1 h2 h3 b2 b3),
      ((Value.post6 m r h c).trans (arr6 m c)).trans (rY m c _ _ h0 h2 b2),
      ((h c).2 main_v19 (Pipeline.mem_restRefs_of main_v19 (by decide) (by decide))).trans (rS2 m c _ h2 b2),
      ((Value.post7 m r h c).trans (arr7 m c)).trans (rW m c _ _ h1 h3 b3),
      ((h c).2 main_v38 (Pipeline.mem_restRefs_of main_v38 (by decide) (by decide))).trans (rS3 m c _ h3 b3),
      Value.kept_main_arg0 m r h c, Value.kept_main_arg1 m r h c, Value.kept_main_arg2 m r h c, Value.kept_main_arg3 m r h c⟩)
    (Gen.run_main m ρ)

end Cert.Proof.V

end
-- ==== Proof.V.Pre.lean ====
module

public import proofs.«01_k».proof.Proof.V.ScaleEq
public import proofs.«01_k».proof.Proof.Gen.Pre_float32_amax

/-! What the precondition says of the two largest magnitudes. -/

@[expose] public section

noncomputable section

namespace Cert.Proof.V

open Cert.Pre_float32_amax
open Idealize.ShloMosaic

theorem bits : ∀ p q r s : Bool, IntOp.andi (IntOp.ori (BitVec.ofBool p) (BitVec.ofBool q)) (IntOp.ori (BitVec.ofBool r) (BitVec.ofBool s)) = 1#1
    → (p = true ∨ q = true) ∧ (r = true ∨ s = true) := by decide

theorem top_word : Ideal.ofBits .f32 0x7F800000#32 = ⊤ := by simp [Ideal.ofBits, Ideal.ieee]

theorem pre_bound (a0 : FVec Ideal S2x128x18432 .bf16) (a1 : FVec Ideal S7168x18432 .bf16) (a2 a3 : FVec Ideal S1 .f32)
    (h : Cert.Pre_float32_amax.fn (F := Ideal) a0 a1 a2 a3 = fun _ => 1#1) :
    (mag (a2 o1) = ⊤ ∨ mag (a2 o1) < pw 253) ∧ (mag (a3 o1) = ⊤ ∨ mag (a3 o1) < pw 253) := by
  have h1 : IntOp.andi
      (IntOp.ori (BitVec.ofBool (decide (max (a2 o1) (-(a2 o1)) ≤ Ideal.ofBits .f32 0x7F7FFFFF#32)))
        (BitVec.ofBool (decide (max (a2 o1) (-(a2 o1)) = Ideal.ofBits .f32 0x7F800000#32))))
      (IntOp.ori (BitVec.ofBool (decide (max (a3 o1) (-(a3 o1)) ≤ Ideal.ofBits .f32 0x7F7FFFFF#32)))
        (BitVec.ofBool (decide (max (a3 o1) (-(a3 o1)) = Ideal.ofBits .f32 0x7F800000#32)))) = 1#1 := congrFun h o1
  obtain ⟨h2, h3⟩ := bits _ _ _ _ h1
  rw [decide_eq_true_iff, decide_eq_true_iff, top_word] at h2 h3
  exact ⟨mag_bound _ h2, mag_bound _ h3⟩

end Cert.Proof.V

end
-- ==== Proof.V.Final.lean ====
module

public import proofs.«01_k».proof.Defs
public import proofs.«01_k».proof.Proof.V.RefOuts
public import proofs.«01_k».proof.Proof.V.Pre

/-! The kernel and the reference leave equal results. -/

@[expose] public section

noncomputable section

namespace Cert.Proof.V

open Idealize.ShloMosaic

attribute [local irreducible] scl inv mag pw outX outY outW outS

theorem equal : Cert.algebraic_KernelIdeal_ReferenceIdeal_pre_float32_amax := by
  intro m g m' g' hp hm
  refine ⟨fun c => outX (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => outY (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => outS (m ((c.tc : Thread Cert.KernelIdeal.nD Cert.KernelIdeal.τ).loc Cert.KernelIdeal.main_arg2)),
    fun c => outW (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    fun c => outS (m ((c.tc : Thread Cert.KernelIdeal.nD Cert.KernelIdeal.τ).loc Cert.KernelIdeal.main_arg3)),
    kernel_run m g, ?_⟩
  exact reference_run m' g' _ _ _ _ hm fun c => pre_bound _ _ _ _ (hp c)

end Cert.Proof.V

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_float32_amax
public import proofs.«01_k».proof.Proof.K.Launch
public import proofs.«01_k».proof.Proof.KI.Launch
public import proofs.«01_k».proof.Proof.V.Final

/-! The claim: both readings of the kernel run to the end and give back their arguments and semaphores, so does the
reference, the two readings of the kernel are one program, and over the extended reals kernel and reference leave
equal results. -/

@[expose] public section

theorem Cert.Proof.claim : Cert.Claim :=
  ⟨Cert.Kernel.Gen.facts, Cert.KernelIdeal.Gen.facts, Cert.ReferenceIdeal.Gen.facts, Cert.Pre_float32_amax.Gen.facts,
    fun m ρ _ => Cert.Proof.K.run_frame m ρ, fun m ρ _ => Cert.Proof.KI.run_frame m ρ, fun m ρ _ => Cert.Proof.KI.run_frame m ρ,
    fun m ρ _ => Cert.ReferenceIdeal.Gen.frame m ρ, fun m ρ _ => Cert.ReferenceIdeal.Gen.frame m ρ, trivial, Cert.Proof.V.equal⟩

end
